-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.2 = (fun _ => 1#1)

def Pre_Swiglu (m : (ℓ : Loc Cert.Swiglu.nD Cert.Swiglu.τ Cert.Swiglu.sig) → Buf (Elt Bits) ℓ) : Prop :=
  True

def Pre_SwigluIdeal (m : (ℓ : Loc Cert.SwigluIdeal.nD Cert.SwigluIdeal.τ Cert.SwigluIdeal.sig) → Buf (Elt Ideal) ℓ) : Prop :=
  True

def Pre_SwigluRefIdeal (m : (ℓ : Loc Cert.SwigluRefIdeal.nD Cert.SwigluRefIdeal.τ Cert.SwigluRefIdeal.sig) → Buf (Elt Ideal) ℓ) : Prop :=
  True

def Pre_SwigluBwd (m : (ℓ : Loc Cert.SwigluBwd.nD Cert.SwigluBwd.τ Cert.SwigluBwd.sig) → Buf (Elt Bits) ℓ) : Prop :=
  True

def Pre_SwigluBwdIdeal (m : (ℓ : Loc Cert.SwigluBwdIdeal.nD Cert.SwigluBwdIdeal.τ Cert.SwigluBwdIdeal.sig) → Buf (Elt Ideal) ℓ) : Prop :=
  True

def Pre_SwigluBwdIdeal_finite_swiglu [hPre_finite_swiglu : Cert.Pre_finite_swiglu.Facts] (m : (ℓ : Loc Cert.SwigluBwdIdeal.nD Cert.SwigluBwdIdeal.τ Cert.SwigluBwdIdeal.sig) → Buf (Elt Ideal) ℓ) : Prop :=
  ∀ c : Dev Cert.SwigluBwdIdeal.nD,
    (Cert.Pre_finite_swiglu.fn (F := Ideal) (m ((c.tc : Thread Cert.SwigluBwdIdeal.nD Cert.SwigluBwdIdeal.τ).loc Cert.SwigluBwdIdeal.main_arg0)) (m ((c.tc : Thread Cert.SwigluBwdIdeal.nD Cert.SwigluBwdIdeal.τ).loc Cert.SwigluBwdIdeal.main_arg1)) (m ((c.tc : Thread Cert.SwigluBwdIdeal.nD Cert.SwigluBwdIdeal.τ).loc Cert.SwigluBwdIdeal.main_arg2))).1 = (fun _ => 1#1)
    ∧ (Cert.Pre_finite_swiglu.fn (F := Ideal) (m ((c.tc : Thread Cert.SwigluBwdIdeal.nD Cert.SwigluBwdIdeal.τ).loc Cert.SwigluBwdIdeal.main_arg0)) (m ((c.tc : Thread Cert.SwigluBwdIdeal.nD Cert.SwigluBwdIdeal.τ).loc Cert.SwigluBwdIdeal.main_arg1)) (m ((c.tc : Thread Cert.SwigluBwdIdeal.nD Cert.SwigluBwdIdeal.τ).loc Cert.SwigluBwdIdeal.main_arg2))).2.1 = (fun _ => 1#1)
    ∧ (Cert.Pre_finite_swiglu.fn (F := Ideal) (m ((c.tc : Thread Cert.SwigluBwdIdeal.nD Cert.SwigluBwdIdeal.τ).loc Cert.SwigluBwdIdeal.main_arg0)) (m ((c.tc : Thread Cert.SwigluBwdIdeal.nD Cert.SwigluBwdIdeal.τ).loc Cert.SwigluBwdIdeal.main_arg1)) (m ((c.tc : Thread Cert.SwigluBwdIdeal.nD Cert.SwigluBwdIdeal.τ).loc Cert.SwigluBwdIdeal.main_arg2))).2.2 = (fun _ => 1#1)

def Pre_SwigluBwdRefIdeal (m : (ℓ : Loc Cert.SwigluBwdRefIdeal.nD Cert.SwigluBwdRefIdeal.τ Cert.SwigluBwdRefIdeal.sig) → Buf (Elt Ideal) ℓ) : Prop :=
  True

def Pre_SwigluBwdRefIdeal_finite_swiglu [hPre_finite_swiglu : Cert.Pre_finite_swiglu.Facts] (m : (ℓ : Loc Cert.SwigluBwdRefIdeal.nD Cert.SwigluBwdRefIdeal.τ Cert.SwigluBwdRefIdeal.sig) → Buf (Elt Ideal) ℓ) : Prop :=
  ∀ c : Dev Cert.SwigluBwdRefIdeal.nD,
    (Cert.Pre_finite_swiglu.fn (F := Ideal) (m ((c.tc : Thread Cert.SwigluBwdRefIdeal.nD Cert.SwigluBwdRefIdeal.τ).loc Cert.SwigluBwdRefIdeal.main_arg0)) (m ((c.tc : Thread Cert.SwigluBwdRefIdeal.nD Cert.SwigluBwdRefIdeal.τ).loc Cert.SwigluBwdRefIdeal.main_arg1)) (m ((c.tc : Thread Cert.SwigluBwdRefIdeal.nD Cert.SwigluBwdRefIdeal.τ).loc Cert.SwigluBwdRefIdeal.main_arg2))).1 = (fun _ => 1#1)
    ∧ (Cert.Pre_finite_swiglu.fn (F := Ideal) (m ((c.tc : Thread Cert.SwigluBwdRefIdeal.nD Cert.SwigluBwdRefIdeal.τ).loc Cert.SwigluBwdRefIdeal.main_arg0)) (m ((c.tc : Thread Cert.SwigluBwdRefIdeal.nD Cert.SwigluBwdRefIdeal.τ).loc Cert.SwigluBwdRefIdeal.main_arg1)) (m ((c.tc : Thread Cert.SwigluBwdRefIdeal.nD Cert.SwigluBwdRefIdeal.τ).loc Cert.SwigluBwdRefIdeal.main_arg2))).2.1 = (fun _ => 1#1)
    ∧ (Cert.Pre_finite_swiglu.fn (F := Ideal) (m ((c.tc : Thread Cert.SwigluBwdRefIdeal.nD Cert.SwigluBwdRefIdeal.τ).loc Cert.SwigluBwdRefIdeal.main_arg0)) (m ((c.tc : Thread Cert.SwigluBwdRefIdeal.nD Cert.SwigluBwdRefIdeal.τ).loc Cert.SwigluBwdRefIdeal.main_arg1)) (m ((c.tc : Thread Cert.SwigluBwdRefIdeal.nD Cert.SwigluBwdRefIdeal.τ).loc Cert.SwigluBwdRefIdeal.main_arg2))).2.2 = (fun _ => 1#1)

def Pre_MergeBwd (m : (ℓ : Loc Cert.MergeBwd.nD Cert.MergeBwd.τ Cert.MergeBwd.sig) → Buf (Elt Bits) ℓ) : Prop :=
  True

def Pre_MergeBwdIdeal (m : (ℓ : Loc Cert.MergeBwdIdeal.nD Cert.MergeBwdIdeal.τ Cert.MergeBwdIdeal.sig) → Buf (Elt Ideal) ℓ) : Prop :=
  True

def Pre_MergeBwdRefIdeal (m : (ℓ : Loc Cert.MergeBwdRefIdeal.nD Cert.MergeBwdRefIdeal.τ Cert.MergeBwdRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_FfnOut (m : (ℓ : Loc Cert.FfnOut.nD Cert.FfnOut.τ Cert.FfnOut.sig) → Buf (Elt Bits) ℓ) : Prop :=
  True

def Pre_FfnOutIdeal (m : (ℓ : Loc Cert.FfnOutIdeal.nD Cert.FfnOutIdeal.τ Cert.FfnOutIdeal.sig) → Buf (Elt Ideal) ℓ) : Prop :=
  True

def Pre_FfnOutRefIdeal (m : (ℓ : Loc Cert.FfnOutRefIdeal.nD Cert.FfnOutRefIdeal.τ Cert.FfnOutRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_FfnInDw (m : (ℓ : Loc Cert.FfnInDw.nD Cert.FfnInDw.τ Cert.FfnInDw.sig) → Buf (Elt Bits) ℓ) : Prop :=
  True

def Pre_FfnInDwIdeal (m : (ℓ : Loc Cert.FfnInDwIdeal.nD Cert.FfnInDwIdeal.τ Cert.FfnInDwIdeal.sig) → Buf (Elt Ideal) ℓ) : Prop :=
  True

def Pre_FfnInDwRefIdeal (m : (ℓ : Loc Cert.FfnInDwRefIdeal.nD Cert.FfnInDwRefIdeal.τ Cert.FfnInDwRefIdeal.sig) → Buf (Elt Ideal) ℓ) : Prop :=
  True

def Pre_ProjDw (m : (ℓ : Loc Cert.ProjDw.nD Cert.ProjDw.τ Cert.ProjDw.sig) → Buf (Elt Bits) ℓ) : Prop :=
  True

def Pre_ProjDwIdeal (m : (ℓ : Loc Cert.ProjDwIdeal.nD Cert.ProjDwIdeal.τ Cert.ProjDwIdeal.sig) → Buf (Elt Ideal) ℓ) : Prop :=
  True

def Pre_ProjDwRefIdeal (m : (ℓ : Loc Cert.ProjDwRefIdeal.nD Cert.ProjDwRefIdeal.τ Cert.ProjDwRefIdeal.sig) → Buf (Elt Ideal) ℓ) : Prop :=
  True

def Pre_FfnOutDw (m : (ℓ : Loc Cert.FfnOutDw.nD Cert.FfnOutDw.τ Cert.FfnOutDw.sig) → Buf (Elt Bits) ℓ) : Prop :=
  True

def Pre_FfnOutDwIdeal (m : (ℓ : Loc Cert.FfnOutDwIdeal.nD Cert.FfnOutDwIdeal.τ Cert.FfnOutDwIdeal.sig) → Buf (Elt Ideal) ℓ) : Prop :=
  True

def Pre_FfnOutDwRefIdeal (m : (ℓ : Loc Cert.FfnOutDwRefIdeal.nD Cert.FfnOutDwRefIdeal.τ Cert.FfnOutDwRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_FfnInDx (m : (ℓ : Loc Cert.FfnInDx.nD Cert.FfnInDx.τ Cert.FfnInDx.sig) → Buf (Elt Bits) ℓ) : Prop :=
  True

def Pre_FfnInDxIdeal (m : (ℓ : Loc Cert.FfnInDxIdeal.nD Cert.FfnInDxIdeal.τ Cert.FfnInDxIdeal.sig) → Buf (Elt Ideal) ℓ) : Prop :=
  True

def Pre_FfnInDxIdeal_finite_dx [hPre_finite_dx : Cert.Pre_finite_dx.Facts] (m : (ℓ : Loc Cert.FfnInDxIdeal.nD Cert.FfnInDxIdeal.τ Cert.FfnInDxIdeal.sig) → Buf (Elt Ideal) ℓ) : Prop :=
  ∀ c : Dev Cert.FfnInDxIdeal.nD,
    (Cert.Pre_finite_dx.fn (F := Ideal) (m ((c.tc : Thread Cert.FfnInDxIdeal.nD Cert.FfnInDxIdeal.τ).loc Cert.FfnInDxIdeal.main_arg0)) (m ((c.tc : Thread Cert.FfnInDxIdeal.nD Cert.FfnInDxIdeal.τ).loc Cert.FfnInDxIdeal.main_arg1)) (m ((c.tc : Thread Cert.FfnInDxIdeal.nD Cert.FfnInDxIdeal.τ).loc Cert.FfnInDxIdeal.main_arg2)) (m ((c.tc : Thread Cert.FfnInDxIdeal.nD Cert.FfnInDxIdeal.τ).loc Cert.FfnInDxIdeal.main_arg3)) (m ((c.tc : Thread Cert.FfnInDxIdeal.nD Cert.FfnInDxIdeal.τ).loc Cert.FfnInDxIdeal.main_arg4)) (m ((c.tc : Thread Cert.FfnInDxIdeal.nD Cert.FfnInDxIdeal.τ).loc Cert.FfnInDxIdeal.main_arg5)) (m ((c.tc : Thread Cert.FfnInDxIdeal.nD Cert.FfnInDxIdeal.τ).loc Cert.FfnInDxIdeal.main_arg6)) (m ((c.tc : Thread Cert.FfnInDxIdeal.nD Cert.FfnInDxIdeal.τ).loc Cert.FfnInDxIdeal.main_arg7)) (m ((c.tc : Thread Cert.FfnInDxIdeal.nD Cert.FfnInDxIdeal.τ).loc Cert.FfnInDxIdeal.main_arg8))).1 = (fun _ => 1#1)
    ∧ (Cert.Pre_finite_dx.fn (F := Ideal) (m ((c.tc : Thread Cert.FfnInDxIdeal.nD Cert.FfnInDxIdeal.τ).loc Cert.FfnInDxIdeal.main_arg0)) (m ((c.tc : Thread Cert.FfnInDxIdeal.nD Cert.FfnInDxIdeal.τ).loc Cert.FfnInDxIdeal.main_arg1)) (m ((c.tc : Thread Cert.FfnInDxIdeal.nD Cert.FfnInDxIdeal.τ).loc Cert.FfnInDxIdeal.main_arg2)) (m ((c.tc : Thread Cert.FfnInDxIdeal.nD Cert.FfnInDxIdeal.τ).loc Cert.FfnInDxIdeal.main_arg3)) (m ((c.tc : Thread Cert.FfnInDxIdeal.nD Cert.FfnInDxIdeal.τ).loc Cert.FfnInDxIdeal.main_arg4)) (m ((c.tc : Thread Cert.FfnInDxIdeal.nD Cert.FfnInDxIdeal.τ).loc Cert.FfnInDxIdeal.main_arg5)) (m ((c.tc : Thread Cert.FfnInDxIdeal.nD Cert.FfnInDxIdeal.τ).loc Cert.FfnInDxIdeal.main_arg6)) (m ((c.tc : Thread Cert.FfnInDxIdeal.nD Cert.FfnInDxIdeal.τ).loc Cert.FfnInDxIdeal.main_arg7)) (m ((c.tc : Thread Cert.FfnInDxIdeal.nD Cert.FfnInDxIdeal.τ).loc Cert.FfnInDxIdeal.main_arg8))).2.1 = (fun _ => 1#1)
    ∧ (Cert.Pre_finite_dx.fn (F := Ideal) (m ((c.tc : Thread Cert.FfnInDxIdeal.nD Cert.FfnInDxIdeal.τ).loc Cert.FfnInDxIdeal.main_arg0)) (m ((c.tc : Thread Cert.FfnInDxIdeal.nD Cert.FfnInDxIdeal.τ).loc Cert.FfnInDxIdeal.main_arg1)) (m ((c.tc : Thread Cert.FfnInDxIdeal.nD Cert.FfnInDxIdeal.τ).loc Cert.FfnInDxIdeal.main_arg2)) (m ((c.tc : Thread Cert.FfnInDxIdeal.nD Cert.FfnInDxIdeal.τ).loc Cert.FfnInDxIdeal.main_arg3)) (m ((c.tc : Thread Cert.FfnInDxIdeal.nD Cert.FfnInDxIdeal.τ).loc Cert.FfnInDxIdeal.main_arg4)) (m ((c.tc : Thread Cert.FfnInDxIdeal.nD Cert.FfnInDxIdeal.τ).loc Cert.FfnInDxIdeal.main_arg5)) (m ((c.tc : Thread Cert.FfnInDxIdeal.nD Cert.FfnInDxIdeal.τ).loc Cert.FfnInDxIdeal.main_arg6)) (m ((c.tc : Thread Cert.FfnInDxIdeal.nD Cert.FfnInDxIdeal.τ).loc Cert.FfnInDxIdeal.main_arg7)) (m ((c.tc : Thread Cert.FfnInDxIdeal.nD Cert.FfnInDxIdeal.τ).loc Cert.FfnInDxIdeal.main_arg8))).2.2.1 = (fun _ => 1#1)
    ∧ (Cert.Pre_finite_dx.fn (F := Ideal) (m ((c.tc : Thread Cert.FfnInDxIdeal.nD Cert.FfnInDxIdeal.τ).loc Cert.FfnInDxIdeal.main_arg0)) (m ((c.tc : Thread Cert.FfnInDxIdeal.nD Cert.FfnInDxIdeal.τ).loc Cert.FfnInDxIdeal.main_arg1)) (m ((c.tc : Thread Cert.FfnInDxIdeal.nD Cert.FfnInDxIdeal.τ).loc Cert.FfnInDxIdeal.main_arg2)) (m ((c.tc : Thread Cert.FfnInDxIdeal.nD Cert.FfnInDxIdeal.τ).loc Cert.FfnInDxIdeal.main_arg3)) (m ((c.tc : Thread Cert.FfnInDxIdeal.nD Cert.FfnInDxIdeal.τ).loc Cert.FfnInDxIdeal.main_arg4)) (m ((c.tc : Thread Cert.FfnInDxIdeal.nD Cert.FfnInDxIdeal.τ).loc Cert.FfnInDxIdeal.main_arg5)) (m ((c.tc : Thread Cert.FfnInDxIdeal.nD Cert.FfnInDxIdeal.τ).loc Cert.FfnInDxIdeal.main_arg6)) (m ((c.tc : Thread Cert.FfnInDxIdeal.nD Cert.FfnInDxIdeal.τ).loc Cert.FfnInDxIdeal.main_arg7)) (m ((c.tc : Thread Cert.FfnInDxIdeal.nD Cert.FfnInDxIdeal.τ).loc Cert.FfnInDxIdeal.main_arg8))).2.2.2.1 = (fun _ => 1#1)
    ∧ (Cert.Pre_finite_dx.fn (F := Ideal) (m ((c.tc : Thread Cert.FfnInDxIdeal.nD Cert.FfnInDxIdeal.τ).loc Cert.FfnInDxIdeal.main_arg0)) (m ((c.tc : Thread Cert.FfnInDxIdeal.nD Cert.FfnInDxIdeal.τ).loc Cert.FfnInDxIdeal.main_arg1)) (m ((c.tc : Thread Cert.FfnInDxIdeal.nD Cert.FfnInDxIdeal.τ).loc Cert.FfnInDxIdeal.main_arg2)) (m ((c.tc : Thread Cert.FfnInDxIdeal.nD Cert.FfnInDxIdeal.τ).loc Cert.FfnInDxIdeal.main_arg3)) (m ((c.tc : Thread Cert.FfnInDxIdeal.nD Cert.FfnInDxIdeal.τ).loc Cert.FfnInDxIdeal.main_arg4)) (m ((c.tc : Thread Cert.FfnInDxIdeal.nD Cert.FfnInDxIdeal.τ).loc Cert.FfnInDxIdeal.main_arg5)) (m ((c.tc : Thread Cert.FfnInDxIdeal.nD Cert.FfnInDxIdeal.τ).loc Cert.FfnInDxIdeal.main_arg6)) (m ((c.tc : Thread Cert.FfnInDxIdeal.nD Cert.FfnInDxIdeal.τ).loc Cert.FfnInDxIdeal.main_arg7)) (m ((c.tc : Thread Cert.FfnInDxIdeal.nD Cert.FfnInDxIdeal.τ).loc Cert.FfnInDxIdeal.main_arg8))).2.2.2.2 = (fun _ => 1#1)

def Pre_FfnInDxRefIdeal (m : (ℓ : Loc Cert.FfnInDxRefIdeal.nD Cert.FfnInDxRefIdeal.τ Cert.FfnInDxRefIdeal.sig) → Buf (Elt Ideal) ℓ) : Prop :=
  True

def Pre_FfnInDxRefIdeal_finite_dx [hPre_finite_dx : Cert.Pre_finite_dx.Facts] (m : (ℓ : Loc Cert.FfnInDxRefIdeal.nD Cert.FfnInDxRefIdeal.τ Cert.FfnInDxRefIdeal.sig) → Buf (Elt Ideal) ℓ) : Prop :=
  ∀ c : Dev Cert.FfnInDxRefIdeal.nD,
    (Cert.Pre_finite_dx.fn (F := Ideal) (m ((c.tc : Thread Cert.FfnInDxRefIdeal.nD Cert.FfnInDxRefIdeal.τ).loc Cert.FfnInDxRefIdeal.main_arg0)) (m ((c.tc : Thread Cert.FfnInDxRefIdeal.nD Cert.FfnInDxRefIdeal.τ).loc Cert.FfnInDxRefIdeal.main_arg1)) (m ((c.tc : Thread Cert.FfnInDxRefIdeal.nD Cert.FfnInDxRefIdeal.τ).loc Cert.FfnInDxRefIdeal.main_arg2)) (m ((c.tc : Thread Cert.FfnInDxRefIdeal.nD Cert.FfnInDxRefIdeal.τ).loc Cert.FfnInDxRefIdeal.main_arg3)) (m ((c.tc : Thread Cert.FfnInDxRefIdeal.nD Cert.FfnInDxRefIdeal.τ).loc Cert.FfnInDxRefIdeal.main_arg4)) (m ((c.tc : Thread Cert.FfnInDxRefIdeal.nD Cert.FfnInDxRefIdeal.τ).loc Cert.FfnInDxRefIdeal.main_arg5)) (m ((c.tc : Thread Cert.FfnInDxRefIdeal.nD Cert.FfnInDxRefIdeal.τ).loc Cert.FfnInDxRefIdeal.main_arg6)) (m ((c.tc : Thread Cert.FfnInDxRefIdeal.nD Cert.FfnInDxRefIdeal.τ).loc Cert.FfnInDxRefIdeal.main_arg7)) (m ((c.tc : Thread Cert.FfnInDxRefIdeal.nD Cert.FfnInDxRefIdeal.τ).loc Cert.FfnInDxRefIdeal.main_arg8))).1 = (fun _ => 1#1)
    ∧ (Cert.Pre_finite_dx.fn (F := Ideal) (m ((c.tc : Thread Cert.FfnInDxRefIdeal.nD Cert.FfnInDxRefIdeal.τ).loc Cert.FfnInDxRefIdeal.main_arg0)) (m ((c.tc : Thread Cert.FfnInDxRefIdeal.nD Cert.FfnInDxRefIdeal.τ).loc Cert.FfnInDxRefIdeal.main_arg1)) (m ((c.tc : Thread Cert.FfnInDxRefIdeal.nD Cert.FfnInDxRefIdeal.τ).loc Cert.FfnInDxRefIdeal.main_arg2)) (m ((c.tc : Thread Cert.FfnInDxRefIdeal.nD Cert.FfnInDxRefIdeal.τ).loc Cert.FfnInDxRefIdeal.main_arg3)) (m ((c.tc : Thread Cert.FfnInDxRefIdeal.nD Cert.FfnInDxRefIdeal.τ).loc Cert.FfnInDxRefIdeal.main_arg4)) (m ((c.tc : Thread Cert.FfnInDxRefIdeal.nD Cert.FfnInDxRefIdeal.τ).loc Cert.FfnInDxRefIdeal.main_arg5)) (m ((c.tc : Thread Cert.FfnInDxRefIdeal.nD Cert.FfnInDxRefIdeal.τ).loc Cert.FfnInDxRefIdeal.main_arg6)) (m ((c.tc : Thread Cert.FfnInDxRefIdeal.nD Cert.FfnInDxRefIdeal.τ).loc Cert.FfnInDxRefIdeal.main_arg7)) (m ((c.tc : Thread Cert.FfnInDxRefIdeal.nD Cert.FfnInDxRefIdeal.τ).loc Cert.FfnInDxRefIdeal.main_arg8))).2.1 = (fun _ => 1#1)
    ∧ (Cert.Pre_finite_dx.fn (F := Ideal) (m ((c.tc : Thread Cert.FfnInDxRefIdeal.nD Cert.FfnInDxRefIdeal.τ).loc Cert.FfnInDxRefIdeal.main_arg0)) (m ((c.tc : Thread Cert.FfnInDxRefIdeal.nD Cert.FfnInDxRefIdeal.τ).loc Cert.FfnInDxRefIdeal.main_arg1)) (m ((c.tc : Thread Cert.FfnInDxRefIdeal.nD Cert.FfnInDxRefIdeal.τ).loc Cert.FfnInDxRefIdeal.main_arg2)) (m ((c.tc : Thread Cert.FfnInDxRefIdeal.nD Cert.FfnInDxRefIdeal.τ).loc Cert.FfnInDxRefIdeal.main_arg3)) (m ((c.tc : Thread Cert.FfnInDxRefIdeal.nD Cert.FfnInDxRefIdeal.τ).loc Cert.FfnInDxRefIdeal.main_arg4)) (m ((c.tc : Thread Cert.FfnInDxRefIdeal.nD Cert.FfnInDxRefIdeal.τ).loc Cert.FfnInDxRefIdeal.main_arg5)) (m ((c.tc : Thread Cert.FfnInDxRefIdeal.nD Cert.FfnInDxRefIdeal.τ).loc Cert.FfnInDxRefIdeal.main_arg6)) (m ((c.tc : Thread Cert.FfnInDxRefIdeal.nD Cert.FfnInDxRefIdeal.τ).loc Cert.FfnInDxRefIdeal.main_arg7)) (m ((c.tc : Thread Cert.FfnInDxRefIdeal.nD Cert.FfnInDxRefIdeal.τ).loc Cert.FfnInDxRefIdeal.main_arg8))).2.2.1 = (fun _ => 1#1)
    ∧ (Cert.Pre_finite_dx.fn (F := Ideal) (m ((c.tc : Thread Cert.FfnInDxRefIdeal.nD Cert.FfnInDxRefIdeal.τ).loc Cert.FfnInDxRefIdeal.main_arg0)) (m ((c.tc : Thread Cert.FfnInDxRefIdeal.nD Cert.FfnInDxRefIdeal.τ).loc Cert.FfnInDxRefIdeal.main_arg1)) (m ((c.tc : Thread Cert.FfnInDxRefIdeal.nD Cert.FfnInDxRefIdeal.τ).loc Cert.FfnInDxRefIdeal.main_arg2)) (m ((c.tc : Thread Cert.FfnInDxRefIdeal.nD Cert.FfnInDxRefIdeal.τ).loc Cert.FfnInDxRefIdeal.main_arg3)) (m ((c.tc : Thread Cert.FfnInDxRefIdeal.nD Cert.FfnInDxRefIdeal.τ).loc Cert.FfnInDxRefIdeal.main_arg4)) (m ((c.tc : Thread Cert.FfnInDxRefIdeal.nD Cert.FfnInDxRefIdeal.τ).loc Cert.FfnInDxRefIdeal.main_arg5)) (m ((c.tc : Thread Cert.FfnInDxRefIdeal.nD Cert.FfnInDxRefIdeal.τ).loc Cert.FfnInDxRefIdeal.main_arg6)) (m ((c.tc : Thread Cert.FfnInDxRefIdeal.nD Cert.FfnInDxRefIdeal.τ).loc Cert.FfnInDxRefIdeal.main_arg7)) (m ((c.tc : Thread Cert.FfnInDxRefIdeal.nD Cert.FfnInDxRefIdeal.τ).loc Cert.FfnInDxRefIdeal.main_arg8))).2.2.2.1 = (fun _ => 1#1)
    ∧ (Cert.Pre_finite_dx.fn (F := Ideal) (m ((c.tc : Thread Cert.FfnInDxRefIdeal.nD Cert.FfnInDxRefIdeal.τ).loc Cert.FfnInDxRefIdeal.main_arg0)) (m ((c.tc : Thread Cert.FfnInDxRefIdeal.nD Cert.FfnInDxRefIdeal.τ).loc Cert.FfnInDxRefIdeal.main_arg1)) (m ((c.tc : Thread Cert.FfnInDxRefIdeal.nD Cert.FfnInDxRefIdeal.τ).loc Cert.FfnInDxRefIdeal.main_arg2)) (m ((c.tc : Thread Cert.FfnInDxRefIdeal.nD Cert.FfnInDxRefIdeal.τ).loc Cert.FfnInDxRefIdeal.main_arg3)) (m ((c.tc : Thread Cert.FfnInDxRefIdeal.nD Cert.FfnInDxRefIdeal.τ).loc Cert.FfnInDxRefIdeal.main_arg4)) (m ((c.tc : Thread Cert.FfnInDxRefIdeal.nD Cert.FfnInDxRefIdeal.τ).loc Cert.FfnInDxRefIdeal.main_arg5)) (m ((c.tc : Thread Cert.FfnInDxRefIdeal.nD Cert.FfnInDxRefIdeal.τ).loc Cert.FfnInDxRefIdeal.main_arg6)) (m ((c.tc : Thread Cert.FfnInDxRefIdeal.nD Cert.FfnInDxRefIdeal.τ).loc Cert.FfnInDxRefIdeal.main_arg7)) (m ((c.tc : Thread Cert.FfnInDxRefIdeal.nD Cert.FfnInDxRefIdeal.τ).loc Cert.FfnInDxRefIdeal.main_arg8))).2.2.2.2 = (fun _ => 1#1)

def Pre_ProjDx (m : (ℓ : Loc Cert.ProjDx.nD Cert.ProjDx.τ Cert.ProjDx.sig) → Buf (Elt Bits) ℓ) : Prop :=
  True

def Pre_ProjDxIdeal (m : (ℓ : Loc Cert.ProjDxIdeal.nD Cert.ProjDxIdeal.τ Cert.ProjDxIdeal.sig) → Buf (Elt Ideal) ℓ) : Prop :=
  True

def Pre_ProjDxIdeal_finite_proj_dx [hPre_finite_proj_dx : Cert.Pre_finite_proj_dx.Facts] (m : (ℓ : Loc Cert.ProjDxIdeal.nD Cert.ProjDxIdeal.τ Cert.ProjDxIdeal.sig) → Buf (Elt Ideal) ℓ) : Prop :=
  ∀ c : Dev Cert.ProjDxIdeal.nD,
    (Cert.Pre_finite_proj_dx.fn (F := Ideal) (m ((c.tc : Thread Cert.ProjDxIdeal.nD Cert.ProjDxIdeal.τ).loc Cert.ProjDxIdeal.main_arg0)) (m ((c.tc : Thread Cert.ProjDxIdeal.nD Cert.ProjDxIdeal.τ).loc Cert.ProjDxIdeal.main_arg1)) (m ((c.tc : Thread Cert.ProjDxIdeal.nD Cert.ProjDxIdeal.τ).loc Cert.ProjDxIdeal.main_arg2)) (m ((c.tc : Thread Cert.ProjDxIdeal.nD Cert.ProjDxIdeal.τ).loc Cert.ProjDxIdeal.main_arg3)) (m ((c.tc : Thread Cert.ProjDxIdeal.nD Cert.ProjDxIdeal.τ).loc Cert.ProjDxIdeal.main_arg4)) (m ((c.tc : Thread Cert.ProjDxIdeal.nD Cert.ProjDxIdeal.τ).loc Cert.ProjDxIdeal.main_arg5)) (m ((c.tc : Thread Cert.ProjDxIdeal.nD Cert.ProjDxIdeal.τ).loc Cert.ProjDxIdeal.main_arg6)) (m ((c.tc : Thread Cert.ProjDxIdeal.nD Cert.ProjDxIdeal.τ).loc Cert.ProjDxIdeal.main_arg7)) (m ((c.tc : Thread Cert.ProjDxIdeal.nD Cert.ProjDxIdeal.τ).loc Cert.ProjDxIdeal.main_arg8))).1 = (fun _ => 1#1)
    ∧ (Cert.Pre_finite_proj_dx.fn (F := Ideal) (m ((c.tc : Thread Cert.ProjDxIdeal.nD Cert.ProjDxIdeal.τ).loc Cert.ProjDxIdeal.main_arg0)) (m ((c.tc : Thread Cert.ProjDxIdeal.nD Cert.ProjDxIdeal.τ).loc Cert.ProjDxIdeal.main_arg1)) (m ((c.tc : Thread Cert.ProjDxIdeal.nD Cert.ProjDxIdeal.τ).loc Cert.ProjDxIdeal.main_arg2)) (m ((c.tc : Thread Cert.ProjDxIdeal.nD Cert.ProjDxIdeal.τ).loc Cert.ProjDxIdeal.main_arg3)) (m ((c.tc : Thread Cert.ProjDxIdeal.nD Cert.ProjDxIdeal.τ).loc Cert.ProjDxIdeal.main_arg4)) (m ((c.tc : Thread Cert.ProjDxIdeal.nD Cert.ProjDxIdeal.τ).loc Cert.ProjDxIdeal.main_arg5)) (m ((c.tc : Thread Cert.ProjDxIdeal.nD Cert.ProjDxIdeal.τ).loc Cert.ProjDxIdeal.main_arg6)) (m ((c.tc : Thread Cert.ProjDxIdeal.nD Cert.ProjDxIdeal.τ).loc Cert.ProjDxIdeal.main_arg7)) (m ((c.tc : Thread Cert.ProjDxIdeal.nD Cert.ProjDxIdeal.τ).loc Cert.ProjDxIdeal.main_arg8))).2.1 = (fun _ => 1#1)
    ∧ (Cert.Pre_finite_proj_dx.fn (F := Ideal) (m ((c.tc : Thread Cert.ProjDxIdeal.nD Cert.ProjDxIdeal.τ).loc Cert.ProjDxIdeal.main_arg0)) (m ((c.tc : Thread Cert.ProjDxIdeal.nD Cert.ProjDxIdeal.τ).loc Cert.ProjDxIdeal.main_arg1)) (m ((c.tc : Thread Cert.ProjDxIdeal.nD Cert.ProjDxIdeal.τ).loc Cert.ProjDxIdeal.main_arg2)) (m ((c.tc : Thread Cert.ProjDxIdeal.nD Cert.ProjDxIdeal.τ).loc Cert.ProjDxIdeal.main_arg3)) (m ((c.tc : Thread Cert.ProjDxIdeal.nD Cert.ProjDxIdeal.τ).loc Cert.ProjDxIdeal.main_arg4)) (m ((c.tc : Thread Cert.ProjDxIdeal.nD Cert.ProjDxIdeal.τ).loc Cert.ProjDxIdeal.main_arg5)) (m ((c.tc : Thread Cert.ProjDxIdeal.nD Cert.ProjDxIdeal.τ).loc Cert.ProjDxIdeal.main_arg6)) (m ((c.tc : Thread Cert.ProjDxIdeal.nD Cert.ProjDxIdeal.τ).loc Cert.ProjDxIdeal.main_arg7)) (m ((c.tc : Thread Cert.ProjDxIdeal.nD Cert.ProjDxIdeal.τ).loc Cert.ProjDxIdeal.main_arg8))).2.2.1 = (fun _ => 1#1)
    ∧ (Cert.Pre_finite_proj_dx.fn (F := Ideal) (m ((c.tc : Thread Cert.ProjDxIdeal.nD Cert.ProjDxIdeal.τ).loc Cert.ProjDxIdeal.main_arg0)) (m ((c.tc : Thread Cert.ProjDxIdeal.nD Cert.ProjDxIdeal.τ).loc Cert.ProjDxIdeal.main_arg1)) (m ((c.tc : Thread Cert.ProjDxIdeal.nD Cert.ProjDxIdeal.τ).loc Cert.ProjDxIdeal.main_arg2)) (m ((c.tc : Thread Cert.ProjDxIdeal.nD Cert.ProjDxIdeal.τ).loc Cert.ProjDxIdeal.main_arg3)) (m ((c.tc : Thread Cert.ProjDxIdeal.nD Cert.ProjDxIdeal.τ).loc Cert.ProjDxIdeal.main_arg4)) (m ((c.tc : Thread Cert.ProjDxIdeal.nD Cert.ProjDxIdeal.τ).loc Cert.ProjDxIdeal.main_arg5)) (m ((c.tc : Thread Cert.ProjDxIdeal.nD Cert.ProjDxIdeal.τ).loc Cert.ProjDxIdeal.main_arg6)) (m ((c.tc : Thread Cert.ProjDxIdeal.nD Cert.ProjDxIdeal.τ).loc Cert.ProjDxIdeal.main_arg7)) (m ((c.tc : Thread Cert.ProjDxIdeal.nD Cert.ProjDxIdeal.τ).loc Cert.ProjDxIdeal.main_arg8))).2.2.2.1 = (fun _ => 1#1)
    ∧ (Cert.Pre_finite_proj_dx.fn (F := Ideal) (m ((c.tc : Thread Cert.ProjDxIdeal.nD Cert.ProjDxIdeal.τ).loc Cert.ProjDxIdeal.main_arg0)) (m ((c.tc : Thread Cert.ProjDxIdeal.nD Cert.ProjDxIdeal.τ).loc Cert.ProjDxIdeal.main_arg1)) (m ((c.tc : Thread Cert.ProjDxIdeal.nD Cert.ProjDxIdeal.τ).loc Cert.ProjDxIdeal.main_arg2)) (m ((c.tc : Thread Cert.ProjDxIdeal.nD Cert.ProjDxIdeal.τ).loc Cert.ProjDxIdeal.main_arg3)) (m ((c.tc : Thread Cert.ProjDxIdeal.nD Cert.ProjDxIdeal.τ).loc Cert.ProjDxIdeal.main_arg4)) (m ((c.tc : Thread Cert.ProjDxIdeal.nD Cert.ProjDxIdeal.τ).loc Cert.ProjDxIdeal.main_arg5)) (m ((c.tc : Thread Cert.ProjDxIdeal.nD Cert.ProjDxIdeal.τ).loc Cert.ProjDxIdeal.main_arg6)) (m ((c.tc : Thread Cert.ProjDxIdeal.nD Cert.ProjDxIdeal.τ).loc Cert.ProjDxIdeal.main_arg7)) (m ((c.tc : Thread Cert.ProjDxIdeal.nD Cert.ProjDxIdeal.τ).loc Cert.ProjDxIdeal.main_arg8))).2.2.2.2 = (fun _ => 1#1)

def Pre_ProjDxRefIdeal (m : (ℓ : Loc Cert.ProjDxRefIdeal.nD Cert.ProjDxRefIdeal.τ Cert.ProjDxRefIdeal.sig) → Buf (Elt Ideal) ℓ) : Prop :=
  True

def Pre_ProjDxRefIdeal_finite_proj_dx [hPre_finite_proj_dx : Cert.Pre_finite_proj_dx.Facts] (m : (ℓ : Loc Cert.ProjDxRefIdeal.nD Cert.ProjDxRefIdeal.τ Cert.ProjDxRefIdeal.sig) → Buf (Elt Ideal) ℓ) : Prop :=
  ∀ c : Dev Cert.ProjDxRefIdeal.nD,
    (Cert.Pre_finite_proj_dx.fn (F := Ideal) (m ((c.tc : Thread Cert.ProjDxRefIdeal.nD Cert.ProjDxRefIdeal.τ).loc Cert.ProjDxRefIdeal.main_arg0)) (m ((c.tc : Thread Cert.ProjDxRefIdeal.nD Cert.ProjDxRefIdeal.τ).loc Cert.ProjDxRefIdeal.main_arg1)) (m ((c.tc : Thread Cert.ProjDxRefIdeal.nD Cert.ProjDxRefIdeal.τ).loc Cert.ProjDxRefIdeal.main_arg2)) (m ((c.tc : Thread Cert.ProjDxRefIdeal.nD Cert.ProjDxRefIdeal.τ).loc Cert.ProjDxRefIdeal.main_arg3)) (m ((c.tc : Thread Cert.ProjDxRefIdeal.nD Cert.ProjDxRefIdeal.τ).loc Cert.ProjDxRefIdeal.main_arg4)) (m ((c.tc : Thread Cert.ProjDxRefIdeal.nD Cert.ProjDxRefIdeal.τ).loc Cert.ProjDxRefIdeal.main_arg5)) (m ((c.tc : Thread Cert.ProjDxRefIdeal.nD Cert.ProjDxRefIdeal.τ).loc Cert.ProjDxRefIdeal.main_arg6)) (m ((c.tc : Thread Cert.ProjDxRefIdeal.nD Cert.ProjDxRefIdeal.τ).loc Cert.ProjDxRefIdeal.main_arg7)) (m ((c.tc : Thread Cert.ProjDxRefIdeal.nD Cert.ProjDxRefIdeal.τ).loc Cert.ProjDxRefIdeal.main_arg8))).1 = (fun _ => 1#1)
    ∧ (Cert.Pre_finite_proj_dx.fn (F := Ideal) (m ((c.tc : Thread Cert.ProjDxRefIdeal.nD Cert.ProjDxRefIdeal.τ).loc Cert.ProjDxRefIdeal.main_arg0)) (m ((c.tc : Thread Cert.ProjDxRefIdeal.nD Cert.ProjDxRefIdeal.τ).loc Cert.ProjDxRefIdeal.main_arg1)) (m ((c.tc : Thread Cert.ProjDxRefIdeal.nD Cert.ProjDxRefIdeal.τ).loc Cert.ProjDxRefIdeal.main_arg2)) (m ((c.tc : Thread Cert.ProjDxRefIdeal.nD Cert.ProjDxRefIdeal.τ).loc Cert.ProjDxRefIdeal.main_arg3)) (m ((c.tc : Thread Cert.ProjDxRefIdeal.nD Cert.ProjDxRefIdeal.τ).loc Cert.ProjDxRefIdeal.main_arg4)) (m ((c.tc : Thread Cert.ProjDxRefIdeal.nD Cert.ProjDxRefIdeal.τ).loc Cert.ProjDxRefIdeal.main_arg5)) (m ((c.tc : Thread Cert.ProjDxRefIdeal.nD Cert.ProjDxRefIdeal.τ).loc Cert.ProjDxRefIdeal.main_arg6)) (m ((c.tc : Thread Cert.ProjDxRefIdeal.nD Cert.ProjDxRefIdeal.τ).loc Cert.ProjDxRefIdeal.main_arg7)) (m ((c.tc : Thread Cert.ProjDxRefIdeal.nD Cert.ProjDxRefIdeal.τ).loc Cert.ProjDxRefIdeal.main_arg8))).2.1 = (fun _ => 1#1)
    ∧ (Cert.Pre_finite_proj_dx.fn (F := Ideal) (m ((c.tc : Thread Cert.ProjDxRefIdeal.nD Cert.ProjDxRefIdeal.τ).loc Cert.ProjDxRefIdeal.main_arg0)) (m ((c.tc : Thread Cert.ProjDxRefIdeal.nD Cert.ProjDxRefIdeal.τ).loc Cert.ProjDxRefIdeal.main_arg1)) (m ((c.tc : Thread Cert.ProjDxRefIdeal.nD Cert.ProjDxRefIdeal.τ).loc Cert.ProjDxRefIdeal.main_arg2)) (m ((c.tc : Thread Cert.ProjDxRefIdeal.nD Cert.ProjDxRefIdeal.τ).loc Cert.ProjDxRefIdeal.main_arg3)) (m ((c.tc : Thread Cert.ProjDxRefIdeal.nD Cert.ProjDxRefIdeal.τ).loc Cert.ProjDxRefIdeal.main_arg4)) (m ((c.tc : Thread Cert.ProjDxRefIdeal.nD Cert.ProjDxRefIdeal.τ).loc Cert.ProjDxRefIdeal.main_arg5)) (m ((c.tc : Thread Cert.ProjDxRefIdeal.nD Cert.ProjDxRefIdeal.τ).loc Cert.ProjDxRefIdeal.main_arg6)) (m ((c.tc : Thread Cert.ProjDxRefIdeal.nD Cert.ProjDxRefIdeal.τ).loc Cert.ProjDxRefIdeal.main_arg7)) (m ((c.tc : Thread Cert.ProjDxRefIdeal.nD Cert.ProjDxRefIdeal.τ).loc Cert.ProjDxRefIdeal.main_arg8))).2.2.1 = (fun _ => 1#1)
    ∧ (Cert.Pre_finite_proj_dx.fn (F := Ideal) (m ((c.tc : Thread Cert.ProjDxRefIdeal.nD Cert.ProjDxRefIdeal.τ).loc Cert.ProjDxRefIdeal.main_arg0)) (m ((c.tc : Thread Cert.ProjDxRefIdeal.nD Cert.ProjDxRefIdeal.τ).loc Cert.ProjDxRefIdeal.main_arg1)) (m ((c.tc : Thread Cert.ProjDxRefIdeal.nD Cert.ProjDxRefIdeal.τ).loc Cert.ProjDxRefIdeal.main_arg2)) (m ((c.tc : Thread Cert.ProjDxRefIdeal.nD Cert.ProjDxRefIdeal.τ).loc Cert.ProjDxRefIdeal.main_arg3)) (m ((c.tc : Thread Cert.ProjDxRefIdeal.nD Cert.ProjDxRefIdeal.τ).loc Cert.ProjDxRefIdeal.main_arg4)) (m ((c.tc : Thread Cert.ProjDxRefIdeal.nD Cert.ProjDxRefIdeal.τ).loc Cert.ProjDxRefIdeal.main_arg5)) (m ((c.tc : Thread Cert.ProjDxRefIdeal.nD Cert.ProjDxRefIdeal.τ).loc Cert.ProjDxRefIdeal.main_arg6)) (m ((c.tc : Thread Cert.ProjDxRefIdeal.nD Cert.ProjDxRefIdeal.τ).loc Cert.ProjDxRefIdeal.main_arg7)) (m ((c.tc : Thread Cert.ProjDxRefIdeal.nD Cert.ProjDxRefIdeal.τ).loc Cert.ProjDxRefIdeal.main_arg8))).2.2.2.1 = (fun _ => 1#1)
    ∧ (Cert.Pre_finite_proj_dx.fn (F := Ideal) (m ((c.tc : Thread Cert.ProjDxRefIdeal.nD Cert.ProjDxRefIdeal.τ).loc Cert.ProjDxRefIdeal.main_arg0)) (m ((c.tc : Thread Cert.ProjDxRefIdeal.nD Cert.ProjDxRefIdeal.τ).loc Cert.ProjDxRefIdeal.main_arg1)) (m ((c.tc : Thread Cert.ProjDxRefIdeal.nD Cert.ProjDxRefIdeal.τ).loc Cert.ProjDxRefIdeal.main_arg2)) (m ((c.tc : Thread Cert.ProjDxRefIdeal.nD Cert.ProjDxRefIdeal.τ).loc Cert.ProjDxRefIdeal.main_arg3)) (m ((c.tc : Thread Cert.ProjDxRefIdeal.nD Cert.ProjDxRefIdeal.τ).loc Cert.ProjDxRefIdeal.main_arg4)) (m ((c.tc : Thread Cert.ProjDxRefIdeal.nD Cert.ProjDxRefIdeal.τ).loc Cert.ProjDxRefIdeal.main_arg5)) (m ((c.tc : Thread Cert.ProjDxRefIdeal.nD Cert.ProjDxRefIdeal.τ).loc Cert.ProjDxRefIdeal.main_arg6)) (m ((c.tc : Thread Cert.ProjDxRefIdeal.nD Cert.ProjDxRefIdeal.τ).loc Cert.ProjDxRefIdeal.main_arg7)) (m ((c.tc : Thread Cert.ProjDxRefIdeal.nD Cert.ProjDxRefIdeal.τ).loc Cert.ProjDxRefIdeal.main_arg8))).2.2.2.2 = (fun _ => 1#1)

def Pre_ProjDxFirst (m : (ℓ : Loc Cert.ProjDxFirst.nD Cert.ProjDxFirst.τ Cert.ProjDxFirst.sig) → Buf (Elt Bits) ℓ) : Prop :=
  True

def Pre_ProjDxFirstIdeal (m : (ℓ : Loc Cert.ProjDxFirstIdeal.nD Cert.ProjDxFirstIdeal.τ Cert.ProjDxFirstIdeal.sig) → Buf (Elt Ideal) ℓ) : Prop :=
  True

def Pre_ProjDxFirstIdeal_finite_proj_dx_first [hPre_finite_proj_dx_first : Cert.Pre_finite_proj_dx_first.Facts] (m : (ℓ : Loc Cert.ProjDxFirstIdeal.nD Cert.ProjDxFirstIdeal.τ Cert.ProjDxFirstIdeal.sig) → Buf (Elt Ideal) ℓ) : Prop :=
  ∀ c : Dev Cert.ProjDxFirstIdeal.nD,
    (Cert.Pre_finite_proj_dx_first.fn (F := Ideal) (m ((c.tc : Thread Cert.ProjDxFirstIdeal.nD Cert.ProjDxFirstIdeal.τ).loc Cert.ProjDxFirstIdeal.main_arg0)) (m ((c.tc : Thread Cert.ProjDxFirstIdeal.nD Cert.ProjDxFirstIdeal.τ).loc Cert.ProjDxFirstIdeal.main_arg1)) (m ((c.tc : Thread Cert.ProjDxFirstIdeal.nD Cert.ProjDxFirstIdeal.τ).loc Cert.ProjDxFirstIdeal.main_arg2)) (m ((c.tc : Thread Cert.ProjDxFirstIdeal.nD Cert.ProjDxFirstIdeal.τ).loc Cert.ProjDxFirstIdeal.main_arg3)) (m ((c.tc : Thread Cert.ProjDxFirstIdeal.nD Cert.ProjDxFirstIdeal.τ).loc Cert.ProjDxFirstIdeal.main_arg4)) (m ((c.tc : Thread Cert.ProjDxFirstIdeal.nD Cert.ProjDxFirstIdeal.τ).loc Cert.ProjDxFirstIdeal.main_arg5)) (m ((c.tc : Thread Cert.ProjDxFirstIdeal.nD Cert.ProjDxFirstIdeal.τ).loc Cert.ProjDxFirstIdeal.main_arg6))).1 = (fun _ => 1#1)
    ∧ (Cert.Pre_finite_proj_dx_first.fn (F := Ideal) (m ((c.tc : Thread Cert.ProjDxFirstIdeal.nD Cert.ProjDxFirstIdeal.τ).loc Cert.ProjDxFirstIdeal.main_arg0)) (m ((c.tc : Thread Cert.ProjDxFirstIdeal.nD Cert.ProjDxFirstIdeal.τ).loc Cert.ProjDxFirstIdeal.main_arg1)) (m ((c.tc : Thread Cert.ProjDxFirstIdeal.nD Cert.ProjDxFirstIdeal.τ).loc Cert.ProjDxFirstIdeal.main_arg2)) (m ((c.tc : Thread Cert.ProjDxFirstIdeal.nD Cert.ProjDxFirstIdeal.τ).loc Cert.ProjDxFirstIdeal.main_arg3)) (m ((c.tc : Thread Cert.ProjDxFirstIdeal.nD Cert.ProjDxFirstIdeal.τ).loc Cert.ProjDxFirstIdeal.main_arg4)) (m ((c.tc : Thread Cert.ProjDxFirstIdeal.nD Cert.ProjDxFirstIdeal.τ).loc Cert.ProjDxFirstIdeal.main_arg5)) (m ((c.tc : Thread Cert.ProjDxFirstIdeal.nD Cert.ProjDxFirstIdeal.τ).loc Cert.ProjDxFirstIdeal.main_arg6))).2.1 = (fun _ => 1#1)
    ∧ (Cert.Pre_finite_proj_dx_first.fn (F := Ideal) (m ((c.tc : Thread Cert.ProjDxFirstIdeal.nD Cert.ProjDxFirstIdeal.τ).loc Cert.ProjDxFirstIdeal.main_arg0)) (m ((c.tc : Thread Cert.ProjDxFirstIdeal.nD Cert.ProjDxFirstIdeal.τ).loc Cert.ProjDxFirstIdeal.main_arg1)) (m ((c.tc : Thread Cert.ProjDxFirstIdeal.nD Cert.ProjDxFirstIdeal.τ).loc Cert.ProjDxFirstIdeal.main_arg2)) (m ((c.tc : Thread Cert.ProjDxFirstIdeal.nD Cert.ProjDxFirstIdeal.τ).loc Cert.ProjDxFirstIdeal.main_arg3)) (m ((c.tc : Thread Cert.ProjDxFirstIdeal.nD Cert.ProjDxFirstIdeal.τ).loc Cert.ProjDxFirstIdeal.main_arg4)) (m ((c.tc : Thread Cert.ProjDxFirstIdeal.nD Cert.ProjDxFirstIdeal.τ).loc Cert.ProjDxFirstIdeal.main_arg5)) (m ((c.tc : Thread Cert.ProjDxFirstIdeal.nD Cert.ProjDxFirstIdeal.τ).loc Cert.ProjDxFirstIdeal.main_arg6))).2.2.1 = (fun _ => 1#1)
    ∧ (Cert.Pre_finite_proj_dx_first.fn (F := Ideal) (m ((c.tc : Thread Cert.ProjDxFirstIdeal.nD Cert.ProjDxFirstIdeal.τ).loc Cert.ProjDxFirstIdeal.main_arg0)) (m ((c.tc : Thread Cert.ProjDxFirstIdeal.nD Cert.ProjDxFirstIdeal.τ).loc Cert.ProjDxFirstIdeal.main_arg1)) (m ((c.tc : Thread Cert.ProjDxFirstIdeal.nD Cert.ProjDxFirstIdeal.τ).loc Cert.ProjDxFirstIdeal.main_arg2)) (m ((c.tc : Thread Cert.ProjDxFirstIdeal.nD Cert.ProjDxFirstIdeal.τ).loc Cert.ProjDxFirstIdeal.main_arg3)) (m ((c.tc : Thread Cert.ProjDxFirstIdeal.nD Cert.ProjDxFirstIdeal.τ).loc Cert.ProjDxFirstIdeal.main_arg4)) (m ((c.tc : Thread Cert.ProjDxFirstIdeal.nD Cert.ProjDxFirstIdeal.τ).loc Cert.ProjDxFirstIdeal.main_arg5)) (m ((c.tc : Thread Cert.ProjDxFirstIdeal.nD Cert.ProjDxFirstIdeal.τ).loc Cert.ProjDxFirstIdeal.main_arg6))).2.2.2.1 = (fun _ => 1#1)
    ∧ (Cert.Pre_finite_proj_dx_first.fn (F := Ideal) (m ((c.tc : Thread Cert.ProjDxFirstIdeal.nD Cert.ProjDxFirstIdeal.τ).loc Cert.ProjDxFirstIdeal.main_arg0)) (m ((c.tc : Thread Cert.ProjDxFirstIdeal.nD Cert.ProjDxFirstIdeal.τ).loc Cert.ProjDxFirstIdeal.main_arg1)) (m ((c.tc : Thread Cert.ProjDxFirstIdeal.nD Cert.ProjDxFirstIdeal.τ).loc Cert.ProjDxFirstIdeal.main_arg2)) (m ((c.tc : Thread Cert.ProjDxFirstIdeal.nD Cert.ProjDxFirstIdeal.τ).loc Cert.ProjDxFirstIdeal.main_arg3)) (m ((c.tc : Thread Cert.ProjDxFirstIdeal.nD Cert.ProjDxFirstIdeal.τ).loc Cert.ProjDxFirstIdeal.main_arg4)) (m ((c.tc : Thread Cert.ProjDxFirstIdeal.nD Cert.ProjDxFirstIdeal.τ).loc Cert.ProjDxFirstIdeal.main_arg5)) (m ((c.tc : Thread Cert.ProjDxFirstIdeal.nD Cert.ProjDxFirstIdeal.τ).loc Cert.ProjDxFirstIdeal.main_arg6))).2.2.2.2 = (fun _ => 1#1)

def Pre_ProjDxFirstRefIdeal (m : (ℓ : Loc Cert.ProjDxFirstRefIdeal.nD Cert.ProjDxFirstRefIdeal.τ Cert.ProjDxFirstRefIdeal.sig) → Buf (Elt Ideal) ℓ) : Prop :=
  True

def Pre_ProjDxFirstRefIdeal_finite_proj_dx_first [hPre_finite_proj_dx_first : Cert.Pre_finite_proj_dx_first.Facts] (m : (ℓ : Loc Cert.ProjDxFirstRefIdeal.nD Cert.ProjDxFirstRefIdeal.τ Cert.ProjDxFirstRefIdeal.sig) → Buf (Elt Ideal) ℓ) : Prop :=
  ∀ c : Dev Cert.ProjDxFirstRefIdeal.nD,
    (Cert.Pre_finite_proj_dx_first.fn (F := Ideal) (m ((c.tc : Thread Cert.ProjDxFirstRefIdeal.nD Cert.ProjDxFirstRefIdeal.τ).loc Cert.ProjDxFirstRefIdeal.main_arg0)) (m ((c.tc : Thread Cert.ProjDxFirstRefIdeal.nD Cert.ProjDxFirstRefIdeal.τ).loc Cert.ProjDxFirstRefIdeal.main_arg1)) (m ((c.tc : Thread Cert.ProjDxFirstRefIdeal.nD Cert.ProjDxFirstRefIdeal.τ).loc Cert.ProjDxFirstRefIdeal.main_arg2)) (m ((c.tc : Thread Cert.ProjDxFirstRefIdeal.nD Cert.ProjDxFirstRefIdeal.τ).loc Cert.ProjDxFirstRefIdeal.main_arg3)) (m ((c.tc : Thread Cert.ProjDxFirstRefIdeal.nD Cert.ProjDxFirstRefIdeal.τ).loc Cert.ProjDxFirstRefIdeal.main_arg4)) (m ((c.tc : Thread Cert.ProjDxFirstRefIdeal.nD Cert.ProjDxFirstRefIdeal.τ).loc Cert.ProjDxFirstRefIdeal.main_arg5)) (m ((c.tc : Thread Cert.ProjDxFirstRefIdeal.nD Cert.ProjDxFirstRefIdeal.τ).loc Cert.ProjDxFirstRefIdeal.main_arg6))).1 = (fun _ => 1#1)
    ∧ (Cert.Pre_finite_proj_dx_first.fn (F := Ideal) (m ((c.tc : Thread Cert.ProjDxFirstRefIdeal.nD Cert.ProjDxFirstRefIdeal.τ).loc Cert.ProjDxFirstRefIdeal.main_arg0)) (m ((c.tc : Thread Cert.ProjDxFirstRefIdeal.nD Cert.ProjDxFirstRefIdeal.τ).loc Cert.ProjDxFirstRefIdeal.main_arg1)) (m ((c.tc : Thread Cert.ProjDxFirstRefIdeal.nD Cert.ProjDxFirstRefIdeal.τ).loc Cert.ProjDxFirstRefIdeal.main_arg2)) (m ((c.tc : Thread Cert.ProjDxFirstRefIdeal.nD Cert.ProjDxFirstRefIdeal.τ).loc Cert.ProjDxFirstRefIdeal.main_arg3)) (m ((c.tc : Thread Cert.ProjDxFirstRefIdeal.nD Cert.ProjDxFirstRefIdeal.τ).loc Cert.ProjDxFirstRefIdeal.main_arg4)) (m ((c.tc : Thread Cert.ProjDxFirstRefIdeal.nD Cert.ProjDxFirstRefIdeal.τ).loc Cert.ProjDxFirstRefIdeal.main_arg5)) (m ((c.tc : Thread Cert.ProjDxFirstRefIdeal.nD Cert.ProjDxFirstRefIdeal.τ).loc Cert.ProjDxFirstRefIdeal.main_arg6))).2.1 = (fun _ => 1#1)
    ∧ (Cert.Pre_finite_proj_dx_first.fn (F := Ideal) (m ((c.tc : Thread Cert.ProjDxFirstRefIdeal.nD Cert.ProjDxFirstRefIdeal.τ).loc Cert.ProjDxFirstRefIdeal.main_arg0)) (m ((c.tc : Thread Cert.ProjDxFirstRefIdeal.nD Cert.ProjDxFirstRefIdeal.τ).loc Cert.ProjDxFirstRefIdeal.main_arg1)) (m ((c.tc : Thread Cert.ProjDxFirstRefIdeal.nD Cert.ProjDxFirstRefIdeal.τ).loc Cert.ProjDxFirstRefIdeal.main_arg2)) (m ((c.tc : Thread Cert.ProjDxFirstRefIdeal.nD Cert.ProjDxFirstRefIdeal.τ).loc Cert.ProjDxFirstRefIdeal.main_arg3)) (m ((c.tc : Thread Cert.ProjDxFirstRefIdeal.nD Cert.ProjDxFirstRefIdeal.τ).loc Cert.ProjDxFirstRefIdeal.main_arg4)) (m ((c.tc : Thread Cert.ProjDxFirstRefIdeal.nD Cert.ProjDxFirstRefIdeal.τ).loc Cert.ProjDxFirstRefIdeal.main_arg5)) (m ((c.tc : Thread Cert.ProjDxFirstRefIdeal.nD Cert.ProjDxFirstRefIdeal.τ).loc Cert.ProjDxFirstRefIdeal.main_arg6))).2.2.1 = (fun _ => 1#1)
    ∧ (Cert.Pre_finite_proj_dx_first.fn (F := Ideal) (m ((c.tc : Thread Cert.ProjDxFirstRefIdeal.nD Cert.ProjDxFirstRefIdeal.τ).loc Cert.ProjDxFirstRefIdeal.main_arg0)) (m ((c.tc : Thread Cert.ProjDxFirstRefIdeal.nD Cert.ProjDxFirstRefIdeal.τ).loc Cert.ProjDxFirstRefIdeal.main_arg1)) (m ((c.tc : Thread Cert.ProjDxFirstRefIdeal.nD Cert.ProjDxFirstRefIdeal.τ).loc Cert.ProjDxFirstRefIdeal.main_arg2)) (m ((c.tc : Thread Cert.ProjDxFirstRefIdeal.nD Cert.ProjDxFirstRefIdeal.τ).loc Cert.ProjDxFirstRefIdeal.main_arg3)) (m ((c.tc : Thread Cert.ProjDxFirstRefIdeal.nD Cert.ProjDxFirstRefIdeal.τ).loc Cert.ProjDxFirstRefIdeal.main_arg4)) (m ((c.tc : Thread Cert.ProjDxFirstRefIdeal.nD Cert.ProjDxFirstRefIdeal.τ).loc Cert.ProjDxFirstRefIdeal.main_arg5)) (m ((c.tc : Thread Cert.ProjDxFirstRefIdeal.nD Cert.ProjDxFirstRefIdeal.τ).loc Cert.ProjDxFirstRefIdeal.main_arg6))).2.2.2.1 = (fun _ => 1#1)
    ∧ (Cert.Pre_finite_proj_dx_first.fn (F := Ideal) (m ((c.tc : Thread Cert.ProjDxFirstRefIdeal.nD Cert.ProjDxFirstRefIdeal.τ).loc Cert.ProjDxFirstRefIdeal.main_arg0)) (m ((c.tc : Thread Cert.ProjDxFirstRefIdeal.nD Cert.ProjDxFirstRefIdeal.τ).loc Cert.ProjDxFirstRefIdeal.main_arg1)) (m ((c.tc : Thread Cert.ProjDxFirstRefIdeal.nD Cert.ProjDxFirstRefIdeal.τ).loc Cert.ProjDxFirstRefIdeal.main_arg2)) (m ((c.tc : Thread Cert.ProjDxFirstRefIdeal.nD Cert.ProjDxFirstRefIdeal.τ).loc Cert.ProjDxFirstRefIdeal.main_arg3)) (m ((c.tc : Thread Cert.ProjDxFirstRefIdeal.nD Cert.ProjDxFirstRefIdeal.τ).loc Cert.ProjDxFirstRefIdeal.main_arg4)) (m ((c.tc : Thread Cert.ProjDxFirstRefIdeal.nD Cert.ProjDxFirstRefIdeal.τ).loc Cert.ProjDxFirstRefIdeal.main_arg5)) (m ((c.tc : Thread Cert.ProjDxFirstRefIdeal.nD Cert.ProjDxFirstRefIdeal.τ).loc Cert.ProjDxFirstRefIdeal.main_arg6))).2.2.2.2 = (fun _ => 1#1)

def Pre_LossHead (m : (ℓ : Loc Cert.LossHead.nD Cert.LossHead.τ Cert.LossHead.sig) → Buf (Elt Bits) ℓ) : Prop :=
  True

def Pre_LossHeadIdeal (m : (ℓ : Loc Cert.LossHeadIdeal.nD Cert.LossHeadIdeal.τ Cert.LossHeadIdeal.sig) → Buf (Elt Ideal) ℓ) : Prop :=
  True

def Pre_LossHeadIdeal_finite_loss [hPre_finite_loss : Cert.Pre_finite_loss.Facts] (m : (ℓ : Loc Cert.LossHeadIdeal.nD Cert.LossHeadIdeal.τ Cert.LossHeadIdeal.sig) → Buf (Elt Ideal) ℓ) : Prop :=
  ∀ c : Dev Cert.LossHeadIdeal.nD,
    (Cert.Pre_finite_loss.fn (F := Ideal) (m ((c.tc : Thread Cert.LossHeadIdeal.nD Cert.LossHeadIdeal.τ).loc Cert.LossHeadIdeal.main_arg0)) (m ((c.tc : Thread Cert.LossHeadIdeal.nD Cert.LossHeadIdeal.τ).loc Cert.LossHeadIdeal.main_arg1)) (m ((c.tc : Thread Cert.LossHeadIdeal.nD Cert.LossHeadIdeal.τ).loc Cert.LossHeadIdeal.main_arg2)) (m ((c.tc : Thread Cert.LossHeadIdeal.nD Cert.LossHeadIdeal.τ).loc Cert.LossHeadIdeal.main_arg3)) (m ((c.tc : Thread Cert.LossHeadIdeal.nD Cert.LossHeadIdeal.τ).loc Cert.LossHeadIdeal.main_arg4))).1 = (fun _ => 1#1)
    ∧ (Cert.Pre_finite_loss.fn (F := Ideal) (m ((c.tc : Thread Cert.LossHeadIdeal.nD Cert.LossHeadIdeal.τ).loc Cert.LossHeadIdeal.main_arg0)) (m ((c.tc : Thread Cert.LossHeadIdeal.nD Cert.LossHeadIdeal.τ).loc Cert.LossHeadIdeal.main_arg1)) (m ((c.tc : Thread Cert.LossHeadIdeal.nD Cert.LossHeadIdeal.τ).loc Cert.LossHeadIdeal.main_arg2)) (m ((c.tc : Thread Cert.LossHeadIdeal.nD Cert.LossHeadIdeal.τ).loc Cert.LossHeadIdeal.main_arg3)) (m ((c.tc : Thread Cert.LossHeadIdeal.nD Cert.LossHeadIdeal.τ).loc Cert.LossHeadIdeal.main_arg4))).2.1 = (fun _ => 1#1)
    ∧ (Cert.Pre_finite_loss.fn (F := Ideal) (m ((c.tc : Thread Cert.LossHeadIdeal.nD Cert.LossHeadIdeal.τ).loc Cert.LossHeadIdeal.main_arg0)) (m ((c.tc : Thread Cert.LossHeadIdeal.nD Cert.LossHeadIdeal.τ).loc Cert.LossHeadIdeal.main_arg1)) (m ((c.tc : Thread Cert.LossHeadIdeal.nD Cert.LossHeadIdeal.τ).loc Cert.LossHeadIdeal.main_arg2)) (m ((c.tc : Thread Cert.LossHeadIdeal.nD Cert.LossHeadIdeal.τ).loc Cert.LossHeadIdeal.main_arg3)) (m ((c.tc : Thread Cert.LossHeadIdeal.nD Cert.LossHeadIdeal.τ).loc Cert.LossHeadIdeal.main_arg4))).2.2.1 = (fun _ => 1#1)
    ∧ (Cert.Pre_finite_loss.fn (F := Ideal) (m ((c.tc : Thread Cert.LossHeadIdeal.nD Cert.LossHeadIdeal.τ).loc Cert.LossHeadIdeal.main_arg0)) (m ((c.tc : Thread Cert.LossHeadIdeal.nD Cert.LossHeadIdeal.τ).loc Cert.LossHeadIdeal.main_arg1)) (m ((c.tc : Thread Cert.LossHeadIdeal.nD Cert.LossHeadIdeal.τ).loc Cert.LossHeadIdeal.main_arg2)) (m ((c.tc : Thread Cert.LossHeadIdeal.nD Cert.LossHeadIdeal.τ).loc Cert.LossHeadIdeal.main_arg3)) (m ((c.tc : Thread Cert.LossHeadIdeal.nD Cert.LossHeadIdeal.τ).loc Cert.LossHeadIdeal.main_arg4))).2.2.2.1 = (fun _ => 1#1)
    ∧ (Cert.Pre_finite_loss.fn (F := Ideal) (m ((c.tc : Thread Cert.LossHeadIdeal.nD Cert.LossHeadIdeal.τ).loc Cert.LossHeadIdeal.main_arg0)) (m ((c.tc : Thread Cert.LossHeadIdeal.nD Cert.LossHeadIdeal.τ).loc Cert.LossHeadIdeal.main_arg1)) (m ((c.tc : Thread Cert.LossHeadIdeal.nD Cert.LossHeadIdeal.τ).loc Cert.LossHeadIdeal.main_arg2)) (m ((c.tc : Thread Cert.LossHeadIdeal.nD Cert.LossHeadIdeal.τ).loc Cert.LossHeadIdeal.main_arg3)) (m ((c.tc : Thread Cert.LossHeadIdeal.nD Cert.LossHeadIdeal.τ).loc Cert.LossHeadIdeal.main_arg4))).2.2.2.2 = (fun _ => 1#1)

def Pre_LossHeadRefIdeal (m : (ℓ : Loc Cert.LossHeadRefIdeal.nD Cert.LossHeadRefIdeal.τ Cert.LossHeadRefIdeal.sig) → Buf (Elt Ideal) ℓ) : Prop :=
  True

def Pre_LossHeadRefIdeal_finite_loss [hPre_finite_loss : Cert.Pre_finite_loss.Facts] (m : (ℓ : Loc Cert.LossHeadRefIdeal.nD Cert.LossHeadRefIdeal.τ Cert.LossHeadRefIdeal.sig) → Buf (Elt Ideal) ℓ) : Prop :=
  ∀ c : Dev Cert.LossHeadRefIdeal.nD,
    (Cert.Pre_finite_loss.fn (F := Ideal) (m ((c.tc : Thread Cert.LossHeadRefIdeal.nD Cert.LossHeadRefIdeal.τ).loc Cert.LossHeadRefIdeal.main_arg0)) (m ((c.tc : Thread Cert.LossHeadRefIdeal.nD Cert.LossHeadRefIdeal.τ).loc Cert.LossHeadRefIdeal.main_arg1)) (m ((c.tc : Thread Cert.LossHeadRefIdeal.nD Cert.LossHeadRefIdeal.τ).loc Cert.LossHeadRefIdeal.main_arg2)) (m ((c.tc : Thread Cert.LossHeadRefIdeal.nD Cert.LossHeadRefIdeal.τ).loc Cert.LossHeadRefIdeal.main_arg3)) (m ((c.tc : Thread Cert.LossHeadRefIdeal.nD Cert.LossHeadRefIdeal.τ).loc Cert.LossHeadRefIdeal.main_arg4))).1 = (fun _ => 1#1)
    ∧ (Cert.Pre_finite_loss.fn (F := Ideal) (m ((c.tc : Thread Cert.LossHeadRefIdeal.nD Cert.LossHeadRefIdeal.τ).loc Cert.LossHeadRefIdeal.main_arg0)) (m ((c.tc : Thread Cert.LossHeadRefIdeal.nD Cert.LossHeadRefIdeal.τ).loc Cert.LossHeadRefIdeal.main_arg1)) (m ((c.tc : Thread Cert.LossHeadRefIdeal.nD Cert.LossHeadRefIdeal.τ).loc Cert.LossHeadRefIdeal.main_arg2)) (m ((c.tc : Thread Cert.LossHeadRefIdeal.nD Cert.LossHeadRefIdeal.τ).loc Cert.LossHeadRefIdeal.main_arg3)) (m ((c.tc : Thread Cert.LossHeadRefIdeal.nD Cert.LossHeadRefIdeal.τ).loc Cert.LossHeadRefIdeal.main_arg4))).2.1 = (fun _ => 1#1)
    ∧ (Cert.Pre_finite_loss.fn (F := Ideal) (m ((c.tc : Thread Cert.LossHeadRefIdeal.nD Cert.LossHeadRefIdeal.τ).loc Cert.LossHeadRefIdeal.main_arg0)) (m ((c.tc : Thread Cert.LossHeadRefIdeal.nD Cert.LossHeadRefIdeal.τ).loc Cert.LossHeadRefIdeal.main_arg1)) (m ((c.tc : Thread Cert.LossHeadRefIdeal.nD Cert.LossHeadRefIdeal.τ).loc Cert.LossHeadRefIdeal.main_arg2)) (m ((c.tc : Thread Cert.LossHeadRefIdeal.nD Cert.LossHeadRefIdeal.τ).loc Cert.LossHeadRefIdeal.main_arg3)) (m ((c.tc : Thread Cert.LossHeadRefIdeal.nD Cert.LossHeadRefIdeal.τ).loc Cert.LossHeadRefIdeal.main_arg4))).2.2.1 = (fun _ => 1#1)
    ∧ (Cert.Pre_finite_loss.fn (F := Ideal) (m ((c.tc : Thread Cert.LossHeadRefIdeal.nD Cert.LossHeadRefIdeal.τ).loc Cert.LossHeadRefIdeal.main_arg0)) (m ((c.tc : Thread Cert.LossHeadRefIdeal.nD Cert.LossHeadRefIdeal.τ).loc Cert.LossHeadRefIdeal.main_arg1)) (m ((c.tc : Thread Cert.LossHeadRefIdeal.nD Cert.LossHeadRefIdeal.τ).loc Cert.LossHeadRefIdeal.main_arg2)) (m ((c.tc : Thread Cert.LossHeadRefIdeal.nD Cert.LossHeadRefIdeal.τ).loc Cert.LossHeadRefIdeal.main_arg3)) (m ((c.tc : Thread Cert.LossHeadRefIdeal.nD Cert.LossHeadRefIdeal.τ).loc Cert.LossHeadRefIdeal.main_arg4))).2.2.2.1 = (fun _ => 1#1)
    ∧ (Cert.Pre_finite_loss.fn (F := Ideal) (m ((c.tc : Thread Cert.LossHeadRefIdeal.nD Cert.LossHeadRefIdeal.τ).loc Cert.LossHeadRefIdeal.main_arg0)) (m ((c.tc : Thread Cert.LossHeadRefIdeal.nD Cert.LossHeadRefIdeal.τ).loc Cert.LossHeadRefIdeal.main_arg1)) (m ((c.tc : Thread Cert.LossHeadRefIdeal.nD Cert.LossHeadRefIdeal.τ).loc Cert.LossHeadRefIdeal.main_arg2)) (m ((c.tc : Thread Cert.LossHeadRefIdeal.nD Cert.LossHeadRefIdeal.τ).loc Cert.LossHeadRefIdeal.main_arg3)) (m ((c.tc : Thread Cert.LossHeadRefIdeal.nD Cert.LossHeadRefIdeal.τ).loc Cert.LossHeadRefIdeal.main_arg4))).2.2.2.2 = (fun _ => 1#1)

def Pre_OutDw (m : (ℓ : Loc Cert.OutDw.nD Cert.OutDw.τ Cert.OutDw.sig) → Buf (Elt Bits) ℓ) : Prop :=
  True

def Pre_OutDwIdeal (m : (ℓ : Loc Cert.OutDwIdeal.nD Cert.OutDwIdeal.τ Cert.OutDwIdeal.sig) → Buf (Elt Ideal) ℓ) : Prop :=
  True

def Pre_OutDwRefIdeal (m : (ℓ : Loc Cert.OutDwRefIdeal.nD Cert.OutDwRefIdeal.τ Cert.OutDwRefIdeal.sig) → Buf (Elt Ideal) ℓ) : Prop :=
  True

def Pre_BranchDw (m : (ℓ : Loc Cert.BranchDw.nD Cert.BranchDw.τ Cert.BranchDw.sig) → Buf (Elt Bits) ℓ) : Prop :=
  True

def Pre_BranchDwIdeal (m : (ℓ : Loc Cert.BranchDwIdeal.nD Cert.BranchDwIdeal.τ Cert.BranchDwIdeal.sig) → Buf (Elt Ideal) ℓ) : Prop :=
  True

def Pre_BranchDwRefIdeal (m : (ℓ : Loc Cert.BranchDwRefIdeal.nD Cert.BranchDwRefIdeal.τ Cert.BranchDwRefIdeal.sig) → Buf (Elt Ideal) ℓ) : Prop :=
  True

def Pre_BranchDx (m : (ℓ : Loc Cert.BranchDx.nD Cert.BranchDx.τ Cert.BranchDx.sig) → Buf (Elt Bits) ℓ) : Prop :=
  True

def Pre_BranchDxIdeal (m : (ℓ : Loc Cert.BranchDxIdeal.nD Cert.BranchDxIdeal.τ Cert.BranchDxIdeal.sig) → Buf (Elt Ideal) ℓ) : Prop :=
  True

def Pre_BranchDxRefIdeal (m : (ℓ : Loc Cert.BranchDxRefIdeal.nD Cert.BranchDxRefIdeal.τ Cert.BranchDxRefIdeal.sig) → Buf (Elt Ideal) ℓ) : Prop :=
  True

def Pre_FfnOutLast (m : (ℓ : Loc Cert.FfnOutLast.nD Cert.FfnOutLast.τ Cert.FfnOutLast.sig) → Buf (Elt Bits) ℓ) : Prop :=
  True

def Pre_FfnOutLastIdeal (m : (ℓ : Loc Cert.FfnOutLastIdeal.nD Cert.FfnOutLastIdeal.τ Cert.FfnOutLastIdeal.sig) → Buf (Elt Ideal) ℓ) : Prop :=
  True

def Pre_FfnOutLastRefIdeal (m : (ℓ : Loc Cert.FfnOutLastRefIdeal.nD Cert.FfnOutLastRefIdeal.τ Cert.FfnOutLastRefIdeal.sig) → Buf (Elt Ideal) ℓ) : Prop :=
  True

def Pre_AdamAda (m : (ℓ : Loc Cert.AdamAda.nD Cert.AdamAda.τ Cert.AdamAda.sig) → Buf (Elt Bits) ℓ) : Prop :=
  True

def Pre_AdamAdaIdeal (m : (ℓ : Loc Cert.AdamAdaIdeal.nD Cert.AdamAdaIdeal.τ Cert.AdamAdaIdeal.sig) → Buf (Elt Ideal) ℓ) : Prop :=
  True

def Pre_AdamAdaRefIdeal (m : (ℓ : Loc Cert.AdamAdaRefIdeal.nD Cert.AdamAdaRefIdeal.τ Cert.AdamAdaRefIdeal.sig) → Buf (Elt Ideal) ℓ) : Prop :=
  True

def Pre_AdamSmall (m : (ℓ : Loc Cert.AdamSmall.nD Cert.AdamSmall.τ Cert.AdamSmall.sig) → Buf (Elt Bits) ℓ) : Prop :=
  True

def Pre_AdamSmallIdeal (m : (ℓ : Loc Cert.AdamSmallIdeal.nD Cert.AdamSmallIdeal.τ Cert.AdamSmallIdeal.sig) → Buf (Elt Ideal) ℓ) : Prop :=
  True

def Pre_AdamSmallRefIdeal (m : (ℓ : Loc Cert.AdamSmallRefIdeal.nD Cert.AdamSmallRefIdeal.τ Cert.AdamSmallRefIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInRefIdeal (m : (ℓ : Loc Cert.AdamInRefIdeal.nD Cert.AdamInRefIdeal.τ Cert.AdamInRefIdeal.sig) → Buf (Elt Ideal) ℓ) : Prop :=
  True

def Pre_AdamFfnIn (m : (ℓ : Loc Cert.AdamFfnIn.nD Cert.AdamFfnIn.τ Cert.AdamFfnIn.sig) → Buf (Elt Bits) ℓ) : Prop :=
  True

def Pre_AdamFfnInIdeal (m : (ℓ : Loc Cert.AdamFfnInIdeal.nD Cert.AdamFfnInIdeal.τ Cert.AdamFfnInIdeal.sig) → Buf (Elt Ideal) ℓ) : Prop :=
  True

def Pre_AdamFfnInRefIdeal (m : (ℓ : Loc Cert.AdamFfnInRefIdeal.nD Cert.AdamFfnInRefIdeal.τ Cert.AdamFfnInRefIdeal.sig) → Buf (Elt Ideal) ℓ) : Prop :=
  True

def Pre_AdamFfnOut (m : (ℓ : Loc Cert.AdamFfnOut.nD Cert.AdamFfnOut.τ Cert.AdamFfnOut.sig) → Buf (Elt Bits) ℓ) : Prop :=
  True

def Pre_AdamFfnOutIdeal (m : (ℓ : Loc Cert.AdamFfnOutIdeal.nD Cert.AdamFfnOutIdeal.τ Cert.AdamFfnOutIdeal.sig) → Buf (Elt Ideal) ℓ) : Prop :=
  True

def Pre_AdamFfnOutRefIdeal (m : (ℓ : Loc Cert.AdamFfnOutRefIdeal.nD Cert.AdamFfnOutRefIdeal.τ Cert.AdamFfnOutRefIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_AdamOutRefIdeal (m : (ℓ : Loc Cert.AdamOutRefIdeal.nD Cert.AdamOutRefIdeal.τ Cert.AdamOutRefIdeal.sig) → Buf (Elt Ideal) ℓ) : Prop :=
  True

def Pre_AdamBranch (m : (ℓ : Loc Cert.AdamBranch.nD Cert.AdamBranch.τ Cert.AdamBranch.sig) → Buf (Elt Bits) ℓ) : Prop :=
  True

def Pre_AdamBranchIdeal (m : (ℓ : Loc Cert.AdamBranchIdeal.nD Cert.AdamBranchIdeal.τ Cert.AdamBranchIdeal.sig) → Buf (Elt Ideal) ℓ) : Prop :=
  True

def Pre_AdamBranchRefIdeal (m : (ℓ : Loc Cert.AdamBranchRefIdeal.nD Cert.AdamBranchRefIdeal.τ Cert.AdamBranchRefIdeal.sig) → Buf (Elt Ideal) ℓ) : Prop :=
  True

def Pre_AdamConv (m : (ℓ : Loc Cert.AdamConv.nD Cert.AdamConv.τ Cert.AdamConv.sig) → Buf (Elt Bits) ℓ) : Prop :=
  True

def Pre_AdamConvIdeal (m : (ℓ : Loc Cert.AdamConvIdeal.nD Cert.AdamConvIdeal.τ Cert.AdamConvIdeal.sig) → Buf (Elt Ideal) ℓ) : Prop :=
  True

def Pre_AdamConvRefIdeal (m : (ℓ : Loc Cert.AdamConvRefIdeal.nD Cert.AdamConvRefIdeal.τ Cert.AdamConvRefIdeal.sig) → Buf (Elt Ideal) ℓ) : Prop :=
  True

def Pre_AdaDw (m : (ℓ : Loc Cert.AdaDw.nD Cert.AdaDw.τ Cert.AdaDw.sig) → Buf (Elt Bits) ℓ) : Prop :=
  True

def Pre_AdaDwIdeal (m : (ℓ : Loc Cert.AdaDwIdeal.nD Cert.AdaDwIdeal.τ Cert.AdaDwIdeal.sig) → Buf (Elt Ideal) ℓ) : Prop :=
  True

def Pre_AdaDwRefIdeal (m : (ℓ : Loc Cert.AdaDwRefIdeal.nD Cert.AdaDwRefIdeal.τ Cert.AdaDwRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Swiglu [hSwiglu : Cert.Swiglu.Facts] : Prop :=
  ∀ (m : (ℓ : Loc Cert.Swiglu.nD Cert.Swiglu.τ Cert.Swiglu.sig) → Buf (Elt Bits) ℓ) (g : Dev Cert.Swiglu.nD → PrngReg), Pre_Swiglu m →
    θ_run (Cert.Swiglu.defs (F := Bits)) (onTc (τ := Cert.Swiglu.τ) (Cert.Swiglu.main (F := Bits))) ⟨m, fun _ => 0, g⟩ (fun r => (∀ c : Dev Cert.Swiglu.nD,
      r.2.mem ((c.tc : Thread Cert.Swiglu.nD Cert.Swiglu.τ).loc Cert.Swiglu.main_arg0) = m ((c.tc : Thread Cert.Swiglu.nD Cert.Swiglu.τ).loc Cert.Swiglu.main_arg0)
      ∧ r.2.mem ((c.tc : Thread Cert.Swiglu.nD Cert.Swiglu.τ).loc Cert.Swiglu.main_arg1) = m ((c.tc : Thread Cert.Swiglu.nD Cert.Swiglu.τ).loc Cert.Swiglu.main_arg1))
      ∧ r.2.sem = fun _ => 0)

def quiescent_SwigluIdeal [hSwigluIdeal : Cert.SwigluIdeal.Facts] : Prop :=
  ∀ (m : (ℓ : Loc Cert.SwigluIdeal.nD Cert.SwigluIdeal.τ Cert.SwigluIdeal.sig) → Buf (Elt Ideal) ℓ) (g : Dev Cert.SwigluIdeal.nD → PrngReg), Pre_SwigluIdeal m →
    θ_run (Cert.SwigluIdeal.defs (F := Ideal)) (onTc (τ := Cert.SwigluIdeal.τ) (Cert.SwigluIdeal.main (F := Ideal))) ⟨m, fun _ => 0, g⟩ (fun r => (∀ c : Dev Cert.SwigluIdeal.nD,
      r.2.mem ((c.tc : Thread Cert.SwigluIdeal.nD Cert.SwigluIdeal.τ).loc Cert.SwigluIdeal.main_arg0) = m ((c.tc : Thread Cert.SwigluIdeal.nD Cert.SwigluIdeal.τ).loc Cert.SwigluIdeal.main_arg0)
      ∧ r.2.mem ((c.tc : Thread Cert.SwigluIdeal.nD Cert.SwigluIdeal.τ).loc Cert.SwigluIdeal.main_arg1) = m ((c.tc : Thread Cert.SwigluIdeal.nD Cert.SwigluIdeal.τ).loc Cert.SwigluIdeal.main_arg1))
      ∧ r.2.sem = fun _ => 0)

def quiescent_SwigluRefIdeal [hSwigluRefIdeal : Cert.SwigluRefIdeal.Facts] : Prop :=
  ∀ (m : (ℓ : Loc Cert.SwigluRefIdeal.nD Cert.SwigluRefIdeal.τ Cert.SwigluRefIdeal.sig) → Buf (Elt Ideal) ℓ) (g : Dev Cert.SwigluRefIdeal.nD → PrngReg), Pre_SwigluRefIdeal m →
    θ_run (Cert.SwigluRefIdeal.defs (F := Ideal)) (onTc (τ := Cert.SwigluRefIdeal.τ) (Cert.SwigluRefIdeal.main (F := Ideal))) ⟨m, fun _ => 0, g⟩ (fun r => (∀ c : Dev Cert.SwigluRefIdeal.nD,
      r.2.mem ((c.tc : Thread Cert.SwigluRefIdeal.nD Cert.SwigluRefIdeal.τ).loc Cert.SwigluRefIdeal.main_arg0) = m ((c.tc : Thread Cert.SwigluRefIdeal.nD Cert.SwigluRefIdeal.τ).loc Cert.SwigluRefIdeal.main_arg0)
      ∧ r.2.mem ((c.tc : Thread Cert.SwigluRefIdeal.nD Cert.SwigluRefIdeal.τ).loc Cert.SwigluRefIdeal.main_arg1) = m ((c.tc : Thread Cert.SwigluRefIdeal.nD Cert.SwigluRefIdeal.τ).loc Cert.SwigluRefIdeal.main_arg1))
      ∧ r.2.sem = fun _ => 0)

def quiescent_SwigluBwd [hSwigluBwd : Cert.SwigluBwd.Facts] : Prop :=
  ∀ (m : (ℓ : Loc Cert.SwigluBwd.nD Cert.SwigluBwd.τ Cert.SwigluBwd.sig) → Buf (Elt Bits) ℓ) (g : Dev Cert.SwigluBwd.nD → PrngReg), Pre_SwigluBwd m →
    θ_run (Cert.SwigluBwd.defs (F := Bits)) (onTc (τ := Cert.SwigluBwd.τ) (Cert.SwigluBwd.main (F := Bits))) ⟨m, fun _ => 0, g⟩ (fun r => (∀ c : Dev Cert.SwigluBwd.nD,
      r.2.mem ((c.tc : Thread Cert.SwigluBwd.nD Cert.SwigluBwd.τ).loc Cert.SwigluBwd.main_arg0) = m ((c.tc : Thread Cert.SwigluBwd.nD Cert.SwigluBwd.τ).loc Cert.SwigluBwd.main_arg0)
      ∧ r.2.mem ((c.tc : Thread Cert.SwigluBwd.nD Cert.SwigluBwd.τ).loc Cert.SwigluBwd.main_arg1) = m ((c.tc : Thread Cert.SwigluBwd.nD Cert.SwigluBwd.τ).loc Cert.SwigluBwd.main_arg1)
      ∧ r.2.mem ((c.tc : Thread Cert.SwigluBwd.nD Cert.SwigluBwd.τ).loc Cert.SwigluBwd.main_arg2) = m ((c.tc : Thread Cert.SwigluBwd.nD Cert.SwigluBwd.τ).loc Cert.SwigluBwd.main_arg2))
      ∧ r.2.sem = fun _ => 0)

def quiescent_SwigluBwdIdeal [hSwigluBwdIdeal : Cert.SwigluBwdIdeal.Facts] : Prop :=
  ∀ (m : (ℓ : Loc Cert.SwigluBwdIdeal.nD Cert.SwigluBwdIdeal.τ Cert.SwigluBwdIdeal.sig) → Buf (Elt Ideal) ℓ) (g : Dev Cert.SwigluBwdIdeal.nD → PrngReg), Pre_SwigluBwdIdeal m →
    θ_run (Cert.SwigluBwdIdeal.defs (F := Ideal)) (onTc (τ := Cert.SwigluBwdIdeal.τ) (Cert.SwigluBwdIdeal.main (F := Ideal))) ⟨m, fun _ => 0, g⟩ (fun r => (∀ c : Dev Cert.SwigluBwdIdeal.nD,
      r.2.mem ((c.tc : Thread Cert.SwigluBwdIdeal.nD Cert.SwigluBwdIdeal.τ).loc Cert.SwigluBwdIdeal.main_arg0) = m ((c.tc : Thread Cert.SwigluBwdIdeal.nD Cert.SwigluBwdIdeal.τ).loc Cert.SwigluBwdIdeal.main_arg0)
      ∧ r.2.mem ((c.tc : Thread Cert.SwigluBwdIdeal.nD Cert.SwigluBwdIdeal.τ).loc Cert.SwigluBwdIdeal.main_arg1) = m ((c.tc : Thread Cert.SwigluBwdIdeal.nD Cert.SwigluBwdIdeal.τ).loc Cert.SwigluBwdIdeal.main_arg1)
      ∧ r.2.mem ((c.tc : Thread Cert.SwigluBwdIdeal.nD Cert.SwigluBwdIdeal.τ).loc Cert.SwigluBwdIdeal.main_arg2) = m ((c.tc : Thread Cert.SwigluBwdIdeal.nD Cert.SwigluBwdIdeal.τ).loc Cert.SwigluBwdIdeal.main_arg2))
      ∧ r.2.sem = fun _ => 0)

def quiescent_SwigluBwdIdeal_pre_finite_swiglu [hSwigluBwdIdeal : Cert.SwigluBwdIdeal.Facts] [hPre_finite_swiglu : Cert.Pre_finite_swiglu.Facts] : Prop :=
  ∀ (m : (ℓ : Loc Cert.SwigluBwdIdeal.nD Cert.SwigluBwdIdeal.τ Cert.SwigluBwdIdeal.sig) → Buf (Elt Ideal) ℓ) (g : Dev Cert.SwigluBwdIdeal.nD → PrngReg), Pre_SwigluBwdIdeal_finite_swiglu m →
    θ_run (Cert.SwigluBwdIdeal.defs (F := Ideal)) (onTc (τ := Cert.SwigluBwdIdeal.τ) (Cert.SwigluBwdIdeal.main (F := Ideal))) ⟨m, fun _ => 0, g⟩ (fun r => (∀ c : Dev Cert.SwigluBwdIdeal.nD,
      r.2.mem ((c.tc : Thread Cert.SwigluBwdIdeal.nD Cert.SwigluBwdIdeal.τ).loc Cert.SwigluBwdIdeal.main_arg0) = m ((c.tc : Thread Cert.SwigluBwdIdeal.nD Cert.SwigluBwdIdeal.τ).loc Cert.SwigluBwdIdeal.main_arg0)
      ∧ r.2.mem ((c.tc : Thread Cert.SwigluBwdIdeal.nD Cert.SwigluBwdIdeal.τ).loc Cert.SwigluBwdIdeal.main_arg1) = m ((c.tc : Thread Cert.SwigluBwdIdeal.nD Cert.SwigluBwdIdeal.τ).loc Cert.SwigluBwdIdeal.main_arg1)
      ∧ r.2.mem ((c.tc : Thread Cert.SwigluBwdIdeal.nD Cert.SwigluBwdIdeal.τ).loc Cert.SwigluBwdIdeal.main_arg2) = m ((c.tc : Thread Cert.SwigluBwdIdeal.nD Cert.SwigluBwdIdeal.τ).loc Cert.SwigluBwdIdeal.main_arg2))
      ∧ r.2.sem = fun _ => 0)

def quiescent_SwigluBwdRefIdeal [hSwigluBwdRefIdeal : Cert.SwigluBwdRefIdeal.Facts] : Prop :=
  ∀ (m : (ℓ : Loc Cert.SwigluBwdRefIdeal.nD Cert.SwigluBwdRefIdeal.τ Cert.SwigluBwdRefIdeal.sig) → Buf (Elt Ideal) ℓ) (g : Dev Cert.SwigluBwdRefIdeal.nD → PrngReg), Pre_SwigluBwdRefIdeal m →
    θ_run (Cert.SwigluBwdRefIdeal.defs (F := Ideal)) (onTc (τ := Cert.SwigluBwdRefIdeal.τ) (Cert.SwigluBwdRefIdeal.main (F := Ideal))) ⟨m, fun _ => 0, g⟩ (fun r => (∀ c : Dev Cert.SwigluBwdRefIdeal.nD,
      r.2.mem ((c.tc : Thread Cert.SwigluBwdRefIdeal.nD Cert.SwigluBwdRefIdeal.τ).loc Cert.SwigluBwdRefIdeal.main_arg0) = m ((c.tc : Thread Cert.SwigluBwdRefIdeal.nD Cert.SwigluBwdRefIdeal.τ).loc Cert.SwigluBwdRefIdeal.main_arg0)
      ∧ r.2.mem ((c.tc : Thread Cert.SwigluBwdRefIdeal.nD Cert.SwigluBwdRefIdeal.τ).loc Cert.SwigluBwdRefIdeal.main_arg1) = m ((c.tc : Thread Cert.SwigluBwdRefIdeal.nD Cert.SwigluBwdRefIdeal.τ).loc Cert.SwigluBwdRefIdeal.main_arg1)
      ∧ r.2.mem ((c.tc : Thread Cert.SwigluBwdRefIdeal.nD Cert.SwigluBwdRefIdeal.τ).loc Cert.SwigluBwdRefIdeal.main_arg2) = m ((c.tc : Thread Cert.SwigluBwdRefIdeal.nD Cert.SwigluBwdRefIdeal.τ).loc Cert.SwigluBwdRefIdeal.main_arg2))
      ∧ r.2.sem = fun _ => 0)

def quiescent_SwigluBwdRefIdeal_pre_finite_swiglu [hSwigluBwdRefIdeal : Cert.SwigluBwdRefIdeal.Facts] [hPre_finite_swiglu : Cert.Pre_finite_swiglu.Facts] : Prop :=
  ∀ (m : (ℓ : Loc Cert.SwigluBwdRefIdeal.nD Cert.SwigluBwdRefIdeal.τ Cert.SwigluBwdRefIdeal.sig) → Buf (Elt Ideal) ℓ) (g : Dev Cert.SwigluBwdRefIdeal.nD → PrngReg), Pre_SwigluBwdRefIdeal_finite_swiglu m →
    θ_run (Cert.SwigluBwdRefIdeal.defs (F := Ideal)) (onTc (τ := Cert.SwigluBwdRefIdeal.τ) (Cert.SwigluBwdRefIdeal.main (F := Ideal))) ⟨m, fun _ => 0, g⟩ (fun r => (∀ c : Dev Cert.SwigluBwdRefIdeal.nD,
      r.2.mem ((c.tc : Thread Cert.SwigluBwdRefIdeal.nD Cert.SwigluBwdRefIdeal.τ).loc Cert.SwigluBwdRefIdeal.main_arg0) = m ((c.tc : Thread Cert.SwigluBwdRefIdeal.nD Cert.SwigluBwdRefIdeal.τ).loc Cert.SwigluBwdRefIdeal.main_arg0)
      ∧ r.2.mem ((c.tc : Thread Cert.SwigluBwdRefIdeal.nD Cert.SwigluBwdRefIdeal.τ).loc Cert.SwigluBwdRefIdeal.main_arg1) = m ((c.tc : Thread Cert.SwigluBwdRefIdeal.nD Cert.SwigluBwdRefIdeal.τ).loc Cert.SwigluBwdRefIdeal.main_arg1)
      ∧ r.2.mem ((c.tc : Thread Cert.SwigluBwdRefIdeal.nD Cert.SwigluBwdRefIdeal.τ).loc Cert.SwigluBwdRefIdeal.main_arg2) = m ((c.tc : Thread Cert.SwigluBwdRefIdeal.nD Cert.SwigluBwdRefIdeal.τ).loc Cert.SwigluBwdRefIdeal.main_arg2))
      ∧ r.2.sem = fun _ => 0)

def quiescent_MergeBwd [hMergeBwd : Cert.MergeBwd.Facts] : Prop :=
  ∀ (m : (ℓ : Loc Cert.MergeBwd.nD Cert.MergeBwd.τ Cert.MergeBwd.sig) → Buf (Elt Bits) ℓ) (g : Dev Cert.MergeBwd.nD → PrngReg), Pre_MergeBwd m →
    θ_run (Cert.MergeBwd.defs (F := Bits)) (onTc (τ := Cert.MergeBwd.τ) (Cert.MergeBwd.main (F := Bits))) ⟨m, fun _ => 0, g⟩ (fun r => (∀ c : Dev Cert.MergeBwd.nD,
      r.2.mem ((c.tc : Thread Cert.MergeBwd.nD Cert.MergeBwd.τ).loc Cert.MergeBwd.main_arg0) = m ((c.tc : Thread Cert.MergeBwd.nD Cert.MergeBwd.τ).loc Cert.MergeBwd.main_arg0)
      ∧ r.2.mem ((c.tc : Thread Cert.MergeBwd.nD Cert.MergeBwd.τ).loc Cert.MergeBwd.main_arg1) = m ((c.tc : Thread Cert.MergeBwd.nD Cert.MergeBwd.τ).loc Cert.MergeBwd.main_arg1)
      ∧ r.2.mem ((c.tc : Thread Cert.MergeBwd.nD Cert.MergeBwd.τ).loc Cert.MergeBwd.main_arg2) = m ((c.tc : Thread Cert.MergeBwd.nD Cert.MergeBwd.τ).loc Cert.MergeBwd.main_arg2)
      ∧ r.2.mem ((c.tc : Thread Cert.MergeBwd.nD Cert.MergeBwd.τ).loc Cert.MergeBwd.main_arg3) = m ((c.tc : Thread Cert.MergeBwd.nD Cert.MergeBwd.τ).loc Cert.MergeBwd.main_arg3)
      ∧ r.2.mem ((c.tc : Thread Cert.MergeBwd.nD Cert.MergeBwd.τ).loc Cert.MergeBwd.main_arg4) = m ((c.tc : Thread Cert.MergeBwd.nD Cert.MergeBwd.τ).loc Cert.MergeBwd.main_arg4))
      ∧ r.2.sem = fun _ => 0)

def quiescent_MergeBwdIdeal [hMergeBwdIdeal : Cert.MergeBwdIdeal.Facts] : Prop :=
  ∀ (m : (ℓ : Loc Cert.MergeBwdIdeal.nD Cert.MergeBwdIdeal.τ Cert.MergeBwdIdeal.sig) → Buf (Elt Ideal) ℓ) (g : Dev Cert.MergeBwdIdeal.nD → PrngReg), Pre_MergeBwdIdeal m →
    θ_run (Cert.MergeBwdIdeal.defs (F := Ideal)) (onTc (τ := Cert.MergeBwdIdeal.τ) (Cert.MergeBwdIdeal.main (F := Ideal))) ⟨m, fun _ => 0, g⟩ (fun r => (∀ c : Dev Cert.MergeBwdIdeal.nD,
      r.2.mem ((c.tc : Thread Cert.MergeBwdIdeal.nD Cert.MergeBwdIdeal.τ).loc Cert.MergeBwdIdeal.main_arg0) = m ((c.tc : Thread Cert.MergeBwdIdeal.nD Cert.MergeBwdIdeal.τ).loc Cert.MergeBwdIdeal.main_arg0)
      ∧ r.2.mem ((c.tc : Thread Cert.MergeBwdIdeal.nD Cert.MergeBwdIdeal.τ).loc Cert.MergeBwdIdeal.main_arg1) = m ((c.tc : Thread Cert.MergeBwdIdeal.nD Cert.MergeBwdIdeal.τ).loc Cert.MergeBwdIdeal.main_arg1)
      ∧ r.2.mem ((c.tc : Thread Cert.MergeBwdIdeal.nD Cert.MergeBwdIdeal.τ).loc Cert.MergeBwdIdeal.main_arg2) = m ((c.tc : Thread Cert.MergeBwdIdeal.nD Cert.MergeBwdIdeal.τ).loc Cert.MergeBwdIdeal.main_arg2)
      ∧ r.2.mem ((c.tc : Thread Cert.MergeBwdIdeal.nD Cert.MergeBwdIdeal.τ).loc Cert.MergeBwdIdeal.main_arg3) = m ((c.tc : Thread Cert.MergeBwdIdeal.nD Cert.MergeBwdIdeal.τ).loc Cert.MergeBwdIdeal.main_arg3)
      ∧ r.2.mem ((c.tc : Thread Cert.MergeBwdIdeal.nD Cert.MergeBwdIdeal.τ).loc Cert.MergeBwdIdeal.main_arg4) = m ((c.tc : Thread Cert.MergeBwdIdeal.nD Cert.MergeBwdIdeal.τ).loc Cert.MergeBwdIdeal.main_arg4))
      ∧ r.2.sem = fun _ => 0)

def quiescent_MergeBwdRefIdeal [hMergeBwdRefIdeal : Cert.MergeBwdRefIdeal.Facts] : Prop :=
  ∀ (m : (ℓ : Loc Cert.MergeBwdRefIdeal.nD Cert.MergeBwdRefIdeal.τ Cert.MergeBwdRefIdeal.sig) → Buf (Elt Ideal) ℓ) (g : Dev Cert.MergeBwdRefIdeal.nD → PrngReg), Pre_MergeBwdRefIdeal m →
    θ_run (Cert.MergeBwdRefIdeal.defs (F := Ideal)) (onTc (τ := Cert.MergeBwdRefIdeal.τ) (Cert.MergeBwdRefIdeal.main (F := Ideal))) ⟨m, fun _ => 0, g⟩ (fun r => (∀ c : Dev Cert.MergeBwdRefIdeal.nD,
      r.2.mem ((c.tc : Thread Cert.MergeBwdRefIdeal.nD Cert.MergeBwdRefIdeal.τ).loc Cert.MergeBwdRefIdeal.main_arg0) = m ((c.tc : Thread Cert.MergeBwdRefIdeal.nD Cert.MergeBwdRefIdeal.τ).loc Cert.MergeBwdRefIdeal.main_arg0)
      ∧ r.2.mem ((c.tc : Thread Cert.MergeBwdRefIdeal.nD Cert.MergeBwdRefIdeal.τ).loc Cert.MergeBwdRefIdeal.main_arg1) = m ((c.tc : Thread Cert.MergeBwdRefIdeal.nD Cert.MergeBwdRefIdeal.τ).loc Cert.MergeBwdRefIdeal.main_arg1)
      ∧ r.2.mem ((c.tc : Thread Cert.MergeBwdRefIdeal.nD Cert.MergeBwdRefIdeal.τ).loc Cert.MergeBwdRefIdeal.main_arg2) = m ((c.tc : Thread Cert.MergeBwdRefIdeal.nD Cert.MergeBwdRefIdeal.τ).loc Cert.MergeBwdRefIdeal.main_arg2)
      ∧ r.2.mem ((c.tc : Thread Cert.MergeBwdRefIdeal.nD Cert.MergeBwdRefIdeal.τ).loc Cert.MergeBwdRefIdeal.main_arg3) = m ((c.tc : Thread Cert.MergeBwdRefIdeal.nD Cert.MergeBwdRefIdeal.τ).loc Cert.MergeBwdRefIdeal.main_arg3)
      ∧ r.2.mem ((c.tc : Thread Cert.MergeBwdRefIdeal.nD Cert.MergeBwdRefIdeal.τ).loc Cert.MergeBwdRefIdeal.main_arg4) = m ((c.tc : Thread Cert.MergeBwdRefIdeal.nD Cert.MergeBwdRefIdeal.τ).loc Cert.MergeBwdRefIdeal.main_arg4))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4))
      ∧ r.2.sem = fun _ => 0)

def quiescent_FfnOut [hFfnOut : Cert.FfnOut.Facts] : Prop :=
  ∀ (m : (ℓ : Loc Cert.FfnOut.nD Cert.FfnOut.τ Cert.FfnOut.sig) → Buf (Elt Bits) ℓ) (g : Dev Cert.FfnOut.nD → PrngReg), Pre_FfnOut m →
    θ_run (Cert.FfnOut.defs (F := Bits)) (onTc (τ := Cert.FfnOut.τ) (Cert.FfnOut.main (F := Bits))) ⟨m, fun _ => 0, g⟩ (fun r => (∀ c : Dev Cert.FfnOut.nD,
      r.2.mem ((c.tc : Thread Cert.FfnOut.nD Cert.FfnOut.τ).loc Cert.FfnOut.main_arg0) = m ((c.tc : Thread Cert.FfnOut.nD Cert.FfnOut.τ).loc Cert.FfnOut.main_arg0)
      ∧ r.2.mem ((c.tc : Thread Cert.FfnOut.nD Cert.FfnOut.τ).loc Cert.FfnOut.main_arg1) = m ((c.tc : Thread Cert.FfnOut.nD Cert.FfnOut.τ).loc Cert.FfnOut.main_arg1)
      ∧ r.2.mem ((c.tc : Thread Cert.FfnOut.nD Cert.FfnOut.τ).loc Cert.FfnOut.main_arg2) = m ((c.tc : Thread Cert.FfnOut.nD Cert.FfnOut.τ).loc Cert.FfnOut.main_arg2)
      ∧ r.2.mem ((c.tc : Thread Cert.FfnOut.nD Cert.FfnOut.τ).loc Cert.FfnOut.main_arg3) = m ((c.tc : Thread Cert.FfnOut.nD Cert.FfnOut.τ).loc Cert.FfnOut.main_arg3)
      ∧ r.2.mem ((c.tc : Thread Cert.FfnOut.nD Cert.FfnOut.τ).loc Cert.FfnOut.main_arg4) = m ((c.tc : Thread Cert.FfnOut.nD Cert.FfnOut.τ).loc Cert.FfnOut.main_arg4)
      ∧ r.2.mem ((c.tc : Thread Cert.FfnOut.nD Cert.FfnOut.τ).loc Cert.FfnOut.main_arg5) = m ((c.tc : Thread Cert.FfnOut.nD Cert.FfnOut.τ).loc Cert.FfnOut.main_arg5)
      ∧ r.2.mem ((c.tc : Thread Cert.FfnOut.nD Cert.FfnOut.τ).loc Cert.FfnOut.main_arg6) = m ((c.tc : Thread Cert.FfnOut.nD Cert.FfnOut.τ).loc Cert.FfnOut.main_arg6))
      ∧ r.2.sem = fun _ => 0)

def quiescent_FfnOutIdeal [hFfnOutIdeal : Cert.FfnOutIdeal.Facts] : Prop :=
  ∀ (m : (ℓ : Loc Cert.FfnOutIdeal.nD Cert.FfnOutIdeal.τ Cert.FfnOutIdeal.sig) → Buf (Elt Ideal) ℓ) (g : Dev Cert.FfnOutIdeal.nD → PrngReg), Pre_FfnOutIdeal m →
    θ_run (Cert.FfnOutIdeal.defs (F := Ideal)) (onTc (τ := Cert.FfnOutIdeal.τ) (Cert.FfnOutIdeal.main (F := Ideal))) ⟨m, fun _ => 0, g⟩ (fun r => (∀ c : Dev Cert.FfnOutIdeal.nD,
      r.2.mem ((c.tc : Thread Cert.FfnOutIdeal.nD Cert.FfnOutIdeal.τ).loc Cert.FfnOutIdeal.main_arg0) = m ((c.tc : Thread Cert.FfnOutIdeal.nD Cert.FfnOutIdeal.τ).loc Cert.FfnOutIdeal.main_arg0)
      ∧ r.2.mem ((c.tc : Thread Cert.FfnOutIdeal.nD Cert.FfnOutIdeal.τ).loc Cert.FfnOutIdeal.main_arg1) = m ((c.tc : Thread Cert.FfnOutIdeal.nD Cert.FfnOutIdeal.τ).loc Cert.FfnOutIdeal.main_arg1)
      ∧ r.2.mem ((c.tc : Thread Cert.FfnOutIdeal.nD Cert.FfnOutIdeal.τ).loc Cert.FfnOutIdeal.main_arg2) = m ((c.tc : Thread Cert.FfnOutIdeal.nD Cert.FfnOutIdeal.τ).loc Cert.FfnOutIdeal.main_arg2)
      ∧ r.2.mem ((c.tc : Thread Cert.FfnOutIdeal.nD Cert.FfnOutIdeal.τ).loc Cert.FfnOutIdeal.main_arg3) = m ((c.tc : Thread Cert.FfnOutIdeal.nD Cert.FfnOutIdeal.τ).loc Cert.FfnOutIdeal.main_arg3)
      ∧ r.2.mem ((c.tc : Thread Cert.FfnOutIdeal.nD Cert.FfnOutIdeal.τ).loc Cert.FfnOutIdeal.main_arg4) = m ((c.tc : Thread Cert.FfnOutIdeal.nD Cert.FfnOutIdeal.τ).loc Cert.FfnOutIdeal.main_arg4)
      ∧ r.2.mem ((c.tc : Thread Cert.FfnOutIdeal.nD Cert.FfnOutIdeal.τ).loc Cert.FfnOutIdeal.main_arg5) = m ((c.tc : Thread Cert.FfnOutIdeal.nD Cert.FfnOutIdeal.τ).loc Cert.FfnOutIdeal.main_arg5)
      ∧ r.2.mem ((c.tc : Thread Cert.FfnOutIdeal.nD Cert.FfnOutIdeal.τ).loc Cert.FfnOutIdeal.main_arg6) = m ((c.tc : Thread Cert.FfnOutIdeal.nD Cert.FfnOutIdeal.τ).loc Cert.FfnOutIdeal.main_arg6))
      ∧ r.2.sem = fun _ => 0)

def quiescent_FfnOutRefIdeal [hFfnOutRefIdeal : Cert.FfnOutRefIdeal.Facts] : Prop :=
  ∀ (m : (ℓ : Loc Cert.FfnOutRefIdeal.nD Cert.FfnOutRefIdeal.τ Cert.FfnOutRefIdeal.sig) → Buf (Elt Ideal) ℓ) (g : Dev Cert.FfnOutRefIdeal.nD → PrngReg), Pre_FfnOutRefIdeal m →
    θ_run (Cert.FfnOutRefIdeal.defs (F := Ideal)) (onTc (τ := Cert.FfnOutRefIdeal.τ) (Cert.FfnOutRefIdeal.main (F := Ideal))) ⟨m, fun _ => 0, g⟩ (fun r => (∀ c : Dev Cert.FfnOutRefIdeal.nD,
      r.2.mem ((c.tc : Thread Cert.FfnOutRefIdeal.nD Cert.FfnOutRefIdeal.τ).loc Cert.FfnOutRefIdeal.main_arg0) = m ((c.tc : Thread Cert.FfnOutRefIdeal.nD Cert.FfnOutRefIdeal.τ).loc Cert.FfnOutRefIdeal.main_arg0)
      ∧ r.2.mem ((c.tc : Thread Cert.FfnOutRefIdeal.nD Cert.FfnOutRefIdeal.τ).loc Cert.FfnOutRefIdeal.main_arg1) = m ((c.tc : Thread Cert.FfnOutRefIdeal.nD Cert.FfnOutRefIdeal.τ).loc Cert.FfnOutRefIdeal.main_arg1)
      ∧ r.2.mem ((c.tc : Thread Cert.FfnOutRefIdeal.nD Cert.FfnOutRefIdeal.τ).loc Cert.FfnOutRefIdeal.main_arg2) = m ((c.tc : Thread Cert.FfnOutRefIdeal.nD Cert.FfnOutRefIdeal.τ).loc Cert.FfnOutRefIdeal.main_arg2)
      ∧ r.2.mem ((c.tc : Thread Cert.FfnOutRefIdeal.nD Cert.FfnOutRefIdeal.τ).loc Cert.FfnOutRefIdeal.main_arg3) = m ((c.tc : Thread Cert.FfnOutRefIdeal.nD Cert.FfnOutRefIdeal.τ).loc Cert.FfnOutRefIdeal.main_arg3)
      ∧ r.2.mem ((c.tc : Thread Cert.FfnOutRefIdeal.nD Cert.FfnOutRefIdeal.τ).loc Cert.FfnOutRefIdeal.main_arg4) = m ((c.tc : Thread Cert.FfnOutRefIdeal.nD Cert.FfnOutRefIdeal.τ).loc Cert.FfnOutRefIdeal.main_arg4)
      ∧ r.2.mem ((c.tc : Thread Cert.FfnOutRefIdeal.nD Cert.FfnOutRefIdeal.τ).loc Cert.FfnOutRefIdeal.main_arg5) = m ((c.tc : Thread Cert.FfnOutRefIdeal.nD Cert.FfnOutRefIdeal.τ).loc Cert.FfnOutRefIdeal.main_arg5)
      ∧ r.2.mem ((c.tc : Thread Cert.FfnOutRefIdeal.nD Cert.FfnOutRefIdeal.τ).loc Cert.FfnOutRefIdeal.main_arg6) = m ((c.tc : Thread Cert.FfnOutRefIdeal.nD Cert.FfnOutRefIdeal.τ).loc Cert.FfnOutRefIdeal.main_arg6))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3)
      ∧ r.2.mem ((c.tc : Thread Cert.Out.nD Cert.Out.τ).loc Cert.Out.main_arg4) = m ((c.tc : Thread Cert.Out.nD Cert.Out.τ).loc Cert.Out.main_arg4)
      ∧ r.2.mem ((c.tc : Thread Cert.Out.nD Cert.Out.τ).loc Cert.Out.main_arg5) = m ((c.tc : Thread Cert.Out.nD Cert.Out.τ).loc Cert.Out.main_arg5)
      ∧ r.2.mem ((c.tc : Thread Cert.Out.nD Cert.Out.τ).loc Cert.Out.main_arg6) = m ((c.tc : Thread Cert.Out.nD Cert.Out.τ).loc Cert.Out.main_arg6))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
      ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
      ∧ r.2.mem ((c.tc : Thread Cert.OutIdeal.nD Cert.OutIdeal.τ).loc Cert.OutIdeal.main_arg6) = m ((c.tc : Thread Cert.OutIdeal.nD Cert.OutIdeal.τ).loc Cert.OutIdeal.main_arg6))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3)
      ∧ r.2.mem ((c.tc : Thread Cert.OutRefIdeal.nD Cert.OutRefIdeal.τ).loc Cert.OutRefIdeal.main_arg4) = m ((c.tc : Thread Cert.OutRefIdeal.nD Cert.OutRefIdeal.τ).loc Cert.OutRefIdeal.main_arg4)
      ∧ r.2.mem ((c.tc : Thread Cert.OutRefIdeal.nD Cert.OutRefIdeal.τ).loc Cert.OutRefIdeal.main_arg5) = m ((c.tc : Thread Cert.OutRefIdeal.nD Cert.OutRefIdeal.τ).loc Cert.OutRefIdeal.main_arg5)
      ∧ r.2.mem ((c.tc : Thread Cert.OutRefIdeal.nD Cert.OutRefIdeal.τ).loc Cert.OutRefIdeal.main_arg6) = m ((c.tc : Thread Cert.OutRefIdeal.nD Cert.OutRefIdeal.τ).loc Cert.OutRefIdeal.main_arg6))
      ∧ r.2.sem = fun _ => 0)

def quiescent_FfnInDw [hFfnInDw : Cert.FfnInDw.Facts] : Prop :=
  ∀ (m : (ℓ : Loc Cert.FfnInDw.nD Cert.FfnInDw.τ Cert.FfnInDw.sig) → Buf (Elt Bits) ℓ) (g : Dev Cert.FfnInDw.nD → PrngReg), Pre_FfnInDw m →
    θ_run (Cert.FfnInDw.defs (F := Bits)) (onTc (τ := Cert.FfnInDw.τ) (Cert.FfnInDw.main (F := Bits))) ⟨m, fun _ => 0, g⟩ (fun r => (∀ c : Dev Cert.FfnInDw.nD,
      r.2.mem ((c.tc : Thread Cert.FfnInDw.nD Cert.FfnInDw.τ).loc Cert.FfnInDw.main_arg0) = m ((c.tc : Thread Cert.FfnInDw.nD Cert.FfnInDw.τ).loc Cert.FfnInDw.main_arg0)
      ∧ r.2.mem ((c.tc : Thread Cert.FfnInDw.nD Cert.FfnInDw.τ).loc Cert.FfnInDw.main_arg1) = m ((c.tc : Thread Cert.FfnInDw.nD Cert.FfnInDw.τ).loc Cert.FfnInDw.main_arg1))
      ∧ r.2.sem = fun _ => 0)

def quiescent_FfnInDwIdeal [hFfnInDwIdeal : Cert.FfnInDwIdeal.Facts] : Prop :=
  ∀ (m : (ℓ : Loc Cert.FfnInDwIdeal.nD Cert.FfnInDwIdeal.τ Cert.FfnInDwIdeal.sig) → Buf (Elt Ideal) ℓ) (g : Dev Cert.FfnInDwIdeal.nD → PrngReg), Pre_FfnInDwIdeal m →
    θ_run (Cert.FfnInDwIdeal.defs (F := Ideal)) (onTc (τ := Cert.FfnInDwIdeal.τ) (Cert.FfnInDwIdeal.main (F := Ideal))) ⟨m, fun _ => 0, g⟩ (fun r => (∀ c : Dev Cert.FfnInDwIdeal.nD,
      r.2.mem ((c.tc : Thread Cert.FfnInDwIdeal.nD Cert.FfnInDwIdeal.τ).loc Cert.FfnInDwIdeal.main_arg0) = m ((c.tc : Thread Cert.FfnInDwIdeal.nD Cert.FfnInDwIdeal.τ).loc Cert.FfnInDwIdeal.main_arg0)
      ∧ r.2.mem ((c.tc : Thread Cert.FfnInDwIdeal.nD Cert.FfnInDwIdeal.τ).loc Cert.FfnInDwIdeal.main_arg1) = m ((c.tc : Thread Cert.FfnInDwIdeal.nD Cert.FfnInDwIdeal.τ).loc Cert.FfnInDwIdeal.main_arg1))
      ∧ r.2.sem = fun _ => 0)

def quiescent_FfnInDwRefIdeal [hFfnInDwRefIdeal : Cert.FfnInDwRefIdeal.Facts] : Prop :=
  ∀ (m : (ℓ : Loc Cert.FfnInDwRefIdeal.nD Cert.FfnInDwRefIdeal.τ Cert.FfnInDwRefIdeal.sig) → Buf (Elt Ideal) ℓ) (g : Dev Cert.FfnInDwRefIdeal.nD → PrngReg), Pre_FfnInDwRefIdeal m →
    θ_run (Cert.FfnInDwRefIdeal.defs (F := Ideal)) (onTc (τ := Cert.FfnInDwRefIdeal.τ) (Cert.FfnInDwRefIdeal.main (F := Ideal))) ⟨m, fun _ => 0, g⟩ (fun r => (∀ c : Dev Cert.FfnInDwRefIdeal.nD,
      r.2.mem ((c.tc : Thread Cert.FfnInDwRefIdeal.nD Cert.FfnInDwRefIdeal.τ).loc Cert.FfnInDwRefIdeal.main_arg0) = m ((c.tc : Thread Cert.FfnInDwRefIdeal.nD Cert.FfnInDwRefIdeal.τ).loc Cert.FfnInDwRefIdeal.main_arg0)
      ∧ r.2.mem ((c.tc : Thread Cert.FfnInDwRefIdeal.nD Cert.FfnInDwRefIdeal.τ).loc Cert.FfnInDwRefIdeal.main_arg1) = m ((c.tc : Thread Cert.FfnInDwRefIdeal.nD Cert.FfnInDwRefIdeal.τ).loc Cert.FfnInDwRefIdeal.main_arg1))
      ∧ r.2.sem = fun _ => 0)

def quiescent_ProjDw [hProjDw : Cert.ProjDw.Facts] : Prop :=
  ∀ (m : (ℓ : Loc Cert.ProjDw.nD Cert.ProjDw.τ Cert.ProjDw.sig) → Buf (Elt Bits) ℓ) (g : Dev Cert.ProjDw.nD → PrngReg), Pre_ProjDw m →
    θ_run (Cert.ProjDw.defs (F := Bits)) (onTc (τ := Cert.ProjDw.τ) (Cert.ProjDw.main (F := Bits))) ⟨m, fun _ => 0, g⟩ (fun r => (∀ c : Dev Cert.ProjDw.nD,
      r.2.mem ((c.tc : Thread Cert.ProjDw.nD Cert.ProjDw.τ).loc Cert.ProjDw.main_arg0) = m ((c.tc : Thread Cert.ProjDw.nD Cert.ProjDw.τ).loc Cert.ProjDw.main_arg0)
      ∧ r.2.mem ((c.tc : Thread Cert.ProjDw.nD Cert.ProjDw.τ).loc Cert.ProjDw.main_arg1) = m ((c.tc : Thread Cert.ProjDw.nD Cert.ProjDw.τ).loc Cert.ProjDw.main_arg1))
      ∧ r.2.sem = fun _ => 0)

def quiescent_ProjDwIdeal [hProjDwIdeal : Cert.ProjDwIdeal.Facts] : Prop :=
  ∀ (m : (ℓ : Loc Cert.ProjDwIdeal.nD Cert.ProjDwIdeal.τ Cert.ProjDwIdeal.sig) → Buf (Elt Ideal) ℓ) (g : Dev Cert.ProjDwIdeal.nD → PrngReg), Pre_ProjDwIdeal m →
    θ_run (Cert.ProjDwIdeal.defs (F := Ideal)) (onTc (τ := Cert.ProjDwIdeal.τ) (Cert.ProjDwIdeal.main (F := Ideal))) ⟨m, fun _ => 0, g⟩ (fun r => (∀ c : Dev Cert.ProjDwIdeal.nD,
      r.2.mem ((c.tc : Thread Cert.ProjDwIdeal.nD Cert.ProjDwIdeal.τ).loc Cert.ProjDwIdeal.main_arg0) = m ((c.tc : Thread Cert.ProjDwIdeal.nD Cert.ProjDwIdeal.τ).loc Cert.ProjDwIdeal.main_arg0)
      ∧ r.2.mem ((c.tc : Thread Cert.ProjDwIdeal.nD Cert.ProjDwIdeal.τ).loc Cert.ProjDwIdeal.main_arg1) = m ((c.tc : Thread Cert.ProjDwIdeal.nD Cert.ProjDwIdeal.τ).loc Cert.ProjDwIdeal.main_arg1))
      ∧ r.2.sem = fun _ => 0)

def quiescent_ProjDwRefIdeal [hProjDwRefIdeal : Cert.ProjDwRefIdeal.Facts] : Prop :=
  ∀ (m : (ℓ : Loc Cert.ProjDwRefIdeal.nD Cert.ProjDwRefIdeal.τ Cert.ProjDwRefIdeal.sig) → Buf (Elt Ideal) ℓ) (g : Dev Cert.ProjDwRefIdeal.nD → PrngReg), Pre_ProjDwRefIdeal m →
    θ_run (Cert.ProjDwRefIdeal.defs (F := Ideal)) (onTc (τ := Cert.ProjDwRefIdeal.τ) (Cert.ProjDwRefIdeal.main (F := Ideal))) ⟨m, fun _ => 0, g⟩ (fun r => (∀ c : Dev Cert.ProjDwRefIdeal.nD,
      r.2.mem ((c.tc : Thread Cert.ProjDwRefIdeal.nD Cert.ProjDwRefIdeal.τ).loc Cert.ProjDwRefIdeal.main_arg0) = m ((c.tc : Thread Cert.ProjDwRefIdeal.nD Cert.ProjDwRefIdeal.τ).loc Cert.ProjDwRefIdeal.main_arg0)
      ∧ r.2.mem ((c.tc : Thread Cert.ProjDwRefIdeal.nD Cert.ProjDwRefIdeal.τ).loc Cert.ProjDwRefIdeal.main_arg1) = m ((c.tc : Thread Cert.ProjDwRefIdeal.nD Cert.ProjDwRefIdeal.τ).loc Cert.ProjDwRefIdeal.main_arg1))
      ∧ r.2.sem = fun _ => 0)

def quiescent_FfnOutDw [hFfnOutDw : Cert.FfnOutDw.Facts] : Prop :=
  ∀ (m : (ℓ : Loc Cert.FfnOutDw.nD Cert.FfnOutDw.τ Cert.FfnOutDw.sig) → Buf (Elt Bits) ℓ) (g : Dev Cert.FfnOutDw.nD → PrngReg), Pre_FfnOutDw m →
    θ_run (Cert.FfnOutDw.defs (F := Bits)) (onTc (τ := Cert.FfnOutDw.τ) (Cert.FfnOutDw.main (F := Bits))) ⟨m, fun _ => 0, g⟩ (fun r => (∀ c : Dev Cert.FfnOutDw.nD,
      r.2.mem ((c.tc : Thread Cert.FfnOutDw.nD Cert.FfnOutDw.τ).loc Cert.FfnOutDw.main_arg0) = m ((c.tc : Thread Cert.FfnOutDw.nD Cert.FfnOutDw.τ).loc Cert.FfnOutDw.main_arg0)
      ∧ r.2.mem ((c.tc : Thread Cert.FfnOutDw.nD Cert.FfnOutDw.τ).loc Cert.FfnOutDw.main_arg1) = m ((c.tc : Thread Cert.FfnOutDw.nD Cert.FfnOutDw.τ).loc Cert.FfnOutDw.main_arg1))
      ∧ r.2.sem = fun _ => 0)

def quiescent_FfnOutDwIdeal [hFfnOutDwIdeal : Cert.FfnOutDwIdeal.Facts] : Prop :=
  ∀ (m : (ℓ : Loc Cert.FfnOutDwIdeal.nD Cert.FfnOutDwIdeal.τ Cert.FfnOutDwIdeal.sig) → Buf (Elt Ideal) ℓ) (g : Dev Cert.FfnOutDwIdeal.nD → PrngReg), Pre_FfnOutDwIdeal m →
    θ_run (Cert.FfnOutDwIdeal.defs (F := Ideal)) (onTc (τ := Cert.FfnOutDwIdeal.τ) (Cert.FfnOutDwIdeal.main (F := Ideal))) ⟨m, fun _ => 0, g⟩ (fun r => (∀ c : Dev Cert.FfnOutDwIdeal.nD,
      r.2.mem ((c.tc : Thread Cert.FfnOutDwIdeal.nD Cert.FfnOutDwIdeal.τ).loc Cert.FfnOutDwIdeal.main_arg0) = m ((c.tc : Thread Cert.FfnOutDwIdeal.nD Cert.FfnOutDwIdeal.τ).loc Cert.FfnOutDwIdeal.main_arg0)
      ∧ r.2.mem ((c.tc : Thread Cert.FfnOutDwIdeal.nD Cert.FfnOutDwIdeal.τ).loc Cert.FfnOutDwIdeal.main_arg1) = m ((c.tc : Thread Cert.FfnOutDwIdeal.nD Cert.FfnOutDwIdeal.τ).loc Cert.FfnOutDwIdeal.main_arg1))
      ∧ r.2.sem = fun _ => 0)

def quiescent_FfnOutDwRefIdeal [hFfnOutDwRefIdeal : Cert.FfnOutDwRefIdeal.Facts] : Prop :=
  ∀ (m : (ℓ : Loc Cert.FfnOutDwRefIdeal.nD Cert.FfnOutDwRefIdeal.τ Cert.FfnOutDwRefIdeal.sig) → Buf (Elt Ideal) ℓ) (g : Dev Cert.FfnOutDwRefIdeal.nD → PrngReg), Pre_FfnOutDwRefIdeal m →
    θ_run (Cert.FfnOutDwRefIdeal.defs (F := Ideal)) (onTc (τ := Cert.FfnOutDwRefIdeal.τ) (Cert.FfnOutDwRefIdeal.main (F := Ideal))) ⟨m, fun _ => 0, g⟩ (fun r => (∀ c : Dev Cert.FfnOutDwRefIdeal.nD,
      r.2.mem ((c.tc : Thread Cert.FfnOutDwRefIdeal.nD Cert.FfnOutDwRefIdeal.τ).loc Cert.FfnOutDwRefIdeal.main_arg0) = m ((c.tc : Thread Cert.FfnOutDwRefIdeal.nD Cert.FfnOutDwRefIdeal.τ).loc Cert.FfnOutDwRefIdeal.main_arg0)
      ∧ r.2.mem ((c.tc : Thread Cert.FfnOutDwRefIdeal.nD Cert.FfnOutDwRefIdeal.τ).loc Cert.FfnOutDwRefIdeal.main_arg1) = m ((c.tc : Thread Cert.FfnOutDwRefIdeal.nD Cert.FfnOutDwRefIdeal.τ).loc Cert.FfnOutDwRefIdeal.main_arg1))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1))
      ∧ r.2.sem = fun _ => 0)

def quiescent_FfnInDx [hFfnInDx : Cert.FfnInDx.Facts] : Prop :=
  ∀ (m : (ℓ : Loc Cert.FfnInDx.nD Cert.FfnInDx.τ Cert.FfnInDx.sig) → Buf (Elt Bits) ℓ) (g : Dev Cert.FfnInDx.nD → PrngReg), Pre_FfnInDx m →
    θ_run (Cert.FfnInDx.defs (F := Bits)) (onTc (τ := Cert.FfnInDx.τ) (Cert.FfnInDx.main (F := Bits))) ⟨m, fun _ => 0, g⟩ (fun r => (∀ c : Dev Cert.FfnInDx.nD,
      r.2.mem ((c.tc : Thread Cert.FfnInDx.nD Cert.FfnInDx.τ).loc Cert.FfnInDx.main_arg0) = m ((c.tc : Thread Cert.FfnInDx.nD Cert.FfnInDx.τ).loc Cert.FfnInDx.main_arg0)
      ∧ r.2.mem ((c.tc : Thread Cert.FfnInDx.nD Cert.FfnInDx.τ).loc Cert.FfnInDx.main_arg1) = m ((c.tc : Thread Cert.FfnInDx.nD Cert.FfnInDx.τ).loc Cert.FfnInDx.main_arg1)
      ∧ r.2.mem ((c.tc : Thread Cert.FfnInDx.nD Cert.FfnInDx.τ).loc Cert.FfnInDx.main_arg2) = m ((c.tc : Thread Cert.FfnInDx.nD Cert.FfnInDx.τ).loc Cert.FfnInDx.main_arg2)
      ∧ r.2.mem ((c.tc : Thread Cert.FfnInDx.nD Cert.FfnInDx.τ).loc Cert.FfnInDx.main_arg3) = m ((c.tc : Thread Cert.FfnInDx.nD Cert.FfnInDx.τ).loc Cert.FfnInDx.main_arg3)
      ∧ r.2.mem ((c.tc : Thread Cert.FfnInDx.nD Cert.FfnInDx.τ).loc Cert.FfnInDx.main_arg4) = m ((c.tc : Thread Cert.FfnInDx.nD Cert.FfnInDx.τ).loc Cert.FfnInDx.main_arg4)
      ∧ r.2.mem ((c.tc : Thread Cert.FfnInDx.nD Cert.FfnInDx.τ).loc Cert.FfnInDx.main_arg5) = m ((c.tc : Thread Cert.FfnInDx.nD Cert.FfnInDx.τ).loc Cert.FfnInDx.main_arg5)
      ∧ r.2.mem ((c.tc : Thread Cert.FfnInDx.nD Cert.FfnInDx.τ).loc Cert.FfnInDx.main_arg6) = m ((c.tc : Thread Cert.FfnInDx.nD Cert.FfnInDx.τ).loc Cert.FfnInDx.main_arg6)
      ∧ r.2.mem ((c.tc : Thread Cert.FfnInDx.nD Cert.FfnInDx.τ).loc Cert.FfnInDx.main_arg7) = m ((c.tc : Thread Cert.FfnInDx.nD Cert.FfnInDx.τ).loc Cert.FfnInDx.main_arg7)
      ∧ r.2.mem ((c.tc : Thread Cert.FfnInDx.nD Cert.FfnInDx.τ).loc Cert.FfnInDx.main_arg8) = m ((c.tc : Thread Cert.FfnInDx.nD Cert.FfnInDx.τ).loc Cert.FfnInDx.main_arg8))
      ∧ r.2.sem = fun _ => 0)

def quiescent_FfnInDxIdeal [hFfnInDxIdeal : Cert.FfnInDxIdeal.Facts] : Prop :=
  ∀ (m : (ℓ : Loc Cert.FfnInDxIdeal.nD Cert.FfnInDxIdeal.τ Cert.FfnInDxIdeal.sig) → Buf (Elt Ideal) ℓ) (g : Dev Cert.FfnInDxIdeal.nD → PrngReg), Pre_FfnInDxIdeal m →
    θ_run (Cert.FfnInDxIdeal.defs (F := Ideal)) (onTc (τ := Cert.FfnInDxIdeal.τ) (Cert.FfnInDxIdeal.main (F := Ideal))) ⟨m, fun _ => 0, g⟩ (fun r => (∀ c : Dev Cert.FfnInDxIdeal.nD,
      r.2.mem ((c.tc : Thread Cert.FfnInDxIdeal.nD Cert.FfnInDxIdeal.τ).loc Cert.FfnInDxIdeal.main_arg0) = m ((c.tc : Thread Cert.FfnInDxIdeal.nD Cert.FfnInDxIdeal.τ).loc Cert.FfnInDxIdeal.main_arg0)
      ∧ r.2.mem ((c.tc : Thread Cert.FfnInDxIdeal.nD Cert.FfnInDxIdeal.τ).loc Cert.FfnInDxIdeal.main_arg1) = m ((c.tc : Thread Cert.FfnInDxIdeal.nD Cert.FfnInDxIdeal.τ).loc Cert.FfnInDxIdeal.main_arg1)
      ∧ r.2.mem ((c.tc : Thread Cert.FfnInDxIdeal.nD Cert.FfnInDxIdeal.τ).loc Cert.FfnInDxIdeal.main_arg2) = m ((c.tc : Thread Cert.FfnInDxIdeal.nD Cert.FfnInDxIdeal.τ).loc Cert.FfnInDxIdeal.main_arg2)
      ∧ r.2.mem ((c.tc : Thread Cert.FfnInDxIdeal.nD Cert.FfnInDxIdeal.τ).loc Cert.FfnInDxIdeal.main_arg3) = m ((c.tc : Thread Cert.FfnInDxIdeal.nD Cert.FfnInDxIdeal.τ).loc Cert.FfnInDxIdeal.main_arg3)
      ∧ r.2.mem ((c.tc : Thread Cert.FfnInDxIdeal.nD Cert.FfnInDxIdeal.τ).loc Cert.FfnInDxIdeal.main_arg4) = m ((c.tc : Thread Cert.FfnInDxIdeal.nD Cert.FfnInDxIdeal.τ).loc Cert.FfnInDxIdeal.main_arg4)
      ∧ r.2.mem ((c.tc : Thread Cert.FfnInDxIdeal.nD Cert.FfnInDxIdeal.τ).loc Cert.FfnInDxIdeal.main_arg5) = m ((c.tc : Thread Cert.FfnInDxIdeal.nD Cert.FfnInDxIdeal.τ).loc Cert.FfnInDxIdeal.main_arg5)
      ∧ r.2.mem ((c.tc : Thread Cert.FfnInDxIdeal.nD Cert.FfnInDxIdeal.τ).loc Cert.FfnInDxIdeal.main_arg6) = m ((c.tc : Thread Cert.FfnInDxIdeal.nD Cert.FfnInDxIdeal.τ).loc Cert.FfnInDxIdeal.main_arg6)
      ∧ r.2.mem ((c.tc : Thread Cert.FfnInDxIdeal.nD Cert.FfnInDxIdeal.τ).loc Cert.FfnInDxIdeal.main_arg7) = m ((c.tc : Thread Cert.FfnInDxIdeal.nD Cert.FfnInDxIdeal.τ).loc Cert.FfnInDxIdeal.main_arg7)
      ∧ r.2.mem ((c.tc : Thread Cert.FfnInDxIdeal.nD Cert.FfnInDxIdeal.τ).loc Cert.FfnInDxIdeal.main_arg8) = m ((c.tc : Thread Cert.FfnInDxIdeal.nD Cert.FfnInDxIdeal.τ).loc Cert.FfnInDxIdeal.main_arg8))
      ∧ r.2.sem = fun _ => 0)

def quiescent_FfnInDxIdeal_pre_finite_dx [hFfnInDxIdeal : Cert.FfnInDxIdeal.Facts] [hPre_finite_dx : Cert.Pre_finite_dx.Facts] : Prop :=
  ∀ (m : (ℓ : Loc Cert.FfnInDxIdeal.nD Cert.FfnInDxIdeal.τ Cert.FfnInDxIdeal.sig) → Buf (Elt Ideal) ℓ) (g : Dev Cert.FfnInDxIdeal.nD → PrngReg), Pre_FfnInDxIdeal_finite_dx m →
    θ_run (Cert.FfnInDxIdeal.defs (F := Ideal)) (onTc (τ := Cert.FfnInDxIdeal.τ) (Cert.FfnInDxIdeal.main (F := Ideal))) ⟨m, fun _ => 0, g⟩ (fun r => (∀ c : Dev Cert.FfnInDxIdeal.nD,
      r.2.mem ((c.tc : Thread Cert.FfnInDxIdeal.nD Cert.FfnInDxIdeal.τ).loc Cert.FfnInDxIdeal.main_arg0) = m ((c.tc : Thread Cert.FfnInDxIdeal.nD Cert.FfnInDxIdeal.τ).loc Cert.FfnInDxIdeal.main_arg0)
      ∧ r.2.mem ((c.tc : Thread Cert.FfnInDxIdeal.nD Cert.FfnInDxIdeal.τ).loc Cert.FfnInDxIdeal.main_arg1) = m ((c.tc : Thread Cert.FfnInDxIdeal.nD Cert.FfnInDxIdeal.τ).loc Cert.FfnInDxIdeal.main_arg1)
      ∧ r.2.mem ((c.tc : Thread Cert.FfnInDxIdeal.nD Cert.FfnInDxIdeal.τ).loc Cert.FfnInDxIdeal.main_arg2) = m ((c.tc : Thread Cert.FfnInDxIdeal.nD Cert.FfnInDxIdeal.τ).loc Cert.FfnInDxIdeal.main_arg2)
      ∧ r.2.mem ((c.tc : Thread Cert.FfnInDxIdeal.nD Cert.FfnInDxIdeal.τ).loc Cert.FfnInDxIdeal.main_arg3) = m ((c.tc : Thread Cert.FfnInDxIdeal.nD Cert.FfnInDxIdeal.τ).loc Cert.FfnInDxIdeal.main_arg3)
      ∧ r.2.mem ((c.tc : Thread Cert.FfnInDxIdeal.nD Cert.FfnInDxIdeal.τ).loc Cert.FfnInDxIdeal.main_arg4) = m ((c.tc : Thread Cert.FfnInDxIdeal.nD Cert.FfnInDxIdeal.τ).loc Cert.FfnInDxIdeal.main_arg4)
      ∧ r.2.mem ((c.tc : Thread Cert.FfnInDxIdeal.nD Cert.FfnInDxIdeal.τ).loc Cert.FfnInDxIdeal.main_arg5) = m ((c.tc : Thread Cert.FfnInDxIdeal.nD Cert.FfnInDxIdeal.τ).loc Cert.FfnInDxIdeal.main_arg5)
      ∧ r.2.mem ((c.tc : Thread Cert.FfnInDxIdeal.nD Cert.FfnInDxIdeal.τ).loc Cert.FfnInDxIdeal.main_arg6) = m ((c.tc : Thread Cert.FfnInDxIdeal.nD Cert.FfnInDxIdeal.τ).loc Cert.FfnInDxIdeal.main_arg6)
      ∧ r.2.mem ((c.tc : Thread Cert.FfnInDxIdeal.nD Cert.FfnInDxIdeal.τ).loc Cert.FfnInDxIdeal.main_arg7) = m ((c.tc : Thread Cert.FfnInDxIdeal.nD Cert.FfnInDxIdeal.τ).loc Cert.FfnInDxIdeal.main_arg7)
      ∧ r.2.mem ((c.tc : Thread Cert.FfnInDxIdeal.nD Cert.FfnInDxIdeal.τ).loc Cert.FfnInDxIdeal.main_arg8) = m ((c.tc : Thread Cert.FfnInDxIdeal.nD Cert.FfnInDxIdeal.τ).loc Cert.FfnInDxIdeal.main_arg8))
      ∧ r.2.sem = fun _ => 0)

def quiescent_FfnInDxRefIdeal [hFfnInDxRefIdeal : Cert.FfnInDxRefIdeal.Facts] : Prop :=
  ∀ (m : (ℓ : Loc Cert.FfnInDxRefIdeal.nD Cert.FfnInDxRefIdeal.τ Cert.FfnInDxRefIdeal.sig) → Buf (Elt Ideal) ℓ) (g : Dev Cert.FfnInDxRefIdeal.nD → PrngReg), Pre_FfnInDxRefIdeal m →
    θ_run (Cert.FfnInDxRefIdeal.defs (F := Ideal)) (onTc (τ := Cert.FfnInDxRefIdeal.τ) (Cert.FfnInDxRefIdeal.main (F := Ideal))) ⟨m, fun _ => 0, g⟩ (fun r => (∀ c : Dev Cert.FfnInDxRefIdeal.nD,
      r.2.mem ((c.tc : Thread Cert.FfnInDxRefIdeal.nD Cert.FfnInDxRefIdeal.τ).loc Cert.FfnInDxRefIdeal.main_arg0) = m ((c.tc : Thread Cert.FfnInDxRefIdeal.nD Cert.FfnInDxRefIdeal.τ).loc Cert.FfnInDxRefIdeal.main_arg0)
      ∧ r.2.mem ((c.tc : Thread Cert.FfnInDxRefIdeal.nD Cert.FfnInDxRefIdeal.τ).loc Cert.FfnInDxRefIdeal.main_arg1) = m ((c.tc : Thread Cert.FfnInDxRefIdeal.nD Cert.FfnInDxRefIdeal.τ).loc Cert.FfnInDxRefIdeal.main_arg1)
      ∧ r.2.mem ((c.tc : Thread Cert.FfnInDxRefIdeal.nD Cert.FfnInDxRefIdeal.τ).loc Cert.FfnInDxRefIdeal.main_arg2) = m ((c.tc : Thread Cert.FfnInDxRefIdeal.nD Cert.FfnInDxRefIdeal.τ).loc Cert.FfnInDxRefIdeal.main_arg2)
      ∧ r.2.mem ((c.tc : Thread Cert.FfnInDxRefIdeal.nD Cert.FfnInDxRefIdeal.τ).loc Cert.FfnInDxRefIdeal.main_arg3) = m ((c.tc : Thread Cert.FfnInDxRefIdeal.nD Cert.FfnInDxRefIdeal.τ).loc Cert.FfnInDxRefIdeal.main_arg3)
      ∧ r.2.mem ((c.tc : Thread Cert.FfnInDxRefIdeal.nD Cert.FfnInDxRefIdeal.τ).loc Cert.FfnInDxRefIdeal.main_arg4) = m ((c.tc : Thread Cert.FfnInDxRefIdeal.nD Cert.FfnInDxRefIdeal.τ).loc Cert.FfnInDxRefIdeal.main_arg4)
      ∧ r.2.mem ((c.tc : Thread Cert.FfnInDxRefIdeal.nD Cert.FfnInDxRefIdeal.τ).loc Cert.FfnInDxRefIdeal.main_arg5) = m ((c.tc : Thread Cert.FfnInDxRefIdeal.nD Cert.FfnInDxRefIdeal.τ).loc Cert.FfnInDxRefIdeal.main_arg5)
      ∧ r.2.mem ((c.tc : Thread Cert.FfnInDxRefIdeal.nD Cert.FfnInDxRefIdeal.τ).loc Cert.FfnInDxRefIdeal.main_arg6) = m ((c.tc : Thread Cert.FfnInDxRefIdeal.nD Cert.FfnInDxRefIdeal.τ).loc Cert.FfnInDxRefIdeal.main_arg6)
      ∧ r.2.mem ((c.tc : Thread Cert.FfnInDxRefIdeal.nD Cert.FfnInDxRefIdeal.τ).loc Cert.FfnInDxRefIdeal.main_arg7) = m ((c.tc : Thread Cert.FfnInDxRefIdeal.nD Cert.FfnInDxRefIdeal.τ).loc Cert.FfnInDxRefIdeal.main_arg7)
      ∧ r.2.mem ((c.tc : Thread Cert.FfnInDxRefIdeal.nD Cert.FfnInDxRefIdeal.τ).loc Cert.FfnInDxRefIdeal.main_arg8) = m ((c.tc : Thread Cert.FfnInDxRefIdeal.nD Cert.FfnInDxRefIdeal.τ).loc Cert.FfnInDxRefIdeal.main_arg8))
      ∧ r.2.sem = fun _ => 0)

def quiescent_FfnInDxRefIdeal_pre_finite_dx [hFfnInDxRefIdeal : Cert.FfnInDxRefIdeal.Facts] [hPre_finite_dx : Cert.Pre_finite_dx.Facts] : Prop :=
  ∀ (m : (ℓ : Loc Cert.FfnInDxRefIdeal.nD Cert.FfnInDxRefIdeal.τ Cert.FfnInDxRefIdeal.sig) → Buf (Elt Ideal) ℓ) (g : Dev Cert.FfnInDxRefIdeal.nD → PrngReg), Pre_FfnInDxRefIdeal_finite_dx m →
    θ_run (Cert.FfnInDxRefIdeal.defs (F := Ideal)) (onTc (τ := Cert.FfnInDxRefIdeal.τ) (Cert.FfnInDxRefIdeal.main (F := Ideal))) ⟨m, fun _ => 0, g⟩ (fun r => (∀ c : Dev Cert.FfnInDxRefIdeal.nD,
      r.2.mem ((c.tc : Thread Cert.FfnInDxRefIdeal.nD Cert.FfnInDxRefIdeal.τ).loc Cert.FfnInDxRefIdeal.main_arg0) = m ((c.tc : Thread Cert.FfnInDxRefIdeal.nD Cert.FfnInDxRefIdeal.τ).loc Cert.FfnInDxRefIdeal.main_arg0)
      ∧ r.2.mem ((c.tc : Thread Cert.FfnInDxRefIdeal.nD Cert.FfnInDxRefIdeal.τ).loc Cert.FfnInDxRefIdeal.main_arg1) = m ((c.tc : Thread Cert.FfnInDxRefIdeal.nD Cert.FfnInDxRefIdeal.τ).loc Cert.FfnInDxRefIdeal.main_arg1)
      ∧ r.2.mem ((c.tc : Thread Cert.FfnInDxRefIdeal.nD Cert.FfnInDxRefIdeal.τ).loc Cert.FfnInDxRefIdeal.main_arg2) = m ((c.tc : Thread Cert.FfnInDxRefIdeal.nD Cert.FfnInDxRefIdeal.τ).loc Cert.FfnInDxRefIdeal.main_arg2)
      ∧ r.2.mem ((c.tc : Thread Cert.FfnInDxRefIdeal.nD Cert.FfnInDxRefIdeal.τ).loc Cert.FfnInDxRefIdeal.main_arg3) = m ((c.tc : Thread Cert.FfnInDxRefIdeal.nD Cert.FfnInDxRefIdeal.τ).loc Cert.FfnInDxRefIdeal.main_arg3)
      ∧ r.2.mem ((c.tc : Thread Cert.FfnInDxRefIdeal.nD Cert.FfnInDxRefIdeal.τ).loc Cert.FfnInDxRefIdeal.main_arg4) = m ((c.tc : Thread Cert.FfnInDxRefIdeal.nD Cert.FfnInDxRefIdeal.τ).loc Cert.FfnInDxRefIdeal.main_arg4)
      ∧ r.2.mem ((c.tc : Thread Cert.FfnInDxRefIdeal.nD Cert.FfnInDxRefIdeal.τ).loc Cert.FfnInDxRefIdeal.main_arg5) = m ((c.tc : Thread Cert.FfnInDxRefIdeal.nD Cert.FfnInDxRefIdeal.τ).loc Cert.FfnInDxRefIdeal.main_arg5)
      ∧ r.2.mem ((c.tc : Thread Cert.FfnInDxRefIdeal.nD Cert.FfnInDxRefIdeal.τ).loc Cert.FfnInDxRefIdeal.main_arg6) = m ((c.tc : Thread Cert.FfnInDxRefIdeal.nD Cert.FfnInDxRefIdeal.τ).loc Cert.FfnInDxRefIdeal.main_arg6)
      ∧ r.2.mem ((c.tc : Thread Cert.FfnInDxRefIdeal.nD Cert.FfnInDxRefIdeal.τ).loc Cert.FfnInDxRefIdeal.main_arg7) = m ((c.tc : Thread Cert.FfnInDxRefIdeal.nD Cert.FfnInDxRefIdeal.τ).loc Cert.FfnInDxRefIdeal.main_arg7)
      ∧ r.2.mem ((c.tc : Thread Cert.FfnInDxRefIdeal.nD Cert.FfnInDxRefIdeal.τ).loc Cert.FfnInDxRefIdeal.main_arg8) = m ((c.tc : Thread Cert.FfnInDxRefIdeal.nD Cert.FfnInDxRefIdeal.τ).loc Cert.FfnInDxRefIdeal.main_arg8))
      ∧ r.2.sem = fun _ => 0)

def quiescent_ProjDx [hProjDx : Cert.ProjDx.Facts] : Prop :=
  ∀ (m : (ℓ : Loc Cert.ProjDx.nD Cert.ProjDx.τ Cert.ProjDx.sig) → Buf (Elt Bits) ℓ) (g : Dev Cert.ProjDx.nD → PrngReg), Pre_ProjDx m →
    θ_run (Cert.ProjDx.defs (F := Bits)) (onTc (τ := Cert.ProjDx.τ) (Cert.ProjDx.main (F := Bits))) ⟨m, fun _ => 0, g⟩ (fun r => (∀ c : Dev Cert.ProjDx.nD,
      r.2.mem ((c.tc : Thread Cert.ProjDx.nD Cert.ProjDx.τ).loc Cert.ProjDx.main_arg0) = m ((c.tc : Thread Cert.ProjDx.nD Cert.ProjDx.τ).loc Cert.ProjDx.main_arg0)
      ∧ r.2.mem ((c.tc : Thread Cert.ProjDx.nD Cert.ProjDx.τ).loc Cert.ProjDx.main_arg1) = m ((c.tc : Thread Cert.ProjDx.nD Cert.ProjDx.τ).loc Cert.ProjDx.main_arg1)
      ∧ r.2.mem ((c.tc : Thread Cert.ProjDx.nD Cert.ProjDx.τ).loc Cert.ProjDx.main_arg2) = m ((c.tc : Thread Cert.ProjDx.nD Cert.ProjDx.τ).loc Cert.ProjDx.main_arg2)
      ∧ r.2.mem ((c.tc : Thread Cert.ProjDx.nD Cert.ProjDx.τ).loc Cert.ProjDx.main_arg3) = m ((c.tc : Thread Cert.ProjDx.nD Cert.ProjDx.τ).loc Cert.ProjDx.main_arg3)
      ∧ r.2.mem ((c.tc : Thread Cert.ProjDx.nD Cert.ProjDx.τ).loc Cert.ProjDx.main_arg4) = m ((c.tc : Thread Cert.ProjDx.nD Cert.ProjDx.τ).loc Cert.ProjDx.main_arg4)
      ∧ r.2.mem ((c.tc : Thread Cert.ProjDx.nD Cert.ProjDx.τ).loc Cert.ProjDx.main_arg5) = m ((c.tc : Thread Cert.ProjDx.nD Cert.ProjDx.τ).loc Cert.ProjDx.main_arg5)
      ∧ r.2.mem ((c.tc : Thread Cert.ProjDx.nD Cert.ProjDx.τ).loc Cert.ProjDx.main_arg6) = m ((c.tc : Thread Cert.ProjDx.nD Cert.ProjDx.τ).loc Cert.ProjDx.main_arg6)
      ∧ r.2.mem ((c.tc : Thread Cert.ProjDx.nD Cert.ProjDx.τ).loc Cert.ProjDx.main_arg7) = m ((c.tc : Thread Cert.ProjDx.nD Cert.ProjDx.τ).loc Cert.ProjDx.main_arg7)
      ∧ r.2.mem ((c.tc : Thread Cert.ProjDx.nD Cert.ProjDx.τ).loc Cert.ProjDx.main_arg8) = m ((c.tc : Thread Cert.ProjDx.nD Cert.ProjDx.τ).loc Cert.ProjDx.main_arg8))
      ∧ r.2.sem = fun _ => 0)

def quiescent_ProjDxIdeal [hProjDxIdeal : Cert.ProjDxIdeal.Facts] : Prop :=
  ∀ (m : (ℓ : Loc Cert.ProjDxIdeal.nD Cert.ProjDxIdeal.τ Cert.ProjDxIdeal.sig) → Buf (Elt Ideal) ℓ) (g : Dev Cert.ProjDxIdeal.nD → PrngReg), Pre_ProjDxIdeal m →
    θ_run (Cert.ProjDxIdeal.defs (F := Ideal)) (onTc (τ := Cert.ProjDxIdeal.τ) (Cert.ProjDxIdeal.main (F := Ideal))) ⟨m, fun _ => 0, g⟩ (fun r => (∀ c : Dev Cert.ProjDxIdeal.nD,
      r.2.mem ((c.tc : Thread Cert.ProjDxIdeal.nD Cert.ProjDxIdeal.τ).loc Cert.ProjDxIdeal.main_arg0) = m ((c.tc : Thread Cert.ProjDxIdeal.nD Cert.ProjDxIdeal.τ).loc Cert.ProjDxIdeal.main_arg0)
      ∧ r.2.mem ((c.tc : Thread Cert.ProjDxIdeal.nD Cert.ProjDxIdeal.τ).loc Cert.ProjDxIdeal.main_arg1) = m ((c.tc : Thread Cert.ProjDxIdeal.nD Cert.ProjDxIdeal.τ).loc Cert.ProjDxIdeal.main_arg1)
      ∧ r.2.mem ((c.tc : Thread Cert.ProjDxIdeal.nD Cert.ProjDxIdeal.τ).loc Cert.ProjDxIdeal.main_arg2) = m ((c.tc : Thread Cert.ProjDxIdeal.nD Cert.ProjDxIdeal.τ).loc Cert.ProjDxIdeal.main_arg2)
      ∧ r.2.mem ((c.tc : Thread Cert.ProjDxIdeal.nD Cert.ProjDxIdeal.τ).loc Cert.ProjDxIdeal.main_arg3) = m ((c.tc : Thread Cert.ProjDxIdeal.nD Cert.ProjDxIdeal.τ).loc Cert.ProjDxIdeal.main_arg3)
      ∧ r.2.mem ((c.tc : Thread Cert.ProjDxIdeal.nD Cert.ProjDxIdeal.τ).loc Cert.ProjDxIdeal.main_arg4) = m ((c.tc : Thread Cert.ProjDxIdeal.nD Cert.ProjDxIdeal.τ).loc Cert.ProjDxIdeal.main_arg4)
      ∧ r.2.mem ((c.tc : Thread Cert.ProjDxIdeal.nD Cert.ProjDxIdeal.τ).loc Cert.ProjDxIdeal.main_arg5) = m ((c.tc : Thread Cert.ProjDxIdeal.nD Cert.ProjDxIdeal.τ).loc Cert.ProjDxIdeal.main_arg5)
      ∧ r.2.mem ((c.tc : Thread Cert.ProjDxIdeal.nD Cert.ProjDxIdeal.τ).loc Cert.ProjDxIdeal.main_arg6) = m ((c.tc : Thread Cert.ProjDxIdeal.nD Cert.ProjDxIdeal.τ).loc Cert.ProjDxIdeal.main_arg6)
      ∧ r.2.mem ((c.tc : Thread Cert.ProjDxIdeal.nD Cert.ProjDxIdeal.τ).loc Cert.ProjDxIdeal.main_arg7) = m ((c.tc : Thread Cert.ProjDxIdeal.nD Cert.ProjDxIdeal.τ).loc Cert.ProjDxIdeal.main_arg7)
      ∧ r.2.mem ((c.tc : Thread Cert.ProjDxIdeal.nD Cert.ProjDxIdeal.τ).loc Cert.ProjDxIdeal.main_arg8) = m ((c.tc : Thread Cert.ProjDxIdeal.nD Cert.ProjDxIdeal.τ).loc Cert.ProjDxIdeal.main_arg8))
      ∧ r.2.sem = fun _ => 0)

def quiescent_ProjDxIdeal_pre_finite_proj_dx [hProjDxIdeal : Cert.ProjDxIdeal.Facts] [hPre_finite_proj_dx : Cert.Pre_finite_proj_dx.Facts] : Prop :=
  ∀ (m : (ℓ : Loc Cert.ProjDxIdeal.nD Cert.ProjDxIdeal.τ Cert.ProjDxIdeal.sig) → Buf (Elt Ideal) ℓ) (g : Dev Cert.ProjDxIdeal.nD → PrngReg), Pre_ProjDxIdeal_finite_proj_dx m →
    θ_run (Cert.ProjDxIdeal.defs (F := Ideal)) (onTc (τ := Cert.ProjDxIdeal.τ) (Cert.ProjDxIdeal.main (F := Ideal))) ⟨m, fun _ => 0, g⟩ (fun r => (∀ c : Dev Cert.ProjDxIdeal.nD,
      r.2.mem ((c.tc : Thread Cert.ProjDxIdeal.nD Cert.ProjDxIdeal.τ).loc Cert.ProjDxIdeal.main_arg0) = m ((c.tc : Thread Cert.ProjDxIdeal.nD Cert.ProjDxIdeal.τ).loc Cert.ProjDxIdeal.main_arg0)
      ∧ r.2.mem ((c.tc : Thread Cert.ProjDxIdeal.nD Cert.ProjDxIdeal.τ).loc Cert.ProjDxIdeal.main_arg1) = m ((c.tc : Thread Cert.ProjDxIdeal.nD Cert.ProjDxIdeal.τ).loc Cert.ProjDxIdeal.main_arg1)
      ∧ r.2.mem ((c.tc : Thread Cert.ProjDxIdeal.nD Cert.ProjDxIdeal.τ).loc Cert.ProjDxIdeal.main_arg2) = m ((c.tc : Thread Cert.ProjDxIdeal.nD Cert.ProjDxIdeal.τ).loc Cert.ProjDxIdeal.main_arg2)
      ∧ r.2.mem ((c.tc : Thread Cert.ProjDxIdeal.nD Cert.ProjDxIdeal.τ).loc Cert.ProjDxIdeal.main_arg3) = m ((c.tc : Thread Cert.ProjDxIdeal.nD Cert.ProjDxIdeal.τ).loc Cert.ProjDxIdeal.main_arg3)
      ∧ r.2.mem ((c.tc : Thread Cert.ProjDxIdeal.nD Cert.ProjDxIdeal.τ).loc Cert.ProjDxIdeal.main_arg4) = m ((c.tc : Thread Cert.ProjDxIdeal.nD Cert.ProjDxIdeal.τ).loc Cert.ProjDxIdeal.main_arg4)
      ∧ r.2.mem ((c.tc : Thread Cert.ProjDxIdeal.nD Cert.ProjDxIdeal.τ).loc Cert.ProjDxIdeal.main_arg5) = m ((c.tc : Thread Cert.ProjDxIdeal.nD Cert.ProjDxIdeal.τ).loc Cert.ProjDxIdeal.main_arg5)
      ∧ r.2.mem ((c.tc : Thread Cert.ProjDxIdeal.nD Cert.ProjDxIdeal.τ).loc Cert.ProjDxIdeal.main_arg6) = m ((c.tc : Thread Cert.ProjDxIdeal.nD Cert.ProjDxIdeal.τ).loc Cert.ProjDxIdeal.main_arg6)
      ∧ r.2.mem ((c.tc : Thread Cert.ProjDxIdeal.nD Cert.ProjDxIdeal.τ).loc Cert.ProjDxIdeal.main_arg7) = m ((c.tc : Thread Cert.ProjDxIdeal.nD Cert.ProjDxIdeal.τ).loc Cert.ProjDxIdeal.main_arg7)
      ∧ r.2.mem ((c.tc : Thread Cert.ProjDxIdeal.nD Cert.ProjDxIdeal.τ).loc Cert.ProjDxIdeal.main_arg8) = m ((c.tc : Thread Cert.ProjDxIdeal.nD Cert.ProjDxIdeal.τ).loc Cert.ProjDxIdeal.main_arg8))
      ∧ r.2.sem = fun _ => 0)

def quiescent_ProjDxRefIdeal [hProjDxRefIdeal : Cert.ProjDxRefIdeal.Facts] : Prop :=
  ∀ (m : (ℓ : Loc Cert.ProjDxRefIdeal.nD Cert.ProjDxRefIdeal.τ Cert.ProjDxRefIdeal.sig) → Buf (Elt Ideal) ℓ) (g : Dev Cert.ProjDxRefIdeal.nD → PrngReg), Pre_ProjDxRefIdeal m →
    θ_run (Cert.ProjDxRefIdeal.defs (F := Ideal)) (onTc (τ := Cert.ProjDxRefIdeal.τ) (Cert.ProjDxRefIdeal.main (F := Ideal))) ⟨m, fun _ => 0, g⟩ (fun r => (∀ c : Dev Cert.ProjDxRefIdeal.nD,
      r.2.mem ((c.tc : Thread Cert.ProjDxRefIdeal.nD Cert.ProjDxRefIdeal.τ).loc Cert.ProjDxRefIdeal.main_arg0) = m ((c.tc : Thread Cert.ProjDxRefIdeal.nD Cert.ProjDxRefIdeal.τ).loc Cert.ProjDxRefIdeal.main_arg0)
      ∧ r.2.mem ((c.tc : Thread Cert.ProjDxRefIdeal.nD Cert.ProjDxRefIdeal.τ).loc Cert.ProjDxRefIdeal.main_arg1) = m ((c.tc : Thread Cert.ProjDxRefIdeal.nD Cert.ProjDxRefIdeal.τ).loc Cert.ProjDxRefIdeal.main_arg1)
      ∧ r.2.mem ((c.tc : Thread Cert.ProjDxRefIdeal.nD Cert.ProjDxRefIdeal.τ).loc Cert.ProjDxRefIdeal.main_arg2) = m ((c.tc : Thread Cert.ProjDxRefIdeal.nD Cert.ProjDxRefIdeal.τ).loc Cert.ProjDxRefIdeal.main_arg2)
      ∧ r.2.mem ((c.tc : Thread Cert.ProjDxRefIdeal.nD Cert.ProjDxRefIdeal.τ).loc Cert.ProjDxRefIdeal.main_arg3) = m ((c.tc : Thread Cert.ProjDxRefIdeal.nD Cert.ProjDxRefIdeal.τ).loc Cert.ProjDxRefIdeal.main_arg3)
      ∧ r.2.mem ((c.tc : Thread Cert.ProjDxRefIdeal.nD Cert.ProjDxRefIdeal.τ).loc Cert.ProjDxRefIdeal.main_arg4) = m ((c.tc : Thread Cert.ProjDxRefIdeal.nD Cert.ProjDxRefIdeal.τ).loc Cert.ProjDxRefIdeal.main_arg4)
      ∧ r.2.mem ((c.tc : Thread Cert.ProjDxRefIdeal.nD Cert.ProjDxRefIdeal.τ).loc Cert.ProjDxRefIdeal.main_arg5) = m ((c.tc : Thread Cert.ProjDxRefIdeal.nD Cert.ProjDxRefIdeal.τ).loc Cert.ProjDxRefIdeal.main_arg5)
      ∧ r.2.mem ((c.tc : Thread Cert.ProjDxRefIdeal.nD Cert.ProjDxRefIdeal.τ).loc Cert.ProjDxRefIdeal.main_arg6) = m ((c.tc : Thread Cert.ProjDxRefIdeal.nD Cert.ProjDxRefIdeal.τ).loc Cert.ProjDxRefIdeal.main_arg6)
      ∧ r.2.mem ((c.tc : Thread Cert.ProjDxRefIdeal.nD Cert.ProjDxRefIdeal.τ).loc Cert.ProjDxRefIdeal.main_arg7) = m ((c.tc : Thread Cert.ProjDxRefIdeal.nD Cert.ProjDxRefIdeal.τ).loc Cert.ProjDxRefIdeal.main_arg7)
      ∧ r.2.mem ((c.tc : Thread Cert.ProjDxRefIdeal.nD Cert.ProjDxRefIdeal.τ).loc Cert.ProjDxRefIdeal.main_arg8) = m ((c.tc : Thread Cert.ProjDxRefIdeal.nD Cert.ProjDxRefIdeal.τ).loc Cert.ProjDxRefIdeal.main_arg8))
      ∧ r.2.sem = fun _ => 0)

def quiescent_ProjDxRefIdeal_pre_finite_proj_dx [hProjDxRefIdeal : Cert.ProjDxRefIdeal.Facts] [hPre_finite_proj_dx : Cert.Pre_finite_proj_dx.Facts] : Prop :=
  ∀ (m : (ℓ : Loc Cert.ProjDxRefIdeal.nD Cert.ProjDxRefIdeal.τ Cert.ProjDxRefIdeal.sig) → Buf (Elt Ideal) ℓ) (g : Dev Cert.ProjDxRefIdeal.nD → PrngReg), Pre_ProjDxRefIdeal_finite_proj_dx m →
    θ_run (Cert.ProjDxRefIdeal.defs (F := Ideal)) (onTc (τ := Cert.ProjDxRefIdeal.τ) (Cert.ProjDxRefIdeal.main (F := Ideal))) ⟨m, fun _ => 0, g⟩ (fun r => (∀ c : Dev Cert.ProjDxRefIdeal.nD,
      r.2.mem ((c.tc : Thread Cert.ProjDxRefIdeal.nD Cert.ProjDxRefIdeal.τ).loc Cert.ProjDxRefIdeal.main_arg0) = m ((c.tc : Thread Cert.ProjDxRefIdeal.nD Cert.ProjDxRefIdeal.τ).loc Cert.ProjDxRefIdeal.main_arg0)
      ∧ r.2.mem ((c.tc : Thread Cert.ProjDxRefIdeal.nD Cert.ProjDxRefIdeal.τ).loc Cert.ProjDxRefIdeal.main_arg1) = m ((c.tc : Thread Cert.ProjDxRefIdeal.nD Cert.ProjDxRefIdeal.τ).loc Cert.ProjDxRefIdeal.main_arg1)
      ∧ r.2.mem ((c.tc : Thread Cert.ProjDxRefIdeal.nD Cert.ProjDxRefIdeal.τ).loc Cert.ProjDxRefIdeal.main_arg2) = m ((c.tc : Thread Cert.ProjDxRefIdeal.nD Cert.ProjDxRefIdeal.τ).loc Cert.ProjDxRefIdeal.main_arg2)
      ∧ r.2.mem ((c.tc : Thread Cert.ProjDxRefIdeal.nD Cert.ProjDxRefIdeal.τ).loc Cert.ProjDxRefIdeal.main_arg3) = m ((c.tc : Thread Cert.ProjDxRefIdeal.nD Cert.ProjDxRefIdeal.τ).loc Cert.ProjDxRefIdeal.main_arg3)
      ∧ r.2.mem ((c.tc : Thread Cert.ProjDxRefIdeal.nD Cert.ProjDxRefIdeal.τ).loc Cert.ProjDxRefIdeal.main_arg4) = m ((c.tc : Thread Cert.ProjDxRefIdeal.nD Cert.ProjDxRefIdeal.τ).loc Cert.ProjDxRefIdeal.main_arg4)
      ∧ r.2.mem ((c.tc : Thread Cert.ProjDxRefIdeal.nD Cert.ProjDxRefIdeal.τ).loc Cert.ProjDxRefIdeal.main_arg5) = m ((c.tc : Thread Cert.ProjDxRefIdeal.nD Cert.ProjDxRefIdeal.τ).loc Cert.ProjDxRefIdeal.main_arg5)
      ∧ r.2.mem ((c.tc : Thread Cert.ProjDxRefIdeal.nD Cert.ProjDxRefIdeal.τ).loc Cert.ProjDxRefIdeal.main_arg6) = m ((c.tc : Thread Cert.ProjDxRefIdeal.nD Cert.ProjDxRefIdeal.τ).loc Cert.ProjDxRefIdeal.main_arg6)
      ∧ r.2.mem ((c.tc : Thread Cert.ProjDxRefIdeal.nD Cert.ProjDxRefIdeal.τ).loc Cert.ProjDxRefIdeal.main_arg7) = m ((c.tc : Thread Cert.ProjDxRefIdeal.nD Cert.ProjDxRefIdeal.τ).loc Cert.ProjDxRefIdeal.main_arg7)
      ∧ r.2.mem ((c.tc : Thread Cert.ProjDxRefIdeal.nD Cert.ProjDxRefIdeal.τ).loc Cert.ProjDxRefIdeal.main_arg8) = m ((c.tc : Thread Cert.ProjDxRefIdeal.nD Cert.ProjDxRefIdeal.τ).loc Cert.ProjDxRefIdeal.main_arg8))
      ∧ r.2.sem = fun _ => 0)

def quiescent_ProjDxFirst [hProjDxFirst : Cert.ProjDxFirst.Facts] : Prop :=
  ∀ (m : (ℓ : Loc Cert.ProjDxFirst.nD Cert.ProjDxFirst.τ Cert.ProjDxFirst.sig) → Buf (Elt Bits) ℓ) (g : Dev Cert.ProjDxFirst.nD → PrngReg), Pre_ProjDxFirst m →
    θ_run (Cert.ProjDxFirst.defs (F := Bits)) (onTc (τ := Cert.ProjDxFirst.τ) (Cert.ProjDxFirst.main (F := Bits))) ⟨m, fun _ => 0, g⟩ (fun r => (∀ c : Dev Cert.ProjDxFirst.nD,
      r.2.mem ((c.tc : Thread Cert.ProjDxFirst.nD Cert.ProjDxFirst.τ).loc Cert.ProjDxFirst.main_arg0) = m ((c.tc : Thread Cert.ProjDxFirst.nD Cert.ProjDxFirst.τ).loc Cert.ProjDxFirst.main_arg0)
      ∧ r.2.mem ((c.tc : Thread Cert.ProjDxFirst.nD Cert.ProjDxFirst.τ).loc Cert.ProjDxFirst.main_arg1) = m ((c.tc : Thread Cert.ProjDxFirst.nD Cert.ProjDxFirst.τ).loc Cert.ProjDxFirst.main_arg1)
      ∧ r.2.mem ((c.tc : Thread Cert.ProjDxFirst.nD Cert.ProjDxFirst.τ).loc Cert.ProjDxFirst.main_arg2) = m ((c.tc : Thread Cert.ProjDxFirst.nD Cert.ProjDxFirst.τ).loc Cert.ProjDxFirst.main_arg2)
      ∧ r.2.mem ((c.tc : Thread Cert.ProjDxFirst.nD Cert.ProjDxFirst.τ).loc Cert.ProjDxFirst.main_arg3) = m ((c.tc : Thread Cert.ProjDxFirst.nD Cert.ProjDxFirst.τ).loc Cert.ProjDxFirst.main_arg3)
      ∧ r.2.mem ((c.tc : Thread Cert.ProjDxFirst.nD Cert.ProjDxFirst.τ).loc Cert.ProjDxFirst.main_arg4) = m ((c.tc : Thread Cert.ProjDxFirst.nD Cert.ProjDxFirst.τ).loc Cert.ProjDxFirst.main_arg4)
      ∧ r.2.mem ((c.tc : Thread Cert.ProjDxFirst.nD Cert.ProjDxFirst.τ).loc Cert.ProjDxFirst.main_arg5) = m ((c.tc : Thread Cert.ProjDxFirst.nD Cert.ProjDxFirst.τ).loc Cert.ProjDxFirst.main_arg5)
      ∧ r.2.mem ((c.tc : Thread Cert.ProjDxFirst.nD Cert.ProjDxFirst.τ).loc Cert.ProjDxFirst.main_arg6) = m ((c.tc : Thread Cert.ProjDxFirst.nD Cert.ProjDxFirst.τ).loc Cert.ProjDxFirst.main_arg6))
      ∧ r.2.sem = fun _ => 0)

def quiescent_ProjDxFirstIdeal [hProjDxFirstIdeal : Cert.ProjDxFirstIdeal.Facts] : Prop :=
  ∀ (m : (ℓ : Loc Cert.ProjDxFirstIdeal.nD Cert.ProjDxFirstIdeal.τ Cert.ProjDxFirstIdeal.sig) → Buf (Elt Ideal) ℓ) (g : Dev Cert.ProjDxFirstIdeal.nD → PrngReg), Pre_ProjDxFirstIdeal m →
    θ_run (Cert.ProjDxFirstIdeal.defs (F := Ideal)) (onTc (τ := Cert.ProjDxFirstIdeal.τ) (Cert.ProjDxFirstIdeal.main (F := Ideal))) ⟨m, fun _ => 0, g⟩ (fun r => (∀ c : Dev Cert.ProjDxFirstIdeal.nD,
      r.2.mem ((c.tc : Thread Cert.ProjDxFirstIdeal.nD Cert.ProjDxFirstIdeal.τ).loc Cert.ProjDxFirstIdeal.main_arg0) = m ((c.tc : Thread Cert.ProjDxFirstIdeal.nD Cert.ProjDxFirstIdeal.τ).loc Cert.ProjDxFirstIdeal.main_arg0)
      ∧ r.2.mem ((c.tc : Thread Cert.ProjDxFirstIdeal.nD Cert.ProjDxFirstIdeal.τ).loc Cert.ProjDxFirstIdeal.main_arg1) = m ((c.tc : Thread Cert.ProjDxFirstIdeal.nD Cert.ProjDxFirstIdeal.τ).loc Cert.ProjDxFirstIdeal.main_arg1)
      ∧ r.2.mem ((c.tc : Thread Cert.ProjDxFirstIdeal.nD Cert.ProjDxFirstIdeal.τ).loc Cert.ProjDxFirstIdeal.main_arg2) = m ((c.tc : Thread Cert.ProjDxFirstIdeal.nD Cert.ProjDxFirstIdeal.τ).loc Cert.ProjDxFirstIdeal.main_arg2)
      ∧ r.2.mem ((c.tc : Thread Cert.ProjDxFirstIdeal.nD Cert.ProjDxFirstIdeal.τ).loc Cert.ProjDxFirstIdeal.main_arg3) = m ((c.tc : Thread Cert.ProjDxFirstIdeal.nD Cert.ProjDxFirstIdeal.τ).loc Cert.ProjDxFirstIdeal.main_arg3)
      ∧ r.2.mem ((c.tc : Thread Cert.ProjDxFirstIdeal.nD Cert.ProjDxFirstIdeal.τ).loc Cert.ProjDxFirstIdeal.main_arg4) = m ((c.tc : Thread Cert.ProjDxFirstIdeal.nD Cert.ProjDxFirstIdeal.τ).loc Cert.ProjDxFirstIdeal.main_arg4)
      ∧ r.2.mem ((c.tc : Thread Cert.ProjDxFirstIdeal.nD Cert.ProjDxFirstIdeal.τ).loc Cert.ProjDxFirstIdeal.main_arg5) = m ((c.tc : Thread Cert.ProjDxFirstIdeal.nD Cert.ProjDxFirstIdeal.τ).loc Cert.ProjDxFirstIdeal.main_arg5)
      ∧ r.2.mem ((c.tc : Thread Cert.ProjDxFirstIdeal.nD Cert.ProjDxFirstIdeal.τ).loc Cert.ProjDxFirstIdeal.main_arg6) = m ((c.tc : Thread Cert.ProjDxFirstIdeal.nD Cert.ProjDxFirstIdeal.τ).loc Cert.ProjDxFirstIdeal.main_arg6))
      ∧ r.2.sem = fun _ => 0)

def quiescent_ProjDxFirstIdeal_pre_finite_proj_dx_first [hProjDxFirstIdeal : Cert.ProjDxFirstIdeal.Facts] [hPre_finite_proj_dx_first : Cert.Pre_finite_proj_dx_first.Facts] : Prop :=
  ∀ (m : (ℓ : Loc Cert.ProjDxFirstIdeal.nD Cert.ProjDxFirstIdeal.τ Cert.ProjDxFirstIdeal.sig) → Buf (Elt Ideal) ℓ) (g : Dev Cert.ProjDxFirstIdeal.nD → PrngReg), Pre_ProjDxFirstIdeal_finite_proj_dx_first m →
    θ_run (Cert.ProjDxFirstIdeal.defs (F := Ideal)) (onTc (τ := Cert.ProjDxFirstIdeal.τ) (Cert.ProjDxFirstIdeal.main (F := Ideal))) ⟨m, fun _ => 0, g⟩ (fun r => (∀ c : Dev Cert.ProjDxFirstIdeal.nD,
      r.2.mem ((c.tc : Thread Cert.ProjDxFirstIdeal.nD Cert.ProjDxFirstIdeal.τ).loc Cert.ProjDxFirstIdeal.main_arg0) = m ((c.tc : Thread Cert.ProjDxFirstIdeal.nD Cert.ProjDxFirstIdeal.τ).loc Cert.ProjDxFirstIdeal.main_arg0)
      ∧ r.2.mem ((c.tc : Thread Cert.ProjDxFirstIdeal.nD Cert.ProjDxFirstIdeal.τ).loc Cert.ProjDxFirstIdeal.main_arg1) = m ((c.tc : Thread Cert.ProjDxFirstIdeal.nD Cert.ProjDxFirstIdeal.τ).loc Cert.ProjDxFirstIdeal.main_arg1)
      ∧ r.2.mem ((c.tc : Thread Cert.ProjDxFirstIdeal.nD Cert.ProjDxFirstIdeal.τ).loc Cert.ProjDxFirstIdeal.main_arg2) = m ((c.tc : Thread Cert.ProjDxFirstIdeal.nD Cert.ProjDxFirstIdeal.τ).loc Cert.ProjDxFirstIdeal.main_arg2)
      ∧ r.2.mem ((c.tc : Thread Cert.ProjDxFirstIdeal.nD Cert.ProjDxFirstIdeal.τ).loc Cert.ProjDxFirstIdeal.main_arg3) = m ((c.tc : Thread Cert.ProjDxFirstIdeal.nD Cert.ProjDxFirstIdeal.τ).loc Cert.ProjDxFirstIdeal.main_arg3)
      ∧ r.2.mem ((c.tc : Thread Cert.ProjDxFirstIdeal.nD Cert.ProjDxFirstIdeal.τ).loc Cert.ProjDxFirstIdeal.main_arg4) = m ((c.tc : Thread Cert.ProjDxFirstIdeal.nD Cert.ProjDxFirstIdeal.τ).loc Cert.ProjDxFirstIdeal.main_arg4)
      ∧ r.2.mem ((c.tc : Thread Cert.ProjDxFirstIdeal.nD Cert.ProjDxFirstIdeal.τ).loc Cert.ProjDxFirstIdeal.main_arg5) = m ((c.tc : Thread Cert.ProjDxFirstIdeal.nD Cert.ProjDxFirstIdeal.τ).loc Cert.ProjDxFirstIdeal.main_arg5)
      ∧ r.2.mem ((c.tc : Thread Cert.ProjDxFirstIdeal.nD Cert.ProjDxFirstIdeal.τ).loc Cert.ProjDxFirstIdeal.main_arg6) = m ((c.tc : Thread Cert.ProjDxFirstIdeal.nD Cert.ProjDxFirstIdeal.τ).loc Cert.ProjDxFirstIdeal.main_arg6))
      ∧ r.2.sem = fun _ => 0)

def quiescent_ProjDxFirstRefIdeal [hProjDxFirstRefIdeal : Cert.ProjDxFirstRefIdeal.Facts] : Prop :=
  ∀ (m : (ℓ : Loc Cert.ProjDxFirstRefIdeal.nD Cert.ProjDxFirstRefIdeal.τ Cert.ProjDxFirstRefIdeal.sig) → Buf (Elt Ideal) ℓ) (g : Dev Cert.ProjDxFirstRefIdeal.nD → PrngReg), Pre_ProjDxFirstRefIdeal m →
    θ_run (Cert.ProjDxFirstRefIdeal.defs (F := Ideal)) (onTc (τ := Cert.ProjDxFirstRefIdeal.τ) (Cert.ProjDxFirstRefIdeal.main (F := Ideal))) ⟨m, fun _ => 0, g⟩ (fun r => (∀ c : Dev Cert.ProjDxFirstRefIdeal.nD,
      r.2.mem ((c.tc : Thread Cert.ProjDxFirstRefIdeal.nD Cert.ProjDxFirstRefIdeal.τ).loc Cert.ProjDxFirstRefIdeal.main_arg0) = m ((c.tc : Thread Cert.ProjDxFirstRefIdeal.nD Cert.ProjDxFirstRefIdeal.τ).loc Cert.ProjDxFirstRefIdeal.main_arg0)
      ∧ r.2.mem ((c.tc : Thread Cert.ProjDxFirstRefIdeal.nD Cert.ProjDxFirstRefIdeal.τ).loc Cert.ProjDxFirstRefIdeal.main_arg1) = m ((c.tc : Thread Cert.ProjDxFirstRefIdeal.nD Cert.ProjDxFirstRefIdeal.τ).loc Cert.ProjDxFirstRefIdeal.main_arg1)
      ∧ r.2.mem ((c.tc : Thread Cert.ProjDxFirstRefIdeal.nD Cert.ProjDxFirstRefIdeal.τ).loc Cert.ProjDxFirstRefIdeal.main_arg2) = m ((c.tc : Thread Cert.ProjDxFirstRefIdeal.nD Cert.ProjDxFirstRefIdeal.τ).loc Cert.ProjDxFirstRefIdeal.main_arg2)
      ∧ r.2.mem ((c.tc : Thread Cert.ProjDxFirstRefIdeal.nD Cert.ProjDxFirstRefIdeal.τ).loc Cert.ProjDxFirstRefIdeal.main_arg3) = m ((c.tc : Thread Cert.ProjDxFirstRefIdeal.nD Cert.ProjDxFirstRefIdeal.τ).loc Cert.ProjDxFirstRefIdeal.main_arg3)
      ∧ r.2.mem ((c.tc : Thread Cert.ProjDxFirstRefIdeal.nD Cert.ProjDxFirstRefIdeal.τ).loc Cert.ProjDxFirstRefIdeal.main_arg4) = m ((c.tc : Thread Cert.ProjDxFirstRefIdeal.nD Cert.ProjDxFirstRefIdeal.τ).loc Cert.ProjDxFirstRefIdeal.main_arg4)
      ∧ r.2.mem ((c.tc : Thread Cert.ProjDxFirstRefIdeal.nD Cert.ProjDxFirstRefIdeal.τ).loc Cert.ProjDxFirstRefIdeal.main_arg5) = m ((c.tc : Thread Cert.ProjDxFirstRefIdeal.nD Cert.ProjDxFirstRefIdeal.τ).loc Cert.ProjDxFirstRefIdeal.main_arg5)
      ∧ r.2.mem ((c.tc : Thread Cert.ProjDxFirstRefIdeal.nD Cert.ProjDxFirstRefIdeal.τ).loc Cert.ProjDxFirstRefIdeal.main_arg6) = m ((c.tc : Thread Cert.ProjDxFirstRefIdeal.nD Cert.ProjDxFirstRefIdeal.τ).loc Cert.ProjDxFirstRefIdeal.main_arg6))
      ∧ r.2.sem = fun _ => 0)

def quiescent_ProjDxFirstRefIdeal_pre_finite_proj_dx_first [hProjDxFirstRefIdeal : Cert.ProjDxFirstRefIdeal.Facts] [hPre_finite_proj_dx_first : Cert.Pre_finite_proj_dx_first.Facts] : Prop :=
  ∀ (m : (ℓ : Loc Cert.ProjDxFirstRefIdeal.nD Cert.ProjDxFirstRefIdeal.τ Cert.ProjDxFirstRefIdeal.sig) → Buf (Elt Ideal) ℓ) (g : Dev Cert.ProjDxFirstRefIdeal.nD → PrngReg), Pre_ProjDxFirstRefIdeal_finite_proj_dx_first m →
    θ_run (Cert.ProjDxFirstRefIdeal.defs (F := Ideal)) (onTc (τ := Cert.ProjDxFirstRefIdeal.τ) (Cert.ProjDxFirstRefIdeal.main (F := Ideal))) ⟨m, fun _ => 0, g⟩ (fun r => (∀ c : Dev Cert.ProjDxFirstRefIdeal.nD,
      r.2.mem ((c.tc : Thread Cert.ProjDxFirstRefIdeal.nD Cert.ProjDxFirstRefIdeal.τ).loc Cert.ProjDxFirstRefIdeal.main_arg0) = m ((c.tc : Thread Cert.ProjDxFirstRefIdeal.nD Cert.ProjDxFirstRefIdeal.τ).loc Cert.ProjDxFirstRefIdeal.main_arg0)
      ∧ r.2.mem ((c.tc : Thread Cert.ProjDxFirstRefIdeal.nD Cert.ProjDxFirstRefIdeal.τ).loc Cert.ProjDxFirstRefIdeal.main_arg1) = m ((c.tc : Thread Cert.ProjDxFirstRefIdeal.nD Cert.ProjDxFirstRefIdeal.τ).loc Cert.ProjDxFirstRefIdeal.main_arg1)
      ∧ r.2.mem ((c.tc : Thread Cert.ProjDxFirstRefIdeal.nD Cert.ProjDxFirstRefIdeal.τ).loc Cert.ProjDxFirstRefIdeal.main_arg2) = m ((c.tc : Thread Cert.ProjDxFirstRefIdeal.nD Cert.ProjDxFirstRefIdeal.τ).loc Cert.ProjDxFirstRefIdeal.main_arg2)
      ∧ r.2.mem ((c.tc : Thread Cert.ProjDxFirstRefIdeal.nD Cert.ProjDxFirstRefIdeal.τ).loc Cert.ProjDxFirstRefIdeal.main_arg3) = m ((c.tc : Thread Cert.ProjDxFirstRefIdeal.nD Cert.ProjDxFirstRefIdeal.τ).loc Cert.ProjDxFirstRefIdeal.main_arg3)
      ∧ r.2.mem ((c.tc : Thread Cert.ProjDxFirstRefIdeal.nD Cert.ProjDxFirstRefIdeal.τ).loc Cert.ProjDxFirstRefIdeal.main_arg4) = m ((c.tc : Thread Cert.ProjDxFirstRefIdeal.nD Cert.ProjDxFirstRefIdeal.τ).loc Cert.ProjDxFirstRefIdeal.main_arg4)
      ∧ r.2.mem ((c.tc : Thread Cert.ProjDxFirstRefIdeal.nD Cert.ProjDxFirstRefIdeal.τ).loc Cert.ProjDxFirstRefIdeal.main_arg5) = m ((c.tc : Thread Cert.ProjDxFirstRefIdeal.nD Cert.ProjDxFirstRefIdeal.τ).loc Cert.ProjDxFirstRefIdeal.main_arg5)
      ∧ r.2.mem ((c.tc : Thread Cert.ProjDxFirstRefIdeal.nD Cert.ProjDxFirstRefIdeal.τ).loc Cert.ProjDxFirstRefIdeal.main_arg6) = m ((c.tc : Thread Cert.ProjDxFirstRefIdeal.nD Cert.ProjDxFirstRefIdeal.τ).loc Cert.ProjDxFirstRefIdeal.main_arg6))
      ∧ r.2.sem = fun _ => 0)

def quiescent_LossHead [hLossHead : Cert.LossHead.Facts] : Prop :=
  ∀ (m : (ℓ : Loc Cert.LossHead.nD Cert.LossHead.τ Cert.LossHead.sig) → Buf (Elt Bits) ℓ) (g : Dev Cert.LossHead.nD → PrngReg), Pre_LossHead m →
    θ_run (Cert.LossHead.defs (F := Bits)) (onTc (τ := Cert.LossHead.τ) (Cert.LossHead.main (F := Bits))) ⟨m, fun _ => 0, g⟩ (fun r => (∀ c : Dev Cert.LossHead.nD,
      r.2.mem ((c.tc : Thread Cert.LossHead.nD Cert.LossHead.τ).loc Cert.LossHead.main_arg0) = m ((c.tc : Thread Cert.LossHead.nD Cert.LossHead.τ).loc Cert.LossHead.main_arg0)
      ∧ r.2.mem ((c.tc : Thread Cert.LossHead.nD Cert.LossHead.τ).loc Cert.LossHead.main_arg1) = m ((c.tc : Thread Cert.LossHead.nD Cert.LossHead.τ).loc Cert.LossHead.main_arg1)
      ∧ r.2.mem ((c.tc : Thread Cert.LossHead.nD Cert.LossHead.τ).loc Cert.LossHead.main_arg2) = m ((c.tc : Thread Cert.LossHead.nD Cert.LossHead.τ).loc Cert.LossHead.main_arg2)
      ∧ r.2.mem ((c.tc : Thread Cert.LossHead.nD Cert.LossHead.τ).loc Cert.LossHead.main_arg3) = m ((c.tc : Thread Cert.LossHead.nD Cert.LossHead.τ).loc Cert.LossHead.main_arg3)
      ∧ r.2.mem ((c.tc : Thread Cert.LossHead.nD Cert.LossHead.τ).loc Cert.LossHead.main_arg4) = m ((c.tc : Thread Cert.LossHead.nD Cert.LossHead.τ).loc Cert.LossHead.main_arg4))
      ∧ r.2.sem = fun _ => 0)

def quiescent_LossHeadIdeal [hLossHeadIdeal : Cert.LossHeadIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg), Pre_LossHeadIdeal m →
    θ_run (Cert.LossHeadIdeal.defs (F := Ideal)) (onTc (τ := Cert.LossHeadIdeal.τ) (Cert.LossHeadIdeal.main (F := Ideal))) ⟨m, fun _ => 0, g⟩ (fun r => (∀ c : Dev Cert.LossHeadIdeal.nD,
      r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
      ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
      ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2)
      ∧ r.2.mem ((c.tc : Thread Cert.LossHeadIdeal.nD Cert.LossHeadIdeal.τ).loc Cert.LossHeadIdeal.main_arg3) = m ((c.tc : Thread Cert.LossHeadIdeal.nD Cert.LossHeadIdeal.τ).loc Cert.LossHeadIdeal.main_arg3)
      ∧ r.2.mem ((c.tc : Thread Cert.LossHeadIdeal.nD Cert.LossHeadIdeal.τ).loc Cert.LossHeadIdeal.main_arg4) = m ((c.tc : Thread Cert.LossHeadIdeal.nD Cert.LossHeadIdeal.τ).loc Cert.LossHeadIdeal.main_arg4))
      ∧ r.2.sem = fun _ => 0)

def quiescent_LossHeadIdeal_pre_finite_loss [hLossHeadIdeal : Cert.LossHeadIdeal.Facts] [hPre_finite_loss : Cert.Pre_finite_loss.Facts] : Prop :=
  ∀ (m : (ℓ : Loc Cert.LossHeadIdeal.nD Cert.LossHeadIdeal.τ Cert.LossHeadIdeal.sig) → Buf (Elt Ideal) ℓ) (g : Dev Cert.LossHeadIdeal.nD → PrngReg), Pre_LossHeadIdeal_finite_loss m →
    θ_run (Cert.LossHeadIdeal.defs (F := Ideal)) (onTc (τ := Cert.LossHeadIdeal.τ) (Cert.LossHeadIdeal.main (F := Ideal))) ⟨m, fun _ => 0, g⟩ (fun r => (∀ c : Dev Cert.LossHeadIdeal.nD,
      r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
      ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
      ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2)
      ∧ r.2.mem ((c.tc : Thread Cert.LossHeadIdeal.nD Cert.LossHeadIdeal.τ).loc Cert.LossHeadIdeal.main_arg3) = m ((c.tc : Thread Cert.LossHeadIdeal.nD Cert.LossHeadIdeal.τ).loc Cert.LossHeadIdeal.main_arg3)
      ∧ r.2.mem ((c.tc : Thread Cert.LossHeadIdeal.nD Cert.LossHeadIdeal.τ).loc Cert.LossHeadIdeal.main_arg4) = m ((c.tc : Thread Cert.LossHeadIdeal.nD Cert.LossHeadIdeal.τ).loc Cert.LossHeadIdeal.main_arg4))
      ∧ r.2.sem = fun _ => 0)

def quiescent_LossHeadRefIdeal [hLossHeadRefIdeal : Cert.LossHeadRefIdeal.Facts] : Prop :=
  ∀ (m : (ℓ : Loc Cert.LossHeadRefIdeal.nD Cert.LossHeadRefIdeal.τ Cert.LossHeadRefIdeal.sig) → Buf (Elt Ideal) ℓ) (g : Dev Cert.LossHeadRefIdeal.nD → PrngReg), Pre_LossHeadRefIdeal m →
    θ_run (Cert.LossHeadRefIdeal.defs (F := Ideal)) (onTc (τ := Cert.LossHeadRefIdeal.τ) (Cert.LossHeadRefIdeal.main (F := Ideal))) ⟨m, fun _ => 0, g⟩ (fun r => (∀ c : Dev Cert.LossHeadRefIdeal.nD,
      r.2.mem ((c.tc : Thread Cert.LossHeadRefIdeal.nD Cert.LossHeadRefIdeal.τ).loc Cert.LossHeadRefIdeal.main_arg0) = m ((c.tc : Thread Cert.LossHeadRefIdeal.nD Cert.LossHeadRefIdeal.τ).loc Cert.LossHeadRefIdeal.main_arg0)
      ∧ r.2.mem ((c.tc : Thread Cert.LossHeadRefIdeal.nD Cert.LossHeadRefIdeal.τ).loc Cert.LossHeadRefIdeal.main_arg1) = m ((c.tc : Thread Cert.LossHeadRefIdeal.nD Cert.LossHeadRefIdeal.τ).loc Cert.LossHeadRefIdeal.main_arg1)
      ∧ r.2.mem ((c.tc : Thread Cert.LossHeadRefIdeal.nD Cert.LossHeadRefIdeal.τ).loc Cert.LossHeadRefIdeal.main_arg2) = m ((c.tc : Thread Cert.LossHeadRefIdeal.nD Cert.LossHeadRefIdeal.τ).loc Cert.LossHeadRefIdeal.main_arg2)
      ∧ r.2.mem ((c.tc : Thread Cert.LossHeadRefIdeal.nD Cert.LossHeadRefIdeal.τ).loc Cert.LossHeadRefIdeal.main_arg3) = m ((c.tc : Thread Cert.LossHeadRefIdeal.nD Cert.LossHeadRefIdeal.τ).loc Cert.LossHeadRefIdeal.main_arg3)
      ∧ r.2.mem ((c.tc : Thread Cert.LossHeadRefIdeal.nD Cert.LossHeadRefIdeal.τ).loc Cert.LossHeadRefIdeal.main_arg4) = m ((c.tc : Thread Cert.LossHeadRefIdeal.nD Cert.LossHeadRefIdeal.τ).loc Cert.LossHeadRefIdeal.main_arg4))
      ∧ r.2.sem = fun _ => 0)

def quiescent_LossHeadRefIdeal_pre_finite_loss [hLossHeadRefIdeal : Cert.LossHeadRefIdeal.Facts] [hPre_finite_loss : Cert.Pre_finite_loss.Facts] : Prop :=
  ∀ (m : (ℓ : Loc Cert.LossHeadRefIdeal.nD Cert.LossHeadRefIdeal.τ Cert.LossHeadRefIdeal.sig) → Buf (Elt Ideal) ℓ) (g : Dev Cert.LossHeadRefIdeal.nD → PrngReg), Pre_LossHeadRefIdeal_finite_loss m →
    θ_run (Cert.LossHeadRefIdeal.defs (F := Ideal)) (onTc (τ := Cert.LossHeadRefIdeal.τ) (Cert.LossHeadRefIdeal.main (F := Ideal))) ⟨m, fun _ => 0, g⟩ (fun r => (∀ c : Dev Cert.LossHeadRefIdeal.nD,
      r.2.mem ((c.tc : Thread Cert.LossHeadRefIdeal.nD Cert.LossHeadRefIdeal.τ).loc Cert.LossHeadRefIdeal.main_arg0) = m ((c.tc : Thread Cert.LossHeadRefIdeal.nD Cert.LossHeadRefIdeal.τ).loc Cert.LossHeadRefIdeal.main_arg0)
      ∧ r.2.mem ((c.tc : Thread Cert.LossHeadRefIdeal.nD Cert.LossHeadRefIdeal.τ).loc Cert.LossHeadRefIdeal.main_arg1) = m ((c.tc : Thread Cert.LossHeadRefIdeal.nD Cert.LossHeadRefIdeal.τ).loc Cert.LossHeadRefIdeal.main_arg1)
      ∧ r.2.mem ((c.tc : Thread Cert.LossHeadRefIdeal.nD Cert.LossHeadRefIdeal.τ).loc Cert.LossHeadRefIdeal.main_arg2) = m ((c.tc : Thread Cert.LossHeadRefIdeal.nD Cert.LossHeadRefIdeal.τ).loc Cert.LossHeadRefIdeal.main_arg2)
      ∧ r.2.mem ((c.tc : Thread Cert.LossHeadRefIdeal.nD Cert.LossHeadRefIdeal.τ).loc Cert.LossHeadRefIdeal.main_arg3) = m ((c.tc : Thread Cert.LossHeadRefIdeal.nD Cert.LossHeadRefIdeal.τ).loc Cert.LossHeadRefIdeal.main_arg3)
      ∧ r.2.mem ((c.tc : Thread Cert.LossHeadRefIdeal.nD Cert.LossHeadRefIdeal.τ).loc Cert.LossHeadRefIdeal.main_arg4) = m ((c.tc : Thread Cert.LossHeadRefIdeal.nD Cert.LossHeadRefIdeal.τ).loc Cert.LossHeadRefIdeal.main_arg4))
      ∧ r.2.sem = fun _ => 0)

def quiescent_OutDw [hOutDw : Cert.OutDw.Facts] : Prop :=
  ∀ (m : (ℓ : Loc Cert.OutDw.nD Cert.OutDw.τ Cert.OutDw.sig) → Buf (Elt Bits) ℓ) (g : Dev Cert.OutDw.nD → PrngReg), Pre_OutDw m →
    θ_run (Cert.OutDw.defs (F := Bits)) (onTc (τ := Cert.OutDw.τ) (Cert.OutDw.main (F := Bits))) ⟨m, fun _ => 0, g⟩ (fun r => (∀ c : Dev Cert.OutDw.nD,
      r.2.mem ((c.tc : Thread Cert.OutDw.nD Cert.OutDw.τ).loc Cert.OutDw.main_arg0) = m ((c.tc : Thread Cert.OutDw.nD Cert.OutDw.τ).loc Cert.OutDw.main_arg0)
      ∧ r.2.mem ((c.tc : Thread Cert.OutDw.nD Cert.OutDw.τ).loc Cert.OutDw.main_arg1) = m ((c.tc : Thread Cert.OutDw.nD Cert.OutDw.τ).loc Cert.OutDw.main_arg1))
      ∧ r.2.sem = fun _ => 0)

def quiescent_OutDwIdeal [hOutDwIdeal : Cert.OutDwIdeal.Facts] : Prop :=
  ∀ (m : (ℓ : Loc Cert.OutDwIdeal.nD Cert.OutDwIdeal.τ Cert.OutDwIdeal.sig) → Buf (Elt Ideal) ℓ) (g : Dev Cert.OutDwIdeal.nD → PrngReg), Pre_OutDwIdeal m →
    θ_run (Cert.OutDwIdeal.defs (F := Ideal)) (onTc (τ := Cert.OutDwIdeal.τ) (Cert.OutDwIdeal.main (F := Ideal))) ⟨m, fun _ => 0, g⟩ (fun r => (∀ c : Dev Cert.OutDwIdeal.nD,
      r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
      ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ r.2.sem = fun _ => 0)

def quiescent_OutDwRefIdeal [hOutDwRefIdeal : Cert.OutDwRefIdeal.Facts] : Prop :=
  ∀ (m : (ℓ : Loc Cert.OutDwRefIdeal.nD Cert.OutDwRefIdeal.τ Cert.OutDwRefIdeal.sig) → Buf (Elt Ideal) ℓ) (g : Dev Cert.OutDwRefIdeal.nD → PrngReg), Pre_OutDwRefIdeal m →
    θ_run (Cert.OutDwRefIdeal.defs (F := Ideal)) (onTc (τ := Cert.OutDwRefIdeal.τ) (Cert.OutDwRefIdeal.main (F := Ideal))) ⟨m, fun _ => 0, g⟩ (fun r => (∀ c : Dev Cert.OutDwRefIdeal.nD,
      r.2.mem ((c.tc : Thread Cert.OutDwRefIdeal.nD Cert.OutDwRefIdeal.τ).loc Cert.OutDwRefIdeal.main_arg0) = m ((c.tc : Thread Cert.OutDwRefIdeal.nD Cert.OutDwRefIdeal.τ).loc Cert.OutDwRefIdeal.main_arg0)
      ∧ r.2.mem ((c.tc : Thread Cert.OutDwRefIdeal.nD Cert.OutDwRefIdeal.τ).loc Cert.OutDwRefIdeal.main_arg1) = m ((c.tc : Thread Cert.OutDwRefIdeal.nD Cert.OutDwRefIdeal.τ).loc Cert.OutDwRefIdeal.main_arg1))
      ∧ r.2.sem = fun _ => 0)

def quiescent_BranchDw [hBranchDw : Cert.BranchDw.Facts] : Prop :=
  ∀ (m : (ℓ : Loc Cert.BranchDw.nD Cert.BranchDw.τ Cert.BranchDw.sig) → Buf (Elt Bits) ℓ) (g : Dev Cert.BranchDw.nD → PrngReg), Pre_BranchDw m →
    θ_run (Cert.BranchDw.defs (F := Bits)) (onTc (τ := Cert.BranchDw.τ) (Cert.BranchDw.main (F := Bits))) ⟨m, fun _ => 0, g⟩ (fun r => (∀ c : Dev Cert.BranchDw.nD,
      r.2.mem ((c.tc : Thread Cert.BranchDw.nD Cert.BranchDw.τ).loc Cert.BranchDw.main_arg0) = m ((c.tc : Thread Cert.BranchDw.nD Cert.BranchDw.τ).loc Cert.BranchDw.main_arg0)
      ∧ r.2.mem ((c.tc : Thread Cert.BranchDw.nD Cert.BranchDw.τ).loc Cert.BranchDw.main_arg1) = m ((c.tc : Thread Cert.BranchDw.nD Cert.BranchDw.τ).loc Cert.BranchDw.main_arg1))
      ∧ r.2.sem = fun _ => 0)

def quiescent_BranchDwIdeal [hBranchDwIdeal : Cert.BranchDwIdeal.Facts] : Prop :=
  ∀ (m : (ℓ : Loc Cert.BranchDwIdeal.nD Cert.BranchDwIdeal.τ Cert.BranchDwIdeal.sig) → Buf (Elt Ideal) ℓ) (g : Dev Cert.BranchDwIdeal.nD → PrngReg), Pre_BranchDwIdeal m →
    θ_run (Cert.BranchDwIdeal.defs (F := Ideal)) (onTc (τ := Cert.BranchDwIdeal.τ) (Cert.BranchDwIdeal.main (F := Ideal))) ⟨m, fun _ => 0, g⟩ (fun r => (∀ c : Dev Cert.BranchDwIdeal.nD,
      r.2.mem ((c.tc : Thread Cert.BranchDwIdeal.nD Cert.BranchDwIdeal.τ).loc Cert.BranchDwIdeal.main_arg0) = m ((c.tc : Thread Cert.BranchDwIdeal.nD Cert.BranchDwIdeal.τ).loc Cert.BranchDwIdeal.main_arg0)
      ∧ r.2.mem ((c.tc : Thread Cert.BranchDwIdeal.nD Cert.BranchDwIdeal.τ).loc Cert.BranchDwIdeal.main_arg1) = m ((c.tc : Thread Cert.BranchDwIdeal.nD Cert.BranchDwIdeal.τ).loc Cert.BranchDwIdeal.main_arg1))
      ∧ r.2.sem = fun _ => 0)

def quiescent_BranchDwRefIdeal [hBranchDwRefIdeal : Cert.BranchDwRefIdeal.Facts] : Prop :=
  ∀ (m : (ℓ : Loc Cert.BranchDwRefIdeal.nD Cert.BranchDwRefIdeal.τ Cert.BranchDwRefIdeal.sig) → Buf (Elt Ideal) ℓ) (g : Dev Cert.BranchDwRefIdeal.nD → PrngReg), Pre_BranchDwRefIdeal m →
    θ_run (Cert.BranchDwRefIdeal.defs (F := Ideal)) (onTc (τ := Cert.BranchDwRefIdeal.τ) (Cert.BranchDwRefIdeal.main (F := Ideal))) ⟨m, fun _ => 0, g⟩ (fun r => (∀ c : Dev Cert.BranchDwRefIdeal.nD,
      r.2.mem ((c.tc : Thread Cert.BranchDwRefIdeal.nD Cert.BranchDwRefIdeal.τ).loc Cert.BranchDwRefIdeal.main_arg0) = m ((c.tc : Thread Cert.BranchDwRefIdeal.nD Cert.BranchDwRefIdeal.τ).loc Cert.BranchDwRefIdeal.main_arg0)
      ∧ r.2.mem ((c.tc : Thread Cert.BranchDwRefIdeal.nD Cert.BranchDwRefIdeal.τ).loc Cert.BranchDwRefIdeal.main_arg1) = m ((c.tc : Thread Cert.BranchDwRefIdeal.nD Cert.BranchDwRefIdeal.τ).loc Cert.BranchDwRefIdeal.main_arg1))
      ∧ r.2.sem = fun _ => 0)

def quiescent_BranchDx [hBranchDx : Cert.BranchDx.Facts] : Prop :=
  ∀ (m : (ℓ : Loc Cert.BranchDx.nD Cert.BranchDx.τ Cert.BranchDx.sig) → Buf (Elt Bits) ℓ) (g : Dev Cert.BranchDx.nD → PrngReg), Pre_BranchDx m →
    θ_run (Cert.BranchDx.defs (F := Bits)) (onTc (τ := Cert.BranchDx.τ) (Cert.BranchDx.main (F := Bits))) ⟨m, fun _ => 0, g⟩ (fun r => (∀ c : Dev Cert.BranchDx.nD,
      r.2.mem ((c.tc : Thread Cert.BranchDx.nD Cert.BranchDx.τ).loc Cert.BranchDx.main_arg0) = m ((c.tc : Thread Cert.BranchDx.nD Cert.BranchDx.τ).loc Cert.BranchDx.main_arg0)
      ∧ r.2.mem ((c.tc : Thread Cert.BranchDx.nD Cert.BranchDx.τ).loc Cert.BranchDx.main_arg1) = m ((c.tc : Thread Cert.BranchDx.nD Cert.BranchDx.τ).loc Cert.BranchDx.main_arg1))
      ∧ r.2.sem = fun _ => 0)

def quiescent_BranchDxIdeal [hBranchDxIdeal : Cert.BranchDxIdeal.Facts] : Prop :=
  ∀ (m : (ℓ : Loc Cert.BranchDxIdeal.nD Cert.BranchDxIdeal.τ Cert.BranchDxIdeal.sig) → Buf (Elt Ideal) ℓ) (g : Dev Cert.BranchDxIdeal.nD → PrngReg), Pre_BranchDxIdeal m →
    θ_run (Cert.BranchDxIdeal.defs (F := Ideal)) (onTc (τ := Cert.BranchDxIdeal.τ) (Cert.BranchDxIdeal.main (F := Ideal))) ⟨m, fun _ => 0, g⟩ (fun r => (∀ c : Dev Cert.BranchDxIdeal.nD,
      r.2.mem ((c.tc : Thread Cert.BranchDxIdeal.nD Cert.BranchDxIdeal.τ).loc Cert.BranchDxIdeal.main_arg0) = m ((c.tc : Thread Cert.BranchDxIdeal.nD Cert.BranchDxIdeal.τ).loc Cert.BranchDxIdeal.main_arg0)
      ∧ r.2.mem ((c.tc : Thread Cert.BranchDxIdeal.nD Cert.BranchDxIdeal.τ).loc Cert.BranchDxIdeal.main_arg1) = m ((c.tc : Thread Cert.BranchDxIdeal.nD Cert.BranchDxIdeal.τ).loc Cert.BranchDxIdeal.main_arg1))
      ∧ r.2.sem = fun _ => 0)

def quiescent_BranchDxRefIdeal [hBranchDxRefIdeal : Cert.BranchDxRefIdeal.Facts] : Prop :=
  ∀ (m : (ℓ : Loc Cert.BranchDxRefIdeal.nD Cert.BranchDxRefIdeal.τ Cert.BranchDxRefIdeal.sig) → Buf (Elt Ideal) ℓ) (g : Dev Cert.BranchDxRefIdeal.nD → PrngReg), Pre_BranchDxRefIdeal m →
    θ_run (Cert.BranchDxRefIdeal.defs (F := Ideal)) (onTc (τ := Cert.BranchDxRefIdeal.τ) (Cert.BranchDxRefIdeal.main (F := Ideal))) ⟨m, fun _ => 0, g⟩ (fun r => (∀ c : Dev Cert.BranchDxRefIdeal.nD,
      r.2.mem ((c.tc : Thread Cert.BranchDxRefIdeal.nD Cert.BranchDxRefIdeal.τ).loc Cert.BranchDxRefIdeal.main_arg0) = m ((c.tc : Thread Cert.BranchDxRefIdeal.nD Cert.BranchDxRefIdeal.τ).loc Cert.BranchDxRefIdeal.main_arg0)
      ∧ r.2.mem ((c.tc : Thread Cert.BranchDxRefIdeal.nD Cert.BranchDxRefIdeal.τ).loc Cert.BranchDxRefIdeal.main_arg1) = m ((c.tc : Thread Cert.BranchDxRefIdeal.nD Cert.BranchDxRefIdeal.τ).loc Cert.BranchDxRefIdeal.main_arg1))
      ∧ r.2.sem = fun _ => 0)

def quiescent_FfnOutLast [hFfnOutLast : Cert.FfnOutLast.Facts] : Prop :=
  ∀ (m : (ℓ : Loc Cert.FfnOutLast.nD Cert.FfnOutLast.τ Cert.FfnOutLast.sig) → Buf (Elt Bits) ℓ) (g : Dev Cert.FfnOutLast.nD → PrngReg), Pre_FfnOutLast m →
    θ_run (Cert.FfnOutLast.defs (F := Bits)) (onTc (τ := Cert.FfnOutLast.τ) (Cert.FfnOutLast.main (F := Bits))) ⟨m, fun _ => 0, g⟩ (fun r => (∀ c : Dev Cert.FfnOutLast.nD,
      r.2.mem ((c.tc : Thread Cert.FfnOutLast.nD Cert.FfnOutLast.τ).loc Cert.FfnOutLast.main_arg0) = m ((c.tc : Thread Cert.FfnOutLast.nD Cert.FfnOutLast.τ).loc Cert.FfnOutLast.main_arg0)
      ∧ r.2.mem ((c.tc : Thread Cert.FfnOutLast.nD Cert.FfnOutLast.τ).loc Cert.FfnOutLast.main_arg1) = m ((c.tc : Thread Cert.FfnOutLast.nD Cert.FfnOutLast.τ).loc Cert.FfnOutLast.main_arg1))
      ∧ r.2.sem = fun _ => 0)

def quiescent_FfnOutLastIdeal [hFfnOutLastIdeal : Cert.FfnOutLastIdeal.Facts] : Prop :=
  ∀ (m : (ℓ : Loc Cert.FfnOutLastIdeal.nD Cert.FfnOutLastIdeal.τ Cert.FfnOutLastIdeal.sig) → Buf (Elt Ideal) ℓ) (g : Dev Cert.FfnOutLastIdeal.nD → PrngReg), Pre_FfnOutLastIdeal m →
    θ_run (Cert.FfnOutLastIdeal.defs (F := Ideal)) (onTc (τ := Cert.FfnOutLastIdeal.τ) (Cert.FfnOutLastIdeal.main (F := Ideal))) ⟨m, fun _ => 0, g⟩ (fun r => (∀ c : Dev Cert.FfnOutLastIdeal.nD,
      r.2.mem ((c.tc : Thread Cert.FfnOutLastIdeal.nD Cert.FfnOutLastIdeal.τ).loc Cert.FfnOutLastIdeal.main_arg0) = m ((c.tc : Thread Cert.FfnOutLastIdeal.nD Cert.FfnOutLastIdeal.τ).loc Cert.FfnOutLastIdeal.main_arg0)
      ∧ r.2.mem ((c.tc : Thread Cert.FfnOutLastIdeal.nD Cert.FfnOutLastIdeal.τ).loc Cert.FfnOutLastIdeal.main_arg1) = m ((c.tc : Thread Cert.FfnOutLastIdeal.nD Cert.FfnOutLastIdeal.τ).loc Cert.FfnOutLastIdeal.main_arg1))
      ∧ r.2.sem = fun _ => 0)

def quiescent_FfnOutLastRefIdeal [hFfnOutLastRefIdeal : Cert.FfnOutLastRefIdeal.Facts] : Prop :=
  ∀ (m : (ℓ : Loc Cert.FfnOutLastRefIdeal.nD Cert.FfnOutLastRefIdeal.τ Cert.FfnOutLastRefIdeal.sig) → Buf (Elt Ideal) ℓ) (g : Dev Cert.FfnOutLastRefIdeal.nD → PrngReg), Pre_FfnOutLastRefIdeal m →
    θ_run (Cert.FfnOutLastRefIdeal.defs (F := Ideal)) (onTc (τ := Cert.FfnOutLastRefIdeal.τ) (Cert.FfnOutLastRefIdeal.main (F := Ideal))) ⟨m, fun _ => 0, g⟩ (fun r => (∀ c : Dev Cert.FfnOutLastRefIdeal.nD,
      r.2.mem ((c.tc : Thread Cert.FfnOutLastRefIdeal.nD Cert.FfnOutLastRefIdeal.τ).loc Cert.FfnOutLastRefIdeal.main_arg0) = m ((c.tc : Thread Cert.FfnOutLastRefIdeal.nD Cert.FfnOutLastRefIdeal.τ).loc Cert.FfnOutLastRefIdeal.main_arg0)
      ∧ r.2.mem ((c.tc : Thread Cert.FfnOutLastRefIdeal.nD Cert.FfnOutLastRefIdeal.τ).loc Cert.FfnOutLastRefIdeal.main_arg1) = m ((c.tc : Thread Cert.FfnOutLastRefIdeal.nD Cert.FfnOutLastRefIdeal.τ).loc Cert.FfnOutLastRefIdeal.main_arg1))
      ∧ r.2.sem = fun _ => 0)

def quiescent_AdamAda [hAdamAda : Cert.AdamAda.Facts] : Prop :=
  ∀ (m : (ℓ : Loc Cert.AdamAda.nD Cert.AdamAda.τ Cert.AdamAda.sig) → Buf (Elt Bits) ℓ) (g : Dev Cert.AdamAda.nD → PrngReg), Pre_AdamAda m →
    θ_run (Cert.AdamAda.defs (F := Bits)) (onTc (τ := Cert.AdamAda.τ) (Cert.AdamAda.main (F := Bits))) ⟨m, fun _ => 0, g⟩ (fun r => (∀ c : Dev Cert.AdamAda.nD,
      r.2.mem ((c.tc : Thread Cert.AdamAda.nD Cert.AdamAda.τ).loc Cert.AdamAda.main_arg0) = m ((c.tc : Thread Cert.AdamAda.nD Cert.AdamAda.τ).loc Cert.AdamAda.main_arg0)
      ∧ r.2.mem ((c.tc : Thread Cert.AdamAda.nD Cert.AdamAda.τ).loc Cert.AdamAda.main_arg1) = m ((c.tc : Thread Cert.AdamAda.nD Cert.AdamAda.τ).loc Cert.AdamAda.main_arg1)
      ∧ r.2.mem ((c.tc : Thread Cert.AdamAda.nD Cert.AdamAda.τ).loc Cert.AdamAda.main_arg2) = m ((c.tc : Thread Cert.AdamAda.nD Cert.AdamAda.τ).loc Cert.AdamAda.main_arg2)
      ∧ r.2.mem ((c.tc : Thread Cert.AdamAda.nD Cert.AdamAda.τ).loc Cert.AdamAda.main_arg3) = m ((c.tc : Thread Cert.AdamAda.nD Cert.AdamAda.τ).loc Cert.AdamAda.main_arg3))
      ∧ r.2.sem = fun _ => 0)

def quiescent_AdamAdaIdeal [hAdamAdaIdeal : Cert.AdamAdaIdeal.Facts] : Prop :=
  ∀ (m : (ℓ : Loc Cert.AdamAdaIdeal.nD Cert.AdamAdaIdeal.τ Cert.AdamAdaIdeal.sig) → Buf (Elt Ideal) ℓ) (g : Dev Cert.AdamAdaIdeal.nD → PrngReg), Pre_AdamAdaIdeal m →
    θ_run (Cert.AdamAdaIdeal.defs (F := Ideal)) (onTc (τ := Cert.AdamAdaIdeal.τ) (Cert.AdamAdaIdeal.main (F := Ideal))) ⟨m, fun _ => 0, g⟩ (fun r => (∀ c : Dev Cert.AdamAdaIdeal.nD,
      r.2.mem ((c.tc : Thread Cert.AdamAdaIdeal.nD Cert.AdamAdaIdeal.τ).loc Cert.AdamAdaIdeal.main_arg0) = m ((c.tc : Thread Cert.AdamAdaIdeal.nD Cert.AdamAdaIdeal.τ).loc Cert.AdamAdaIdeal.main_arg0)
      ∧ r.2.mem ((c.tc : Thread Cert.AdamAdaIdeal.nD Cert.AdamAdaIdeal.τ).loc Cert.AdamAdaIdeal.main_arg1) = m ((c.tc : Thread Cert.AdamAdaIdeal.nD Cert.AdamAdaIdeal.τ).loc Cert.AdamAdaIdeal.main_arg1)
      ∧ r.2.mem ((c.tc : Thread Cert.AdamAdaIdeal.nD Cert.AdamAdaIdeal.τ).loc Cert.AdamAdaIdeal.main_arg2) = m ((c.tc : Thread Cert.AdamAdaIdeal.nD Cert.AdamAdaIdeal.τ).loc Cert.AdamAdaIdeal.main_arg2)
      ∧ r.2.mem ((c.tc : Thread Cert.AdamAdaIdeal.nD Cert.AdamAdaIdeal.τ).loc Cert.AdamAdaIdeal.main_arg3) = m ((c.tc : Thread Cert.AdamAdaIdeal.nD Cert.AdamAdaIdeal.τ).loc Cert.AdamAdaIdeal.main_arg3))
      ∧ r.2.sem = fun _ => 0)

def quiescent_AdamAdaRefIdeal [hAdamAdaRefIdeal : Cert.AdamAdaRefIdeal.Facts] : Prop :=
  ∀ (m : (ℓ : Loc Cert.AdamAdaRefIdeal.nD Cert.AdamAdaRefIdeal.τ Cert.AdamAdaRefIdeal.sig) → Buf (Elt Ideal) ℓ) (g : Dev Cert.AdamAdaRefIdeal.nD → PrngReg), Pre_AdamAdaRefIdeal m →
    θ_run (Cert.AdamAdaRefIdeal.defs (F := Ideal)) (onTc (τ := Cert.AdamAdaRefIdeal.τ) (Cert.AdamAdaRefIdeal.main (F := Ideal))) ⟨m, fun _ => 0, g⟩ (fun r => (∀ c : Dev Cert.AdamAdaRefIdeal.nD,
      r.2.mem ((c.tc : Thread Cert.AdamAdaRefIdeal.nD Cert.AdamAdaRefIdeal.τ).loc Cert.AdamAdaRefIdeal.main_arg0) = m ((c.tc : Thread Cert.AdamAdaRefIdeal.nD Cert.AdamAdaRefIdeal.τ).loc Cert.AdamAdaRefIdeal.main_arg0)
      ∧ r.2.mem ((c.tc : Thread Cert.AdamAdaRefIdeal.nD Cert.AdamAdaRefIdeal.τ).loc Cert.AdamAdaRefIdeal.main_arg1) = m ((c.tc : Thread Cert.AdamAdaRefIdeal.nD Cert.AdamAdaRefIdeal.τ).loc Cert.AdamAdaRefIdeal.main_arg1)
      ∧ r.2.mem ((c.tc : Thread Cert.AdamAdaRefIdeal.nD Cert.AdamAdaRefIdeal.τ).loc Cert.AdamAdaRefIdeal.main_arg2) = m ((c.tc : Thread Cert.AdamAdaRefIdeal.nD Cert.AdamAdaRefIdeal.τ).loc Cert.AdamAdaRefIdeal.main_arg2)
      ∧ r.2.mem ((c.tc : Thread Cert.AdamAdaRefIdeal.nD Cert.AdamAdaRefIdeal.τ).loc Cert.AdamAdaRefIdeal.main_arg3) = m ((c.tc : Thread Cert.AdamAdaRefIdeal.nD Cert.AdamAdaRefIdeal.τ).loc Cert.AdamAdaRefIdeal.main_arg3))
      ∧ r.2.sem = fun _ => 0)

def quiescent_AdamSmall [hAdamSmall : Cert.AdamSmall.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3))
      ∧ r.2.sem = fun _ => 0)

def quiescent_AdamSmallIdeal [hAdamSmallIdeal : Cert.AdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ r.2.sem = fun _ => 0)

def quiescent_AdamSmallRefIdeal [hAdamSmallRefIdeal : Cert.AdamSmallRefIdeal.Facts] : Prop :=
  ∀ (m : (ℓ : Loc Cert.AdamSmallRefIdeal.nD Cert.AdamSmallRefIdeal.τ Cert.AdamSmallRefIdeal.sig) → Buf (Elt Ideal) ℓ) (g : Dev Cert.AdamSmallRefIdeal.nD → PrngReg), Pre_AdamSmallRefIdeal m →
    θ_run (Cert.AdamSmallRefIdeal.defs (F := Ideal)) (onTc (τ := Cert.AdamSmallRefIdeal.τ) (Cert.AdamSmallRefIdeal.main (F := Ideal))) ⟨m, fun _ => 0, g⟩ (fun r => (∀ c : Dev Cert.AdamSmallRefIdeal.nD,
      r.2.mem ((c.tc : Thread Cert.AdamSmallRefIdeal.nD Cert.AdamSmallRefIdeal.τ).loc Cert.AdamSmallRefIdeal.main_arg0) = m ((c.tc : Thread Cert.AdamSmallRefIdeal.nD Cert.AdamSmallRefIdeal.τ).loc Cert.AdamSmallRefIdeal.main_arg0)
      ∧ r.2.mem ((c.tc : Thread Cert.AdamSmallRefIdeal.nD Cert.AdamSmallRefIdeal.τ).loc Cert.AdamSmallRefIdeal.main_arg1) = m ((c.tc : Thread Cert.AdamSmallRefIdeal.nD Cert.AdamSmallRefIdeal.τ).loc Cert.AdamSmallRefIdeal.main_arg1)
      ∧ r.2.mem ((c.tc : Thread Cert.AdamSmallRefIdeal.nD Cert.AdamSmallRefIdeal.τ).loc Cert.AdamSmallRefIdeal.main_arg2) = m ((c.tc : Thread Cert.AdamSmallRefIdeal.nD Cert.AdamSmallRefIdeal.τ).loc Cert.AdamSmallRefIdeal.main_arg2)
      ∧ r.2.mem ((c.tc : Thread Cert.AdamSmallRefIdeal.nD Cert.AdamSmallRefIdeal.τ).loc Cert.AdamSmallRefIdeal.main_arg3) = m ((c.tc : Thread Cert.AdamSmallRefIdeal.nD Cert.AdamSmallRefIdeal.τ).loc Cert.AdamSmallRefIdeal.main_arg3))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3)
      ∧ r.2.mem ((c.tc : Thread Cert.AdamIn.nD Cert.AdamIn.τ).loc Cert.AdamIn.main_arg4) = m ((c.tc : Thread Cert.AdamIn.nD Cert.AdamIn.τ).loc Cert.AdamIn.main_arg4)
      ∧ r.2.mem ((c.tc : Thread Cert.AdamIn.nD Cert.AdamIn.τ).loc Cert.AdamIn.main_arg5) = m ((c.tc : Thread Cert.AdamIn.nD Cert.AdamIn.τ).loc Cert.AdamIn.main_arg5))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3)
      ∧ r.2.mem ((c.tc : Thread Cert.AdamInIdeal.nD Cert.AdamInIdeal.τ).loc Cert.AdamInIdeal.main_arg4) = m ((c.tc : Thread Cert.AdamInIdeal.nD Cert.AdamInIdeal.τ).loc Cert.AdamInIdeal.main_arg4)
      ∧ r.2.mem ((c.tc : Thread Cert.AdamInIdeal.nD Cert.AdamInIdeal.τ).loc Cert.AdamInIdeal.main_arg5) = m ((c.tc : Thread Cert.AdamInIdeal.nD Cert.AdamInIdeal.τ).loc Cert.AdamInIdeal.main_arg5))
      ∧ r.2.sem = fun _ => 0)

def quiescent_AdamInRefIdeal [hAdamInRefIdeal : Cert.AdamInRefIdeal.Facts] : Prop :=
  ∀ (m : (ℓ : Loc Cert.AdamInRefIdeal.nD Cert.AdamInRefIdeal.τ Cert.AdamInRefIdeal.sig) → Buf (Elt Ideal) ℓ) (g : Dev Cert.AdamInRefIdeal.nD → PrngReg), Pre_AdamInRefIdeal m →
    θ_run (Cert.AdamInRefIdeal.defs (F := Ideal)) (onTc (τ := Cert.AdamInRefIdeal.τ) (Cert.AdamInRefIdeal.main (F := Ideal))) ⟨m, fun _ => 0, g⟩ (fun r => (∀ c : Dev Cert.AdamInRefIdeal.nD,
      r.2.mem ((c.tc : Thread Cert.AdamInRefIdeal.nD Cert.AdamInRefIdeal.τ).loc Cert.AdamInRefIdeal.main_arg0) = m ((c.tc : Thread Cert.AdamInRefIdeal.nD Cert.AdamInRefIdeal.τ).loc Cert.AdamInRefIdeal.main_arg0)
      ∧ r.2.mem ((c.tc : Thread Cert.AdamInRefIdeal.nD Cert.AdamInRefIdeal.τ).loc Cert.AdamInRefIdeal.main_arg1) = m ((c.tc : Thread Cert.AdamInRefIdeal.nD Cert.AdamInRefIdeal.τ).loc Cert.AdamInRefIdeal.main_arg1)
      ∧ r.2.mem ((c.tc : Thread Cert.AdamInRefIdeal.nD Cert.AdamInRefIdeal.τ).loc Cert.AdamInRefIdeal.main_arg2) = m ((c.tc : Thread Cert.AdamInRefIdeal.nD Cert.AdamInRefIdeal.τ).loc Cert.AdamInRefIdeal.main_arg2)
      ∧ r.2.mem ((c.tc : Thread Cert.AdamInRefIdeal.nD Cert.AdamInRefIdeal.τ).loc Cert.AdamInRefIdeal.main_arg3) = m ((c.tc : Thread Cert.AdamInRefIdeal.nD Cert.AdamInRefIdeal.τ).loc Cert.AdamInRefIdeal.main_arg3)
      ∧ r.2.mem ((c.tc : Thread Cert.AdamInRefIdeal.nD Cert.AdamInRefIdeal.τ).loc Cert.AdamInRefIdeal.main_arg4) = m ((c.tc : Thread Cert.AdamInRefIdeal.nD Cert.AdamInRefIdeal.τ).loc Cert.AdamInRefIdeal.main_arg4)
      ∧ r.2.mem ((c.tc : Thread Cert.AdamInRefIdeal.nD Cert.AdamInRefIdeal.τ).loc Cert.AdamInRefIdeal.main_arg5) = m ((c.tc : Thread Cert.AdamInRefIdeal.nD Cert.AdamInRefIdeal.τ).loc Cert.AdamInRefIdeal.main_arg5))
      ∧ r.2.sem = fun _ => 0)

def quiescent_AdamFfnIn [hAdamFfnIn : Cert.AdamFfnIn.Facts] : Prop :=
  ∀ (m : (ℓ : Loc Cert.AdamFfnIn.nD Cert.AdamFfnIn.τ Cert.AdamFfnIn.sig) → Buf (Elt Bits) ℓ) (g : Dev Cert.AdamFfnIn.nD → PrngReg), Pre_AdamFfnIn m →
    θ_run (Cert.AdamFfnIn.defs (F := Bits)) (onTc (τ := Cert.AdamFfnIn.τ) (Cert.AdamFfnIn.main (F := Bits))) ⟨m, fun _ => 0, g⟩ (fun r => (∀ c : Dev Cert.AdamFfnIn.nD,
      r.2.mem ((c.tc : Thread Cert.AdamFfnIn.nD Cert.AdamFfnIn.τ).loc Cert.AdamFfnIn.main_arg0) = m ((c.tc : Thread Cert.AdamFfnIn.nD Cert.AdamFfnIn.τ).loc Cert.AdamFfnIn.main_arg0)
      ∧ r.2.mem ((c.tc : Thread Cert.AdamFfnIn.nD Cert.AdamFfnIn.τ).loc Cert.AdamFfnIn.main_arg1) = m ((c.tc : Thread Cert.AdamFfnIn.nD Cert.AdamFfnIn.τ).loc Cert.AdamFfnIn.main_arg1)
      ∧ r.2.mem ((c.tc : Thread Cert.AdamFfnIn.nD Cert.AdamFfnIn.τ).loc Cert.AdamFfnIn.main_arg2) = m ((c.tc : Thread Cert.AdamFfnIn.nD Cert.AdamFfnIn.τ).loc Cert.AdamFfnIn.main_arg2)
      ∧ r.2.mem ((c.tc : Thread Cert.AdamFfnIn.nD Cert.AdamFfnIn.τ).loc Cert.AdamFfnIn.main_arg3) = m ((c.tc : Thread Cert.AdamFfnIn.nD Cert.AdamFfnIn.τ).loc Cert.AdamFfnIn.main_arg3)
      ∧ r.2.mem ((c.tc : Thread Cert.AdamFfnIn.nD Cert.AdamFfnIn.τ).loc Cert.AdamFfnIn.main_arg4) = m ((c.tc : Thread Cert.AdamFfnIn.nD Cert.AdamFfnIn.τ).loc Cert.AdamFfnIn.main_arg4)
      ∧ r.2.mem ((c.tc : Thread Cert.AdamFfnIn.nD Cert.AdamFfnIn.τ).loc Cert.AdamFfnIn.main_arg5) = m ((c.tc : Thread Cert.AdamFfnIn.nD Cert.AdamFfnIn.τ).loc Cert.AdamFfnIn.main_arg5))
      ∧ r.2.sem = fun _ => 0)

def quiescent_AdamFfnInIdeal [hAdamFfnInIdeal : Cert.AdamFfnInIdeal.Facts] : Prop :=
  ∀ (m : (ℓ : Loc Cert.AdamFfnInIdeal.nD Cert.AdamFfnInIdeal.τ Cert.AdamFfnInIdeal.sig) → Buf (Elt Ideal) ℓ) (g : Dev Cert.AdamFfnInIdeal.nD → PrngReg), Pre_AdamFfnInIdeal m →
    θ_run (Cert.AdamFfnInIdeal.defs (F := Ideal)) (onTc (τ := Cert.AdamFfnInIdeal.τ) (Cert.AdamFfnInIdeal.main (F := Ideal))) ⟨m, fun _ => 0, g⟩ (fun r => (∀ c : Dev Cert.AdamFfnInIdeal.nD,
      r.2.mem ((c.tc : Thread Cert.AdamFfnInIdeal.nD Cert.AdamFfnInIdeal.τ).loc Cert.AdamFfnInIdeal.main_arg0) = m ((c.tc : Thread Cert.AdamFfnInIdeal.nD Cert.AdamFfnInIdeal.τ).loc Cert.AdamFfnInIdeal.main_arg0)
      ∧ r.2.mem ((c.tc : Thread Cert.AdamFfnInIdeal.nD Cert.AdamFfnInIdeal.τ).loc Cert.AdamFfnInIdeal.main_arg1) = m ((c.tc : Thread Cert.AdamFfnInIdeal.nD Cert.AdamFfnInIdeal.τ).loc Cert.AdamFfnInIdeal.main_arg1)
      ∧ r.2.mem ((c.tc : Thread Cert.AdamFfnInIdeal.nD Cert.AdamFfnInIdeal.τ).loc Cert.AdamFfnInIdeal.main_arg2) = m ((c.tc : Thread Cert.AdamFfnInIdeal.nD Cert.AdamFfnInIdeal.τ).loc Cert.AdamFfnInIdeal.main_arg2)
      ∧ r.2.mem ((c.tc : Thread Cert.AdamFfnInIdeal.nD Cert.AdamFfnInIdeal.τ).loc Cert.AdamFfnInIdeal.main_arg3) = m ((c.tc : Thread Cert.AdamFfnInIdeal.nD Cert.AdamFfnInIdeal.τ).loc Cert.AdamFfnInIdeal.main_arg3)
      ∧ r.2.mem ((c.tc : Thread Cert.AdamFfnInIdeal.nD Cert.AdamFfnInIdeal.τ).loc Cert.AdamFfnInIdeal.main_arg4) = m ((c.tc : Thread Cert.AdamFfnInIdeal.nD Cert.AdamFfnInIdeal.τ).loc Cert.AdamFfnInIdeal.main_arg4)
      ∧ r.2.mem ((c.tc : Thread Cert.AdamFfnInIdeal.nD Cert.AdamFfnInIdeal.τ).loc Cert.AdamFfnInIdeal.main_arg5) = m ((c.tc : Thread Cert.AdamFfnInIdeal.nD Cert.AdamFfnInIdeal.τ).loc Cert.AdamFfnInIdeal.main_arg5))
      ∧ r.2.sem = fun _ => 0)

def quiescent_AdamFfnInRefIdeal [hAdamFfnInRefIdeal : Cert.AdamFfnInRefIdeal.Facts] : Prop :=
  ∀ (m : (ℓ : Loc Cert.AdamFfnInRefIdeal.nD Cert.AdamFfnInRefIdeal.τ Cert.AdamFfnInRefIdeal.sig) → Buf (Elt Ideal) ℓ) (g : Dev Cert.AdamFfnInRefIdeal.nD → PrngReg), Pre_AdamFfnInRefIdeal m →
    θ_run (Cert.AdamFfnInRefIdeal.defs (F := Ideal)) (onTc (τ := Cert.AdamFfnInRefIdeal.τ) (Cert.AdamFfnInRefIdeal.main (F := Ideal))) ⟨m, fun _ => 0, g⟩ (fun r => (∀ c : Dev Cert.AdamFfnInRefIdeal.nD,
      r.2.mem ((c.tc : Thread Cert.AdamFfnInRefIdeal.nD Cert.AdamFfnInRefIdeal.τ).loc Cert.AdamFfnInRefIdeal.main_arg0) = m ((c.tc : Thread Cert.AdamFfnInRefIdeal.nD Cert.AdamFfnInRefIdeal.τ).loc Cert.AdamFfnInRefIdeal.main_arg0)
      ∧ r.2.mem ((c.tc : Thread Cert.AdamFfnInRefIdeal.nD Cert.AdamFfnInRefIdeal.τ).loc Cert.AdamFfnInRefIdeal.main_arg1) = m ((c.tc : Thread Cert.AdamFfnInRefIdeal.nD Cert.AdamFfnInRefIdeal.τ).loc Cert.AdamFfnInRefIdeal.main_arg1)
      ∧ r.2.mem ((c.tc : Thread Cert.AdamFfnInRefIdeal.nD Cert.AdamFfnInRefIdeal.τ).loc Cert.AdamFfnInRefIdeal.main_arg2) = m ((c.tc : Thread Cert.AdamFfnInRefIdeal.nD Cert.AdamFfnInRefIdeal.τ).loc Cert.AdamFfnInRefIdeal.main_arg2)
      ∧ r.2.mem ((c.tc : Thread Cert.AdamFfnInRefIdeal.nD Cert.AdamFfnInRefIdeal.τ).loc Cert.AdamFfnInRefIdeal.main_arg3) = m ((c.tc : Thread Cert.AdamFfnInRefIdeal.nD Cert.AdamFfnInRefIdeal.τ).loc Cert.AdamFfnInRefIdeal.main_arg3)
      ∧ r.2.mem ((c.tc : Thread Cert.AdamFfnInRefIdeal.nD Cert.AdamFfnInRefIdeal.τ).loc Cert.AdamFfnInRefIdeal.main_arg4) = m ((c.tc : Thread Cert.AdamFfnInRefIdeal.nD Cert.AdamFfnInRefIdeal.τ).loc Cert.AdamFfnInRefIdeal.main_arg4)
      ∧ r.2.mem ((c.tc : Thread Cert.AdamFfnInRefIdeal.nD Cert.AdamFfnInRefIdeal.τ).loc Cert.AdamFfnInRefIdeal.main_arg5) = m ((c.tc : Thread Cert.AdamFfnInRefIdeal.nD Cert.AdamFfnInRefIdeal.τ).loc Cert.AdamFfnInRefIdeal.main_arg5))
      ∧ r.2.sem = fun _ => 0)

def quiescent_AdamFfnOut [hAdamFfnOut : Cert.AdamFfnOut.Facts] : Prop :=
  ∀ (m : (ℓ : Loc Cert.AdamFfnOut.nD Cert.AdamFfnOut.τ Cert.AdamFfnOut.sig) → Buf (Elt Bits) ℓ) (g : Dev Cert.AdamFfnOut.nD → PrngReg), Pre_AdamFfnOut m →
    θ_run (Cert.AdamFfnOut.defs (F := Bits)) (onTc (τ := Cert.AdamFfnOut.τ) (Cert.AdamFfnOut.main (F := Bits))) ⟨m, fun _ => 0, g⟩ (fun r => (∀ c : Dev Cert.AdamFfnOut.nD,
      r.2.mem ((c.tc : Thread Cert.AdamFfnOut.nD Cert.AdamFfnOut.τ).loc Cert.AdamFfnOut.main_arg0) = m ((c.tc : Thread Cert.AdamFfnOut.nD Cert.AdamFfnOut.τ).loc Cert.AdamFfnOut.main_arg0)
      ∧ r.2.mem ((c.tc : Thread Cert.AdamFfnOut.nD Cert.AdamFfnOut.τ).loc Cert.AdamFfnOut.main_arg1) = m ((c.tc : Thread Cert.AdamFfnOut.nD Cert.AdamFfnOut.τ).loc Cert.AdamFfnOut.main_arg1)
      ∧ r.2.mem ((c.tc : Thread Cert.AdamFfnOut.nD Cert.AdamFfnOut.τ).loc Cert.AdamFfnOut.main_arg2) = m ((c.tc : Thread Cert.AdamFfnOut.nD Cert.AdamFfnOut.τ).loc Cert.AdamFfnOut.main_arg2)
      ∧ r.2.mem ((c.tc : Thread Cert.AdamFfnOut.nD Cert.AdamFfnOut.τ).loc Cert.AdamFfnOut.main_arg3) = m ((c.tc : Thread Cert.AdamFfnOut.nD Cert.AdamFfnOut.τ).loc Cert.AdamFfnOut.main_arg3)
      ∧ r.2.mem ((c.tc : Thread Cert.AdamFfnOut.nD Cert.AdamFfnOut.τ).loc Cert.AdamFfnOut.main_arg4) = m ((c.tc : Thread Cert.AdamFfnOut.nD Cert.AdamFfnOut.τ).loc Cert.AdamFfnOut.main_arg4)
      ∧ r.2.mem ((c.tc : Thread Cert.AdamFfnOut.nD Cert.AdamFfnOut.τ).loc Cert.AdamFfnOut.main_arg5) = m ((c.tc : Thread Cert.AdamFfnOut.nD Cert.AdamFfnOut.τ).loc Cert.AdamFfnOut.main_arg5))
      ∧ r.2.sem = fun _ => 0)

def quiescent_AdamFfnOutIdeal [hAdamFfnOutIdeal : Cert.AdamFfnOutIdeal.Facts] : Prop :=
  ∀ (m : (ℓ : Loc Cert.AdamFfnOutIdeal.nD Cert.AdamFfnOutIdeal.τ Cert.AdamFfnOutIdeal.sig) → Buf (Elt Ideal) ℓ) (g : Dev Cert.AdamFfnOutIdeal.nD → PrngReg), Pre_AdamFfnOutIdeal m →
    θ_run (Cert.AdamFfnOutIdeal.defs (F := Ideal)) (onTc (τ := Cert.AdamFfnOutIdeal.τ) (Cert.AdamFfnOutIdeal.main (F := Ideal))) ⟨m, fun _ => 0, g⟩ (fun r => (∀ c : Dev Cert.AdamFfnOutIdeal.nD,
      r.2.mem ((c.tc : Thread Cert.AdamFfnOutIdeal.nD Cert.AdamFfnOutIdeal.τ).loc Cert.AdamFfnOutIdeal.main_arg0) = m ((c.tc : Thread Cert.AdamFfnOutIdeal.nD Cert.AdamFfnOutIdeal.τ).loc Cert.AdamFfnOutIdeal.main_arg0)
      ∧ r.2.mem ((c.tc : Thread Cert.AdamFfnOutIdeal.nD Cert.AdamFfnOutIdeal.τ).loc Cert.AdamFfnOutIdeal.main_arg1) = m ((c.tc : Thread Cert.AdamFfnOutIdeal.nD Cert.AdamFfnOutIdeal.τ).loc Cert.AdamFfnOutIdeal.main_arg1)
      ∧ r.2.mem ((c.tc : Thread Cert.AdamFfnOutIdeal.nD Cert.AdamFfnOutIdeal.τ).loc Cert.AdamFfnOutIdeal.main_arg2) = m ((c.tc : Thread Cert.AdamFfnOutIdeal.nD Cert.AdamFfnOutIdeal.τ).loc Cert.AdamFfnOutIdeal.main_arg2)
      ∧ r.2.mem ((c.tc : Thread Cert.AdamFfnOutIdeal.nD Cert.AdamFfnOutIdeal.τ).loc Cert.AdamFfnOutIdeal.main_arg3) = m ((c.tc : Thread Cert.AdamFfnOutIdeal.nD Cert.AdamFfnOutIdeal.τ).loc Cert.AdamFfnOutIdeal.main_arg3)
      ∧ r.2.mem ((c.tc : Thread Cert.AdamFfnOutIdeal.nD Cert.AdamFfnOutIdeal.τ).loc Cert.AdamFfnOutIdeal.main_arg4) = m ((c.tc : Thread Cert.AdamFfnOutIdeal.nD Cert.AdamFfnOutIdeal.τ).loc Cert.AdamFfnOutIdeal.main_arg4)
      ∧ r.2.mem ((c.tc : Thread Cert.AdamFfnOutIdeal.nD Cert.AdamFfnOutIdeal.τ).loc Cert.AdamFfnOutIdeal.main_arg5) = m ((c.tc : Thread Cert.AdamFfnOutIdeal.nD Cert.AdamFfnOutIdeal.τ).loc Cert.AdamFfnOutIdeal.main_arg5))
      ∧ r.2.sem = fun _ => 0)

def quiescent_AdamFfnOutRefIdeal [hAdamFfnOutRefIdeal : Cert.AdamFfnOutRefIdeal.Facts] : Prop :=
  ∀ (m : (ℓ : Loc Cert.AdamFfnOutRefIdeal.nD Cert.AdamFfnOutRefIdeal.τ Cert.AdamFfnOutRefIdeal.sig) → Buf (Elt Ideal) ℓ) (g : Dev Cert.AdamFfnOutRefIdeal.nD → PrngReg), Pre_AdamFfnOutRefIdeal m →
    θ_run (Cert.AdamFfnOutRefIdeal.defs (F := Ideal)) (onTc (τ := Cert.AdamFfnOutRefIdeal.τ) (Cert.AdamFfnOutRefIdeal.main (F := Ideal))) ⟨m, fun _ => 0, g⟩ (fun r => (∀ c : Dev Cert.AdamFfnOutRefIdeal.nD,
      r.2.mem ((c.tc : Thread Cert.AdamFfnOutRefIdeal.nD Cert.AdamFfnOutRefIdeal.τ).loc Cert.AdamFfnOutRefIdeal.main_arg0) = m ((c.tc : Thread Cert.AdamFfnOutRefIdeal.nD Cert.AdamFfnOutRefIdeal.τ).loc Cert.AdamFfnOutRefIdeal.main_arg0)
      ∧ r.2.mem ((c.tc : Thread Cert.AdamFfnOutRefIdeal.nD Cert.AdamFfnOutRefIdeal.τ).loc Cert.AdamFfnOutRefIdeal.main_arg1) = m ((c.tc : Thread Cert.AdamFfnOutRefIdeal.nD Cert.AdamFfnOutRefIdeal.τ).loc Cert.AdamFfnOutRefIdeal.main_arg1)
      ∧ r.2.mem ((c.tc : Thread Cert.AdamFfnOutRefIdeal.nD Cert.AdamFfnOutRefIdeal.τ).loc Cert.AdamFfnOutRefIdeal.main_arg2) = m ((c.tc : Thread Cert.AdamFfnOutRefIdeal.nD Cert.AdamFfnOutRefIdeal.τ).loc Cert.AdamFfnOutRefIdeal.main_arg2)
      ∧ r.2.mem ((c.tc : Thread Cert.AdamFfnOutRefIdeal.nD Cert.AdamFfnOutRefIdeal.τ).loc Cert.AdamFfnOutRefIdeal.main_arg3) = m ((c.tc : Thread Cert.AdamFfnOutRefIdeal.nD Cert.AdamFfnOutRefIdeal.τ).loc Cert.AdamFfnOutRefIdeal.main_arg3)
      ∧ r.2.mem ((c.tc : Thread Cert.AdamFfnOutRefIdeal.nD Cert.AdamFfnOutRefIdeal.τ).loc Cert.AdamFfnOutRefIdeal.main_arg4) = m ((c.tc : Thread Cert.AdamFfnOutRefIdeal.nD Cert.AdamFfnOutRefIdeal.τ).loc Cert.AdamFfnOutRefIdeal.main_arg4)
      ∧ r.2.mem ((c.tc : Thread Cert.AdamFfnOutRefIdeal.nD Cert.AdamFfnOutRefIdeal.τ).loc Cert.AdamFfnOutRefIdeal.main_arg5) = m ((c.tc : Thread Cert.AdamFfnOutRefIdeal.nD Cert.AdamFfnOutRefIdeal.τ).loc Cert.AdamFfnOutRefIdeal.main_arg5))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3)
      ∧ r.2.mem ((c.tc : Thread Cert.AdamOut.nD Cert.AdamOut.τ).loc Cert.AdamOut.main_arg4) = m ((c.tc : Thread Cert.AdamOut.nD Cert.AdamOut.τ).loc Cert.AdamOut.main_arg4)
      ∧ r.2.mem ((c.tc : Thread Cert.AdamOut.nD Cert.AdamOut.τ).loc Cert.AdamOut.main_arg5) = m ((c.tc : Thread Cert.AdamOut.nD Cert.AdamOut.τ).loc Cert.AdamOut.main_arg5))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3)
      ∧ r.2.mem ((c.tc : Thread Cert.AdamOutIdeal.nD Cert.AdamOutIdeal.τ).loc Cert.AdamOutIdeal.main_arg4) = m ((c.tc : Thread Cert.AdamOutIdeal.nD Cert.AdamOutIdeal.τ).loc Cert.AdamOutIdeal.main_arg4)
      ∧ r.2.mem ((c.tc : Thread Cert.AdamOutIdeal.nD Cert.AdamOutIdeal.τ).loc Cert.AdamOutIdeal.main_arg5) = m ((c.tc : Thread Cert.AdamOutIdeal.nD Cert.AdamOutIdeal.τ).loc Cert.AdamOutIdeal.main_arg5))
      ∧ r.2.sem = fun _ => 0)

def quiescent_AdamOutRefIdeal [hAdamOutRefIdeal : Cert.AdamOutRefIdeal.Facts] : Prop :=
  ∀ (m : (ℓ : Loc Cert.AdamOutRefIdeal.nD Cert.AdamOutRefIdeal.τ Cert.AdamOutRefIdeal.sig) → Buf (Elt Ideal) ℓ) (g : Dev Cert.AdamOutRefIdeal.nD → PrngReg), Pre_AdamOutRefIdeal m →
    θ_run (Cert.AdamOutRefIdeal.defs (F := Ideal)) (onTc (τ := Cert.AdamOutRefIdeal.τ) (Cert.AdamOutRefIdeal.main (F := Ideal))) ⟨m, fun _ => 0, g⟩ (fun r => (∀ c : Dev Cert.AdamOutRefIdeal.nD,
      r.2.mem ((c.tc : Thread Cert.AdamOutRefIdeal.nD Cert.AdamOutRefIdeal.τ).loc Cert.AdamOutRefIdeal.main_arg0) = m ((c.tc : Thread Cert.AdamOutRefIdeal.nD Cert.AdamOutRefIdeal.τ).loc Cert.AdamOutRefIdeal.main_arg0)
      ∧ r.2.mem ((c.tc : Thread Cert.AdamOutRefIdeal.nD Cert.AdamOutRefIdeal.τ).loc Cert.AdamOutRefIdeal.main_arg1) = m ((c.tc : Thread Cert.AdamOutRefIdeal.nD Cert.AdamOutRefIdeal.τ).loc Cert.AdamOutRefIdeal.main_arg1)
      ∧ r.2.mem ((c.tc : Thread Cert.AdamOutRefIdeal.nD Cert.AdamOutRefIdeal.τ).loc Cert.AdamOutRefIdeal.main_arg2) = m ((c.tc : Thread Cert.AdamOutRefIdeal.nD Cert.AdamOutRefIdeal.τ).loc Cert.AdamOutRefIdeal.main_arg2)
      ∧ r.2.mem ((c.tc : Thread Cert.AdamOutRefIdeal.nD Cert.AdamOutRefIdeal.τ).loc Cert.AdamOutRefIdeal.main_arg3) = m ((c.tc : Thread Cert.AdamOutRefIdeal.nD Cert.AdamOutRefIdeal.τ).loc Cert.AdamOutRefIdeal.main_arg3)
      ∧ r.2.mem ((c.tc : Thread Cert.AdamOutRefIdeal.nD Cert.AdamOutRefIdeal.τ).loc Cert.AdamOutRefIdeal.main_arg4) = m ((c.tc : Thread Cert.AdamOutRefIdeal.nD Cert.AdamOutRefIdeal.τ).loc Cert.AdamOutRefIdeal.main_arg4)
      ∧ r.2.mem ((c.tc : Thread Cert.AdamOutRefIdeal.nD Cert.AdamOutRefIdeal.τ).loc Cert.AdamOutRefIdeal.main_arg5) = m ((c.tc : Thread Cert.AdamOutRefIdeal.nD Cert.AdamOutRefIdeal.τ).loc Cert.AdamOutRefIdeal.main_arg5))
      ∧ r.2.sem = fun _ => 0)

def quiescent_AdamBranch [hAdamBranch : Cert.AdamBranch.Facts] : Prop :=
  ∀ (m : (ℓ : Loc Cert.AdamBranch.nD Cert.AdamBranch.τ Cert.AdamBranch.sig) → Buf (Elt Bits) ℓ) (g : Dev Cert.AdamBranch.nD → PrngReg), Pre_AdamBranch m →
    θ_run (Cert.AdamBranch.defs (F := Bits)) (onTc (τ := Cert.AdamBranch.τ) (Cert.AdamBranch.main (F := Bits))) ⟨m, fun _ => 0, g⟩ (fun r => (∀ c : Dev Cert.AdamBranch.nD,
      r.2.mem ((c.tc : Thread Cert.AdamBranch.nD Cert.AdamBranch.τ).loc Cert.AdamBranch.main_arg0) = m ((c.tc : Thread Cert.AdamBranch.nD Cert.AdamBranch.τ).loc Cert.AdamBranch.main_arg0)
      ∧ r.2.mem ((c.tc : Thread Cert.AdamBranch.nD Cert.AdamBranch.τ).loc Cert.AdamBranch.main_arg1) = m ((c.tc : Thread Cert.AdamBranch.nD Cert.AdamBranch.τ).loc Cert.AdamBranch.main_arg1)
      ∧ r.2.mem ((c.tc : Thread Cert.AdamBranch.nD Cert.AdamBranch.τ).loc Cert.AdamBranch.main_arg2) = m ((c.tc : Thread Cert.AdamBranch.nD Cert.AdamBranch.τ).loc Cert.AdamBranch.main_arg2)
      ∧ r.2.mem ((c.tc : Thread Cert.AdamBranch.nD Cert.AdamBranch.τ).loc Cert.AdamBranch.main_arg3) = m ((c.tc : Thread Cert.AdamBranch.nD Cert.AdamBranch.τ).loc Cert.AdamBranch.main_arg3)
      ∧ r.2.mem ((c.tc : Thread Cert.AdamBranch.nD Cert.AdamBranch.τ).loc Cert.AdamBranch.main_arg4) = m ((c.tc : Thread Cert.AdamBranch.nD Cert.AdamBranch.τ).loc Cert.AdamBranch.main_arg4)
      ∧ r.2.mem ((c.tc : Thread Cert.AdamBranch.nD Cert.AdamBranch.τ).loc Cert.AdamBranch.main_arg5) = m ((c.tc : Thread Cert.AdamBranch.nD Cert.AdamBranch.τ).loc Cert.AdamBranch.main_arg5))
      ∧ r.2.sem = fun _ => 0)

def quiescent_AdamBranchIdeal [hAdamBranchIdeal : Cert.AdamBranchIdeal.Facts] : Prop :=
  ∀ (m : (ℓ : Loc Cert.AdamBranchIdeal.nD Cert.AdamBranchIdeal.τ Cert.AdamBranchIdeal.sig) → Buf (Elt Ideal) ℓ) (g : Dev Cert.AdamBranchIdeal.nD → PrngReg), Pre_AdamBranchIdeal m →
    θ_run (Cert.AdamBranchIdeal.defs (F := Ideal)) (onTc (τ := Cert.AdamBranchIdeal.τ) (Cert.AdamBranchIdeal.main (F := Ideal))) ⟨m, fun _ => 0, g⟩ (fun r => (∀ c : Dev Cert.AdamBranchIdeal.nD,
      r.2.mem ((c.tc : Thread Cert.AdamBranchIdeal.nD Cert.AdamBranchIdeal.τ).loc Cert.AdamBranchIdeal.main_arg0) = m ((c.tc : Thread Cert.AdamBranchIdeal.nD Cert.AdamBranchIdeal.τ).loc Cert.AdamBranchIdeal.main_arg0)
      ∧ r.2.mem ((c.tc : Thread Cert.AdamBranchIdeal.nD Cert.AdamBranchIdeal.τ).loc Cert.AdamBranchIdeal.main_arg1) = m ((c.tc : Thread Cert.AdamBranchIdeal.nD Cert.AdamBranchIdeal.τ).loc Cert.AdamBranchIdeal.main_arg1)
      ∧ r.2.mem ((c.tc : Thread Cert.AdamBranchIdeal.nD Cert.AdamBranchIdeal.τ).loc Cert.AdamBranchIdeal.main_arg2) = m ((c.tc : Thread Cert.AdamBranchIdeal.nD Cert.AdamBranchIdeal.τ).loc Cert.AdamBranchIdeal.main_arg2)
      ∧ r.2.mem ((c.tc : Thread Cert.AdamBranchIdeal.nD Cert.AdamBranchIdeal.τ).loc Cert.AdamBranchIdeal.main_arg3) = m ((c.tc : Thread Cert.AdamBranchIdeal.nD Cert.AdamBranchIdeal.τ).loc Cert.AdamBranchIdeal.main_arg3)
      ∧ r.2.mem ((c.tc : Thread Cert.AdamBranchIdeal.nD Cert.AdamBranchIdeal.τ).loc Cert.AdamBranchIdeal.main_arg4) = m ((c.tc : Thread Cert.AdamBranchIdeal.nD Cert.AdamBranchIdeal.τ).loc Cert.AdamBranchIdeal.main_arg4)
      ∧ r.2.mem ((c.tc : Thread Cert.AdamBranchIdeal.nD Cert.AdamBranchIdeal.τ).loc Cert.AdamBranchIdeal.main_arg5) = m ((c.tc : Thread Cert.AdamBranchIdeal.nD Cert.AdamBranchIdeal.τ).loc Cert.AdamBranchIdeal.main_arg5))
      ∧ r.2.sem = fun _ => 0)

def quiescent_AdamBranchRefIdeal [hAdamBranchRefIdeal : Cert.AdamBranchRefIdeal.Facts] : Prop :=
  ∀ (m : (ℓ : Loc Cert.AdamBranchRefIdeal.nD Cert.AdamBranchRefIdeal.τ Cert.AdamBranchRefIdeal.sig) → Buf (Elt Ideal) ℓ) (g : Dev Cert.AdamBranchRefIdeal.nD → PrngReg), Pre_AdamBranchRefIdeal m →
    θ_run (Cert.AdamBranchRefIdeal.defs (F := Ideal)) (onTc (τ := Cert.AdamBranchRefIdeal.τ) (Cert.AdamBranchRefIdeal.main (F := Ideal))) ⟨m, fun _ => 0, g⟩ (fun r => (∀ c : Dev Cert.AdamBranchRefIdeal.nD,
      r.2.mem ((c.tc : Thread Cert.AdamBranchRefIdeal.nD Cert.AdamBranchRefIdeal.τ).loc Cert.AdamBranchRefIdeal.main_arg0) = m ((c.tc : Thread Cert.AdamBranchRefIdeal.nD Cert.AdamBranchRefIdeal.τ).loc Cert.AdamBranchRefIdeal.main_arg0)
      ∧ r.2.mem ((c.tc : Thread Cert.AdamBranchRefIdeal.nD Cert.AdamBranchRefIdeal.τ).loc Cert.AdamBranchRefIdeal.main_arg1) = m ((c.tc : Thread Cert.AdamBranchRefIdeal.nD Cert.AdamBranchRefIdeal.τ).loc Cert.AdamBranchRefIdeal.main_arg1)
      ∧ r.2.mem ((c.tc : Thread Cert.AdamBranchRefIdeal.nD Cert.AdamBranchRefIdeal.τ).loc Cert.AdamBranchRefIdeal.main_arg2) = m ((c.tc : Thread Cert.AdamBranchRefIdeal.nD Cert.AdamBranchRefIdeal.τ).loc Cert.AdamBranchRefIdeal.main_arg2)
      ∧ r.2.mem ((c.tc : Thread Cert.AdamBranchRefIdeal.nD Cert.AdamBranchRefIdeal.τ).loc Cert.AdamBranchRefIdeal.main_arg3) = m ((c.tc : Thread Cert.AdamBranchRefIdeal.nD Cert.AdamBranchRefIdeal.τ).loc Cert.AdamBranchRefIdeal.main_arg3)
      ∧ r.2.mem ((c.tc : Thread Cert.AdamBranchRefIdeal.nD Cert.AdamBranchRefIdeal.τ).loc Cert.AdamBranchRefIdeal.main_arg4) = m ((c.tc : Thread Cert.AdamBranchRefIdeal.nD Cert.AdamBranchRefIdeal.τ).loc Cert.AdamBranchRefIdeal.main_arg4)
      ∧ r.2.mem ((c.tc : Thread Cert.AdamBranchRefIdeal.nD Cert.AdamBranchRefIdeal.τ).loc Cert.AdamBranchRefIdeal.main_arg5) = m ((c.tc : Thread Cert.AdamBranchRefIdeal.nD Cert.AdamBranchRefIdeal.τ).loc Cert.AdamBranchRefIdeal.main_arg5))
      ∧ r.2.sem = fun _ => 0)

def quiescent_AdamConv [hAdamConv : Cert.AdamConv.Facts] : Prop :=
  ∀ (m : (ℓ : Loc Cert.AdamConv.nD Cert.AdamConv.τ Cert.AdamConv.sig) → Buf (Elt Bits) ℓ) (g : Dev Cert.AdamConv.nD → PrngReg), Pre_AdamConv m →
    θ_run (Cert.AdamConv.defs (F := Bits)) (onTc (τ := Cert.AdamConv.τ) (Cert.AdamConv.main (F := Bits))) ⟨m, fun _ => 0, g⟩ (fun r => (∀ c : Dev Cert.AdamConv.nD,
      r.2.mem ((c.tc : Thread Cert.AdamConv.nD Cert.AdamConv.τ).loc Cert.AdamConv.main_arg0) = m ((c.tc : Thread Cert.AdamConv.nD Cert.AdamConv.τ).loc Cert.AdamConv.main_arg0)
      ∧ r.2.mem ((c.tc : Thread Cert.AdamConv.nD Cert.AdamConv.τ).loc Cert.AdamConv.main_arg1) = m ((c.tc : Thread Cert.AdamConv.nD Cert.AdamConv.τ).loc Cert.AdamConv.main_arg1)
      ∧ r.2.mem ((c.tc : Thread Cert.AdamConv.nD Cert.AdamConv.τ).loc Cert.AdamConv.main_arg2) = m ((c.tc : Thread Cert.AdamConv.nD Cert.AdamConv.τ).loc Cert.AdamConv.main_arg2)
      ∧ r.2.mem ((c.tc : Thread Cert.AdamConv.nD Cert.AdamConv.τ).loc Cert.AdamConv.main_arg3) = m ((c.tc : Thread Cert.AdamConv.nD Cert.AdamConv.τ).loc Cert.AdamConv.main_arg3)
      ∧ r.2.mem ((c.tc : Thread Cert.AdamConv.nD Cert.AdamConv.τ).loc Cert.AdamConv.main_arg4) = m ((c.tc : Thread Cert.AdamConv.nD Cert.AdamConv.τ).loc Cert.AdamConv.main_arg4)
      ∧ r.2.mem ((c.tc : Thread Cert.AdamConv.nD Cert.AdamConv.τ).loc Cert.AdamConv.main_arg5) = m ((c.tc : Thread Cert.AdamConv.nD Cert.AdamConv.τ).loc Cert.AdamConv.main_arg5))
      ∧ r.2.sem = fun _ => 0)

def quiescent_AdamConvIdeal [hAdamConvIdeal : Cert.AdamConvIdeal.Facts] : Prop :=
  ∀ (m : (ℓ : Loc Cert.AdamConvIdeal.nD Cert.AdamConvIdeal.τ Cert.AdamConvIdeal.sig) → Buf (Elt Ideal) ℓ) (g : Dev Cert.AdamConvIdeal.nD → PrngReg), Pre_AdamConvIdeal m →
    θ_run (Cert.AdamConvIdeal.defs (F := Ideal)) (onTc (τ := Cert.AdamConvIdeal.τ) (Cert.AdamConvIdeal.main (F := Ideal))) ⟨m, fun _ => 0, g⟩ (fun r => (∀ c : Dev Cert.AdamConvIdeal.nD,
      r.2.mem ((c.tc : Thread Cert.AdamConvIdeal.nD Cert.AdamConvIdeal.τ).loc Cert.AdamConvIdeal.main_arg0) = m ((c.tc : Thread Cert.AdamConvIdeal.nD Cert.AdamConvIdeal.τ).loc Cert.AdamConvIdeal.main_arg0)
      ∧ r.2.mem ((c.tc : Thread Cert.AdamConvIdeal.nD Cert.AdamConvIdeal.τ).loc Cert.AdamConvIdeal.main_arg1) = m ((c.tc : Thread Cert.AdamConvIdeal.nD Cert.AdamConvIdeal.τ).loc Cert.AdamConvIdeal.main_arg1)
      ∧ r.2.mem ((c.tc : Thread Cert.AdamConvIdeal.nD Cert.AdamConvIdeal.τ).loc Cert.AdamConvIdeal.main_arg2) = m ((c.tc : Thread Cert.AdamConvIdeal.nD Cert.AdamConvIdeal.τ).loc Cert.AdamConvIdeal.main_arg2)
      ∧ r.2.mem ((c.tc : Thread Cert.AdamConvIdeal.nD Cert.AdamConvIdeal.τ).loc Cert.AdamConvIdeal.main_arg3) = m ((c.tc : Thread Cert.AdamConvIdeal.nD Cert.AdamConvIdeal.τ).loc Cert.AdamConvIdeal.main_arg3)
      ∧ r.2.mem ((c.tc : Thread Cert.AdamConvIdeal.nD Cert.AdamConvIdeal.τ).loc Cert.AdamConvIdeal.main_arg4) = m ((c.tc : Thread Cert.AdamConvIdeal.nD Cert.AdamConvIdeal.τ).loc Cert.AdamConvIdeal.main_arg4)
      ∧ r.2.mem ((c.tc : Thread Cert.AdamConvIdeal.nD Cert.AdamConvIdeal.τ).loc Cert.AdamConvIdeal.main_arg5) = m ((c.tc : Thread Cert.AdamConvIdeal.nD Cert.AdamConvIdeal.τ).loc Cert.AdamConvIdeal.main_arg5))
      ∧ r.2.sem = fun _ => 0)

def quiescent_AdamConvRefIdeal [hAdamConvRefIdeal : Cert.AdamConvRefIdeal.Facts] : Prop :=
  ∀ (m : (ℓ : Loc Cert.AdamConvRefIdeal.nD Cert.AdamConvRefIdeal.τ Cert.AdamConvRefIdeal.sig) → Buf (Elt Ideal) ℓ) (g : Dev Cert.AdamConvRefIdeal.nD → PrngReg), Pre_AdamConvRefIdeal m →
    θ_run (Cert.AdamConvRefIdeal.defs (F := Ideal)) (onTc (τ := Cert.AdamConvRefIdeal.τ) (Cert.AdamConvRefIdeal.main (F := Ideal))) ⟨m, fun _ => 0, g⟩ (fun r => (∀ c : Dev Cert.AdamConvRefIdeal.nD,
      r.2.mem ((c.tc : Thread Cert.AdamConvRefIdeal.nD Cert.AdamConvRefIdeal.τ).loc Cert.AdamConvRefIdeal.main_arg0) = m ((c.tc : Thread Cert.AdamConvRefIdeal.nD Cert.AdamConvRefIdeal.τ).loc Cert.AdamConvRefIdeal.main_arg0)
      ∧ r.2.mem ((c.tc : Thread Cert.AdamConvRefIdeal.nD Cert.AdamConvRefIdeal.τ).loc Cert.AdamConvRefIdeal.main_arg1) = m ((c.tc : Thread Cert.AdamConvRefIdeal.nD Cert.AdamConvRefIdeal.τ).loc Cert.AdamConvRefIdeal.main_arg1)
      ∧ r.2.mem ((c.tc : Thread Cert.AdamConvRefIdeal.nD Cert.AdamConvRefIdeal.τ).loc Cert.AdamConvRefIdeal.main_arg2) = m ((c.tc : Thread Cert.AdamConvRefIdeal.nD Cert.AdamConvRefIdeal.τ).loc Cert.AdamConvRefIdeal.main_arg2)
      ∧ r.2.mem ((c.tc : Thread Cert.AdamConvRefIdeal.nD Cert.AdamConvRefIdeal.τ).loc Cert.AdamConvRefIdeal.main_arg3) = m ((c.tc : Thread Cert.AdamConvRefIdeal.nD Cert.AdamConvRefIdeal.τ).loc Cert.AdamConvRefIdeal.main_arg3)
      ∧ r.2.mem ((c.tc : Thread Cert.AdamConvRefIdeal.nD Cert.AdamConvRefIdeal.τ).loc Cert.AdamConvRefIdeal.main_arg4) = m ((c.tc : Thread Cert.AdamConvRefIdeal.nD Cert.AdamConvRefIdeal.τ).loc Cert.AdamConvRefIdeal.main_arg4)
      ∧ r.2.mem ((c.tc : Thread Cert.AdamConvRefIdeal.nD Cert.AdamConvRefIdeal.τ).loc Cert.AdamConvRefIdeal.main_arg5) = m ((c.tc : Thread Cert.AdamConvRefIdeal.nD Cert.AdamConvRefIdeal.τ).loc Cert.AdamConvRefIdeal.main_arg5))
      ∧ r.2.sem = fun _ => 0)

def quiescent_AdaDw [hAdaDw : Cert.AdaDw.Facts] : Prop :=
  ∀ (m : (ℓ : Loc Cert.AdaDw.nD Cert.AdaDw.τ Cert.AdaDw.sig) → Buf (Elt Bits) ℓ) (g : Dev Cert.AdaDw.nD → PrngReg), Pre_AdaDw m →
    θ_run (Cert.AdaDw.defs (F := Bits)) (onTc (τ := Cert.AdaDw.τ) (Cert.AdaDw.main (F := Bits))) ⟨m, fun _ => 0, g⟩ (fun r => (∀ c : Dev Cert.AdaDw.nD,
      r.2.mem ((c.tc : Thread Cert.AdaDw.nD Cert.AdaDw.τ).loc Cert.AdaDw.main_arg0) = m ((c.tc : Thread Cert.AdaDw.nD Cert.AdaDw.τ).loc Cert.AdaDw.main_arg0)
      ∧ r.2.mem ((c.tc : Thread Cert.AdaDw.nD Cert.AdaDw.τ).loc Cert.AdaDw.main_arg1) = m ((c.tc : Thread Cert.AdaDw.nD Cert.AdaDw.τ).loc Cert.AdaDw.main_arg1))
      ∧ r.2.sem = fun _ => 0)

def quiescent_AdaDwIdeal [hAdaDwIdeal : Cert.AdaDwIdeal.Facts] : Prop :=
  ∀ (m : (ℓ : Loc Cert.AdaDwIdeal.nD Cert.AdaDwIdeal.τ Cert.AdaDwIdeal.sig) → Buf (Elt Ideal) ℓ) (g : Dev Cert.AdaDwIdeal.nD → PrngReg), Pre_AdaDwIdeal m →
    θ_run (Cert.AdaDwIdeal.defs (F := Ideal)) (onTc (τ := Cert.AdaDwIdeal.τ) (Cert.AdaDwIdeal.main (F := Ideal))) ⟨m, fun _ => 0, g⟩ (fun r => (∀ c : Dev Cert.AdaDwIdeal.nD,
      r.2.mem ((c.tc : Thread Cert.AdaDwIdeal.nD Cert.AdaDwIdeal.τ).loc Cert.AdaDwIdeal.main_arg0) = m ((c.tc : Thread Cert.AdaDwIdeal.nD Cert.AdaDwIdeal.τ).loc Cert.AdaDwIdeal.main_arg0)
      ∧ r.2.mem ((c.tc : Thread Cert.AdaDwIdeal.nD Cert.AdaDwIdeal.τ).loc Cert.AdaDwIdeal.main_arg1) = m ((c.tc : Thread Cert.AdaDwIdeal.nD Cert.AdaDwIdeal.τ).loc Cert.AdaDwIdeal.main_arg1))
      ∧ r.2.sem = fun _ => 0)

def quiescent_AdaDwRefIdeal [hAdaDwRefIdeal : Cert.AdaDwRefIdeal.Facts] : Prop :=
  ∀ (m : (ℓ : Loc Cert.AdaDwRefIdeal.nD Cert.AdaDwRefIdeal.τ Cert.AdaDwRefIdeal.sig) → Buf (Elt Ideal) ℓ) (g : Dev Cert.AdaDwRefIdeal.nD → PrngReg), Pre_AdaDwRefIdeal m →
    θ_run (Cert.AdaDwRefIdeal.defs (F := Ideal)) (onTc (τ := Cert.AdaDwRefIdeal.τ) (Cert.AdaDwRefIdeal.main (F := Ideal))) ⟨m, fun _ => 0, g⟩ (fun r => (∀ c : Dev Cert.AdaDwRefIdeal.nD,
      r.2.mem ((c.tc : Thread Cert.AdaDwRefIdeal.nD Cert.AdaDwRefIdeal.τ).loc Cert.AdaDwRefIdeal.main_arg0) = m ((c.tc : Thread Cert.AdaDwRefIdeal.nD Cert.AdaDwRefIdeal.τ).loc Cert.AdaDwRefIdeal.main_arg0)
      ∧ r.2.mem ((c.tc : Thread Cert.AdaDwRefIdeal.nD Cert.AdaDwRefIdeal.τ).loc Cert.AdaDwRefIdeal.main_arg1) = m ((c.tc : Thread Cert.AdaDwRefIdeal.nD Cert.AdaDwRefIdeal.τ).loc Cert.AdaDwRefIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_v29) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Swiglu_SwigluIdeal : Prop :=
  True

def algebraic_SwigluIdeal_SwigluRefIdeal [hSwigluIdeal : Cert.SwigluIdeal.Facts] [hSwigluRefIdeal : Cert.SwigluRefIdeal.Facts] : Prop :=
  ∀ (m : (ℓ : Loc Cert.SwigluIdeal.nD Cert.SwigluIdeal.τ Cert.SwigluIdeal.sig) → Buf (Elt Ideal) ℓ) (g : Dev Cert.SwigluIdeal.nD → PrngReg)
    (m' : (ℓ : Loc Cert.SwigluRefIdeal.nD Cert.SwigluRefIdeal.τ Cert.SwigluRefIdeal.sig) → Buf (Elt Ideal) ℓ) (g' : Dev Cert.SwigluRefIdeal.nD → PrngReg), Pre_SwigluIdeal m →
    (∀ c : Dev Cert.SwigluIdeal.nD,
      m' ((c.tc : Thread Cert.SwigluRefIdeal.nD Cert.SwigluRefIdeal.τ).loc Cert.SwigluRefIdeal.main_arg0) = m ((c.tc : Thread Cert.SwigluIdeal.nD Cert.SwigluIdeal.τ).loc Cert.SwigluIdeal.main_arg0)
      ∧ m' ((c.tc : Thread Cert.SwigluRefIdeal.nD Cert.SwigluRefIdeal.τ).loc Cert.SwigluRefIdeal.main_arg1) = m ((c.tc : Thread Cert.SwigluIdeal.nD Cert.SwigluIdeal.τ).loc Cert.SwigluIdeal.main_arg1)) →
    ∃ (v0 : (c : Dev Cert.SwigluIdeal.nD) → Buf (Elt Ideal) ((c.tc : Thread Cert.SwigluIdeal.nD Cert.SwigluIdeal.τ).loc Cert.SwigluIdeal.main_v2_0)) (v1 : (c : Dev Cert.SwigluIdeal.nD) → Buf (Elt Ideal) ((c.tc : Thread Cert.SwigluIdeal.nD Cert.SwigluIdeal.τ).loc Cert.SwigluIdeal.main_v2_1)),
      θ_run (Cert.SwigluIdeal.defs (F := Ideal)) (onTc (τ := Cert.SwigluIdeal.τ) (Cert.SwigluIdeal.main (F := Ideal))) ⟨m, fun _ => 0, g⟩ (fun r => ∀ c : Dev Cert.SwigluIdeal.nD,
          r.2.mem ((c.tc : Thread Cert.SwigluIdeal.nD Cert.SwigluIdeal.τ).loc Cert.SwigluIdeal.main_v2_0) = v0 c
          ∧ r.2.mem ((c.tc : Thread Cert.SwigluIdeal.nD Cert.SwigluIdeal.τ).loc Cert.SwigluIdeal.main_v2_1) = v1 c
          ∧ r.2.mem ((c.tc : Thread Cert.SwigluIdeal.nD Cert.SwigluIdeal.τ).loc Cert.SwigluIdeal.main_arg0) = m ((c.tc : Thread Cert.SwigluIdeal.nD Cert.SwigluIdeal.τ).loc Cert.SwigluIdeal.main_arg0)
          ∧ r.2.mem ((c.tc : Thread Cert.SwigluIdeal.nD Cert.SwigluIdeal.τ).loc Cert.SwigluIdeal.main_arg1) = m ((c.tc : Thread Cert.SwigluIdeal.nD Cert.SwigluIdeal.τ).loc Cert.SwigluIdeal.main_arg1))
      ∧ θ_run (Cert.SwigluRefIdeal.defs (F := Ideal)) (onTc (τ := Cert.SwigluRefIdeal.τ) (Cert.SwigluRefIdeal.main (F := Ideal))) ⟨m', fun _ => 0, g'⟩ (fun r => ∀ c : Dev Cert.SwigluRefIdeal.nD,
          r.2.mem ((c.tc : Thread Cert.SwigluRefIdeal.nD Cert.SwigluRefIdeal.τ).loc Cert.SwigluRefIdeal.main_v7) = v0 c
          ∧ r.2.mem ((c.tc : Thread Cert.SwigluRefIdeal.nD Cert.SwigluRefIdeal.τ).loc Cert.SwigluRefIdeal.main_v10) = v1 c
          ∧ r.2.mem ((c.tc : Thread Cert.SwigluRefIdeal.nD Cert.SwigluRefIdeal.τ).loc Cert.SwigluRefIdeal.main_arg0) = m' ((c.tc : Thread Cert.SwigluRefIdeal.nD Cert.SwigluRefIdeal.τ).loc Cert.SwigluRefIdeal.main_arg0)
          ∧ r.2.mem ((c.tc : Thread Cert.SwigluRefIdeal.nD Cert.SwigluRefIdeal.τ).loc Cert.SwigluRefIdeal.main_arg1) = m' ((c.tc : Thread Cert.SwigluRefIdeal.nD Cert.SwigluRefIdeal.τ).loc Cert.SwigluRefIdeal.main_arg1))

def preserves_SwigluBwd_SwigluBwdIdeal : Prop :=
  True

def algebraic_SwigluBwdIdeal_SwigluBwdRefIdeal_pre_finite_swiglu [hSwigluBwdIdeal : Cert.SwigluBwdIdeal.Facts] [hSwigluBwdRefIdeal : Cert.SwigluBwdRefIdeal.Facts] [hPre_finite_swiglu : Cert.Pre_finite_swiglu.Facts] : Prop :=
  ∀ (m : (ℓ : Loc Cert.SwigluBwdIdeal.nD Cert.SwigluBwdIdeal.τ Cert.SwigluBwdIdeal.sig) → Buf (Elt Ideal) ℓ) (g : Dev Cert.SwigluBwdIdeal.nD → PrngReg)
    (m' : (ℓ : Loc Cert.SwigluBwdRefIdeal.nD Cert.SwigluBwdRefIdeal.τ Cert.SwigluBwdRefIdeal.sig) → Buf (Elt Ideal) ℓ) (g' : Dev Cert.SwigluBwdRefIdeal.nD → PrngReg), Pre_SwigluBwdIdeal_finite_swiglu m →
    (∀ c : Dev Cert.SwigluBwdIdeal.nD,
      m' ((c.tc : Thread Cert.SwigluBwdRefIdeal.nD Cert.SwigluBwdRefIdeal.τ).loc Cert.SwigluBwdRefIdeal.main_arg0) = m ((c.tc : Thread Cert.SwigluBwdIdeal.nD Cert.SwigluBwdIdeal.τ).loc Cert.SwigluBwdIdeal.main_arg0)
      ∧ m' ((c.tc : Thread Cert.SwigluBwdRefIdeal.nD Cert.SwigluBwdRefIdeal.τ).loc Cert.SwigluBwdRefIdeal.main_arg1) = m ((c.tc : Thread Cert.SwigluBwdIdeal.nD Cert.SwigluBwdIdeal.τ).loc Cert.SwigluBwdIdeal.main_arg1)
      ∧ m' ((c.tc : Thread Cert.SwigluBwdRefIdeal.nD Cert.SwigluBwdRefIdeal.τ).loc Cert.SwigluBwdRefIdeal.main_arg2) = m ((c.tc : Thread Cert.SwigluBwdIdeal.nD Cert.SwigluBwdIdeal.τ).loc Cert.SwigluBwdIdeal.main_arg2)) →
    ∃ (v0 : (c : Dev Cert.SwigluBwdIdeal.nD) → Buf (Elt Ideal) ((c.tc : Thread Cert.SwigluBwdIdeal.nD Cert.SwigluBwdIdeal.τ).loc Cert.SwigluBwdIdeal.main_v1)),
      θ_run (Cert.SwigluBwdIdeal.defs (F := Ideal)) (onTc (τ := Cert.SwigluBwdIdeal.τ) (Cert.SwigluBwdIdeal.main (F := Ideal))) ⟨m, fun _ => 0, g⟩ (fun r => ∀ c : Dev Cert.SwigluBwdIdeal.nD,
          r.2.mem ((c.tc : Thread Cert.SwigluBwdIdeal.nD Cert.SwigluBwdIdeal.τ).loc Cert.SwigluBwdIdeal.main_v1) = v0 c
          ∧ r.2.mem ((c.tc : Thread Cert.SwigluBwdIdeal.nD Cert.SwigluBwdIdeal.τ).loc Cert.SwigluBwdIdeal.main_arg0) = m ((c.tc : Thread Cert.SwigluBwdIdeal.nD Cert.SwigluBwdIdeal.τ).loc Cert.SwigluBwdIdeal.main_arg0)
          ∧ r.2.mem ((c.tc : Thread Cert.SwigluBwdIdeal.nD Cert.SwigluBwdIdeal.τ).loc Cert.SwigluBwdIdeal.main_arg1) = m ((c.tc : Thread Cert.SwigluBwdIdeal.nD Cert.SwigluBwdIdeal.τ).loc Cert.SwigluBwdIdeal.main_arg1)
          ∧ r.2.mem ((c.tc : Thread Cert.SwigluBwdIdeal.nD Cert.SwigluBwdIdeal.τ).loc Cert.SwigluBwdIdeal.main_arg2) = m ((c.tc : Thread Cert.SwigluBwdIdeal.nD Cert.SwigluBwdIdeal.τ).loc Cert.SwigluBwdIdeal.main_arg2))
      ∧ θ_run (Cert.SwigluBwdRefIdeal.defs (F := Ideal)) (onTc (τ := Cert.SwigluBwdRefIdeal.τ) (Cert.SwigluBwdRefIdeal.main (F := Ideal))) ⟨m', fun _ => 0, g'⟩ (fun r => ∀ c : Dev Cert.SwigluBwdRefIdeal.nD,
          r.2.mem ((c.tc : Thread Cert.SwigluBwdRefIdeal.nD Cert.SwigluBwdRefIdeal.τ).loc Cert.SwigluBwdRefIdeal.main_v17) = v0 c
          ∧ r.2.mem ((c.tc : Thread Cert.SwigluBwdRefIdeal.nD Cert.SwigluBwdRefIdeal.τ).loc Cert.SwigluBwdRefIdeal.main_arg0) = m' ((c.tc : Thread Cert.SwigluBwdRefIdeal.nD Cert.SwigluBwdRefIdeal.τ).loc Cert.SwigluBwdRefIdeal.main_arg0)
          ∧ r.2.mem ((c.tc : Thread Cert.SwigluBwdRefIdeal.nD Cert.SwigluBwdRefIdeal.τ).loc Cert.SwigluBwdRefIdeal.main_arg1) = m' ((c.tc : Thread Cert.SwigluBwdRefIdeal.nD Cert.SwigluBwdRefIdeal.τ).loc Cert.SwigluBwdRefIdeal.main_arg1)
          ∧ r.2.mem ((c.tc : Thread Cert.SwigluBwdRefIdeal.nD Cert.SwigluBwdRefIdeal.τ).loc Cert.SwigluBwdRefIdeal.main_arg2) = m' ((c.tc : Thread Cert.SwigluBwdRefIdeal.nD Cert.SwigluBwdRefIdeal.τ).loc Cert.SwigluBwdRefIdeal.main_arg2))

def preserves_MergeBwd_MergeBwdIdeal : Prop :=
  True

def algebraic_MergeBwdIdeal_MergeBwdRefIdeal [hMergeBwdIdeal : Cert.MergeBwdIdeal.Facts] [hMergeBwdRefIdeal : Cert.MergeBwdRefIdeal.Facts] : Prop :=
  ∀ (m : (ℓ : Loc Cert.MergeBwdIdeal.nD Cert.MergeBwdIdeal.τ Cert.MergeBwdIdeal.sig) → Buf (Elt Ideal) ℓ) (g : Dev Cert.MergeBwdIdeal.nD → PrngReg)
    (m' : (ℓ : Loc Cert.MergeBwdRefIdeal.nD Cert.MergeBwdRefIdeal.τ Cert.MergeBwdRefIdeal.sig) → Buf (Elt Ideal) ℓ) (g' : Dev Cert.MergeBwdRefIdeal.nD → PrngReg), Pre_MergeBwdIdeal m →
    (∀ c : Dev Cert.MergeBwdIdeal.nD,
      m' ((c.tc : Thread Cert.MergeBwdRefIdeal.nD Cert.MergeBwdRefIdeal.τ).loc Cert.MergeBwdRefIdeal.main_arg0) = m ((c.tc : Thread Cert.MergeBwdIdeal.nD Cert.MergeBwdIdeal.τ).loc Cert.MergeBwdIdeal.main_arg0)
      ∧ m' ((c.tc : Thread Cert.MergeBwdRefIdeal.nD Cert.MergeBwdRefIdeal.τ).loc Cert.MergeBwdRefIdeal.main_arg1) = m ((c.tc : Thread Cert.MergeBwdIdeal.nD Cert.MergeBwdIdeal.τ).loc Cert.MergeBwdIdeal.main_arg1)
      ∧ m' ((c.tc : Thread Cert.MergeBwdRefIdeal.nD Cert.MergeBwdRefIdeal.τ).loc Cert.MergeBwdRefIdeal.main_arg2) = m ((c.tc : Thread Cert.MergeBwdIdeal.nD Cert.MergeBwdIdeal.τ).loc Cert.MergeBwdIdeal.main_arg2)
      ∧ m' ((c.tc : Thread Cert.MergeBwdRefIdeal.nD Cert.MergeBwdRefIdeal.τ).loc Cert.MergeBwdRefIdeal.main_arg3) = m ((c.tc : Thread Cert.MergeBwdIdeal.nD Cert.MergeBwdIdeal.τ).loc Cert.MergeBwdIdeal.main_arg3)
      ∧ m' ((c.tc : Thread Cert.MergeBwdRefIdeal.nD Cert.MergeBwdRefIdeal.τ).loc Cert.MergeBwdRefIdeal.main_arg4) = m ((c.tc : Thread Cert.MergeBwdIdeal.nD Cert.MergeBwdIdeal.τ).loc Cert.MergeBwdIdeal.main_arg4)) →
    ∃ (v0 : (c : Dev Cert.MergeBwdIdeal.nD) → Buf (Elt Ideal) ((c.tc : Thread Cert.MergeBwdIdeal.nD Cert.MergeBwdIdeal.τ).loc Cert.MergeBwdIdeal.main_v1_0)) (v1 : (c : Dev Cert.MergeBwdIdeal.nD) → Buf (Elt Ideal) ((c.tc : Thread Cert.MergeBwdIdeal.nD Cert.MergeBwdIdeal.τ).loc Cert.MergeBwdIdeal.main_v1_1)) (v2 : (c : Dev Cert.MergeBwdIdeal.nD) → Buf (Elt Ideal) ((c.tc : Thread Cert.MergeBwdIdeal.nD Cert.MergeBwdIdeal.τ).loc Cert.MergeBwdIdeal.main_v1_2)),
      θ_run (Cert.MergeBwdIdeal.defs (F := Ideal)) (onTc (τ := Cert.MergeBwdIdeal.τ) (Cert.MergeBwdIdeal.main (F := Ideal))) ⟨m, fun _ => 0, g⟩ (fun r => ∀ c : Dev Cert.MergeBwdIdeal.nD,
          r.2.mem ((c.tc : Thread Cert.MergeBwdIdeal.nD Cert.MergeBwdIdeal.τ).loc Cert.MergeBwdIdeal.main_v1_0) = v0 c
          ∧ r.2.mem ((c.tc : Thread Cert.MergeBwdIdeal.nD Cert.MergeBwdIdeal.τ).loc Cert.MergeBwdIdeal.main_v1_1) = v1 c
          ∧ r.2.mem ((c.tc : Thread Cert.MergeBwdIdeal.nD Cert.MergeBwdIdeal.τ).loc Cert.MergeBwdIdeal.main_v1_2) = v2 c
          ∧ r.2.mem ((c.tc : Thread Cert.MergeBwdIdeal.nD Cert.MergeBwdIdeal.τ).loc Cert.MergeBwdIdeal.main_arg0) = m ((c.tc : Thread Cert.MergeBwdIdeal.nD Cert.MergeBwdIdeal.τ).loc Cert.MergeBwdIdeal.main_arg0)
          ∧ r.2.mem ((c.tc : Thread Cert.MergeBwdIdeal.nD Cert.MergeBwdIdeal.τ).loc Cert.MergeBwdIdeal.main_arg1) = m ((c.tc : Thread Cert.MergeBwdIdeal.nD Cert.MergeBwdIdeal.τ).loc Cert.MergeBwdIdeal.main_arg1)
          ∧ r.2.mem ((c.tc : Thread Cert.MergeBwdIdeal.nD Cert.MergeBwdIdeal.τ).loc Cert.MergeBwdIdeal.main_arg2) = m ((c.tc : Thread Cert.MergeBwdIdeal.nD Cert.MergeBwdIdeal.τ).loc Cert.MergeBwdIdeal.main_arg2)
          ∧ r.2.mem ((c.tc : Thread Cert.MergeBwdIdeal.nD Cert.MergeBwdIdeal.τ).loc Cert.MergeBwdIdeal.main_arg3) = m ((c.tc : Thread Cert.MergeBwdIdeal.nD Cert.MergeBwdIdeal.τ).loc Cert.MergeBwdIdeal.main_arg3)
          ∧ r.2.mem ((c.tc : Thread Cert.MergeBwdIdeal.nD Cert.MergeBwdIdeal.τ).loc Cert.MergeBwdIdeal.main_arg4) = m ((c.tc : Thread Cert.MergeBwdIdeal.nD Cert.MergeBwdIdeal.τ).loc Cert.MergeBwdIdeal.main_arg4))
      ∧ θ_run (Cert.MergeBwdRefIdeal.defs (F := Ideal)) (onTc (τ := Cert.MergeBwdRefIdeal.τ) (Cert.MergeBwdRefIdeal.main (F := Ideal))) ⟨m', fun _ => 0, g'⟩ (fun r => ∀ c : Dev Cert.MergeBwdRefIdeal.nD,
          r.2.mem ((c.tc : Thread Cert.MergeBwdRefIdeal.nD Cert.MergeBwdRefIdeal.τ).loc Cert.MergeBwdRefIdeal.main_v35) = v0 c
          ∧ r.2.mem ((c.tc : Thread Cert.MergeBwdRefIdeal.nD Cert.MergeBwdRefIdeal.τ).loc Cert.MergeBwdRefIdeal.main_v36) = v1 c
          ∧ r.2.mem ((c.tc : Thread Cert.MergeBwdRefIdeal.nD Cert.MergeBwdRefIdeal.τ).loc Cert.MergeBwdRefIdeal.main_v37) = v2 c
          ∧ r.2.mem ((c.tc : Thread Cert.MergeBwdRefIdeal.nD Cert.MergeBwdRefIdeal.τ).loc Cert.MergeBwdRefIdeal.main_arg0) = m' ((c.tc : Thread Cert.MergeBwdRefIdeal.nD Cert.MergeBwdRefIdeal.τ).loc Cert.MergeBwdRefIdeal.main_arg0)
          ∧ r.2.mem ((c.tc : Thread Cert.MergeBwdRefIdeal.nD Cert.MergeBwdRefIdeal.τ).loc Cert.MergeBwdRefIdeal.main_arg1) = m' ((c.tc : Thread Cert.MergeBwdRefIdeal.nD Cert.MergeBwdRefIdeal.τ).loc Cert.MergeBwdRefIdeal.main_arg1)
          ∧ r.2.mem ((c.tc : Thread Cert.MergeBwdRefIdeal.nD Cert.MergeBwdRefIdeal.τ).loc Cert.MergeBwdRefIdeal.main_arg2) = m' ((c.tc : Thread Cert.MergeBwdRefIdeal.nD Cert.MergeBwdRefIdeal.τ).loc Cert.MergeBwdRefIdeal.main_arg2)
          ∧ r.2.mem ((c.tc : Thread Cert.MergeBwdRefIdeal.nD Cert.MergeBwdRefIdeal.τ).loc Cert.MergeBwdRefIdeal.main_arg3) = m' ((c.tc : Thread Cert.MergeBwdRefIdeal.nD Cert.MergeBwdRefIdeal.τ).loc Cert.MergeBwdRefIdeal.main_arg3)
          ∧ r.2.mem ((c.tc : Thread Cert.MergeBwdRefIdeal.nD Cert.MergeBwdRefIdeal.τ).loc Cert.MergeBwdRefIdeal.main_arg4) = m' ((c.tc : Thread Cert.MergeBwdRefIdeal.nD Cert.MergeBwdRefIdeal.τ).loc Cert.MergeBwdRefIdeal.main_arg4))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)) →
    ∃ (v0 : (c : Dev Cert.MergeIdeal.nD) → Buf (Elt Ideal) ((c.tc : Thread Cert.MergeIdeal.nD Cert.MergeIdeal.τ).loc Cert.MergeIdeal.main_v2_0)) (v1 : (c : Dev Cert.MergeIdeal.nD) → Buf (Elt Ideal) ((c.tc : Thread Cert.MergeIdeal.nD Cert.MergeIdeal.τ).loc Cert.MergeIdeal.main_v2_1)) (v2 : (c : Dev Cert.MergeIdeal.nD) → Buf (Elt Ideal) ((c.tc : Thread Cert.MergeIdeal.nD Cert.MergeIdeal.τ).loc Cert.MergeIdeal.main_v2_2)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v2_0) = v0 c
          ∧ r.2.mem ((c.tc : Thread Cert.MergeIdeal.nD Cert.MergeIdeal.τ).loc Cert.MergeIdeal.main_v2_1) = v1 c
          ∧ r.2.mem ((c.tc : Thread Cert.MergeIdeal.nD Cert.MergeIdeal.τ).loc Cert.MergeIdeal.main_v2_2) = v2 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v21) = v0 c
          ∧ r.2.mem ((c.tc : Thread Cert.MergeRefIdeal.nD Cert.MergeRefIdeal.τ).loc Cert.MergeRefIdeal.main_v22) = v1 c
          ∧ r.2.mem ((c.tc : Thread Cert.MergeRefIdeal.nD Cert.MergeRefIdeal.τ).loc Cert.MergeRefIdeal.main_v23) = v2 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4))

def preserves_FfnOut_FfnOutIdeal : Prop :=
  True

def algebraic_FfnOutIdeal_FfnOutRefIdeal [hFfnOutIdeal : Cert.FfnOutIdeal.Facts] [hFfnOutRefIdeal : Cert.FfnOutRefIdeal.Facts] : Prop :=
  ∀ (m : (ℓ : Loc Cert.FfnOutIdeal.nD Cert.FfnOutIdeal.τ Cert.FfnOutIdeal.sig) → Buf (Elt Ideal) ℓ) (g : Dev Cert.FfnOutIdeal.nD → PrngReg)
    (m' : (ℓ : Loc Cert.FfnOutRefIdeal.nD Cert.FfnOutRefIdeal.τ Cert.FfnOutRefIdeal.sig) → Buf (Elt Ideal) ℓ) (g' : Dev Cert.FfnOutRefIdeal.nD → PrngReg), Pre_FfnOutIdeal m →
    (∀ c : Dev Cert.FfnOutIdeal.nD,
      m' ((c.tc : Thread Cert.FfnOutRefIdeal.nD Cert.FfnOutRefIdeal.τ).loc Cert.FfnOutRefIdeal.main_arg0) = m ((c.tc : Thread Cert.FfnOutIdeal.nD Cert.FfnOutIdeal.τ).loc Cert.FfnOutIdeal.main_arg0)
      ∧ m' ((c.tc : Thread Cert.FfnOutRefIdeal.nD Cert.FfnOutRefIdeal.τ).loc Cert.FfnOutRefIdeal.main_arg1) = m ((c.tc : Thread Cert.FfnOutIdeal.nD Cert.FfnOutIdeal.τ).loc Cert.FfnOutIdeal.main_arg1)
      ∧ m' ((c.tc : Thread Cert.FfnOutRefIdeal.nD Cert.FfnOutRefIdeal.τ).loc Cert.FfnOutRefIdeal.main_arg2) = m ((c.tc : Thread Cert.FfnOutIdeal.nD Cert.FfnOutIdeal.τ).loc Cert.FfnOutIdeal.main_arg2)
      ∧ m' ((c.tc : Thread Cert.FfnOutRefIdeal.nD Cert.FfnOutRefIdeal.τ).loc Cert.FfnOutRefIdeal.main_arg3) = m ((c.tc : Thread Cert.FfnOutIdeal.nD Cert.FfnOutIdeal.τ).loc Cert.FfnOutIdeal.main_arg3)
      ∧ m' ((c.tc : Thread Cert.FfnOutRefIdeal.nD Cert.FfnOutRefIdeal.τ).loc Cert.FfnOutRefIdeal.main_arg4) = m ((c.tc : Thread Cert.FfnOutIdeal.nD Cert.FfnOutIdeal.τ).loc Cert.FfnOutIdeal.main_arg4)
      ∧ m' ((c.tc : Thread Cert.FfnOutRefIdeal.nD Cert.FfnOutRefIdeal.τ).loc Cert.FfnOutRefIdeal.main_arg5) = m ((c.tc : Thread Cert.FfnOutIdeal.nD Cert.FfnOutIdeal.τ).loc Cert.FfnOutIdeal.main_arg5)
      ∧ m' ((c.tc : Thread Cert.FfnOutRefIdeal.nD Cert.FfnOutRefIdeal.τ).loc Cert.FfnOutRefIdeal.main_arg6) = m ((c.tc : Thread Cert.FfnOutIdeal.nD Cert.FfnOutIdeal.τ).loc Cert.FfnOutIdeal.main_arg6)) →
    ∃ (v0 : (c : Dev Cert.FfnOutIdeal.nD) → Buf (Elt Ideal) ((c.tc : Thread Cert.FfnOutIdeal.nD Cert.FfnOutIdeal.τ).loc Cert.FfnOutIdeal.main_v2_0)) (v1 : (c : Dev Cert.FfnOutIdeal.nD) → Buf (Elt Ideal) ((c.tc : Thread Cert.FfnOutIdeal.nD Cert.FfnOutIdeal.τ).loc Cert.FfnOutIdeal.main_v2_1)) (v2 : (c : Dev Cert.FfnOutIdeal.nD) → Buf (Elt Ideal) ((c.tc : Thread Cert.FfnOutIdeal.nD Cert.FfnOutIdeal.τ).loc Cert.FfnOutIdeal.main_v2_2)),
      θ_run (Cert.FfnOutIdeal.defs (F := Ideal)) (onTc (τ := Cert.FfnOutIdeal.τ) (Cert.FfnOutIdeal.main (F := Ideal))) ⟨m, fun _ => 0, g⟩ (fun r => ∀ c : Dev Cert.FfnOutIdeal.nD,
          r.2.mem ((c.tc : Thread Cert.FfnOutIdeal.nD Cert.FfnOutIdeal.τ).loc Cert.FfnOutIdeal.main_v2_0) = v0 c
          ∧ r.2.mem ((c.tc : Thread Cert.FfnOutIdeal.nD Cert.FfnOutIdeal.τ).loc Cert.FfnOutIdeal.main_v2_1) = v1 c
          ∧ r.2.mem ((c.tc : Thread Cert.FfnOutIdeal.nD Cert.FfnOutIdeal.τ).loc Cert.FfnOutIdeal.main_v2_2) = v2 c
          ∧ r.2.mem ((c.tc : Thread Cert.FfnOutIdeal.nD Cert.FfnOutIdeal.τ).loc Cert.FfnOutIdeal.main_arg0) = m ((c.tc : Thread Cert.FfnOutIdeal.nD Cert.FfnOutIdeal.τ).loc Cert.FfnOutIdeal.main_arg0)
          ∧ r.2.mem ((c.tc : Thread Cert.FfnOutIdeal.nD Cert.FfnOutIdeal.τ).loc Cert.FfnOutIdeal.main_arg1) = m ((c.tc : Thread Cert.FfnOutIdeal.nD Cert.FfnOutIdeal.τ).loc Cert.FfnOutIdeal.main_arg1)
          ∧ r.2.mem ((c.tc : Thread Cert.FfnOutIdeal.nD Cert.FfnOutIdeal.τ).loc Cert.FfnOutIdeal.main_arg2) = m ((c.tc : Thread Cert.FfnOutIdeal.nD Cert.FfnOutIdeal.τ).loc Cert.FfnOutIdeal.main_arg2)
          ∧ r.2.mem ((c.tc : Thread Cert.FfnOutIdeal.nD Cert.FfnOutIdeal.τ).loc Cert.FfnOutIdeal.main_arg3) = m ((c.tc : Thread Cert.FfnOutIdeal.nD Cert.FfnOutIdeal.τ).loc Cert.FfnOutIdeal.main_arg3)
          ∧ r.2.mem ((c.tc : Thread Cert.FfnOutIdeal.nD Cert.FfnOutIdeal.τ).loc Cert.FfnOutIdeal.main_arg4) = m ((c.tc : Thread Cert.FfnOutIdeal.nD Cert.FfnOutIdeal.τ).loc Cert.FfnOutIdeal.main_arg4)
          ∧ r.2.mem ((c.tc : Thread Cert.FfnOutIdeal.nD Cert.FfnOutIdeal.τ).loc Cert.FfnOutIdeal.main_arg5) = m ((c.tc : Thread Cert.FfnOutIdeal.nD Cert.FfnOutIdeal.τ).loc Cert.FfnOutIdeal.main_arg5)
          ∧ r.2.mem ((c.tc : Thread Cert.FfnOutIdeal.nD Cert.FfnOutIdeal.τ).loc Cert.FfnOutIdeal.main_arg6) = m ((c.tc : Thread Cert.FfnOutIdeal.nD Cert.FfnOutIdeal.τ).loc Cert.FfnOutIdeal.main_arg6))
      ∧ θ_run (Cert.FfnOutRefIdeal.defs (F := Ideal)) (onTc (τ := Cert.FfnOutRefIdeal.τ) (Cert.FfnOutRefIdeal.main (F := Ideal))) ⟨m', fun _ => 0, g'⟩ (fun r => ∀ c : Dev Cert.FfnOutRefIdeal.nD,
          r.2.mem ((c.tc : Thread Cert.FfnOutRefIdeal.nD Cert.FfnOutRefIdeal.τ).loc Cert.FfnOutRefIdeal.main_v1) = v0 c
          ∧ r.2.mem ((c.tc : Thread Cert.FfnOutRefIdeal.nD Cert.FfnOutRefIdeal.τ).loc Cert.FfnOutRefIdeal.main_v4) = v1 c
          ∧ r.2.mem ((c.tc : Thread Cert.FfnOutRefIdeal.nD Cert.FfnOutRefIdeal.τ).loc Cert.FfnOutRefIdeal.main_v24) = v2 c
          ∧ r.2.mem ((c.tc : Thread Cert.FfnOutRefIdeal.nD Cert.FfnOutRefIdeal.τ).loc Cert.FfnOutRefIdeal.main_arg0) = m' ((c.tc : Thread Cert.FfnOutRefIdeal.nD Cert.FfnOutRefIdeal.τ).loc Cert.FfnOutRefIdeal.main_arg0)
          ∧ r.2.mem ((c.tc : Thread Cert.FfnOutRefIdeal.nD Cert.FfnOutRefIdeal.τ).loc Cert.FfnOutRefIdeal.main_arg1) = m' ((c.tc : Thread Cert.FfnOutRefIdeal.nD Cert.FfnOutRefIdeal.τ).loc Cert.FfnOutRefIdeal.main_arg1)
          ∧ r.2.mem ((c.tc : Thread Cert.FfnOutRefIdeal.nD Cert.FfnOutRefIdeal.τ).loc Cert.FfnOutRefIdeal.main_arg2) = m' ((c.tc : Thread Cert.FfnOutRefIdeal.nD Cert.FfnOutRefIdeal.τ).loc Cert.FfnOutRefIdeal.main_arg2)
          ∧ r.2.mem ((c.tc : Thread Cert.FfnOutRefIdeal.nD Cert.FfnOutRefIdeal.τ).loc Cert.FfnOutRefIdeal.main_arg3) = m' ((c.tc : Thread Cert.FfnOutRefIdeal.nD Cert.FfnOutRefIdeal.τ).loc Cert.FfnOutRefIdeal.main_arg3)
          ∧ r.2.mem ((c.tc : Thread Cert.FfnOutRefIdeal.nD Cert.FfnOutRefIdeal.τ).loc Cert.FfnOutRefIdeal.main_arg4) = m' ((c.tc : Thread Cert.FfnOutRefIdeal.nD Cert.FfnOutRefIdeal.τ).loc Cert.FfnOutRefIdeal.main_arg4)
          ∧ r.2.mem ((c.tc : Thread Cert.FfnOutRefIdeal.nD Cert.FfnOutRefIdeal.τ).loc Cert.FfnOutRefIdeal.main_arg5) = m' ((c.tc : Thread Cert.FfnOutRefIdeal.nD Cert.FfnOutRefIdeal.τ).loc Cert.FfnOutRefIdeal.main_arg5)
          ∧ r.2.mem ((c.tc : Thread Cert.FfnOutRefIdeal.nD Cert.FfnOutRefIdeal.τ).loc Cert.FfnOutRefIdeal.main_arg6) = m' ((c.tc : Thread Cert.FfnOutRefIdeal.nD Cert.FfnOutRefIdeal.τ).loc Cert.FfnOutRefIdeal.main_arg6))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)
      ∧ m' ((c.tc : Thread Cert.OutRefIdeal.nD Cert.OutRefIdeal.τ).loc Cert.OutRefIdeal.main_arg4) = m ((c.tc : Thread Cert.OutIdeal.nD Cert.OutIdeal.τ).loc Cert.OutIdeal.main_arg4)
      ∧ m' ((c.tc : Thread Cert.OutRefIdeal.nD Cert.OutRefIdeal.τ).loc Cert.OutRefIdeal.main_arg5) = m ((c.tc : Thread Cert.OutIdeal.nD Cert.OutIdeal.τ).loc Cert.OutIdeal.main_arg5)
      ∧ m' ((c.tc : Thread Cert.OutRefIdeal.nD Cert.OutRefIdeal.τ).loc Cert.OutRefIdeal.main_arg6) = m ((c.tc : Thread Cert.OutIdeal.nD Cert.OutIdeal.τ).loc Cert.OutIdeal.main_arg6)) →
    ∃ (v0 : (c : Dev Cert.OutIdeal.nD) → Buf (Elt Ideal) ((c.tc : Thread Cert.OutIdeal.nD Cert.OutIdeal.τ).loc Cert.OutIdeal.main_v2_0)) (v1 : (c : Dev Cert.OutIdeal.nD) → Buf (Elt Ideal) ((c.tc : Thread Cert.OutIdeal.nD Cert.OutIdeal.τ).loc Cert.OutIdeal.main_v2_1)) (v2 : (c : Dev Cert.OutIdeal.nD) → Buf (Elt Ideal) ((c.tc : Thread Cert.OutIdeal.nD Cert.OutIdeal.τ).loc Cert.OutIdeal.main_v2_2)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v2_0) = v0 c
          ∧ r.2.mem ((c.tc : Thread Cert.OutIdeal.nD Cert.OutIdeal.τ).loc Cert.OutIdeal.main_v2_1) = v1 c
          ∧ r.2.mem ((c.tc : Thread Cert.OutIdeal.nD Cert.OutIdeal.τ).loc Cert.OutIdeal.main_v2_2) = v2 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
          ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
          ∧ r.2.mem ((c.tc : Thread Cert.OutIdeal.nD Cert.OutIdeal.τ).loc Cert.OutIdeal.main_arg6) = m ((c.tc : Thread Cert.OutIdeal.nD Cert.OutIdeal.τ).loc Cert.OutIdeal.main_arg6))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v1) = v0 c
          ∧ r.2.mem ((c.tc : Thread Cert.OutRefIdeal.nD Cert.OutRefIdeal.τ).loc Cert.OutRefIdeal.main_v4) = v1 c
          ∧ r.2.mem ((c.tc : Thread Cert.OutRefIdeal.nD Cert.OutRefIdeal.τ).loc Cert.OutRefIdeal.main_v24) = v2 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3)
          ∧ r.2.mem ((c.tc : Thread Cert.OutRefIdeal.nD Cert.OutRefIdeal.τ).loc Cert.OutRefIdeal.main_arg4) = m' ((c.tc : Thread Cert.OutRefIdeal.nD Cert.OutRefIdeal.τ).loc Cert.OutRefIdeal.main_arg4)
          ∧ r.2.mem ((c.tc : Thread Cert.OutRefIdeal.nD Cert.OutRefIdeal.τ).loc Cert.OutRefIdeal.main_arg5) = m' ((c.tc : Thread Cert.OutRefIdeal.nD Cert.OutRefIdeal.τ).loc Cert.OutRefIdeal.main_arg5)
          ∧ r.2.mem ((c.tc : Thread Cert.OutRefIdeal.nD Cert.OutRefIdeal.τ).loc Cert.OutRefIdeal.main_arg6) = m' ((c.tc : Thread Cert.OutRefIdeal.nD Cert.OutRefIdeal.τ).loc Cert.OutRefIdeal.main_arg6))

def preserves_FfnInDw_FfnInDwIdeal : Prop :=
  True

def algebraic_FfnInDwIdeal_FfnInDwRefIdeal [hFfnInDwIdeal : Cert.FfnInDwIdeal.Facts] [hFfnInDwRefIdeal : Cert.FfnInDwRefIdeal.Facts] : Prop :=
  ∀ (m : (ℓ : Loc Cert.FfnInDwIdeal.nD Cert.FfnInDwIdeal.τ Cert.FfnInDwIdeal.sig) → Buf (Elt Ideal) ℓ) (g : Dev Cert.FfnInDwIdeal.nD → PrngReg)
    (m' : (ℓ : Loc Cert.FfnInDwRefIdeal.nD Cert.FfnInDwRefIdeal.τ Cert.FfnInDwRefIdeal.sig) → Buf (Elt Ideal) ℓ) (g' : Dev Cert.FfnInDwRefIdeal.nD → PrngReg), Pre_FfnInDwIdeal m →
    (∀ c : Dev Cert.FfnInDwIdeal.nD,
      m' ((c.tc : Thread Cert.FfnInDwRefIdeal.nD Cert.FfnInDwRefIdeal.τ).loc Cert.FfnInDwRefIdeal.main_arg0) = m ((c.tc : Thread Cert.FfnInDwIdeal.nD Cert.FfnInDwIdeal.τ).loc Cert.FfnInDwIdeal.main_arg0)
      ∧ m' ((c.tc : Thread Cert.FfnInDwRefIdeal.nD Cert.FfnInDwRefIdeal.τ).loc Cert.FfnInDwRefIdeal.main_arg1) = m ((c.tc : Thread Cert.FfnInDwIdeal.nD Cert.FfnInDwIdeal.τ).loc Cert.FfnInDwIdeal.main_arg1)) →
    ∃ (v0 : (c : Dev Cert.FfnInDwIdeal.nD) → Buf (Elt Ideal) ((c.tc : Thread Cert.FfnInDwIdeal.nD Cert.FfnInDwIdeal.τ).loc Cert.FfnInDwIdeal.main_v0)),
      θ_run (Cert.FfnInDwIdeal.defs (F := Ideal)) (onTc (τ := Cert.FfnInDwIdeal.τ) (Cert.FfnInDwIdeal.main (F := Ideal))) ⟨m, fun _ => 0, g⟩ (fun r => ∀ c : Dev Cert.FfnInDwIdeal.nD,
          r.2.mem ((c.tc : Thread Cert.FfnInDwIdeal.nD Cert.FfnInDwIdeal.τ).loc Cert.FfnInDwIdeal.main_v0) = v0 c
          ∧ r.2.mem ((c.tc : Thread Cert.FfnInDwIdeal.nD Cert.FfnInDwIdeal.τ).loc Cert.FfnInDwIdeal.main_arg0) = m ((c.tc : Thread Cert.FfnInDwIdeal.nD Cert.FfnInDwIdeal.τ).loc Cert.FfnInDwIdeal.main_arg0)
          ∧ r.2.mem ((c.tc : Thread Cert.FfnInDwIdeal.nD Cert.FfnInDwIdeal.τ).loc Cert.FfnInDwIdeal.main_arg1) = m ((c.tc : Thread Cert.FfnInDwIdeal.nD Cert.FfnInDwIdeal.τ).loc Cert.FfnInDwIdeal.main_arg1))
      ∧ θ_run (Cert.FfnInDwRefIdeal.defs (F := Ideal)) (onTc (τ := Cert.FfnInDwRefIdeal.τ) (Cert.FfnInDwRefIdeal.main (F := Ideal))) ⟨m', fun _ => 0, g'⟩ (fun r => ∀ c : Dev Cert.FfnInDwRefIdeal.nD,
          r.2.mem ((c.tc : Thread Cert.FfnInDwRefIdeal.nD Cert.FfnInDwRefIdeal.τ).loc Cert.FfnInDwRefIdeal.main_v12) = v0 c
          ∧ r.2.mem ((c.tc : Thread Cert.FfnInDwRefIdeal.nD Cert.FfnInDwRefIdeal.τ).loc Cert.FfnInDwRefIdeal.main_arg0) = m' ((c.tc : Thread Cert.FfnInDwRefIdeal.nD Cert.FfnInDwRefIdeal.τ).loc Cert.FfnInDwRefIdeal.main_arg0)
          ∧ r.2.mem ((c.tc : Thread Cert.FfnInDwRefIdeal.nD Cert.FfnInDwRefIdeal.τ).loc Cert.FfnInDwRefIdeal.main_arg1) = m' ((c.tc : Thread Cert.FfnInDwRefIdeal.nD Cert.FfnInDwRefIdeal.τ).loc Cert.FfnInDwRefIdeal.main_arg1))

def preserves_ProjDw_ProjDwIdeal : Prop :=
  True

def algebraic_ProjDwIdeal_ProjDwRefIdeal [hProjDwIdeal : Cert.ProjDwIdeal.Facts] [hProjDwRefIdeal : Cert.ProjDwRefIdeal.Facts] : Prop :=
  ∀ (m : (ℓ : Loc Cert.ProjDwIdeal.nD Cert.ProjDwIdeal.τ Cert.ProjDwIdeal.sig) → Buf (Elt Ideal) ℓ) (g : Dev Cert.ProjDwIdeal.nD → PrngReg)
    (m' : (ℓ : Loc Cert.ProjDwRefIdeal.nD Cert.ProjDwRefIdeal.τ Cert.ProjDwRefIdeal.sig) → Buf (Elt Ideal) ℓ) (g' : Dev Cert.ProjDwRefIdeal.nD → PrngReg), Pre_ProjDwIdeal m →
    (∀ c : Dev Cert.ProjDwIdeal.nD,
      m' ((c.tc : Thread Cert.ProjDwRefIdeal.nD Cert.ProjDwRefIdeal.τ).loc Cert.ProjDwRefIdeal.main_arg0) = m ((c.tc : Thread Cert.ProjDwIdeal.nD Cert.ProjDwIdeal.τ).loc Cert.ProjDwIdeal.main_arg0)
      ∧ m' ((c.tc : Thread Cert.ProjDwRefIdeal.nD Cert.ProjDwRefIdeal.τ).loc Cert.ProjDwRefIdeal.main_arg1) = m ((c.tc : Thread Cert.ProjDwIdeal.nD Cert.ProjDwIdeal.τ).loc Cert.ProjDwIdeal.main_arg1)) →
    ∃ (v0 : (c : Dev Cert.ProjDwIdeal.nD) → Buf (Elt Ideal) ((c.tc : Thread Cert.ProjDwIdeal.nD Cert.ProjDwIdeal.τ).loc Cert.ProjDwIdeal.main_v0)),
      θ_run (Cert.ProjDwIdeal.defs (F := Ideal)) (onTc (τ := Cert.ProjDwIdeal.τ) (Cert.ProjDwIdeal.main (F := Ideal))) ⟨m, fun _ => 0, g⟩ (fun r => ∀ c : Dev Cert.ProjDwIdeal.nD,
          r.2.mem ((c.tc : Thread Cert.ProjDwIdeal.nD Cert.ProjDwIdeal.τ).loc Cert.ProjDwIdeal.main_v0) = v0 c
          ∧ r.2.mem ((c.tc : Thread Cert.ProjDwIdeal.nD Cert.ProjDwIdeal.τ).loc Cert.ProjDwIdeal.main_arg0) = m ((c.tc : Thread Cert.ProjDwIdeal.nD Cert.ProjDwIdeal.τ).loc Cert.ProjDwIdeal.main_arg0)
          ∧ r.2.mem ((c.tc : Thread Cert.ProjDwIdeal.nD Cert.ProjDwIdeal.τ).loc Cert.ProjDwIdeal.main_arg1) = m ((c.tc : Thread Cert.ProjDwIdeal.nD Cert.ProjDwIdeal.τ).loc Cert.ProjDwIdeal.main_arg1))
      ∧ θ_run (Cert.ProjDwRefIdeal.defs (F := Ideal)) (onTc (τ := Cert.ProjDwRefIdeal.τ) (Cert.ProjDwRefIdeal.main (F := Ideal))) ⟨m', fun _ => 0, g'⟩ (fun r => ∀ c : Dev Cert.ProjDwRefIdeal.nD,
          r.2.mem ((c.tc : Thread Cert.ProjDwRefIdeal.nD Cert.ProjDwRefIdeal.τ).loc Cert.ProjDwRefIdeal.main_v7) = v0 c
          ∧ r.2.mem ((c.tc : Thread Cert.ProjDwRefIdeal.nD Cert.ProjDwRefIdeal.τ).loc Cert.ProjDwRefIdeal.main_arg0) = m' ((c.tc : Thread Cert.ProjDwRefIdeal.nD Cert.ProjDwRefIdeal.τ).loc Cert.ProjDwRefIdeal.main_arg0)
          ∧ r.2.mem ((c.tc : Thread Cert.ProjDwRefIdeal.nD Cert.ProjDwRefIdeal.τ).loc Cert.ProjDwRefIdeal.main_arg1) = m' ((c.tc : Thread Cert.ProjDwRefIdeal.nD Cert.ProjDwRefIdeal.τ).loc Cert.ProjDwRefIdeal.main_arg1))

def preserves_FfnOutDw_FfnOutDwIdeal : Prop :=
  True

def algebraic_FfnOutDwIdeal_FfnOutDwRefIdeal [hFfnOutDwIdeal : Cert.FfnOutDwIdeal.Facts] [hFfnOutDwRefIdeal : Cert.FfnOutDwRefIdeal.Facts] : Prop :=
  ∀ (m : (ℓ : Loc Cert.FfnOutDwIdeal.nD Cert.FfnOutDwIdeal.τ Cert.FfnOutDwIdeal.sig) → Buf (Elt Ideal) ℓ) (g : Dev Cert.FfnOutDwIdeal.nD → PrngReg)
    (m' : (ℓ : Loc Cert.FfnOutDwRefIdeal.nD Cert.FfnOutDwRefIdeal.τ Cert.FfnOutDwRefIdeal.sig) → Buf (Elt Ideal) ℓ) (g' : Dev Cert.FfnOutDwRefIdeal.nD → PrngReg), Pre_FfnOutDwIdeal m →
    (∀ c : Dev Cert.FfnOutDwIdeal.nD,
      m' ((c.tc : Thread Cert.FfnOutDwRefIdeal.nD Cert.FfnOutDwRefIdeal.τ).loc Cert.FfnOutDwRefIdeal.main_arg0) = m ((c.tc : Thread Cert.FfnOutDwIdeal.nD Cert.FfnOutDwIdeal.τ).loc Cert.FfnOutDwIdeal.main_arg0)
      ∧ m' ((c.tc : Thread Cert.FfnOutDwRefIdeal.nD Cert.FfnOutDwRefIdeal.τ).loc Cert.FfnOutDwRefIdeal.main_arg1) = m ((c.tc : Thread Cert.FfnOutDwIdeal.nD Cert.FfnOutDwIdeal.τ).loc Cert.FfnOutDwIdeal.main_arg1)) →
    ∃ (v0 : (c : Dev Cert.FfnOutDwIdeal.nD) → Buf (Elt Ideal) ((c.tc : Thread Cert.FfnOutDwIdeal.nD Cert.FfnOutDwIdeal.τ).loc Cert.FfnOutDwIdeal.main_v0)),
      θ_run (Cert.FfnOutDwIdeal.defs (F := Ideal)) (onTc (τ := Cert.FfnOutDwIdeal.τ) (Cert.FfnOutDwIdeal.main (F := Ideal))) ⟨m, fun _ => 0, g⟩ (fun r => ∀ c : Dev Cert.FfnOutDwIdeal.nD,
          r.2.mem ((c.tc : Thread Cert.FfnOutDwIdeal.nD Cert.FfnOutDwIdeal.τ).loc Cert.FfnOutDwIdeal.main_v0) = v0 c
          ∧ r.2.mem ((c.tc : Thread Cert.FfnOutDwIdeal.nD Cert.FfnOutDwIdeal.τ).loc Cert.FfnOutDwIdeal.main_arg0) = m ((c.tc : Thread Cert.FfnOutDwIdeal.nD Cert.FfnOutDwIdeal.τ).loc Cert.FfnOutDwIdeal.main_arg0)
          ∧ r.2.mem ((c.tc : Thread Cert.FfnOutDwIdeal.nD Cert.FfnOutDwIdeal.τ).loc Cert.FfnOutDwIdeal.main_arg1) = m ((c.tc : Thread Cert.FfnOutDwIdeal.nD Cert.FfnOutDwIdeal.τ).loc Cert.FfnOutDwIdeal.main_arg1))
      ∧ θ_run (Cert.FfnOutDwRefIdeal.defs (F := Ideal)) (onTc (τ := Cert.FfnOutDwRefIdeal.τ) (Cert.FfnOutDwRefIdeal.main (F := Ideal))) ⟨m', fun _ => 0, g'⟩ (fun r => ∀ c : Dev Cert.FfnOutDwRefIdeal.nD,
          r.2.mem ((c.tc : Thread Cert.FfnOutDwRefIdeal.nD Cert.FfnOutDwRefIdeal.τ).loc Cert.FfnOutDwRefIdeal.main_v6) = v0 c
          ∧ r.2.mem ((c.tc : Thread Cert.FfnOutDwRefIdeal.nD Cert.FfnOutDwRefIdeal.τ).loc Cert.FfnOutDwRefIdeal.main_arg0) = m' ((c.tc : Thread Cert.FfnOutDwRefIdeal.nD Cert.FfnOutDwRefIdeal.τ).loc Cert.FfnOutDwRefIdeal.main_arg0)
          ∧ r.2.mem ((c.tc : Thread Cert.FfnOutDwRefIdeal.nD Cert.FfnOutDwRefIdeal.τ).loc Cert.FfnOutDwRefIdeal.main_arg1) = m' ((c.tc : Thread Cert.FfnOutDwRefIdeal.nD Cert.FfnOutDwRefIdeal.τ).loc Cert.FfnOutDwRefIdeal.main_arg1))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)) →
    ∃ (v0 : (c : Dev Cert.ProjIdeal.nD) → Buf (Elt Ideal) ((c.tc : Thread Cert.ProjIdeal.nD Cert.ProjIdeal.τ).loc Cert.ProjIdeal.main_v7)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v7) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v12) = v0 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1))

def preserves_FfnInDx_FfnInDxIdeal : Prop :=
  True

def algebraic_FfnInDxIdeal_FfnInDxRefIdeal_pre_finite_dx [hFfnInDxIdeal : Cert.FfnInDxIdeal.Facts] [hFfnInDxRefIdeal : Cert.FfnInDxRefIdeal.Facts] [hPre_finite_dx : Cert.Pre_finite_dx.Facts] : Prop :=
  ∀ (m : (ℓ : Loc Cert.FfnInDxIdeal.nD Cert.FfnInDxIdeal.τ Cert.FfnInDxIdeal.sig) → Buf (Elt Ideal) ℓ) (g : Dev Cert.FfnInDxIdeal.nD → PrngReg)
    (m' : (ℓ : Loc Cert.FfnInDxRefIdeal.nD Cert.FfnInDxRefIdeal.τ Cert.FfnInDxRefIdeal.sig) → Buf (Elt Ideal) ℓ) (g' : Dev Cert.FfnInDxRefIdeal.nD → PrngReg), Pre_FfnInDxIdeal_finite_dx m →
    (∀ c : Dev Cert.FfnInDxIdeal.nD,
      m' ((c.tc : Thread Cert.FfnInDxRefIdeal.nD Cert.FfnInDxRefIdeal.τ).loc Cert.FfnInDxRefIdeal.main_arg0) = m ((c.tc : Thread Cert.FfnInDxIdeal.nD Cert.FfnInDxIdeal.τ).loc Cert.FfnInDxIdeal.main_arg0)
      ∧ m' ((c.tc : Thread Cert.FfnInDxRefIdeal.nD Cert.FfnInDxRefIdeal.τ).loc Cert.FfnInDxRefIdeal.main_arg1) = m ((c.tc : Thread Cert.FfnInDxIdeal.nD Cert.FfnInDxIdeal.τ).loc Cert.FfnInDxIdeal.main_arg1)
      ∧ m' ((c.tc : Thread Cert.FfnInDxRefIdeal.nD Cert.FfnInDxRefIdeal.τ).loc Cert.FfnInDxRefIdeal.main_arg2) = m ((c.tc : Thread Cert.FfnInDxIdeal.nD Cert.FfnInDxIdeal.τ).loc Cert.FfnInDxIdeal.main_arg2)
      ∧ m' ((c.tc : Thread Cert.FfnInDxRefIdeal.nD Cert.FfnInDxRefIdeal.τ).loc Cert.FfnInDxRefIdeal.main_arg3) = m ((c.tc : Thread Cert.FfnInDxIdeal.nD Cert.FfnInDxIdeal.τ).loc Cert.FfnInDxIdeal.main_arg3)
      ∧ m' ((c.tc : Thread Cert.FfnInDxRefIdeal.nD Cert.FfnInDxRefIdeal.τ).loc Cert.FfnInDxRefIdeal.main_arg4) = m ((c.tc : Thread Cert.FfnInDxIdeal.nD Cert.FfnInDxIdeal.τ).loc Cert.FfnInDxIdeal.main_arg4)
      ∧ m' ((c.tc : Thread Cert.FfnInDxRefIdeal.nD Cert.FfnInDxRefIdeal.τ).loc Cert.FfnInDxRefIdeal.main_arg5) = m ((c.tc : Thread Cert.FfnInDxIdeal.nD Cert.FfnInDxIdeal.τ).loc Cert.FfnInDxIdeal.main_arg5)
      ∧ m' ((c.tc : Thread Cert.FfnInDxRefIdeal.nD Cert.FfnInDxRefIdeal.τ).loc Cert.FfnInDxRefIdeal.main_arg6) = m ((c.tc : Thread Cert.FfnInDxIdeal.nD Cert.FfnInDxIdeal.τ).loc Cert.FfnInDxIdeal.main_arg6)
      ∧ m' ((c.tc : Thread Cert.FfnInDxRefIdeal.nD Cert.FfnInDxRefIdeal.τ).loc Cert.FfnInDxRefIdeal.main_arg7) = m ((c.tc : Thread Cert.FfnInDxIdeal.nD Cert.FfnInDxIdeal.τ).loc Cert.FfnInDxIdeal.main_arg7)
      ∧ m' ((c.tc : Thread Cert.FfnInDxRefIdeal.nD Cert.FfnInDxRefIdeal.τ).loc Cert.FfnInDxRefIdeal.main_arg8) = m ((c.tc : Thread Cert.FfnInDxIdeal.nD Cert.FfnInDxIdeal.τ).loc Cert.FfnInDxIdeal.main_arg8)) →
    ∃ (v0 : (c : Dev Cert.FfnInDxIdeal.nD) → Buf (Elt Ideal) ((c.tc : Thread Cert.FfnInDxIdeal.nD Cert.FfnInDxIdeal.τ).loc Cert.FfnInDxIdeal.main_v3_0)) (v1 : (c : Dev Cert.FfnInDxIdeal.nD) → Buf (Elt Ideal) ((c.tc : Thread Cert.FfnInDxIdeal.nD Cert.FfnInDxIdeal.τ).loc Cert.FfnInDxIdeal.main_v3_1)) (v2 : (c : Dev Cert.FfnInDxIdeal.nD) → Buf (Elt Ideal) ((c.tc : Thread Cert.FfnInDxIdeal.nD Cert.FfnInDxIdeal.τ).loc Cert.FfnInDxIdeal.main_v3_2)),
      θ_run (Cert.FfnInDxIdeal.defs (F := Ideal)) (onTc (τ := Cert.FfnInDxIdeal.τ) (Cert.FfnInDxIdeal.main (F := Ideal))) ⟨m, fun _ => 0, g⟩ (fun r => ∀ c : Dev Cert.FfnInDxIdeal.nD,
          r.2.mem ((c.tc : Thread Cert.FfnInDxIdeal.nD Cert.FfnInDxIdeal.τ).loc Cert.FfnInDxIdeal.main_v3_0) = v0 c
          ∧ r.2.mem ((c.tc : Thread Cert.FfnInDxIdeal.nD Cert.FfnInDxIdeal.τ).loc Cert.FfnInDxIdeal.main_v3_1) = v1 c
          ∧ r.2.mem ((c.tc : Thread Cert.FfnInDxIdeal.nD Cert.FfnInDxIdeal.τ).loc Cert.FfnInDxIdeal.main_v3_2) = v2 c
          ∧ r.2.mem ((c.tc : Thread Cert.FfnInDxIdeal.nD Cert.FfnInDxIdeal.τ).loc Cert.FfnInDxIdeal.main_arg0) = m ((c.tc : Thread Cert.FfnInDxIdeal.nD Cert.FfnInDxIdeal.τ).loc Cert.FfnInDxIdeal.main_arg0)
          ∧ r.2.mem ((c.tc : Thread Cert.FfnInDxIdeal.nD Cert.FfnInDxIdeal.τ).loc Cert.FfnInDxIdeal.main_arg1) = m ((c.tc : Thread Cert.FfnInDxIdeal.nD Cert.FfnInDxIdeal.τ).loc Cert.FfnInDxIdeal.main_arg1)
          ∧ r.2.mem ((c.tc : Thread Cert.FfnInDxIdeal.nD Cert.FfnInDxIdeal.τ).loc Cert.FfnInDxIdeal.main_arg2) = m ((c.tc : Thread Cert.FfnInDxIdeal.nD Cert.FfnInDxIdeal.τ).loc Cert.FfnInDxIdeal.main_arg2)
          ∧ r.2.mem ((c.tc : Thread Cert.FfnInDxIdeal.nD Cert.FfnInDxIdeal.τ).loc Cert.FfnInDxIdeal.main_arg3) = m ((c.tc : Thread Cert.FfnInDxIdeal.nD Cert.FfnInDxIdeal.τ).loc Cert.FfnInDxIdeal.main_arg3)
          ∧ r.2.mem ((c.tc : Thread Cert.FfnInDxIdeal.nD Cert.FfnInDxIdeal.τ).loc Cert.FfnInDxIdeal.main_arg4) = m ((c.tc : Thread Cert.FfnInDxIdeal.nD Cert.FfnInDxIdeal.τ).loc Cert.FfnInDxIdeal.main_arg4)
          ∧ r.2.mem ((c.tc : Thread Cert.FfnInDxIdeal.nD Cert.FfnInDxIdeal.τ).loc Cert.FfnInDxIdeal.main_arg5) = m ((c.tc : Thread Cert.FfnInDxIdeal.nD Cert.FfnInDxIdeal.τ).loc Cert.FfnInDxIdeal.main_arg5)
          ∧ r.2.mem ((c.tc : Thread Cert.FfnInDxIdeal.nD Cert.FfnInDxIdeal.τ).loc Cert.FfnInDxIdeal.main_arg6) = m ((c.tc : Thread Cert.FfnInDxIdeal.nD Cert.FfnInDxIdeal.τ).loc Cert.FfnInDxIdeal.main_arg6)
          ∧ r.2.mem ((c.tc : Thread Cert.FfnInDxIdeal.nD Cert.FfnInDxIdeal.τ).loc Cert.FfnInDxIdeal.main_arg7) = m ((c.tc : Thread Cert.FfnInDxIdeal.nD Cert.FfnInDxIdeal.τ).loc Cert.FfnInDxIdeal.main_arg7)
          ∧ r.2.mem ((c.tc : Thread Cert.FfnInDxIdeal.nD Cert.FfnInDxIdeal.τ).loc Cert.FfnInDxIdeal.main_arg8) = m ((c.tc : Thread Cert.FfnInDxIdeal.nD Cert.FfnInDxIdeal.τ).loc Cert.FfnInDxIdeal.main_arg8))
      ∧ θ_run (Cert.FfnInDxRefIdeal.defs (F := Ideal)) (onTc (τ := Cert.FfnInDxRefIdeal.τ) (Cert.FfnInDxRefIdeal.main (F := Ideal))) ⟨m', fun _ => 0, g'⟩ (fun r => ∀ c : Dev Cert.FfnInDxRefIdeal.nD,
          r.2.mem ((c.tc : Thread Cert.FfnInDxRefIdeal.nD Cert.FfnInDxRefIdeal.τ).loc Cert.FfnInDxRefIdeal.main_v57) = v0 c
          ∧ r.2.mem ((c.tc : Thread Cert.FfnInDxRefIdeal.nD Cert.FfnInDxRefIdeal.τ).loc Cert.FfnInDxRefIdeal.main_v65) = v1 c
          ∧ r.2.mem ((c.tc : Thread Cert.FfnInDxRefIdeal.nD Cert.FfnInDxRefIdeal.τ).loc Cert.FfnInDxRefIdeal.main_v68) = v2 c
          ∧ r.2.mem ((c.tc : Thread Cert.FfnInDxRefIdeal.nD Cert.FfnInDxRefIdeal.τ).loc Cert.FfnInDxRefIdeal.main_arg0) = m' ((c.tc : Thread Cert.FfnInDxRefIdeal.nD Cert.FfnInDxRefIdeal.τ).loc Cert.FfnInDxRefIdeal.main_arg0)
          ∧ r.2.mem ((c.tc : Thread Cert.FfnInDxRefIdeal.nD Cert.FfnInDxRefIdeal.τ).loc Cert.FfnInDxRefIdeal.main_arg1) = m' ((c.tc : Thread Cert.FfnInDxRefIdeal.nD Cert.FfnInDxRefIdeal.τ).loc Cert.FfnInDxRefIdeal.main_arg1)
          ∧ r.2.mem ((c.tc : Thread Cert.FfnInDxRefIdeal.nD Cert.FfnInDxRefIdeal.τ).loc Cert.FfnInDxRefIdeal.main_arg2) = m' ((c.tc : Thread Cert.FfnInDxRefIdeal.nD Cert.FfnInDxRefIdeal.τ).loc Cert.FfnInDxRefIdeal.main_arg2)
          ∧ r.2.mem ((c.tc : Thread Cert.FfnInDxRefIdeal.nD Cert.FfnInDxRefIdeal.τ).loc Cert.FfnInDxRefIdeal.main_arg3) = m' ((c.tc : Thread Cert.FfnInDxRefIdeal.nD Cert.FfnInDxRefIdeal.τ).loc Cert.FfnInDxRefIdeal.main_arg3)
          ∧ r.2.mem ((c.tc : Thread Cert.FfnInDxRefIdeal.nD Cert.FfnInDxRefIdeal.τ).loc Cert.FfnInDxRefIdeal.main_arg4) = m' ((c.tc : Thread Cert.FfnInDxRefIdeal.nD Cert.FfnInDxRefIdeal.τ).loc Cert.FfnInDxRefIdeal.main_arg4)
          ∧ r.2.mem ((c.tc : Thread Cert.FfnInDxRefIdeal.nD Cert.FfnInDxRefIdeal.τ).loc Cert.FfnInDxRefIdeal.main_arg5) = m' ((c.tc : Thread Cert.FfnInDxRefIdeal.nD Cert.FfnInDxRefIdeal.τ).loc Cert.FfnInDxRefIdeal.main_arg5)
          ∧ r.2.mem ((c.tc : Thread Cert.FfnInDxRefIdeal.nD Cert.FfnInDxRefIdeal.τ).loc Cert.FfnInDxRefIdeal.main_arg6) = m' ((c.tc : Thread Cert.FfnInDxRefIdeal.nD Cert.FfnInDxRefIdeal.τ).loc Cert.FfnInDxRefIdeal.main_arg6)
          ∧ r.2.mem ((c.tc : Thread Cert.FfnInDxRefIdeal.nD Cert.FfnInDxRefIdeal.τ).loc Cert.FfnInDxRefIdeal.main_arg7) = m' ((c.tc : Thread Cert.FfnInDxRefIdeal.nD Cert.FfnInDxRefIdeal.τ).loc Cert.FfnInDxRefIdeal.main_arg7)
          ∧ r.2.mem ((c.tc : Thread Cert.FfnInDxRefIdeal.nD Cert.FfnInDxRefIdeal.τ).loc Cert.FfnInDxRefIdeal.main_arg8) = m' ((c.tc : Thread Cert.FfnInDxRefIdeal.nD Cert.FfnInDxRefIdeal.τ).loc Cert.FfnInDxRefIdeal.main_arg8))

def preserves_ProjDx_ProjDxIdeal : Prop :=
  True

def algebraic_ProjDxIdeal_ProjDxRefIdeal_pre_finite_proj_dx [hProjDxIdeal : Cert.ProjDxIdeal.Facts] [hProjDxRefIdeal : Cert.ProjDxRefIdeal.Facts] [hPre_finite_proj_dx : Cert.Pre_finite_proj_dx.Facts] : Prop :=
  ∀ (m : (ℓ : Loc Cert.ProjDxIdeal.nD Cert.ProjDxIdeal.τ Cert.ProjDxIdeal.sig) → Buf (Elt Ideal) ℓ) (g : Dev Cert.ProjDxIdeal.nD → PrngReg)
    (m' : (ℓ : Loc Cert.ProjDxRefIdeal.nD Cert.ProjDxRefIdeal.τ Cert.ProjDxRefIdeal.sig) → Buf (Elt Ideal) ℓ) (g' : Dev Cert.ProjDxRefIdeal.nD → PrngReg), Pre_ProjDxIdeal_finite_proj_dx m →
    (∀ c : Dev Cert.ProjDxIdeal.nD,
      m' ((c.tc : Thread Cert.ProjDxRefIdeal.nD Cert.ProjDxRefIdeal.τ).loc Cert.ProjDxRefIdeal.main_arg0) = m ((c.tc : Thread Cert.ProjDxIdeal.nD Cert.ProjDxIdeal.τ).loc Cert.ProjDxIdeal.main_arg0)
      ∧ m' ((c.tc : Thread Cert.ProjDxRefIdeal.nD Cert.ProjDxRefIdeal.τ).loc Cert.ProjDxRefIdeal.main_arg1) = m ((c.tc : Thread Cert.ProjDxIdeal.nD Cert.ProjDxIdeal.τ).loc Cert.ProjDxIdeal.main_arg1)
      ∧ m' ((c.tc : Thread Cert.ProjDxRefIdeal.nD Cert.ProjDxRefIdeal.τ).loc Cert.ProjDxRefIdeal.main_arg2) = m ((c.tc : Thread Cert.ProjDxIdeal.nD Cert.ProjDxIdeal.τ).loc Cert.ProjDxIdeal.main_arg2)
      ∧ m' ((c.tc : Thread Cert.ProjDxRefIdeal.nD Cert.ProjDxRefIdeal.τ).loc Cert.ProjDxRefIdeal.main_arg3) = m ((c.tc : Thread Cert.ProjDxIdeal.nD Cert.ProjDxIdeal.τ).loc Cert.ProjDxIdeal.main_arg3)
      ∧ m' ((c.tc : Thread Cert.ProjDxRefIdeal.nD Cert.ProjDxRefIdeal.τ).loc Cert.ProjDxRefIdeal.main_arg4) = m ((c.tc : Thread Cert.ProjDxIdeal.nD Cert.ProjDxIdeal.τ).loc Cert.ProjDxIdeal.main_arg4)
      ∧ m' ((c.tc : Thread Cert.ProjDxRefIdeal.nD Cert.ProjDxRefIdeal.τ).loc Cert.ProjDxRefIdeal.main_arg5) = m ((c.tc : Thread Cert.ProjDxIdeal.nD Cert.ProjDxIdeal.τ).loc Cert.ProjDxIdeal.main_arg5)
      ∧ m' ((c.tc : Thread Cert.ProjDxRefIdeal.nD Cert.ProjDxRefIdeal.τ).loc Cert.ProjDxRefIdeal.main_arg6) = m ((c.tc : Thread Cert.ProjDxIdeal.nD Cert.ProjDxIdeal.τ).loc Cert.ProjDxIdeal.main_arg6)
      ∧ m' ((c.tc : Thread Cert.ProjDxRefIdeal.nD Cert.ProjDxRefIdeal.τ).loc Cert.ProjDxRefIdeal.main_arg7) = m ((c.tc : Thread Cert.ProjDxIdeal.nD Cert.ProjDxIdeal.τ).loc Cert.ProjDxIdeal.main_arg7)
      ∧ m' ((c.tc : Thread Cert.ProjDxRefIdeal.nD Cert.ProjDxRefIdeal.τ).loc Cert.ProjDxRefIdeal.main_arg8) = m ((c.tc : Thread Cert.ProjDxIdeal.nD Cert.ProjDxIdeal.τ).loc Cert.ProjDxIdeal.main_arg8)) →
    ∃ (v0 : (c : Dev Cert.ProjDxIdeal.nD) → Buf (Elt Ideal) ((c.tc : Thread Cert.ProjDxIdeal.nD Cert.ProjDxIdeal.τ).loc Cert.ProjDxIdeal.main_v1_0)) (v1 : (c : Dev Cert.ProjDxIdeal.nD) → Buf (Elt Ideal) ((c.tc : Thread Cert.ProjDxIdeal.nD Cert.ProjDxIdeal.τ).loc Cert.ProjDxIdeal.main_v1_1)) (v2 : (c : Dev Cert.ProjDxIdeal.nD) → Buf (Elt Ideal) ((c.tc : Thread Cert.ProjDxIdeal.nD Cert.ProjDxIdeal.τ).loc Cert.ProjDxIdeal.main_v1_2)),
      θ_run (Cert.ProjDxIdeal.defs (F := Ideal)) (onTc (τ := Cert.ProjDxIdeal.τ) (Cert.ProjDxIdeal.main (F := Ideal))) ⟨m, fun _ => 0, g⟩ (fun r => ∀ c : Dev Cert.ProjDxIdeal.nD,
          r.2.mem ((c.tc : Thread Cert.ProjDxIdeal.nD Cert.ProjDxIdeal.τ).loc Cert.ProjDxIdeal.main_v1_0) = v0 c
          ∧ r.2.mem ((c.tc : Thread Cert.ProjDxIdeal.nD Cert.ProjDxIdeal.τ).loc Cert.ProjDxIdeal.main_v1_1) = v1 c
          ∧ r.2.mem ((c.tc : Thread Cert.ProjDxIdeal.nD Cert.ProjDxIdeal.τ).loc Cert.ProjDxIdeal.main_v1_2) = v2 c
          ∧ r.2.mem ((c.tc : Thread Cert.ProjDxIdeal.nD Cert.ProjDxIdeal.τ).loc Cert.ProjDxIdeal.main_arg0) = m ((c.tc : Thread Cert.ProjDxIdeal.nD Cert.ProjDxIdeal.τ).loc Cert.ProjDxIdeal.main_arg0)
          ∧ r.2.mem ((c.tc : Thread Cert.ProjDxIdeal.nD Cert.ProjDxIdeal.τ).loc Cert.ProjDxIdeal.main_arg1) = m ((c.tc : Thread Cert.ProjDxIdeal.nD Cert.ProjDxIdeal.τ).loc Cert.ProjDxIdeal.main_arg1)
          ∧ r.2.mem ((c.tc : Thread Cert.ProjDxIdeal.nD Cert.ProjDxIdeal.τ).loc Cert.ProjDxIdeal.main_arg2) = m ((c.tc : Thread Cert.ProjDxIdeal.nD Cert.ProjDxIdeal.τ).loc Cert.ProjDxIdeal.main_arg2)
          ∧ r.2.mem ((c.tc : Thread Cert.ProjDxIdeal.nD Cert.ProjDxIdeal.τ).loc Cert.ProjDxIdeal.main_arg3) = m ((c.tc : Thread Cert.ProjDxIdeal.nD Cert.ProjDxIdeal.τ).loc Cert.ProjDxIdeal.main_arg3)
          ∧ r.2.mem ((c.tc : Thread Cert.ProjDxIdeal.nD Cert.ProjDxIdeal.τ).loc Cert.ProjDxIdeal.main_arg4) = m ((c.tc : Thread Cert.ProjDxIdeal.nD Cert.ProjDxIdeal.τ).loc Cert.ProjDxIdeal.main_arg4)
          ∧ r.2.mem ((c.tc : Thread Cert.ProjDxIdeal.nD Cert.ProjDxIdeal.τ).loc Cert.ProjDxIdeal.main_arg5) = m ((c.tc : Thread Cert.ProjDxIdeal.nD Cert.ProjDxIdeal.τ).loc Cert.ProjDxIdeal.main_arg5)
          ∧ r.2.mem ((c.tc : Thread Cert.ProjDxIdeal.nD Cert.ProjDxIdeal.τ).loc Cert.ProjDxIdeal.main_arg6) = m ((c.tc : Thread Cert.ProjDxIdeal.nD Cert.ProjDxIdeal.τ).loc Cert.ProjDxIdeal.main_arg6)
          ∧ r.2.mem ((c.tc : Thread Cert.ProjDxIdeal.nD Cert.ProjDxIdeal.τ).loc Cert.ProjDxIdeal.main_arg7) = m ((c.tc : Thread Cert.ProjDxIdeal.nD Cert.ProjDxIdeal.τ).loc Cert.ProjDxIdeal.main_arg7)
          ∧ r.2.mem ((c.tc : Thread Cert.ProjDxIdeal.nD Cert.ProjDxIdeal.τ).loc Cert.ProjDxIdeal.main_arg8) = m ((c.tc : Thread Cert.ProjDxIdeal.nD Cert.ProjDxIdeal.τ).loc Cert.ProjDxIdeal.main_arg8))
      ∧ θ_run (Cert.ProjDxRefIdeal.defs (F := Ideal)) (onTc (τ := Cert.ProjDxRefIdeal.τ) (Cert.ProjDxRefIdeal.main (F := Ideal))) ⟨m', fun _ => 0, g'⟩ (fun r => ∀ c : Dev Cert.ProjDxRefIdeal.nD,
          r.2.mem ((c.tc : Thread Cert.ProjDxRefIdeal.nD Cert.ProjDxRefIdeal.τ).loc Cert.ProjDxRefIdeal.main_v54) = v0 c
          ∧ r.2.mem ((c.tc : Thread Cert.ProjDxRefIdeal.nD Cert.ProjDxRefIdeal.τ).loc Cert.ProjDxRefIdeal.main_v62) = v1 c
          ∧ r.2.mem ((c.tc : Thread Cert.ProjDxRefIdeal.nD Cert.ProjDxRefIdeal.τ).loc Cert.ProjDxRefIdeal.main_v65) = v2 c
          ∧ r.2.mem ((c.tc : Thread Cert.ProjDxRefIdeal.nD Cert.ProjDxRefIdeal.τ).loc Cert.ProjDxRefIdeal.main_arg0) = m' ((c.tc : Thread Cert.ProjDxRefIdeal.nD Cert.ProjDxRefIdeal.τ).loc Cert.ProjDxRefIdeal.main_arg0)
          ∧ r.2.mem ((c.tc : Thread Cert.ProjDxRefIdeal.nD Cert.ProjDxRefIdeal.τ).loc Cert.ProjDxRefIdeal.main_arg1) = m' ((c.tc : Thread Cert.ProjDxRefIdeal.nD Cert.ProjDxRefIdeal.τ).loc Cert.ProjDxRefIdeal.main_arg1)
          ∧ r.2.mem ((c.tc : Thread Cert.ProjDxRefIdeal.nD Cert.ProjDxRefIdeal.τ).loc Cert.ProjDxRefIdeal.main_arg2) = m' ((c.tc : Thread Cert.ProjDxRefIdeal.nD Cert.ProjDxRefIdeal.τ).loc Cert.ProjDxRefIdeal.main_arg2)
          ∧ r.2.mem ((c.tc : Thread Cert.ProjDxRefIdeal.nD Cert.ProjDxRefIdeal.τ).loc Cert.ProjDxRefIdeal.main_arg3) = m' ((c.tc : Thread Cert.ProjDxRefIdeal.nD Cert.ProjDxRefIdeal.τ).loc Cert.ProjDxRefIdeal.main_arg3)
          ∧ r.2.mem ((c.tc : Thread Cert.ProjDxRefIdeal.nD Cert.ProjDxRefIdeal.τ).loc Cert.ProjDxRefIdeal.main_arg4) = m' ((c.tc : Thread Cert.ProjDxRefIdeal.nD Cert.ProjDxRefIdeal.τ).loc Cert.ProjDxRefIdeal.main_arg4)
          ∧ r.2.mem ((c.tc : Thread Cert.ProjDxRefIdeal.nD Cert.ProjDxRefIdeal.τ).loc Cert.ProjDxRefIdeal.main_arg5) = m' ((c.tc : Thread Cert.ProjDxRefIdeal.nD Cert.ProjDxRefIdeal.τ).loc Cert.ProjDxRefIdeal.main_arg5)
          ∧ r.2.mem ((c.tc : Thread Cert.ProjDxRefIdeal.nD Cert.ProjDxRefIdeal.τ).loc Cert.ProjDxRefIdeal.main_arg6) = m' ((c.tc : Thread Cert.ProjDxRefIdeal.nD Cert.ProjDxRefIdeal.τ).loc Cert.ProjDxRefIdeal.main_arg6)
          ∧ r.2.mem ((c.tc : Thread Cert.ProjDxRefIdeal.nD Cert.ProjDxRefIdeal.τ).loc Cert.ProjDxRefIdeal.main_arg7) = m' ((c.tc : Thread Cert.ProjDxRefIdeal.nD Cert.ProjDxRefIdeal.τ).loc Cert.ProjDxRefIdeal.main_arg7)
          ∧ r.2.mem ((c.tc : Thread Cert.ProjDxRefIdeal.nD Cert.ProjDxRefIdeal.τ).loc Cert.ProjDxRefIdeal.main_arg8) = m' ((c.tc : Thread Cert.ProjDxRefIdeal.nD Cert.ProjDxRefIdeal.τ).loc Cert.ProjDxRefIdeal.main_arg8))

def preserves_ProjDxFirst_ProjDxFirstIdeal : Prop :=
  True

def algebraic_ProjDxFirstIdeal_ProjDxFirstRefIdeal_pre_finite_proj_dx_first [hProjDxFirstIdeal : Cert.ProjDxFirstIdeal.Facts] [hProjDxFirstRefIdeal : Cert.ProjDxFirstRefIdeal.Facts] [hPre_finite_proj_dx_first : Cert.Pre_finite_proj_dx_first.Facts] : Prop :=
  ∀ (m : (ℓ : Loc Cert.ProjDxFirstIdeal.nD Cert.ProjDxFirstIdeal.τ Cert.ProjDxFirstIdeal.sig) → Buf (Elt Ideal) ℓ) (g : Dev Cert.ProjDxFirstIdeal.nD → PrngReg)
    (m' : (ℓ : Loc Cert.ProjDxFirstRefIdeal.nD Cert.ProjDxFirstRefIdeal.τ Cert.ProjDxFirstRefIdeal.sig) → Buf (Elt Ideal) ℓ) (g' : Dev Cert.ProjDxFirstRefIdeal.nD → PrngReg), Pre_ProjDxFirstIdeal_finite_proj_dx_first m →
    (∀ c : Dev Cert.ProjDxFirstIdeal.nD,
      m' ((c.tc : Thread Cert.ProjDxFirstRefIdeal.nD Cert.ProjDxFirstRefIdeal.τ).loc Cert.ProjDxFirstRefIdeal.main_arg0) = m ((c.tc : Thread Cert.ProjDxFirstIdeal.nD Cert.ProjDxFirstIdeal.τ).loc Cert.ProjDxFirstIdeal.main_arg0)
      ∧ m' ((c.tc : Thread Cert.ProjDxFirstRefIdeal.nD Cert.ProjDxFirstRefIdeal.τ).loc Cert.ProjDxFirstRefIdeal.main_arg1) = m ((c.tc : Thread Cert.ProjDxFirstIdeal.nD Cert.ProjDxFirstIdeal.τ).loc Cert.ProjDxFirstIdeal.main_arg1)
      ∧ m' ((c.tc : Thread Cert.ProjDxFirstRefIdeal.nD Cert.ProjDxFirstRefIdeal.τ).loc Cert.ProjDxFirstRefIdeal.main_arg2) = m ((c.tc : Thread Cert.ProjDxFirstIdeal.nD Cert.ProjDxFirstIdeal.τ).loc Cert.ProjDxFirstIdeal.main_arg2)
      ∧ m' ((c.tc : Thread Cert.ProjDxFirstRefIdeal.nD Cert.ProjDxFirstRefIdeal.τ).loc Cert.ProjDxFirstRefIdeal.main_arg3) = m ((c.tc : Thread Cert.ProjDxFirstIdeal.nD Cert.ProjDxFirstIdeal.τ).loc Cert.ProjDxFirstIdeal.main_arg3)
      ∧ m' ((c.tc : Thread Cert.ProjDxFirstRefIdeal.nD Cert.ProjDxFirstRefIdeal.τ).loc Cert.ProjDxFirstRefIdeal.main_arg4) = m ((c.tc : Thread Cert.ProjDxFirstIdeal.nD Cert.ProjDxFirstIdeal.τ).loc Cert.ProjDxFirstIdeal.main_arg4)
      ∧ m' ((c.tc : Thread Cert.ProjDxFirstRefIdeal.nD Cert.ProjDxFirstRefIdeal.τ).loc Cert.ProjDxFirstRefIdeal.main_arg5) = m ((c.tc : Thread Cert.ProjDxFirstIdeal.nD Cert.ProjDxFirstIdeal.τ).loc Cert.ProjDxFirstIdeal.main_arg5)
      ∧ m' ((c.tc : Thread Cert.ProjDxFirstRefIdeal.nD Cert.ProjDxFirstRefIdeal.τ).loc Cert.ProjDxFirstRefIdeal.main_arg6) = m ((c.tc : Thread Cert.ProjDxFirstIdeal.nD Cert.ProjDxFirstIdeal.τ).loc Cert.ProjDxFirstIdeal.main_arg6)) →
    ∃ (v0 : (c : Dev Cert.ProjDxFirstIdeal.nD) → Buf (Elt Ideal) ((c.tc : Thread Cert.ProjDxFirstIdeal.nD Cert.ProjDxFirstIdeal.τ).loc Cert.ProjDxFirstIdeal.main_v1_0)) (v1 : (c : Dev Cert.ProjDxFirstIdeal.nD) → Buf (Elt Ideal) ((c.tc : Thread Cert.ProjDxFirstIdeal.nD Cert.ProjDxFirstIdeal.τ).loc Cert.ProjDxFirstIdeal.main_v1_1)),
      θ_run (Cert.ProjDxFirstIdeal.defs (F := Ideal)) (onTc (τ := Cert.ProjDxFirstIdeal.τ) (Cert.ProjDxFirstIdeal.main (F := Ideal))) ⟨m, fun _ => 0, g⟩ (fun r => ∀ c : Dev Cert.ProjDxFirstIdeal.nD,
          r.2.mem ((c.tc : Thread Cert.ProjDxFirstIdeal.nD Cert.ProjDxFirstIdeal.τ).loc Cert.ProjDxFirstIdeal.main_v1_0) = v0 c
          ∧ r.2.mem ((c.tc : Thread Cert.ProjDxFirstIdeal.nD Cert.ProjDxFirstIdeal.τ).loc Cert.ProjDxFirstIdeal.main_v1_1) = v1 c
          ∧ r.2.mem ((c.tc : Thread Cert.ProjDxFirstIdeal.nD Cert.ProjDxFirstIdeal.τ).loc Cert.ProjDxFirstIdeal.main_arg0) = m ((c.tc : Thread Cert.ProjDxFirstIdeal.nD Cert.ProjDxFirstIdeal.τ).loc Cert.ProjDxFirstIdeal.main_arg0)
          ∧ r.2.mem ((c.tc : Thread Cert.ProjDxFirstIdeal.nD Cert.ProjDxFirstIdeal.τ).loc Cert.ProjDxFirstIdeal.main_arg1) = m ((c.tc : Thread Cert.ProjDxFirstIdeal.nD Cert.ProjDxFirstIdeal.τ).loc Cert.ProjDxFirstIdeal.main_arg1)
          ∧ r.2.mem ((c.tc : Thread Cert.ProjDxFirstIdeal.nD Cert.ProjDxFirstIdeal.τ).loc Cert.ProjDxFirstIdeal.main_arg2) = m ((c.tc : Thread Cert.ProjDxFirstIdeal.nD Cert.ProjDxFirstIdeal.τ).loc Cert.ProjDxFirstIdeal.main_arg2)
          ∧ r.2.mem ((c.tc : Thread Cert.ProjDxFirstIdeal.nD Cert.ProjDxFirstIdeal.τ).loc Cert.ProjDxFirstIdeal.main_arg3) = m ((c.tc : Thread Cert.ProjDxFirstIdeal.nD Cert.ProjDxFirstIdeal.τ).loc Cert.ProjDxFirstIdeal.main_arg3)
          ∧ r.2.mem ((c.tc : Thread Cert.ProjDxFirstIdeal.nD Cert.ProjDxFirstIdeal.τ).loc Cert.ProjDxFirstIdeal.main_arg4) = m ((c.tc : Thread Cert.ProjDxFirstIdeal.nD Cert.ProjDxFirstIdeal.τ).loc Cert.ProjDxFirstIdeal.main_arg4)
          ∧ r.2.mem ((c.tc : Thread Cert.ProjDxFirstIdeal.nD Cert.ProjDxFirstIdeal.τ).loc Cert.ProjDxFirstIdeal.main_arg5) = m ((c.tc : Thread Cert.ProjDxFirstIdeal.nD Cert.ProjDxFirstIdeal.τ).loc Cert.ProjDxFirstIdeal.main_arg5)
          ∧ r.2.mem ((c.tc : Thread Cert.ProjDxFirstIdeal.nD Cert.ProjDxFirstIdeal.τ).loc Cert.ProjDxFirstIdeal.main_arg6) = m ((c.tc : Thread Cert.ProjDxFirstIdeal.nD Cert.ProjDxFirstIdeal.τ).loc Cert.ProjDxFirstIdeal.main_arg6))
      ∧ θ_run (Cert.ProjDxFirstRefIdeal.defs (F := Ideal)) (onTc (τ := Cert.ProjDxFirstRefIdeal.τ) (Cert.ProjDxFirstRefIdeal.main (F := Ideal))) ⟨m', fun _ => 0, g'⟩ (fun r => ∀ c : Dev Cert.ProjDxFirstRefIdeal.nD,
          r.2.mem ((c.tc : Thread Cert.ProjDxFirstRefIdeal.nD Cert.ProjDxFirstRefIdeal.τ).loc Cert.ProjDxFirstRefIdeal.main_v54) = v0 c
          ∧ r.2.mem ((c.tc : Thread Cert.ProjDxFirstRefIdeal.nD Cert.ProjDxFirstRefIdeal.τ).loc Cert.ProjDxFirstRefIdeal.main_v57) = v1 c
          ∧ r.2.mem ((c.tc : Thread Cert.ProjDxFirstRefIdeal.nD Cert.ProjDxFirstRefIdeal.τ).loc Cert.ProjDxFirstRefIdeal.main_arg0) = m' ((c.tc : Thread Cert.ProjDxFirstRefIdeal.nD Cert.ProjDxFirstRefIdeal.τ).loc Cert.ProjDxFirstRefIdeal.main_arg0)
          ∧ r.2.mem ((c.tc : Thread Cert.ProjDxFirstRefIdeal.nD Cert.ProjDxFirstRefIdeal.τ).loc Cert.ProjDxFirstRefIdeal.main_arg1) = m' ((c.tc : Thread Cert.ProjDxFirstRefIdeal.nD Cert.ProjDxFirstRefIdeal.τ).loc Cert.ProjDxFirstRefIdeal.main_arg1)
          ∧ r.2.mem ((c.tc : Thread Cert.ProjDxFirstRefIdeal.nD Cert.ProjDxFirstRefIdeal.τ).loc Cert.ProjDxFirstRefIdeal.main_arg2) = m' ((c.tc : Thread Cert.ProjDxFirstRefIdeal.nD Cert.ProjDxFirstRefIdeal.τ).loc Cert.ProjDxFirstRefIdeal.main_arg2)
          ∧ r.2.mem ((c.tc : Thread Cert.ProjDxFirstRefIdeal.nD Cert.ProjDxFirstRefIdeal.τ).loc Cert.ProjDxFirstRefIdeal.main_arg3) = m' ((c.tc : Thread Cert.ProjDxFirstRefIdeal.nD Cert.ProjDxFirstRefIdeal.τ).loc Cert.ProjDxFirstRefIdeal.main_arg3)
          ∧ r.2.mem ((c.tc : Thread Cert.ProjDxFirstRefIdeal.nD Cert.ProjDxFirstRefIdeal.τ).loc Cert.ProjDxFirstRefIdeal.main_arg4) = m' ((c.tc : Thread Cert.ProjDxFirstRefIdeal.nD Cert.ProjDxFirstRefIdeal.τ).loc Cert.ProjDxFirstRefIdeal.main_arg4)
          ∧ r.2.mem ((c.tc : Thread Cert.ProjDxFirstRefIdeal.nD Cert.ProjDxFirstRefIdeal.τ).loc Cert.ProjDxFirstRefIdeal.main_arg5) = m' ((c.tc : Thread Cert.ProjDxFirstRefIdeal.nD Cert.ProjDxFirstRefIdeal.τ).loc Cert.ProjDxFirstRefIdeal.main_arg5)
          ∧ r.2.mem ((c.tc : Thread Cert.ProjDxFirstRefIdeal.nD Cert.ProjDxFirstRefIdeal.τ).loc Cert.ProjDxFirstRefIdeal.main_arg6) = m' ((c.tc : Thread Cert.ProjDxFirstRefIdeal.nD Cert.ProjDxFirstRefIdeal.τ).loc Cert.ProjDxFirstRefIdeal.main_arg6))

def preserves_LossHead_LossHeadIdeal : Prop :=
  True

def algebraic_LossHeadIdeal_LossHeadRefIdeal_pre_finite_loss [hLossHeadIdeal : Cert.LossHeadIdeal.Facts] [hLossHeadRefIdeal : Cert.LossHeadRefIdeal.Facts] [hPre_finite_loss : Cert.Pre_finite_loss.Facts] : Prop :=
  ∀ (m : (ℓ : Loc Cert.LossHeadIdeal.nD Cert.LossHeadIdeal.τ Cert.LossHeadIdeal.sig) → Buf (Elt Ideal) ℓ) (g : Dev Cert.LossHeadIdeal.nD → PrngReg)
    (m' : (ℓ : Loc Cert.LossHeadRefIdeal.nD Cert.LossHeadRefIdeal.τ Cert.LossHeadRefIdeal.sig) → Buf (Elt Ideal) ℓ) (g' : Dev Cert.LossHeadRefIdeal.nD → PrngReg), Pre_LossHeadIdeal_finite_loss m →
    (∀ c : Dev Cert.LossHeadIdeal.nD,
      m' ((c.tc : Thread Cert.LossHeadRefIdeal.nD Cert.LossHeadRefIdeal.τ).loc Cert.LossHeadRefIdeal.main_arg0) = m ((c.tc : Thread Cert.LossHeadIdeal.nD Cert.LossHeadIdeal.τ).loc Cert.LossHeadIdeal.main_arg0)
      ∧ m' ((c.tc : Thread Cert.LossHeadRefIdeal.nD Cert.LossHeadRefIdeal.τ).loc Cert.LossHeadRefIdeal.main_arg1) = m ((c.tc : Thread Cert.LossHeadIdeal.nD Cert.LossHeadIdeal.τ).loc Cert.LossHeadIdeal.main_arg1)
      ∧ m' ((c.tc : Thread Cert.LossHeadRefIdeal.nD Cert.LossHeadRefIdeal.τ).loc Cert.LossHeadRefIdeal.main_arg2) = m ((c.tc : Thread Cert.LossHeadIdeal.nD Cert.LossHeadIdeal.τ).loc Cert.LossHeadIdeal.main_arg2)
      ∧ m' ((c.tc : Thread Cert.LossHeadRefIdeal.nD Cert.LossHeadRefIdeal.τ).loc Cert.LossHeadRefIdeal.main_arg3) = m ((c.tc : Thread Cert.LossHeadIdeal.nD Cert.LossHeadIdeal.τ).loc Cert.LossHeadIdeal.main_arg3)
      ∧ m' ((c.tc : Thread Cert.LossHeadRefIdeal.nD Cert.LossHeadRefIdeal.τ).loc Cert.LossHeadRefIdeal.main_arg4) = m ((c.tc : Thread Cert.LossHeadIdeal.nD Cert.LossHeadIdeal.τ).loc Cert.LossHeadIdeal.main_arg4)) →
    ∃ (v0 : (c : Dev Cert.LossHeadIdeal.nD) → Buf (Elt Ideal) ((c.tc : Thread Cert.LossHeadIdeal.nD Cert.LossHeadIdeal.τ).loc Cert.LossHeadIdeal.main_v1_0)) (v1 : (c : Dev Cert.LossHeadIdeal.nD) → Buf (Elt Ideal) ((c.tc : Thread Cert.LossHeadIdeal.nD Cert.LossHeadIdeal.τ).loc Cert.LossHeadIdeal.main_v1_1)) (v2 : (c : Dev Cert.LossHeadIdeal.nD) → Buf (Elt Ideal) ((c.tc : Thread Cert.LossHeadIdeal.nD Cert.LossHeadIdeal.τ).loc Cert.LossHeadIdeal.main_v1_2)),
      θ_run (Cert.LossHeadIdeal.defs (F := Ideal)) (onTc (τ := Cert.LossHeadIdeal.τ) (Cert.LossHeadIdeal.main (F := Ideal))) ⟨m, fun _ => 0, g⟩ (fun r => ∀ c : Dev Cert.LossHeadIdeal.nD,
          r.2.mem ((c.tc : Thread Cert.LossHeadIdeal.nD Cert.LossHeadIdeal.τ).loc Cert.LossHeadIdeal.main_v1_0) = v0 c
          ∧ r.2.mem ((c.tc : Thread Cert.LossHeadIdeal.nD Cert.LossHeadIdeal.τ).loc Cert.LossHeadIdeal.main_v1_1) = v1 c
          ∧ r.2.mem ((c.tc : Thread Cert.LossHeadIdeal.nD Cert.LossHeadIdeal.τ).loc Cert.LossHeadIdeal.main_v1_2) = v2 c
          ∧ r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
          ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
          ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2)
          ∧ r.2.mem ((c.tc : Thread Cert.LossHeadIdeal.nD Cert.LossHeadIdeal.τ).loc Cert.LossHeadIdeal.main_arg3) = m ((c.tc : Thread Cert.LossHeadIdeal.nD Cert.LossHeadIdeal.τ).loc Cert.LossHeadIdeal.main_arg3)
          ∧ r.2.mem ((c.tc : Thread Cert.LossHeadIdeal.nD Cert.LossHeadIdeal.τ).loc Cert.LossHeadIdeal.main_arg4) = m ((c.tc : Thread Cert.LossHeadIdeal.nD Cert.LossHeadIdeal.τ).loc Cert.LossHeadIdeal.main_arg4))
      ∧ θ_run (Cert.LossHeadRefIdeal.defs (F := Ideal)) (onTc (τ := Cert.LossHeadRefIdeal.τ) (Cert.LossHeadRefIdeal.main (F := Ideal))) ⟨m', fun _ => 0, g'⟩ (fun r => ∀ c : Dev Cert.LossHeadRefIdeal.nD,
          r.2.mem ((c.tc : Thread Cert.LossHeadRefIdeal.nD Cert.LossHeadRefIdeal.τ).loc Cert.LossHeadRefIdeal.main_v53) = v0 c
          ∧ r.2.mem ((c.tc : Thread Cert.LossHeadRefIdeal.nD Cert.LossHeadRefIdeal.τ).loc Cert.LossHeadRefIdeal.main_v59) = v1 c
          ∧ r.2.mem ((c.tc : Thread Cert.LossHeadRefIdeal.nD Cert.LossHeadRefIdeal.τ).loc Cert.LossHeadRefIdeal.main_v64) = v2 c
          ∧ r.2.mem ((c.tc : Thread Cert.LossHeadRefIdeal.nD Cert.LossHeadRefIdeal.τ).loc Cert.LossHeadRefIdeal.main_arg0) = m' ((c.tc : Thread Cert.LossHeadRefIdeal.nD Cert.LossHeadRefIdeal.τ).loc Cert.LossHeadRefIdeal.main_arg0)
          ∧ r.2.mem ((c.tc : Thread Cert.LossHeadRefIdeal.nD Cert.LossHeadRefIdeal.τ).loc Cert.LossHeadRefIdeal.main_arg1) = m' ((c.tc : Thread Cert.LossHeadRefIdeal.nD Cert.LossHeadRefIdeal.τ).loc Cert.LossHeadRefIdeal.main_arg1)
          ∧ r.2.mem ((c.tc : Thread Cert.LossHeadRefIdeal.nD Cert.LossHeadRefIdeal.τ).loc Cert.LossHeadRefIdeal.main_arg2) = m' ((c.tc : Thread Cert.LossHeadRefIdeal.nD Cert.LossHeadRefIdeal.τ).loc Cert.LossHeadRefIdeal.main_arg2)
          ∧ r.2.mem ((c.tc : Thread Cert.LossHeadRefIdeal.nD Cert.LossHeadRefIdeal.τ).loc Cert.LossHeadRefIdeal.main_arg3) = m' ((c.tc : Thread Cert.LossHeadRefIdeal.nD Cert.LossHeadRefIdeal.τ).loc Cert.LossHeadRefIdeal.main_arg3)
          ∧ r.2.mem ((c.tc : Thread Cert.LossHeadRefIdeal.nD Cert.LossHeadRefIdeal.τ).loc Cert.LossHeadRefIdeal.main_arg4) = m' ((c.tc : Thread Cert.LossHeadRefIdeal.nD Cert.LossHeadRefIdeal.τ).loc Cert.LossHeadRefIdeal.main_arg4))

def preserves_OutDw_OutDwIdeal : Prop :=
  True

def algebraic_OutDwIdeal_OutDwRefIdeal [hOutDwIdeal : Cert.OutDwIdeal.Facts] [hOutDwRefIdeal : Cert.OutDwRefIdeal.Facts] : Prop :=
  ∀ (m : (ℓ : Loc Cert.OutDwIdeal.nD Cert.OutDwIdeal.τ Cert.OutDwIdeal.sig) → Buf (Elt Ideal) ℓ) (g : Dev Cert.OutDwIdeal.nD → PrngReg)
    (m' : (ℓ : Loc Cert.OutDwRefIdeal.nD Cert.OutDwRefIdeal.τ Cert.OutDwRefIdeal.sig) → Buf (Elt Ideal) ℓ) (g' : Dev Cert.OutDwRefIdeal.nD → PrngReg), Pre_OutDwIdeal m →
    (∀ c : Dev Cert.OutDwIdeal.nD,
      m' ((c.tc : Thread Cert.OutDwRefIdeal.nD Cert.OutDwRefIdeal.τ).loc Cert.OutDwRefIdeal.main_arg0) = m ((c.tc : Thread Cert.OutDwIdeal.nD Cert.OutDwIdeal.τ).loc Cert.OutDwIdeal.main_arg0)
      ∧ m' ((c.tc : Thread Cert.OutDwRefIdeal.nD Cert.OutDwRefIdeal.τ).loc Cert.OutDwRefIdeal.main_arg1) = m ((c.tc : Thread Cert.OutDwIdeal.nD Cert.OutDwIdeal.τ).loc Cert.OutDwIdeal.main_arg1)) →
    ∃ (v0 : (c : Dev Cert.OutDwIdeal.nD) → Buf (Elt Ideal) ((c.tc : Thread Cert.OutDwIdeal.nD Cert.OutDwIdeal.τ).loc Cert.OutDwIdeal.main_v0)),
      θ_run (Cert.OutDwIdeal.defs (F := Ideal)) (onTc (τ := Cert.OutDwIdeal.τ) (Cert.OutDwIdeal.main (F := Ideal))) ⟨m, fun _ => 0, g⟩ (fun r => ∀ c : Dev Cert.OutDwIdeal.nD,
          r.2.mem ((c.tc : Thread Cert.OutDwIdeal.nD Cert.OutDwIdeal.τ).loc Cert.OutDwIdeal.main_v0) = v0 c
          ∧ r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
          ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ θ_run (Cert.OutDwRefIdeal.defs (F := Ideal)) (onTc (τ := Cert.OutDwRefIdeal.τ) (Cert.OutDwRefIdeal.main (F := Ideal))) ⟨m', fun _ => 0, g'⟩ (fun r => ∀ c : Dev Cert.OutDwRefIdeal.nD,
          r.2.mem ((c.tc : Thread Cert.OutDwRefIdeal.nD Cert.OutDwRefIdeal.τ).loc Cert.OutDwRefIdeal.main_v6) = v0 c
          ∧ r.2.mem ((c.tc : Thread Cert.OutDwRefIdeal.nD Cert.OutDwRefIdeal.τ).loc Cert.OutDwRefIdeal.main_arg0) = m' ((c.tc : Thread Cert.OutDwRefIdeal.nD Cert.OutDwRefIdeal.τ).loc Cert.OutDwRefIdeal.main_arg0)
          ∧ r.2.mem ((c.tc : Thread Cert.OutDwRefIdeal.nD Cert.OutDwRefIdeal.τ).loc Cert.OutDwRefIdeal.main_arg1) = m' ((c.tc : Thread Cert.OutDwRefIdeal.nD Cert.OutDwRefIdeal.τ).loc Cert.OutDwRefIdeal.main_arg1))

def preserves_BranchDw_BranchDwIdeal : Prop :=
  True

def algebraic_BranchDwIdeal_BranchDwRefIdeal [hBranchDwIdeal : Cert.BranchDwIdeal.Facts] [hBranchDwRefIdeal : Cert.BranchDwRefIdeal.Facts] : Prop :=
  ∀ (m : (ℓ : Loc Cert.BranchDwIdeal.nD Cert.BranchDwIdeal.τ Cert.BranchDwIdeal.sig) → Buf (Elt Ideal) ℓ) (g : Dev Cert.BranchDwIdeal.nD → PrngReg)
    (m' : (ℓ : Loc Cert.BranchDwRefIdeal.nD Cert.BranchDwRefIdeal.τ Cert.BranchDwRefIdeal.sig) → Buf (Elt Ideal) ℓ) (g' : Dev Cert.BranchDwRefIdeal.nD → PrngReg), Pre_BranchDwIdeal m →
    (∀ c : Dev Cert.BranchDwIdeal.nD,
      m' ((c.tc : Thread Cert.BranchDwRefIdeal.nD Cert.BranchDwRefIdeal.τ).loc Cert.BranchDwRefIdeal.main_arg0) = m ((c.tc : Thread Cert.BranchDwIdeal.nD Cert.BranchDwIdeal.τ).loc Cert.BranchDwIdeal.main_arg0)
      ∧ m' ((c.tc : Thread Cert.BranchDwRefIdeal.nD Cert.BranchDwRefIdeal.τ).loc Cert.BranchDwRefIdeal.main_arg1) = m ((c.tc : Thread Cert.BranchDwIdeal.nD Cert.BranchDwIdeal.τ).loc Cert.BranchDwIdeal.main_arg1)) →
    ∃ (v0 : (c : Dev Cert.BranchDwIdeal.nD) → Buf (Elt Ideal) ((c.tc : Thread Cert.BranchDwIdeal.nD Cert.BranchDwIdeal.τ).loc Cert.BranchDwIdeal.main_v0)),
      θ_run (Cert.BranchDwIdeal.defs (F := Ideal)) (onTc (τ := Cert.BranchDwIdeal.τ) (Cert.BranchDwIdeal.main (F := Ideal))) ⟨m, fun _ => 0, g⟩ (fun r => ∀ c : Dev Cert.BranchDwIdeal.nD,
          r.2.mem ((c.tc : Thread Cert.BranchDwIdeal.nD Cert.BranchDwIdeal.τ).loc Cert.BranchDwIdeal.main_v0) = v0 c
          ∧ r.2.mem ((c.tc : Thread Cert.BranchDwIdeal.nD Cert.BranchDwIdeal.τ).loc Cert.BranchDwIdeal.main_arg0) = m ((c.tc : Thread Cert.BranchDwIdeal.nD Cert.BranchDwIdeal.τ).loc Cert.BranchDwIdeal.main_arg0)
          ∧ r.2.mem ((c.tc : Thread Cert.BranchDwIdeal.nD Cert.BranchDwIdeal.τ).loc Cert.BranchDwIdeal.main_arg1) = m ((c.tc : Thread Cert.BranchDwIdeal.nD Cert.BranchDwIdeal.τ).loc Cert.BranchDwIdeal.main_arg1))
      ∧ θ_run (Cert.BranchDwRefIdeal.defs (F := Ideal)) (onTc (τ := Cert.BranchDwRefIdeal.τ) (Cert.BranchDwRefIdeal.main (F := Ideal))) ⟨m', fun _ => 0, g'⟩ (fun r => ∀ c : Dev Cert.BranchDwRefIdeal.nD,
          r.2.mem ((c.tc : Thread Cert.BranchDwRefIdeal.nD Cert.BranchDwRefIdeal.τ).loc Cert.BranchDwRefIdeal.main_v6) = v0 c
          ∧ r.2.mem ((c.tc : Thread Cert.BranchDwRefIdeal.nD Cert.BranchDwRefIdeal.τ).loc Cert.BranchDwRefIdeal.main_arg0) = m' ((c.tc : Thread Cert.BranchDwRefIdeal.nD Cert.BranchDwRefIdeal.τ).loc Cert.BranchDwRefIdeal.main_arg0)
          ∧ r.2.mem ((c.tc : Thread Cert.BranchDwRefIdeal.nD Cert.BranchDwRefIdeal.τ).loc Cert.BranchDwRefIdeal.main_arg1) = m' ((c.tc : Thread Cert.BranchDwRefIdeal.nD Cert.BranchDwRefIdeal.τ).loc Cert.BranchDwRefIdeal.main_arg1))

def preserves_BranchDx_BranchDxIdeal : Prop :=
  True

def algebraic_BranchDxIdeal_BranchDxRefIdeal [hBranchDxIdeal : Cert.BranchDxIdeal.Facts] [hBranchDxRefIdeal : Cert.BranchDxRefIdeal.Facts] : Prop :=
  ∀ (m : (ℓ : Loc Cert.BranchDxIdeal.nD Cert.BranchDxIdeal.τ Cert.BranchDxIdeal.sig) → Buf (Elt Ideal) ℓ) (g : Dev Cert.BranchDxIdeal.nD → PrngReg)
    (m' : (ℓ : Loc Cert.BranchDxRefIdeal.nD Cert.BranchDxRefIdeal.τ Cert.BranchDxRefIdeal.sig) → Buf (Elt Ideal) ℓ) (g' : Dev Cert.BranchDxRefIdeal.nD → PrngReg), Pre_BranchDxIdeal m →
    (∀ c : Dev Cert.BranchDxIdeal.nD,
      m' ((c.tc : Thread Cert.BranchDxRefIdeal.nD Cert.BranchDxRefIdeal.τ).loc Cert.BranchDxRefIdeal.main_arg0) = m ((c.tc : Thread Cert.BranchDxIdeal.nD Cert.BranchDxIdeal.τ).loc Cert.BranchDxIdeal.main_arg0)
      ∧ m' ((c.tc : Thread Cert.BranchDxRefIdeal.nD Cert.BranchDxRefIdeal.τ).loc Cert.BranchDxRefIdeal.main_arg1) = m ((c.tc : Thread Cert.BranchDxIdeal.nD Cert.BranchDxIdeal.τ).loc Cert.BranchDxIdeal.main_arg1)) →
    ∃ (v0 : (c : Dev Cert.BranchDxIdeal.nD) → Buf (Elt Ideal) ((c.tc : Thread Cert.BranchDxIdeal.nD Cert.BranchDxIdeal.τ).loc Cert.BranchDxIdeal.main_v1)),
      θ_run (Cert.BranchDxIdeal.defs (F := Ideal)) (onTc (τ := Cert.BranchDxIdeal.τ) (Cert.BranchDxIdeal.main (F := Ideal))) ⟨m, fun _ => 0, g⟩ (fun r => ∀ c : Dev Cert.BranchDxIdeal.nD,
          r.2.mem ((c.tc : Thread Cert.BranchDxIdeal.nD Cert.BranchDxIdeal.τ).loc Cert.BranchDxIdeal.main_v1) = v0 c
          ∧ r.2.mem ((c.tc : Thread Cert.BranchDxIdeal.nD Cert.BranchDxIdeal.τ).loc Cert.BranchDxIdeal.main_arg0) = m ((c.tc : Thread Cert.BranchDxIdeal.nD Cert.BranchDxIdeal.τ).loc Cert.BranchDxIdeal.main_arg0)
          ∧ r.2.mem ((c.tc : Thread Cert.BranchDxIdeal.nD Cert.BranchDxIdeal.τ).loc Cert.BranchDxIdeal.main_arg1) = m ((c.tc : Thread Cert.BranchDxIdeal.nD Cert.BranchDxIdeal.τ).loc Cert.BranchDxIdeal.main_arg1))
      ∧ θ_run (Cert.BranchDxRefIdeal.defs (F := Ideal)) (onTc (τ := Cert.BranchDxRefIdeal.τ) (Cert.BranchDxRefIdeal.main (F := Ideal))) ⟨m', fun _ => 0, g'⟩ (fun r => ∀ c : Dev Cert.BranchDxRefIdeal.nD,
          r.2.mem ((c.tc : Thread Cert.BranchDxRefIdeal.nD Cert.BranchDxRefIdeal.τ).loc Cert.BranchDxRefIdeal.main_v3) = v0 c
          ∧ r.2.mem ((c.tc : Thread Cert.BranchDxRefIdeal.nD Cert.BranchDxRefIdeal.τ).loc Cert.BranchDxRefIdeal.main_arg0) = m' ((c.tc : Thread Cert.BranchDxRefIdeal.nD Cert.BranchDxRefIdeal.τ).loc Cert.BranchDxRefIdeal.main_arg0)
          ∧ r.2.mem ((c.tc : Thread Cert.BranchDxRefIdeal.nD Cert.BranchDxRefIdeal.τ).loc Cert.BranchDxRefIdeal.main_arg1) = m' ((c.tc : Thread Cert.BranchDxRefIdeal.nD Cert.BranchDxRefIdeal.τ).loc Cert.BranchDxRefIdeal.main_arg1))

def preserves_FfnOutLast_FfnOutLastIdeal : Prop :=
  True

def algebraic_FfnOutLastIdeal_FfnOutLastRefIdeal [hFfnOutLastIdeal : Cert.FfnOutLastIdeal.Facts] [hFfnOutLastRefIdeal : Cert.FfnOutLastRefIdeal.Facts] : Prop :=
  ∀ (m : (ℓ : Loc Cert.FfnOutLastIdeal.nD Cert.FfnOutLastIdeal.τ Cert.FfnOutLastIdeal.sig) → Buf (Elt Ideal) ℓ) (g : Dev Cert.FfnOutLastIdeal.nD → PrngReg)
    (m' : (ℓ : Loc Cert.FfnOutLastRefIdeal.nD Cert.FfnOutLastRefIdeal.τ Cert.FfnOutLastRefIdeal.sig) → Buf (Elt Ideal) ℓ) (g' : Dev Cert.FfnOutLastRefIdeal.nD → PrngReg), Pre_FfnOutLastIdeal m →
    (∀ c : Dev Cert.FfnOutLastIdeal.nD,
      m' ((c.tc : Thread Cert.FfnOutLastRefIdeal.nD Cert.FfnOutLastRefIdeal.τ).loc Cert.FfnOutLastRefIdeal.main_arg0) = m ((c.tc : Thread Cert.FfnOutLastIdeal.nD Cert.FfnOutLastIdeal.τ).loc Cert.FfnOutLastIdeal.main_arg0)
      ∧ m' ((c.tc : Thread Cert.FfnOutLastRefIdeal.nD Cert.FfnOutLastRefIdeal.τ).loc Cert.FfnOutLastRefIdeal.main_arg1) = m ((c.tc : Thread Cert.FfnOutLastIdeal.nD Cert.FfnOutLastIdeal.τ).loc Cert.FfnOutLastIdeal.main_arg1)) →
    ∃ (v0 : (c : Dev Cert.FfnOutLastIdeal.nD) → Buf (Elt Ideal) ((c.tc : Thread Cert.FfnOutLastIdeal.nD Cert.FfnOutLastIdeal.τ).loc Cert.FfnOutLastIdeal.main_v1)),
      θ_run (Cert.FfnOutLastIdeal.defs (F := Ideal)) (onTc (τ := Cert.FfnOutLastIdeal.τ) (Cert.FfnOutLastIdeal.main (F := Ideal))) ⟨m, fun _ => 0, g⟩ (fun r => ∀ c : Dev Cert.FfnOutLastIdeal.nD,
          r.2.mem ((c.tc : Thread Cert.FfnOutLastIdeal.nD Cert.FfnOutLastIdeal.τ).loc Cert.FfnOutLastIdeal.main_v1) = v0 c
          ∧ r.2.mem ((c.tc : Thread Cert.FfnOutLastIdeal.nD Cert.FfnOutLastIdeal.τ).loc Cert.FfnOutLastIdeal.main_arg0) = m ((c.tc : Thread Cert.FfnOutLastIdeal.nD Cert.FfnOutLastIdeal.τ).loc Cert.FfnOutLastIdeal.main_arg0)
          ∧ r.2.mem ((c.tc : Thread Cert.FfnOutLastIdeal.nD Cert.FfnOutLastIdeal.τ).loc Cert.FfnOutLastIdeal.main_arg1) = m ((c.tc : Thread Cert.FfnOutLastIdeal.nD Cert.FfnOutLastIdeal.τ).loc Cert.FfnOutLastIdeal.main_arg1))
      ∧ θ_run (Cert.FfnOutLastRefIdeal.defs (F := Ideal)) (onTc (τ := Cert.FfnOutLastRefIdeal.τ) (Cert.FfnOutLastRefIdeal.main (F := Ideal))) ⟨m', fun _ => 0, g'⟩ (fun r => ∀ c : Dev Cert.FfnOutLastRefIdeal.nD,
          r.2.mem ((c.tc : Thread Cert.FfnOutLastRefIdeal.nD Cert.FfnOutLastRefIdeal.τ).loc Cert.FfnOutLastRefIdeal.main_v1) = v0 c
          ∧ r.2.mem ((c.tc : Thread Cert.FfnOutLastRefIdeal.nD Cert.FfnOutLastRefIdeal.τ).loc Cert.FfnOutLastRefIdeal.main_arg0) = m' ((c.tc : Thread Cert.FfnOutLastRefIdeal.nD Cert.FfnOutLastRefIdeal.τ).loc Cert.FfnOutLastRefIdeal.main_arg0)
          ∧ r.2.mem ((c.tc : Thread Cert.FfnOutLastRefIdeal.nD Cert.FfnOutLastRefIdeal.τ).loc Cert.FfnOutLastRefIdeal.main_arg1) = m' ((c.tc : Thread Cert.FfnOutLastRefIdeal.nD Cert.FfnOutLastRefIdeal.τ).loc Cert.FfnOutLastRefIdeal.main_arg1))

def preserves_AdamAda_AdamAdaIdeal : Prop :=
  True

def algebraic_AdamAdaIdeal_AdamAdaRefIdeal [hAdamAdaIdeal : Cert.AdamAdaIdeal.Facts] [hAdamAdaRefIdeal : Cert.AdamAdaRefIdeal.Facts] : Prop :=
  ∀ (m : (ℓ : Loc Cert.AdamAdaIdeal.nD Cert.AdamAdaIdeal.τ Cert.AdamAdaIdeal.sig) → Buf (Elt Ideal) ℓ) (g : Dev Cert.AdamAdaIdeal.nD → PrngReg)
    (m' : (ℓ : Loc Cert.AdamAdaRefIdeal.nD Cert.AdamAdaRefIdeal.τ Cert.AdamAdaRefIdeal.sig) → Buf (Elt Ideal) ℓ) (g' : Dev Cert.AdamAdaRefIdeal.nD → PrngReg), Pre_AdamAdaIdeal m →
    (∀ c : Dev Cert.AdamAdaIdeal.nD,
      m' ((c.tc : Thread Cert.AdamAdaRefIdeal.nD Cert.AdamAdaRefIdeal.τ).loc Cert.AdamAdaRefIdeal.main_arg0) = m ((c.tc : Thread Cert.AdamAdaIdeal.nD Cert.AdamAdaIdeal.τ).loc Cert.AdamAdaIdeal.main_arg0)
      ∧ m' ((c.tc : Thread Cert.AdamAdaRefIdeal.nD Cert.AdamAdaRefIdeal.τ).loc Cert.AdamAdaRefIdeal.main_arg1) = m ((c.tc : Thread Cert.AdamAdaIdeal.nD Cert.AdamAdaIdeal.τ).loc Cert.AdamAdaIdeal.main_arg1)
      ∧ m' ((c.tc : Thread Cert.AdamAdaRefIdeal.nD Cert.AdamAdaRefIdeal.τ).loc Cert.AdamAdaRefIdeal.main_arg2) = m ((c.tc : Thread Cert.AdamAdaIdeal.nD Cert.AdamAdaIdeal.τ).loc Cert.AdamAdaIdeal.main_arg2)
      ∧ m' ((c.tc : Thread Cert.AdamAdaRefIdeal.nD Cert.AdamAdaRefIdeal.τ).loc Cert.AdamAdaRefIdeal.main_arg3) = m ((c.tc : Thread Cert.AdamAdaIdeal.nD Cert.AdamAdaIdeal.τ).loc Cert.AdamAdaIdeal.main_arg3)) →
    ∃ (v0 : (c : Dev Cert.AdamAdaIdeal.nD) → Buf (Elt Ideal) ((c.tc : Thread Cert.AdamAdaIdeal.nD Cert.AdamAdaIdeal.τ).loc Cert.AdamAdaIdeal.main_v1_0)) (v1 : (c : Dev Cert.AdamAdaIdeal.nD) → Buf (Elt Ideal) ((c.tc : Thread Cert.AdamAdaIdeal.nD Cert.AdamAdaIdeal.τ).loc Cert.AdamAdaIdeal.main_v1_1)) (v2 : (c : Dev Cert.AdamAdaIdeal.nD) → Buf (Elt Ideal) ((c.tc : Thread Cert.AdamAdaIdeal.nD Cert.AdamAdaIdeal.τ).loc Cert.AdamAdaIdeal.main_v1_2)) (v3 : (c : Dev Cert.AdamAdaIdeal.nD) → Buf (Elt Ideal) ((c.tc : Thread Cert.AdamAdaIdeal.nD Cert.AdamAdaIdeal.τ).loc Cert.AdamAdaIdeal.main_v1_3)),
      θ_run (Cert.AdamAdaIdeal.defs (F := Ideal)) (onTc (τ := Cert.AdamAdaIdeal.τ) (Cert.AdamAdaIdeal.main (F := Ideal))) ⟨m, fun _ => 0, g⟩ (fun r => ∀ c : Dev Cert.AdamAdaIdeal.nD,
          r.2.mem ((c.tc : Thread Cert.AdamAdaIdeal.nD Cert.AdamAdaIdeal.τ).loc Cert.AdamAdaIdeal.main_v1_0) = v0 c
          ∧ r.2.mem ((c.tc : Thread Cert.AdamAdaIdeal.nD Cert.AdamAdaIdeal.τ).loc Cert.AdamAdaIdeal.main_v1_1) = v1 c
          ∧ r.2.mem ((c.tc : Thread Cert.AdamAdaIdeal.nD Cert.AdamAdaIdeal.τ).loc Cert.AdamAdaIdeal.main_v1_2) = v2 c
          ∧ r.2.mem ((c.tc : Thread Cert.AdamAdaIdeal.nD Cert.AdamAdaIdeal.τ).loc Cert.AdamAdaIdeal.main_v1_3) = v3 c
          ∧ r.2.mem ((c.tc : Thread Cert.AdamAdaIdeal.nD Cert.AdamAdaIdeal.τ).loc Cert.AdamAdaIdeal.main_arg0) = m ((c.tc : Thread Cert.AdamAdaIdeal.nD Cert.AdamAdaIdeal.τ).loc Cert.AdamAdaIdeal.main_arg0)
          ∧ r.2.mem ((c.tc : Thread Cert.AdamAdaIdeal.nD Cert.AdamAdaIdeal.τ).loc Cert.AdamAdaIdeal.main_arg1) = m ((c.tc : Thread Cert.AdamAdaIdeal.nD Cert.AdamAdaIdeal.τ).loc Cert.AdamAdaIdeal.main_arg1)
          ∧ r.2.mem ((c.tc : Thread Cert.AdamAdaIdeal.nD Cert.AdamAdaIdeal.τ).loc Cert.AdamAdaIdeal.main_arg2) = m ((c.tc : Thread Cert.AdamAdaIdeal.nD Cert.AdamAdaIdeal.τ).loc Cert.AdamAdaIdeal.main_arg2)
          ∧ r.2.mem ((c.tc : Thread Cert.AdamAdaIdeal.nD Cert.AdamAdaIdeal.τ).loc Cert.AdamAdaIdeal.main_arg3) = m ((c.tc : Thread Cert.AdamAdaIdeal.nD Cert.AdamAdaIdeal.τ).loc Cert.AdamAdaIdeal.main_arg3))
      ∧ θ_run (Cert.AdamAdaRefIdeal.defs (F := Ideal)) (onTc (τ := Cert.AdamAdaRefIdeal.τ) (Cert.AdamAdaRefIdeal.main (F := Ideal))) ⟨m', fun _ => 0, g'⟩ (fun r => ∀ c : Dev Cert.AdamAdaRefIdeal.nD,
          r.2.mem ((c.tc : Thread Cert.AdamAdaRefIdeal.nD Cert.AdamAdaRefIdeal.τ).loc Cert.AdamAdaRefIdeal.main_arg0) = v0 c
          ∧ r.2.mem ((c.tc : Thread Cert.AdamAdaRefIdeal.nD Cert.AdamAdaRefIdeal.τ).loc Cert.AdamAdaRefIdeal.main_v23) = v1 c
          ∧ r.2.mem ((c.tc : Thread Cert.AdamAdaRefIdeal.nD Cert.AdamAdaRefIdeal.τ).loc Cert.AdamAdaRefIdeal.main_v4) = v2 c
          ∧ r.2.mem ((c.tc : Thread Cert.AdamAdaRefIdeal.nD Cert.AdamAdaRefIdeal.τ).loc Cert.AdamAdaRefIdeal.main_v10) = v3 c
          ∧ r.2.mem ((c.tc : Thread Cert.AdamAdaRefIdeal.nD Cert.AdamAdaRefIdeal.τ).loc Cert.AdamAdaRefIdeal.main_arg0) = m' ((c.tc : Thread Cert.AdamAdaRefIdeal.nD Cert.AdamAdaRefIdeal.τ).loc Cert.AdamAdaRefIdeal.main_arg0)
          ∧ r.2.mem ((c.tc : Thread Cert.AdamAdaRefIdeal.nD Cert.AdamAdaRefIdeal.τ).loc Cert.AdamAdaRefIdeal.main_arg1) = m' ((c.tc : Thread Cert.AdamAdaRefIdeal.nD Cert.AdamAdaRefIdeal.τ).loc Cert.AdamAdaRefIdeal.main_arg1)
          ∧ r.2.mem ((c.tc : Thread Cert.AdamAdaRefIdeal.nD Cert.AdamAdaRefIdeal.τ).loc Cert.AdamAdaRefIdeal.main_arg2) = m' ((c.tc : Thread Cert.AdamAdaRefIdeal.nD Cert.AdamAdaRefIdeal.τ).loc Cert.AdamAdaRefIdeal.main_arg2)
          ∧ r.2.mem ((c.tc : Thread Cert.AdamAdaRefIdeal.nD Cert.AdamAdaRefIdeal.τ).loc Cert.AdamAdaRefIdeal.main_arg3) = m' ((c.tc : Thread Cert.AdamAdaRefIdeal.nD Cert.AdamAdaRefIdeal.τ).loc Cert.AdamAdaRefIdeal.main_arg3))

def preserves_AdamSmall_AdamSmallIdeal : Prop :=
  True

def algebraic_AdamSmallIdeal_AdamSmallRefIdeal [hAdamSmallIdeal : Cert.AdamSmallIdeal.Facts] [hAdamSmallRefIdeal : Cert.AdamSmallRefIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.AdamSmallRefIdeal.nD Cert.AdamSmallRefIdeal.τ Cert.AdamSmallRefIdeal.sig) → Buf (Elt Ideal) ℓ) (g' : Dev Cert.AdamSmallRefIdeal.nD → PrngReg), Pre_AdamSmallIdeal m →
    (∀ c : Dev Cert.AdamSmallIdeal.nD,
      m' ((c.tc : Thread Cert.AdamSmallRefIdeal.nD Cert.AdamSmallRefIdeal.τ).loc Cert.AdamSmallRefIdeal.main_arg0) = m ((c.tc : Thread Cert.AdamSmallIdeal.nD Cert.AdamSmallIdeal.τ).loc Cert.AdamSmallIdeal.main_arg0)
      ∧ m' ((c.tc : Thread Cert.AdamSmallRefIdeal.nD Cert.AdamSmallRefIdeal.τ).loc Cert.AdamSmallRefIdeal.main_arg1) = m ((c.tc : Thread Cert.AdamSmallIdeal.nD Cert.AdamSmallIdeal.τ).loc Cert.AdamSmallIdeal.main_arg1)
      ∧ m' ((c.tc : Thread Cert.AdamSmallRefIdeal.nD Cert.AdamSmallRefIdeal.τ).loc Cert.AdamSmallRefIdeal.main_arg2) = m ((c.tc : Thread Cert.AdamSmallIdeal.nD Cert.AdamSmallIdeal.τ).loc Cert.AdamSmallIdeal.main_arg2)
      ∧ m' ((c.tc : Thread Cert.AdamSmallRefIdeal.nD Cert.AdamSmallRefIdeal.τ).loc Cert.AdamSmallRefIdeal.main_arg3) = m ((c.tc : Thread Cert.AdamSmallIdeal.nD Cert.AdamSmallIdeal.τ).loc Cert.AdamSmallIdeal.main_arg3)) →
    ∃ (v0 : (c : Dev Cert.AdamSmallIdeal.nD) → Buf (Elt Ideal) ((c.tc : Thread Cert.AdamSmallIdeal.nD Cert.AdamSmallIdeal.τ).loc Cert.AdamSmallIdeal.main_v4_0)) (v1 : (c : Dev Cert.AdamSmallIdeal.nD) → Buf (Elt Ideal) ((c.tc : Thread Cert.AdamSmallIdeal.nD Cert.AdamSmallIdeal.τ).loc Cert.AdamSmallIdeal.main_v4_1)) (v2 : (c : Dev Cert.AdamSmallIdeal.nD) → Buf (Elt Ideal) ((c.tc : Thread Cert.AdamSmallIdeal.nD Cert.AdamSmallIdeal.τ).loc Cert.AdamSmallIdeal.main_v4_2)) (v3 : (c : Dev Cert.AdamSmallIdeal.nD) → Buf (Elt Ideal) ((c.tc : Thread Cert.AdamSmallIdeal.nD Cert.AdamSmallIdeal.τ).loc Cert.AdamSmallIdeal.main_v4_3)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          r.2.mem ((c.tc : Thread Cert.AdamSmallIdeal.nD Cert.AdamSmallIdeal.τ).loc Cert.AdamSmallIdeal.main_v4_0) = v0 c
          ∧ r.2.mem ((c.tc : Thread Cert.AdamSmallIdeal.nD Cert.AdamSmallIdeal.τ).loc Cert.AdamSmallIdeal.main_v4_1) = v1 c
          ∧ r.2.mem ((c.tc : Thread Cert.AdamSmallIdeal.nD Cert.AdamSmallIdeal.τ).loc Cert.AdamSmallIdeal.main_v4_2) = v2 c
          ∧ r.2.mem ((c.tc : Thread Cert.AdamSmallIdeal.nD Cert.AdamSmallIdeal.τ).loc Cert.AdamSmallIdeal.main_v4_3) = v3 c
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ θ_run (Cert.AdamSmallRefIdeal.defs (F := Ideal)) (onTc (τ := Cert.AdamSmallRefIdeal.τ) (Cert.AdamSmallRefIdeal.main (F := Ideal))) ⟨m', fun _ => 0, g'⟩ (fun r => ∀ c : Dev Cert.AdamSmallRefIdeal.nD,
          r.2.mem ((c.tc : Thread Cert.AdamSmallRefIdeal.nD Cert.AdamSmallRefIdeal.τ).loc Cert.AdamSmallRefIdeal.main_v25) = v0 c
          ∧ r.2.mem ((c.tc : Thread Cert.AdamSmallRefIdeal.nD Cert.AdamSmallRefIdeal.τ).loc Cert.AdamSmallRefIdeal.main_v26) = v1 c
          ∧ r.2.mem ((c.tc : Thread Cert.AdamSmallRefIdeal.nD Cert.AdamSmallRefIdeal.τ).loc Cert.AdamSmallRefIdeal.main_v27) = v2 c
          ∧ r.2.mem ((c.tc : Thread Cert.AdamSmallRefIdeal.nD Cert.AdamSmallRefIdeal.τ).loc Cert.AdamSmallRefIdeal.main_v28) = v3 c
          ∧ r.2.mem ((c.tc : Thread Cert.AdamSmallRefIdeal.nD Cert.AdamSmallRefIdeal.τ).loc Cert.AdamSmallRefIdeal.main_arg0) = m' ((c.tc : Thread Cert.AdamSmallRefIdeal.nD Cert.AdamSmallRefIdeal.τ).loc Cert.AdamSmallRefIdeal.main_arg0)
          ∧ r.2.mem ((c.tc : Thread Cert.AdamSmallRefIdeal.nD Cert.AdamSmallRefIdeal.τ).loc Cert.AdamSmallRefIdeal.main_arg1) = m' ((c.tc : Thread Cert.AdamSmallRefIdeal.nD Cert.AdamSmallRefIdeal.τ).loc Cert.AdamSmallRefIdeal.main_arg1)
          ∧ r.2.mem ((c.tc : Thread Cert.AdamSmallRefIdeal.nD Cert.AdamSmallRefIdeal.τ).loc Cert.AdamSmallRefIdeal.main_arg2) = m' ((c.tc : Thread Cert.AdamSmallRefIdeal.nD Cert.AdamSmallRefIdeal.τ).loc Cert.AdamSmallRefIdeal.main_arg2)
          ∧ r.2.mem ((c.tc : Thread Cert.AdamSmallRefIdeal.nD Cert.AdamSmallRefIdeal.τ).loc Cert.AdamSmallRefIdeal.main_arg3) = m' ((c.tc : Thread Cert.AdamSmallRefIdeal.nD Cert.AdamSmallRefIdeal.τ).loc Cert.AdamSmallRefIdeal.main_arg3))

def preserves_AdamIn_AdamInIdeal : Prop :=
  True

def algebraic_AdamInIdeal_AdamInRefIdeal [hAdamInIdeal : Cert.AdamInIdeal.Facts] [hAdamInRefIdeal : Cert.AdamInRefIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInRefIdeal.nD Cert.AdamInRefIdeal.τ Cert.AdamInRefIdeal.sig) → Buf (Elt Ideal) ℓ) (g' : Dev Cert.AdamInRefIdeal.nD → PrngReg), Pre_AdamInIdeal m →
    (∀ c : Dev Cert.AdamInIdeal.nD,
      m' ((c.tc : Thread Cert.AdamInRefIdeal.nD Cert.AdamInRefIdeal.τ).loc Cert.AdamInRefIdeal.main_arg0) = m ((c.tc : Thread Cert.AdamInIdeal.nD Cert.AdamInIdeal.τ).loc Cert.AdamInIdeal.main_arg0)
      ∧ m' ((c.tc : Thread Cert.AdamInRefIdeal.nD Cert.AdamInRefIdeal.τ).loc Cert.AdamInRefIdeal.main_arg1) = m ((c.tc : Thread Cert.AdamInIdeal.nD Cert.AdamInIdeal.τ).loc Cert.AdamInIdeal.main_arg1)
      ∧ m' ((c.tc : Thread Cert.AdamInRefIdeal.nD Cert.AdamInRefIdeal.τ).loc Cert.AdamInRefIdeal.main_arg2) = m ((c.tc : Thread Cert.AdamInIdeal.nD Cert.AdamInIdeal.τ).loc Cert.AdamInIdeal.main_arg2)
      ∧ m' ((c.tc : Thread Cert.AdamInRefIdeal.nD Cert.AdamInRefIdeal.τ).loc Cert.AdamInRefIdeal.main_arg3) = m ((c.tc : Thread Cert.AdamInIdeal.nD Cert.AdamInIdeal.τ).loc Cert.AdamInIdeal.main_arg3)
      ∧ m' ((c.tc : Thread Cert.AdamInRefIdeal.nD Cert.AdamInRefIdeal.τ).loc Cert.AdamInRefIdeal.main_arg4) = m ((c.tc : Thread Cert.AdamInIdeal.nD Cert.AdamInIdeal.τ).loc Cert.AdamInIdeal.main_arg4)
      ∧ m' ((c.tc : Thread Cert.AdamInRefIdeal.nD Cert.AdamInRefIdeal.τ).loc Cert.AdamInRefIdeal.main_arg5) = m ((c.tc : Thread Cert.AdamInIdeal.nD Cert.AdamInIdeal.τ).loc Cert.AdamInIdeal.main_arg5)) →
    ∃ (v0 : (c : Dev Cert.AdamInIdeal.nD) → Buf (Elt Ideal) ((c.tc : Thread Cert.AdamInIdeal.nD Cert.AdamInIdeal.τ).loc Cert.AdamInIdeal.main_v11_0)) (v1 : (c : Dev Cert.AdamInIdeal.nD) → Buf (Elt Ideal) ((c.tc : Thread Cert.AdamInIdeal.nD Cert.AdamInIdeal.τ).loc Cert.AdamInIdeal.main_v11_1)) (v2 : (c : Dev Cert.AdamInIdeal.nD) → Buf (Elt Ideal) ((c.tc : Thread Cert.AdamInIdeal.nD Cert.AdamInIdeal.τ).loc Cert.AdamInIdeal.main_v11_2)) (v3 : (c : Dev Cert.AdamInIdeal.nD) → Buf (Elt Ideal) ((c.tc : Thread Cert.AdamInIdeal.nD Cert.AdamInIdeal.τ).loc Cert.AdamInIdeal.main_v11_3)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v11_0) = v0 c
          ∧ r.2.mem ((c.tc : Thread Cert.AdamInIdeal.nD Cert.AdamInIdeal.τ).loc Cert.AdamInIdeal.main_v11_1) = v1 c
          ∧ r.2.mem ((c.tc : Thread Cert.AdamInIdeal.nD Cert.AdamInIdeal.τ).loc Cert.AdamInIdeal.main_v11_2) = v2 c
          ∧ r.2.mem ((c.tc : Thread Cert.AdamInIdeal.nD Cert.AdamInIdeal.τ).loc Cert.AdamInIdeal.main_v11_3) = v3 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3)
          ∧ r.2.mem ((c.tc : Thread Cert.AdamInIdeal.nD Cert.AdamInIdeal.τ).loc Cert.AdamInIdeal.main_arg4) = m ((c.tc : Thread Cert.AdamInIdeal.nD Cert.AdamInIdeal.τ).loc Cert.AdamInIdeal.main_arg4)
          ∧ r.2.mem ((c.tc : Thread Cert.AdamInIdeal.nD Cert.AdamInIdeal.τ).loc Cert.AdamInIdeal.main_arg5) = m ((c.tc : Thread Cert.AdamInIdeal.nD Cert.AdamInIdeal.τ).loc Cert.AdamInIdeal.main_arg5))
      ∧ θ_run (Cert.AdamInRefIdeal.defs (F := Ideal)) (onTc (τ := Cert.AdamInRefIdeal.τ) (Cert.AdamInRefIdeal.main (F := Ideal))) ⟨m', fun _ => 0, g'⟩ (fun r => ∀ c : Dev Cert.AdamInRefIdeal.nD,
          r.2.mem ((c.tc : Thread Cert.AdamInRefIdeal.nD Cert.AdamInRefIdeal.τ).loc Cert.AdamInRefIdeal.main_v34) = v0 c
          ∧ r.2.mem ((c.tc : Thread Cert.AdamInRefIdeal.nD Cert.AdamInRefIdeal.τ).loc Cert.AdamInRefIdeal.main_v35) = v1 c
          ∧ r.2.mem ((c.tc : Thread Cert.AdamInRefIdeal.nD Cert.AdamInRefIdeal.τ).loc Cert.AdamInRefIdeal.main_v36) = v2 c
          ∧ r.2.mem ((c.tc : Thread Cert.AdamInRefIdeal.nD Cert.AdamInRefIdeal.τ).loc Cert.AdamInRefIdeal.main_v37) = v3 c
          ∧ r.2.mem ((c.tc : Thread Cert.AdamInRefIdeal.nD Cert.AdamInRefIdeal.τ).loc Cert.AdamInRefIdeal.main_arg0) = m' ((c.tc : Thread Cert.AdamInRefIdeal.nD Cert.AdamInRefIdeal.τ).loc Cert.AdamInRefIdeal.main_arg0)
          ∧ r.2.mem ((c.tc : Thread Cert.AdamInRefIdeal.nD Cert.AdamInRefIdeal.τ).loc Cert.AdamInRefIdeal.main_arg1) = m' ((c.tc : Thread Cert.AdamInRefIdeal.nD Cert.AdamInRefIdeal.τ).loc Cert.AdamInRefIdeal.main_arg1)
          ∧ r.2.mem ((c.tc : Thread Cert.AdamInRefIdeal.nD Cert.AdamInRefIdeal.τ).loc Cert.AdamInRefIdeal.main_arg2) = m' ((c.tc : Thread Cert.AdamInRefIdeal.nD Cert.AdamInRefIdeal.τ).loc Cert.AdamInRefIdeal.main_arg2)
          ∧ r.2.mem ((c.tc : Thread Cert.AdamInRefIdeal.nD Cert.AdamInRefIdeal.τ).loc Cert.AdamInRefIdeal.main_arg3) = m' ((c.tc : Thread Cert.AdamInRefIdeal.nD Cert.AdamInRefIdeal.τ).loc Cert.AdamInRefIdeal.main_arg3)
          ∧ r.2.mem ((c.tc : Thread Cert.AdamInRefIdeal.nD Cert.AdamInRefIdeal.τ).loc Cert.AdamInRefIdeal.main_arg4) = m' ((c.tc : Thread Cert.AdamInRefIdeal.nD Cert.AdamInRefIdeal.τ).loc Cert.AdamInRefIdeal.main_arg4)
          ∧ r.2.mem ((c.tc : Thread Cert.AdamInRefIdeal.nD Cert.AdamInRefIdeal.τ).loc Cert.AdamInRefIdeal.main_arg5) = m' ((c.tc : Thread Cert.AdamInRefIdeal.nD Cert.AdamInRefIdeal.τ).loc Cert.AdamInRefIdeal.main_arg5))

def preserves_AdamFfnIn_AdamFfnInIdeal : Prop :=
  True

def algebraic_AdamFfnInIdeal_AdamFfnInRefIdeal [hAdamFfnInIdeal : Cert.AdamFfnInIdeal.Facts] [hAdamFfnInRefIdeal : Cert.AdamFfnInRefIdeal.Facts] : Prop :=
  ∀ (m : (ℓ : Loc Cert.AdamFfnInIdeal.nD Cert.AdamFfnInIdeal.τ Cert.AdamFfnInIdeal.sig) → Buf (Elt Ideal) ℓ) (g : Dev Cert.AdamFfnInIdeal.nD → PrngReg)
    (m' : (ℓ : Loc Cert.AdamFfnInRefIdeal.nD Cert.AdamFfnInRefIdeal.τ Cert.AdamFfnInRefIdeal.sig) → Buf (Elt Ideal) ℓ) (g' : Dev Cert.AdamFfnInRefIdeal.nD → PrngReg), Pre_AdamFfnInIdeal m →
    (∀ c : Dev Cert.AdamFfnInIdeal.nD,
      m' ((c.tc : Thread Cert.AdamFfnInRefIdeal.nD Cert.AdamFfnInRefIdeal.τ).loc Cert.AdamFfnInRefIdeal.main_arg0) = m ((c.tc : Thread Cert.AdamFfnInIdeal.nD Cert.AdamFfnInIdeal.τ).loc Cert.AdamFfnInIdeal.main_arg0)
      ∧ m' ((c.tc : Thread Cert.AdamFfnInRefIdeal.nD Cert.AdamFfnInRefIdeal.τ).loc Cert.AdamFfnInRefIdeal.main_arg1) = m ((c.tc : Thread Cert.AdamFfnInIdeal.nD Cert.AdamFfnInIdeal.τ).loc Cert.AdamFfnInIdeal.main_arg1)
      ∧ m' ((c.tc : Thread Cert.AdamFfnInRefIdeal.nD Cert.AdamFfnInRefIdeal.τ).loc Cert.AdamFfnInRefIdeal.main_arg2) = m ((c.tc : Thread Cert.AdamFfnInIdeal.nD Cert.AdamFfnInIdeal.τ).loc Cert.AdamFfnInIdeal.main_arg2)
      ∧ m' ((c.tc : Thread Cert.AdamFfnInRefIdeal.nD Cert.AdamFfnInRefIdeal.τ).loc Cert.AdamFfnInRefIdeal.main_arg3) = m ((c.tc : Thread Cert.AdamFfnInIdeal.nD Cert.AdamFfnInIdeal.τ).loc Cert.AdamFfnInIdeal.main_arg3)
      ∧ m' ((c.tc : Thread Cert.AdamFfnInRefIdeal.nD Cert.AdamFfnInRefIdeal.τ).loc Cert.AdamFfnInRefIdeal.main_arg4) = m ((c.tc : Thread Cert.AdamFfnInIdeal.nD Cert.AdamFfnInIdeal.τ).loc Cert.AdamFfnInIdeal.main_arg4)
      ∧ m' ((c.tc : Thread Cert.AdamFfnInRefIdeal.nD Cert.AdamFfnInRefIdeal.τ).loc Cert.AdamFfnInRefIdeal.main_arg5) = m ((c.tc : Thread Cert.AdamFfnInIdeal.nD Cert.AdamFfnInIdeal.τ).loc Cert.AdamFfnInIdeal.main_arg5)) →
    ∃ (v0 : (c : Dev Cert.AdamFfnInIdeal.nD) → Buf (Elt Ideal) ((c.tc : Thread Cert.AdamFfnInIdeal.nD Cert.AdamFfnInIdeal.τ).loc Cert.AdamFfnInIdeal.main_v11_0)) (v1 : (c : Dev Cert.AdamFfnInIdeal.nD) → Buf (Elt Ideal) ((c.tc : Thread Cert.AdamFfnInIdeal.nD Cert.AdamFfnInIdeal.τ).loc Cert.AdamFfnInIdeal.main_v11_1)) (v2 : (c : Dev Cert.AdamFfnInIdeal.nD) → Buf (Elt Ideal) ((c.tc : Thread Cert.AdamFfnInIdeal.nD Cert.AdamFfnInIdeal.τ).loc Cert.AdamFfnInIdeal.main_v11_2)) (v3 : (c : Dev Cert.AdamFfnInIdeal.nD) → Buf (Elt Ideal) ((c.tc : Thread Cert.AdamFfnInIdeal.nD Cert.AdamFfnInIdeal.τ).loc Cert.AdamFfnInIdeal.main_v11_3)),
      θ_run (Cert.AdamFfnInIdeal.defs (F := Ideal)) (onTc (τ := Cert.AdamFfnInIdeal.τ) (Cert.AdamFfnInIdeal.main (F := Ideal))) ⟨m, fun _ => 0, g⟩ (fun r => ∀ c : Dev Cert.AdamFfnInIdeal.nD,
          r.2.mem ((c.tc : Thread Cert.AdamFfnInIdeal.nD Cert.AdamFfnInIdeal.τ).loc Cert.AdamFfnInIdeal.main_v11_0) = v0 c
          ∧ r.2.mem ((c.tc : Thread Cert.AdamFfnInIdeal.nD Cert.AdamFfnInIdeal.τ).loc Cert.AdamFfnInIdeal.main_v11_1) = v1 c
          ∧ r.2.mem ((c.tc : Thread Cert.AdamFfnInIdeal.nD Cert.AdamFfnInIdeal.τ).loc Cert.AdamFfnInIdeal.main_v11_2) = v2 c
          ∧ r.2.mem ((c.tc : Thread Cert.AdamFfnInIdeal.nD Cert.AdamFfnInIdeal.τ).loc Cert.AdamFfnInIdeal.main_v11_3) = v3 c
          ∧ r.2.mem ((c.tc : Thread Cert.AdamFfnInIdeal.nD Cert.AdamFfnInIdeal.τ).loc Cert.AdamFfnInIdeal.main_arg0) = m ((c.tc : Thread Cert.AdamFfnInIdeal.nD Cert.AdamFfnInIdeal.τ).loc Cert.AdamFfnInIdeal.main_arg0)
          ∧ r.2.mem ((c.tc : Thread Cert.AdamFfnInIdeal.nD Cert.AdamFfnInIdeal.τ).loc Cert.AdamFfnInIdeal.main_arg1) = m ((c.tc : Thread Cert.AdamFfnInIdeal.nD Cert.AdamFfnInIdeal.τ).loc Cert.AdamFfnInIdeal.main_arg1)
          ∧ r.2.mem ((c.tc : Thread Cert.AdamFfnInIdeal.nD Cert.AdamFfnInIdeal.τ).loc Cert.AdamFfnInIdeal.main_arg2) = m ((c.tc : Thread Cert.AdamFfnInIdeal.nD Cert.AdamFfnInIdeal.τ).loc Cert.AdamFfnInIdeal.main_arg2)
          ∧ r.2.mem ((c.tc : Thread Cert.AdamFfnInIdeal.nD Cert.AdamFfnInIdeal.τ).loc Cert.AdamFfnInIdeal.main_arg3) = m ((c.tc : Thread Cert.AdamFfnInIdeal.nD Cert.AdamFfnInIdeal.τ).loc Cert.AdamFfnInIdeal.main_arg3)
          ∧ r.2.mem ((c.tc : Thread Cert.AdamFfnInIdeal.nD Cert.AdamFfnInIdeal.τ).loc Cert.AdamFfnInIdeal.main_arg4) = m ((c.tc : Thread Cert.AdamFfnInIdeal.nD Cert.AdamFfnInIdeal.τ).loc Cert.AdamFfnInIdeal.main_arg4)
          ∧ r.2.mem ((c.tc : Thread Cert.AdamFfnInIdeal.nD Cert.AdamFfnInIdeal.τ).loc Cert.AdamFfnInIdeal.main_arg5) = m ((c.tc : Thread Cert.AdamFfnInIdeal.nD Cert.AdamFfnInIdeal.τ).loc Cert.AdamFfnInIdeal.main_arg5))
      ∧ θ_run (Cert.AdamFfnInRefIdeal.defs (F := Ideal)) (onTc (τ := Cert.AdamFfnInRefIdeal.τ) (Cert.AdamFfnInRefIdeal.main (F := Ideal))) ⟨m', fun _ => 0, g'⟩ (fun r => ∀ c : Dev Cert.AdamFfnInRefIdeal.nD,
          r.2.mem ((c.tc : Thread Cert.AdamFfnInRefIdeal.nD Cert.AdamFfnInRefIdeal.τ).loc Cert.AdamFfnInRefIdeal.main_v34) = v0 c
          ∧ r.2.mem ((c.tc : Thread Cert.AdamFfnInRefIdeal.nD Cert.AdamFfnInRefIdeal.τ).loc Cert.AdamFfnInRefIdeal.main_v35) = v1 c
          ∧ r.2.mem ((c.tc : Thread Cert.AdamFfnInRefIdeal.nD Cert.AdamFfnInRefIdeal.τ).loc Cert.AdamFfnInRefIdeal.main_v36) = v2 c
          ∧ r.2.mem ((c.tc : Thread Cert.AdamFfnInRefIdeal.nD Cert.AdamFfnInRefIdeal.τ).loc Cert.AdamFfnInRefIdeal.main_v37) = v3 c
          ∧ r.2.mem ((c.tc : Thread Cert.AdamFfnInRefIdeal.nD Cert.AdamFfnInRefIdeal.τ).loc Cert.AdamFfnInRefIdeal.main_arg0) = m' ((c.tc : Thread Cert.AdamFfnInRefIdeal.nD Cert.AdamFfnInRefIdeal.τ).loc Cert.AdamFfnInRefIdeal.main_arg0)
          ∧ r.2.mem ((c.tc : Thread Cert.AdamFfnInRefIdeal.nD Cert.AdamFfnInRefIdeal.τ).loc Cert.AdamFfnInRefIdeal.main_arg1) = m' ((c.tc : Thread Cert.AdamFfnInRefIdeal.nD Cert.AdamFfnInRefIdeal.τ).loc Cert.AdamFfnInRefIdeal.main_arg1)
          ∧ r.2.mem ((c.tc : Thread Cert.AdamFfnInRefIdeal.nD Cert.AdamFfnInRefIdeal.τ).loc Cert.AdamFfnInRefIdeal.main_arg2) = m' ((c.tc : Thread Cert.AdamFfnInRefIdeal.nD Cert.AdamFfnInRefIdeal.τ).loc Cert.AdamFfnInRefIdeal.main_arg2)
          ∧ r.2.mem ((c.tc : Thread Cert.AdamFfnInRefIdeal.nD Cert.AdamFfnInRefIdeal.τ).loc Cert.AdamFfnInRefIdeal.main_arg3) = m' ((c.tc : Thread Cert.AdamFfnInRefIdeal.nD Cert.AdamFfnInRefIdeal.τ).loc Cert.AdamFfnInRefIdeal.main_arg3)
          ∧ r.2.mem ((c.tc : Thread Cert.AdamFfnInRefIdeal.nD Cert.AdamFfnInRefIdeal.τ).loc Cert.AdamFfnInRefIdeal.main_arg4) = m' ((c.tc : Thread Cert.AdamFfnInRefIdeal.nD Cert.AdamFfnInRefIdeal.τ).loc Cert.AdamFfnInRefIdeal.main_arg4)
          ∧ r.2.mem ((c.tc : Thread Cert.AdamFfnInRefIdeal.nD Cert.AdamFfnInRefIdeal.τ).loc Cert.AdamFfnInRefIdeal.main_arg5) = m' ((c.tc : Thread Cert.AdamFfnInRefIdeal.nD Cert.AdamFfnInRefIdeal.τ).loc Cert.AdamFfnInRefIdeal.main_arg5))

def preserves_AdamFfnOut_AdamFfnOutIdeal : Prop :=
  True

def algebraic_AdamFfnOutIdeal_AdamFfnOutRefIdeal [hAdamFfnOutIdeal : Cert.AdamFfnOutIdeal.Facts] [hAdamFfnOutRefIdeal : Cert.AdamFfnOutRefIdeal.Facts] : Prop :=
  ∀ (m : (ℓ : Loc Cert.AdamFfnOutIdeal.nD Cert.AdamFfnOutIdeal.τ Cert.AdamFfnOutIdeal.sig) → Buf (Elt Ideal) ℓ) (g : Dev Cert.AdamFfnOutIdeal.nD → PrngReg)
    (m' : (ℓ : Loc Cert.AdamFfnOutRefIdeal.nD Cert.AdamFfnOutRefIdeal.τ Cert.AdamFfnOutRefIdeal.sig) → Buf (Elt Ideal) ℓ) (g' : Dev Cert.AdamFfnOutRefIdeal.nD → PrngReg), Pre_AdamFfnOutIdeal m →
    (∀ c : Dev Cert.AdamFfnOutIdeal.nD,
      m' ((c.tc : Thread Cert.AdamFfnOutRefIdeal.nD Cert.AdamFfnOutRefIdeal.τ).loc Cert.AdamFfnOutRefIdeal.main_arg0) = m ((c.tc : Thread Cert.AdamFfnOutIdeal.nD Cert.AdamFfnOutIdeal.τ).loc Cert.AdamFfnOutIdeal.main_arg0)
      ∧ m' ((c.tc : Thread Cert.AdamFfnOutRefIdeal.nD Cert.AdamFfnOutRefIdeal.τ).loc Cert.AdamFfnOutRefIdeal.main_arg1) = m ((c.tc : Thread Cert.AdamFfnOutIdeal.nD Cert.AdamFfnOutIdeal.τ).loc Cert.AdamFfnOutIdeal.main_arg1)
      ∧ m' ((c.tc : Thread Cert.AdamFfnOutRefIdeal.nD Cert.AdamFfnOutRefIdeal.τ).loc Cert.AdamFfnOutRefIdeal.main_arg2) = m ((c.tc : Thread Cert.AdamFfnOutIdeal.nD Cert.AdamFfnOutIdeal.τ).loc Cert.AdamFfnOutIdeal.main_arg2)
      ∧ m' ((c.tc : Thread Cert.AdamFfnOutRefIdeal.nD Cert.AdamFfnOutRefIdeal.τ).loc Cert.AdamFfnOutRefIdeal.main_arg3) = m ((c.tc : Thread Cert.AdamFfnOutIdeal.nD Cert.AdamFfnOutIdeal.τ).loc Cert.AdamFfnOutIdeal.main_arg3)
      ∧ m' ((c.tc : Thread Cert.AdamFfnOutRefIdeal.nD Cert.AdamFfnOutRefIdeal.τ).loc Cert.AdamFfnOutRefIdeal.main_arg4) = m ((c.tc : Thread Cert.AdamFfnOutIdeal.nD Cert.AdamFfnOutIdeal.τ).loc Cert.AdamFfnOutIdeal.main_arg4)
      ∧ m' ((c.tc : Thread Cert.AdamFfnOutRefIdeal.nD Cert.AdamFfnOutRefIdeal.τ).loc Cert.AdamFfnOutRefIdeal.main_arg5) = m ((c.tc : Thread Cert.AdamFfnOutIdeal.nD Cert.AdamFfnOutIdeal.τ).loc Cert.AdamFfnOutIdeal.main_arg5)) →
    ∃ (v0 : (c : Dev Cert.AdamFfnOutIdeal.nD) → Buf (Elt Ideal) ((c.tc : Thread Cert.AdamFfnOutIdeal.nD Cert.AdamFfnOutIdeal.τ).loc Cert.AdamFfnOutIdeal.main_v8_0)) (v1 : (c : Dev Cert.AdamFfnOutIdeal.nD) → Buf (Elt Ideal) ((c.tc : Thread Cert.AdamFfnOutIdeal.nD Cert.AdamFfnOutIdeal.τ).loc Cert.AdamFfnOutIdeal.main_v8_1)) (v2 : (c : Dev Cert.AdamFfnOutIdeal.nD) → Buf (Elt Ideal) ((c.tc : Thread Cert.AdamFfnOutIdeal.nD Cert.AdamFfnOutIdeal.τ).loc Cert.AdamFfnOutIdeal.main_v8_2)) (v3 : (c : Dev Cert.AdamFfnOutIdeal.nD) → Buf (Elt Ideal) ((c.tc : Thread Cert.AdamFfnOutIdeal.nD Cert.AdamFfnOutIdeal.τ).loc Cert.AdamFfnOutIdeal.main_v8_3)),
      θ_run (Cert.AdamFfnOutIdeal.defs (F := Ideal)) (onTc (τ := Cert.AdamFfnOutIdeal.τ) (Cert.AdamFfnOutIdeal.main (F := Ideal))) ⟨m, fun _ => 0, g⟩ (fun r => ∀ c : Dev Cert.AdamFfnOutIdeal.nD,
          r.2.mem ((c.tc : Thread Cert.AdamFfnOutIdeal.nD Cert.AdamFfnOutIdeal.τ).loc Cert.AdamFfnOutIdeal.main_v8_0) = v0 c
          ∧ r.2.mem ((c.tc : Thread Cert.AdamFfnOutIdeal.nD Cert.AdamFfnOutIdeal.τ).loc Cert.AdamFfnOutIdeal.main_v8_1) = v1 c
          ∧ r.2.mem ((c.tc : Thread Cert.AdamFfnOutIdeal.nD Cert.AdamFfnOutIdeal.τ).loc Cert.AdamFfnOutIdeal.main_v8_2) = v2 c
          ∧ r.2.mem ((c.tc : Thread Cert.AdamFfnOutIdeal.nD Cert.AdamFfnOutIdeal.τ).loc Cert.AdamFfnOutIdeal.main_v8_3) = v3 c
          ∧ r.2.mem ((c.tc : Thread Cert.AdamFfnOutIdeal.nD Cert.AdamFfnOutIdeal.τ).loc Cert.AdamFfnOutIdeal.main_arg0) = m ((c.tc : Thread Cert.AdamFfnOutIdeal.nD Cert.AdamFfnOutIdeal.τ).loc Cert.AdamFfnOutIdeal.main_arg0)
          ∧ r.2.mem ((c.tc : Thread Cert.AdamFfnOutIdeal.nD Cert.AdamFfnOutIdeal.τ).loc Cert.AdamFfnOutIdeal.main_arg1) = m ((c.tc : Thread Cert.AdamFfnOutIdeal.nD Cert.AdamFfnOutIdeal.τ).loc Cert.AdamFfnOutIdeal.main_arg1)
          ∧ r.2.mem ((c.tc : Thread Cert.AdamFfnOutIdeal.nD Cert.AdamFfnOutIdeal.τ).loc Cert.AdamFfnOutIdeal.main_arg2) = m ((c.tc : Thread Cert.AdamFfnOutIdeal.nD Cert.AdamFfnOutIdeal.τ).loc Cert.AdamFfnOutIdeal.main_arg2)
          ∧ r.2.mem ((c.tc : Thread Cert.AdamFfnOutIdeal.nD Cert.AdamFfnOutIdeal.τ).loc Cert.AdamFfnOutIdeal.main_arg3) = m ((c.tc : Thread Cert.AdamFfnOutIdeal.nD Cert.AdamFfnOutIdeal.τ).loc Cert.AdamFfnOutIdeal.main_arg3)
          ∧ r.2.mem ((c.tc : Thread Cert.AdamFfnOutIdeal.nD Cert.AdamFfnOutIdeal.τ).loc Cert.AdamFfnOutIdeal.main_arg4) = m ((c.tc : Thread Cert.AdamFfnOutIdeal.nD Cert.AdamFfnOutIdeal.τ).loc Cert.AdamFfnOutIdeal.main_arg4)
          ∧ r.2.mem ((c.tc : Thread Cert.AdamFfnOutIdeal.nD Cert.AdamFfnOutIdeal.τ).loc Cert.AdamFfnOutIdeal.main_arg5) = m ((c.tc : Thread Cert.AdamFfnOutIdeal.nD Cert.AdamFfnOutIdeal.τ).loc Cert.AdamFfnOutIdeal.main_arg5))
      ∧ θ_run (Cert.AdamFfnOutRefIdeal.defs (F := Ideal)) (onTc (τ := Cert.AdamFfnOutRefIdeal.τ) (Cert.AdamFfnOutRefIdeal.main (F := Ideal))) ⟨m', fun _ => 0, g'⟩ (fun r => ∀ c : Dev Cert.AdamFfnOutRefIdeal.nD,
          r.2.mem ((c.tc : Thread Cert.AdamFfnOutRefIdeal.nD Cert.AdamFfnOutRefIdeal.τ).loc Cert.AdamFfnOutRefIdeal.main_v8) = v0 c
          ∧ r.2.mem ((c.tc : Thread Cert.AdamFfnOutRefIdeal.nD Cert.AdamFfnOutRefIdeal.τ).loc Cert.AdamFfnOutRefIdeal.main_v32) = v1 c
          ∧ r.2.mem ((c.tc : Thread Cert.AdamFfnOutRefIdeal.nD Cert.AdamFfnOutRefIdeal.τ).loc Cert.AdamFfnOutRefIdeal.main_v13) = v2 c
          ∧ r.2.mem ((c.tc : Thread Cert.AdamFfnOutRefIdeal.nD Cert.AdamFfnOutRefIdeal.τ).loc Cert.AdamFfnOutRefIdeal.main_v19) = v3 c
          ∧ r.2.mem ((c.tc : Thread Cert.AdamFfnOutRefIdeal.nD Cert.AdamFfnOutRefIdeal.τ).loc Cert.AdamFfnOutRefIdeal.main_arg0) = m' ((c.tc : Thread Cert.AdamFfnOutRefIdeal.nD Cert.AdamFfnOutRefIdeal.τ).loc Cert.AdamFfnOutRefIdeal.main_arg0)
          ∧ r.2.mem ((c.tc : Thread Cert.AdamFfnOutRefIdeal.nD Cert.AdamFfnOutRefIdeal.τ).loc Cert.AdamFfnOutRefIdeal.main_arg1) = m' ((c.tc : Thread Cert.AdamFfnOutRefIdeal.nD Cert.AdamFfnOutRefIdeal.τ).loc Cert.AdamFfnOutRefIdeal.main_arg1)
          ∧ r.2.mem ((c.tc : Thread Cert.AdamFfnOutRefIdeal.nD Cert.AdamFfnOutRefIdeal.τ).loc Cert.AdamFfnOutRefIdeal.main_arg2) = m' ((c.tc : Thread Cert.AdamFfnOutRefIdeal.nD Cert.AdamFfnOutRefIdeal.τ).loc Cert.AdamFfnOutRefIdeal.main_arg2)
          ∧ r.2.mem ((c.tc : Thread Cert.AdamFfnOutRefIdeal.nD Cert.AdamFfnOutRefIdeal.τ).loc Cert.AdamFfnOutRefIdeal.main_arg3) = m' ((c.tc : Thread Cert.AdamFfnOutRefIdeal.nD Cert.AdamFfnOutRefIdeal.τ).loc Cert.AdamFfnOutRefIdeal.main_arg3)
          ∧ r.2.mem ((c.tc : Thread Cert.AdamFfnOutRefIdeal.nD Cert.AdamFfnOutRefIdeal.τ).loc Cert.AdamFfnOutRefIdeal.main_arg4) = m' ((c.tc : Thread Cert.AdamFfnOutRefIdeal.nD Cert.AdamFfnOutRefIdeal.τ).loc Cert.AdamFfnOutRefIdeal.main_arg4)
          ∧ r.2.mem ((c.tc : Thread Cert.AdamFfnOutRefIdeal.nD Cert.AdamFfnOutRefIdeal.τ).loc Cert.AdamFfnOutRefIdeal.main_arg5) = m' ((c.tc : Thread Cert.AdamFfnOutRefIdeal.nD Cert.AdamFfnOutRefIdeal.τ).loc Cert.AdamFfnOutRefIdeal.main_arg5))

def preserves_AdamOut_AdamOutIdeal : Prop :=
  True

def algebraic_AdamOutIdeal_AdamOutRefIdeal [hAdamOutIdeal : Cert.AdamOutIdeal.Facts] [hAdamOutRefIdeal : Cert.AdamOutRefIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutRefIdeal.nD Cert.AdamOutRefIdeal.τ Cert.AdamOutRefIdeal.sig) → Buf (Elt Ideal) ℓ) (g' : Dev Cert.AdamOutRefIdeal.nD → PrngReg), Pre_AdamOutIdeal m →
    (∀ c : Dev Cert.AdamOutIdeal.nD,
      m' ((c.tc : Thread Cert.AdamOutRefIdeal.nD Cert.AdamOutRefIdeal.τ).loc Cert.AdamOutRefIdeal.main_arg0) = m ((c.tc : Thread Cert.AdamOutIdeal.nD Cert.AdamOutIdeal.τ).loc Cert.AdamOutIdeal.main_arg0)
      ∧ m' ((c.tc : Thread Cert.AdamOutRefIdeal.nD Cert.AdamOutRefIdeal.τ).loc Cert.AdamOutRefIdeal.main_arg1) = m ((c.tc : Thread Cert.AdamOutIdeal.nD Cert.AdamOutIdeal.τ).loc Cert.AdamOutIdeal.main_arg1)
      ∧ m' ((c.tc : Thread Cert.AdamOutRefIdeal.nD Cert.AdamOutRefIdeal.τ).loc Cert.AdamOutRefIdeal.main_arg2) = m ((c.tc : Thread Cert.AdamOutIdeal.nD Cert.AdamOutIdeal.τ).loc Cert.AdamOutIdeal.main_arg2)
      ∧ m' ((c.tc : Thread Cert.AdamOutRefIdeal.nD Cert.AdamOutRefIdeal.τ).loc Cert.AdamOutRefIdeal.main_arg3) = m ((c.tc : Thread Cert.AdamOutIdeal.nD Cert.AdamOutIdeal.τ).loc Cert.AdamOutIdeal.main_arg3)
      ∧ m' ((c.tc : Thread Cert.AdamOutRefIdeal.nD Cert.AdamOutRefIdeal.τ).loc Cert.AdamOutRefIdeal.main_arg4) = m ((c.tc : Thread Cert.AdamOutIdeal.nD Cert.AdamOutIdeal.τ).loc Cert.AdamOutIdeal.main_arg4)
      ∧ m' ((c.tc : Thread Cert.AdamOutRefIdeal.nD Cert.AdamOutRefIdeal.τ).loc Cert.AdamOutRefIdeal.main_arg5) = m ((c.tc : Thread Cert.AdamOutIdeal.nD Cert.AdamOutIdeal.τ).loc Cert.AdamOutIdeal.main_arg5)) →
    ∃ (v0 : (c : Dev Cert.AdamOutIdeal.nD) → Buf (Elt Ideal) ((c.tc : Thread Cert.AdamOutIdeal.nD Cert.AdamOutIdeal.τ).loc Cert.AdamOutIdeal.main_v8_0)) (v1 : (c : Dev Cert.AdamOutIdeal.nD) → Buf (Elt Ideal) ((c.tc : Thread Cert.AdamOutIdeal.nD Cert.AdamOutIdeal.τ).loc Cert.AdamOutIdeal.main_v8_1)) (v2 : (c : Dev Cert.AdamOutIdeal.nD) → Buf (Elt Ideal) ((c.tc : Thread Cert.AdamOutIdeal.nD Cert.AdamOutIdeal.τ).loc Cert.AdamOutIdeal.main_v8_2)) (v3 : (c : Dev Cert.AdamOutIdeal.nD) → Buf (Elt Ideal) ((c.tc : Thread Cert.AdamOutIdeal.nD Cert.AdamOutIdeal.τ).loc Cert.AdamOutIdeal.main_v8_3)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v8_0) = v0 c
          ∧ r.2.mem ((c.tc : Thread Cert.AdamOutIdeal.nD Cert.AdamOutIdeal.τ).loc Cert.AdamOutIdeal.main_v8_1) = v1 c
          ∧ r.2.mem ((c.tc : Thread Cert.AdamOutIdeal.nD Cert.AdamOutIdeal.τ).loc Cert.AdamOutIdeal.main_v8_2) = v2 c
          ∧ r.2.mem ((c.tc : Thread Cert.AdamOutIdeal.nD Cert.AdamOutIdeal.τ).loc Cert.AdamOutIdeal.main_v8_3) = v3 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3)
          ∧ r.2.mem ((c.tc : Thread Cert.AdamOutIdeal.nD Cert.AdamOutIdeal.τ).loc Cert.AdamOutIdeal.main_arg4) = m ((c.tc : Thread Cert.AdamOutIdeal.nD Cert.AdamOutIdeal.τ).loc Cert.AdamOutIdeal.main_arg4)
          ∧ r.2.mem ((c.tc : Thread Cert.AdamOutIdeal.nD Cert.AdamOutIdeal.τ).loc Cert.AdamOutIdeal.main_arg5) = m ((c.tc : Thread Cert.AdamOutIdeal.nD Cert.AdamOutIdeal.τ).loc Cert.AdamOutIdeal.main_arg5))
      ∧ θ_run (Cert.AdamOutRefIdeal.defs (F := Ideal)) (onTc (τ := Cert.AdamOutRefIdeal.τ) (Cert.AdamOutRefIdeal.main (F := Ideal))) ⟨m', fun _ => 0, g'⟩ (fun r => ∀ c : Dev Cert.AdamOutRefIdeal.nD,
          r.2.mem ((c.tc : Thread Cert.AdamOutRefIdeal.nD Cert.AdamOutRefIdeal.τ).loc Cert.AdamOutRefIdeal.main_v8) = v0 c
          ∧ r.2.mem ((c.tc : Thread Cert.AdamOutRefIdeal.nD Cert.AdamOutRefIdeal.τ).loc Cert.AdamOutRefIdeal.main_v32) = v1 c
          ∧ r.2.mem ((c.tc : Thread Cert.AdamOutRefIdeal.nD Cert.AdamOutRefIdeal.τ).loc Cert.AdamOutRefIdeal.main_v13) = v2 c
          ∧ r.2.mem ((c.tc : Thread Cert.AdamOutRefIdeal.nD Cert.AdamOutRefIdeal.τ).loc Cert.AdamOutRefIdeal.main_v19) = v3 c
          ∧ r.2.mem ((c.tc : Thread Cert.AdamOutRefIdeal.nD Cert.AdamOutRefIdeal.τ).loc Cert.AdamOutRefIdeal.main_arg0) = m' ((c.tc : Thread Cert.AdamOutRefIdeal.nD Cert.AdamOutRefIdeal.τ).loc Cert.AdamOutRefIdeal.main_arg0)
          ∧ r.2.mem ((c.tc : Thread Cert.AdamOutRefIdeal.nD Cert.AdamOutRefIdeal.τ).loc Cert.AdamOutRefIdeal.main_arg1) = m' ((c.tc : Thread Cert.AdamOutRefIdeal.nD Cert.AdamOutRefIdeal.τ).loc Cert.AdamOutRefIdeal.main_arg1)
          ∧ r.2.mem ((c.tc : Thread Cert.AdamOutRefIdeal.nD Cert.AdamOutRefIdeal.τ).loc Cert.AdamOutRefIdeal.main_arg2) = m' ((c.tc : Thread Cert.AdamOutRefIdeal.nD Cert.AdamOutRefIdeal.τ).loc Cert.AdamOutRefIdeal.main_arg2)
          ∧ r.2.mem ((c.tc : Thread Cert.AdamOutRefIdeal.nD Cert.AdamOutRefIdeal.τ).loc Cert.AdamOutRefIdeal.main_arg3) = m' ((c.tc : Thread Cert.AdamOutRefIdeal.nD Cert.AdamOutRefIdeal.τ).loc Cert.AdamOutRefIdeal.main_arg3)
          ∧ r.2.mem ((c.tc : Thread Cert.AdamOutRefIdeal.nD Cert.AdamOutRefIdeal.τ).loc Cert.AdamOutRefIdeal.main_arg4) = m' ((c.tc : Thread Cert.AdamOutRefIdeal.nD Cert.AdamOutRefIdeal.τ).loc Cert.AdamOutRefIdeal.main_arg4)
          ∧ r.2.mem ((c.tc : Thread Cert.AdamOutRefIdeal.nD Cert.AdamOutRefIdeal.τ).loc Cert.AdamOutRefIdeal.main_arg5) = m' ((c.tc : Thread Cert.AdamOutRefIdeal.nD Cert.AdamOutRefIdeal.τ).loc Cert.AdamOutRefIdeal.main_arg5))

def preserves_AdamBranch_AdamBranchIdeal : Prop :=
  True

def algebraic_AdamBranchIdeal_AdamBranchRefIdeal [hAdamBranchIdeal : Cert.AdamBranchIdeal.Facts] [hAdamBranchRefIdeal : Cert.AdamBranchRefIdeal.Facts] : Prop :=
  ∀ (m : (ℓ : Loc Cert.AdamBranchIdeal.nD Cert.AdamBranchIdeal.τ Cert.AdamBranchIdeal.sig) → Buf (Elt Ideal) ℓ) (g : Dev Cert.AdamBranchIdeal.nD → PrngReg)
    (m' : (ℓ : Loc Cert.AdamBranchRefIdeal.nD Cert.AdamBranchRefIdeal.τ Cert.AdamBranchRefIdeal.sig) → Buf (Elt Ideal) ℓ) (g' : Dev Cert.AdamBranchRefIdeal.nD → PrngReg), Pre_AdamBranchIdeal m →
    (∀ c : Dev Cert.AdamBranchIdeal.nD,
      m' ((c.tc : Thread Cert.AdamBranchRefIdeal.nD Cert.AdamBranchRefIdeal.τ).loc Cert.AdamBranchRefIdeal.main_arg0) = m ((c.tc : Thread Cert.AdamBranchIdeal.nD Cert.AdamBranchIdeal.τ).loc Cert.AdamBranchIdeal.main_arg0)
      ∧ m' ((c.tc : Thread Cert.AdamBranchRefIdeal.nD Cert.AdamBranchRefIdeal.τ).loc Cert.AdamBranchRefIdeal.main_arg1) = m ((c.tc : Thread Cert.AdamBranchIdeal.nD Cert.AdamBranchIdeal.τ).loc Cert.AdamBranchIdeal.main_arg1)
      ∧ m' ((c.tc : Thread Cert.AdamBranchRefIdeal.nD Cert.AdamBranchRefIdeal.τ).loc Cert.AdamBranchRefIdeal.main_arg2) = m ((c.tc : Thread Cert.AdamBranchIdeal.nD Cert.AdamBranchIdeal.τ).loc Cert.AdamBranchIdeal.main_arg2)
      ∧ m' ((c.tc : Thread Cert.AdamBranchRefIdeal.nD Cert.AdamBranchRefIdeal.τ).loc Cert.AdamBranchRefIdeal.main_arg3) = m ((c.tc : Thread Cert.AdamBranchIdeal.nD Cert.AdamBranchIdeal.τ).loc Cert.AdamBranchIdeal.main_arg3)
      ∧ m' ((c.tc : Thread Cert.AdamBranchRefIdeal.nD Cert.AdamBranchRefIdeal.τ).loc Cert.AdamBranchRefIdeal.main_arg4) = m ((c.tc : Thread Cert.AdamBranchIdeal.nD Cert.AdamBranchIdeal.τ).loc Cert.AdamBranchIdeal.main_arg4)
      ∧ m' ((c.tc : Thread Cert.AdamBranchRefIdeal.nD Cert.AdamBranchRefIdeal.τ).loc Cert.AdamBranchRefIdeal.main_arg5) = m ((c.tc : Thread Cert.AdamBranchIdeal.nD Cert.AdamBranchIdeal.τ).loc Cert.AdamBranchIdeal.main_arg5)) →
    ∃ (v0 : (c : Dev Cert.AdamBranchIdeal.nD) → Buf (Elt Ideal) ((c.tc : Thread Cert.AdamBranchIdeal.nD Cert.AdamBranchIdeal.τ).loc Cert.AdamBranchIdeal.main_v8_0)) (v1 : (c : Dev Cert.AdamBranchIdeal.nD) → Buf (Elt Ideal) ((c.tc : Thread Cert.AdamBranchIdeal.nD Cert.AdamBranchIdeal.τ).loc Cert.AdamBranchIdeal.main_v8_1)) (v2 : (c : Dev Cert.AdamBranchIdeal.nD) → Buf (Elt Ideal) ((c.tc : Thread Cert.AdamBranchIdeal.nD Cert.AdamBranchIdeal.τ).loc Cert.AdamBranchIdeal.main_v8_2)) (v3 : (c : Dev Cert.AdamBranchIdeal.nD) → Buf (Elt Ideal) ((c.tc : Thread Cert.AdamBranchIdeal.nD Cert.AdamBranchIdeal.τ).loc Cert.AdamBranchIdeal.main_v8_3)),
      θ_run (Cert.AdamBranchIdeal.defs (F := Ideal)) (onTc (τ := Cert.AdamBranchIdeal.τ) (Cert.AdamBranchIdeal.main (F := Ideal))) ⟨m, fun _ => 0, g⟩ (fun r => ∀ c : Dev Cert.AdamBranchIdeal.nD,
          r.2.mem ((c.tc : Thread Cert.AdamBranchIdeal.nD Cert.AdamBranchIdeal.τ).loc Cert.AdamBranchIdeal.main_v8_0) = v0 c
          ∧ r.2.mem ((c.tc : Thread Cert.AdamBranchIdeal.nD Cert.AdamBranchIdeal.τ).loc Cert.AdamBranchIdeal.main_v8_1) = v1 c
          ∧ r.2.mem ((c.tc : Thread Cert.AdamBranchIdeal.nD Cert.AdamBranchIdeal.τ).loc Cert.AdamBranchIdeal.main_v8_2) = v2 c
          ∧ r.2.mem ((c.tc : Thread Cert.AdamBranchIdeal.nD Cert.AdamBranchIdeal.τ).loc Cert.AdamBranchIdeal.main_v8_3) = v3 c
          ∧ r.2.mem ((c.tc : Thread Cert.AdamBranchIdeal.nD Cert.AdamBranchIdeal.τ).loc Cert.AdamBranchIdeal.main_arg0) = m ((c.tc : Thread Cert.AdamBranchIdeal.nD Cert.AdamBranchIdeal.τ).loc Cert.AdamBranchIdeal.main_arg0)
          ∧ r.2.mem ((c.tc : Thread Cert.AdamBranchIdeal.nD Cert.AdamBranchIdeal.τ).loc Cert.AdamBranchIdeal.main_arg1) = m ((c.tc : Thread Cert.AdamBranchIdeal.nD Cert.AdamBranchIdeal.τ).loc Cert.AdamBranchIdeal.main_arg1)
          ∧ r.2.mem ((c.tc : Thread Cert.AdamBranchIdeal.nD Cert.AdamBranchIdeal.τ).loc Cert.AdamBranchIdeal.main_arg2) = m ((c.tc : Thread Cert.AdamBranchIdeal.nD Cert.AdamBranchIdeal.τ).loc Cert.AdamBranchIdeal.main_arg2)
          ∧ r.2.mem ((c.tc : Thread Cert.AdamBranchIdeal.nD Cert.AdamBranchIdeal.τ).loc Cert.AdamBranchIdeal.main_arg3) = m ((c.tc : Thread Cert.AdamBranchIdeal.nD Cert.AdamBranchIdeal.τ).loc Cert.AdamBranchIdeal.main_arg3)
          ∧ r.2.mem ((c.tc : Thread Cert.AdamBranchIdeal.nD Cert.AdamBranchIdeal.τ).loc Cert.AdamBranchIdeal.main_arg4) = m ((c.tc : Thread Cert.AdamBranchIdeal.nD Cert.AdamBranchIdeal.τ).loc Cert.AdamBranchIdeal.main_arg4)
          ∧ r.2.mem ((c.tc : Thread Cert.AdamBranchIdeal.nD Cert.AdamBranchIdeal.τ).loc Cert.AdamBranchIdeal.main_arg5) = m ((c.tc : Thread Cert.AdamBranchIdeal.nD Cert.AdamBranchIdeal.τ).loc Cert.AdamBranchIdeal.main_arg5))
      ∧ θ_run (Cert.AdamBranchRefIdeal.defs (F := Ideal)) (onTc (τ := Cert.AdamBranchRefIdeal.τ) (Cert.AdamBranchRefIdeal.main (F := Ideal))) ⟨m', fun _ => 0, g'⟩ (fun r => ∀ c : Dev Cert.AdamBranchRefIdeal.nD,
          r.2.mem ((c.tc : Thread Cert.AdamBranchRefIdeal.nD Cert.AdamBranchRefIdeal.τ).loc Cert.AdamBranchRefIdeal.main_v8) = v0 c
          ∧ r.2.mem ((c.tc : Thread Cert.AdamBranchRefIdeal.nD Cert.AdamBranchRefIdeal.τ).loc Cert.AdamBranchRefIdeal.main_v32) = v1 c
          ∧ r.2.mem ((c.tc : Thread Cert.AdamBranchRefIdeal.nD Cert.AdamBranchRefIdeal.τ).loc Cert.AdamBranchRefIdeal.main_v13) = v2 c
          ∧ r.2.mem ((c.tc : Thread Cert.AdamBranchRefIdeal.nD Cert.AdamBranchRefIdeal.τ).loc Cert.AdamBranchRefIdeal.main_v19) = v3 c
          ∧ r.2.mem ((c.tc : Thread Cert.AdamBranchRefIdeal.nD Cert.AdamBranchRefIdeal.τ).loc Cert.AdamBranchRefIdeal.main_arg0) = m' ((c.tc : Thread Cert.AdamBranchRefIdeal.nD Cert.AdamBranchRefIdeal.τ).loc Cert.AdamBranchRefIdeal.main_arg0)
          ∧ r.2.mem ((c.tc : Thread Cert.AdamBranchRefIdeal.nD Cert.AdamBranchRefIdeal.τ).loc Cert.AdamBranchRefIdeal.main_arg1) = m' ((c.tc : Thread Cert.AdamBranchRefIdeal.nD Cert.AdamBranchRefIdeal.τ).loc Cert.AdamBranchRefIdeal.main_arg1)
          ∧ r.2.mem ((c.tc : Thread Cert.AdamBranchRefIdeal.nD Cert.AdamBranchRefIdeal.τ).loc Cert.AdamBranchRefIdeal.main_arg2) = m' ((c.tc : Thread Cert.AdamBranchRefIdeal.nD Cert.AdamBranchRefIdeal.τ).loc Cert.AdamBranchRefIdeal.main_arg2)
          ∧ r.2.mem ((c.tc : Thread Cert.AdamBranchRefIdeal.nD Cert.AdamBranchRefIdeal.τ).loc Cert.AdamBranchRefIdeal.main_arg3) = m' ((c.tc : Thread Cert.AdamBranchRefIdeal.nD Cert.AdamBranchRefIdeal.τ).loc Cert.AdamBranchRefIdeal.main_arg3)
          ∧ r.2.mem ((c.tc : Thread Cert.AdamBranchRefIdeal.nD Cert.AdamBranchRefIdeal.τ).loc Cert.AdamBranchRefIdeal.main_arg4) = m' ((c.tc : Thread Cert.AdamBranchRefIdeal.nD Cert.AdamBranchRefIdeal.τ).loc Cert.AdamBranchRefIdeal.main_arg4)
          ∧ r.2.mem ((c.tc : Thread Cert.AdamBranchRefIdeal.nD Cert.AdamBranchRefIdeal.τ).loc Cert.AdamBranchRefIdeal.main_arg5) = m' ((c.tc : Thread Cert.AdamBranchRefIdeal.nD Cert.AdamBranchRefIdeal.τ).loc Cert.AdamBranchRefIdeal.main_arg5))

def preserves_AdamConv_AdamConvIdeal : Prop :=
  True

def algebraic_AdamConvIdeal_AdamConvRefIdeal [hAdamConvIdeal : Cert.AdamConvIdeal.Facts] [hAdamConvRefIdeal : Cert.AdamConvRefIdeal.Facts] : Prop :=
  ∀ (m : (ℓ : Loc Cert.AdamConvIdeal.nD Cert.AdamConvIdeal.τ Cert.AdamConvIdeal.sig) → Buf (Elt Ideal) ℓ) (g : Dev Cert.AdamConvIdeal.nD → PrngReg)
    (m' : (ℓ : Loc Cert.AdamConvRefIdeal.nD Cert.AdamConvRefIdeal.τ Cert.AdamConvRefIdeal.sig) → Buf (Elt Ideal) ℓ) (g' : Dev Cert.AdamConvRefIdeal.nD → PrngReg), Pre_AdamConvIdeal m →
    (∀ c : Dev Cert.AdamConvIdeal.nD,
      m' ((c.tc : Thread Cert.AdamConvRefIdeal.nD Cert.AdamConvRefIdeal.τ).loc Cert.AdamConvRefIdeal.main_arg0) = m ((c.tc : Thread Cert.AdamConvIdeal.nD Cert.AdamConvIdeal.τ).loc Cert.AdamConvIdeal.main_arg0)
      ∧ m' ((c.tc : Thread Cert.AdamConvRefIdeal.nD Cert.AdamConvRefIdeal.τ).loc Cert.AdamConvRefIdeal.main_arg1) = m ((c.tc : Thread Cert.AdamConvIdeal.nD Cert.AdamConvIdeal.τ).loc Cert.AdamConvIdeal.main_arg1)
      ∧ m' ((c.tc : Thread Cert.AdamConvRefIdeal.nD Cert.AdamConvRefIdeal.τ).loc Cert.AdamConvRefIdeal.main_arg2) = m ((c.tc : Thread Cert.AdamConvIdeal.nD Cert.AdamConvIdeal.τ).loc Cert.AdamConvIdeal.main_arg2)
      ∧ m' ((c.tc : Thread Cert.AdamConvRefIdeal.nD Cert.AdamConvRefIdeal.τ).loc Cert.AdamConvRefIdeal.main_arg3) = m ((c.tc : Thread Cert.AdamConvIdeal.nD Cert.AdamConvIdeal.τ).loc Cert.AdamConvIdeal.main_arg3)
      ∧ m' ((c.tc : Thread Cert.AdamConvRefIdeal.nD Cert.AdamConvRefIdeal.τ).loc Cert.AdamConvRefIdeal.main_arg4) = m ((c.tc : Thread Cert.AdamConvIdeal.nD Cert.AdamConvIdeal.τ).loc Cert.AdamConvIdeal.main_arg4)
      ∧ m' ((c.tc : Thread Cert.AdamConvRefIdeal.nD Cert.AdamConvRefIdeal.τ).loc Cert.AdamConvRefIdeal.main_arg5) = m ((c.tc : Thread Cert.AdamConvIdeal.nD Cert.AdamConvIdeal.τ).loc Cert.AdamConvIdeal.main_arg5)) →
    ∃ (v0 : (c : Dev Cert.AdamConvIdeal.nD) → Buf (Elt Ideal) ((c.tc : Thread Cert.AdamConvIdeal.nD Cert.AdamConvIdeal.τ).loc Cert.AdamConvIdeal.main_v8_0)) (v1 : (c : Dev Cert.AdamConvIdeal.nD) → Buf (Elt Ideal) ((c.tc : Thread Cert.AdamConvIdeal.nD Cert.AdamConvIdeal.τ).loc Cert.AdamConvIdeal.main_v8_1)) (v2 : (c : Dev Cert.AdamConvIdeal.nD) → Buf (Elt Ideal) ((c.tc : Thread Cert.AdamConvIdeal.nD Cert.AdamConvIdeal.τ).loc Cert.AdamConvIdeal.main_v8_2)) (v3 : (c : Dev Cert.AdamConvIdeal.nD) → Buf (Elt Ideal) ((c.tc : Thread Cert.AdamConvIdeal.nD Cert.AdamConvIdeal.τ).loc Cert.AdamConvIdeal.main_v8_3)),
      θ_run (Cert.AdamConvIdeal.defs (F := Ideal)) (onTc (τ := Cert.AdamConvIdeal.τ) (Cert.AdamConvIdeal.main (F := Ideal))) ⟨m, fun _ => 0, g⟩ (fun r => ∀ c : Dev Cert.AdamConvIdeal.nD,
          r.2.mem ((c.tc : Thread Cert.AdamConvIdeal.nD Cert.AdamConvIdeal.τ).loc Cert.AdamConvIdeal.main_v8_0) = v0 c
          ∧ r.2.mem ((c.tc : Thread Cert.AdamConvIdeal.nD Cert.AdamConvIdeal.τ).loc Cert.AdamConvIdeal.main_v8_1) = v1 c
          ∧ r.2.mem ((c.tc : Thread Cert.AdamConvIdeal.nD Cert.AdamConvIdeal.τ).loc Cert.AdamConvIdeal.main_v8_2) = v2 c
          ∧ r.2.mem ((c.tc : Thread Cert.AdamConvIdeal.nD Cert.AdamConvIdeal.τ).loc Cert.AdamConvIdeal.main_v8_3) = v3 c
          ∧ r.2.mem ((c.tc : Thread Cert.AdamConvIdeal.nD Cert.AdamConvIdeal.τ).loc Cert.AdamConvIdeal.main_arg0) = m ((c.tc : Thread Cert.AdamConvIdeal.nD Cert.AdamConvIdeal.τ).loc Cert.AdamConvIdeal.main_arg0)
          ∧ r.2.mem ((c.tc : Thread Cert.AdamConvIdeal.nD Cert.AdamConvIdeal.τ).loc Cert.AdamConvIdeal.main_arg1) = m ((c.tc : Thread Cert.AdamConvIdeal.nD Cert.AdamConvIdeal.τ).loc Cert.AdamConvIdeal.main_arg1)
          ∧ r.2.mem ((c.tc : Thread Cert.AdamConvIdeal.nD Cert.AdamConvIdeal.τ).loc Cert.AdamConvIdeal.main_arg2) = m ((c.tc : Thread Cert.AdamConvIdeal.nD Cert.AdamConvIdeal.τ).loc Cert.AdamConvIdeal.main_arg2)
          ∧ r.2.mem ((c.tc : Thread Cert.AdamConvIdeal.nD Cert.AdamConvIdeal.τ).loc Cert.AdamConvIdeal.main_arg3) = m ((c.tc : Thread Cert.AdamConvIdeal.nD Cert.AdamConvIdeal.τ).loc Cert.AdamConvIdeal.main_arg3)
          ∧ r.2.mem ((c.tc : Thread Cert.AdamConvIdeal.nD Cert.AdamConvIdeal.τ).loc Cert.AdamConvIdeal.main_arg4) = m ((c.tc : Thread Cert.AdamConvIdeal.nD Cert.AdamConvIdeal.τ).loc Cert.AdamConvIdeal.main_arg4)
          ∧ r.2.mem ((c.tc : Thread Cert.AdamConvIdeal.nD Cert.AdamConvIdeal.τ).loc Cert.AdamConvIdeal.main_arg5) = m ((c.tc : Thread Cert.AdamConvIdeal.nD Cert.AdamConvIdeal.τ).loc Cert.AdamConvIdeal.main_arg5))
      ∧ θ_run (Cert.AdamConvRefIdeal.defs (F := Ideal)) (onTc (τ := Cert.AdamConvRefIdeal.τ) (Cert.AdamConvRefIdeal.main (F := Ideal))) ⟨m', fun _ => 0, g'⟩ (fun r => ∀ c : Dev Cert.AdamConvRefIdeal.nD,
          r.2.mem ((c.tc : Thread Cert.AdamConvRefIdeal.nD Cert.AdamConvRefIdeal.τ).loc Cert.AdamConvRefIdeal.main_v7) = v0 c
          ∧ r.2.mem ((c.tc : Thread Cert.AdamConvRefIdeal.nD Cert.AdamConvRefIdeal.τ).loc Cert.AdamConvRefIdeal.main_v31) = v1 c
          ∧ r.2.mem ((c.tc : Thread Cert.AdamConvRefIdeal.nD Cert.AdamConvRefIdeal.τ).loc Cert.AdamConvRefIdeal.main_v12) = v2 c
          ∧ r.2.mem ((c.tc : Thread Cert.AdamConvRefIdeal.nD Cert.AdamConvRefIdeal.τ).loc Cert.AdamConvRefIdeal.main_v18) = v3 c
          ∧ r.2.mem ((c.tc : Thread Cert.AdamConvRefIdeal.nD Cert.AdamConvRefIdeal.τ).loc Cert.AdamConvRefIdeal.main_arg0) = m' ((c.tc : Thread Cert.AdamConvRefIdeal.nD Cert.AdamConvRefIdeal.τ).loc Cert.AdamConvRefIdeal.main_arg0)
          ∧ r.2.mem ((c.tc : Thread Cert.AdamConvRefIdeal.nD Cert.AdamConvRefIdeal.τ).loc Cert.AdamConvRefIdeal.main_arg1) = m' ((c.tc : Thread Cert.AdamConvRefIdeal.nD Cert.AdamConvRefIdeal.τ).loc Cert.AdamConvRefIdeal.main_arg1)
          ∧ r.2.mem ((c.tc : Thread Cert.AdamConvRefIdeal.nD Cert.AdamConvRefIdeal.τ).loc Cert.AdamConvRefIdeal.main_arg2) = m' ((c.tc : Thread Cert.AdamConvRefIdeal.nD Cert.AdamConvRefIdeal.τ).loc Cert.AdamConvRefIdeal.main_arg2)
          ∧ r.2.mem ((c.tc : Thread Cert.AdamConvRefIdeal.nD Cert.AdamConvRefIdeal.τ).loc Cert.AdamConvRefIdeal.main_arg3) = m' ((c.tc : Thread Cert.AdamConvRefIdeal.nD Cert.AdamConvRefIdeal.τ).loc Cert.AdamConvRefIdeal.main_arg3)
          ∧ r.2.mem ((c.tc : Thread Cert.AdamConvRefIdeal.nD Cert.AdamConvRefIdeal.τ).loc Cert.AdamConvRefIdeal.main_arg4) = m' ((c.tc : Thread Cert.AdamConvRefIdeal.nD Cert.AdamConvRefIdeal.τ).loc Cert.AdamConvRefIdeal.main_arg4)
          ∧ r.2.mem ((c.tc : Thread Cert.AdamConvRefIdeal.nD Cert.AdamConvRefIdeal.τ).loc Cert.AdamConvRefIdeal.main_arg5) = m' ((c.tc : Thread Cert.AdamConvRefIdeal.nD Cert.AdamConvRefIdeal.τ).loc Cert.AdamConvRefIdeal.main_arg5))

def preserves_AdaDw_AdaDwIdeal : Prop :=
  True

def algebraic_AdaDwIdeal_AdaDwRefIdeal [hAdaDwIdeal : Cert.AdaDwIdeal.Facts] [hAdaDwRefIdeal : Cert.AdaDwRefIdeal.Facts] : Prop :=
  ∀ (m : (ℓ : Loc Cert.AdaDwIdeal.nD Cert.AdaDwIdeal.τ Cert.AdaDwIdeal.sig) → Buf (Elt Ideal) ℓ) (g : Dev Cert.AdaDwIdeal.nD → PrngReg)
    (m' : (ℓ : Loc Cert.AdaDwRefIdeal.nD Cert.AdaDwRefIdeal.τ Cert.AdaDwRefIdeal.sig) → Buf (Elt Ideal) ℓ) (g' : Dev Cert.AdaDwRefIdeal.nD → PrngReg), Pre_AdaDwIdeal m →
    (∀ c : Dev Cert.AdaDwIdeal.nD,
      m' ((c.tc : Thread Cert.AdaDwRefIdeal.nD Cert.AdaDwRefIdeal.τ).loc Cert.AdaDwRefIdeal.main_arg0) = m ((c.tc : Thread Cert.AdaDwIdeal.nD Cert.AdaDwIdeal.τ).loc Cert.AdaDwIdeal.main_arg0)
      ∧ m' ((c.tc : Thread Cert.AdaDwRefIdeal.nD Cert.AdaDwRefIdeal.τ).loc Cert.AdaDwRefIdeal.main_arg1) = m ((c.tc : Thread Cert.AdaDwIdeal.nD Cert.AdaDwIdeal.τ).loc Cert.AdaDwIdeal.main_arg1)) →
    ∃ (v0 : (c : Dev Cert.AdaDwIdeal.nD) → Buf (Elt Ideal) ((c.tc : Thread Cert.AdaDwIdeal.nD Cert.AdaDwIdeal.τ).loc Cert.AdaDwIdeal.main_v0)),
      θ_run (Cert.AdaDwIdeal.defs (F := Ideal)) (onTc (τ := Cert.AdaDwIdeal.τ) (Cert.AdaDwIdeal.main (F := Ideal))) ⟨m, fun _ => 0, g⟩ (fun r => ∀ c : Dev Cert.AdaDwIdeal.nD,
          r.2.mem ((c.tc : Thread Cert.AdaDwIdeal.nD Cert.AdaDwIdeal.τ).loc Cert.AdaDwIdeal.main_v0) = v0 c
          ∧ r.2.mem ((c.tc : Thread Cert.AdaDwIdeal.nD Cert.AdaDwIdeal.τ).loc Cert.AdaDwIdeal.main_arg0) = m ((c.tc : Thread Cert.AdaDwIdeal.nD Cert.AdaDwIdeal.τ).loc Cert.AdaDwIdeal.main_arg0)
          ∧ r.2.mem ((c.tc : Thread Cert.AdaDwIdeal.nD Cert.AdaDwIdeal.τ).loc Cert.AdaDwIdeal.main_arg1) = m ((c.tc : Thread Cert.AdaDwIdeal.nD Cert.AdaDwIdeal.τ).loc Cert.AdaDwIdeal.main_arg1))
      ∧ θ_run (Cert.AdaDwRefIdeal.defs (F := Ideal)) (onTc (τ := Cert.AdaDwRefIdeal.τ) (Cert.AdaDwRefIdeal.main (F := Ideal))) ⟨m', fun _ => 0, g'⟩ (fun r => ∀ c : Dev Cert.AdaDwRefIdeal.nD,
          r.2.mem ((c.tc : Thread Cert.AdaDwRefIdeal.nD Cert.AdaDwRefIdeal.τ).loc Cert.AdaDwRefIdeal.main_v3) = v0 c
          ∧ r.2.mem ((c.tc : Thread Cert.AdaDwRefIdeal.nD Cert.AdaDwRefIdeal.τ).loc Cert.AdaDwRefIdeal.main_arg0) = m' ((c.tc : Thread Cert.AdaDwRefIdeal.nD Cert.AdaDwRefIdeal.τ).loc Cert.AdaDwRefIdeal.main_arg0)
          ∧ r.2.mem ((c.tc : Thread Cert.AdaDwRefIdeal.nD Cert.AdaDwRefIdeal.τ).loc Cert.AdaDwRefIdeal.main_arg1) = m' ((c.tc : Thread Cert.AdaDwRefIdeal.nD Cert.AdaDwRefIdeal.τ).loc Cert.AdaDwRefIdeal.main_arg1))

def Claim : Prop :=
  ∃ (hKernel : Cert.Kernel.Facts) (hKernelIdeal : Cert.KernelIdeal.Facts) (hReferenceIdeal : Cert.ReferenceIdeal.Facts) (hSwiglu : Cert.Swiglu.Facts) (hSwigluIdeal : Cert.SwigluIdeal.Facts) (hSwigluRefIdeal : Cert.SwigluRefIdeal.Facts) (hSwigluBwd : Cert.SwigluBwd.Facts) (hSwigluBwdIdeal : Cert.SwigluBwdIdeal.Facts) (hSwigluBwdRefIdeal : Cert.SwigluBwdRefIdeal.Facts) (hMergeBwd : Cert.MergeBwd.Facts) (hMergeBwdIdeal : Cert.MergeBwdIdeal.Facts) (hMergeBwdRefIdeal : Cert.MergeBwdRefIdeal.Facts) (hMerge : Cert.Merge.Facts) (hMergeIdeal : Cert.MergeIdeal.Facts) (hMergeRefIdeal : Cert.MergeRefIdeal.Facts) (hFfnOut : Cert.FfnOut.Facts) (hFfnOutIdeal : Cert.FfnOutIdeal.Facts) (hFfnOutRefIdeal : Cert.FfnOutRefIdeal.Facts) (hOut : Cert.Out.Facts) (hOutIdeal : Cert.OutIdeal.Facts) (hOutRefIdeal : Cert.OutRefIdeal.Facts) (hFfnInDw : Cert.FfnInDw.Facts) (hFfnInDwIdeal : Cert.FfnInDwIdeal.Facts) (hFfnInDwRefIdeal : Cert.FfnInDwRefIdeal.Facts) (hProjDw : Cert.ProjDw.Facts) (hProjDwIdeal : Cert.ProjDwIdeal.Facts) (hProjDwRefIdeal : Cert.ProjDwRefIdeal.Facts) (hFfnOutDw : Cert.FfnOutDw.Facts) (hFfnOutDwIdeal : Cert.FfnOutDwIdeal.Facts) (hFfnOutDwRefIdeal : Cert.FfnOutDwRefIdeal.Facts) (hProj : Cert.Proj.Facts) (hProjIdeal : Cert.ProjIdeal.Facts) (hProjRefIdeal : Cert.ProjRefIdeal.Facts) (hFfnInDx : Cert.FfnInDx.Facts) (hFfnInDxIdeal : Cert.FfnInDxIdeal.Facts) (hFfnInDxRefIdeal : Cert.FfnInDxRefIdeal.Facts) (hProjDx : Cert.ProjDx.Facts) (hProjDxIdeal : Cert.ProjDxIdeal.Facts) (hProjDxRefIdeal : Cert.ProjDxRefIdeal.Facts) (hProjDxFirst : Cert.ProjDxFirst.Facts) (hProjDxFirstIdeal : Cert.ProjDxFirstIdeal.Facts) (hProjDxFirstRefIdeal : Cert.ProjDxFirstRefIdeal.Facts) (hLossHead : Cert.LossHead.Facts) (hLossHeadIdeal : Cert.LossHeadIdeal.Facts) (hLossHeadRefIdeal : Cert.LossHeadRefIdeal.Facts) (hOutDw : Cert.OutDw.Facts) (hOutDwIdeal : Cert.OutDwIdeal.Facts) (hOutDwRefIdeal : Cert.OutDwRefIdeal.Facts) (hBranchDw : Cert.BranchDw.Facts) (hBranchDwIdeal : Cert.BranchDwIdeal.Facts) (hBranchDwRefIdeal : Cert.BranchDwRefIdeal.Facts) (hBranchDx : Cert.BranchDx.Facts) (hBranchDxIdeal : Cert.BranchDxIdeal.Facts) (hBranchDxRefIdeal : Cert.BranchDxRefIdeal.Facts) (hFfnOutLast : Cert.FfnOutLast.Facts) (hFfnOutLastIdeal : Cert.FfnOutLastIdeal.Facts) (hFfnOutLastRefIdeal : Cert.FfnOutLastRefIdeal.Facts) (hAdamAda : Cert.AdamAda.Facts) (hAdamAdaIdeal : Cert.AdamAdaIdeal.Facts) (hAdamAdaRefIdeal : Cert.AdamAdaRefIdeal.Facts) (hAdamSmall : Cert.AdamSmall.Facts) (hAdamSmallIdeal : Cert.AdamSmallIdeal.Facts) (hAdamSmallRefIdeal : Cert.AdamSmallRefIdeal.Facts) (hAdamIn : Cert.AdamIn.Facts) (hAdamInIdeal : Cert.AdamInIdeal.Facts) (hAdamInRefIdeal : Cert.AdamInRefIdeal.Facts) (hAdamFfnIn : Cert.AdamFfnIn.Facts) (hAdamFfnInIdeal : Cert.AdamFfnInIdeal.Facts) (hAdamFfnInRefIdeal : Cert.AdamFfnInRefIdeal.Facts) (hAdamFfnOut : Cert.AdamFfnOut.Facts) (hAdamFfnOutIdeal : Cert.AdamFfnOutIdeal.Facts) (hAdamFfnOutRefIdeal : Cert.AdamFfnOutRefIdeal.Facts) (hAdamOut : Cert.AdamOut.Facts) (hAdamOutIdeal : Cert.AdamOutIdeal.Facts) (hAdamOutRefIdeal : Cert.AdamOutRefIdeal.Facts) (hAdamBranch : Cert.AdamBranch.Facts) (hAdamBranchIdeal : Cert.AdamBranchIdeal.Facts) (hAdamBranchRefIdeal : Cert.AdamBranchRefIdeal.Facts) (hAdamConv : Cert.AdamConv.Facts) (hAdamConvIdeal : Cert.AdamConvIdeal.Facts) (hAdamConvRefIdeal : Cert.AdamConvRefIdeal.Facts) (hAdaDw : Cert.AdaDw.Facts) (hAdaDwIdeal : Cert.AdaDwIdeal.Facts) (hAdaDwRefIdeal : Cert.AdaDwRefIdeal.Facts) (hPre_finite : Cert.Pre_finite.Facts) (hPre_finite_swiglu : Cert.Pre_finite_swiglu.Facts) (hPre_finite_dx : Cert.Pre_finite_dx.Facts) (hPre_finite_proj_dx : Cert.Pre_finite_proj_dx.Facts) (hPre_finite_proj_dx_first : Cert.Pre_finite_proj_dx_first.Facts) (hPre_finite_loss : Cert.Pre_finite_loss.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Swiglu (hSwiglu := hSwiglu)
    ∧ quiescent_SwigluIdeal (hSwigluIdeal := hSwigluIdeal)
    ∧ quiescent_SwigluRefIdeal (hSwigluRefIdeal := hSwigluRefIdeal)
    ∧ quiescent_SwigluBwd (hSwigluBwd := hSwigluBwd)
    ∧ quiescent_SwigluBwdIdeal (hSwigluBwdIdeal := hSwigluBwdIdeal)
    ∧ quiescent_SwigluBwdIdeal_pre_finite_swiglu (hSwigluBwdIdeal := hSwigluBwdIdeal) (hPre_finite_swiglu := hPre_finite_swiglu)
    ∧ quiescent_SwigluBwdRefIdeal (hSwigluBwdRefIdeal := hSwigluBwdRefIdeal)
    ∧ quiescent_SwigluBwdRefIdeal_pre_finite_swiglu (hSwigluBwdRefIdeal := hSwigluBwdRefIdeal) (hPre_finite_swiglu := hPre_finite_swiglu)
    ∧ quiescent_MergeBwd (hMergeBwd := hMergeBwd)
    ∧ quiescent_MergeBwdIdeal (hMergeBwdIdeal := hMergeBwdIdeal)
    ∧ quiescent_MergeBwdRefIdeal (hMergeBwdRefIdeal := hMergeBwdRefIdeal)
    ∧ quiescent_Merge (hMerge := hMerge)
    ∧ quiescent_MergeIdeal (hMergeIdeal := hMergeIdeal)
    ∧ quiescent_MergeRefIdeal (hMergeRefIdeal := hMergeRefIdeal)
    ∧ quiescent_FfnOut (hFfnOut := hFfnOut)
    ∧ quiescent_FfnOutIdeal (hFfnOutIdeal := hFfnOutIdeal)
    ∧ quiescent_FfnOutRefIdeal (hFfnOutRefIdeal := hFfnOutRefIdeal)
    ∧ quiescent_Out (hOut := hOut)
    ∧ quiescent_OutIdeal (hOutIdeal := hOutIdeal)
    ∧ quiescent_OutRefIdeal (hOutRefIdeal := hOutRefIdeal)
    ∧ quiescent_FfnInDw (hFfnInDw := hFfnInDw)
    ∧ quiescent_FfnInDwIdeal (hFfnInDwIdeal := hFfnInDwIdeal)
    ∧ quiescent_FfnInDwRefIdeal (hFfnInDwRefIdeal := hFfnInDwRefIdeal)
    ∧ quiescent_ProjDw (hProjDw := hProjDw)
    ∧ quiescent_ProjDwIdeal (hProjDwIdeal := hProjDwIdeal)
    ∧ quiescent_ProjDwRefIdeal (hProjDwRefIdeal := hProjDwRefIdeal)
    ∧ quiescent_FfnOutDw (hFfnOutDw := hFfnOutDw)
    ∧ quiescent_FfnOutDwIdeal (hFfnOutDwIdeal := hFfnOutDwIdeal)
    ∧ quiescent_FfnOutDwRefIdeal (hFfnOutDwRefIdeal := hFfnOutDwRefIdeal)
    ∧ quiescent_Proj (hProj := hProj)
    ∧ quiescent_ProjIdeal (hProjIdeal := hProjIdeal)
    ∧ quiescent_ProjRefIdeal (hProjRefIdeal := hProjRefIdeal)
    ∧ quiescent_FfnInDx (hFfnInDx := hFfnInDx)
    ∧ quiescent_FfnInDxIdeal (hFfnInDxIdeal := hFfnInDxIdeal)
    ∧ quiescent_FfnInDxIdeal_pre_finite_dx (hFfnInDxIdeal := hFfnInDxIdeal) (hPre_finite_dx := hPre_finite_dx)
    ∧ quiescent_FfnInDxRefIdeal (hFfnInDxRefIdeal := hFfnInDxRefIdeal)
    ∧ quiescent_FfnInDxRefIdeal_pre_finite_dx (hFfnInDxRefIdeal := hFfnInDxRefIdeal) (hPre_finite_dx := hPre_finite_dx)
    ∧ quiescent_ProjDx (hProjDx := hProjDx)
    ∧ quiescent_ProjDxIdeal (hProjDxIdeal := hProjDxIdeal)
    ∧ quiescent_ProjDxIdeal_pre_finite_proj_dx (hProjDxIdeal := hProjDxIdeal) (hPre_finite_proj_dx := hPre_finite_proj_dx)
    ∧ quiescent_ProjDxRefIdeal (hProjDxRefIdeal := hProjDxRefIdeal)
    ∧ quiescent_ProjDxRefIdeal_pre_finite_proj_dx (hProjDxRefIdeal := hProjDxRefIdeal) (hPre_finite_proj_dx := hPre_finite_proj_dx)
    ∧ quiescent_ProjDxFirst (hProjDxFirst := hProjDxFirst)
    ∧ quiescent_ProjDxFirstIdeal (hProjDxFirstIdeal := hProjDxFirstIdeal)
    ∧ quiescent_ProjDxFirstIdeal_pre_finite_proj_dx_first (hProjDxFirstIdeal := hProjDxFirstIdeal) (hPre_finite_proj_dx_first := hPre_finite_proj_dx_first)
    ∧ quiescent_ProjDxFirstRefIdeal (hProjDxFirstRefIdeal := hProjDxFirstRefIdeal)
    ∧ quiescent_ProjDxFirstRefIdeal_pre_finite_proj_dx_first (hProjDxFirstRefIdeal := hProjDxFirstRefIdeal) (hPre_finite_proj_dx_first := hPre_finite_proj_dx_first)
    ∧ quiescent_LossHead (hLossHead := hLossHead)
    ∧ quiescent_LossHeadIdeal (hLossHeadIdeal := hLossHeadIdeal)
    ∧ quiescent_LossHeadIdeal_pre_finite_loss (hLossHeadIdeal := hLossHeadIdeal) (hPre_finite_loss := hPre_finite_loss)
    ∧ quiescent_LossHeadRefIdeal (hLossHeadRefIdeal := hLossHeadRefIdeal)
    ∧ quiescent_LossHeadRefIdeal_pre_finite_loss (hLossHeadRefIdeal := hLossHeadRefIdeal) (hPre_finite_loss := hPre_finite_loss)
    ∧ quiescent_OutDw (hOutDw := hOutDw)
    ∧ quiescent_OutDwIdeal (hOutDwIdeal := hOutDwIdeal)
    ∧ quiescent_OutDwRefIdeal (hOutDwRefIdeal := hOutDwRefIdeal)
    ∧ quiescent_BranchDw (hBranchDw := hBranchDw)
    ∧ quiescent_BranchDwIdeal (hBranchDwIdeal := hBranchDwIdeal)
    ∧ quiescent_BranchDwRefIdeal (hBranchDwRefIdeal := hBranchDwRefIdeal)
    ∧ quiescent_BranchDx (hBranchDx := hBranchDx)
    ∧ quiescent_BranchDxIdeal (hBranchDxIdeal := hBranchDxIdeal)
    ∧ quiescent_BranchDxRefIdeal (hBranchDxRefIdeal := hBranchDxRefIdeal)
    ∧ quiescent_FfnOutLast (hFfnOutLast := hFfnOutLast)
    ∧ quiescent_FfnOutLastIdeal (hFfnOutLastIdeal := hFfnOutLastIdeal)
    ∧ quiescent_FfnOutLastRefIdeal (hFfnOutLastRefIdeal := hFfnOutLastRefIdeal)
    ∧ quiescent_AdamAda (hAdamAda := hAdamAda)
    ∧ quiescent_AdamAdaIdeal (hAdamAdaIdeal := hAdamAdaIdeal)
    ∧ quiescent_AdamAdaRefIdeal (hAdamAdaRefIdeal := hAdamAdaRefIdeal)
    ∧ quiescent_AdamSmall (hAdamSmall := hAdamSmall)
    ∧ quiescent_AdamSmallIdeal (hAdamSmallIdeal := hAdamSmallIdeal)
    ∧ quiescent_AdamSmallRefIdeal (hAdamSmallRefIdeal := hAdamSmallRefIdeal)
    ∧ quiescent_AdamIn (hAdamIn := hAdamIn)
    ∧ quiescent_AdamInIdeal (hAdamInIdeal := hAdamInIdeal)
    ∧ quiescent_AdamInRefIdeal (hAdamInRefIdeal := hAdamInRefIdeal)
    ∧ quiescent_AdamFfnIn (hAdamFfnIn := hAdamFfnIn)
    ∧ quiescent_AdamFfnInIdeal (hAdamFfnInIdeal := hAdamFfnInIdeal)
    ∧ quiescent_AdamFfnInRefIdeal (hAdamFfnInRefIdeal := hAdamFfnInRefIdeal)
    ∧ quiescent_AdamFfnOut (hAdamFfnOut := hAdamFfnOut)
    ∧ quiescent_AdamFfnOutIdeal (hAdamFfnOutIdeal := hAdamFfnOutIdeal)
    ∧ quiescent_AdamFfnOutRefIdeal (hAdamFfnOutRefIdeal := hAdamFfnOutRefIdeal)
    ∧ quiescent_AdamOut (hAdamOut := hAdamOut)
    ∧ quiescent_AdamOutIdeal (hAdamOutIdeal := hAdamOutIdeal)
    ∧ quiescent_AdamOutRefIdeal (hAdamOutRefIdeal := hAdamOutRefIdeal)
    ∧ quiescent_AdamBranch (hAdamBranch := hAdamBranch)
    ∧ quiescent_AdamBranchIdeal (hAdamBranchIdeal := hAdamBranchIdeal)
    ∧ quiescent_AdamBranchRefIdeal (hAdamBranchRefIdeal := hAdamBranchRefIdeal)
    ∧ quiescent_AdamConv (hAdamConv := hAdamConv)
    ∧ quiescent_AdamConvIdeal (hAdamConvIdeal := hAdamConvIdeal)
    ∧ quiescent_AdamConvRefIdeal (hAdamConvRefIdeal := hAdamConvRefIdeal)
    ∧ quiescent_AdaDw (hAdaDw := hAdaDw)
    ∧ quiescent_AdaDwIdeal (hAdaDwIdeal := hAdaDwIdeal)
    ∧ quiescent_AdaDwRefIdeal (hAdaDwRefIdeal := hAdaDwRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Swiglu_SwigluIdeal
    ∧ algebraic_SwigluIdeal_SwigluRefIdeal (hSwigluIdeal := hSwigluIdeal) (hSwigluRefIdeal := hSwigluRefIdeal)
    ∧ preserves_SwigluBwd_SwigluBwdIdeal
    ∧ algebraic_SwigluBwdIdeal_SwigluBwdRefIdeal_pre_finite_swiglu (hSwigluBwdIdeal := hSwigluBwdIdeal) (hSwigluBwdRefIdeal := hSwigluBwdRefIdeal) (hPre_finite_swiglu := hPre_finite_swiglu)
    ∧ preserves_MergeBwd_MergeBwdIdeal
    ∧ algebraic_MergeBwdIdeal_MergeBwdRefIdeal (hMergeBwdIdeal := hMergeBwdIdeal) (hMergeBwdRefIdeal := hMergeBwdRefIdeal)
    ∧ preserves_Merge_MergeIdeal
    ∧ algebraic_MergeIdeal_MergeRefIdeal (hMergeIdeal := hMergeIdeal) (hMergeRefIdeal := hMergeRefIdeal)
    ∧ preserves_FfnOut_FfnOutIdeal
    ∧ algebraic_FfnOutIdeal_FfnOutRefIdeal (hFfnOutIdeal := hFfnOutIdeal) (hFfnOutRefIdeal := hFfnOutRefIdeal)
    ∧ preserves_Out_OutIdeal
    ∧ algebraic_OutIdeal_OutRefIdeal (hOutIdeal := hOutIdeal) (hOutRefIdeal := hOutRefIdeal)
    ∧ preserves_FfnInDw_FfnInDwIdeal
    ∧ algebraic_FfnInDwIdeal_FfnInDwRefIdeal (hFfnInDwIdeal := hFfnInDwIdeal) (hFfnInDwRefIdeal := hFfnInDwRefIdeal)
    ∧ preserves_ProjDw_ProjDwIdeal
    ∧ algebraic_ProjDwIdeal_ProjDwRefIdeal (hProjDwIdeal := hProjDwIdeal) (hProjDwRefIdeal := hProjDwRefIdeal)
    ∧ preserves_FfnOutDw_FfnOutDwIdeal
    ∧ algebraic_FfnOutDwIdeal_FfnOutDwRefIdeal (hFfnOutDwIdeal := hFfnOutDwIdeal) (hFfnOutDwRefIdeal := hFfnOutDwRefIdeal)
    ∧ preserves_Proj_ProjIdeal
    ∧ algebraic_ProjIdeal_ProjRefIdeal (hProjIdeal := hProjIdeal) (hProjRefIdeal := hProjRefIdeal)
    ∧ preserves_FfnInDx_FfnInDxIdeal
    ∧ algebraic_FfnInDxIdeal_FfnInDxRefIdeal_pre_finite_dx (hFfnInDxIdeal := hFfnInDxIdeal) (hFfnInDxRefIdeal := hFfnInDxRefIdeal) (hPre_finite_dx := hPre_finite_dx)
    ∧ preserves_ProjDx_ProjDxIdeal
    ∧ algebraic_ProjDxIdeal_ProjDxRefIdeal_pre_finite_proj_dx (hProjDxIdeal := hProjDxIdeal) (hProjDxRefIdeal := hProjDxRefIdeal) (hPre_finite_proj_dx := hPre_finite_proj_dx)
    ∧ preserves_ProjDxFirst_ProjDxFirstIdeal
    ∧ algebraic_ProjDxFirstIdeal_ProjDxFirstRefIdeal_pre_finite_proj_dx_first (hProjDxFirstIdeal := hProjDxFirstIdeal) (hProjDxFirstRefIdeal := hProjDxFirstRefIdeal) (hPre_finite_proj_dx_first := hPre_finite_proj_dx_first)
    ∧ preserves_LossHead_LossHeadIdeal
    ∧ algebraic_LossHeadIdeal_LossHeadRefIdeal_pre_finite_loss (hLossHeadIdeal := hLossHeadIdeal) (hLossHeadRefIdeal := hLossHeadRefIdeal) (hPre_finite_loss := hPre_finite_loss)
    ∧ preserves_OutDw_OutDwIdeal
    ∧ algebraic_OutDwIdeal_OutDwRefIdeal (hOutDwIdeal := hOutDwIdeal) (hOutDwRefIdeal := hOutDwRefIdeal)
    ∧ preserves_BranchDw_BranchDwIdeal
    ∧ algebraic_BranchDwIdeal_BranchDwRefIdeal (hBranchDwIdeal := hBranchDwIdeal) (hBranchDwRefIdeal := hBranchDwRefIdeal)
    ∧ preserves_BranchDx_BranchDxIdeal
    ∧ algebraic_BranchDxIdeal_BranchDxRefIdeal (hBranchDxIdeal := hBranchDxIdeal) (hBranchDxRefIdeal := hBranchDxRefIdeal)
    ∧ preserves_FfnOutLast_FfnOutLastIdeal
    ∧ algebraic_FfnOutLastIdeal_FfnOutLastRefIdeal (hFfnOutLastIdeal := hFfnOutLastIdeal) (hFfnOutLastRefIdeal := hFfnOutLastRefIdeal)
    ∧ preserves_AdamAda_AdamAdaIdeal
    ∧ algebraic_AdamAdaIdeal_AdamAdaRefIdeal (hAdamAdaIdeal := hAdamAdaIdeal) (hAdamAdaRefIdeal := hAdamAdaRefIdeal)
    ∧ preserves_AdamSmall_AdamSmallIdeal
    ∧ algebraic_AdamSmallIdeal_AdamSmallRefIdeal (hAdamSmallIdeal := hAdamSmallIdeal) (hAdamSmallRefIdeal := hAdamSmallRefIdeal)
    ∧ preserves_AdamIn_AdamInIdeal
    ∧ algebraic_AdamInIdeal_AdamInRefIdeal (hAdamInIdeal := hAdamInIdeal) (hAdamInRefIdeal := hAdamInRefIdeal)
    ∧ preserves_AdamFfnIn_AdamFfnInIdeal
    ∧ algebraic_AdamFfnInIdeal_AdamFfnInRefIdeal (hAdamFfnInIdeal := hAdamFfnInIdeal) (hAdamFfnInRefIdeal := hAdamFfnInRefIdeal)
    ∧ preserves_AdamFfnOut_AdamFfnOutIdeal
    ∧ algebraic_AdamFfnOutIdeal_AdamFfnOutRefIdeal (hAdamFfnOutIdeal := hAdamFfnOutIdeal) (hAdamFfnOutRefIdeal := hAdamFfnOutRefIdeal)
    ∧ preserves_AdamOut_AdamOutIdeal
    ∧ algebraic_AdamOutIdeal_AdamOutRefIdeal (hAdamOutIdeal := hAdamOutIdeal) (hAdamOutRefIdeal := hAdamOutRefIdeal)
    ∧ preserves_AdamBranch_AdamBranchIdeal
    ∧ algebraic_AdamBranchIdeal_AdamBranchRefIdeal (hAdamBranchIdeal := hAdamBranchIdeal) (hAdamBranchRefIdeal := hAdamBranchRefIdeal)
    ∧ preserves_AdamConv_AdamConvIdeal
    ∧ algebraic_AdamConvIdeal_AdamConvRefIdeal (hAdamConvIdeal := hAdamConvIdeal) (hAdamConvRefIdeal := hAdamConvRefIdeal)
    ∧ preserves_AdaDw_AdaDwIdeal
    ∧ algebraic_AdaDwIdeal_AdaDwRefIdeal (hAdaDwIdeal := hAdaDwIdeal) (hAdaDwRefIdeal := hAdaDwRefIdeal)
-- ==== Pre_finite.lean ====
abbrev S4096x512 : Shape := ⟨2, ![4096, 512]⟩
abbrev S256x64x64 : Shape := ⟨3, ![256, 64, 64]⟩
abbrev S64x4 : Shape := ⟨2, ![64, 4]⟩
abbrev S_ : Shape := ⟨0, ![]⟩

class Facts : Prop where
  bitsLt_bf16_f32 : FTy.bits .bf16 < FTy.bits .f32
  bcast_S_S4096x512 : S_.BroadcastsInDim S4096x512 (![] : Fin 0 → Fin S4096x512.rank)
  bcast_S_S256x64x64 : S_.BroadcastsInDim S256x64x64 (![] : Fin 0 → Fin S256x64x64.rank)
  bcast_S_S64x4 : S_.BroadcastsInDim S64x4 (![] : Fin 0 → Fin S64x4.rank)

variable [Facts]

def fn_part1 {F : FTy → Type} [FloatOps F] (main_arg5 : FVec F S4096x512 .f32) (main_v3 : IVec S4096x512 1) (main_v7 : IVec S4096x512 1) (main_v11 : IVec S4096x512 1) (main_v15 : IVec S256x64x64 1) (main_v18 : IVec S64x4 1) : IVec S4096x512 1 × IVec S4096x512 1 × IVec S4096x512 1 × IVec S256x64x64 1 × IVec S64x4 1 × IVec S4096x512 1 :=
  let main_v19 : FVec F S4096x512 .f32 := Host.absf main_arg5
  let main_cst_4 : FVec F S_ .f32 := constant S_ .f32 0x7F800000#32
  let main_v20 : FVec F S4096x512 .f32 := broadcastInDim S4096x512 ![] bcast_S_S4096x512 main_cst_4
  let main_v21 : IVec S4096x512 1 := cmpf .olt main_v19 main_v20
  (main_v3, main_v7, main_v11, main_v15, main_v18, main_v21)

def fn {F : FTy → Type} [FloatOps F] (main_arg0 : FVec F S4096x512 .bf16) (main_arg1 : FVec F S4096x512 .bf16) (main_arg2 : FVec F S4096x512 .bf16) (main_arg3 : FVec F S256x64x64 .bf16) (main_arg4 : FVec F S64x4 .f32) (main_arg5 : FVec F S4096x512 .f32) : IVec S4096x512 1 × IVec S4096x512 1 × IVec S4096x512 1 × IVec S256x64x64 1 × IVec S64x4 1 × IVec S4096x512 1 :=
  let main_v0 : FVec F S4096x512 .f32 := (extf .f32 · bitsLt_bf16_f32) main_arg0
  let main_v1 : FVec F S4096x512 .f32 := Host.absf main_v0
  let main_cst : FVec F S_ .f32 := constant S_ .f32 0x7F800000#32
  let main_v2 : FVec F S4096x512 .f32 := broadcastInDim S4096x512 ![] bcast_S_S4096x512 main_cst
  let main_v3 : IVec S4096x512 1 := cmpf .olt main_v1 main_v2
  let main_v4 : FVec F S4096x512 .f32 := (extf .f32 · bitsLt_bf16_f32) main_arg1
  let main_v5 : FVec F S4096x512 .f32 := Host.absf main_v4
  let main_cst_0 : FVec F S_ .f32 := constant S_ .f32 0x7F800000#32
  let main_v6 : FVec F S4096x512 .f32 := broadcastInDim S4096x512 ![] bcast_S_S4096x512 main_cst_0
  let main_v7 : IVec S4096x512 1 := cmpf .olt main_v5 main_v6
  let main_v8 : FVec F S4096x512 .f32 := (extf .f32 · bitsLt_bf16_f32) main_arg2
  let main_v9 : FVec F S4096x512 .f32 := Host.absf main_v8
  let main_cst_1 : FVec F S_ .f32 := constant S_ .f32 0x7F800000#32
  let main_v10 : FVec F S4096x512 .f32 := broadcastInDim S4096x512 ![] bcast_S_S4096x512 main_cst_1
  let main_v11 : IVec S4096x512 1 := cmpf .olt main_v9 main_v10
  let main_v12 : FVec F S256x64x64 .f32 := (extf .f32 · bitsLt_bf16_f32) main_arg3
  let main_v13 : FVec F S256x64x64 .f32 := Host.absf main_v12
  let main_cst_2 : FVec F S_ .f32 := constant S_ .f32 0x7F800000#32
  let main_v14 : FVec F S256x64x64 .f32 := broadcastInDim S256x64x64 ![] bcast_S_S256x64x64 main_cst_2
  let main_v15 : IVec S256x64x64 1 := cmpf .olt main_v13 main_v14
  let main_v16 : FVec F S64x4 .f32 := Host.absf main_arg4
  let main_cst_3 : FVec F S_ .f32 := constant S_ .f32 0x7F800000#32
  let main_v17 : FVec F S64x4 .f32 := broadcastInDim S64x4 ![] bcast_S_S64x4 main_cst_3
  let main_v18 : IVec S64x4 1 := cmpf .olt main_v16 main_v17
  fn_part1 (F := F) main_arg5 main_v3 main_v7 main_v11 main_v15 main_v18
-- ==== Pre_finite_dx.lean ====
abbrev S2x4096x2816 : Shape := ⟨3, ![2, 4096, 2816]⟩
abbrev S1024x5632 : Shape := ⟨2, ![1024, 5632]⟩
abbrev S4096x1024 : Shape := ⟨2, ![4096, 1024]⟩
abbrev S1024 : Shape := ⟨1, ![1024]⟩
abbrev S1x1024 : Shape := ⟨2, ![1, 1024]⟩
abbrev S_ : Shape := ⟨0, ![]⟩

class Facts : Prop where
  bitsLt_bf16_f32 : FTy.bits .bf16 < FTy.bits .f32
  bcast_S_S2x4096x2816 : S_.BroadcastsInDim S2x4096x2816 (![] : Fin 0 → Fin S2x4096x2816.rank)
  bcast_S_S1024x5632 : S_.BroadcastsInDim S1024x5632 (![] : Fin 0 → Fin S1024x5632.rank)
  bcast_S_S4096x1024 : S_.BroadcastsInDim S4096x1024 (![] : Fin 0 → Fin S4096x1024.rank)
  bcast_S_S1024 : S_.BroadcastsInDim S1024 (![] : Fin 0 → Fin S1024.rank)
  bcast_S_S1x1024 : S_.BroadcastsInDim S1x1024 (![] : Fin 0 → Fin S1x1024.rank)

variable [Facts]

def fn {F : FTy → Type} [FloatOps F] (main_arg0 : FVec F S2x4096x2816 .bf16) (main_arg1 : FVec F S1024x5632 .f32) (main_arg2 : FVec F S4096x1024 .f32) (main_arg3 : FVec F S1024 .f32) (main_arg4 : FVec F S1x1024 .f32) (main_arg5 : FVec F S1x1024 .f32) (main_arg6 : FVec F S4096x1024 .f32) (main_arg7 : FVec F S4096x1024 .f32) (main_arg8 : FVec F S1x1024 .f32) : IVec S2x4096x2816 1 × IVec S1024x5632 1 × IVec S4096x1024 1 × IVec S1024 1 × IVec S1x1024 1 :=
  let main_v0 : FVec F S2x4096x2816 .f32 := (extf .f32 · bitsLt_bf16_f32) main_arg0
  let main_v1 : FVec F S2x4096x2816 .f32 := Host.absf main_v0
  let main_cst : FVec F S_ .f32 := constant S_ .f32 0x7F800000#32
  let main_v2 : FVec F S2x4096x2816 .f32 := broadcastInDim S2x4096x2816 ![] bcast_S_S2x4096x2816 main_cst
  let main_v3 : IVec S2x4096x2816 1 := cmpf .olt main_v1 main_v2
  let main_v4 : FVec F S1024x5632 .f32 := Host.absf main_arg1
  let main_cst_0 : FVec F S_ .f32 := constant S_ .f32 0x7F800000#32
  let main_v5 : FVec F S1024x5632 .f32 := broadcastInDim S1024x5632 ![] bcast_S_S1024x5632 main_cst_0
  let main_v6 : IVec S1024x5632 1 := cmpf .olt main_v4 main_v5
  let main_v7 : FVec F S4096x1024 .f32 := Host.absf main_arg2
  let main_cst_1 : FVec F S_ .f32 := constant S_ .f32 0x7F800000#32
  let main_v8 : FVec F S4096x1024 .f32 := broadcastInDim S4096x1024 ![] bcast_S_S4096x1024 main_cst_1
  let main_v9 : IVec S4096x1024 1 := cmpf .olt main_v7 main_v8
  let main_v10 : FVec F S1024 .f32 := Host.absf main_arg3
  let main_cst_2 : FVec F S_ .f32 := constant S_ .f32 0x7F800000#32
  let main_v11 : FVec F S1024 .f32 := broadcastInDim S1024 ![] bcast_S_S1024 main_cst_2
  let main_v12 : IVec S1024 1 := cmpf .olt main_v10 main_v11
  let main_v13 : FVec F S1x1024 .f32 := Host.absf main_arg4
  let main_cst_3 : FVec F S_ .f32 := constant S_ .f32 0x7F800000#32
  let main_v14 : FVec F S1x1024 .f32 := broadcastInDim S1x1024 ![] bcast_S_S1x1024 main_cst_3
  let main_v15 : IVec S1x1024 1 := cmpf .olt main_v13 main_v14
  (main_v3, main_v6, main_v9, main_v12, main_v15)
-- ==== Pre_finite_loss.lean ====
abbrev S4096x1024 : Shape := ⟨2, ![4096, 1024]⟩
abbrev S1x1024 : Shape := ⟨2, ![1, 1024]⟩
abbrev S1024 : Shape := ⟨1, ![1024]⟩
abbrev S_ : Shape := ⟨0, ![]⟩

class Facts : Prop where
  bcast_S_S4096x1024 : S_.BroadcastsInDim S4096x1024 (![] : Fin 0 → Fin S4096x1024.rank)
  bcast_S_S1x1024 : S_.BroadcastsInDim S1x1024 (![] : Fin 0 → Fin S1x1024.rank)
  bcast_S_S1024 : S_.BroadcastsInDim S1024 (![] : Fin 0 → Fin S1024.rank)

variable [Facts]

def fn {F : FTy → Type} [FloatOps F] (main_arg0 : FVec F S4096x1024 .f32) (main_arg1 : FVec F S4096x1024 .f32) (main_arg2 : FVec F S1x1024 .f32) (main_arg3 : FVec F S1024 .f32) (main_arg4 : FVec F S4096x1024 .f32) : IVec S4096x1024 1 × IVec S4096x1024 1 × IVec S1x1024 1 × IVec S1024 1 × IVec S4096x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S4096x1024 .f32 := Host.absf main_arg1
  let main_cst_0 : FVec F S_ .f32 := constant S_ .f32 0x7F800000#32
  let main_v4 : FVec F S4096x1024 .f32 := broadcastInDim S4096x1024 ![] bcast_S_S4096x1024 main_cst_0
  let main_v5 : IVec S4096x1024 1 := cmpf .olt main_v3 main_v4
  let main_v6 : FVec F S1x1024 .f32 := Host.absf main_arg2
  let main_cst_1 : FVec F S_ .f32 := constant S_ .f32 0x7F800000#32
  let main_v7 : FVec F S1x1024 .f32 := broadcastInDim S1x1024 ![] bcast_S_S1x1024 main_cst_1
  let main_v8 : IVec S1x1024 1 := cmpf .olt main_v6 main_v7
  let main_v9 : FVec F S1024 .f32 := Host.absf main_arg3
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_v12 : FVec F S4096x1024 .f32 := Host.absf main_arg4
  let main_cst_3 : FVec F S_ .f32 := constant S_ .f32 0x7F800000#32
  let main_v13 : FVec F S4096x1024 .f32 := broadcastInDim S4096x1024 ![] bcast_S_S4096x1024 main_cst_3
  let main_v14 : IVec S4096x1024 1 := cmpf .olt main_v12 main_v13
  (main_v2, main_v5, main_v8, main_v11, main_v14)
-- ==== Pre_finite_proj_dx.lean ====
abbrev S4096x5760 : Shape := ⟨2, ![4096, 5760]⟩
abbrev S5760x1024 : Shape := ⟨2, ![5760, 1024]⟩
abbrev S4096x1024 : Shape := ⟨2, ![4096, 1024]⟩
abbrev S1024 : Shape := ⟨1, ![1024]⟩
abbrev S1x1024 : Shape := ⟨2, ![1, 1024]⟩
abbrev S_ : Shape := ⟨0, ![]⟩

class Facts : Prop where
  bitsLt_bf16_f32 : FTy.bits .bf16 < FTy.bits .f32
  bcast_S_S4096x5760 : S_.BroadcastsInDim S4096x5760 (![] : Fin 0 → Fin S4096x5760.rank)
  bcast_S_S5760x1024 : S_.BroadcastsInDim S5760x1024 (![] : Fin 0 → Fin S5760x1024.rank)
  bcast_S_S4096x1024 : S_.BroadcastsInDim S4096x1024 (![] : Fin 0 → Fin S4096x1024.rank)
  bcast_S_S1024 : S_.BroadcastsInDim S1024 (![] : Fin 0 → Fin S1024.rank)
  bcast_S_S1x1024 : S_.BroadcastsInDim S1x1024 (![] : Fin 0 → Fin S1x1024.rank)

variable [Facts]

def fn {F : FTy → Type} [FloatOps F] (main_arg0 : FVec F S4096x5760 .bf16) (main_arg1 : FVec F S5760x1024 .bf16) (main_arg2 : FVec F S4096x1024 .f32) (main_arg3 : FVec F S1024 .f32) (main_arg4 : FVec F S1x1024 .f32) (main_arg5 : FVec F S1x1024 .f32) (main_arg6 : FVec F S4096x1024 .f32) (main_arg7 : FVec F S4096x1024 .f32) (main_arg8 : FVec F S1x1024 .f32) : IVec S4096x5760 1 × IVec S5760x1024 1 × IVec S4096x1024 1 × IVec S1024 1 × IVec S1x1024 1 :=
  let main_v0 : FVec F S4096x5760 .f32 := (extf .f32 · bitsLt_bf16_f32) main_arg0
  let main_v1 : FVec F S4096x5760 .f32 := Host.absf main_v0
  let main_cst : FVec F S_ .f32 := constant S_ .f32 0x7F800000#32
  let main_v2 : FVec F S4096x5760 .f32 := broadcastInDim S4096x5760 ![] bcast_S_S4096x5760 main_cst
  let main_v3 : IVec S4096x5760 1 := cmpf .olt main_v1 main_v2
  let main_v4 : FVec F S5760x1024 .f32 := (extf .f32 · bitsLt_bf16_f32) main_arg1
  let main_v5 : FVec F S5760x1024 .f32 := Host.absf main_v4
  let main_cst_0 : FVec F S_ .f32 := constant S_ .f32 0x7F800000#32
  let main_v6 : FVec F S5760x1024 .f32 := broadcastInDim S5760x1024 ![] bcast_S_S5760x1024 main_cst_0
  let main_v7 : IVec S5760x1024 1 := cmpf .olt main_v5 main_v6
  let main_v8 : FVec F S4096x1024 .f32 := Host.absf main_arg2
  let main_cst_1 : FVec F S_ .f32 := constant S_ .f32 0x7F800000#32
  let main_v9 : FVec F S4096x1024 .f32 := broadcastInDim S4096x1024 ![] bcast_S_S4096x1024 main_cst_1
  let main_v10 : IVec S4096x1024 1 := cmpf .olt main_v8 main_v9
  let main_v11 : FVec F S1024 .f32 := Host.absf main_arg3
  let main_cst_2 : FVec F S_ .f32 := constant S_ .f32 0x7F800000#32
  let main_v12 : FVec F S1024 .f32 := broadcastInDim S1024 ![] bcast_S_S1024 main_cst_2
  let main_v13 : IVec S1024 1 := cmpf .olt main_v11 main_v12
  let main_v14 : FVec F S1x1024 .f32 := Host.absf main_arg4
  let main_cst_3 : FVec F S_ .f32 := constant S_ .f32 0x7F800000#32
  let main_v15 : FVec F S1x1024 .f32 := broadcastInDim S1x1024 ![] bcast_S_S1x1024 main_cst_3
  let main_v16 : IVec S1x1024 1 := cmpf .olt main_v14 main_v15
  (main_v3, main_v7, main_v10, main_v13, main_v16)
-- ==== Pre_finite_proj_dx_first.lean ====
abbrev S4096x5760 : Shape := ⟨2, ![4096, 5760]⟩
abbrev S5760x1024 : Shape := ⟨2, ![5760, 1024]⟩
abbrev S4096x1024 : Shape := ⟨2, ![4096, 1024]⟩
abbrev S1024 : Shape := ⟨1, ![1024]⟩
abbrev S1x1024 : Shape := ⟨2, ![1, 1024]⟩
abbrev S_ : Shape := ⟨0, ![]⟩

class Facts : Prop where
  bitsLt_bf16_f32 : FTy.bits .bf16 < FTy.bits .f32
  bcast_S_S4096x5760 : S_.BroadcastsInDim S4096x5760 (![] : Fin 0 → Fin S4096x5760.rank)
  bcast_S_S5760x1024 : S_.BroadcastsInDim S5760x1024 (![] : Fin 0 → Fin S5760x1024.rank)
  bcast_S_S4096x1024 : S_.BroadcastsInDim S4096x1024 (![] : Fin 0 → Fin S4096x1024.rank)
  bcast_S_S1024 : S_.BroadcastsInDim S1024 (![] : Fin 0 → Fin S1024.rank)
  bcast_S_S1x1024 : S_.BroadcastsInDim S1x1024 (![] : Fin 0 → Fin S1x1024.rank)

variable [Facts]

def fn {F : FTy → Type} [FloatOps F] (main_arg0 : FVec F S4096x5760 .bf16) (main_arg1 : FVec F S5760x1024 .bf16) (main_arg2 : FVec F S4096x1024 .f32) (main_arg3 : FVec F S1024 .f32) (main_arg4 : FVec F S1x1024 .f32) (main_arg5 : FVec F S1x1024 .f32) (main_arg6 : FVec F S4096x1024 .f32) : IVec S4096x5760 1 × IVec S5760x1024 1 × IVec S4096x1024 1 × IVec S1024 1 × IVec S1x1024 1 :=
  let main_v0 : FVec F S4096x5760 .f32 := (extf .f32 · bitsLt_bf16_f32) main_arg0
  let main_v1 : FVec F S4096x5760 .f32 := Host.absf main_v0
  let main_cst : FVec F S_ .f32 := constant S_ .f32 0x7F800000#32
  let main_v2 : FVec F S4096x5760 .f32 := broadcastInDim S4096x5760 ![] bcast_S_S4096x5760 main_cst
  let main_v3 : IVec S4096x5760 1 := cmpf .olt main_v1 main_v2
  let main_v4 : FVec F S5760x1024 .f32 := (extf .f32 · bitsLt_bf16_f32) main_arg1
  let main_v5 : FVec F S5760x1024 .f32 := Host.absf main_v4
  let main_cst_0 : FVec F S_ .f32 := constant S_ .f32 0x7F800000#32
  let main_v6 : FVec F S5760x1024 .f32 := broadcastInDim S5760x1024 ![] bcast_S_S5760x1024 main_cst_0
  let main_v7 : IVec S5760x1024 1 := cmpf .olt main_v5 main_v6
  let main_v8 : FVec F S4096x1024 .f32 := Host.absf main_arg2
  let main_cst_1 : FVec F S_ .f32 := constant S_ .f32 0x7F800000#32
  let main_v9 : FVec F S4096x1024 .f32 := broadcastInDim S4096x1024 ![] bcast_S_S4096x1024 main_cst_1
  let main_v10 : IVec S4096x1024 1 := cmpf .olt main_v8 main_v9
  let main_v11 : FVec F S1024 .f32 := Host.absf main_arg3
  let main_cst_2 : FVec F S_ .f32 := constant S_ .f32 0x7F800000#32
  let main_v12 : FVec F S1024 .f32 := broadcastInDim S1024 ![] bcast_S_S1024 main_cst_2
  let main_v13 : IVec S1024 1 := cmpf .olt main_v11 main_v12
  let main_v14 : FVec F S1x1024 .f32 := Host.absf main_arg4
  let main_cst_3 : FVec F S_ .f32 := constant S_ .f32 0x7F800000#32
  let main_v15 : FVec F S1x1024 .f32 := broadcastInDim S1x1024 ![] bcast_S_S1x1024 main_cst_3
  let main_v16 : IVec S1x1024 1 := cmpf .olt main_v14 main_v15
  (main_v3, main_v7, main_v10, main_v13, main_v16)
-- ==== Pre_finite_swiglu.lean ====
abbrev S4096x1024 : Shape := ⟨2, ![4096, 1024]⟩
abbrev S2816x1024 : Shape := ⟨2, ![2816, 1024]⟩
abbrev S2x4096x2816 : Shape := ⟨3, ![2, 4096, 2816]⟩
abbrev S_ : Shape := ⟨0, ![]⟩

class Facts : Prop where
  bitsLt_bf16_f32 : FTy.bits .bf16 < FTy.bits .f32
  bcast_S_S4096x1024 : S_.BroadcastsInDim S4096x1024 (![] : Fin 0 → Fin S4096x1024.rank)
  bcast_S_S2816x1024 : S_.BroadcastsInDim S2816x1024 (![] : Fin 0 → Fin S2816x1024.rank)
  bcast_S_S2x4096x2816 : S_.BroadcastsInDim S2x4096x2816 (![] : Fin 0 → Fin S2x4096x2816.rank)

variable [Facts]

def fn {F : FTy → Type} [FloatOps F] (main_arg0 : FVec F S4096x1024 .bf16) (main_arg1 : FVec F S2816x1024 .f32) (main_arg2 : FVec F S2x4096x2816 .bf16) : IVec S4096x1024 1 × IVec S2816x1024 1 × IVec S2x4096x2816 1 :=
  let main_v0 : FVec F S4096x1024 .f32 := (extf .f32 · bitsLt_bf16_f32) main_arg0
  let main_v1 : FVec F S4096x1024 .f32 := Host.absf main_v0
  let main_cst : FVec F S_ .f32 := constant S_ .f32 0x7F800000#32
  let main_v2 : FVec F S4096x1024 .f32 := broadcastInDim S4096x1024 ![] bcast_S_S4096x1024 main_cst
  let main_v3 : IVec S4096x1024 1 := cmpf .olt main_v1 main_v2
  let main_v4 : FVec F S2816x1024 .f32 := Host.absf main_arg1
  let main_cst_0 : FVec F S_ .f32 := constant S_ .f32 0x7F800000#32
  let main_v5 : FVec F S2816x1024 .f32 := broadcastInDim S2816x1024 ![] bcast_S_S2816x1024 main_cst_0
  let main_v6 : IVec S2816x1024 1 := cmpf .olt main_v4 main_v5
  let main_v7 : FVec F S2x4096x2816 .f32 := (extf .f32 · bitsLt_bf16_f32) main_arg2
  let main_v8 : FVec F S2x4096x2816 .f32 := Host.absf main_v7
  let main_cst_1 : FVec F S_ .f32 := constant S_ .f32 0x7F800000#32
  let main_v9 : FVec F S2x4096x2816 .f32 := broadcastInDim S2x4096x2816 ![] bcast_S_S2x4096x2816 main_cst_1
  let main_v10 : IVec S2x4096x2816 1 := cmpf .olt main_v8 main_v9
  (main_v3, main_v6, main_v10)
-- ==== Kernel.lean ====
abbrev S4096x512 : Shape := ⟨2, ![4096, 512]⟩
abbrev S256x64x64 : Shape := ⟨3, ![256, 64, 64]⟩
abbrev S64x4 : Shape := ⟨2, ![64, 4]⟩
abbrev S_ : Shape := ⟨0, ![]⟩
abbrev S64x128 : Shape := ⟨2, ![64, 128]⟩
abbrev S64x1x128 : Shape := ⟨3, ![64, 1, 128]⟩
abbrev S64x8x128 : Shape := ⟨3, ![64, 8, 128]⟩
abbrev S512x128 : Shape := ⟨2, ![512, 128]⟩
abbrev S256x128x128 : Shape := ⟨3, ![256, 128, 128]⟩
abbrev S64x512 : Shape := ⟨2, ![64, 512]⟩
abbrev S4x64x64 : Shape := ⟨3, ![4, 64, 64]⟩
abbrev S8x128 : Shape := ⟨2, ![8, 128]⟩
abbrev S4x128x128 : Shape := ⟨3, ![4, 128, 128]⟩
abbrev S1x128 : Shape := ⟨2, ![1, 128]⟩
abbrev S1x128x128 : Shape := ⟨3, ![1, 128, 128]⟩
abbrev S128x128 : Shape := ⟨2, ![128, 128]⟩
abbrev S1x64x64 : Shape := ⟨3, ![1, 64, 64]⟩
abbrev S64x64 : Shape := ⟨2, ![64, 64]⟩
abbrev S1 : Shape := ⟨1, ![1]⟩
abbrev S1x1 : Shape := ⟨2, ![1, 1]⟩

abbrev nBuf : Space → Nat
  | .hbm => 14
  | .vmem => 17
  | .smem => 0
  | _ => 0

abbrev bufTy : (tb : Table) → Fin (tcTables nBuf tb) → BufTy
  | .hbm, ⟨0, _⟩ => ⟨S4096x512, .bf16⟩
  | .hbm, ⟨1, _⟩ => ⟨S4096x512, .bf16⟩
  | .hbm, ⟨2, _⟩ => ⟨S4096x512, .bf16⟩
  | .hbm, ⟨3, _⟩ => ⟨S256x64x64, .bf16⟩
  | .hbm, ⟨4, _⟩ => ⟨S64x4, .f32⟩
  | .hbm, ⟨5, _⟩ => ⟨S4096x512, .f32⟩
  | .hbm, ⟨6, _⟩ => ⟨S_, .i32⟩
  | .hbm, ⟨7, _⟩ => ⟨S_, .f32⟩
  | .hbm, ⟨8, _⟩ => ⟨S64x128, .f32⟩
  | .hbm, ⟨9, _⟩ => ⟨S64x1x128, .f32⟩
  | .hbm, ⟨10, _⟩ => ⟨S64x8x128, .f32⟩
  | .hbm, ⟨11, _⟩ => ⟨S512x128, .f32⟩
  | .hbm, ⟨12, _⟩ => ⟨S4096x512, .f32⟩
  | .hbm, ⟨13, _⟩ => ⟨S256x128x128, .f32⟩
  | .local _ .vmem, ⟨0, _⟩ => ⟨S64x512, .bf16⟩
  | .local _ .vmem, ⟨1, _⟩ => ⟨S64x512, .bf16⟩
  | .local _ .vmem, ⟨2, _⟩ => ⟨S64x512, .bf16⟩
  | .local _ .vmem, ⟨3, _⟩ => ⟨S64x512, .bf16⟩
  | .local _ .vmem, ⟨4, _⟩ => ⟨S64x512, .bf16⟩
  | .local _ .vmem, ⟨5, _⟩ => ⟨S64x512, .bf16⟩
  | .local _ .vmem, ⟨6, _⟩ => ⟨S4x64x64, .bf16⟩
  | .local _ .vmem, ⟨7, _⟩ => ⟨S4x64x64, .bf16⟩
  | .local _ .vmem, ⟨8, _⟩ => ⟨S8x128, .f32⟩
  | .local _ .vmem, ⟨9, _⟩ => ⟨S8x128, .f32⟩
  | .local _ .vmem, ⟨10, _⟩ => ⟨S64x512, .f32⟩
  | .local _ .vmem, ⟨11, _⟩ => ⟨S64x512, .f32⟩
  | .local _ .vmem, ⟨12, _⟩ => ⟨S64x512, .f32⟩
  | .local _ .vmem, ⟨13, _⟩ => ⟨S64x512, .f32⟩
  | .local _ .vmem, ⟨14, _⟩ => ⟨S4x128x128, .f32⟩
  | .local _ .vmem, ⟨15, _⟩ => ⟨S4x128x128, .f32⟩
  | .local _ .vmem, ⟨16, _⟩ => ⟨S4x128x128, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_call0_v0 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4_0 : Ref sig .tc := ⟨.hbm, 12, rfl⟩
abbrev main_v4_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_3 (i : grid0.Coords) : Fin 3 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  let c0_i32_1 : BitVec 32 := 0#32
  ![v0.toNat, c0_i32.toNat, c0_i32_0.toNat]

def cc0_transform_4 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_7 (i : grid0.Coords) : Fin 3 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  let c0_i32_1 : BitVec 32 := 0#32
  ![v0.toNat, c0_i32.toNat, c0_i32_0.toNat]

abbrev stage0_0 : Fin 2 → Memref sig .tc .vmem S64x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x64x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S4096x512 : Shape := ⟨2, ![4096, 512]⟩
abbrev S256x64x64 : Shape := ⟨3, ![256, 64, 64]⟩
abbrev S64x4 : Shape := ⟨2, ![64, 4]⟩
abbrev S1x64x64x4x128 : Shape := ⟨5, ![1, 64, 64, 4, 128]⟩
abbrev S1x64x4x64x128 : Shape := ⟨5, ![1, 64, 4, 64, 128]⟩
abbrev S1x64x4x64x64 : Shape := ⟨5, ![1, 64, 4, 64, 64]⟩
abbrev S1x64x4 : Shape := ⟨3, ![1, 64, 4]⟩
abbrev S1x64x4x1x1 : Shape := ⟨5, ![1, 64, 4, 1, 1]⟩
abbrev S64x1x4x64x128 : Shape := ⟨5, ![64, 1, 4, 64, 128]⟩
abbrev S64x1x4x64x64 : Shape := ⟨5, ![64, 1, 4, 64, 64]⟩
abbrev S64x1x4x1x1 : Shape := ⟨5, ![64, 1, 4, 1, 1]⟩
abbrev S_ : Shape := ⟨0, ![]⟩
abbrev S1x4x128x128 : Shape := ⟨4, ![1, 4, 128, 128]⟩
abbrev S64x1x4x128x128 : Shape := ⟨5, ![64, 1, 4, 128, 128]⟩
abbrev S1x1x4x64x128 : Shape := ⟨5, ![1, 1, 4, 64, 128]⟩
abbrev S1x4x64x128 : Shape := ⟨4, ![1, 4, 64, 128]⟩
abbrev S1x1x4x1x1 : Shape := ⟨5, ![1, 1, 4, 1, 1]⟩
abbrev S1x4x1x1 : Shape := ⟨4, ![1, 4, 1, 1]⟩
abbrev S1x1x4x64x64 : Shape := ⟨5, ![1, 1, 4, 64, 64]⟩
abbrev S1x4x64x64 : Shape := ⟨4, ![1, 4, 64, 64]⟩
abbrev S1x4x128x64 : Shape := ⟨4, ![1, 4, 128, 64]⟩
abbrev S1x1x4x128x128 : Shape := ⟨5, ![1, 1, 4, 128, 128]⟩
abbrev S1x64x4x128x128 : Shape := ⟨5, ![1, 64, 4, 128, 128]⟩
abbrev S256x128x128 : Shape := ⟨3, ![256, 128, 128]⟩

abbrev nBuf : Space → Nat
  | .hbm => 119
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x512, .bf16⟩
  | .hbm, ⟨2, _⟩ => ⟨S4096x512, .bf16⟩
  | .hbm, ⟨3, _⟩ => ⟨S256x64x64, .bf16⟩
  | .hbm, ⟨4, _⟩ => ⟨S64x4, .f32⟩
  | .hbm, ⟨5, _⟩ => ⟨S4096x512, .f32⟩
  | .hbm, ⟨6, _⟩ => ⟨S4096x512, .f32⟩
  | .hbm, ⟨7, _⟩ => ⟨S1x64x64x4x128, .f32⟩
  | .hbm, ⟨8, _⟩ => ⟨S1x64x4x64x128, .f32⟩
  | .hbm, ⟨9, _⟩ => ⟨S4096x512, .f32⟩
  | .hbm, ⟨10, _⟩ => ⟨S1x64x64x4x128, .f32⟩
  | .hbm, ⟨11, _⟩ => ⟨S1x64x4x64x128, .f32⟩
  | .hbm, ⟨12, _⟩ => ⟨S4096x512, .f32⟩
  | .hbm, ⟨13, _⟩ => ⟨S1x64x64x4x128, .f32⟩
  | .hbm, ⟨14, _⟩ => ⟨S1x64x4x64x128, .f32⟩
  | .hbm, ⟨15, _⟩ => ⟨S1x64x64x4x128, .f32⟩
  | .hbm, ⟨16, _⟩ => ⟨S1x64x4x64x128, .f32⟩
  | .hbm, ⟨17, _⟩ => ⟨S256x64x64, .f32⟩
  | .hbm, ⟨18, _⟩ => ⟨S1x64x4x64x64, .f32⟩
  | .hbm, ⟨19, _⟩ => ⟨S1x64x4, .f32⟩
  | .hbm, ⟨20, _⟩ => ⟨S1x64x4x1x1, .f32⟩
  | .hbm, ⟨21, _⟩ => ⟨S64x1x4x64x128, .f32⟩
  | .hbm, ⟨22, _⟩ => ⟨S64x1x4x64x64, .f32⟩
  | .hbm, ⟨23, _⟩ => ⟨S64x1x4x64x128, .f32⟩
  | .hbm, ⟨24, _⟩ => ⟨S64x1x4x64x128, .f32⟩
  | .hbm, ⟨25, _⟩ => ⟨S64x1x4x1x1, .f32⟩
  | .hbm, ⟨26, _⟩ => ⟨S64x1x4x64x128, .f32⟩
  | .hbm, ⟨27, _⟩ => ⟨S_, .f32⟩
  | .hbm, ⟨28, _⟩ => ⟨S1x4x128x128, .f32⟩
  | .hbm, ⟨29, _⟩ => ⟨S_, .f32⟩
  | .hbm, ⟨30, _⟩ => ⟨S64x1x4x64x128, .f32⟩
  | .hbm, ⟨31, _⟩ => ⟨S_, .f32⟩
  | .hbm, ⟨32, _⟩ => ⟨S64x1x4x128x128, .f32⟩
  | .hbm, ⟨33, _⟩ => ⟨S_, .i32⟩
  | .hbm, ⟨34, _⟩ => ⟨S64x1x4x64x128, .f32⟩
  | .hbm, ⟨35, _⟩ => ⟨S64x1x4x1x1, .f32⟩
  | .hbm, ⟨36, _⟩ => ⟨S64x1x4x64x128, .f32⟩
  | .hbm, ⟨37, _⟩ => ⟨S64x1x4x64x128, .f32⟩
  | .hbm, ⟨38, _⟩ => ⟨S64x1x4x64x128, .f32⟩
  | .hbm, ⟨39, _⟩ => ⟨S64x1x4x64x64, .f32⟩
  | .hbm, ⟨40, _⟩ => ⟨S_, .i32⟩
  | .hbm, ⟨41, _⟩ => ⟨S1x4x128x128, .f32⟩
  | .hbm, ⟨42, _⟩ => ⟨S64x1x4x64x128, .f32⟩
  | .hbm, ⟨43, _⟩ => ⟨S64x1x4x128x128, .f32⟩
  | .hbm, ⟨44, _⟩ => ⟨S_, .i32⟩
  | .hbm, ⟨45, _⟩ => ⟨S_, .i1⟩
  | .hbm, ⟨46, _⟩ => ⟨S_, .i32⟩
  | .hbm, ⟨47, _⟩ => ⟨S_, .i32⟩
  | .hbm, ⟨48, _⟩ => ⟨S_, .i32⟩
  | .hbm, ⟨49, _⟩ => ⟨S_, .i32⟩
  | .hbm, ⟨50, _⟩ => ⟨S_, .i32⟩
  | .hbm, ⟨51, _⟩ => ⟨S_, .i32⟩
  | .hbm, ⟨52, _⟩ => ⟨S_, .i32⟩
  | .hbm, ⟨53, _⟩ => ⟨S_, .i32⟩
  | .hbm, ⟨54, _⟩ => ⟨S1x1x4x64x128, .f32⟩
  | .hbm, ⟨55, _⟩ => ⟨S1x4x64x128, .f32⟩
  | .hbm, ⟨56, _⟩ => ⟨S_, .i32⟩
  | .hbm, ⟨57, _⟩ => ⟨S_, .i32⟩
  | .hbm, ⟨58, _⟩ => ⟨S_, .i32⟩
  | .hbm, ⟨59, _⟩ => ⟨S_, .i32⟩
  | .hbm, ⟨60, _⟩ => ⟨S1x1x4x1x1, .f32⟩
  | .hbm, ⟨61, _⟩ => ⟨S1x4x1x1, .f32⟩
  | .hbm, ⟨62, _⟩ => ⟨S_, .i32⟩
  | .hbm, ⟨63, _⟩ => ⟨S_, .i32⟩
  | .hbm, ⟨64, _⟩ => ⟨S_, .i32⟩
  | .hbm, ⟨65, _⟩ => ⟨S_, .i32⟩
  | .hbm, ⟨66, _⟩ => ⟨S1x1x4x64x128, .f32⟩
  | .hbm, ⟨67, _⟩ => ⟨S1x4x64x128, .f32⟩
  | .hbm, ⟨68, _⟩ => ⟨S_, .i32⟩
  | .hbm, ⟨69, _⟩ => ⟨S_, .i32⟩
  | .hbm, ⟨70, _⟩ => ⟨S_, .i32⟩
  | .hbm, ⟨71, _⟩ => ⟨S_, .i32⟩
  | .hbm, ⟨72, _⟩ => ⟨S1x1x4x64x128, .f32⟩
  | .hbm, ⟨73, _⟩ => ⟨S1x4x64x128, .f32⟩
  | .hbm, ⟨74, _⟩ => ⟨S_, .i32⟩
  | .hbm, ⟨75, _⟩ => ⟨S_, .i32⟩
  | .hbm, ⟨76, _⟩ => ⟨S_, .i32⟩
  | .hbm, ⟨77, _⟩ => ⟨S_, .i32⟩
  | .hbm, ⟨78, _⟩ => ⟨S1x1x4x64x128, .f32⟩
  | .hbm, ⟨79, _⟩ => ⟨S1x4x64x128, .f32⟩
  | .hbm, ⟨80, _⟩ => ⟨S_, .i32⟩
  | .hbm, ⟨81, _⟩ => ⟨S_, .i32⟩
  | .hbm, ⟨82, _⟩ => ⟨S_, .i32⟩
  | .hbm, ⟨83, _⟩ => ⟨S_, .i32⟩
  | .hbm, ⟨84, _⟩ => ⟨S1x1x4x64x64, .f32⟩
  | .hbm, ⟨85, _⟩ => ⟨S1x4x64x64, .f32⟩
  | .hbm, ⟨86, _⟩ => ⟨S1x4x128x64, .f32⟩
  | .hbm, ⟨87, _⟩ => ⟨S1x4x64x128, .f32⟩
  | .hbm, ⟨88, _⟩ => ⟨S1x4x128x128, .f32⟩
  | .hbm, ⟨89, _⟩ => ⟨S1x4x128x128, .f32⟩
  | .hbm, ⟨90, _⟩ => ⟨S1x4x128x64, .f32⟩
  | .hbm, ⟨91, _⟩ => ⟨S1x4x64x128, .f32⟩
  | .hbm, ⟨92, _⟩ => ⟨S1x4x64x128, .f32⟩
  | .hbm, ⟨93, _⟩ => ⟨S1x4x128x128, .f32⟩
  | .hbm, ⟨94, _⟩ => ⟨S1x4x128x128, .f32⟩
  | .hbm, ⟨95, _⟩ => ⟨S1x4x128x128, .f32⟩
  | .hbm, ⟨96, _⟩ => ⟨S1x4x64x128, .f32⟩
  | .hbm, ⟨97, _⟩ => ⟨S1x4x128x128, .f32⟩
  | .hbm, ⟨98, _⟩ => ⟨S1x4x128x128, .f32⟩
  | .hbm, ⟨99, _⟩ => ⟨S1x4x128x128, .f32⟩
  | .hbm, ⟨100, _⟩ => ⟨S1x1x4x64x128, .f32⟩
  | .hbm, ⟨101, _⟩ => ⟨S_, .i32⟩
  | .hbm, ⟨102, _⟩ => ⟨S_, .i32⟩
  | .hbm, ⟨103, _⟩ => ⟨S_, .i32⟩
  | .hbm, ⟨104, _⟩ => ⟨S_, .i32⟩
  | .hbm, ⟨105, _⟩ => ⟨S64x1x4x64x128, .f32⟩
  | .hbm, ⟨106, _⟩ => ⟨S1x1x4x128x128, .f32⟩
  | .hbm, ⟨107, _⟩ => ⟨S_, .i32⟩
  | .hbm, ⟨108, _⟩ => ⟨S_, .i32⟩
  | .hbm, ⟨109, _⟩ => ⟨S_, .i32⟩
  | .hbm, ⟨110, _⟩ => ⟨S_, .i32⟩
  | .hbm, ⟨111, _⟩ => ⟨S64x1x4x128x128, .f32⟩
  | .hbm, ⟨112, _⟩ => ⟨S_, .i32⟩
  | .hbm, ⟨113, _⟩ => ⟨S_, .i32⟩
  | .hbm, ⟨114, _⟩ => ⟨S1x64x4x128x128, .f32⟩
  | .hbm, ⟨115, _⟩ => ⟨S1x64x4x64x128, .f32⟩
  | .hbm, ⟨116, _⟩ => ⟨S1x64x64x4x128, .f32⟩
  | .hbm, ⟨117, _⟩ => ⟨S4096x512, .f32⟩
  | .hbm, ⟨118, _⟩ => ⟨S256x128x128, .f32⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst : Ref sig .tc := ⟨.hbm, 27, rfl⟩
abbrev main_v21 : Ref sig .tc := ⟨.hbm, 28, rfl⟩
abbrev main_cst_0 : Ref sig .tc := ⟨.hbm, 29, rfl⟩
abbrev main_v22 : Ref sig .tc := ⟨.hbm, 30, rfl⟩
abbrev main_cst_1 : Ref sig .tc := ⟨.hbm, 31, rfl⟩
abbrev main_v23 : Ref sig .tc := ⟨.hbm, 32, rfl⟩
abbrev main_c : Ref sig .tc := ⟨.hbm, 33, rfl⟩
abbrev main_v24_0 : Ref sig .tc := ⟨.hbm, 34, rfl⟩
abbrev main_v24_1 : Ref sig .tc := ⟨.hbm, 35, rfl⟩
abbrev main_v24_2 : Ref sig .tc := ⟨.hbm, 36, rfl⟩
abbrev main_v24_3 : Ref sig .tc := ⟨.hbm, 37, rfl⟩
abbrev main_v24_4 : Ref sig .tc := ⟨.hbm, 38, rfl⟩
abbrev main_v24_5 : Ref sig .tc := ⟨.hbm, 39, rfl⟩
abbrev main_v24_6 : Ref sig .tc := ⟨.hbm, 40, rfl⟩
abbrev main_v24_7 : Ref sig .tc := ⟨.hbm, 41, rfl⟩
abbrev main_v24_8 : Ref sig .tc := ⟨.hbm, 42, rfl⟩
abbrev main_v24_9 : Ref sig .tc := ⟨.hbm, 43, rfl⟩
abbrev main_while0c_c_11 : Ref sig .tc := ⟨.hbm, 44, rfl⟩
abbrev main_while0c_v30 : Ref sig .tc := ⟨.hbm, 45, rfl⟩
abbrev main_while0b_c_11 : Ref sig .tc := ⟨.hbm, 46, rfl⟩
abbrev main_while0b_v30 : Ref sig .tc := ⟨.hbm, 47, rfl⟩
abbrev main_while0b_c_12 : Ref sig .tc := ⟨.hbm, 48, rfl⟩
abbrev main_while0b_v31 : Ref sig .tc := ⟨.hbm, 49, rfl⟩
abbrev main_while0b_call0_c : Ref sig .tc := ⟨.hbm, 50, rfl⟩
abbrev main_while0b_call0_c_0 : Ref sig .tc := ⟨.hbm, 51, rfl⟩
abbrev main_while0b_call0_c_1 : Ref sig .tc := ⟨.hbm, 52, rfl⟩
abbrev main_while0b_call0_c_2 : Ref sig .tc := ⟨.hbm, 53, rfl⟩
abbrev main_while0b_call0_v0 : Ref sig .tc := ⟨.hbm, 54, rfl⟩
abbrev main_while0b_v32 : Ref sig .tc := ⟨.hbm, 55, rfl⟩
abbrev main_while0b_call1_c : Ref sig .tc := ⟨.hbm, 56, rfl⟩
abbrev main_while0b_call1_c_0 : Ref sig .tc := ⟨.hbm, 57, rfl⟩
abbrev main_while0b_call1_c_1 : Ref sig .tc := ⟨.hbm, 58, rfl⟩
abbrev main_while0b_call1_c_2 : Ref sig .tc := ⟨.hbm, 59, rfl⟩
abbrev main_while0b_call1_v0 : Ref sig .tc := ⟨.hbm, 60, rfl⟩
abbrev main_while0b_v33 : Ref sig .tc := ⟨.hbm, 61, rfl⟩
abbrev main_while0b_call2_c : Ref sig .tc := ⟨.hbm, 62, rfl⟩
abbrev main_while0b_call2_c_0 : Ref sig .tc := ⟨.hbm, 63, rfl⟩
abbrev main_while0b_call2_c_1 : Ref sig .tc := ⟨.hbm, 64, rfl⟩
abbrev main_while0b_call2_c_2 : Ref sig .tc := ⟨.hbm, 65, rfl⟩
abbrev main_while0b_call2_v0 : Ref sig .tc := ⟨.hbm, 66, rfl⟩
abbrev main_while0b_v34 : Ref sig .tc := ⟨.hbm, 67, rfl⟩
abbrev main_while0b_call3_c : Ref sig .tc := ⟨.hbm, 68, rfl⟩
abbrev main_while0b_call3_c_0 : Ref sig .tc := ⟨.hbm, 69, rfl⟩
abbrev main_while0b_call3_c_1 : Ref sig .tc := ⟨.hbm, 70, rfl⟩
abbrev main_while0b_call3_c_2 : Ref sig .tc := ⟨.hbm, 71, rfl⟩
abbrev main_while0b_call3_v0 : Ref sig .tc := ⟨.hbm, 72, rfl⟩
abbrev main_while0b_v35 : Ref sig .tc := ⟨.hbm, 73, rfl⟩
abbrev main_while0b_call4_c : Ref sig .tc := ⟨.hbm, 74, rfl⟩
abbrev main_while0b_call4_c_0 : Ref sig .tc := ⟨.hbm, 75, rfl⟩
abbrev main_while0b_call4_c_1 : Ref sig .tc := ⟨.hbm, 76, rfl⟩
abbrev main_while0b_call4_c_2 : Ref sig .tc := ⟨.hbm, 77, rfl⟩
abbrev main_while0b_call4_v0 : Ref sig .tc := ⟨.hbm, 78, rfl⟩
abbrev main_while0b_v36 : Ref sig .tc := ⟨.hbm, 79, rfl⟩
abbrev main_while0b_call5_c : Ref sig .tc := ⟨.hbm, 80, rfl⟩
abbrev main_while0b_call5_c_0 : Ref sig .tc := ⟨.hbm, 81, rfl⟩
abbrev main_while0b_call5_c_1 : Ref sig .tc := ⟨.hbm, 82, rfl⟩
abbrev main_while0b_call5_c_2 : Ref sig .tc := ⟨.hbm, 83, rfl⟩
abbrev main_while0b_call5_v0 : Ref sig .tc := ⟨.hbm, 84, rfl⟩
abbrev main_while0b_v37 : Ref sig .tc := ⟨.hbm, 85, rfl⟩
abbrev main_while0b_v38 : Ref sig .tc := ⟨.hbm, 86, rfl⟩
abbrev main_while0b_v39 : Ref sig .tc := ⟨.hbm, 87, rfl⟩
abbrev main_while0b_v40 : Ref sig .tc := ⟨.hbm, 88, rfl⟩
abbrev main_while0b_v41 : Ref sig .tc := ⟨.hbm, 89, rfl⟩
abbrev main_while0b_v42 : Ref sig .tc := ⟨.hbm, 90, rfl⟩
abbrev main_while0b_v43 : Ref sig .tc := ⟨.hbm, 91, rfl⟩
abbrev main_while0b_v44 : Ref sig .tc := ⟨.hbm, 92, rfl⟩
abbrev main_while0b_v45 : Ref sig .tc := ⟨.hbm, 93, rfl⟩
abbrev main_while0b_v46 : Ref sig .tc := ⟨.hbm, 94, rfl⟩
abbrev main_while0b_v47 : Ref sig .tc := ⟨.hbm, 95, rfl⟩
abbrev main_while0b_v48 : Ref sig .tc := ⟨.hbm, 96, rfl⟩
abbrev main_while0b_v49 : Ref sig .tc := ⟨.hbm, 97, rfl⟩
abbrev main_while0b_v50 : Ref sig .tc := ⟨.hbm, 98, rfl⟩
abbrev main_while0b_v51 : Ref sig .tc := ⟨.hbm, 99, rfl⟩
abbrev main_while0b_call6_v0 : Ref sig .tc := ⟨.hbm, 100, rfl⟩
abbrev main_while0b_call6_c : Ref sig .tc := ⟨.hbm, 101, rfl⟩
abbrev main_while0b_call6_c_0 : Ref sig .tc := ⟨.hbm, 102, rfl⟩
abbrev main_while0b_call6_c_1 : Ref sig .tc := ⟨.hbm, 103, rfl⟩
abbrev main_while0b_call6_c_2 : Ref sig .tc := ⟨.hbm, 104, rfl⟩
abbrev main_while0b_v52 : Ref sig .tc := ⟨.hbm, 105, rfl⟩
abbrev main_while0b_call7_v0 : Ref sig .tc := ⟨.hbm, 106, rfl⟩
abbrev main_while0b_call7_c : Ref sig .tc := ⟨.hbm, 107, rfl⟩
abbrev main_while0b_call7_c_0 : Ref sig .tc := ⟨.hbm, 108, rfl⟩
abbrev main_while0b_call7_c_1 : Ref sig .tc := ⟨.hbm, 109, rfl⟩
abbrev main_while0b_call7_c_2 : Ref sig .tc := ⟨.hbm, 110, rfl⟩
abbrev main_while0b_v53 : Ref sig .tc := ⟨.hbm, 111, rfl⟩
abbrev main_while0b_c_13 : Ref sig .tc := ⟨.hbm, 112, rfl⟩
abbrev main_while0b_v54 : Ref sig .tc := ⟨.hbm, 113, rfl⟩
abbrev main_v25 : Ref sig .tc := ⟨.hbm, 114, rfl⟩
abbrev main_v26 : Ref sig .tc := ⟨.hbm, 115, rfl⟩
abbrev main_v27 : Ref sig .tc := ⟨.hbm, 116, rfl⟩
abbrev main_v28 : Ref sig .tc := ⟨.hbm, 117, rfl⟩
abbrev main_v29 : Ref sig .tc := ⟨.hbm, 118, rfl⟩

abbrev nD : Nat := 1
abbrev τ : Topo := Topo.v7x

variable {F : FTy → Type} [FloatOps F]

abbrev main_while0_count : Scf.Loop 32 := ⟨0#32, 64#32, 1#32⟩
-- ==== Swiglu.lean ====
abbrev S4096x1024 : Shape := ⟨2, ![4096, 1024]⟩
abbrev S1024x5632 : Shape := ⟨2, ![1024, 5632]⟩
abbrev S5632x1024 : Shape := ⟨2, ![5632, 1024]⟩
abbrev S2x4096x2816 : Shape := ⟨3, ![2, 4096, 2816]⟩
abbrev S4096x2816 : Shape := ⟨2, ![4096, 2816]⟩
abbrev S1024x1024 : Shape := ⟨2, ![1024, 1024]⟩
abbrev S1408x1024 : Shape := ⟨2, ![1408, 1024]⟩
abbrev S2x1024x1408 : Shape := ⟨3, ![2, 1024, 1408]⟩
abbrev S1024x1408 : Shape := ⟨2, ![1024, 1408]⟩
abbrev S1x1024x1408 : Shape := ⟨3, ![1, 1024, 1408]⟩

abbrev nBuf : Space → Nat
  | .hbm => 6
  | .vmem => 10
  | .smem => 0
  | _ => 0

abbrev bufTy : (tb : Table) → Fin (tcTables nBuf tb) → BufTy
  | .hbm, ⟨0, _⟩ => ⟨S4096x1024, .bf16⟩
  | .hbm, ⟨1, _⟩ => ⟨S1024x5632, .f32⟩
  | .hbm, ⟨2, _⟩ => ⟨S5632x1024, .f32⟩
  | .hbm, ⟨3, _⟩ => ⟨S5632x1024, .bf16⟩
  | .hbm, ⟨4, _⟩ => ⟨S2x4096x2816, .bf16⟩
  | .hbm, ⟨5, _⟩ => ⟨S4096x2816, .bf16⟩
  | .local _ .vmem, ⟨0, _⟩ => ⟨S1024x1024, .bf16⟩
  | .local _ .vmem, ⟨1, _⟩ => ⟨S1024x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1408x1024, .bf16⟩
  | .local _ .vmem, ⟨5, _⟩ => ⟨S1408x1024, .bf16⟩
  | .local _ .vmem, ⟨6, _⟩ => ⟨S2x1024x1408, .bf16⟩
  | .local _ .vmem, ⟨7, _⟩ => ⟨S2x1024x1408, .bf16⟩
  | .local _ .vmem, ⟨8, _⟩ => ⟨S1024x1408, .bf16⟩
  | .local _ .vmem, ⟨9, _⟩ => ⟨S1024x1408, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg1 c2_i32
  let c0_i32 : BitVec 32 := 0#32
  let c0_i32_0 : BitVec 32 := 0#32
  ![v0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2x1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== SwigluRefIdeal.lean ====
abbrev S4096x1024 : Shape := ⟨2, ![4096, 1024]⟩
abbrev S1024x5632 : Shape := ⟨2, ![1024, 5632]⟩
abbrev S4096x5632 : Shape := ⟨2, ![4096, 5632]⟩
abbrev S4096x2816 : Shape := ⟨2, ![4096, 2816]⟩
abbrev S1x4096x2816 : Shape := ⟨3, ![1, 4096, 2816]⟩
abbrev S2x4096x2816 : Shape := ⟨3, ![2, 4096, 2816]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x5632, .f32⟩
  | .hbm, ⟨2, _⟩ => ⟨S4096x1024, .f32⟩
  | .hbm, ⟨3, _⟩ => ⟨S4096x5632, .f32⟩
  | .hbm, ⟨4, _⟩ => ⟨S4096x2816, .f32⟩
  | .hbm, ⟨5, _⟩ => ⟨S4096x2816, .f32⟩
  | .hbm, ⟨6, _⟩ => ⟨S1x4096x2816, .f32⟩
  | .hbm, ⟨7, _⟩ => ⟨S1x4096x2816, .f32⟩
  | .hbm, ⟨8, _⟩ => ⟨S2x4096x2816, .f32⟩
  | .hbm, ⟨9, _⟩ => ⟨S2x4096x2816, .bf16⟩
  | .hbm, ⟨10, _⟩ => ⟨S4096x2816, .f32⟩
  | .hbm, ⟨11, _⟩ => ⟨S4096x2816, .f32⟩
  | .hbm, ⟨12, _⟩ => ⟨S_, .f32⟩
  | .hbm, ⟨13, _⟩ => ⟨S4096x2816, .f32⟩
  | .hbm, ⟨14, _⟩ => ⟨S4096x2816, .f32⟩
  | .hbm, ⟨15, _⟩ => ⟨S_, .f32⟩
  | .hbm, ⟨16, _⟩ => ⟨S4096x2816, .f32⟩
  | .hbm, ⟨17, _⟩ => ⟨S4096x2816, .f32⟩
  | .hbm, ⟨18, _⟩ => ⟨S4096x2816, .f32⟩
  | .hbm, ⟨19, _⟩ => ⟨S4096x2816, .f32⟩
  | .hbm, ⟨20, _⟩ => ⟨S4096x2816, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩

abbrev nD : Nat := 1
abbrev τ : Topo := Topo.v7x

variable {F : FTy → Type} [FloatOps F]
-- ==== SwigluBwd.lean ====
abbrev S4096x1024 : Shape := ⟨2, ![4096, 1024]⟩
abbrev S2816x1024 : Shape := ⟨2, ![2816, 1024]⟩
abbrev S2x4096x2816 : Shape := ⟨3, ![2, 4096, 2816]⟩
abbrev S1024x1024 : Shape := ⟨2, ![1024, 1024]⟩
abbrev S1408x1024 : Shape := ⟨2, ![1408, 1024]⟩
abbrev S2x1024x1408 : Shape := ⟨3, ![2, 1024, 1408]⟩
abbrev S1024x1408 : Shape := ⟨2, ![1024, 1408]⟩
abbrev S1x1024x1408 : Shape := ⟨3, ![1, 1024, 1408]⟩

abbrev nBuf : Space → Nat
  | .hbm => 5
  | .vmem => 8
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .f32⟩
  | .hbm, ⟨2, _⟩ => ⟨S2x4096x2816, .bf16⟩
  | .hbm, ⟨3, _⟩ => ⟨S2816x1024, .bf16⟩
  | .hbm, ⟨4, _⟩ => ⟨S2x4096x2816, .bf16⟩
  | .local _ .vmem, ⟨0, _⟩ => ⟨S1024x1024, .bf16⟩
  | .local _ .vmem, ⟨1, _⟩ => ⟨S1024x1024, .bf16⟩
  | .local _ .vmem, ⟨2, _⟩ => ⟨S1408x1024, .bf16⟩
  | .local _ .vmem, ⟨3, _⟩ => ⟨S1408x1024, .bf16⟩
  | .local _ .vmem, ⟨4, _⟩ => ⟨S2x1024x1408, .bf16⟩
  | .local _ .vmem, ⟨5, _⟩ => ⟨S2x1024x1408, .bf16⟩
  | .local _ .vmem, ⟨6, _⟩ => ⟨S2x1024x1408, .bf16⟩
  | .local _ .vmem, ⟨7, _⟩ => ⟨S2x1024x1408, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== SwigluBwdRefIdeal.lean ====
abbrev S4096x1024 : Shape := ⟨2, ![4096, 1024]⟩
abbrev S2816x1024 : Shape := ⟨2, ![2816, 1024]⟩
abbrev S2x4096x2816 : Shape := ⟨3, ![2, 4096, 2816]⟩
abbrev S1x4096x2816 : Shape := ⟨3, ![1, 4096, 2816]⟩
abbrev S4096x2816 : Shape := ⟨2, ![4096, 2816]⟩
abbrev S_ : Shape := ⟨0, ![]⟩

abbrev nBuf : Space → Nat
  | .hbm => 36
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .f32⟩
  | .hbm, ⟨2, _⟩ => ⟨S2x4096x2816, .bf16⟩
  | .hbm, ⟨3, _⟩ => ⟨S1x4096x2816, .bf16⟩
  | .hbm, ⟨4, _⟩ => ⟨S4096x2816, .bf16⟩
  | .hbm, ⟨5, _⟩ => ⟨S4096x2816, .f32⟩
  | .hbm, ⟨6, _⟩ => ⟨S1x4096x2816, .bf16⟩
  | .hbm, ⟨7, _⟩ => ⟨S4096x2816, .bf16⟩
  | .hbm, ⟨8, _⟩ => ⟨S4096x2816, .f32⟩
  | .hbm, ⟨9, _⟩ => ⟨S4096x2816, .f32⟩
  | .hbm, ⟨10, _⟩ => ⟨S4096x2816, .f32⟩
  | .hbm, ⟨11, _⟩ => ⟨S_, .f32⟩
  | .hbm, ⟨12, _⟩ => ⟨S4096x2816, .f32⟩
  | .hbm, ⟨13, _⟩ => ⟨S4096x2816, .f32⟩
  | .hbm, ⟨14, _⟩ => ⟨S_, .f32⟩
  | .hbm, ⟨15, _⟩ => ⟨S4096x2816, .f32⟩
  | .hbm, ⟨16, _⟩ => ⟨S4096x2816, .f32⟩
  | .hbm, ⟨17, _⟩ => ⟨S_, .f32⟩
  | .hbm, ⟨18, _⟩ => ⟨S4096x2816, .f32⟩
  | .hbm, ⟨19, _⟩ => ⟨S4096x2816, .f32⟩
  | .hbm, ⟨20, _⟩ => ⟨S4096x2816, .f32⟩
  | .hbm, ⟨21, _⟩ => ⟨S4096x2816, .f32⟩
  | .hbm, ⟨22, _⟩ => ⟨S4096x2816, .f32⟩
  | .hbm, ⟨23, _⟩ => ⟨S4096x1024, .f32⟩
  | .hbm, ⟨24, _⟩ => ⟨S4096x1024, .f32⟩
  | .hbm, ⟨25, _⟩ => ⟨S4096x2816, .f32⟩
  | .hbm, ⟨26, _⟩ => ⟨S4096x2816, .f32⟩
  | .hbm, ⟨27, _⟩ => ⟨S4096x2816, .f32⟩
  | .hbm, ⟨28, _⟩ => ⟨S4096x2816, .f32⟩
  | .hbm, ⟨29, _⟩ => ⟨S4096x2816, .f32⟩
  | .hbm, ⟨30, _⟩ => ⟨S4096x2816, .f32⟩
  | .hbm, ⟨31, _⟩ => ⟨S4096x2816, .f32⟩
  | .hbm, ⟨32, _⟩ => ⟨S1x4096x2816, .f32⟩
  | .hbm, ⟨33, _⟩ => ⟨S1x4096x2816, .f32⟩
  | .hbm, ⟨34, _⟩ => ⟨S2x4096x2816, .f32⟩
  | .hbm, ⟨35, _⟩ => ⟨S2x4096x2816, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_v6_2 : Ref sig .tc := ⟨.hbm, 16, rfl⟩
abbrev main_call0_cst_1 : Ref sig .tc := ⟨.hbm, 17, rfl⟩
abbrev main_call0_v6 : Ref sig .tc := ⟨.hbm, 18, rfl⟩
abbrev main_call0_v7 : Ref sig .tc := ⟨.hbm, 19, rfl⟩
abbrev main_v6_1 : Ref sig .tc := ⟨.hbm, 20, rfl⟩
abbrev main_v6_0 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_call1_v0 : Ref sig .tc := ⟨.hbm, 28, rfl⟩
abbrev main_call1_v1 : Ref sig .tc := ⟨.hbm, 29, rfl⟩
abbrev main_call1_v2 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩

abbrev nD : Nat := 1
abbrev τ : Topo := Topo.v7x

variable {F : FTy → Type} [FloatOps F]
-- ==== MergeBwd.lean ====
abbrev S4096x1024 : Shape := ⟨2, ![4096, 1024]⟩
abbrev S1024x1024 : Shape := ⟨2, ![1024, 1024]⟩
abbrev S4096x5760 : Shape := ⟨2, ![4096, 5760]⟩
abbrev S4096x2048 : Shape := ⟨2, ![4096, 2048]⟩
abbrev S512x1024 : Shape := ⟨2, ![512, 1024]⟩
abbrev S512x2048 : Shape := ⟨2, ![512, 2048]⟩

abbrev nBuf : Space → Nat
  | .hbm => 9
  | .vmem => 17
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .f32⟩
  | .hbm, ⟨2, _⟩ => ⟨S4096x5760, .f32⟩
  | .hbm, ⟨3, _⟩ => ⟨S4096x1024, .bf16⟩
  | .hbm, ⟨4, _⟩ => ⟨S4096x1024, .bf16⟩
  | .hbm, ⟨5, _⟩ => ⟨S1024x1024, .bf16⟩
  | .hbm, ⟨6, _⟩ => ⟨S4096x2048, .bf16⟩
  | .hbm, ⟨7, _⟩ => ⟨S4096x1024, .bf16⟩
  | .hbm, ⟨8, _⟩ => ⟨S4096x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x2048, .bf16⟩
  | .local _ .vmem, ⟨12, _⟩ => ⟨S512x2048, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== MergeBwdRefIdeal.lean ====
abbrev S4096x1024 : Shape := ⟨2, ![4096, 1024]⟩
abbrev S1024x1024 : Shape := ⟨2, ![1024, 1024]⟩
abbrev S4096x5760 : Shape := ⟨2, ![4096, 5760]⟩
abbrev S_ : Shape := ⟨0, ![]⟩
abbrev S4096x2048 : Shape := ⟨2, ![4096, 2048]⟩

abbrev nBuf : Space → Nat
  | .hbm => 49
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .f32⟩
  | .hbm, ⟨2, _⟩ => ⟨S4096x5760, .f32⟩
  | .hbm, ⟨3, _⟩ => ⟨S4096x1024, .bf16⟩
  | .hbm, ⟨4, _⟩ => ⟨S4096x1024, .bf16⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S_, .f32⟩
  | .hbm, ⟨12, _⟩ => ⟨S4096x1024, .f32⟩
  | .hbm, ⟨13, _⟩ => ⟨S4096x1024, .f32⟩
  | .hbm, ⟨14, _⟩ => ⟨S_, .f32⟩
  | .hbm, ⟨15, _⟩ => ⟨S4096x1024, .f32⟩
  | .hbm, ⟨16, _⟩ => ⟨S4096x1024, .f32⟩
  | .hbm, ⟨17, _⟩ => ⟨S_, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x2048, .f32⟩
  | .hbm, ⟨46, _⟩ => ⟨S4096x2048, .bf16⟩
  | .hbm, ⟨47, _⟩ => ⟨S4096x1024, .bf16⟩
  | .hbm, ⟨48, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩

abbrev nD : Nat := 1
abbrev τ : Topo := Topo.v7x

variable {F : FTy → Type} [FloatOps F]
-- ==== Merge.lean ====
abbrev S4096x512 : Shape := ⟨2, ![4096, 512]⟩
abbrev S512x1024 : Shape := ⟨2, ![512, 1024]⟩
abbrev S4096x5760 : Shape := ⟨2, ![4096, 5760]⟩
abbrev S4096x1024 : Shape := ⟨2, ![4096, 1024]⟩
abbrev S512x512 : Shape := ⟨2, ![512, 512]⟩

abbrev nBuf : Space → Nat
  | .hbm => 10
  | .vmem => 16
  | .smem => 0
  | _ => 0

abbrev bufTy : (tb : Table) → Fin (tcTables nBuf tb) → BufTy
  | .hbm, ⟨0, _⟩ => ⟨S4096x512, .bf16⟩
  | .hbm, ⟨1, _⟩ => ⟨S4096x512, .bf16⟩
  | .hbm, ⟨2, _⟩ => ⟨S512x1024, .f32⟩
  | .hbm, ⟨3, _⟩ => ⟨S512x1024, .f32⟩
  | .hbm, ⟨4, _⟩ => ⟨S4096x5760, .f32⟩
  | .hbm, ⟨5, _⟩ => ⟨S512x1024, .bf16⟩
  | .hbm, ⟨6, _⟩ => ⟨S512x1024, .bf16⟩
  | .hbm, ⟨7, _⟩ => ⟨S4096x1024, .bf16⟩
  | .hbm, ⟨8, _⟩ => ⟨S4096x1024, .bf16⟩
  | .hbm, ⟨9, _⟩ => ⟨S4096x1024, .bf16⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== MergeRefIdeal.lean ====
abbrev S4096x512 : Shape := ⟨2, ![4096, 512]⟩
abbrev S512x1024 : Shape := ⟨2, ![512, 1024]⟩
abbrev S4096x5760 : Shape := ⟨2, ![4096, 5760]⟩
abbrev S4096x1024 : Shape := ⟨2, ![4096, 1024]⟩
abbrev S_ : Shape := ⟨0, ![]⟩

abbrev nBuf : Space → Nat
  | .hbm => 33
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x512, .bf16⟩
  | .hbm, ⟨2, _⟩ => ⟨S512x1024, .f32⟩
  | .hbm, ⟨3, _⟩ => ⟨S512x1024, .f32⟩
  | .hbm, ⟨4, _⟩ => ⟨S4096x5760, .f32⟩
  | .hbm, ⟨5, _⟩ => ⟨S4096x512, .f32⟩
  | .hbm, ⟨6, _⟩ => ⟨S4096x1024, .f32⟩
  | .hbm, ⟨7, _⟩ => ⟨S4096x512, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S_, .f32⟩
  | .hbm, ⟨13, _⟩ => ⟨S4096x1024, .f32⟩
  | .hbm, ⟨14, _⟩ => ⟨S4096x1024, .f32⟩
  | .hbm, ⟨15, _⟩ => ⟨S_, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S_, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .bf16⟩
  | .hbm, ⟨31, _⟩ => ⟨S4096x1024, .bf16⟩
  | .hbm, ⟨32, _⟩ => ⟨S4096x1024, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩

abbrev nD : Nat := 1
abbrev τ : Topo := Topo.v7x

variable {F : FTy → Type} [FloatOps F]
-- ==== FfnOut.lean ====
abbrev S4096x2816 : Shape := ⟨2, ![4096, 2816]⟩
abbrev S2816x1024 : Shape := ⟨2, ![2816, 1024]⟩
abbrev S4096x1024 : Shape := ⟨2, ![4096, 1024]⟩
abbrev S1x1024 : Shape := ⟨2, ![1, 1024]⟩
abbrev S1024 : Shape := ⟨1, ![1024]⟩
abbrev S512x1408 : Shape := ⟨2, ![512, 1408]⟩
abbrev S1408x1024 : Shape := ⟨2, ![1408, 1024]⟩
abbrev S512x1024 : Shape := ⟨2, ![512, 1024]⟩
abbrev S512 : Shape := ⟨1, ![512]⟩
abbrev S512x1 : Shape := ⟨2, ![512, 1]⟩

abbrev nBuf : Space → Nat
  | .hbm => 12
  | .vmem => 16
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .f32⟩
  | .hbm, ⟨2, _⟩ => ⟨S4096x1024, .f32⟩
  | .hbm, ⟨3, _⟩ => ⟨S1x1024, .f32⟩
  | .hbm, ⟨4, _⟩ => ⟨S1024, .f32⟩
  | .hbm, ⟨5, _⟩ => ⟨S1x1024, .f32⟩
  | .hbm, ⟨6, _⟩ => ⟨S1x1024, .f32⟩
  | .hbm, ⟨7, _⟩ => ⟨S2816x1024, .bf16⟩
  | .hbm, ⟨8, _⟩ => ⟨S1x1024, .f32⟩
  | .hbm, ⟨9, _⟩ => ⟨S4096x1024, .f32⟩
  | .hbm, ⟨10, _⟩ => ⟨S4096x1024, .f32⟩
  | .hbm, ⟨11, _⟩ => ⟨S4096x1024, .bf16⟩
  | .local _ .vmem, ⟨0, _⟩ => ⟨S512x1408, .bf16⟩
  | .local _ .vmem, ⟨1, _⟩ => ⟨S512x1408, .bf16⟩
  | .local _ .vmem, ⟨2, _⟩ => ⟨S1408x1024, .bf16⟩
  | .local _ .vmem, ⟨3, _⟩ => ⟨S1408x1024, .bf16⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .bf16⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_v2_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨2, ![8, 2], ![false, false]⟩

def k0_cond1 (i : grid0.Coords) : BitVec 1 :=
  let arg1 : BitVec 32 := BitVec.ofNat 32 (i 1).val
  let c0_i32 : BitVec 32 := 0#32
  let v4 : BitVec 1 := Scalar.cmpi .eq arg1 c0_i32
  let v5 : BitVec 32 := Scalar.extui v4
  let c0_i32_3 : BitVec 32 := 0#32
  let v6 : BitVec 1 := Scalar.cmpi .ne v5 c0_i32_3
  v6

def k0_cond2 (i : grid0.Coords) : BitVec 1 :=
  let arg1 : BitVec 32 := BitVec.ofNat 32 (i 1).val
  let c0_i32_4 : BitVec 32 := 0#32
  let v7 : BitVec 1 := Scalar.cmpi .sgt arg1 c0_i32_4
  let v8 : BitVec 32 := Scalar.extui v7
  let c0_i32_5 : BitVec 32 := 0#32
  let v9 : BitVec 1 := Scalar.cmpi .ne v8 c0_i32_5
  v9

def k0_cond3 (i : grid0.Coords) : BitVec 1 :=
  let arg1 : BitVec 32 := BitVec.ofNat 32 (i 1).val
  let c1_i32 : BitVec 32 := 1#32
  let v10 : BitVec 1 := Scalar.cmpi .eq arg1 c1_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== FfnOutRefIdeal.lean ====
abbrev S4096x2816 : Shape := ⟨2, ![4096, 2816]⟩
abbrev S2816x1024 : Shape := ⟨2, ![2816, 1024]⟩
abbrev S4096x1024 : Shape := ⟨2, ![4096, 1024]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩

abbrev nBuf : Space → Nat
  | .hbm => 36
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .f32⟩
  | .hbm, ⟨2, _⟩ => ⟨S4096x1024, .f32⟩
  | .hbm, ⟨3, _⟩ => ⟨S1x1024, .f32⟩
  | .hbm, ⟨4, _⟩ => ⟨S1024, .f32⟩
  | .hbm, ⟨5, _⟩ => ⟨S1x1024, .f32⟩
  | .hbm, ⟨6, _⟩ => ⟨S1x1024, .f32⟩
  | .hbm, ⟨7, _⟩ => ⟨S4096x2816, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1, .f32⟩
  | .hbm, ⟨23, _⟩ => ⟨S4096x1024, .f32⟩
  | .hbm, ⟨24, _⟩ => ⟨S4096x1024, .f32⟩
  | .hbm, ⟨25, _⟩ => ⟨S1x1024, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S1x1024, .f32⟩
  | .hbm, ⟨30, _⟩ => ⟨S1x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩

abbrev nD : Nat := 1
abbrev τ : Topo := Topo.v7x

variable {F : FTy → Type} [FloatOps F]
-- ==== Out.lean ====
abbrev S4096x1024 : Shape := ⟨2, ![4096, 1024]⟩
abbrev S1024x1024 : Shape := ⟨2, ![1024, 1024]⟩
abbrev S1x1024 : Shape := ⟨2, ![1, 1024]⟩
abbrev S1024 : Shape := ⟨1, ![1024]⟩
abbrev S512x1024 : Shape := ⟨2, ![512, 1024]⟩
abbrev S512 : Shape := ⟨1, ![512]⟩
abbrev S512x1 : Shape := ⟨2, ![512, 1]⟩

abbrev nBuf : Space → Nat
  | .hbm => 12
  | .vmem => 15
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .f32⟩
  | .hbm, ⟨2, _⟩ => ⟨S4096x1024, .f32⟩
  | .hbm, ⟨3, _⟩ => ⟨S1x1024, .f32⟩
  | .hbm, ⟨4, _⟩ => ⟨S1024, .f32⟩
  | .hbm, ⟨5, _⟩ => ⟨S1x1024, .f32⟩
  | .hbm, ⟨6, _⟩ => ⟨S1x1024, .f32⟩
  | .hbm, ⟨7, _⟩ => ⟨S1024x1024, .bf16⟩
  | .hbm, ⟨8, _⟩ => ⟨S1x1024, .f32⟩
  | .hbm, ⟨9, _⟩ => ⟨S4096x1024, .f32⟩
  | .hbm, ⟨10, _⟩ => ⟨S4096x1024, .f32⟩
  | .hbm, ⟨11, _⟩ => ⟨S4096x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_v2_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨2, ![8, 1], ![false, false]⟩

def k0_cond1 (i : grid0.Coords) : BitVec 1 :=
  let arg1 : BitVec 32 := BitVec.ofNat 32 (i 1).val
  let c0_i32 : BitVec 32 := 0#32
  let v4 : BitVec 1 := Scalar.cmpi .eq arg1 c0_i32
  let v5 : BitVec 32 := Scalar.extui v4
  let c0_i32_3 : BitVec 32 := 0#32
  let v6 : BitVec 1 := Scalar.cmpi .ne v5 c0_i32_3
  v6

def k0_cond2 (i : grid0.Coords) : BitVec 1 :=
  let arg1 : BitVec 32 := BitVec.ofNat 32 (i 1).val
  let c0_i32_4 : BitVec 32 := 0#32
  let v7 : BitVec 1 := Scalar.cmpi .sgt arg1 c0_i32_4
  let v8 : BitVec 32 := Scalar.extui v7
  let c0_i32_5 : BitVec 32 := 0#32
  let v9 : BitVec 1 := Scalar.cmpi .ne v8 c0_i32_5
  v9

def k0_cond3 (i : grid0.Coords) : BitVec 1 :=
  let arg1 : BitVec 32 := BitVec.ofNat 32 (i 1).val
  let c0_i32_6 : BitVec 32 := 0#32
  let v10 : BitVec 1 := Scalar.cmpi .eq arg1 c0_i32_6
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== OutRefIdeal.lean ====
abbrev S4096x1024 : Shape := ⟨2, ![4096, 1024]⟩
abbrev S1024x1024 : Shape := ⟨2, ![1024, 1024]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩

abbrev nBuf : Space → Nat
  | .hbm => 36
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .f32⟩
  | .hbm, ⟨2, _⟩ => ⟨S4096x1024, .f32⟩
  | .hbm, ⟨3, _⟩ => ⟨S1x1024, .f32⟩
  | .hbm, ⟨4, _⟩ => ⟨S1024, .f32⟩
  | .hbm, ⟨5, _⟩ => ⟨S1x1024, .f32⟩
  | .hbm, ⟨6, _⟩ => ⟨S1x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1, .f32⟩
  | .hbm, ⟨23, _⟩ => ⟨S4096x1024, .f32⟩
  | .hbm, ⟨24, _⟩ => ⟨S4096x1024, .f32⟩
  | .hbm, ⟨25, _⟩ => ⟨S1x1024, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S1x1024, .f32⟩
  | .hbm, ⟨30, _⟩ => ⟨S1x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩

abbrev nD : Nat := 1
abbrev τ : Topo := Topo.v7x

variable {F : FTy → Type} [FloatOps F]
-- ==== FfnInDw.lean ====
abbrev S2x4096x2816 : Shape := ⟨3, ![2, 4096, 2816]⟩
abbrev S4096x1024 : Shape := ⟨2, ![4096, 1024]⟩
abbrev S5632x1024 : Shape := ⟨2, ![5632, 1024]⟩
abbrev S1x2048x1408 : Shape := ⟨3, ![1, 2048, 1408]⟩
abbrev S2048x1024 : Shape := ⟨2, ![2048, 1024]⟩
abbrev S1408x1024 : Shape := ⟨2, ![1408, 1024]⟩
abbrev S2048x1408 : Shape := ⟨2, ![2048, 1408]⟩

abbrev nBuf : Space → Nat
  | .hbm => 3
  | .vmem => 7
  | .smem => 0
  | _ => 0

abbrev bufTy : (tb : Table) → Fin (tcTables nBuf tb) → BufTy
  | .hbm, ⟨0, _⟩ => ⟨S2x4096x2816, .bf16⟩
  | .hbm, ⟨1, _⟩ => ⟨S4096x1024, .bf16⟩
  | .hbm, ⟨2, _⟩ => ⟨S5632x1024, .bf16⟩
  | .local _ .vmem, ⟨0, _⟩ => ⟨S1x2048x1408, .bf16⟩
  | .local _ .vmem, ⟨1, _⟩ => ⟨S1x2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S2x4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond3 (i : grid0.Coords) : BitVec 1 :=
  let arg2 : BitVec 32 := BitVec.ofNat 32 (i 2).val
  let c1_i32 : BitVec 32 := 1#32
  let v10 : BitVec 1 := Scalar.cmpi .eq arg2 c1_i32
  let v11 : BitVec 32 := Scalar.extui v10
  let c0_i32_7 : BitVec 32 := 0#32
  let v12 : BitVec 1 := Scalar.cmpi .ne v11 c0_i32_7
  v12

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnInDwRefIdeal.lean ====
abbrev S2x4096x2816 : Shape := ⟨3, ![2, 4096, 2816]⟩
abbrev S4096x1024 : Shape := ⟨2, ![4096, 1024]⟩
abbrev S1x4096x2816 : Shape := ⟨3, ![1, 4096, 2816]⟩
abbrev S4096x2816 : Shape := ⟨2, ![4096, 2816]⟩
abbrev S4096x5632 : Shape := ⟨2, ![4096, 5632]⟩
abbrev S_ : Shape := ⟨0, ![]⟩
abbrev S1024x5632 : Shape := ⟨2, ![1024, 5632]⟩
abbrev S5632x1024 : Shape := ⟨2, ![5632, 1024]⟩

abbrev nBuf : Space → Nat
  | .hbm => 16
  | .vmem => 0
  | .smem => 0
  | _ => 0

abbrev bufTy : (tb : Table) → Fin (tcTables nBuf tb) → BufTy
  | .hbm, ⟨0, _⟩ => ⟨S2x4096x2816, .bf16⟩
  | .hbm, ⟨1, _⟩ => ⟨S4096x1024, .bf16⟩
  | .hbm, ⟨2, _⟩ => ⟨S1x4096x2816, .bf16⟩
  | .hbm, ⟨3, _⟩ => ⟨S4096x2816, .bf16⟩
  | .hbm, ⟨4, _⟩ => ⟨S1x4096x2816, .bf16⟩
  | .hbm, ⟨5, _⟩ => ⟨S4096x2816, .bf16⟩
  | .hbm, ⟨6, _⟩ => ⟨S4096x5632, .bf16⟩
  | .hbm, ⟨7, _⟩ => ⟨S4096x5632, .f32⟩
  | .hbm, ⟨8, _⟩ => ⟨S_, .f32⟩
  | .hbm, ⟨9, _⟩ => ⟨S1024x5632, .f32⟩
  | .hbm, ⟨10, _⟩ => ⟨S4096x1024, .f32⟩
  | .hbm, ⟨11, _⟩ => ⟨S4096x5632, .f32⟩
  | .hbm, ⟨12, _⟩ => ⟨S5632x1024, .f32⟩
  | .hbm, ⟨13, _⟩ => ⟨S1024x5632, .f32⟩
  | .hbm, ⟨14, _⟩ => ⟨S5632x1024, .f32⟩
  | .hbm, ⟨15, _⟩ => ⟨S5632x1024, .bf16⟩
  | _, _ => ⟨S2x4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩

abbrev nD : Nat := 1
abbrev τ : Topo := Topo.v7x

variable {F : FTy → Type} [FloatOps F]
-- ==== ProjDw.lean ====
abbrev S4096x5760 : Shape := ⟨2, ![4096, 5760]⟩
abbrev S4096x1024 : Shape := ⟨2, ![4096, 1024]⟩
abbrev S5760x1024 : Shape := ⟨2, ![5760, 1024]⟩
abbrev S2048x1152 : Shape := ⟨2, ![2048, 1152]⟩
abbrev S2048x1024 : Shape := ⟨2, ![2048, 1024]⟩
abbrev S1152x1024 : Shape := ⟨2, ![1152, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x5760, .bf16⟩
  | .hbm, ⟨1, _⟩ => ⟨S4096x1024, .bf16⟩
  | .hbm, ⟨2, _⟩ => ⟨S5760x1024, .bf16⟩
  | .local _ .vmem, ⟨0, _⟩ => ⟨S2048x1152, .bf16⟩
  | .local _ .vmem, ⟨1, _⟩ => ⟨S2048x1152, .bf16⟩
  | .local _ .vmem, ⟨2, _⟩ => ⟨S2048x1024, .bf16⟩
  | .local _ .vmem, ⟨3, _⟩ => ⟨S2048x1024, .bf16⟩
  | .local _ .vmem, ⟨4, _⟩ => ⟨S1152x1024, .bf16⟩
  | .local _ .vmem, ⟨5, _⟩ => ⟨S1152x1024, .bf16⟩
  | .local _ .vmem, ⟨6, _⟩ => ⟨S1152x1024, .f32⟩
  | _, _ => ⟨S4096x5760, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![5, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1152 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1152x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjDwRefIdeal.lean ====
abbrev S4096x5760 : Shape := ⟨2, ![4096, 5760]⟩
abbrev S4096x1024 : Shape := ⟨2, ![4096, 1024]⟩
abbrev S_ : Shape := ⟨0, ![]⟩
abbrev S1024x5760 : Shape := ⟨2, ![1024, 5760]⟩
abbrev S5760x1024 : Shape := ⟨2, ![5760, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4096x5760, .bf16⟩
  | .hbm, ⟨1, _⟩ => ⟨S4096x1024, .bf16⟩
  | .hbm, ⟨2, _⟩ => ⟨S_, .f32⟩
  | .hbm, ⟨3, _⟩ => ⟨S1024x5760, .f32⟩
  | .hbm, ⟨4, _⟩ => ⟨S4096x1024, .f32⟩
  | .hbm, ⟨5, _⟩ => ⟨S4096x5760, .f32⟩
  | .hbm, ⟨6, _⟩ => ⟨S4096x5760, .f32⟩
  | .hbm, ⟨7, _⟩ => ⟨S5760x1024, .f32⟩
  | .hbm, ⟨8, _⟩ => ⟨S1024x5760, .f32⟩
  | .hbm, ⟨9, _⟩ => ⟨S5760x1024, .f32⟩
  | .hbm, ⟨10, _⟩ => ⟨S5760x1024, .bf16⟩
  | _, _ => ⟨S4096x5760, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== FfnOutDw.lean ====
abbrev S4096x2816 : Shape := ⟨2, ![4096, 2816]⟩
abbrev S4096x1024 : Shape := ⟨2, ![4096, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnOutDwRefIdeal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S_, .f32⟩
  | .hbm, ⟨3, _⟩ => ⟨S2816x1024, .f32⟩
  | .hbm, ⟨4, _⟩ => ⟨S4096x2816, .f32⟩
  | .hbm, ⟨5, _⟩ => ⟨S4096x1024, .f32⟩
  | .hbm, ⟨6, _⟩ => ⟨S4096x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Proj.lean ====
abbrev S4096x1024 : Shape := ⟨2, ![4096, 1024]⟩
abbrev S1024x5640 : Shape := ⟨2, ![1024, 5640]⟩
abbrev S5640x1024 : Shape := ⟨2, ![5640, 1024]⟩
abbrev S_ : Shape := ⟨0, ![]⟩
abbrev S120x1024 : Shape := ⟨2, ![120, 1024]⟩
abbrev S2048x1024 : Shape := ⟨2, ![2048, 1024]⟩
abbrev S3584x1024 : Shape := ⟨2, ![3584, 1024]⟩
abbrev S8x1024 : Shape := ⟨2, ![8, 1024]⟩
abbrev S5760x1024 : Shape := ⟨2, ![5760, 1024]⟩
abbrev S4096x5760 : Shape := ⟨2, ![4096, 5760]⟩
abbrev S1152x1024 : Shape := ⟨2, ![1152, 1024]⟩
abbrev S2048x1152 : Shape := ⟨2, ![2048, 1152]⟩

abbrev nBuf : Space → Nat
  | .hbm => 11
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x5640, .f32⟩
  | .hbm, ⟨2, _⟩ => ⟨S5640x1024, .f32⟩
  | .hbm, ⟨3, _⟩ => ⟨S5640x1024, .bf16⟩
  | .hbm, ⟨4, _⟩ => ⟨S_, .bf16⟩
  | .hbm, ⟨5, _⟩ => ⟨S120x1024, .bf16⟩
  | .hbm, ⟨6, _⟩ => ⟨S2048x1024, .bf16⟩
  | .hbm, ⟨7, _⟩ => ⟨S3584x1024, .bf16⟩
  | .hbm, ⟨8, _⟩ => ⟨S8x1024, .bf16⟩
  | .hbm, ⟨9, _⟩ => ⟨S5760x1024, .bf16⟩
  | .hbm, ⟨10, _⟩ => ⟨S4096x5760, .f32⟩
  | .local _ .vmem, ⟨0, _⟩ => ⟨S2048x1024, .bf16⟩
  | .local _ .vmem, ⟨1, _⟩ => ⟨S2048x1024, .bf16⟩
  | .local _ .vmem, ⟨2, _⟩ => ⟨S1152x1024, .bf16⟩
  | .local _ .vmem, ⟨3, _⟩ => ⟨S1152x1024, .bf16⟩
  | .local _ .vmem, ⟨4, _⟩ => ⟨S2048x1152, .f32⟩
  | .local _ .vmem, ⟨5, _⟩ => ⟨S2048x1152, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 5, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1152x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjRefIdeal.lean ====
abbrev S4096x1024 : Shape := ⟨2, ![4096, 1024]⟩
abbrev S1024x5640 : Shape := ⟨2, ![1024, 5640]⟩
abbrev S4096x5640 : Shape := ⟨2, ![4096, 5640]⟩
abbrev S4096x512 : Shape := ⟨2, ![4096, 512]⟩
abbrev S4096x1536 : Shape := ⟨2, ![4096, 1536]⟩
abbrev S4096x4 : Shape := ⟨2, ![4096, 4]⟩
abbrev S_ : Shape := ⟨0, ![]⟩
abbrev S4096x120 : Shape := ⟨2, ![4096, 120]⟩
abbrev S4096x5760 : Shape := ⟨2, ![4096, 5760]⟩

abbrev nBuf : Space → Nat
  | .hbm => 16
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x5640, .f32⟩
  | .hbm, ⟨2, _⟩ => ⟨S4096x1024, .f32⟩
  | .hbm, ⟨3, _⟩ => ⟨S4096x5640, .f32⟩
  | .hbm, ⟨4, _⟩ => ⟨S4096x512, .f32⟩
  | .hbm, ⟨5, _⟩ => ⟨S4096x512, .f32⟩
  | .hbm, ⟨6, _⟩ => ⟨S4096x512, .f32⟩
  | .hbm, ⟨7, _⟩ => ⟨S4096x1536, .f32⟩
  | .hbm, ⟨8, _⟩ => ⟨S4096x512, .f32⟩
  | .hbm, ⟨9, _⟩ => ⟨S4096x4, .f32⟩
  | .hbm, ⟨10, _⟩ => ⟨S4096x4, .f32⟩
  | .hbm, ⟨11, _⟩ => ⟨S4096x1024, .f32⟩
  | .hbm, ⟨12, _⟩ => ⟨S4096x1024, .f32⟩
  | .hbm, ⟨13, _⟩ => ⟨S_, .f32⟩
  | .hbm, ⟨14, _⟩ => ⟨S4096x120, .f32⟩
  | .hbm, ⟨15, _⟩ => ⟨S4096x5760, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_cst : Ref sig .tc := ⟨.hbm, 13, rfl⟩
abbrev main_v11 : Ref sig .tc := ⟨.hbm, 14, rfl⟩
abbrev main_v12 : Ref sig .tc := ⟨.hbm, 15, rfl⟩

abbrev nD : Nat := 1
abbrev τ : Topo := Topo.v7x

variable {F : FTy → Type} [FloatOps F]
-- ==== FfnInDx.lean ====
abbrev S2x4096x2816 : Shape := ⟨3, ![2, 4096, 2816]⟩
abbrev S1024x5632 : Shape := ⟨2, ![1024, 5632]⟩
abbrev S4096x1024 : Shape := ⟨2, ![4096, 1024]⟩
abbrev S1024 : Shape := ⟨1, ![1024]⟩
abbrev S1x1024 : Shape := ⟨2, ![1, 1024]⟩
abbrev S5632x1024 : Shape := ⟨2, ![5632, 1024]⟩
abbrev S8x1024 : Shape := ⟨2, ![8, 1024]⟩
abbrev S1x512x1408 : Shape := ⟨3, ![1, 512, 1408]⟩
abbrev S1408x1024 : Shape := ⟨2, ![1408, 1024]⟩
abbrev S512x1024 : Shape := ⟨2, ![512, 1024]⟩
abbrev S512x1408 : Shape := ⟨2, ![512, 1408]⟩
abbrev S512 : Shape := ⟨1, ![512]⟩
abbrev S512x1 : Shape := ⟨2, ![512, 1]⟩

abbrev nBuf : Space → Nat
  | .hbm => 15
  | .vmem => 20
  | .smem => 0
  | _ => 0

abbrev bufTy : (tb : Table) → Fin (tcTables nBuf tb) → BufTy
  | .hbm, ⟨0, _⟩ => ⟨S2x4096x2816, .bf16⟩
  | .hbm, ⟨1, _⟩ => ⟨S1024x5632, .f32⟩
  | .hbm, ⟨2, _⟩ => ⟨S4096x1024, .f32⟩
  | .hbm, ⟨3, _⟩ => ⟨S1024, .f32⟩
  | .hbm, ⟨4, _⟩ => ⟨S1x1024, .f32⟩
  | .hbm, ⟨5, _⟩ => ⟨S1x1024, .f32⟩
  | .hbm, ⟨6, _⟩ => ⟨S4096x1024, .f32⟩
  | .hbm, ⟨7, _⟩ => ⟨S4096x1024, .f32⟩
  | .hbm, ⟨8, _⟩ => ⟨S1x1024, .f32⟩
  | .hbm, ⟨9, _⟩ => ⟨S5632x1024, .f32⟩
  | .hbm, ⟨10, _⟩ => ⟨S5632x1024, .bf16⟩
  | .hbm, ⟨11, _⟩ => ⟨S1x1024, .f32⟩
  | .hbm, ⟨12, _⟩ => ⟨S4096x1024, .f32⟩
  | .hbm, ⟨13, _⟩ => ⟨S4096x1024, .bf16⟩
  | .hbm, ⟨14, _⟩ => ⟨S8x1024, .f32⟩
  | .local _ .vmem, ⟨0, _⟩ => ⟨S1x512x1408, .bf16⟩
  | .local _ .vmem, ⟨1, _⟩ => ⟨S1x512x1408, .bf16⟩
  | .local _ .vmem, ⟨2, _⟩ => ⟨S1408x1024, .bf16⟩
  | .local _ .vmem, ⟨3, _⟩ => ⟨S1408x1024, .bf16⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S1x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .bf16⟩
  | .local _ .vmem, ⟨17, _⟩ => ⟨S512x1024, .bf16⟩
  | .local _ .vmem, ⟨18, _⟩ => ⟨S8x1024, .f32⟩
  | .local _ .vmem, ⟨19, _⟩ => ⟨S512x1024, .f32⟩
  | _, _ => ⟨S2x4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3_0 : Ref sig .tc := ⟨.hbm, 12, rfl⟩
abbrev main_v3_1 : Ref sig .tc := ⟨.hbm, 13, rfl⟩
abbrev main_v3_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18

abbrev nD : Nat := 1
abbrev τ : Topo := Topo.v7x

variable {F : FTy → Type} [FloatOps F]

abbrev grid0 : Pipeline.Grid := ⟨2, ![8, 4], ![false, false]⟩

def k0_cond4 (i : grid0.Coords) : BitVec 1 :=
  let arg1 : BitVec 32 := BitVec.ofNat 32 (i 1).val
  let c3_i32 : BitVec 32 := 3#32
  let v16 : BitVec 1 := Scalar.cmpi .eq arg1 c3_i32
  let v17 : BitVec 32 := Scalar.extui v16
  let c0_i32_10 : BitVec 32 := 0#32
  let v18 : BitVec 1 := Scalar.cmpi .ne v17 c0_i32_10
  v18

def k0_cond1 (i : grid0.Coords) : BitVec 1 :=
  let arg0 : BitVec 32 := BitVec.ofNat 32 (i 0).val
  let c0_i32 : BitVec 32 := 0#32
  let v5 : BitVec 1 := Scalar.cmpi .eq arg0 c0_i32
  let arg1 : BitVec 32 := BitVec.ofNat 32 (i 1).val
  let c0_i32_4 : BitVec 32 := 0#32
  let v6 : BitVec 1 := Scalar.cmpi .eq arg1 c0_i32_4
  let v7 : BitVec 1 := Scalar.andi v5 v6
  let v8 : BitVec 32 := Scalar.extui v7
  let c0_i32_5 : BitVec 32 := 0#32
  let v9 : BitVec 1 := Scalar.cmpi .ne v8 c0_i32_5
  v9

def cc0_transform_0 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 1 → Memref sig .tc .vmem S8x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]
-- ==== FfnInDxRefIdeal.lean ====
abbrev S2x4096x2816 : Shape := ⟨3, ![2, 4096, 2816]⟩
abbrev S1024x5632 : Shape := ⟨2, ![1024, 5632]⟩
abbrev S4096x1024 : Shape := ⟨2, ![4096, 1024]⟩
abbrev S1024 : Shape := ⟨1, ![1024]⟩
abbrev S1x1024 : Shape := ⟨2, ![1, 1024]⟩
abbrev S1x4096x2816 : Shape := ⟨3, ![1, 4096, 2816]⟩
abbrev S4096x2816 : Shape := ⟨2, ![4096, 2816]⟩
abbrev S4096x5632 : Shape := ⟨2, ![4096, 5632]⟩
abbrev S_ : Shape := ⟨0, ![]⟩
abbrev S4096 : Shape := ⟨1, ![4096]⟩
abbrev S4096x1 : Shape := ⟨2, ![4096, 1]⟩
abbrev S4x1024 : Shape := ⟨2, ![4, 1024]⟩
abbrev S8x1024 : Shape := ⟨2, ![8, 1024]⟩

abbrev nBuf : Space → Nat
  | .hbm => 92
  | .vmem => 0
  | .smem => 0
  | _ => 0

abbrev bufTy : (tb : Table) → Fin (tcTables nBuf tb) → BufTy
  | .hbm, ⟨0, _⟩ => ⟨S2x4096x2816, .bf16⟩
  | .hbm, ⟨1, _⟩ => ⟨S1024x5632, .f32⟩
  | .hbm, ⟨2, _⟩ => ⟨S4096x1024, .f32⟩
  | .hbm, ⟨3, _⟩ => ⟨S1024, .f32⟩
  | .hbm, ⟨4, _⟩ => ⟨S1x1024, .f32⟩
  | .hbm, ⟨5, _⟩ => ⟨S1x1024, .f32⟩
  | .hbm, ⟨6, _⟩ => ⟨S4096x1024, .f32⟩
  | .hbm, ⟨7, _⟩ => ⟨S4096x1024, .f32⟩
  | .hbm, ⟨8, _⟩ => ⟨S1x1024, .f32⟩
  | .hbm, ⟨9, _⟩ => ⟨S1x4096x2816, .bf16⟩
  | .hbm, ⟨10, _⟩ => ⟨S4096x2816, .bf16⟩
  | .hbm, ⟨11, _⟩ => ⟨S1x4096x2816, .bf16⟩
  | .hbm, ⟨12, _⟩ => ⟨S4096x2816, .bf16⟩
  | .hbm, ⟨13, _⟩ => ⟨S4096x5632, .bf16⟩
  | .hbm, ⟨14, _⟩ => ⟨S4096x5632, .f32⟩
  | .hbm, ⟨15, _⟩ => ⟨S4096x1024, .f32⟩
  | .hbm, ⟨16, _⟩ => ⟨S_, .f32⟩
  | .hbm, ⟨17, _⟩ => ⟨S4096, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S4096x1, .f32⟩
  | .hbm, ⟨26, _⟩ => ⟨S4096x1, .f32⟩
  | .hbm, ⟨27, _⟩ => ⟨S_, .f32⟩
  | .hbm, ⟨28, _⟩ => ⟨S4096x1, .f32⟩
  | .hbm, ⟨29, _⟩ => ⟨S4096x1, .f32⟩
  | .hbm, ⟨30, _⟩ => ⟨S4096x1024, .f32⟩
  | .hbm, ⟨31, _⟩ => ⟨S4096x1024, .f32⟩
  | .hbm, ⟨32, _⟩ => ⟨S1x1024, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S1x1024, .f32⟩
  | .hbm, ⟨37, _⟩ => ⟨S1x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x5632, .f32⟩
  | .hbm, ⟨43, _⟩ => ⟨S4096x1024, .f32⟩
  | .hbm, ⟨44, _⟩ => ⟨S_, .f32⟩
  | .hbm, ⟨45, _⟩ => ⟨S1024, .f32⟩
  | .hbm, ⟨46, _⟩ => ⟨S1x1024, .f32⟩
  | .hbm, ⟨47, _⟩ => ⟨S4096x1024, .f32⟩
  | .hbm, ⟨48, _⟩ => ⟨S_, .f32⟩
  | .hbm, ⟨49, _⟩ => ⟨S1024, .f32⟩
  | .hbm, ⟨50, _⟩ => ⟨S1x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S_, .f32⟩
  | .hbm, ⟨55, _⟩ => ⟨S1024, .f32⟩
  | .hbm, ⟨56, _⟩ => ⟨S1x1024, .f32⟩
  | .hbm, ⟨57, _⟩ => ⟨S4096x1024, .f32⟩
  | .hbm, ⟨58, _⟩ => ⟨S4096x1024, .f32⟩
  | .hbm, ⟨59, _⟩ => ⟨S_, .f32⟩
  | .hbm, ⟨60, _⟩ => ⟨S1024, .f32⟩
  | .hbm, ⟨61, _⟩ => ⟨S4096x1024, .f32⟩
  | .hbm, ⟨62, _⟩ => ⟨S_, .f32⟩
  | .hbm, ⟨63, _⟩ => ⟨S4096, .f32⟩
  | .hbm, ⟨64, _⟩ => ⟨S4096x1, .f32⟩
  | .hbm, ⟨65, _⟩ => ⟨S4096x1024, .f32⟩
  | .hbm, ⟨66, _⟩ => ⟨S4096x1024, .f32⟩
  | .hbm, ⟨67, _⟩ => ⟨S4096x1024, .f32⟩
  | .hbm, ⟨68, _⟩ => ⟨S4096x1, .f32⟩
  | .hbm, ⟨69, _⟩ => ⟨S_, .f32⟩
  | .hbm, ⟨70, _⟩ => ⟨S4096x1, .f32⟩
  | .hbm, ⟨71, _⟩ => ⟨S4096x1, .f32⟩
  | .hbm, ⟨72, _⟩ => ⟨S_, .f32⟩
  | .hbm, ⟨73, _⟩ => ⟨S4096, .f32⟩
  | .hbm, ⟨74, _⟩ => ⟨S4096x1024, .f32⟩
  | .hbm, ⟨75, _⟩ => ⟨S4096x1024, .f32⟩
  | .hbm, ⟨76, _⟩ => ⟨S4096x1024, .f32⟩
  | .hbm, ⟨77, _⟩ => ⟨S4096x1024, .f32⟩
  | .hbm, ⟨78, _⟩ => ⟨S4096x1024, .f32⟩
  | .hbm, ⟨79, _⟩ => ⟨S4096x1024, .f32⟩
  | .hbm, ⟨80, _⟩ => ⟨S4096x1024, .f32⟩
  | .hbm, ⟨81, _⟩ => ⟨S4096x1024, .f32⟩
  | .hbm, ⟨82, _⟩ => ⟨S4096x1024, .f32⟩
  | .hbm, ⟨83, _⟩ => ⟨S4096x1024, .f32⟩
  | .hbm, ⟨84, _⟩ => ⟨S_, .f32⟩
  | .hbm, ⟨85, _⟩ => ⟨S1024, .f32⟩
  | .hbm, ⟨86, _⟩ => ⟨S1x1024, .f32⟩
  | .hbm, ⟨87, _⟩ => ⟨S4096x1024, .bf16⟩
  | .hbm, ⟨88, _⟩ => ⟨S1x1024, .f32⟩
  | .hbm, ⟨89, _⟩ => ⟨S_, .f32⟩
  | .hbm, ⟨90, _⟩ => ⟨S4x1024, .f32⟩
  | .hbm, ⟨91, _⟩ => ⟨S8x1024, .f32⟩
  | _, _ => ⟨S2x4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_3 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_4 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_5 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_6 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_7 : Ref sig .tc := ⟨.hbm, 59, rfl⟩
abbrev main_v42 : Ref sig .tc := ⟨.hbm, 60, rfl⟩
abbrev main_v43 : Ref sig .tc := ⟨.hbm, 61, rfl⟩
abbrev main_cst_8 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_cst_9 : Ref sig .tc := ⟨.hbm, 69, rfl⟩
abbrev main_v50 : Ref sig .tc := ⟨.hbm, 70, rfl⟩
abbrev main_v51 : Ref sig .tc := ⟨.hbm, 71, rfl⟩
abbrev main_cst_10 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_cst_11 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_cst_12 : Ref sig .tc := ⟨.hbm, 89, rfl⟩
abbrev main_v67 : Ref sig .tc := ⟨.hbm, 90, rfl⟩
abbrev main_v68 : Ref sig .tc := ⟨.hbm, 91, rfl⟩

abbrev nD : Nat := 1
abbrev τ : Topo := Topo.v7x

variable {F : FTy → Type} [FloatOps F]
-- ==== ProjDx.lean ====
abbrev S4096x5760 : Shape := ⟨2, ![4096, 5760]⟩
abbrev S5760x1024 : Shape := ⟨2, ![5760, 1024]⟩
abbrev S4096x1024 : Shape := ⟨2, ![4096, 1024]⟩
abbrev S1024 : Shape := ⟨1, ![1024]⟩
abbrev S1x1024 : Shape := ⟨2, ![1, 1024]⟩
abbrev S8x1024 : Shape := ⟨2, ![8, 1024]⟩
abbrev S512x1152 : Shape := ⟨2, ![512, 1152]⟩
abbrev S1152x1024 : Shape := ⟨2, ![1152, 1024]⟩
abbrev S512x1024 : Shape := ⟨2, ![512, 1024]⟩
abbrev S512 : Shape := ⟨1, ![512]⟩
abbrev S512x1 : Shape := ⟨2, ![512, 1]⟩

abbrev nBuf : Space → Nat
  | .hbm => 13
  | .vmem => 20
  | .smem => 0
  | _ => 0

abbrev bufTy : (tb : Table) → Fin (tcTables nBuf tb) → BufTy
  | .hbm, ⟨0, _⟩ => ⟨S4096x5760, .bf16⟩
  | .hbm, ⟨1, _⟩ => ⟨S5760x1024, .bf16⟩
  | .hbm, ⟨2, _⟩ => ⟨S4096x1024, .f32⟩
  | .hbm, ⟨3, _⟩ => ⟨S1024, .f32⟩
  | .hbm, ⟨4, _⟩ => ⟨S1x1024, .f32⟩
  | .hbm, ⟨5, _⟩ => ⟨S1x1024, .f32⟩
  | .hbm, ⟨6, _⟩ => ⟨S4096x1024, .f32⟩
  | .hbm, ⟨7, _⟩ => ⟨S4096x1024, .f32⟩
  | .hbm, ⟨8, _⟩ => ⟨S1x1024, .f32⟩
  | .hbm, ⟨9, _⟩ => ⟨S1x1024, .f32⟩
  | .hbm, ⟨10, _⟩ => ⟨S4096x1024, .f32⟩
  | .hbm, ⟨11, _⟩ => ⟨S4096x1024, .bf16⟩
  | .hbm, ⟨12, _⟩ => ⟨S8x1024, .f32⟩
  | .local _ .vmem, ⟨0, _⟩ => ⟨S512x1152, .bf16⟩
  | .local _ .vmem, ⟨1, _⟩ => ⟨S512x1152, .bf16⟩
  | .local _ .vmem, ⟨2, _⟩ => ⟨S1152x1024, .bf16⟩
  | .local _ .vmem, ⟨3, _⟩ => ⟨S1152x1024, .bf16⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S1x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .bf16⟩
  | .local _ .vmem, ⟨17, _⟩ => ⟨S512x1024, .bf16⟩
  | .local _ .vmem, ⟨18, _⟩ => ⟨S8x1024, .f32⟩
  | .local _ .vmem, ⟨19, _⟩ => ⟨S512x1024, .f32⟩
  | _, _ => ⟨S4096x5760, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1_0 : Ref sig .tc := ⟨.hbm, 10, rfl⟩
abbrev main_v1_1 : Ref sig .tc := ⟨.hbm, 11, rfl⟩
abbrev main_v1_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18

abbrev nD : Nat := 1
abbrev τ : Topo := Topo.v7x

variable {F : FTy → Type} [FloatOps F]

abbrev grid0 : Pipeline.Grid := ⟨2, ![8, 5], ![false, false]⟩

def k0_cond4 (i : grid0.Coords) : BitVec 1 :=
  let arg1 : BitVec 32 := BitVec.ofNat 32 (i 1).val
  let c4_i32 : BitVec 32 := 4#32
  let v14 : BitVec 1 := Scalar.cmpi .eq arg1 c4_i32
  let v15 : BitVec 32 := Scalar.extui v14
  let c0_i32_9 : BitVec 32 := 0#32
  let v16 : BitVec 1 := Scalar.cmpi .ne v15 c0_i32_9
  v16

def k0_cond1 (i : grid0.Coords) : BitVec 1 :=
  let arg0 : BitVec 32 := BitVec.ofNat 32 (i 0).val
  let c0_i32 : BitVec 32 := 0#32
  let v3 : BitVec 1 := Scalar.cmpi .eq arg0 c0_i32
  let arg1 : BitVec 32 := BitVec.ofNat 32 (i 1).val
  let c0_i32_3 : BitVec 32 := 0#32
  let v4 : BitVec 1 := Scalar.cmpi .eq arg1 c0_i32_3
  let v5 : BitVec 1 := Scalar.andi v3 v4
  let v6 : BitVec 32 := Scalar.extui v5
  let c0_i32_4 : BitVec 32 := 0#32
  let v7 : BitVec 1 := Scalar.cmpi .ne v6 c0_i32_4
  v7

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1152 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1152x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 1 → Memref sig .tc .vmem S8x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]
-- ==== ProjDxRefIdeal.lean ====
abbrev S4096x5760 : Shape := ⟨2, ![4096, 5760]⟩
abbrev S5760x1024 : Shape := ⟨2, ![5760, 1024]⟩
abbrev S4096x1024 : Shape := ⟨2, ![4096, 1024]⟩
abbrev S1024 : Shape := ⟨1, ![1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024x5760 : Shape := ⟨2, ![1024, 5760]⟩
abbrev S4x1024 : Shape := ⟨2, ![4, 1024]⟩
abbrev S8x1024 : Shape := ⟨2, ![8, 1024]⟩

abbrev nBuf : Space → Nat
  | .hbm => 89
  | .vmem => 0
  | .smem => 0
  | _ => 0

abbrev bufTy : (tb : Table) → Fin (tcTables nBuf tb) → BufTy
  | .hbm, ⟨0, _⟩ => ⟨S4096x5760, .bf16⟩
  | .hbm, ⟨1, _⟩ => ⟨S5760x1024, .bf16⟩
  | .hbm, ⟨2, _⟩ => ⟨S4096x1024, .f32⟩
  | .hbm, ⟨3, _⟩ => ⟨S1024, .f32⟩
  | .hbm, ⟨4, _⟩ => ⟨S1x1024, .f32⟩
  | .hbm, ⟨5, _⟩ => ⟨S1x1024, .f32⟩
  | .hbm, ⟨6, _⟩ => ⟨S4096x1024, .f32⟩
  | .hbm, ⟨7, _⟩ => ⟨S4096x1024, .f32⟩
  | .hbm, ⟨8, _⟩ => ⟨S1x1024, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x1024, .f32⟩
  | .hbm, ⟨25, _⟩ => ⟨S4096x1024, .f32⟩
  | .hbm, ⟨26, _⟩ => ⟨S1x1024, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S1x1024, .f32⟩
  | .hbm, ⟨31, _⟩ => ⟨S1x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S5760x1024, .f32⟩
  | .hbm, ⟨37, _⟩ => ⟨S1024x5760, .f32⟩
  | .hbm, ⟨38, _⟩ => ⟨S4096x5760, .f32⟩
  | .hbm, ⟨39, _⟩ => ⟨S4096x5760, .f32⟩
  | .hbm, ⟨40, _⟩ => ⟨S4096x1024, .f32⟩
  | .hbm, ⟨41, _⟩ => ⟨S_, .f32⟩
  | .hbm, ⟨42, _⟩ => ⟨S1024, .f32⟩
  | .hbm, ⟨43, _⟩ => ⟨S1x1024, .f32⟩
  | .hbm, ⟨44, _⟩ => ⟨S4096x1024, .f32⟩
  | .hbm, ⟨45, _⟩ => ⟨S_, .f32⟩
  | .hbm, ⟨46, _⟩ => ⟨S1024, .f32⟩
  | .hbm, ⟨47, _⟩ => ⟨S1x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S_, .f32⟩
  | .hbm, ⟨52, _⟩ => ⟨S1024, .f32⟩
  | .hbm, ⟨53, _⟩ => ⟨S1x1024, .f32⟩
  | .hbm, ⟨54, _⟩ => ⟨S4096x1024, .f32⟩
  | .hbm, ⟨55, _⟩ => ⟨S4096x1024, .f32⟩
  | .hbm, ⟨56, _⟩ => ⟨S_, .f32⟩
  | .hbm, ⟨57, _⟩ => ⟨S1024, .f32⟩
  | .hbm, ⟨58, _⟩ => ⟨S4096x1024, .f32⟩
  | .hbm, ⟨59, _⟩ => ⟨S_, .f32⟩
  | .hbm, ⟨60, _⟩ => ⟨S4096, .f32⟩
  | .hbm, ⟨61, _⟩ => ⟨S4096x1, .f32⟩
  | .hbm, ⟨62, _⟩ => ⟨S4096x1024, .f32⟩
  | .hbm, ⟨63, _⟩ => ⟨S4096x1024, .f32⟩
  | .hbm, ⟨64, _⟩ => ⟨S4096x1024, .f32⟩
  | .hbm, ⟨65, _⟩ => ⟨S4096x1, .f32⟩
  | .hbm, ⟨66, _⟩ => ⟨S_, .f32⟩
  | .hbm, ⟨67, _⟩ => ⟨S4096x1, .f32⟩
  | .hbm, ⟨68, _⟩ => ⟨S4096x1, .f32⟩
  | .hbm, ⟨69, _⟩ => ⟨S_, .f32⟩
  | .hbm, ⟨70, _⟩ => ⟨S4096, .f32⟩
  | .hbm, ⟨71, _⟩ => ⟨S4096x1024, .f32⟩
  | .hbm, ⟨72, _⟩ => ⟨S4096x1024, .f32⟩
  | .hbm, ⟨73, _⟩ => ⟨S4096x1024, .f32⟩
  | .hbm, ⟨74, _⟩ => ⟨S4096x1024, .f32⟩
  | .hbm, ⟨75, _⟩ => ⟨S4096x1024, .f32⟩
  | .hbm, ⟨76, _⟩ => ⟨S4096x1024, .f32⟩
  | .hbm, ⟨77, _⟩ => ⟨S4096x1024, .f32⟩
  | .hbm, ⟨78, _⟩ => ⟨S4096x1024, .f32⟩
  | .hbm, ⟨79, _⟩ => ⟨S4096x1024, .f32⟩
  | .hbm, ⟨80, _⟩ => ⟨S4096x1024, .f32⟩
  | .hbm, ⟨81, _⟩ => ⟨S_, .f32⟩
  | .hbm, ⟨82, _⟩ => ⟨S1024, .f32⟩
  | .hbm, ⟨83, _⟩ => ⟨S1x1024, .f32⟩
  | .hbm, ⟨84, _⟩ => ⟨S4096x1024, .bf16⟩
  | .hbm, ⟨85, _⟩ => ⟨S1x1024, .f32⟩
  | .hbm, ⟨86, _⟩ => ⟨S_, .f32⟩
  | .hbm, ⟨87, _⟩ => ⟨S4x1024, .f32⟩
  | .hbm, ⟨88, _⟩ => ⟨S8x1024, .f32⟩
  | _, _ => ⟨S4096x5760, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_3 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_4 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_5 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_6 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_7 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_9 : Ref sig .tc := ⟨.hbm, 66, rfl⟩
abbrev main_v47 : Ref sig .tc := ⟨.hbm, 67, rfl⟩
abbrev main_v48 : Ref sig .tc := ⟨.hbm, 68, rfl⟩
abbrev main_cst_10 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_cst_11 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_cst_12 : Ref sig .tc := ⟨.hbm, 86, rfl⟩
abbrev main_v64 : Ref sig .tc := ⟨.hbm, 87, rfl⟩
abbrev main_v65 : Ref sig .tc := ⟨.hbm, 88, rfl⟩

abbrev nD : Nat := 1
abbrev τ : Topo := Topo.v7x

variable {F : FTy → Type} [FloatOps F]
-- ==== ProjDxFirst.lean ====
abbrev S4096x5760 : Shape := ⟨2, ![4096, 5760]⟩
abbrev S5760x1024 : Shape := ⟨2, ![5760, 1024]⟩
abbrev S4096x1024 : Shape := ⟨2, ![4096, 1024]⟩
abbrev S1024 : Shape := ⟨1, ![1024]⟩
abbrev S1x1024 : Shape := ⟨2, ![1, 1024]⟩
abbrev S8x1024 : Shape := ⟨2, ![8, 1024]⟩
abbrev S512x1152 : Shape := ⟨2, ![512, 1152]⟩
abbrev S1152x1024 : Shape := ⟨2, ![1152, 1024]⟩
abbrev S512x1024 : Shape := ⟨2, ![512, 1024]⟩
abbrev S512 : Shape := ⟨1, ![512]⟩
abbrev S512x1 : Shape := ⟨2, ![512, 1]⟩

abbrev nBuf : Space → Nat
  | .hbm => 10
  | .vmem => 15
  | .smem => 0
  | _ => 0

abbrev bufTy : (tb : Table) → Fin (tcTables nBuf tb) → BufTy
  | .hbm, ⟨0, _⟩ => ⟨S4096x5760, .bf16⟩
  | .hbm, ⟨1, _⟩ => ⟨S5760x1024, .bf16⟩
  | .hbm, ⟨2, _⟩ => ⟨S4096x1024, .f32⟩
  | .hbm, ⟨3, _⟩ => ⟨S1024, .f32⟩
  | .hbm, ⟨4, _⟩ => ⟨S1x1024, .f32⟩
  | .hbm, ⟨5, _⟩ => ⟨S1x1024, .f32⟩
  | .hbm, ⟨6, _⟩ => ⟨S4096x1024, .f32⟩
  | .hbm, ⟨7, _⟩ => ⟨S1x1024, .f32⟩
  | .hbm, ⟨8, _⟩ => ⟨S4096x1024, .f32⟩
  | .hbm, ⟨9, _⟩ => ⟨S8x1024, .f32⟩
  | .local _ .vmem, ⟨0, _⟩ => ⟨S512x1152, .bf16⟩
  | .local _ .vmem, ⟨1, _⟩ => ⟨S512x1152, .bf16⟩
  | .local _ .vmem, ⟨2, _⟩ => ⟨S1152x1024, .bf16⟩
  | .local _ .vmem, ⟨3, _⟩ => ⟨S1152x1024, .bf16⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S8x1024, .f32⟩
  | .local _ .vmem, ⟨14, _⟩ => ⟨S512x1024, .f32⟩
  | _, _ => ⟨S4096x5760, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13

abbrev nD : Nat := 1
abbrev τ : Topo := Topo.v7x

variable {F : FTy → Type} [FloatOps F]

abbrev grid0 : Pipeline.Grid := ⟨2, ![8, 5], ![false, false]⟩

def k0_cond4 (i : grid0.Coords) : BitVec 1 :=
  let arg1 : BitVec 32 := BitVec.ofNat 32 (i 1).val
  let c4_i32 : BitVec 32 := 4#32
  let v14 : BitVec 1 := Scalar.cmpi .eq arg1 c4_i32
  let v15 : BitVec 32 := Scalar.extui v14
  let c0_i32_9 : BitVec 32 := 0#32
  let v16 : BitVec 1 := Scalar.cmpi .ne v15 c0_i32_9
  v16

def k0_cond1 (i : grid0.Coords) : BitVec 1 :=
  let arg0 : BitVec 32 := BitVec.ofNat 32 (i 0).val
  let c0_i32 : BitVec 32 := 0#32
  let v3 : BitVec 1 := Scalar.cmpi .eq arg0 c0_i32
  let arg1 : BitVec 32 := BitVec.ofNat 32 (i 1).val
  let c0_i32_3 : BitVec 32 := 0#32
  let v4 : BitVec 1 := Scalar.cmpi .eq arg1 c0_i32_3
  let v5 : BitVec 1 := Scalar.andi v3 v4
  let v6 : BitVec 32 := Scalar.extui v5
  let c0_i32_4 : BitVec 32 := 0#32
  let v7 : BitVec 1 := Scalar.cmpi .ne v6 c0_i32_4
  v7

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1152 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1152x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S8x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]
-- ==== ProjDxFirstRefIdeal.lean ====
abbrev S4096x5760 : Shape := ⟨2, ![4096, 5760]⟩
abbrev S5760x1024 : Shape := ⟨2, ![5760, 1024]⟩
abbrev S4096x1024 : Shape := ⟨2, ![4096, 1024]⟩
abbrev S1024 : Shape := ⟨1, ![1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024x5760 : Shape := ⟨2, ![1024, 5760]⟩
abbrev S5x1024 : Shape := ⟨2, ![5, 1024]⟩
abbrev S8x1024 : Shape := ⟨2, ![8, 1024]⟩

abbrev nBuf : Space → Nat
  | .hbm => 78
  | .vmem => 0
  | .smem => 0
  | _ => 0

abbrev bufTy : (tb : Table) → Fin (tcTables nBuf tb) → BufTy
  | .hbm, ⟨0, _⟩ => ⟨S4096x5760, .bf16⟩
  | .hbm, ⟨1, _⟩ => ⟨S5760x1024, .bf16⟩
  | .hbm, ⟨2, _⟩ => ⟨S4096x1024, .f32⟩
  | .hbm, ⟨3, _⟩ => ⟨S1024, .f32⟩
  | .hbm, ⟨4, _⟩ => ⟨S1x1024, .f32⟩
  | .hbm, ⟨5, _⟩ => ⟨S1x1024, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S1x1024, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S1x1024, .f32⟩
  | .hbm, ⟨29, _⟩ => ⟨S1x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S5760x1024, .f32⟩
  | .hbm, ⟨35, _⟩ => ⟨S1024x5760, .f32⟩
  | .hbm, ⟨36, _⟩ => ⟨S4096x5760, .f32⟩
  | .hbm, ⟨37, _⟩ => ⟨S4096x5760, .f32⟩
  | .hbm, ⟨38, _⟩ => ⟨S4096x1024, .f32⟩
  | .hbm, ⟨39, _⟩ => ⟨S_, .f32⟩
  | .hbm, ⟨40, _⟩ => ⟨S1024, .f32⟩
  | .hbm, ⟨41, _⟩ => ⟨S1x1024, .f32⟩
  | .hbm, ⟨42, _⟩ => ⟨S4096x1024, .f32⟩
  | .hbm, ⟨43, _⟩ => ⟨S_, .f32⟩
  | .hbm, ⟨44, _⟩ => ⟨S1024, .f32⟩
  | .hbm, ⟨45, _⟩ => ⟨S1x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S_, .f32⟩
  | .hbm, ⟨50, _⟩ => ⟨S1024, .f32⟩
  | .hbm, ⟨51, _⟩ => ⟨S1x1024, .f32⟩
  | .hbm, ⟨52, _⟩ => ⟨S4096x1024, .f32⟩
  | .hbm, ⟨53, _⟩ => ⟨S4096x1024, .f32⟩
  | .hbm, ⟨54, _⟩ => ⟨S_, .f32⟩
  | .hbm, ⟨55, _⟩ => ⟨S1024, .f32⟩
  | .hbm, ⟨56, _⟩ => ⟨S4096x1024, .f32⟩
  | .hbm, ⟨57, _⟩ => ⟨S_, .f32⟩
  | .hbm, ⟨58, _⟩ => ⟨S4096, .f32⟩
  | .hbm, ⟨59, _⟩ => ⟨S4096x1, .f32⟩
  | .hbm, ⟨60, _⟩ => ⟨S4096x1024, .f32⟩
  | .hbm, ⟨61, _⟩ => ⟨S4096x1024, .f32⟩
  | .hbm, ⟨62, _⟩ => ⟨S4096x1024, .f32⟩
  | .hbm, ⟨63, _⟩ => ⟨S4096x1, .f32⟩
  | .hbm, ⟨64, _⟩ => ⟨S_, .f32⟩
  | .hbm, ⟨65, _⟩ => ⟨S4096x1, .f32⟩
  | .hbm, ⟨66, _⟩ => ⟨S4096x1, .f32⟩
  | .hbm, ⟨67, _⟩ => ⟨S_, .f32⟩
  | .hbm, ⟨68, _⟩ => ⟨S4096, .f32⟩
  | .hbm, ⟨69, _⟩ => ⟨S4096x1024, .f32⟩
  | .hbm, ⟨70, _⟩ => ⟨S4096x1024, .f32⟩
  | .hbm, ⟨71, _⟩ => ⟨S4096x1024, .f32⟩
  | .hbm, ⟨72, _⟩ => ⟨S4096x1024, .f32⟩
  | .hbm, ⟨73, _⟩ => ⟨S4096x1024, .f32⟩
  | .hbm, ⟨74, _⟩ => ⟨S1x1024, .f32⟩
  | .hbm, ⟨75, _⟩ => ⟨S_, .f32⟩
  | .hbm, ⟨76, _⟩ => ⟨S5x1024, .f32⟩
  | .hbm, ⟨77, _⟩ => ⟨S8x1024, .f32⟩
  | _, _ => ⟨S4096x5760, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_4 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_6 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_7 : Ref sig .tc := ⟨.hbm, 54, rfl⟩
abbrev main_v39 : Ref sig .tc := ⟨.hbm, 55, rfl⟩
abbrev main_v40 : Ref sig .tc := ⟨.hbm, 56, rfl⟩
abbrev main_cst_8 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_cst_9 : Ref sig .tc := ⟨.hbm, 64, rfl⟩
abbrev main_v47 : Ref sig .tc := ⟨.hbm, 65, rfl⟩
abbrev main_v48 : Ref sig .tc := ⟨.hbm, 66, rfl⟩
abbrev main_cst_10 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_11 : Ref sig .tc := ⟨.hbm, 75, rfl⟩
abbrev main_v56 : Ref sig .tc := ⟨.hbm, 76, rfl⟩
abbrev main_v57 : Ref sig .tc := ⟨.hbm, 77, rfl⟩

abbrev nD : Nat := 1
abbrev τ : Topo := Topo.v7x

variable {F : FTy → Type} [FloatOps F]
-- ==== LossHead.lean ====
abbrev S4096x1024 : Shape := ⟨2, ![4096, 1024]⟩
abbrev S1x1024 : Shape := ⟨2, ![1, 1024]⟩
abbrev S1024 : Shape := ⟨1, ![1024]⟩
abbrev S8x1024 : Shape := ⟨2, ![8, 1024]⟩
abbrev S256x1024 : Shape := ⟨2, ![256, 1024]⟩
abbrev S256 : Shape := ⟨1, ![256]⟩
abbrev S256x1 : Shape := ⟨2, ![256, 1]⟩
abbrev S1 : Shape := ⟨1, ![1]⟩
abbrev S1x1 : Shape := ⟨2, ![1, 1]⟩

abbrev nBuf : Space → Nat
  | .hbm => 9
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1024, .f32⟩
  | .hbm, ⟨4, _⟩ => ⟨S4096x1024, .f32⟩
  | .hbm, ⟨5, _⟩ => ⟨S1x1024, .f32⟩
  | .hbm, ⟨6, _⟩ => ⟨S4096x1024, .f32⟩
  | .hbm, ⟨7, _⟩ => ⟨S4096x1024, .bf16⟩
  | .hbm, ⟨8, _⟩ => ⟨S8x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S1x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .bf16⟩
  | .local _ .vmem, ⟨11, _⟩ => ⟨S256x1024, .bf16⟩
  | .local _ .vmem, ⟨12, _⟩ => ⟨S8x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== LossHeadRefIdeal.lean ====
abbrev S4096x1024 : Shape := ⟨2, ![4096, 1024]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S2x1024 : Shape := ⟨2, ![2, 1024]⟩
abbrev S3x1024 : Shape := ⟨2, ![3, 1024]⟩
abbrev S8x1024 : Shape := ⟨2, ![8, 1024]⟩

abbrev nBuf : Space → Nat
  | .hbm => 90
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1024, .f32⟩
  | .hbm, ⟨24, _⟩ => ⟨S4096x1024, .f32⟩
  | .hbm, ⟨25, _⟩ => ⟨S1x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S4096, .f32⟩
  | .hbm, ⟨35, _⟩ => ⟨S_, .f32⟩
  | .hbm, ⟨36, _⟩ => ⟨S4096, .f32⟩
  | .hbm, ⟨37, _⟩ => ⟨S4096, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S4096, .f32⟩
  | .hbm, ⟨46, _⟩ => ⟨S_, .f32⟩
  | .hbm, ⟨47, _⟩ => ⟨S4096, .f32⟩
  | .hbm, ⟨48, _⟩ => ⟨S4096, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S_, .f32⟩
  | .hbm, ⟨53, _⟩ => ⟨S1024, .f32⟩
  | .hbm, ⟨54, _⟩ => ⟨S1x1024, .f32⟩
  | .hbm, ⟨55, _⟩ => ⟨S4096x1024, .f32⟩
  | .hbm, ⟨56, _⟩ => ⟨S4096x1024, .f32⟩
  | .hbm, ⟨57, _⟩ => ⟨S_, .f32⟩
  | .hbm, ⟨58, _⟩ => ⟨S1024, .f32⟩
  | .hbm, ⟨59, _⟩ => ⟨S4096x1024, .f32⟩
  | .hbm, ⟨60, _⟩ => ⟨S_, .f32⟩
  | .hbm, ⟨61, _⟩ => ⟨S4096, .f32⟩
  | .hbm, ⟨62, _⟩ => ⟨S4096x1, .f32⟩
  | .hbm, ⟨63, _⟩ => ⟨S4096x1024, .f32⟩
  | .hbm, ⟨64, _⟩ => ⟨S4096x1024, .f32⟩
  | .hbm, ⟨65, _⟩ => ⟨S4096x1, .f32⟩
  | .hbm, ⟨66, _⟩ => ⟨S_, .f32⟩
  | .hbm, ⟨67, _⟩ => ⟨S4096x1, .f32⟩
  | .hbm, ⟨68, _⟩ => ⟨S4096x1, .f32⟩
  | .hbm, ⟨69, _⟩ => ⟨S_, .f32⟩
  | .hbm, ⟨70, _⟩ => ⟨S4096, .f32⟩
  | .hbm, ⟨71, _⟩ => ⟨S4096x1024, .f32⟩
  | .hbm, ⟨72, _⟩ => ⟨S4096x1024, .f32⟩
  | .hbm, ⟨73, _⟩ => ⟨S4096x1024, .f32⟩
  | .hbm, ⟨74, _⟩ => ⟨S4096x1024, .f32⟩
  | .hbm, ⟨75, _⟩ => ⟨S4096x1024, .f32⟩
  | .hbm, ⟨76, _⟩ => ⟨S4096x1024, .f32⟩
  | .hbm, ⟨77, _⟩ => ⟨S4096x1024, .f32⟩
  | .hbm, ⟨78, _⟩ => ⟨S4096x1024, .f32⟩
  | .hbm, ⟨79, _⟩ => ⟨S_, .f32⟩
  | .hbm, ⟨80, _⟩ => ⟨S1024, .f32⟩
  | .hbm, ⟨81, _⟩ => ⟨S1x1024, .f32⟩
  | .hbm, ⟨82, _⟩ => ⟨S4096x1024, .bf16⟩
  | .hbm, ⟨83, _⟩ => ⟨S1x1024, .f32⟩
  | .hbm, ⟨84, _⟩ => ⟨S_, .f32⟩
  | .hbm, ⟨85, _⟩ => ⟨S2x1024, .f32⟩
  | .hbm, ⟨86, _⟩ => ⟨S1x1024, .f32⟩
  | .hbm, ⟨87, _⟩ => ⟨S_, .f32⟩
  | .hbm, ⟨88, _⟩ => ⟨S3x1024, .f32⟩
  | .hbm, ⟨89, _⟩ => ⟨S8x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_cst_5 : Ref sig .tc := ⟨.hbm, 35, rfl⟩
abbrev main_v24 : Ref sig .tc := ⟨.hbm, 36, rfl⟩
abbrev main_v25 : Ref sig .tc := ⟨.hbm, 37, rfl⟩
abbrev main_cst_6 : Ref sig .tc := ⟨.hbm, 38, rfl⟩
abbrev main_v26 : Ref sig .tc := ⟨.hbm, 39, rfl⟩
abbrev main_cst_7 : Ref sig .tc := ⟨.hbm, 40, rfl⟩
abbrev main_v27 : Ref sig .tc := ⟨.hbm, 41, rfl⟩
abbrev main_cst_8 : Ref sig .tc := ⟨.hbm, 42, rfl⟩
abbrev main_cst_9 : Ref sig .tc := ⟨.hbm, 43, rfl⟩
abbrev main_v28 : Ref sig .tc := ⟨.hbm, 44, rfl⟩
abbrev main_v29 : Ref sig .tc := ⟨.hbm, 45, rfl⟩
abbrev main_cst_10 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_11 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_12 : Ref sig .tc := ⟨.hbm, 57, rfl⟩
abbrev main_v39 : Ref sig .tc := ⟨.hbm, 58, rfl⟩
abbrev main_v40 : Ref sig .tc := ⟨.hbm, 59, rfl⟩
abbrev main_cst_13 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_14 : Ref sig .tc := ⟨.hbm, 66, rfl⟩
abbrev main_v46 : Ref sig .tc := ⟨.hbm, 67, rfl⟩
abbrev main_v47 : Ref sig .tc := ⟨.hbm, 68, rfl⟩
abbrev main_cst_15 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_16 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_cst_17 : Ref sig .tc := ⟨.hbm, 84, rfl⟩
abbrev main_v61 : Ref sig .tc := ⟨.hbm, 85, rfl⟩
abbrev main_v62 : Ref sig .tc := ⟨.hbm, 86, rfl⟩
abbrev main_cst_18 : Ref sig .tc := ⟨.hbm, 87, rfl⟩
abbrev main_v63 : Ref sig .tc := ⟨.hbm, 88, rfl⟩
abbrev main_v64 : Ref sig .tc := ⟨.hbm, 89, rfl⟩

abbrev nD : Nat := 1
abbrev τ : Topo := Topo.v7x

variable {F : FTy → Type} [FloatOps F]
-- ==== OutDw.lean ====
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== OutDwRefIdeal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== BranchDw.lean ====
abbrev S4096x512 : Shape := ⟨2, ![4096, 512]⟩
abbrev S4096x1024 : Shape := ⟨2, ![4096, 1024]⟩
abbrev S512x1024 : Shape := ⟨2, ![512, 1024]⟩
abbrev S1024x512 : Shape := ⟨2, ![1024, 512]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x512, .bf16⟩
  | .hbm, ⟨1, _⟩ => ⟨S4096x1024, .bf16⟩
  | .hbm, ⟨2, _⟩ => ⟨S512x1024, .bf16⟩
  | .local _ .vmem, ⟨0, _⟩ => ⟨S1024x512, .bf16⟩
  | .local _ .vmem, ⟨1, _⟩ => ⟨S1024x512, .bf16⟩
  | .local _ .vmem, ⟨2, _⟩ => ⟨S1024x1024, .bf16⟩
  | .local _ .vmem, ⟨3, _⟩ => ⟨S1024x1024, .bf16⟩
  | .local _ .vmem, ⟨4, _⟩ => ⟨S512x1024, .bf16⟩
  | .local _ .vmem, ⟨5, _⟩ => ⟨S512x1024, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== BranchDwRefIdeal.lean ====
abbrev S4096x512 : Shape := ⟨2, ![4096, 512]⟩
abbrev S4096x1024 : Shape := ⟨2, ![4096, 1024]⟩
abbrev S_ : Shape := ⟨0, ![]⟩
abbrev S512x1024 : Shape := ⟨2, ![512, 1024]⟩
abbrev S1024x512 : Shape := ⟨2, ![1024, 512]⟩

abbrev nBuf : Space → Nat
  | .hbm => 10
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x1024, .bf16⟩
  | .hbm, ⟨2, _⟩ => ⟨S_, .f32⟩
  | .hbm, ⟨3, _⟩ => ⟨S512x1024, .f32⟩
  | .hbm, ⟨4, _⟩ => ⟨S4096x512, .f32⟩
  | .hbm, ⟨5, _⟩ => ⟨S4096x1024, .f32⟩
  | .hbm, ⟨6, _⟩ => ⟨S4096x1024, .f32⟩
  | .hbm, ⟨7, _⟩ => ⟨S1024x512, .f32⟩
  | .hbm, ⟨8, _⟩ => ⟨S512x1024, .f32⟩
  | .hbm, ⟨9, _⟩ => ⟨S512x1024, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== BranchDx.lean ====
abbrev S4096x1024 : Shape := ⟨2, ![4096, 1024]⟩
abbrev S512x1024 : Shape := ⟨2, ![512, 1024]⟩
abbrev S4096x512 : Shape := ⟨2, ![4096, 512]⟩
abbrev S1024x1024 : Shape := ⟨2, ![1024, 1024]⟩
abbrev S1024x512 : Shape := ⟨2, ![1024, 512]⟩

abbrev nBuf : Space → Nat
  | .hbm => 4
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S512x1024, .f32⟩
  | .hbm, ⟨2, _⟩ => ⟨S512x1024, .bf16⟩
  | .hbm, ⟨3, _⟩ => ⟨S4096x512, .f32⟩
  | .local _ .vmem, ⟨0, _⟩ => ⟨S1024x1024, .bf16⟩
  | .local _ .vmem, ⟨1, _⟩ => ⟨S1024x1024, .bf16⟩
  | .local _ .vmem, ⟨2, _⟩ => ⟨S512x1024, .bf16⟩
  | .local _ .vmem, ⟨3, _⟩ => ⟨S1024x512, .f32⟩
  | .local _ .vmem, ⟨4, _⟩ => ⟨S1024x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BranchDxRefIdeal.lean ====
abbrev S4096x1024 : Shape := ⟨2, ![4096, 1024]⟩
abbrev S512x1024 : Shape := ⟨2, ![512, 1024]⟩
abbrev S_ : Shape := ⟨0, ![]⟩
abbrev S4096x512 : Shape := ⟨2, ![4096, 512]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S512x1024, .f32⟩
  | .hbm, ⟨2, _⟩ => ⟨S_, .f32⟩
  | .hbm, ⟨3, _⟩ => ⟨S4096x512, .f32⟩
  | .hbm, ⟨4, _⟩ => ⟨S4096x1024, .f32⟩
  | .hbm, ⟨5, _⟩ => ⟨S4096x1024, .f32⟩
  | .hbm, ⟨6, _⟩ => ⟨S4096x512, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== FfnOutLast.lean ====
abbrev S4096x2816 : Shape := ⟨2, ![4096, 2816]⟩
abbrev S2816x1024 : Shape := ⟨2, ![2816, 1024]⟩
abbrev S4096x1024 : Shape := ⟨2, ![4096, 1024]⟩
abbrev S1024x1408 : Shape := ⟨2, ![1024, 1408]⟩
abbrev S1408x1024 : Shape := ⟨2, ![1408, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .f32⟩
  | .hbm, ⟨2, _⟩ => ⟨S2816x1024, .bf16⟩
  | .hbm, ⟨3, _⟩ => ⟨S4096x1024, .f32⟩
  | .local _ .vmem, ⟨0, _⟩ => ⟨S1024x1408, .bf16⟩
  | .local _ .vmem, ⟨1, _⟩ => ⟨S1024x1408, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond3 (i : grid0.Coords) : BitVec 1 :=
  let arg2 : BitVec 32 := BitVec.ofNat 32 (i 2).val
  let c1_i32 : BitVec 32 := 1#32
  let v10 : BitVec 1 := Scalar.cmpi .eq arg2 c1_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnOutLastRefIdeal.lean ====
abbrev S4096x2816 : Shape := ⟨2, ![4096, 2816]⟩
abbrev S2816x1024 : Shape := ⟨2, ![2816, 1024]⟩
abbrev S4096x1024 : Shape := ⟨2, ![4096, 1024]⟩

abbrev nBuf : Space → Nat
  | .hbm => 4
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .f32⟩
  | .hbm, ⟨2, _⟩ => ⟨S4096x2816, .f32⟩
  | .hbm, ⟨3, _⟩ => ⟨S4096x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== AdamAda.lean ====
abbrev S4x1024x768 : Shape := ⟨3, ![4, 1024, 768]⟩
abbrev S1x4x1024x768 : Shape := ⟨4, ![1, 4, 1024, 768]⟩
abbrev S1x1x256x768 : Shape := ⟨4, ![1, 1, 256, 768]⟩
abbrev S1x256x768 : Shape := ⟨3, ![1, 256, 768]⟩
abbrev S256x768 : Shape := ⟨2, ![256, 768]⟩

abbrev nBuf : Space → Nat
  | .hbm => 9
  | .vmem => 16
  | .smem => 0
  | _ => 0

abbrev bufTy : (tb : Table) → Fin (tcTables nBuf tb) → BufTy
  | .hbm, ⟨0, _⟩ => ⟨S4x1024x768, .f32⟩
  | .hbm, ⟨1, _⟩ => ⟨S4x1024x768, .f32⟩
  | .hbm, ⟨2, _⟩ => ⟨S4x1024x768, .f32⟩
  | .hbm, ⟨3, _⟩ => ⟨S4x1024x768, .f32⟩
  | .hbm, ⟨4, _⟩ => ⟨S1x4x1024x768, .f32⟩
  | .hbm, ⟨5, _⟩ => ⟨S4x1024x768, .f32⟩
  | .hbm, ⟨6, _⟩ => ⟨S4x1024x768, .f32⟩
  | .hbm, ⟨7, _⟩ => ⟨S4x1024x768, .f32⟩
  | .hbm, ⟨8, _⟩ => ⟨S4x1024x768, .f32⟩
  | .local _ .vmem, ⟨0, _⟩ => ⟨S1x1x256x768, .f32⟩
  | .local _ .vmem, ⟨1, _⟩ => ⟨S1x1x256x768, .f32⟩
  | .local _ .vmem, ⟨2, _⟩ => ⟨S1x256x768, .f32⟩
  | .local _ .vmem, ⟨3, _⟩ => ⟨S1x256x768, .f32⟩
  | .local _ .vmem, ⟨4, _⟩ => ⟨S1x256x768, .f32⟩
  | .local _ .vmem, ⟨5, _⟩ => ⟨S1x256x768, .f32⟩
  | .local _ .vmem, ⟨6, _⟩ => ⟨S1x256x768, .f32⟩
  | .local _ .vmem, ⟨7, _⟩ => ⟨S1x256x768, .f32⟩
  | .local _ .vmem, ⟨8, _⟩ => ⟨S1x256x768, .f32⟩
  | .local _ .vmem, ⟨9, _⟩ => ⟨S1x256x768, .f32⟩
  | .local _ .vmem, ⟨10, _⟩ => ⟨S1x256x768, .f32⟩
  | .local _ .vmem, ⟨11, _⟩ => ⟨S1x256x768, .f32⟩
  | .local _ .vmem, ⟨12, _⟩ => ⟨S1x256x768, .f32⟩
  | .local _ .vmem, ⟨13, _⟩ => ⟨S1x256x768, .f32⟩
  | .local _ .vmem, ⟨14, _⟩ => ⟨S1x256x768, .f32⟩
  | .local _ .vmem, ⟨15, _⟩ => ⟨S1x256x768, .f32⟩
  | _, _ => ⟨S4x1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x1x256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x256x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== AdamAdaRefIdeal.lean ====
abbrev S4x1024x768 : Shape := ⟨3, ![4, 1024, 768]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x1024x768, .f32⟩
  | .hbm, ⟨1, _⟩ => ⟨S4x1024x768, .f32⟩
  | .hbm, ⟨2, _⟩ => ⟨S4x1024x768, .f32⟩
  | .hbm, ⟨3, _⟩ => ⟨S4x1024x768, .f32⟩
  | .hbm, ⟨4, _⟩ => ⟨S_, .f32⟩
  | .hbm, ⟨5, _⟩ => ⟨S4x1024x768, .f32⟩
  | .hbm, ⟨6, _⟩ => ⟨S4x1024x768, .f32⟩
  | .hbm, ⟨7, _⟩ => ⟨S_, .f32⟩
  | .hbm, ⟨8, _⟩ => ⟨S4x1024x768, .f32⟩
  | .hbm, ⟨9, _⟩ => ⟨S4x1024x768, .f32⟩
  | .hbm, ⟨10, _⟩ => ⟨S4x1024x768, .f32⟩
  | .hbm, ⟨11, _⟩ => ⟨S_, .f32⟩
  | .hbm, ⟨12, _⟩ => ⟨S4x1024x768, .f32⟩
  | .hbm, ⟨13, _⟩ => ⟨S4x1024x768, .f32⟩
  | .hbm, ⟨14, _⟩ => ⟨S4x1024x768, .f32⟩
  | .hbm, ⟨15, _⟩ => ⟨S_, .f32⟩
  | .hbm, ⟨16, _⟩ => ⟨S4x1024x768, .f32⟩
  | .hbm, ⟨17, _⟩ => ⟨S4x1024x768, .f32⟩
  | .hbm, ⟨18, _⟩ => ⟨S4x1024x768, .f32⟩
  | .hbm, ⟨19, _⟩ => ⟨S_, .f32⟩
  | .hbm, ⟨20, _⟩ => ⟨S4x1024x768, .f32⟩
  | .hbm, ⟨21, _⟩ => ⟨S4x1024x768, .f32⟩
  | .hbm, ⟨22, _⟩ => ⟨S_, .f32⟩
  | .hbm, ⟨23, _⟩ => ⟨S4x1024x768, .f32⟩
  | .hbm, ⟨24, _⟩ => ⟨S4x1024x768, .f32⟩
  | .hbm, ⟨25, _⟩ => ⟨S4x1024x768, .f32⟩
  | .hbm, ⟨26, _⟩ => ⟨S_, .f32⟩
  | .hbm, ⟨27, _⟩ => ⟨S4x1024x768, .f32⟩
  | .hbm, ⟨28, _⟩ => ⟨S4x1024x768, .f32⟩
  | .hbm, ⟨29, _⟩ => ⟨S4x1024x768, .f32⟩
  | .hbm, ⟨30, _⟩ => ⟨S_, .f32⟩
  | .hbm, ⟨31, _⟩ => ⟨S4x1024x768, .f32⟩
  | .hbm, ⟨32, _⟩ => ⟨S4x1024x768, .f32⟩
  | .hbm, ⟨33, _⟩ => ⟨S4x1024x768, .f32⟩
  | .hbm, ⟨34, _⟩ => ⟨S_, .f32⟩
  | .hbm, ⟨35, _⟩ => ⟨S4x1024x768, .f32⟩
  | .hbm, ⟨36, _⟩ => ⟨S4x1024x768, .f32⟩
  | _, _ => ⟨S4x1024x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamSmall.lean ====
abbrev S8x336x128 : Shape := ⟨3, ![8, 336, 128]⟩
abbrev S336x128 : Shape := ⟨2, ![336, 128]⟩
abbrev S8x1x336x128 : Shape := ⟨4, ![8, 1, 336, 128]⟩
abbrev S1x336x128 : Shape := ⟨3, ![1, 336, 128]⟩
abbrev S8x1x168x128 : Shape := ⟨4, ![8, 1, 168, 128]⟩
abbrev S1x168x128 : Shape := ⟨3, ![1, 168, 128]⟩
abbrev S1x1x168x128 : Shape := ⟨4, ![1, 1, 168, 128]⟩
abbrev S168x128 : Shape := ⟨2, ![168, 128]⟩

abbrev nBuf : Space → Nat
  | .hbm => 12
  | .vmem => 16
  | .smem => 0
  | _ => 0

abbrev bufTy : (tb : Table) → Fin (tcTables nBuf tb) → BufTy
  | .hbm, ⟨0, _⟩ => ⟨S8x336x128, .f32⟩
  | .hbm, ⟨1, _⟩ => ⟨S336x128, .f32⟩
  | .hbm, ⟨2, _⟩ => ⟨S336x128, .f32⟩
  | .hbm, ⟨3, _⟩ => ⟨S336x128, .f32⟩
  | .hbm, ⟨4, _⟩ => ⟨S8x1x336x128, .f32⟩
  | .hbm, ⟨5, _⟩ => ⟨S1x336x128, .f32⟩
  | .hbm, ⟨6, _⟩ => ⟨S1x336x128, .f32⟩
  | .hbm, ⟨7, _⟩ => ⟨S1x336x128, .f32⟩
  | .hbm, ⟨8, _⟩ => ⟨S1x336x128, .f32⟩
  | .hbm, ⟨9, _⟩ => ⟨S1x336x128, .f32⟩
  | .hbm, ⟨10, _⟩ => ⟨S1x336x128, .f32⟩
  | .hbm, ⟨11, _⟩ => ⟨S1x336x128, .f32⟩
  | .local _ .vmem, ⟨0, _⟩ => ⟨S8x1x168x128, .f32⟩
  | .local _ .vmem, ⟨1, _⟩ => ⟨S8x1x168x128, .f32⟩
  | .local _ .vmem, ⟨2, _⟩ => ⟨S1x168x128, .f32⟩
  | .local _ .vmem, ⟨3, _⟩ => ⟨S1x168x128, .f32⟩
  | .local _ .vmem, ⟨4, _⟩ => ⟨S1x168x128, .f32⟩
  | .local _ .vmem, ⟨5, _⟩ => ⟨S1x168x128, .f32⟩
  | .local _ .vmem, ⟨6, _⟩ => ⟨S1x168x128, .f32⟩
  | .local _ .vmem, ⟨7, _⟩ => ⟨S1x168x128, .f32⟩
  | .local _ .vmem, ⟨8, _⟩ => ⟨S1x168x128, .f32⟩
  | .local _ .vmem, ⟨9, _⟩ => ⟨S1x168x128, .f32⟩
  | .local _ .vmem, ⟨10, _⟩ => ⟨S1x168x128, .f32⟩
  | .local _ .vmem, ⟨11, _⟩ => ⟨S1x168x128, .f32⟩
  | .local _ .vmem, ⟨12, _⟩ => ⟨S1x168x128, .f32⟩
  | .local _ .vmem, ⟨13, _⟩ => ⟨S1x168x128, .f32⟩
  | .local _ .vmem, ⟨14, _⟩ => ⟨S1x168x128, .f32⟩
  | .local _ .vmem, ⟨15, _⟩ => ⟨S1x168x128, .f32⟩
  | _, _ => ⟨S8x336x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S8x1x168x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x168x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x168x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x168x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x168x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x168x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x168x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x168x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== AdamSmallRefIdeal.lean ====
abbrev S8x336x128 : Shape := ⟨3, ![8, 336, 128]⟩
abbrev S336x128 : Shape := ⟨2, ![336, 128]⟩
abbrev S_ : Shape := ⟨0, ![]⟩
abbrev S1x336x128 : Shape := ⟨3, ![1, 336, 128]⟩

abbrev nBuf : Space → Nat
  | .hbm => 43
  | .vmem => 0
  | .smem => 0
  | _ => 0

abbrev bufTy : (tb : Table) → Fin (tcTables nBuf tb) → BufTy
  | .hbm, ⟨0, _⟩ => ⟨S8x336x128, .f32⟩
  | .hbm, ⟨1, _⟩ => ⟨S336x128, .f32⟩
  | .hbm, ⟨2, _⟩ => ⟨S336x128, .f32⟩
  | .hbm, ⟨3, _⟩ => ⟨S336x128, .f32⟩
  | .hbm, ⟨4, _⟩ => ⟨S_, .f32⟩
  | .hbm, ⟨5, _⟩ => ⟨S336x128, .f32⟩
  | .hbm, ⟨6, _⟩ => ⟨S_, .f32⟩
  | .hbm, ⟨7, _⟩ => ⟨S336x128, .f32⟩
  | .hbm, ⟨8, _⟩ => ⟨S336x128, .f32⟩
  | .hbm, ⟨9, _⟩ => ⟨S_, .f32⟩
  | .hbm, ⟨10, _⟩ => ⟨S336x128, .f32⟩
  | .hbm, ⟨11, _⟩ => ⟨S336x128, .f32⟩
  | .hbm, ⟨12, _⟩ => ⟨S336x128, .f32⟩
  | .hbm, ⟨13, _⟩ => ⟨S_, .f32⟩
  | .hbm, ⟨14, _⟩ => ⟨S336x128, .f32⟩
  | .hbm, ⟨15, _⟩ => ⟨S336x128, .f32⟩
  | .hbm, ⟨16, _⟩ => ⟨S336x128, .f32⟩
  | .hbm, ⟨17, _⟩ => ⟨S_, .f32⟩
  | .hbm, ⟨18, _⟩ => ⟨S336x128, .f32⟩
  | .hbm, ⟨19, _⟩ => ⟨S336x128, .f32⟩
  | .hbm, ⟨20, _⟩ => ⟨S336x128, .f32⟩
  | .hbm, ⟨21, _⟩ => ⟨S_, .f32⟩
  | .hbm, ⟨22, _⟩ => ⟨S336x128, .f32⟩
  | .hbm, ⟨23, _⟩ => ⟨S336x128, .f32⟩
  | .hbm, ⟨24, _⟩ => ⟨S_, .f32⟩
  | .hbm, ⟨25, _⟩ => ⟨S336x128, .f32⟩
  | .hbm, ⟨26, _⟩ => ⟨S336x128, .f32⟩
  | .hbm, ⟨27, _⟩ => ⟨S336x128, .f32⟩
  | .hbm, ⟨28, _⟩ => ⟨S_, .f32⟩
  | .hbm, ⟨29, _⟩ => ⟨S336x128, .f32⟩
  | .hbm, ⟨30, _⟩ => ⟨S336x128, .f32⟩
  | .hbm, ⟨31, _⟩ => ⟨S336x128, .f32⟩
  | .hbm, ⟨32, _⟩ => ⟨S_, .f32⟩
  | .hbm, ⟨33, _⟩ => ⟨S336x128, .f32⟩
  | .hbm, ⟨34, _⟩ => ⟨S336x128, .f32⟩
  | .hbm, ⟨35, _⟩ => ⟨S336x128, .f32⟩
  | .hbm, ⟨36, _⟩ => ⟨S_, .f32⟩
  | .hbm, ⟨37, _⟩ => ⟨S336x128, .f32⟩
  | .hbm, ⟨38, _⟩ => ⟨S336x128, .f32⟩
  | .hbm, ⟨39, _⟩ => ⟨S1x336x128, .f32⟩
  | .hbm, ⟨40, _⟩ => ⟨S1x336x128, .f32⟩
  | .hbm, ⟨41, _⟩ => ⟨S1x336x128, .f32⟩
  | .hbm, ⟨42, _⟩ => ⟨S1x336x128, .f32⟩
  | _, _ => ⟨S8x336x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩

abbrev nD : Nat := 1
abbrev τ : Topo := Topo.v7x

variable {F : FTy → Type} [FloatOps F]
-- ==== AdamIn.lean ====
abbrev S8x4x705x1024 : Shape := ⟨4, ![8, 4, 705, 1024]⟩
abbrev S4x1024x705 : Shape := ⟨3, ![4, 1024, 705]⟩
abbrev S4x705x1024 : Shape := ⟨3, ![4, 705, 1024]⟩
abbrev S1 : Shape := ⟨1, ![1]⟩
abbrev S8x1x1 : Shape := ⟨3, ![8, 1, 1]⟩
abbrev S1x1x1 : Shape := ⟨3, ![1, 1, 1]⟩
abbrev S8x1 : Shape := ⟨2, ![8, 1]⟩
abbrev S_ : Shape := ⟨0, ![]⟩
abbrev S8x128 : Shape := ⟨2, ![8, 128]⟩
abbrev S8x1x705x256 : Shape := ⟨4, ![8, 1, 705, 256]⟩
abbrev S1x705x256 : Shape := ⟨3, ![1, 705, 256]⟩
abbrev S1x1 : Shape := ⟨2, ![1, 1]⟩
abbrev S705x256 : Shape := ⟨2, ![705, 256]⟩
abbrev S1x1x705x256 : Shape := ⟨4, ![1, 1, 705, 256]⟩

abbrev nBuf : Space → Nat
  | .hbm => 25
  | .vmem => 19
  | .smem => 0
  | _ => 0

abbrev bufTy : (tb : Table) → Fin (tcTables nBuf tb) → BufTy
  | .hbm, ⟨0, _⟩ => ⟨S8x4x705x1024, .bf16⟩
  | .hbm, ⟨1, _⟩ => ⟨S4x1024x705, .f32⟩
  | .hbm, ⟨2, _⟩ => ⟨S4x1024x705, .f32⟩
  | .hbm, ⟨3, _⟩ => ⟨S4x1024x705, .f32⟩
  | .hbm, ⟨4, _⟩ => ⟨S4x705x1024, .bf16⟩
  | .hbm, ⟨5, _⟩ => ⟨S1, .i32⟩
  | .hbm, ⟨6, _⟩ => ⟨S4x705x1024, .f32⟩
  | .hbm, ⟨7, _⟩ => ⟨S4x705x1024, .f32⟩
  | .hbm, ⟨8, _⟩ => ⟨S4x705x1024, .f32⟩
  | .hbm, ⟨9, _⟩ => ⟨S8x1x1, .i32⟩
  | .hbm, ⟨10, _⟩ => ⟨S1x1x1, .i32⟩
  | .hbm, ⟨11, _⟩ => ⟨S8x1x1, .i32⟩
  | .hbm, ⟨12, _⟩ => ⟨S8x1x1, .i1⟩
  | .hbm, ⟨13, _⟩ => ⟨S8x1, .i1⟩
  | .hbm, ⟨14, _⟩ => ⟨S_, .f32⟩
  | .hbm, ⟨15, _⟩ => ⟨S_, .f32⟩
  | .hbm, ⟨16, _⟩ => ⟨S8x1, .f32⟩
  | .hbm, ⟨17, _⟩ => ⟨S8x1, .f32⟩
  | .hbm, ⟨18, _⟩ => ⟨S8x1, .f32⟩
  | .hbm, ⟨19, _⟩ => ⟨S8x128, .f32⟩
  | .hbm, ⟨20, _⟩ => ⟨S8x128, .f32⟩
  | .hbm, ⟨21, _⟩ => ⟨S4x705x1024, .f32⟩
  | .hbm, ⟨22, _⟩ => ⟨S4x705x1024, .f32⟩
  | .hbm, ⟨23, _⟩ => ⟨S4x705x1024, .f32⟩
  | .hbm, ⟨24, _⟩ => ⟨S4x705x1024, .f32⟩
  | .local _ .vmem, ⟨0, _⟩ => ⟨S8x1x705x256, .bf16⟩
  | .local _ .vmem, ⟨1, _⟩ => ⟨S8x1x705x256, .bf16⟩
  | .local _ .vmem, ⟨2, _⟩ => ⟨S1x705x256, .f32⟩
  | .local _ .vmem, ⟨3, _⟩ => ⟨S1x705x256, .f32⟩
  | .local _ .vmem, ⟨4, _⟩ => ⟨S1x705x256, .f32⟩
  | .local _ .vmem, ⟨5, _⟩ => ⟨S1x705x256, .f32⟩
  | .local _ .vmem, ⟨6, _⟩ => ⟨S1x705x256, .f32⟩
  | .local _ .vmem, ⟨7, _⟩ => ⟨S1x705x256, .f32⟩
  | .local _ .vmem, ⟨8, _⟩ => ⟨S1x705x256, .bf16⟩
  | .local _ .vmem, ⟨9, _⟩ => ⟨S1x705x256, .bf16⟩
  | .local _ .vmem, ⟨10, _⟩ => ⟨S8x128, .f32⟩
  | .local _ .vmem, ⟨11, _⟩ => ⟨S1x705x256, .f32⟩
  | .local _ .vmem, ⟨12, _⟩ => ⟨S1x705x256, .f32⟩
  | .local _ .vmem, ⟨13, _⟩ => ⟨S1x705x256, .f32⟩
  | .local _ .vmem, ⟨14, _⟩ => ⟨S1x705x256, .f32⟩
  | .local _ .vmem, ⟨15, _⟩ => ⟨S1x705x256, .f32⟩
  | .local _ .vmem, ⟨16, _⟩ => ⟨S1x705x256, .f32⟩
  | .local _ .vmem, ⟨17, _⟩ => ⟨S1x705x256, .f32⟩
  | .local _ .vmem, ⟨18, _⟩ => ⟨S1x705x256, .f32⟩
  | _, _ => ⟨S8x4x705x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_cst_0 : Ref sig .tc := ⟨.hbm, 15, rfl⟩
abbrev main_call0_v0 : Ref sig .tc := ⟨.hbm, 16, rfl⟩
abbrev main_call0_v1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11_0 : Ref sig .tc := ⟨.hbm, 21, rfl⟩
abbrev main_v11_1 : Ref sig .tc := ⟨.hbm, 22, rfl⟩
abbrev main_v11_2 : Ref sig .tc := ⟨.hbm, 23, rfl⟩
abbrev main_v11_3 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨3, ![4, 1, 4], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S8x1x705x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x705x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x705x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x705x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x705x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S1x705x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x705x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x705x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S1x705x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]
-- ==== AdamInIdeal.lean ====
abbrev S8x4x705x1024 : Shape := ⟨4, ![8, 4, 705, 1024]⟩
abbrev S4x1024x705 : Shape := ⟨3, ![4, 1024, 705]⟩
abbrev S4x705x1024 : Shape := ⟨3, ![4, 705, 1024]⟩
abbrev S1 : Shape := ⟨1, ![1]⟩
abbrev S8x1x1 : Shape := ⟨3, ![8, 1, 1]⟩
abbrev S1x1x1 : Shape := ⟨3, ![1, 1, 1]⟩
abbrev S8x1 : Shape := ⟨2, ![8, 1]⟩
abbrev S_ : Shape := ⟨0, ![]⟩
abbrev S8x128 : Shape := ⟨2, ![8, 128]⟩
abbrev S8x1x705x256 : Shape := ⟨4, ![8, 1, 705, 256]⟩
abbrev S1x705x256 : Shape := ⟨3, ![1, 705, 256]⟩
abbrev S1x1 : Shape := ⟨2, ![1, 1]⟩
abbrev S705x256 : Shape := ⟨2, ![705, 256]⟩
abbrev S1x1x705x256 : Shape := ⟨4, ![1, 1, 705, 256]⟩

abbrev nBuf : Space → Nat
  | .hbm => 25
  | .vmem => 19
  | .smem => 0
  | _ => 0

abbrev bufTy : (tb : Table) → Fin (tcTables nBuf tb) → BufTy
  | .hbm, ⟨0, _⟩ => ⟨S8x4x705x1024, .bf16⟩
  | .hbm, ⟨1, _⟩ => ⟨S4x1024x705, .f32⟩
  | .hbm, ⟨2, _⟩ => ⟨S4x1024x705, .f32⟩
  | .hbm, ⟨3, _⟩ => ⟨S4x1024x705, .f32⟩
  | .hbm, ⟨4, _⟩ => ⟨S4x705x1024, .bf16⟩
  | .hbm, ⟨5, _⟩ => ⟨S1, .i32⟩
  | .hbm, ⟨6, _⟩ => ⟨S4x705x1024, .f32⟩
  | .hbm, ⟨7, _⟩ => ⟨S4x705x1024, .f32⟩
  | .hbm, ⟨8, _⟩ => ⟨S4x705x1024, .f32⟩
  | .hbm, ⟨9, _⟩ => ⟨S8x1x1, .i32⟩
  | .hbm, ⟨10, _⟩ => ⟨S1x1x1, .i32⟩
  | .hbm, ⟨11, _⟩ => ⟨S8x1x1, .i32⟩
  | .hbm, ⟨12, _⟩ => ⟨S8x1x1, .i1⟩
  | .hbm, ⟨13, _⟩ => ⟨S8x1, .i1⟩
  | .hbm, ⟨14, _⟩ => ⟨S_, .f32⟩
  | .hbm, ⟨15, _⟩ => ⟨S_, .f32⟩
  | .hbm, ⟨16, _⟩ => ⟨S8x1, .f32⟩
  | .hbm, ⟨17, _⟩ => ⟨S8x1, .f32⟩
  | .hbm, ⟨18, _⟩ => ⟨S8x1, .f32⟩
  | .hbm, ⟨19, _⟩ => ⟨S8x128, .f32⟩
  | .hbm, ⟨20, _⟩ => ⟨S8x128, .f32⟩
  | .hbm, ⟨21, _⟩ => ⟨S4x705x1024, .f32⟩
  | .hbm, ⟨22, _⟩ => ⟨S4x705x1024, .f32⟩
  | .hbm, ⟨23, _⟩ => ⟨S4x705x1024, .f32⟩
  | .hbm, ⟨24, _⟩ => ⟨S4x705x1024, .f32⟩
  | .local _ .vmem, ⟨0, _⟩ => ⟨S8x1x705x256, .bf16⟩
  | .local _ .vmem, ⟨1, _⟩ => ⟨S8x1x705x256, .bf16⟩
  | .local _ .vmem, ⟨2, _⟩ => ⟨S1x705x256, .f32⟩
  | .local _ .vmem, ⟨3, _⟩ => ⟨S1x705x256, .f32⟩
  | .local _ .vmem, ⟨4, _⟩ => ⟨S1x705x256, .f32⟩
  | .local _ .vmem, ⟨5, _⟩ => ⟨S1x705x256, .f32⟩
  | .local _ .vmem, ⟨6, _⟩ => ⟨S1x705x256, .f32⟩
  | .local _ .vmem, ⟨7, _⟩ => ⟨S1x705x256, .f32⟩
  | .local _ .vmem, ⟨8, _⟩ => ⟨S1x705x256, .bf16⟩
  | .local _ .vmem, ⟨9, _⟩ => ⟨S1x705x256, .bf16⟩
  | .local _ .vmem, ⟨10, _⟩ => ⟨S8x128, .f32⟩
  | .local _ .vmem, ⟨11, _⟩ => ⟨S1x705x256, .f32⟩
  | .local _ .vmem, ⟨12, _⟩ => ⟨S1x705x256, .f32⟩
  | .local _ .vmem, ⟨13, _⟩ => ⟨S1x705x256, .f32⟩
  | .local _ .vmem, ⟨14, _⟩ => ⟨S1x705x256, .f32⟩
  | .local _ .vmem, ⟨15, _⟩ => ⟨S1x705x256, .f32⟩
  | .local _ .vmem, ⟨16, _⟩ => ⟨S1x705x256, .f32⟩
  | .local _ .vmem, ⟨17, _⟩ => ⟨S1x705x256, .f32⟩
  | .local _ .vmem, ⟨18, _⟩ => ⟨S1x705x256, .f32⟩
  | _, _ => ⟨S8x4x705x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_cst_0 : Ref sig .tc := ⟨.hbm, 15, rfl⟩
abbrev main_call0_v0 : Ref sig .tc := ⟨.hbm, 16, rfl⟩
abbrev main_call0_v1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11_0 : Ref sig .tc := ⟨.hbm, 21, rfl⟩
abbrev main_v11_1 : Ref sig .tc := ⟨.hbm, 22, rfl⟩
abbrev main_v11_2 : Ref sig .tc := ⟨.hbm, 23, rfl⟩
abbrev main_v11_3 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨3, ![4, 1, 4], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S8x1x705x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x705x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x705x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x705x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x705x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S1x705x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x705x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x705x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S1x705x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]
-- ==== AdamInRefIdeal.lean ====
abbrev S8x4x705x1024 : Shape := ⟨4, ![8, 4, 705, 1024]⟩
abbrev S4x1024x705 : Shape := ⟨3, ![4, 1024, 705]⟩
abbrev S4x705x1024 : Shape := ⟨3, ![4, 705, 1024]⟩
abbrev S1 : Shape := ⟨1, ![1]⟩
abbrev S8 : Shape := ⟨1, ![8]⟩
abbrev S8x1x1x1 : Shape := ⟨4, ![8, 1, 1, 1]⟩
abbrev S1x1x1x1 : Shape := ⟨4, ![1, 1, 1, 1]⟩
abbrev S1x4x705x1024 : Shape := ⟨4, ![1, 4, 705, 1024]⟩
abbrev S_ : Shape := ⟨0, ![]⟩

abbrev nBuf : Space → Nat
  | .hbm => 56
  | .vmem => 0
  | .smem => 0
  | _ => 0

abbrev bufTy : (tb : Table) → Fin (tcTables nBuf tb) → BufTy
  | .hbm, ⟨0, _⟩ => ⟨S8x4x705x1024, .bf16⟩
  | .hbm, ⟨1, _⟩ => ⟨S4x1024x705, .f32⟩
  | .hbm, ⟨2, _⟩ => ⟨S4x1024x705, .f32⟩
  | .hbm, ⟨3, _⟩ => ⟨S4x1024x705, .f32⟩
  | .hbm, ⟨4, _⟩ => ⟨S4x705x1024, .bf16⟩
  | .hbm, ⟨5, _⟩ => ⟨S1, .i32⟩
  | .hbm, ⟨6, _⟩ => ⟨S8, .i32⟩
  | .hbm, ⟨7, _⟩ => ⟨S8x1x1x1, .i32⟩
  | .hbm, ⟨8, _⟩ => ⟨S1x1x1x1, .i32⟩
  | .hbm, ⟨9, _⟩ => ⟨S8x1x1x1, .i32⟩
  | .hbm, ⟨10, _⟩ => ⟨S8x1x1x1, .i1⟩
  | .hbm, ⟨11, _⟩ => ⟨S1x4x705x1024, .bf16⟩
  | .hbm, ⟨12, _⟩ => ⟨S8x4x705x1024, .i1⟩
  | .hbm, ⟨13, _⟩ => ⟨S8x4x705x1024, .bf16⟩
  | .hbm, ⟨14, _⟩ => ⟨S8x4x705x1024, .bf16⟩
  | .hbm, ⟨15, _⟩ => ⟨S8x4x705x1024, .f32⟩
  | .hbm, ⟨16, _⟩ => ⟨S_, .f32⟩
  | .hbm, ⟨17, _⟩ => ⟨S4x705x1024, .f32⟩
  | .hbm, ⟨18, _⟩ => ⟨S4x1024x705, .f32⟩
  | .hbm, ⟨19, _⟩ => ⟨S_, .f32⟩
  | .hbm, ⟨20, _⟩ => ⟨S4x1024x705, .f32⟩
  | .hbm, ⟨21, _⟩ => ⟨S4x1024x705, .f32⟩
  | .hbm, ⟨22, _⟩ => ⟨S_, .f32⟩
  | .hbm, ⟨23, _⟩ => ⟨S4x1024x705, .f32⟩
  | .hbm, ⟨24, _⟩ => ⟨S4x1024x705, .f32⟩
  | .hbm, ⟨25, _⟩ => ⟨S4x1024x705, .f32⟩
  | .hbm, ⟨26, _⟩ => ⟨S_, .f32⟩
  | .hbm, ⟨27, _⟩ => ⟨S4x1024x705, .f32⟩
  | .hbm, ⟨28, _⟩ => ⟨S4x1024x705, .f32⟩
  | .hbm, ⟨29, _⟩ => ⟨S4x1024x705, .f32⟩
  | .hbm, ⟨30, _⟩ => ⟨S_, .f32⟩
  | .hbm, ⟨31, _⟩ => ⟨S4x1024x705, .f32⟩
  | .hbm, ⟨32, _⟩ => ⟨S4x1024x705, .f32⟩
  | .hbm, ⟨33, _⟩ => ⟨S4x1024x705, .f32⟩
  | .hbm, ⟨34, _⟩ => ⟨S_, .f32⟩
  | .hbm, ⟨35, _⟩ => ⟨S4x1024x705, .f32⟩
  | .hbm, ⟨36, _⟩ => ⟨S4x1024x705, .f32⟩
  | .hbm, ⟨37, _⟩ => ⟨S_, .f32⟩
  | .hbm, ⟨38, _⟩ => ⟨S4x1024x705, .f32⟩
  | .hbm, ⟨39, _⟩ => ⟨S4x1024x705, .f32⟩
  | .hbm, ⟨40, _⟩ => ⟨S4x1024x705, .f32⟩
  | .hbm, ⟨41, _⟩ => ⟨S_, .f32⟩
  | .hbm, ⟨42, _⟩ => ⟨S4x1024x705, .f32⟩
  | .hbm, ⟨43, _⟩ => ⟨S4x1024x705, .f32⟩
  | .hbm, ⟨44, _⟩ => ⟨S4x1024x705, .f32⟩
  | .hbm, ⟨45, _⟩ => ⟨S_, .f32⟩
  | .hbm, ⟨46, _⟩ => ⟨S4x1024x705, .f32⟩
  | .hbm, ⟨47, _⟩ => ⟨S4x1024x705, .f32⟩
  | .hbm, ⟨48, _⟩ => ⟨S4x1024x705, .f32⟩
  | .hbm, ⟨49, _⟩ => ⟨S_, .f32⟩
  | .hbm, ⟨50, _⟩ => ⟨S4x1024x705, .f32⟩
  | .hbm, ⟨51, _⟩ => ⟨S4x1024x705, .f32⟩
  | .hbm, ⟨52, _⟩ => ⟨S4x705x1024, .f32⟩
  | .hbm, ⟨53, _⟩ => ⟨S4x705x1024, .f32⟩
  | .hbm, ⟨54, _⟩ => ⟨S4x705x1024, .f32⟩
  | .hbm, ⟨55, _⟩ => ⟨S4x705x1024, .f32⟩
  | _, _ => ⟨S8x4x705x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_call0_v0 : Ref sig .tc := ⟨.hbm, 12, rfl⟩
abbrev main_call0_v1 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_4 : Ref sig .tc := ⟨.hbm, 34, rfl⟩
abbrev main_v21 : Ref sig .tc := ⟨.hbm, 35, rfl⟩
abbrev main_v22 : Ref sig .tc := ⟨.hbm, 36, rfl⟩
abbrev main_cst_5 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_6 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_7 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_8 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩

abbrev nD : Nat := 1
abbrev τ : Topo := Topo.v7x

variable {F : FTy → Type} [FloatOps F]
-- ==== AdamFfnIn.lean ====
abbrev S8x4x704x1024 : Shape := ⟨4, ![8, 4, 704, 1024]⟩
abbrev S4x1024x704 : Shape := ⟨3, ![4, 1024, 704]⟩
abbrev S4x704x1024 : Shape := ⟨3, ![4, 704, 1024]⟩
abbrev S1 : Shape := ⟨1, ![1]⟩
abbrev S8x1x1 : Shape := ⟨3, ![8, 1, 1]⟩
abbrev S1x1x1 : Shape := ⟨3, ![1, 1, 1]⟩
abbrev S8x1 : Shape := ⟨2, ![8, 1]⟩
abbrev S_ : Shape := ⟨0, ![]⟩
abbrev S8x128 : Shape := ⟨2, ![8, 128]⟩
abbrev S8x1x176x1024 : Shape := ⟨4, ![8, 1, 176, 1024]⟩
abbrev S1x176x1024 : Shape := ⟨3, ![1, 176, 1024]⟩
abbrev S1x1 : Shape := ⟨2, ![1, 1]⟩
abbrev S176x1024 : Shape := ⟨2, ![176, 1024]⟩
abbrev S1x1x176x1024 : Shape := ⟨4, ![1, 1, 176, 1024]⟩

abbrev nBuf : Space → Nat
  | .hbm => 25
  | .vmem => 19
  | .smem => 0
  | _ => 0

abbrev bufTy : (tb : Table) → Fin (tcTables nBuf tb) → BufTy
  | .hbm, ⟨0, _⟩ => ⟨S8x4x704x1024, .bf16⟩
  | .hbm, ⟨1, _⟩ => ⟨S4x1024x704, .f32⟩
  | .hbm, ⟨2, _⟩ => ⟨S4x1024x704, .f32⟩
  | .hbm, ⟨3, _⟩ => ⟨S4x1024x704, .f32⟩
  | .hbm, ⟨4, _⟩ => ⟨S4x704x1024, .bf16⟩
  | .hbm, ⟨5, _⟩ => ⟨S1, .i32⟩
  | .hbm, ⟨6, _⟩ => ⟨S4x704x1024, .f32⟩
  | .hbm, ⟨7, _⟩ => ⟨S4x704x1024, .f32⟩
  | .hbm, ⟨8, _⟩ => ⟨S4x704x1024, .f32⟩
  | .hbm, ⟨9, _⟩ => ⟨S8x1x1, .i32⟩
  | .hbm, ⟨10, _⟩ => ⟨S1x1x1, .i32⟩
  | .hbm, ⟨11, _⟩ => ⟨S8x1x1, .i32⟩
  | .hbm, ⟨12, _⟩ => ⟨S8x1x1, .i1⟩
  | .hbm, ⟨13, _⟩ => ⟨S8x1, .i1⟩
  | .hbm, ⟨14, _⟩ => ⟨S_, .f32⟩
  | .hbm, ⟨15, _⟩ => ⟨S_, .f32⟩
  | .hbm, ⟨16, _⟩ => ⟨S8x1, .f32⟩
  | .hbm, ⟨17, _⟩ => ⟨S8x1, .f32⟩
  | .hbm, ⟨18, _⟩ => ⟨S8x1, .f32⟩
  | .hbm, ⟨19, _⟩ => ⟨S8x128, .f32⟩
  | .hbm, ⟨20, _⟩ => ⟨S8x128, .f32⟩
  | .hbm, ⟨21, _⟩ => ⟨S4x704x1024, .f32⟩
  | .hbm, ⟨22, _⟩ => ⟨S4x704x1024, .f32⟩
  | .hbm, ⟨23, _⟩ => ⟨S4x704x1024, .f32⟩
  | .hbm, ⟨24, _⟩ => ⟨S4x704x1024, .f32⟩
  | .local _ .vmem, ⟨0, _⟩ => ⟨S8x1x176x1024, .bf16⟩
  | .local _ .vmem, ⟨1, _⟩ => ⟨S8x1x176x1024, .bf16⟩
  | .local _ .vmem, ⟨2, _⟩ => ⟨S1x176x1024, .f32⟩
  | .local _ .vmem, ⟨3, _⟩ => ⟨S1x176x1024, .f32⟩
  | .local _ .vmem, ⟨4, _⟩ => ⟨S1x176x1024, .f32⟩
  | .local _ .vmem, ⟨5, _⟩ => ⟨S1x176x1024, .f32⟩
  | .local _ .vmem, ⟨6, _⟩ => ⟨S1x176x1024, .f32⟩
  | .local _ .vmem, ⟨7, _⟩ => ⟨S1x176x1024, .f32⟩
  | .local _ .vmem, ⟨8, _⟩ => ⟨S1x176x1024, .bf16⟩
  | .local _ .vmem, ⟨9, _⟩ => ⟨S1x176x1024, .bf16⟩
  | .local _ .vmem, ⟨10, _⟩ => ⟨S8x128, .f32⟩
  | .local _ .vmem, ⟨11, _⟩ => ⟨S1x176x1024, .f32⟩
  | .local _ .vmem, ⟨12, _⟩ => ⟨S1x176x1024, .f32⟩
  | .local _ .vmem, ⟨13, _⟩ => ⟨S1x176x1024, .f32⟩
  | .local _ .vmem, ⟨14, _⟩ => ⟨S1x176x1024, .f32⟩
  | .local _ .vmem, ⟨15, _⟩ => ⟨S1x176x1024, .f32⟩
  | .local _ .vmem, ⟨16, _⟩ => ⟨S1x176x1024, .f32⟩
  | .local _ .vmem, ⟨17, _⟩ => ⟨S1x176x1024, .f32⟩
  | .local _ .vmem, ⟨18, _⟩ => ⟨S1x176x1024, .f32⟩
  | _, _ => ⟨S8x4x704x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_cst_0 : Ref sig .tc := ⟨.hbm, 15, rfl⟩
abbrev main_call0_v0 : Ref sig .tc := ⟨.hbm, 16, rfl⟩
abbrev main_call0_v1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11_0 : Ref sig .tc := ⟨.hbm, 21, rfl⟩
abbrev main_v11_1 : Ref sig .tc := ⟨.hbm, 22, rfl⟩
abbrev main_v11_2 : Ref sig .tc := ⟨.hbm, 23, rfl⟩
abbrev main_v11_3 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S8x1x176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x176x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S1x176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x176x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S1x176x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]
-- ==== AdamFfnInRefIdeal.lean ====
abbrev S8x4x704x1024 : Shape := ⟨4, ![8, 4, 704, 1024]⟩
abbrev S4x1024x704 : Shape := ⟨3, ![4, 1024, 704]⟩
abbrev S4x704x1024 : Shape := ⟨3, ![4, 704, 1024]⟩
abbrev S1 : Shape := ⟨1, ![1]⟩
abbrev S8 : Shape := ⟨1, ![8]⟩
abbrev S8x1x1x1 : Shape := ⟨4, ![8, 1, 1, 1]⟩
abbrev S1x1x1x1 : Shape := ⟨4, ![1, 1, 1, 1]⟩
abbrev S1x4x704x1024 : Shape := ⟨4, ![1, 4, 704, 1024]⟩
abbrev S_ : Shape := ⟨0, ![]⟩

abbrev nBuf : Space → Nat
  | .hbm => 56
  | .vmem => 0
  | .smem => 0
  | _ => 0

abbrev bufTy : (tb : Table) → Fin (tcTables nBuf tb) → BufTy
  | .hbm, ⟨0, _⟩ => ⟨S8x4x704x1024, .bf16⟩
  | .hbm, ⟨1, _⟩ => ⟨S4x1024x704, .f32⟩
  | .hbm, ⟨2, _⟩ => ⟨S4x1024x704, .f32⟩
  | .hbm, ⟨3, _⟩ => ⟨S4x1024x704, .f32⟩
  | .hbm, ⟨4, _⟩ => ⟨S4x704x1024, .bf16⟩
  | .hbm, ⟨5, _⟩ => ⟨S1, .i32⟩
  | .hbm, ⟨6, _⟩ => ⟨S8, .i32⟩
  | .hbm, ⟨7, _⟩ => ⟨S8x1x1x1, .i32⟩
  | .hbm, ⟨8, _⟩ => ⟨S1x1x1x1, .i32⟩
  | .hbm, ⟨9, _⟩ => ⟨S8x1x1x1, .i32⟩
  | .hbm, ⟨10, _⟩ => ⟨S8x1x1x1, .i1⟩
  | .hbm, ⟨11, _⟩ => ⟨S1x4x704x1024, .bf16⟩
  | .hbm, ⟨12, _⟩ => ⟨S8x4x704x1024, .i1⟩
  | .hbm, ⟨13, _⟩ => ⟨S8x4x704x1024, .bf16⟩
  | .hbm, ⟨14, _⟩ => ⟨S8x4x704x1024, .bf16⟩
  | .hbm, ⟨15, _⟩ => ⟨S8x4x704x1024, .f32⟩
  | .hbm, ⟨16, _⟩ => ⟨S_, .f32⟩
  | .hbm, ⟨17, _⟩ => ⟨S4x704x1024, .f32⟩
  | .hbm, ⟨18, _⟩ => ⟨S4x1024x704, .f32⟩
  | .hbm, ⟨19, _⟩ => ⟨S_, .f32⟩
  | .hbm, ⟨20, _⟩ => ⟨S4x1024x704, .f32⟩
  | .hbm, ⟨21, _⟩ => ⟨S4x1024x704, .f32⟩
  | .hbm, ⟨22, _⟩ => ⟨S_, .f32⟩
  | .hbm, ⟨23, _⟩ => ⟨S4x1024x704, .f32⟩
  | .hbm, ⟨24, _⟩ => ⟨S4x1024x704, .f32⟩
  | .hbm, ⟨25, _⟩ => ⟨S4x1024x704, .f32⟩
  | .hbm, ⟨26, _⟩ => ⟨S_, .f32⟩
  | .hbm, ⟨27, _⟩ => ⟨S4x1024x704, .f32⟩
  | .hbm, ⟨28, _⟩ => ⟨S4x1024x704, .f32⟩
  | .hbm, ⟨29, _⟩ => ⟨S4x1024x704, .f32⟩
  | .hbm, ⟨30, _⟩ => ⟨S_, .f32⟩
  | .hbm, ⟨31, _⟩ => ⟨S4x1024x704, .f32⟩
  | .hbm, ⟨32, _⟩ => ⟨S4x1024x704, .f32⟩
  | .hbm, ⟨33, _⟩ => ⟨S4x1024x704, .f32⟩
  | .hbm, ⟨34, _⟩ => ⟨S_, .f32⟩
  | .hbm, ⟨35, _⟩ => ⟨S4x1024x704, .f32⟩
  | .hbm, ⟨36, _⟩ => ⟨S4x1024x704, .f32⟩
  | .hbm, ⟨37, _⟩ => ⟨S_, .f32⟩
  | .hbm, ⟨38, _⟩ => ⟨S4x1024x704, .f32⟩
  | .hbm, ⟨39, _⟩ => ⟨S4x1024x704, .f32⟩
  | .hbm, ⟨40, _⟩ => ⟨S4x1024x704, .f32⟩
  | .hbm, ⟨41, _⟩ => ⟨S_, .f32⟩
  | .hbm, ⟨42, _⟩ => ⟨S4x1024x704, .f32⟩
  | .hbm, ⟨43, _⟩ => ⟨S4x1024x704, .f32⟩
  | .hbm, ⟨44, _⟩ => ⟨S4x1024x704, .f32⟩
  | .hbm, ⟨45, _⟩ => ⟨S_, .f32⟩
  | .hbm, ⟨46, _⟩ => ⟨S4x1024x704, .f32⟩
  | .hbm, ⟨47, _⟩ => ⟨S4x1024x704, .f32⟩
  | .hbm, ⟨48, _⟩ => ⟨S4x1024x704, .f32⟩
  | .hbm, ⟨49, _⟩ => ⟨S_, .f32⟩
  | .hbm, ⟨50, _⟩ => ⟨S4x1024x704, .f32⟩
  | .hbm, ⟨51, _⟩ => ⟨S4x1024x704, .f32⟩
  | .hbm, ⟨52, _⟩ => ⟨S4x704x1024, .f32⟩
  | .hbm, ⟨53, _⟩ => ⟨S4x704x1024, .f32⟩
  | .hbm, ⟨54, _⟩ => ⟨S4x704x1024, .f32⟩
  | .hbm, ⟨55, _⟩ => ⟨S4x704x1024, .f32⟩
  | _, _ => ⟨S8x4x704x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_call0_v0 : Ref sig .tc := ⟨.hbm, 12, rfl⟩
abbrev main_call0_v1 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_4 : Ref sig .tc := ⟨.hbm, 34, rfl⟩
abbrev main_v21 : Ref sig .tc := ⟨.hbm, 35, rfl⟩
abbrev main_v22 : Ref sig .tc := ⟨.hbm, 36, rfl⟩
abbrev main_cst_5 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_6 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_7 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_8 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩

abbrev nD : Nat := 1
abbrev τ : Topo := Topo.v7x

variable {F : FTy → Type} [FloatOps F]
-- ==== AdamFfnOut.lean ====
abbrev S8x4x352x1024 : Shape := ⟨4, ![8, 4, 352, 1024]⟩
abbrev S4x352x1024 : Shape := ⟨3, ![4, 352, 1024]⟩
abbrev S1 : Shape := ⟨1, ![1]⟩
abbrev S8x1x1 : Shape := ⟨3, ![8, 1, 1]⟩
abbrev S1x1x1 : Shape := ⟨3, ![1, 1, 1]⟩
abbrev S8x1 : Shape := ⟨2, ![8, 1]⟩
abbrev S_ : Shape := ⟨0, ![]⟩
abbrev S8x128 : Shape := ⟨2, ![8, 128]⟩
abbrev S8x1x176x1024 : Shape := ⟨4, ![8, 1, 176, 1024]⟩
abbrev S1x176x1024 : Shape := ⟨3, ![1, 176, 1024]⟩
abbrev S1x1 : Shape := ⟨2, ![1, 1]⟩
abbrev S176x1024 : Shape := ⟨2, ![176, 1024]⟩
abbrev S1x1x176x1024 : Shape := ⟨4, ![1, 1, 176, 1024]⟩

abbrev nBuf : Space → Nat
  | .hbm => 22
  | .vmem => 19
  | .smem => 0
  | _ => 0

abbrev bufTy : (tb : Table) → Fin (tcTables nBuf tb) → BufTy
  | .hbm, ⟨0, _⟩ => ⟨S8x4x352x1024, .bf16⟩
  | .hbm, ⟨1, _⟩ => ⟨S4x352x1024, .f32⟩
  | .hbm, ⟨2, _⟩ => ⟨S4x352x1024, .f32⟩
  | .hbm, ⟨3, _⟩ => ⟨S4x352x1024, .f32⟩
  | .hbm, ⟨4, _⟩ => ⟨S4x352x1024, .bf16⟩
  | .hbm, ⟨5, _⟩ => ⟨S1, .i32⟩
  | .hbm, ⟨6, _⟩ => ⟨S8x1x1, .i32⟩
  | .hbm, ⟨7, _⟩ => ⟨S1x1x1, .i32⟩
  | .hbm, ⟨8, _⟩ => ⟨S8x1x1, .i32⟩
  | .hbm, ⟨9, _⟩ => ⟨S8x1x1, .i1⟩
  | .hbm, ⟨10, _⟩ => ⟨S8x1, .i1⟩
  | .hbm, ⟨11, _⟩ => ⟨S_, .f32⟩
  | .hbm, ⟨12, _⟩ => ⟨S_, .f32⟩
  | .hbm, ⟨13, _⟩ => ⟨S8x1, .f32⟩
  | .hbm, ⟨14, _⟩ => ⟨S8x1, .f32⟩
  | .hbm, ⟨15, _⟩ => ⟨S8x1, .f32⟩
  | .hbm, ⟨16, _⟩ => ⟨S8x128, .f32⟩
  | .hbm, ⟨17, _⟩ => ⟨S8x128, .f32⟩
  | .hbm, ⟨18, _⟩ => ⟨S4x352x1024, .f32⟩
  | .hbm, ⟨19, _⟩ => ⟨S4x352x1024, .f32⟩
  | .hbm, ⟨20, _⟩ => ⟨S4x352x1024, .f32⟩
  | .hbm, ⟨21, _⟩ => ⟨S4x352x1024, .f32⟩
  | .local _ .vmem, ⟨0, _⟩ => ⟨S8x1x176x1024, .bf16⟩
  | .local _ .vmem, ⟨1, _⟩ => ⟨S8x1x176x1024, .bf16⟩
  | .local _ .vmem, ⟨2, _⟩ => ⟨S1x176x1024, .f32⟩
  | .local _ .vmem, ⟨3, _⟩ => ⟨S1x176x1024, .f32⟩
  | .local _ .vmem, ⟨4, _⟩ => ⟨S1x176x1024, .f32⟩
  | .local _ .vmem, ⟨5, _⟩ => ⟨S1x176x1024, .f32⟩
  | .local _ .vmem, ⟨6, _⟩ => ⟨S1x176x1024, .f32⟩
  | .local _ .vmem, ⟨7, _⟩ => ⟨S1x176x1024, .f32⟩
  | .local _ .vmem, ⟨8, _⟩ => ⟨S1x176x1024, .bf16⟩
  | .local _ .vmem, ⟨9, _⟩ => ⟨S1x176x1024, .bf16⟩
  | .local _ .vmem, ⟨10, _⟩ => ⟨S8x128, .f32⟩
  | .local _ .vmem, ⟨11, _⟩ => ⟨S1x176x1024, .f32⟩
  | .local _ .vmem, ⟨12, _⟩ => ⟨S1x176x1024, .f32⟩
  | .local _ .vmem, ⟨13, _⟩ => ⟨S1x176x1024, .f32⟩
  | .local _ .vmem, ⟨14, _⟩ => ⟨S1x176x1024, .f32⟩
  | .local _ .vmem, ⟨15, _⟩ => ⟨S1x176x1024, .f32⟩
  | .local _ .vmem, ⟨16, _⟩ => ⟨S1x176x1024, .f32⟩
  | .local _ .vmem, ⟨17, _⟩ => ⟨S1x176x1024, .f32⟩
  | .local _ .vmem, ⟨18, _⟩ => ⟨S1x176x1024, .f32⟩
  | _, _ => ⟨S8x4x352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_cst_0 : Ref sig .tc := ⟨.hbm, 12, rfl⟩
abbrev main_call0_v0 : Ref sig .tc := ⟨.hbm, 13, rfl⟩
abbrev main_call0_v1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8_0 : Ref sig .tc := ⟨.hbm, 18, rfl⟩
abbrev main_v8_1 : Ref sig .tc := ⟨.hbm, 19, rfl⟩
abbrev main_v8_2 : Ref sig .tc := ⟨.hbm, 20, rfl⟩
abbrev main_v8_3 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S8x1x176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x176x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S1x176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x176x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S1x176x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]
-- ==== AdamFfnOutIdeal.lean ====
abbrev S8x4x352x1024 : Shape := ⟨4, ![8, 4, 352, 1024]⟩
abbrev S4x352x1024 : Shape := ⟨3, ![4, 352, 1024]⟩
abbrev S1 : Shape := ⟨1, ![1]⟩
abbrev S8x1x1 : Shape := ⟨3, ![8, 1, 1]⟩
abbrev S1x1x1 : Shape := ⟨3, ![1, 1, 1]⟩
abbrev S8x1 : Shape := ⟨2, ![8, 1]⟩
abbrev S_ : Shape := ⟨0, ![]⟩
abbrev S8x128 : Shape := ⟨2, ![8, 128]⟩
abbrev S8x1x176x1024 : Shape := ⟨4, ![8, 1, 176, 1024]⟩
abbrev S1x176x1024 : Shape := ⟨3, ![1, 176, 1024]⟩
abbrev S1x1 : Shape := ⟨2, ![1, 1]⟩
abbrev S176x1024 : Shape := ⟨2, ![176, 1024]⟩
abbrev S1x1x176x1024 : Shape := ⟨4, ![1, 1, 176, 1024]⟩

abbrev nBuf : Space → Nat
  | .hbm => 22
  | .vmem => 19
  | .smem => 0
  | _ => 0

abbrev bufTy : (tb : Table) → Fin (tcTables nBuf tb) → BufTy
  | .hbm, ⟨0, _⟩ => ⟨S8x4x352x1024, .bf16⟩
  | .hbm, ⟨1, _⟩ => ⟨S4x352x1024, .f32⟩
  | .hbm, ⟨2, _⟩ => ⟨S4x352x1024, .f32⟩
  | .hbm, ⟨3, _⟩ => ⟨S4x352x1024, .f32⟩
  | .hbm, ⟨4, _⟩ => ⟨S4x352x1024, .bf16⟩
  | .hbm, ⟨5, _⟩ => ⟨S1, .i32⟩
  | .hbm, ⟨6, _⟩ => ⟨S8x1x1, .i32⟩
  | .hbm, ⟨7, _⟩ => ⟨S1x1x1, .i32⟩
  | .hbm, ⟨8, _⟩ => ⟨S8x1x1, .i32⟩
  | .hbm, ⟨9, _⟩ => ⟨S8x1x1, .i1⟩
  | .hbm, ⟨10, _⟩ => ⟨S8x1, .i1⟩
  | .hbm, ⟨11, _⟩ => ⟨S_, .f32⟩
  | .hbm, ⟨12, _⟩ => ⟨S_, .f32⟩
  | .hbm, ⟨13, _⟩ => ⟨S8x1, .f32⟩
  | .hbm, ⟨14, _⟩ => ⟨S8x1, .f32⟩
  | .hbm, ⟨15, _⟩ => ⟨S8x1, .f32⟩
  | .hbm, ⟨16, _⟩ => ⟨S8x128, .f32⟩
  | .hbm, ⟨17, _⟩ => ⟨S8x128, .f32⟩
  | .hbm, ⟨18, _⟩ => ⟨S4x352x1024, .f32⟩
  | .hbm, ⟨19, _⟩ => ⟨S4x352x1024, .f32⟩
  | .hbm, ⟨20, _⟩ => ⟨S4x352x1024, .f32⟩
  | .hbm, ⟨21, _⟩ => ⟨S4x352x1024, .f32⟩
  | .local _ .vmem, ⟨0, _⟩ => ⟨S8x1x176x1024, .bf16⟩
  | .local _ .vmem, ⟨1, _⟩ => ⟨S8x1x176x1024, .bf16⟩
  | .local _ .vmem, ⟨2, _⟩ => ⟨S1x176x1024, .f32⟩
  | .local _ .vmem, ⟨3, _⟩ => ⟨S1x176x1024, .f32⟩
  | .local _ .vmem, ⟨4, _⟩ => ⟨S1x176x1024, .f32⟩
  | .local _ .vmem, ⟨5, _⟩ => ⟨S1x176x1024, .f32⟩
  | .local _ .vmem, ⟨6, _⟩ => ⟨S1x176x1024, .f32⟩
  | .local _ .vmem, ⟨7, _⟩ => ⟨S1x176x1024, .f32⟩
  | .local _ .vmem, ⟨8, _⟩ => ⟨S1x176x1024, .bf16⟩
  | .local _ .vmem, ⟨9, _⟩ => ⟨S1x176x1024, .bf16⟩
  | .local _ .vmem, ⟨10, _⟩ => ⟨S8x128, .f32⟩
  | .local _ .vmem, ⟨11, _⟩ => ⟨S1x176x1024, .f32⟩
  | .local _ .vmem, ⟨12, _⟩ => ⟨S1x176x1024, .f32⟩
  | .local _ .vmem, ⟨13, _⟩ => ⟨S1x176x1024, .f32⟩
  | .local _ .vmem, ⟨14, _⟩ => ⟨S1x176x1024, .f32⟩
  | .local _ .vmem, ⟨15, _⟩ => ⟨S1x176x1024, .f32⟩
  | .local _ .vmem, ⟨16, _⟩ => ⟨S1x176x1024, .f32⟩
  | .local _ .vmem, ⟨17, _⟩ => ⟨S1x176x1024, .f32⟩
  | .local _ .vmem, ⟨18, _⟩ => ⟨S1x176x1024, .f32⟩
  | _, _ => ⟨S8x4x352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_cst_0 : Ref sig .tc := ⟨.hbm, 12, rfl⟩
abbrev main_call0_v0 : Ref sig .tc := ⟨.hbm, 13, rfl⟩
abbrev main_call0_v1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8_0 : Ref sig .tc := ⟨.hbm, 18, rfl⟩
abbrev main_v8_1 : Ref sig .tc := ⟨.hbm, 19, rfl⟩
abbrev main_v8_2 : Ref sig .tc := ⟨.hbm, 20, rfl⟩
abbrev main_v8_3 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S8x1x176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x176x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S1x176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x176x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S1x176x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]
-- ==== AdamFfnOutRefIdeal.lean ====
abbrev S8x4x352x1024 : Shape := ⟨4, ![8, 4, 352, 1024]⟩
abbrev S4x352x1024 : Shape := ⟨3, ![4, 352, 1024]⟩
abbrev S1 : Shape := ⟨1, ![1]⟩
abbrev S8 : Shape := ⟨1, ![8]⟩
abbrev S8x1x1x1 : Shape := ⟨4, ![8, 1, 1, 1]⟩
abbrev S1x1x1x1 : Shape := ⟨4, ![1, 1, 1, 1]⟩
abbrev S1x4x352x1024 : Shape := ⟨4, ![1, 4, 352, 1024]⟩
abbrev S_ : Shape := ⟨0, ![]⟩

abbrev nBuf : Space → Nat
  | .hbm => 51
  | .vmem => 0
  | .smem => 0
  | _ => 0

abbrev bufTy : (tb : Table) → Fin (tcTables nBuf tb) → BufTy
  | .hbm, ⟨0, _⟩ => ⟨S8x4x352x1024, .bf16⟩
  | .hbm, ⟨1, _⟩ => ⟨S4x352x1024, .f32⟩
  | .hbm, ⟨2, _⟩ => ⟨S4x352x1024, .f32⟩
  | .hbm, ⟨3, _⟩ => ⟨S4x352x1024, .f32⟩
  | .hbm, ⟨4, _⟩ => ⟨S4x352x1024, .bf16⟩
  | .hbm, ⟨5, _⟩ => ⟨S1, .i32⟩
  | .hbm, ⟨6, _⟩ => ⟨S8, .i32⟩
  | .hbm, ⟨7, _⟩ => ⟨S8x1x1x1, .i32⟩
  | .hbm, ⟨8, _⟩ => ⟨S1x1x1x1, .i32⟩
  | .hbm, ⟨9, _⟩ => ⟨S8x1x1x1, .i32⟩
  | .hbm, ⟨10, _⟩ => ⟨S8x1x1x1, .i1⟩
  | .hbm, ⟨11, _⟩ => ⟨S1x4x352x1024, .bf16⟩
  | .hbm, ⟨12, _⟩ => ⟨S8x4x352x1024, .i1⟩
  | .hbm, ⟨13, _⟩ => ⟨S8x4x352x1024, .bf16⟩
  | .hbm, ⟨14, _⟩ => ⟨S8x4x352x1024, .bf16⟩
  | .hbm, ⟨15, _⟩ => ⟨S8x4x352x1024, .f32⟩
  | .hbm, ⟨16, _⟩ => ⟨S_, .f32⟩
  | .hbm, ⟨17, _⟩ => ⟨S4x352x1024, .f32⟩
  | .hbm, ⟨18, _⟩ => ⟨S_, .f32⟩
  | .hbm, ⟨19, _⟩ => ⟨S4x352x1024, .f32⟩
  | .hbm, ⟨20, _⟩ => ⟨S4x352x1024, .f32⟩
  | .hbm, ⟨21, _⟩ => ⟨S_, .f32⟩
  | .hbm, ⟨22, _⟩ => ⟨S4x352x1024, .f32⟩
  | .hbm, ⟨23, _⟩ => ⟨S4x352x1024, .f32⟩
  | .hbm, ⟨24, _⟩ => ⟨S4x352x1024, .f32⟩
  | .hbm, ⟨25, _⟩ => ⟨S_, .f32⟩
  | .hbm, ⟨26, _⟩ => ⟨S4x352x1024, .f32⟩
  | .hbm, ⟨27, _⟩ => ⟨S4x352x1024, .f32⟩
  | .hbm, ⟨28, _⟩ => ⟨S4x352x1024, .f32⟩
  | .hbm, ⟨29, _⟩ => ⟨S_, .f32⟩
  | .hbm, ⟨30, _⟩ => ⟨S4x352x1024, .f32⟩
  | .hbm, ⟨31, _⟩ => ⟨S4x352x1024, .f32⟩
  | .hbm, ⟨32, _⟩ => ⟨S4x352x1024, .f32⟩
  | .hbm, ⟨33, _⟩ => ⟨S_, .f32⟩
  | .hbm, ⟨34, _⟩ => ⟨S4x352x1024, .f32⟩
  | .hbm, ⟨35, _⟩ => ⟨S4x352x1024, .f32⟩
  | .hbm, ⟨36, _⟩ => ⟨S_, .f32⟩
  | .hbm, ⟨37, _⟩ => ⟨S4x352x1024, .f32⟩
  | .hbm, ⟨38, _⟩ => ⟨S4x352x1024, .f32⟩
  | .hbm, ⟨39, _⟩ => ⟨S4x352x1024, .f32⟩
  | .hbm, ⟨40, _⟩ => ⟨S_, .f32⟩
  | .hbm, ⟨41, _⟩ => ⟨S4x352x1024, .f32⟩
  | .hbm, ⟨42, _⟩ => ⟨S4x352x1024, .f32⟩
  | .hbm, ⟨43, _⟩ => ⟨S4x352x1024, .f32⟩
  | .hbm, ⟨44, _⟩ => ⟨S_, .f32⟩
  | .hbm, ⟨45, _⟩ => ⟨S4x352x1024, .f32⟩
  | .hbm, ⟨46, _⟩ => ⟨S4x352x1024, .f32⟩
  | .hbm, ⟨47, _⟩ => ⟨S4x352x1024, .f32⟩
  | .hbm, ⟨48, _⟩ => ⟨S_, .f32⟩
  | .hbm, ⟨49, _⟩ => ⟨S4x352x1024, .f32⟩
  | .hbm, ⟨50, _⟩ => ⟨S4x352x1024, .f32⟩
  | _, _ => ⟨S8x4x352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_call0_v0 : Ref sig .tc := ⟨.hbm, 12, rfl⟩
abbrev main_call0_v1 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_3 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_4 : Ref sig .tc := ⟨.hbm, 33, rfl⟩
abbrev main_v20 : Ref sig .tc := ⟨.hbm, 34, rfl⟩
abbrev main_v21 : Ref sig .tc := ⟨.hbm, 35, rfl⟩
abbrev main_cst_5 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_6 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_7 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_8 : Ref sig .tc := ⟨.hbm, 48, rfl⟩
abbrev main_v31 : Ref sig .tc := ⟨.hbm, 49, rfl⟩
abbrev main_v32 : Ref sig .tc := ⟨.hbm, 50, rfl⟩

abbrev nD : Nat := 1
abbrev τ : Topo := Topo.v7x

variable {F : FTy → Type} [FloatOps F]
-- ==== AdamOut.lean ====
abbrev S8x4x128x1024 : Shape := ⟨4, ![8, 4, 128, 1024]⟩
abbrev S4x128x1024 : Shape := ⟨3, ![4, 128, 1024]⟩
abbrev S1 : Shape := ⟨1, ![1]⟩
abbrev S8x1x1 : Shape := ⟨3, ![8, 1, 1]⟩
abbrev S1x1x1 : Shape := ⟨3, ![1, 1, 1]⟩
abbrev S8x1 : Shape := ⟨2, ![8, 1]⟩
abbrev S_ : Shape := ⟨0, ![]⟩
abbrev S8x128 : Shape := ⟨2, ![8, 128]⟩
abbrev S8x1x128x1024 : Shape := ⟨4, ![8, 1, 128, 1024]⟩
abbrev S1x128x1024 : Shape := ⟨3, ![1, 128, 1024]⟩
abbrev S1x1 : Shape := ⟨2, ![1, 1]⟩
abbrev S128x1024 : Shape := ⟨2, ![128, 1024]⟩
abbrev S1x1x128x1024 : Shape := ⟨4, ![1, 1, 128, 1024]⟩

abbrev nBuf : Space → Nat
  | .hbm => 22
  | .vmem => 19
  | .smem => 0
  | _ => 0

abbrev bufTy : (tb : Table) → Fin (tcTables nBuf tb) → BufTy
  | .hbm, ⟨0, _⟩ => ⟨S8x4x128x1024, .bf16⟩
  | .hbm, ⟨1, _⟩ => ⟨S4x128x1024, .f32⟩
  | .hbm, ⟨2, _⟩ => ⟨S4x128x1024, .f32⟩
  | .hbm, ⟨3, _⟩ => ⟨S4x128x1024, .f32⟩
  | .hbm, ⟨4, _⟩ => ⟨S4x128x1024, .bf16⟩
  | .hbm, ⟨5, _⟩ => ⟨S1, .i32⟩
  | .hbm, ⟨6, _⟩ => ⟨S8x1x1, .i32⟩
  | .hbm, ⟨7, _⟩ => ⟨S1x1x1, .i32⟩
  | .hbm, ⟨8, _⟩ => ⟨S8x1x1, .i32⟩
  | .hbm, ⟨9, _⟩ => ⟨S8x1x1, .i1⟩
  | .hbm, ⟨10, _⟩ => ⟨S8x1, .i1⟩
  | .hbm, ⟨11, _⟩ => ⟨S_, .f32⟩
  | .hbm, ⟨12, _⟩ => ⟨S_, .f32⟩
  | .hbm, ⟨13, _⟩ => ⟨S8x1, .f32⟩
  | .hbm, ⟨14, _⟩ => ⟨S8x1, .f32⟩
  | .hbm, ⟨15, _⟩ => ⟨S8x1, .f32⟩
  | .hbm, ⟨16, _⟩ => ⟨S8x128, .f32⟩
  | .hbm, ⟨17, _⟩ => ⟨S8x128, .f32⟩
  | .hbm, ⟨18, _⟩ => ⟨S4x128x1024, .f32⟩
  | .hbm, ⟨19, _⟩ => ⟨S4x128x1024, .f32⟩
  | .hbm, ⟨20, _⟩ => ⟨S4x128x1024, .f32⟩
  | .hbm, ⟨21, _⟩ => ⟨S4x128x1024, .f32⟩
  | .local _ .vmem, ⟨0, _⟩ => ⟨S8x1x128x1024, .bf16⟩
  | .local _ .vmem, ⟨1, _⟩ => ⟨S8x1x128x1024, .bf16⟩
  | .local _ .vmem, ⟨2, _⟩ => ⟨S1x128x1024, .f32⟩
  | .local _ .vmem, ⟨3, _⟩ => ⟨S1x128x1024, .f32⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | .local _ .vmem, ⟨8, _⟩ => ⟨S1x128x1024, .bf16⟩
  | .local _ .vmem, ⟨9, _⟩ => ⟨S1x128x1024, .bf16⟩
  | .local _ .vmem, ⟨10, _⟩ => ⟨S8x128, .f32⟩
  | .local _ .vmem, ⟨11, _⟩ => ⟨S1x128x1024, .f32⟩
  | .local _ .vmem, ⟨12, _⟩ => ⟨S1x128x1024, .f32⟩
  | .local _ .vmem, ⟨13, _⟩ => ⟨S1x128x1024, .f32⟩
  | .local _ .vmem, ⟨14, _⟩ => ⟨S1x128x1024, .f32⟩
  | .local _ .vmem, ⟨15, _⟩ => ⟨S1x128x1024, .f32⟩
  | .local _ .vmem, ⟨16, _⟩ => ⟨S1x128x1024, .f32⟩
  | .local _ .vmem, ⟨17, _⟩ => ⟨S1x128x1024, .f32⟩
  | .local _ .vmem, ⟨18, _⟩ => ⟨S1x128x1024, .f32⟩
  | _, _ => ⟨S8x4x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_cst_0 : Ref sig .tc := ⟨.hbm, 12, rfl⟩
abbrev main_call0_v0 : Ref sig .tc := ⟨.hbm, 13, rfl⟩
abbrev main_call0_v1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8_0 : Ref sig .tc := ⟨.hbm, 18, rfl⟩
abbrev main_v8_1 : Ref sig .tc := ⟨.hbm, 19, rfl⟩
abbrev main_v8_2 : Ref sig .tc := ⟨.hbm, 20, rfl⟩
abbrev main_v8_3 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S8x1x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x128x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S1x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S1x128x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]
-- ==== AdamOutIdeal.lean ====
abbrev S8x4x128x1024 : Shape := ⟨4, ![8, 4, 128, 1024]⟩
abbrev S4x128x1024 : Shape := ⟨3, ![4, 128, 1024]⟩
abbrev S1 : Shape := ⟨1, ![1]⟩
abbrev S8x1x1 : Shape := ⟨3, ![8, 1, 1]⟩
abbrev S1x1x1 : Shape := ⟨3, ![1, 1, 1]⟩
abbrev S8x1 : Shape := ⟨2, ![8, 1]⟩
abbrev S_ : Shape := ⟨0, ![]⟩
abbrev S8x128 : Shape := ⟨2, ![8, 128]⟩
abbrev S8x1x128x1024 : Shape := ⟨4, ![8, 1, 128, 1024]⟩
abbrev S1x128x1024 : Shape := ⟨3, ![1, 128, 1024]⟩
abbrev S1x1 : Shape := ⟨2, ![1, 1]⟩
abbrev S128x1024 : Shape := ⟨2, ![128, 1024]⟩
abbrev S1x1x128x1024 : Shape := ⟨4, ![1, 1, 128, 1024]⟩

abbrev nBuf : Space → Nat
  | .hbm => 22
  | .vmem => 19
  | .smem => 0
  | _ => 0

abbrev bufTy : (tb : Table) → Fin (tcTables nBuf tb) → BufTy
  | .hbm, ⟨0, _⟩ => ⟨S8x4x128x1024, .bf16⟩
  | .hbm, ⟨1, _⟩ => ⟨S4x128x1024, .f32⟩
  | .hbm, ⟨2, _⟩ => ⟨S4x128x1024, .f32⟩
  | .hbm, ⟨3, _⟩ => ⟨S4x128x1024, .f32⟩
  | .hbm, ⟨4, _⟩ => ⟨S4x128x1024, .bf16⟩
  | .hbm, ⟨5, _⟩ => ⟨S1, .i32⟩
  | .hbm, ⟨6, _⟩ => ⟨S8x1x1, .i32⟩
  | .hbm, ⟨7, _⟩ => ⟨S1x1x1, .i32⟩
  | .hbm, ⟨8, _⟩ => ⟨S8x1x1, .i32⟩
  | .hbm, ⟨9, _⟩ => ⟨S8x1x1, .i1⟩
  | .hbm, ⟨10, _⟩ => ⟨S8x1, .i1⟩
  | .hbm, ⟨11, _⟩ => ⟨S_, .f32⟩
  | .hbm, ⟨12, _⟩ => ⟨S_, .f32⟩
  | .hbm, ⟨13, _⟩ => ⟨S8x1, .f32⟩
  | .hbm, ⟨14, _⟩ => ⟨S8x1, .f32⟩
  | .hbm, ⟨15, _⟩ => ⟨S8x1, .f32⟩
  | .hbm, ⟨16, _⟩ => ⟨S8x128, .f32⟩
  | .hbm, ⟨17, _⟩ => ⟨S8x128, .f32⟩
  | .hbm, ⟨18, _⟩ => ⟨S4x128x1024, .f32⟩
  | .hbm, ⟨19, _⟩ => ⟨S4x128x1024, .f32⟩
  | .hbm, ⟨20, _⟩ => ⟨S4x128x1024, .f32⟩
  | .hbm, ⟨21, _⟩ => ⟨S4x128x1024, .f32⟩
  | .local _ .vmem, ⟨0, _⟩ => ⟨S8x1x128x1024, .bf16⟩
  | .local _ .vmem, ⟨1, _⟩ => ⟨S8x1x128x1024, .bf16⟩
  | .local _ .vmem, ⟨2, _⟩ => ⟨S1x128x1024, .f32⟩
  | .local _ .vmem, ⟨3, _⟩ => ⟨S1x128x1024, .f32⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | .local _ .vmem, ⟨8, _⟩ => ⟨S1x128x1024, .bf16⟩
  | .local _ .vmem, ⟨9, _⟩ => ⟨S1x128x1024, .bf16⟩
  | .local _ .vmem, ⟨10, _⟩ => ⟨S8x128, .f32⟩
  | .local _ .vmem, ⟨11, _⟩ => ⟨S1x128x1024, .f32⟩
  | .local _ .vmem, ⟨12, _⟩ => ⟨S1x128x1024, .f32⟩
  | .local _ .vmem, ⟨13, _⟩ => ⟨S1x128x1024, .f32⟩
  | .local _ .vmem, ⟨14, _⟩ => ⟨S1x128x1024, .f32⟩
  | .local _ .vmem, ⟨15, _⟩ => ⟨S1x128x1024, .f32⟩
  | .local _ .vmem, ⟨16, _⟩ => ⟨S1x128x1024, .f32⟩
  | .local _ .vmem, ⟨17, _⟩ => ⟨S1x128x1024, .f32⟩
  | .local _ .vmem, ⟨18, _⟩ => ⟨S1x128x1024, .f32⟩
  | _, _ => ⟨S8x4x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_cst_0 : Ref sig .tc := ⟨.hbm, 12, rfl⟩
abbrev main_call0_v0 : Ref sig .tc := ⟨.hbm, 13, rfl⟩
abbrev main_call0_v1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8_0 : Ref sig .tc := ⟨.hbm, 18, rfl⟩
abbrev main_v8_1 : Ref sig .tc := ⟨.hbm, 19, rfl⟩
abbrev main_v8_2 : Ref sig .tc := ⟨.hbm, 20, rfl⟩
abbrev main_v8_3 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S8x1x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x128x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S1x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S1x128x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]
-- ==== AdamOutRefIdeal.lean ====
abbrev S8x4x128x1024 : Shape := ⟨4, ![8, 4, 128, 1024]⟩
abbrev S4x128x1024 : Shape := ⟨3, ![4, 128, 1024]⟩
abbrev S1 : Shape := ⟨1, ![1]⟩
abbrev S8 : Shape := ⟨1, ![8]⟩
abbrev S8x1x1x1 : Shape := ⟨4, ![8, 1, 1, 1]⟩
abbrev S1x1x1x1 : Shape := ⟨4, ![1, 1, 1, 1]⟩
abbrev S1x4x128x1024 : Shape := ⟨4, ![1, 4, 128, 1024]⟩
abbrev S_ : Shape := ⟨0, ![]⟩

abbrev nBuf : Space → Nat
  | .hbm => 51
  | .vmem => 0
  | .smem => 0
  | _ => 0

abbrev bufTy : (tb : Table) → Fin (tcTables nBuf tb) → BufTy
  | .hbm, ⟨0, _⟩ => ⟨S8x4x128x1024, .bf16⟩
  | .hbm, ⟨1, _⟩ => ⟨S4x128x1024, .f32⟩
  | .hbm, ⟨2, _⟩ => ⟨S4x128x1024, .f32⟩
  | .hbm, ⟨3, _⟩ => ⟨S4x128x1024, .f32⟩
  | .hbm, ⟨4, _⟩ => ⟨S4x128x1024, .bf16⟩
  | .hbm, ⟨5, _⟩ => ⟨S1, .i32⟩
  | .hbm, ⟨6, _⟩ => ⟨S8, .i32⟩
  | .hbm, ⟨7, _⟩ => ⟨S8x1x1x1, .i32⟩
  | .hbm, ⟨8, _⟩ => ⟨S1x1x1x1, .i32⟩
  | .hbm, ⟨9, _⟩ => ⟨S8x1x1x1, .i32⟩
  | .hbm, ⟨10, _⟩ => ⟨S8x1x1x1, .i1⟩
  | .hbm, ⟨11, _⟩ => ⟨S1x4x128x1024, .bf16⟩
  | .hbm, ⟨12, _⟩ => ⟨S8x4x128x1024, .i1⟩
  | .hbm, ⟨13, _⟩ => ⟨S8x4x128x1024, .bf16⟩
  | .hbm, ⟨14, _⟩ => ⟨S8x4x128x1024, .bf16⟩
  | .hbm, ⟨15, _⟩ => ⟨S8x4x128x1024, .f32⟩
  | .hbm, ⟨16, _⟩ => ⟨S_, .f32⟩
  | .hbm, ⟨17, _⟩ => ⟨S4x128x1024, .f32⟩
  | .hbm, ⟨18, _⟩ => ⟨S_, .f32⟩
  | .hbm, ⟨19, _⟩ => ⟨S4x128x1024, .f32⟩
  | .hbm, ⟨20, _⟩ => ⟨S4x128x1024, .f32⟩
  | .hbm, ⟨21, _⟩ => ⟨S_, .f32⟩
  | .hbm, ⟨22, _⟩ => ⟨S4x128x1024, .f32⟩
  | .hbm, ⟨23, _⟩ => ⟨S4x128x1024, .f32⟩
  | .hbm, ⟨24, _⟩ => ⟨S4x128x1024, .f32⟩
  | .hbm, ⟨25, _⟩ => ⟨S_, .f32⟩
  | .hbm, ⟨26, _⟩ => ⟨S4x128x1024, .f32⟩
  | .hbm, ⟨27, _⟩ => ⟨S4x128x1024, .f32⟩
  | .hbm, ⟨28, _⟩ => ⟨S4x128x1024, .f32⟩
  | .hbm, ⟨29, _⟩ => ⟨S_, .f32⟩
  | .hbm, ⟨30, _⟩ => ⟨S4x128x1024, .f32⟩
  | .hbm, ⟨31, _⟩ => ⟨S4x128x1024, .f32⟩
  | .hbm, ⟨32, _⟩ => ⟨S4x128x1024, .f32⟩
  | .hbm, ⟨33, _⟩ => ⟨S_, .f32⟩
  | .hbm, ⟨34, _⟩ => ⟨S4x128x1024, .f32⟩
  | .hbm, ⟨35, _⟩ => ⟨S4x128x1024, .f32⟩
  | .hbm, ⟨36, _⟩ => ⟨S_, .f32⟩
  | .hbm, ⟨37, _⟩ => ⟨S4x128x1024, .f32⟩
  | .hbm, ⟨38, _⟩ => ⟨S4x128x1024, .f32⟩
  | .hbm, ⟨39, _⟩ => ⟨S4x128x1024, .f32⟩
  | .hbm, ⟨40, _⟩ => ⟨S_, .f32⟩
  | .hbm, ⟨41, _⟩ => ⟨S4x128x1024, .f32⟩
  | .hbm, ⟨42, _⟩ => ⟨S4x128x1024, .f32⟩
  | .hbm, ⟨43, _⟩ => ⟨S4x128x1024, .f32⟩
  | .hbm, ⟨44, _⟩ => ⟨S_, .f32⟩
  | .hbm, ⟨45, _⟩ => ⟨S4x128x1024, .f32⟩
  | .hbm, ⟨46, _⟩ => ⟨S4x128x1024, .f32⟩
  | .hbm, ⟨47, _⟩ => ⟨S4x128x1024, .f32⟩
  | .hbm, ⟨48, _⟩ => ⟨S_, .f32⟩
  | .hbm, ⟨49, _⟩ => ⟨S4x128x1024, .f32⟩
  | .hbm, ⟨50, _⟩ => ⟨S4x128x1024, .f32⟩
  | _, _ => ⟨S8x4x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_call0_v0 : Ref sig .tc := ⟨.hbm, 12, rfl⟩
abbrev main_call0_v1 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_3 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_4 : Ref sig .tc := ⟨.hbm, 33, rfl⟩
abbrev main_v20 : Ref sig .tc := ⟨.hbm, 34, rfl⟩
abbrev main_v21 : Ref sig .tc := ⟨.hbm, 35, rfl⟩
abbrev main_cst_5 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_6 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_7 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_8 : Ref sig .tc := ⟨.hbm, 48, rfl⟩
abbrev main_v31 : Ref sig .tc := ⟨.hbm, 49, rfl⟩
abbrev main_v32 : Ref sig .tc := ⟨.hbm, 50, rfl⟩

abbrev nD : Nat := 1
abbrev τ : Topo := Topo.v7x

variable {F : FTy → Type} [FloatOps F]
-- ==== AdamBranch.lean ====
abbrev S8x4x512x128 : Shape := ⟨4, ![8, 4, 512, 128]⟩
abbrev S4x512x128 : Shape := ⟨3, ![4, 512, 128]⟩
abbrev S1 : Shape := ⟨1, ![1]⟩
abbrev S8x1x1 : Shape := ⟨3, ![8, 1, 1]⟩
abbrev S1x1x1 : Shape := ⟨3, ![1, 1, 1]⟩
abbrev S8x1 : Shape := ⟨2, ![8, 1]⟩
abbrev S_ : Shape := ⟨0, ![]⟩
abbrev S8x128 : Shape := ⟨2, ![8, 128]⟩
abbrev S8x1x256x128 : Shape := ⟨4, ![8, 1, 256, 128]⟩
abbrev S1x256x128 : Shape := ⟨3, ![1, 256, 128]⟩
abbrev S1x1 : Shape := ⟨2, ![1, 1]⟩
abbrev S256x128 : Shape := ⟨2, ![256, 128]⟩
abbrev S1x1x256x128 : Shape := ⟨4, ![1, 1, 256, 128]⟩

abbrev nBuf : Space → Nat
  | .hbm => 22
  | .vmem => 19
  | .smem => 0
  | _ => 0

abbrev bufTy : (tb : Table) → Fin (tcTables nBuf tb) → BufTy
  | .hbm, ⟨0, _⟩ => ⟨S8x4x512x128, .bf16⟩
  | .hbm, ⟨1, _⟩ => ⟨S4x512x128, .f32⟩
  | .hbm, ⟨2, _⟩ => ⟨S4x512x128, .f32⟩
  | .hbm, ⟨3, _⟩ => ⟨S4x512x128, .f32⟩
  | .hbm, ⟨4, _⟩ => ⟨S4x512x128, .bf16⟩
  | .hbm, ⟨5, _⟩ => ⟨S1, .i32⟩
  | .hbm, ⟨6, _⟩ => ⟨S8x1x1, .i32⟩
  | .hbm, ⟨7, _⟩ => ⟨S1x1x1, .i32⟩
  | .hbm, ⟨8, _⟩ => ⟨S8x1x1, .i32⟩
  | .hbm, ⟨9, _⟩ => ⟨S8x1x1, .i1⟩
  | .hbm, ⟨10, _⟩ => ⟨S8x1, .i1⟩
  | .hbm, ⟨11, _⟩ => ⟨S_, .f32⟩
  | .hbm, ⟨12, _⟩ => ⟨S_, .f32⟩
  | .hbm, ⟨13, _⟩ => ⟨S8x1, .f32⟩
  | .hbm, ⟨14, _⟩ => ⟨S8x1, .f32⟩
  | .hbm, ⟨15, _⟩ => ⟨S8x1, .f32⟩
  | .hbm, ⟨16, _⟩ => ⟨S8x128, .f32⟩
  | .hbm, ⟨17, _⟩ => ⟨S8x128, .f32⟩
  | .hbm, ⟨18, _⟩ => ⟨S4x512x128, .f32⟩
  | .hbm, ⟨19, _⟩ => ⟨S4x512x128, .f32⟩
  | .hbm, ⟨20, _⟩ => ⟨S4x512x128, .f32⟩
  | .hbm, ⟨21, _⟩ => ⟨S4x512x128, .f32⟩
  | .local _ .vmem, ⟨0, _⟩ => ⟨S8x1x256x128, .bf16⟩
  | .local _ .vmem, ⟨1, _⟩ => ⟨S8x1x256x128, .bf16⟩
  | .local _ .vmem, ⟨2, _⟩ => ⟨S1x256x128, .f32⟩
  | .local _ .vmem, ⟨3, _⟩ => ⟨S1x256x128, .f32⟩
  | .local _ .vmem, ⟨4, _⟩ => ⟨S1x256x128, .f32⟩
  | .local _ .vmem, ⟨5, _⟩ => ⟨S1x256x128, .f32⟩
  | .local _ .vmem, ⟨6, _⟩ => ⟨S1x256x128, .f32⟩
  | .local _ .vmem, ⟨7, _⟩ => ⟨S1x256x128, .f32⟩
  | .local _ .vmem, ⟨8, _⟩ => ⟨S1x256x128, .bf16⟩
  | .local _ .vmem, ⟨9, _⟩ => ⟨S1x256x128, .bf16⟩
  | .local _ .vmem, ⟨10, _⟩ => ⟨S8x128, .f32⟩
  | .local _ .vmem, ⟨11, _⟩ => ⟨S1x256x128, .f32⟩
  | .local _ .vmem, ⟨12, _⟩ => ⟨S1x256x128, .f32⟩
  | .local _ .vmem, ⟨13, _⟩ => ⟨S1x256x128, .f32⟩
  | .local _ .vmem, ⟨14, _⟩ => ⟨S1x256x128, .f32⟩
  | .local _ .vmem, ⟨15, _⟩ => ⟨S1x256x128, .f32⟩
  | .local _ .vmem, ⟨16, _⟩ => ⟨S1x256x128, .f32⟩
  | .local _ .vmem, ⟨17, _⟩ => ⟨S1x256x128, .f32⟩
  | .local _ .vmem, ⟨18, _⟩ => ⟨S1x256x128, .f32⟩
  | _, _ => ⟨S8x4x512x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_cst_0 : Ref sig .tc := ⟨.hbm, 12, rfl⟩
abbrev main_call0_v0 : Ref sig .tc := ⟨.hbm, 13, rfl⟩
abbrev main_call0_v1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8_0 : Ref sig .tc := ⟨.hbm, 18, rfl⟩
abbrev main_v8_1 : Ref sig .tc := ⟨.hbm, 19, rfl⟩
abbrev main_v8_2 : Ref sig .tc := ⟨.hbm, 20, rfl⟩
abbrev main_v8_3 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S8x1x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S1x256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S1x256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]
-- ==== AdamBranchIdeal.lean ====
abbrev S8x4x512x128 : Shape := ⟨4, ![8, 4, 512, 128]⟩
abbrev S4x512x128 : Shape := ⟨3, ![4, 512, 128]⟩
abbrev S1 : Shape := ⟨1, ![1]⟩
abbrev S8x1x1 : Shape := ⟨3, ![8, 1, 1]⟩
abbrev S1x1x1 : Shape := ⟨3, ![1, 1, 1]⟩
abbrev S8x1 : Shape := ⟨2, ![8, 1]⟩
abbrev S_ : Shape := ⟨0, ![]⟩
abbrev S8x128 : Shape := ⟨2, ![8, 128]⟩
abbrev S8x1x256x128 : Shape := ⟨4, ![8, 1, 256, 128]⟩
abbrev S1x256x128 : Shape := ⟨3, ![1, 256, 128]⟩
abbrev S1x1 : Shape := ⟨2, ![1, 1]⟩
abbrev S256x128 : Shape := ⟨2, ![256, 128]⟩
abbrev S1x1x256x128 : Shape := ⟨4, ![1, 1, 256, 128]⟩

abbrev nBuf : Space → Nat
  | .hbm => 22
  | .vmem => 19
  | .smem => 0
  | _ => 0

abbrev bufTy : (tb : Table) → Fin (tcTables nBuf tb) → BufTy
  | .hbm, ⟨0, _⟩ => ⟨S8x4x512x128, .bf16⟩
  | .hbm, ⟨1, _⟩ => ⟨S4x512x128, .f32⟩
  | .hbm, ⟨2, _⟩ => ⟨S4x512x128, .f32⟩
  | .hbm, ⟨3, _⟩ => ⟨S4x512x128, .f32⟩
  | .hbm, ⟨4, _⟩ => ⟨S4x512x128, .bf16⟩
  | .hbm, ⟨5, _⟩ => ⟨S1, .i32⟩
  | .hbm, ⟨6, _⟩ => ⟨S8x1x1, .i32⟩
  | .hbm, ⟨7, _⟩ => ⟨S1x1x1, .i32⟩
  | .hbm, ⟨8, _⟩ => ⟨S8x1x1, .i32⟩
  | .hbm, ⟨9, _⟩ => ⟨S8x1x1, .i1⟩
  | .hbm, ⟨10, _⟩ => ⟨S8x1, .i1⟩
  | .hbm, ⟨11, _⟩ => ⟨S_, .f32⟩
  | .hbm, ⟨12, _⟩ => ⟨S_, .f32⟩
  | .hbm, ⟨13, _⟩ => ⟨S8x1, .f32⟩
  | .hbm, ⟨14, _⟩ => ⟨S8x1, .f32⟩
  | .hbm, ⟨15, _⟩ => ⟨S8x1, .f32⟩
  | .hbm, ⟨16, _⟩ => ⟨S8x128, .f32⟩
  | .hbm, ⟨17, _⟩ => ⟨S8x128, .f32⟩
  | .hbm, ⟨18, _⟩ => ⟨S4x512x128, .f32⟩
  | .hbm, ⟨19, _⟩ => ⟨S4x512x128, .f32⟩
  | .hbm, ⟨20, _⟩ => ⟨S4x512x128, .f32⟩
  | .hbm, ⟨21, _⟩ => ⟨S4x512x128, .f32⟩
  | .local _ .vmem, ⟨0, _⟩ => ⟨S8x1x256x128, .bf16⟩
  | .local _ .vmem, ⟨1, _⟩ => ⟨S8x1x256x128, .bf16⟩
  | .local _ .vmem, ⟨2, _⟩ => ⟨S1x256x128, .f32⟩
  | .local _ .vmem, ⟨3, _⟩ => ⟨S1x256x128, .f32⟩
  | .local _ .vmem, ⟨4, _⟩ => ⟨S1x256x128, .f32⟩
  | .local _ .vmem, ⟨5, _⟩ => ⟨S1x256x128, .f32⟩
  | .local _ .vmem, ⟨6, _⟩ => ⟨S1x256x128, .f32⟩
  | .local _ .vmem, ⟨7, _⟩ => ⟨S1x256x128, .f32⟩
  | .local _ .vmem, ⟨8, _⟩ => ⟨S1x256x128, .bf16⟩
  | .local _ .vmem, ⟨9, _⟩ => ⟨S1x256x128, .bf16⟩
  | .local _ .vmem, ⟨10, _⟩ => ⟨S8x128, .f32⟩
  | .local _ .vmem, ⟨11, _⟩ => ⟨S1x256x128, .f32⟩
  | .local _ .vmem, ⟨12, _⟩ => ⟨S1x256x128, .f32⟩
  | .local _ .vmem, ⟨13, _⟩ => ⟨S1x256x128, .f32⟩
  | .local _ .vmem, ⟨14, _⟩ => ⟨S1x256x128, .f32⟩
  | .local _ .vmem, ⟨15, _⟩ => ⟨S1x256x128, .f32⟩
  | .local _ .vmem, ⟨16, _⟩ => ⟨S1x256x128, .f32⟩
  | .local _ .vmem, ⟨17, _⟩ => ⟨S1x256x128, .f32⟩
  | .local _ .vmem, ⟨18, _⟩ => ⟨S1x256x128, .f32⟩
  | _, _ => ⟨S8x4x512x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_cst_0 : Ref sig .tc := ⟨.hbm, 12, rfl⟩
abbrev main_call0_v0 : Ref sig .tc := ⟨.hbm, 13, rfl⟩
abbrev main_call0_v1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8_0 : Ref sig .tc := ⟨.hbm, 18, rfl⟩
abbrev main_v8_1 : Ref sig .tc := ⟨.hbm, 19, rfl⟩
abbrev main_v8_2 : Ref sig .tc := ⟨.hbm, 20, rfl⟩
abbrev main_v8_3 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S8x1x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S1x256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S1x256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]
-- ==== AdamBranchRefIdeal.lean ====
abbrev S8x4x512x128 : Shape := ⟨4, ![8, 4, 512, 128]⟩
abbrev S4x512x128 : Shape := ⟨3, ![4, 512, 128]⟩
abbrev S1 : Shape := ⟨1, ![1]⟩
abbrev S8 : Shape := ⟨1, ![8]⟩
abbrev S8x1x1x1 : Shape := ⟨4, ![8, 1, 1, 1]⟩
abbrev S1x1x1x1 : Shape := ⟨4, ![1, 1, 1, 1]⟩
abbrev S1x4x512x128 : Shape := ⟨4, ![1, 4, 512, 128]⟩
abbrev S_ : Shape := ⟨0, ![]⟩

abbrev nBuf : Space → Nat
  | .hbm => 51
  | .vmem => 0
  | .smem => 0
  | _ => 0

abbrev bufTy : (tb : Table) → Fin (tcTables nBuf tb) → BufTy
  | .hbm, ⟨0, _⟩ => ⟨S8x4x512x128, .bf16⟩
  | .hbm, ⟨1, _⟩ => ⟨S4x512x128, .f32⟩
  | .hbm, ⟨2, _⟩ => ⟨S4x512x128, .f32⟩
  | .hbm, ⟨3, _⟩ => ⟨S4x512x128, .f32⟩
  | .hbm, ⟨4, _⟩ => ⟨S4x512x128, .bf16⟩
  | .hbm, ⟨5, _⟩ => ⟨S1, .i32⟩
  | .hbm, ⟨6, _⟩ => ⟨S8, .i32⟩
  | .hbm, ⟨7, _⟩ => ⟨S8x1x1x1, .i32⟩
  | .hbm, ⟨8, _⟩ => ⟨S1x1x1x1, .i32⟩
  | .hbm, ⟨9, _⟩ => ⟨S8x1x1x1, .i32⟩
  | .hbm, ⟨10, _⟩ => ⟨S8x1x1x1, .i1⟩
  | .hbm, ⟨11, _⟩ => ⟨S1x4x512x128, .bf16⟩
  | .hbm, ⟨12, _⟩ => ⟨S8x4x512x128, .i1⟩
  | .hbm, ⟨13, _⟩ => ⟨S8x4x512x128, .bf16⟩
  | .hbm, ⟨14, _⟩ => ⟨S8x4x512x128, .bf16⟩
  | .hbm, ⟨15, _⟩ => ⟨S8x4x512x128, .f32⟩
  | .hbm, ⟨16, _⟩ => ⟨S_, .f32⟩
  | .hbm, ⟨17, _⟩ => ⟨S4x512x128, .f32⟩
  | .hbm, ⟨18, _⟩ => ⟨S_, .f32⟩
  | .hbm, ⟨19, _⟩ => ⟨S4x512x128, .f32⟩
  | .hbm, ⟨20, _⟩ => ⟨S4x512x128, .f32⟩
  | .hbm, ⟨21, _⟩ => ⟨S_, .f32⟩
  | .hbm, ⟨22, _⟩ => ⟨S4x512x128, .f32⟩
  | .hbm, ⟨23, _⟩ => ⟨S4x512x128, .f32⟩
  | .hbm, ⟨24, _⟩ => ⟨S4x512x128, .f32⟩
  | .hbm, ⟨25, _⟩ => ⟨S_, .f32⟩
  | .hbm, ⟨26, _⟩ => ⟨S4x512x128, .f32⟩
  | .hbm, ⟨27, _⟩ => ⟨S4x512x128, .f32⟩
  | .hbm, ⟨28, _⟩ => ⟨S4x512x128, .f32⟩
  | .hbm, ⟨29, _⟩ => ⟨S_, .f32⟩
  | .hbm, ⟨30, _⟩ => ⟨S4x512x128, .f32⟩
  | .hbm, ⟨31, _⟩ => ⟨S4x512x128, .f32⟩
  | .hbm, ⟨32, _⟩ => ⟨S4x512x128, .f32⟩
  | .hbm, ⟨33, _⟩ => ⟨S_, .f32⟩
  | .hbm, ⟨34, _⟩ => ⟨S4x512x128, .f32⟩
  | .hbm, ⟨35, _⟩ => ⟨S4x512x128, .f32⟩
  | .hbm, ⟨36, _⟩ => ⟨S_, .f32⟩
  | .hbm, ⟨37, _⟩ => ⟨S4x512x128, .f32⟩
  | .hbm, ⟨38, _⟩ => ⟨S4x512x128, .f32⟩
  | .hbm, ⟨39, _⟩ => ⟨S4x512x128, .f32⟩
  | .hbm, ⟨40, _⟩ => ⟨S_, .f32⟩
  | .hbm, ⟨41, _⟩ => ⟨S4x512x128, .f32⟩
  | .hbm, ⟨42, _⟩ => ⟨S4x512x128, .f32⟩
  | .hbm, ⟨43, _⟩ => ⟨S4x512x128, .f32⟩
  | .hbm, ⟨44, _⟩ => ⟨S_, .f32⟩
  | .hbm, ⟨45, _⟩ => ⟨S4x512x128, .f32⟩
  | .hbm, ⟨46, _⟩ => ⟨S4x512x128, .f32⟩
  | .hbm, ⟨47, _⟩ => ⟨S4x512x128, .f32⟩
  | .hbm, ⟨48, _⟩ => ⟨S_, .f32⟩
  | .hbm, ⟨49, _⟩ => ⟨S4x512x128, .f32⟩
  | .hbm, ⟨50, _⟩ => ⟨S4x512x128, .f32⟩
  | _, _ => ⟨S8x4x512x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_call0_v0 : Ref sig .tc := ⟨.hbm, 12, rfl⟩
abbrev main_call0_v1 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_3 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_4 : Ref sig .tc := ⟨.hbm, 33, rfl⟩
abbrev main_v20 : Ref sig .tc := ⟨.hbm, 34, rfl⟩
abbrev main_v21 : Ref sig .tc := ⟨.hbm, 35, rfl⟩
abbrev main_cst_5 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_6 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_7 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_8 : Ref sig .tc := ⟨.hbm, 48, rfl⟩
abbrev main_v31 : Ref sig .tc := ⟨.hbm, 49, rfl⟩
abbrev main_v32 : Ref sig .tc := ⟨.hbm, 50, rfl⟩

abbrev nD : Nat := 1
abbrev τ : Topo := Topo.v7x

variable {F : FTy → Type} [FloatOps F]
-- ==== AdamConv.lean ====
abbrev S8x4x4x192 : Shape := ⟨4, ![8, 4, 4, 192]⟩
abbrev S4x4x192 : Shape := ⟨3, ![4, 4, 192]⟩
abbrev S1 : Shape := ⟨1, ![1]⟩
abbrev S8x1x1 : Shape := ⟨3, ![8, 1, 1]⟩
abbrev S1x1x1 : Shape := ⟨3, ![1, 1, 1]⟩
abbrev S8x1 : Shape := ⟨2, ![8, 1]⟩
abbrev S_ : Shape := ⟨0, ![]⟩
abbrev S8x128 : Shape := ⟨2, ![8, 128]⟩
abbrev S8x1x4x192 : Shape := ⟨4, ![8, 1, 4, 192]⟩
abbrev S1x4x192 : Shape := ⟨3, ![1, 4, 192]⟩
abbrev S1x1 : Shape := ⟨2, ![1, 1]⟩
abbrev S4x192 : Shape := ⟨2, ![4, 192]⟩
abbrev S1x1x4x192 : Shape := ⟨4, ![1, 1, 4, 192]⟩

abbrev nBuf : Space → Nat
  | .hbm => 22
  | .vmem => 19
  | .smem => 0
  | _ => 0

abbrev bufTy : (tb : Table) → Fin (tcTables nBuf tb) → BufTy
  | .hbm, ⟨0, _⟩ => ⟨S8x4x4x192, .f32⟩
  | .hbm, ⟨1, _⟩ => ⟨S4x4x192, .f32⟩
  | .hbm, ⟨2, _⟩ => ⟨S4x4x192, .f32⟩
  | .hbm, ⟨3, _⟩ => ⟨S4x4x192, .f32⟩
  | .hbm, ⟨4, _⟩ => ⟨S4x4x192, .f32⟩
  | .hbm, ⟨5, _⟩ => ⟨S1, .i32⟩
  | .hbm, ⟨6, _⟩ => ⟨S8x1x1, .i32⟩
  | .hbm, ⟨7, _⟩ => ⟨S1x1x1, .i32⟩
  | .hbm, ⟨8, _⟩ => ⟨S8x1x1, .i32⟩
  | .hbm, ⟨9, _⟩ => ⟨S8x1x1, .i1⟩
  | .hbm, ⟨10, _⟩ => ⟨S8x1, .i1⟩
  | .hbm, ⟨11, _⟩ => ⟨S_, .f32⟩
  | .hbm, ⟨12, _⟩ => ⟨S_, .f32⟩
  | .hbm, ⟨13, _⟩ => ⟨S8x1, .f32⟩
  | .hbm, ⟨14, _⟩ => ⟨S8x1, .f32⟩
  | .hbm, ⟨15, _⟩ => ⟨S8x1, .f32⟩
  | .hbm, ⟨16, _⟩ => ⟨S8x128, .f32⟩
  | .hbm, ⟨17, _⟩ => ⟨S8x128, .f32⟩
  | .hbm, ⟨18, _⟩ => ⟨S4x4x192, .f32⟩
  | .hbm, ⟨19, _⟩ => ⟨S4x4x192, .f32⟩
  | .hbm, ⟨20, _⟩ => ⟨S4x4x192, .f32⟩
  | .hbm, ⟨21, _⟩ => ⟨S4x4x192, .f32⟩
  | .local _ .vmem, ⟨0, _⟩ => ⟨S8x1x4x192, .f32⟩
  | .local _ .vmem, ⟨1, _⟩ => ⟨S8x1x4x192, .f32⟩
  | .local _ .vmem, ⟨2, _⟩ => ⟨S1x4x192, .f32⟩
  | .local _ .vmem, ⟨3, _⟩ => ⟨S1x4x192, .f32⟩
  | .local _ .vmem, ⟨4, _⟩ => ⟨S1x4x192, .f32⟩
  | .local _ .vmem, ⟨5, _⟩ => ⟨S1x4x192, .f32⟩
  | .local _ .vmem, ⟨6, _⟩ => ⟨S1x4x192, .f32⟩
  | .local _ .vmem, ⟨7, _⟩ => ⟨S1x4x192, .f32⟩
  | .local _ .vmem, ⟨8, _⟩ => ⟨S1x4x192, .f32⟩
  | .local _ .vmem, ⟨9, _⟩ => ⟨S1x4x192, .f32⟩
  | .local _ .vmem, ⟨10, _⟩ => ⟨S8x128, .f32⟩
  | .local _ .vmem, ⟨11, _⟩ => ⟨S1x4x192, .f32⟩
  | .local _ .vmem, ⟨12, _⟩ => ⟨S1x4x192, .f32⟩
  | .local _ .vmem, ⟨13, _⟩ => ⟨S1x4x192, .f32⟩
  | .local _ .vmem, ⟨14, _⟩ => ⟨S1x4x192, .f32⟩
  | .local _ .vmem, ⟨15, _⟩ => ⟨S1x4x192, .f32⟩
  | .local _ .vmem, ⟨16, _⟩ => ⟨S1x4x192, .f32⟩
  | .local _ .vmem, ⟨17, _⟩ => ⟨S1x4x192, .f32⟩
  | .local _ .vmem, ⟨18, _⟩ => ⟨S1x4x192, .f32⟩
  | _, _ => ⟨S8x4x4x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_cst_0 : Ref sig .tc := ⟨.hbm, 12, rfl⟩
abbrev main_call0_v0 : Ref sig .tc := ⟨.hbm, 13, rfl⟩
abbrev main_call0_v1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8_0 : Ref sig .tc := ⟨.hbm, 18, rfl⟩
abbrev main_v8_1 : Ref sig .tc := ⟨.hbm, 19, rfl⟩
abbrev main_v8_2 : Ref sig .tc := ⟨.hbm, 20, rfl⟩
abbrev main_v8_3 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S8x1x4x192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4x192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x4x192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x4x192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x4x192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S1x4x192 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x4x192 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x4x192 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S1x4x192 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]
-- ==== AdamConvRefIdeal.lean ====
abbrev S8x4x4x192 : Shape := ⟨4, ![8, 4, 4, 192]⟩
abbrev S4x4x192 : Shape := ⟨3, ![4, 4, 192]⟩
abbrev S1 : Shape := ⟨1, ![1]⟩
abbrev S8 : Shape := ⟨1, ![8]⟩
abbrev S8x1x1x1 : Shape := ⟨4, ![8, 1, 1, 1]⟩
abbrev S1x1x1x1 : Shape := ⟨4, ![1, 1, 1, 1]⟩
abbrev S1x4x4x192 : Shape := ⟨4, ![1, 4, 4, 192]⟩
abbrev S_ : Shape := ⟨0, ![]⟩

abbrev nBuf : Space → Nat
  | .hbm => 50
  | .vmem => 0
  | .smem => 0
  | _ => 0

abbrev bufTy : (tb : Table) → Fin (tcTables nBuf tb) → BufTy
  | .hbm, ⟨0, _⟩ => ⟨S8x4x4x192, .f32⟩
  | .hbm, ⟨1, _⟩ => ⟨S4x4x192, .f32⟩
  | .hbm, ⟨2, _⟩ => ⟨S4x4x192, .f32⟩
  | .hbm, ⟨3, _⟩ => ⟨S4x4x192, .f32⟩
  | .hbm, ⟨4, _⟩ => ⟨S4x4x192, .f32⟩
  | .hbm, ⟨5, _⟩ => ⟨S1, .i32⟩
  | .hbm, ⟨6, _⟩ => ⟨S8, .i32⟩
  | .hbm, ⟨7, _⟩ => ⟨S8x1x1x1, .i32⟩
  | .hbm, ⟨8, _⟩ => ⟨S1x1x1x1, .i32⟩
  | .hbm, ⟨9, _⟩ => ⟨S8x1x1x1, .i32⟩
  | .hbm, ⟨10, _⟩ => ⟨S8x1x1x1, .i1⟩
  | .hbm, ⟨11, _⟩ => ⟨S1x4x4x192, .f32⟩
  | .hbm, ⟨12, _⟩ => ⟨S8x4x4x192, .i1⟩
  | .hbm, ⟨13, _⟩ => ⟨S8x4x4x192, .f32⟩
  | .hbm, ⟨14, _⟩ => ⟨S8x4x4x192, .f32⟩
  | .hbm, ⟨15, _⟩ => ⟨S_, .f32⟩
  | .hbm, ⟨16, _⟩ => ⟨S4x4x192, .f32⟩
  | .hbm, ⟨17, _⟩ => ⟨S_, .f32⟩
  | .hbm, ⟨18, _⟩ => ⟨S4x4x192, .f32⟩
  | .hbm, ⟨19, _⟩ => ⟨S4x4x192, .f32⟩
  | .hbm, ⟨20, _⟩ => ⟨S_, .f32⟩
  | .hbm, ⟨21, _⟩ => ⟨S4x4x192, .f32⟩
  | .hbm, ⟨22, _⟩ => ⟨S4x4x192, .f32⟩
  | .hbm, ⟨23, _⟩ => ⟨S4x4x192, .f32⟩
  | .hbm, ⟨24, _⟩ => ⟨S_, .f32⟩
  | .hbm, ⟨25, _⟩ => ⟨S4x4x192, .f32⟩
  | .hbm, ⟨26, _⟩ => ⟨S4x4x192, .f32⟩
  | .hbm, ⟨27, _⟩ => ⟨S4x4x192, .f32⟩
  | .hbm, ⟨28, _⟩ => ⟨S_, .f32⟩
  | .hbm, ⟨29, _⟩ => ⟨S4x4x192, .f32⟩
  | .hbm, ⟨30, _⟩ => ⟨S4x4x192, .f32⟩
  | .hbm, ⟨31, _⟩ => ⟨S4x4x192, .f32⟩
  | .hbm, ⟨32, _⟩ => ⟨S_, .f32⟩
  | .hbm, ⟨33, _⟩ => ⟨S4x4x192, .f32⟩
  | .hbm, ⟨34, _⟩ => ⟨S4x4x192, .f32⟩
  | .hbm, ⟨35, _⟩ => ⟨S_, .f32⟩
  | .hbm, ⟨36, _⟩ => ⟨S4x4x192, .f32⟩
  | .hbm, ⟨37, _⟩ => ⟨S4x4x192, .f32⟩
  | .hbm, ⟨38, _⟩ => ⟨S4x4x192, .f32⟩
  | .hbm, ⟨39, _⟩ => ⟨S_, .f32⟩
  | .hbm, ⟨40, _⟩ => ⟨S4x4x192, .f32⟩
  | .hbm, ⟨41, _⟩ => ⟨S4x4x192, .f32⟩
  | .hbm, ⟨42, _⟩ => ⟨S4x4x192, .f32⟩
  | .hbm, ⟨43, _⟩ => ⟨S_, .f32⟩
  | .hbm, ⟨44, _⟩ => ⟨S4x4x192, .f32⟩
  | .hbm, ⟨45, _⟩ => ⟨S4x4x192, .f32⟩
  | .hbm, ⟨46, _⟩ => ⟨S4x4x192, .f32⟩
  | .hbm, ⟨47, _⟩ => ⟨S_, .f32⟩
  | .hbm, ⟨48, _⟩ => ⟨S4x4x192, .f32⟩
  | .hbm, ⟨49, _⟩ => ⟨S4x4x192, .f32⟩
  | _, _ => ⟨S8x4x4x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_call0_v0 : Ref sig .tc := ⟨.hbm, 12, rfl⟩
abbrev main_call0_v1 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_cst_5 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_6 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_7 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_8 : Ref sig .tc := ⟨.hbm, 47, rfl⟩
abbrev main_v30 : Ref sig .tc := ⟨.hbm, 48, rfl⟩
abbrev main_v31 : Ref sig .tc := ⟨.hbm, 49, rfl⟩

abbrev nD : Nat := 1
abbrev τ : Topo := Topo.v7x

variable {F : FTy → Type} [FloatOps F]
-- ==== AdaDw.lean ====
abbrev S16x1024 : Shape := ⟨2, ![16, 1024]⟩
abbrev S16x768 : Shape := ⟨2, ![16, 768]⟩
abbrev S1024x768 : Shape := ⟨2, ![1024, 768]⟩

abbrev nBuf : Space → Nat
  | .hbm => 3
  | .vmem => 3
  | .smem => 0
  | _ => 0

abbrev bufTy : (tb : Table) → Fin (tcTables nBuf tb) → BufTy
  | .hbm, ⟨0, _⟩ => ⟨S16x1024, .f32⟩
  | .hbm, ⟨1, _⟩ => ⟨S16x768, .f32⟩
  | .hbm, ⟨2, _⟩ => ⟨S1024x768, .f32⟩
  | .local _ .vmem, ⟨0, _⟩ => ⟨S16x1024, .f32⟩
  | .local _ .vmem, ⟨1, _⟩ => ⟨S16x768, .f32⟩
  | .local _ .vmem, ⟨2, _⟩ => ⟨S1024x768, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S16x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1024x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== AdaDwRefIdeal.lean ====
abbrev S16x1024 : Shape := ⟨2, ![16, 1024]⟩
abbrev S16x768 : Shape := ⟨2, ![16, 768]⟩
abbrev S_ : Shape := ⟨0, ![]⟩
abbrev S1024x768 : Shape := ⟨2, ![1024, 768]⟩
abbrev S768x1024 : Shape := ⟨2, ![768, 1024]⟩

abbrev nBuf : Space → Nat
  | .hbm => 7
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S16x768, .f32⟩
  | .hbm, ⟨2, _⟩ => ⟨S_, .f32⟩
  | .hbm, ⟨3, _⟩ => ⟨S1024x768, .f32⟩
  | .hbm, ⟨4, _⟩ => ⟨S16x768, .f32⟩
  | .hbm, ⟨5, _⟩ => ⟨S768x1024, .f32⟩
  | .hbm, ⟨6, _⟩ => ⟨S1024x768, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Proof.ScanReal.lean ====
/-
  The reverse scan of the delta rule over the reals, of which the kernel's and the reference's results are both the
  embedding: the gradient of the state carried from the last chunk to the first, and the gradient of `u` at each chunk.
-/
module

public import Idealize.ShloMosaic.PureOps.Ideal

@[expose] public section

noncomputable section

namespace Cert.Scan

/-- The arguments of the scan, by chunk and head: the cumulative-decay rows, the decayed queries, the decayed keys, the
    cotangent, the masked scores within a chunk, the chunk's decay. -/
structure Args where
  w : Fin 64 → Fin 4 → Fin 64 → Fin 128 → ℝ
  q : Fin 64 → Fin 4 → Fin 64 → Fin 128 → ℝ
  k : Fin 64 → Fin 4 → Fin 64 → Fin 128 → ℝ
  d : Fin 64 → Fin 4 → Fin 64 → Fin 128 → ℝ
  a : Fin 64 → Fin 4 → Fin 64 → Fin 64 → ℝ
  g : Fin 64 → Fin 4 → ℝ

/-- The gradient of the state, by head. -/
abbrev St := Fin 4 → Fin 128 → Fin 128 → ℝ

/-- The chunk that step `t` of the reverse scan visits. -/
def chunk (t : ℕ) : Fin 64 := ⟨63 - t, by omega⟩

variable (A : Args)

/-- The gradient of `u` at chunk `i`, from the gradient `S` of the state after the chunk. -/
def du (i : Fin 64) (S : St) (h : Fin 4) (r : Fin 64) (v : Fin 128) : ℝ :=
  ∑ j : Fin 64, A.a i h j r * A.d i h j v + ∑ k : Fin 128, A.k i h r k * S h k v

/-- The gradient of the state before chunk `i`, from the gradient `S` of the state after it. -/
def next (i : Fin 64) (S : St) : St := fun h k v =>
  ∑ r : Fin 64, A.q i h r k * A.d i h r v + A.g i h * S h k v - ∑ r : Fin 64, A.w i h r k * du A i S h r v

/-- The gradient of the state before step `t` of the reverse scan. -/
def st : ℕ → St
  | 0 => fun _ _ _ => 0
  | t + 1 => next A (chunk t) (st t)

theorem coe_sum {ι : Type} (s : Finset ι) (f : ι → ℝ) : ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- The column of the flattened row that holds lane `v` of head `h`. -/
def col (h : Fin 4) (v : Fin 128) : Fin 512 := ⟨128 * h.val + v.val, by omega⟩

theorem col0 (v : Fin 128) (p : v.val < 512) : (⟨v.val, p⟩ : Fin 512) = col 0 v := Fin.ext (by simp [col])
theorem col1 (v : Fin 128) (p : 128 + v.val < 512) : (⟨128 + v.val, p⟩ : Fin 512) = col 1 v := Fin.ext (by simp [col])
theorem col2 (v : Fin 128) (p : 256 + v.val < 512) : (⟨256 + v.val, p⟩ : Fin 512) = col 2 v := Fin.ext (by simp [col])
theorem col3 (v : Fin 128) (p : 384 + v.val < 512) : (⟨384 + v.val, p⟩ : Fin 512) = col 3 v := Fin.ext (by simp [col])

/-- The head and the lane of a column. -/
def headOf (c : Fin 512) : Fin 4 := ⟨c.val / 128, by omega⟩
def laneOf (c : Fin 512) : Fin 128 := ⟨c.val % 128, Nat.mod_lt _ (by decide)⟩

theorem col_head_lane (c : Fin 512) : col (headOf c) (laneOf c) = c := Fin.ext (by simp [col, headOf, laneOf]; omega)
theorem head_eq {c : Fin 512} {h : Fin 4} {v : Fin 128} (e : c.val = 128 * h.val + v.val) : headOf c = h :=
  Fin.ext (by simp [headOf]; omega)
theorem lane_eq {c : Fin 512} {h : Fin 4} {v : Fin 128} (e : c.val = 128 * h.val + v.val) : laneOf c = v :=
  Fin.ext (by simp [laneOf]; omega)

end Cert.Scan

end
-- ==== Proof.ScanArgs.lean ====
/-
  The arguments of the scan read off the arrays both programs are given.
-/
module

public import proofs.«01_k».proof.Proof.ScanReal
public import Idealize.ShloMosaic.Lib.Pipeline.ValueKit.Point

@[expose] public section

noncomputable section

namespace Cert.Scan

open Idealize.ShloMosaic

/-- Row `r` of chunk `i`, and head `h` of chunk `i`. -/
def rowOf (i r : Fin 64) : Fin 4096 := ⟨64 * i.val + r.val, by omega⟩
def matOf (i : Fin 64) (h : Fin 4) : Fin 256 := ⟨4 * i.val + h.val, by omega⟩

abbrev Rows := (⟨2, ![4096, 512]⟩ : Shape).Idx → EReal
abbrev Mats := (⟨3, ![256, 64, 64]⟩ : Shape).Idx → EReal
abbrev Lasts := (⟨2, ![64, 4]⟩ : Shape).Idx → EReal

/-- The arguments of the scan, of the six arrays. -/
def argsOf (w q k : Rows) (a : Mats) (g : Lasts) (d : Rows) : Args where
  w i h r v := (w (ix2 (rowOf i r) (col h v))).toReal
  q i h r v := (q (ix2 (rowOf i r) (col h v))).toReal
  k i h r v := (k (ix2 (rowOf i r) (col h v))).toReal
  d i h r v := (d (ix2 (rowOf i r) (col h v))).toReal
  a i h r v := (a (ix3 (matOf i h) r v)).toReal
  g i h := (g (ix2 i h)).toReal

/-- Every entry is a real number. -/
def Real {S : Shape} (x : S.Idx → EReal) : Prop := ∀ i, x i ≠ ⊤ ∧ x i ≠ ⊥

theorem Real.coe {S : Shape} {x : S.Idx → EReal} (h : Real x) (i : S.Idx) : x i = ((x i).toReal : EReal) :=
  (EReal.coe_toReal (h i).1 (h i).2).symm

/-- A number whose absolute value is below plus infinity is real. -/
theorem real_of_abs_lt {x : EReal} (h : Ideal.cmp .olt (FloatOps.hostAbsf (F := Ideal) (φ := .f32) x)
    (FloatOps.ofBits (F := Ideal) .f32 0x7F800000#32) = 1#1) : x ≠ ⊤ ∧ x ≠ ⊥ := by
  have e : FloatOps.ofBits (F := Ideal) .f32 0x7F800000#32 = (⊤ : EReal) := by
    show Ideal.ofBits .f32 0x7F800000#32 = ⊤
    simp [Ideal.ofBits, Ideal.ieee]
  rw [e] at h
  replace h : BitVec.ofBool (decide (max x (-x) < ⊤)) = 1#1 := h
  constructor
  · rintro rfl
    simp at h
  · rintro rfl
    simp at h

end Cert.Scan

end
-- ==== Proof.ScanKernel.lean ====
/-
  What the kernel's body leaves at each grid point, over the reals: the block of `du`, the block of the state's gradient
  and the gradient carried to the next point.
-/
module

public import proofs.«01_k».proof.Proof.Gen.KernelIdeal.Value
public import proofs.«01_k».proof.Proof.ScanReal
public import Idealize.ShloMosaic.Lib.Pipeline.ValueKit.Point
public import Idealize.ShloMosaic.Lib.Pipeline.ReadBack

@[expose] public section

noncomputable section

namespace Cert.Scan

open Idealize.ShloMosaic Idealize.ShloMosaic.TcCoe Idealize.SL.Sem
open Cert.KernelIdeal Cert.KernelIdeal.Gen

variable (m : (ℓ : Loc nD τ sig) → Buf (Elt Ideal) ℓ) (A : Args) (c : Dev nD)

/-- The input blocks at point `t` hold the arguments of chunk `63 - t`. -/
structure Blocks (t : Fin cfg0.N) : Prop where
  w : ∀ h r k, iblk m c 0 t (ix2 r (col h k)) = (A.w (chunk t) h r k : EReal)
  q : ∀ h r k, iblk m c 1 t (ix2 r (col h k)) = (A.q (chunk t) h r k : EReal)
  k : ∀ h r k, iblk m c 2 t (ix2 r (col h k)) = (A.k (chunk t) h r k : EReal)
  a : ∀ h i j, iblk m c 3 t (ix3 h i j) = (A.a (chunk t) h i j : EReal)
  g : ∀ (h : Fin 4), iblk m c 4 t (ix2 0 (⟨h.val, by omega⟩ : Fin 128)) = (A.g (chunk t) h : EReal)
  d : ∀ h r v, iblk m c 5 t (ix2 r (col h v)) = (A.d (chunk t) h r v : EReal)

variable {m A c}

/-- Pieces that lie under pieces covering the index are not read there. -/
theorem canon_drop {S : Shape} {e : EltTy} (L' : List (View.Piece (Elt Ideal) S e)) (y : S.Idx) :
    ∀ L : List (View.Piece (Elt Ideal) S e), (∃ p ∈ L, y ∈ p.1.set) → View.canon (L ++ L') y = View.canon L y
  | [], hy => by obtain ⟨p, hp, _⟩ := hy; simp at hp
  | p :: L, hy => by
    by_cases hp : y ∈ p.1.set
    · obtain ⟨x, rfl⟩ := p.1.exists_idx_of_mem hp
      rw [List.cons_append, show p.1.idx x = p.1.emb x from rfl, View.canon_cons_emb, View.canon_cons_emb]
    · rw [List.cons_append, View.canon_cons_of_not_mem p _ hp, View.canon_cons_of_not_mem p _ hp]
      refine canon_drop L' y L ?_
      obtain ⟨q, hq, hqy⟩ := hy
      rcases List.mem_cons.mp hq with rfl | hq
      · exact absurd hqy hp
      · exact ⟨q, hq, hqy⟩

/-- A sum over the lanes that keeps one of them is that lane. -/
theorem sum_pick (f : Fin 128 → EReal) (h : ℕ) (hh : h < 128) :
    (∑ x : Fin 128, Scalar.select (IntOp.cmpi CmpIPredicate.eq (BitVec.ofNat 32 x.val) (BitVec.ofNat 32 h)) (f x) 0)
      = f ⟨h, hh⟩ := by
  rw [Finset.sum_eq_single ⟨h, hh⟩]
  · simp [Scalar.select, IntOp.cmpi]
  · intro b _ hb
    have hne : BitVec.ofNat 32 b.val ≠ BitVec.ofNat 32 h := fun e => hb (Fin.ext (by
      have e' := congrArg BitVec.toNat e
      rw [BitVec.toNat_ofNat, BitVec.toNat_ofNat, Nat.mod_eq_of_lt (by omega), Nat.mod_eq_of_lt (by omega)] at e'
      exact e'))
    have hf : (BitVec.ofNat 32 b.val == BitVec.ofNat 32 h) = false := beq_eq_false_iff_ne.mpr hne
    simp [Scalar.select, IntOp.cmpi, hf]
  · simp

theorem pick0 (f : Fin 128 → EReal) : (∑ x : Fin 128, Scalar.select (IntOp.cmpi CmpIPredicate.eq (BitVec.ofNat 32 x.val) 0#32) (f x) 0) = f 0 := sum_pick f 0 (by decide)
theorem pick1 (f : Fin 128 → EReal) : (∑ x : Fin 128, Scalar.select (IntOp.cmpi CmpIPredicate.eq (BitVec.ofNat 32 x.val) 1#32) (f x) 0) = f 1 := sum_pick f 1 (by decide)
theorem pick2 (f : Fin 128 → EReal) : (∑ x : Fin 128, Scalar.select (IntOp.cmpi CmpIPredicate.eq (BitVec.ofNat 32 x.val) 2#32) (f x) 0) = f 2 := sum_pick f 2 (by decide)
theorem pick3 (f : Fin 128 → EReal) : (∑ x : Fin 128, Scalar.select (IntOp.cmpi CmpIPredicate.eq (BitVec.ofNat 32 x.val) 3#32) (f x) 0) = f 3 := sum_pick f 3 (by decide)

theorem du_coe (i : Fin 64) (S : St) (h : Fin 4) (r : Fin 64) (v : Fin 128) :
    (∑ j : Fin 64, (A.a i h j r : EReal) * A.d i h j v + ∑ k : Fin 128, (A.k i h r k : EReal) * S h k v)
      = (du A i S h r v : EReal) := by
  simp only [du, EReal.coe_add, EReal.coe_mul, coe_sum]

theorem next_coe (i : Fin 64) (S : St) (h : Fin 4) (k v : Fin 128) :
    (∑ r : Fin 64, (A.q i h r k : EReal) * A.d i h r v + (A.g i h : EReal) * S h k v - ∑ r : Fin 64, (A.w i h r k : EReal)
      * (∑ j : Fin 64, (A.a i h j r : EReal) * A.d i h j v + ∑ k : Fin 128, (A.k i h r k : EReal) * S h k v))
      = (next A i S h k v : EReal) := by
  simp only [next, du, EReal.coe_add, EReal.coe_sub, EReal.coe_mul, coe_sum]

theorem du_zero (i : Fin 64) (h : Fin 4) (r : Fin 64) (v : Fin 128) :
    (∑ j : Fin 64, (A.a i h j r : EReal) * A.d i h j v) = (du A i (st A 0) h r v : EReal) := by
  rw [← du_coe]; simp [st]

theorem next_zero (i : Fin 64) (h : Fin 4) (k v : Fin 128) :
    (∑ r : Fin 64, (A.q i h r k : EReal) * A.d i h r v
      - ∑ r : Fin 64, (A.w i h r k : EReal) * ∑ j : Fin 64, (A.a i h j r : EReal) * A.d i h j v)
      = (next A i (st A 0) h k v : EReal) := by
  rw [← next_coe]; simp [st]

variable {t : Fin cfg0.N} (hb : Blocks m A c t)
include hb

set_option maxHeartbeats 4000000 in
/-- The block of `du` at a later point. -/
theorem later_du (h0 : ¬ t.val % 64 = 0)
    (hs : ∀ h k v, (outsAt0 m c (t.val - 1) (Nat.lt_of_le_of_lt (Nat.sub_le _ _) t.isLt)).2.2 (ix3 h k v) = (st A t h k v : EReal))
    (y : S64x512.Idx) :
    (outsAt0 m c t.val t.isLt).1 y = (du A (chunk t) (st A t) (headOf (y 1)) (y 0) (laneOf (y 1)) : EReal) := by
  rw [outsAt0_B m c t h0]
  frame_out
  canon_tiles x h
  case piece0 =>
    rw [show headOf (y 1) = 3 from head_eq (v := x 1) h1, show laneOf (y 1) = x 1 from lane_eq (h := 3) h1, show y 0 = x 0 from Fin.ext h0]
    open_payloads
    pointwise [read_unread_whole, col3, hb.k, hb.a, hb.d, hs]
    unfold du
    simp only [EReal.coe_add, EReal.coe_mul, coe_sum]
  case piece1 =>
    rw [show headOf (y 1) = 2 from head_eq (v := x 1) h1, show laneOf (y 1) = x 1 from lane_eq (h := 2) h1, show y 0 = x 0 from Fin.ext h0]
    open_payloads
    pointwise [read_unread_whole, col2, hb.k, hb.a, hb.d, hs]
    unfold du
    simp only [EReal.coe_add, EReal.coe_mul, coe_sum]
  case piece2 =>
    rw [show headOf (y 1) = 1 from head_eq (v := x 1) h1, show laneOf (y 1) = x 1 from lane_eq (h := 1) h1, show y 0 = x 0 from Fin.ext h0]
    open_payloads
    pointwise [read_unread_whole, col1, hb.k, hb.a, hb.d, hs]
    unfold du
    simp only [EReal.coe_add, EReal.coe_mul, coe_sum]
  case piece3 =>
    rw [show headOf (y 1) = 0 from head_eq (v := x 1) (by rw [h1]; simp), show laneOf (y 1) = x 1 from lane_eq (h := 0) (by rw [h1]; simp), show y 0 = x 0 from Fin.ext h0]
    open_payloads
    pointwise [read_unread_whole, col0, hb.k, hb.a, hb.d, hs]
    unfold du
    simp only [EReal.coe_add, EReal.coe_mul, coe_sum]

set_option maxHeartbeats 4000000 in
/-- The block of the state's gradient at a later point. -/
theorem later_st (h0 : ¬ t.val % 64 = 0)
    (hs : ∀ h k v, (outsAt0 m c (t.val - 1) (Nat.lt_of_le_of_lt (Nat.sub_le _ _) t.isLt)).2.2 (ix3 h k v) = (st A t h k v : EReal))
    (y : S4x128x128.Idx) :
    (outsAt0 m c t.val t.isLt).2.1 y = (st A t (y 0) (y 1) (y 2) : EReal) := by
  have hg0 : iblk m c 4 t (ix2 0 0) = (A.g (chunk t) 0 : EReal) := hb.g 0
  have hg1 : iblk m c 4 t (ix2 0 1) = (A.g (chunk t) 1 : EReal) := hb.g 1
  have hg2 : iblk m c 4 t (ix2 0 2) = (A.g (chunk t) 2 : EReal) := hb.g 2
  have hg3 : iblk m c 4 t (ix2 0 3) = (A.g (chunk t) 3 : EReal) := hb.g 3
  rw [outsAt0_B m c t h0]
  frame_out
  canon_tiles x h
  case piece0 =>
    rw [show (y 0 : Fin 4) = (3 : Fin 4) from Fin.ext (by show (y 0).val = 3; omega), show y 1 = x 1 from Fin.ext h1, show y 2 = x 2 from Fin.ext h2]
    open_payloads
    pointwise [read_unread_whole, col3, pick3, hg3, hb.w, hb.q, hb.k, hb.a, hb.d, hs]
  case piece1 =>
    rw [show (y 0 : Fin 4) = (2 : Fin 4) from Fin.ext (by show (y 0).val = 2; omega), show y 1 = x 1 from Fin.ext h1, show y 2 = x 2 from Fin.ext h2]
    open_payloads
    pointwise [read_unread_whole, col2, pick2, hg2, hb.w, hb.q, hb.k, hb.a, hb.d, hs]
  case piece2 =>
    rw [show (y 0 : Fin 4) = (1 : Fin 4) from Fin.ext (by show (y 0).val = 1; omega), show y 1 = x 1 from Fin.ext h1, show y 2 = x 2 from Fin.ext h2]
    open_payloads
    pointwise [read_unread_whole, col1, pick1, hg1, hb.w, hb.q, hb.k, hb.a, hb.d, hs]
  case piece3 =>
    rw [show (y 0 : Fin 4) = (0 : Fin 4) from Fin.ext (by show (y 0).val = 0; omega), show y 1 = x 1 from Fin.ext h1, show y 2 = x 2 from Fin.ext h2]
    open_payloads
    pointwise [read_unread_whole, col0, pick0, hg0, hb.w, hb.q, hb.k, hb.a, hb.d, hs]

set_option maxHeartbeats 4000000 in
/-- The gradient a later point carries on. -/
theorem later_next (h0 : ¬ t.val % 64 = 0)
    (hs : ∀ h k v, (outsAt0 m c (t.val - 1) (Nat.lt_of_le_of_lt (Nat.sub_le _ _) t.isLt)).2.2 (ix3 h k v) = (st A t h k v : EReal))
    (y : S4x128x128.Idx) :
    (outsAt0 m c t.val t.isLt).2.2 y = (next A (chunk t) (st A t) (y 0) (y 1) (y 2) : EReal) := by
  have hg0 : iblk m c 4 t (ix2 0 0) = (A.g (chunk t) 0 : EReal) := hb.g 0
  have hg1 : iblk m c 4 t (ix2 0 1) = (A.g (chunk t) 1 : EReal) := hb.g 1
  have hg2 : iblk m c 4 t (ix2 0 2) = (A.g (chunk t) 2 : EReal) := hb.g 2
  have hg3 : iblk m c 4 t (ix2 0 3) = (A.g (chunk t) 3 : EReal) := hb.g 3
  rw [outsAt0_B m c t h0]
  frame_out
  canon_tiles x h
  case piece0 =>
    rw [show (y 0 : Fin 4) = (3 : Fin 4) from Fin.ext (by show (y 0).val = 3; omega), show y 1 = x 1 from Fin.ext h1, show y 2 = x 2 from Fin.ext h2]
    open_payloads
    pointwise [read_unread_whole, col3, pick3, hg3, hb.w, hb.q, hb.k, hb.a, hb.d, hs]
    unfold next du
    simp only [EReal.coe_add, EReal.coe_mul, EReal.coe_sub, coe_sum]
  case piece1 =>
    rw [show (y 0 : Fin 4) = (2 : Fin 4) from Fin.ext (by show (y 0).val = 2; omega), show y 1 = x 1 from Fin.ext h1, show y 2 = x 2 from Fin.ext h2]
    open_payloads
    pointwise [read_unread_whole, col2, pick2, hg2, hb.w, hb.q, hb.k, hb.a, hb.d, hs]
    unfold next du
    simp only [EReal.coe_add, EReal.coe_mul, EReal.coe_sub, coe_sum]
  case piece2 =>
    rw [show (y 0 : Fin 4) = (1 : Fin 4) from Fin.ext (by show (y 0).val = 1; omega), show y 1 = x 1 from Fin.ext h1, show y 2 = x 2 from Fin.ext h2]
    open_payloads
    pointwise [read_unread_whole, col1, pick1, hg1, hb.w, hb.q, hb.k, hb.a, hb.d, hs]
    unfold next du
    simp only [EReal.coe_add, EReal.coe_mul, EReal.coe_sub, coe_sum]
  case piece3 =>
    rw [show (y 0 : Fin 4) = (0 : Fin 4) from Fin.ext (by show (y 0).val = 0; omega), show y 1 = x 1 from Fin.ext h1, show y 2 = x 2 from Fin.ext h2]
    open_payloads
    pointwise [read_unread_whole, col0, pick0, hg0, hb.w, hb.q, hb.k, hb.a, hb.d, hs]
    unfold next du
    simp only [EReal.coe_add, EReal.coe_mul, EReal.coe_sub, coe_sum]

set_option maxHeartbeats 4000000 in
/-- The block of `du` at the first point. -/
theorem first_du (h0 : t.val % 64 = 0) (y : S64x512.Idx) :
    (outsAt0 m c t.val t.isLt).1 y = (du A (chunk t) (st A 0) (headOf (y 1)) (y 0) (laneOf (y 1)) : EReal) := by
  rw [outsAt0_A m c t h0]
  frame_out
  canon_tiles x h
  case piece0 =>
    rw [show headOf (y 1) = 3 from head_eq (v := x 1) h1, show laneOf (y 1) = x 1 from lane_eq (h := 3) h1, show y 0 = x 0 from Fin.ext h0]
    open_payloads
    pointwise [View.readCov_fill, col3, hb.k, hb.a, hb.d, mul_zero, Finset.sum_const_zero, add_zero]
    exact du_zero (chunk t) 3 (x 0) (x 1)
  case piece1 =>
    rw [show headOf (y 1) = 2 from head_eq (v := x 1) h1, show laneOf (y 1) = x 1 from lane_eq (h := 2) h1, show y 0 = x 0 from Fin.ext h0]
    open_payloads
    pointwise [View.readCov_fill, col2, hb.k, hb.a, hb.d, mul_zero, Finset.sum_const_zero, add_zero]
    exact du_zero (chunk t) 2 (x 0) (x 1)
  case piece2 =>
    rw [show headOf (y 1) = 1 from head_eq (v := x 1) h1, show laneOf (y 1) = x 1 from lane_eq (h := 1) h1, show y 0 = x 0 from Fin.ext h0]
    open_payloads
    pointwise [View.readCov_fill, col1, hb.k, hb.a, hb.d, mul_zero, Finset.sum_const_zero, add_zero]
    exact du_zero (chunk t) 1 (x 0) (x 1)
  case piece3 =>
    rw [show headOf (y 1) = 0 from head_eq (v := x 1) (by rw [h1]; simp), show laneOf (y 1) = x 1 from lane_eq (h := 0) (by rw [h1]; simp), show y 0 = x 0 from Fin.ext h0]
    open_payloads
    pointwise [View.readCov_fill, col0, hb.k, hb.a, hb.d, mul_zero, Finset.sum_const_zero, add_zero]
    exact du_zero (chunk t) 0 (x 0) (x 1)

set_option maxHeartbeats 4000000 in
/-- The block of the state's gradient at the first point. -/
theorem first_st (h0 : t.val % 64 = 0) (y : S4x128x128.Idx) :
    (outsAt0 m c t.val t.isLt).2.1 y = (st A 0 (y 0) (y 1) (y 2) : EReal) := by
  have hg0 : iblk m c 4 t (ix2 0 0) = (A.g (chunk t) 0 : EReal) := hb.g 0
  have hg1 : iblk m c 4 t (ix2 0 1) = (A.g (chunk t) 1 : EReal) := hb.g 1
  have hg2 : iblk m c 4 t (ix2 0 2) = (A.g (chunk t) 2 : EReal) := hb.g 2
  have hg3 : iblk m c 4 t (ix2 0 3) = (A.g (chunk t) 3 : EReal) := hb.g 3
  rw [outsAt0_A m c t h0]
  frame_out
  canon_tiles x h
  case piece0 =>
    rw [show (y 0 : Fin 4) = (3 : Fin 4) from Fin.ext (by show (y 0).val = 3; omega), show y 1 = x 1 from Fin.ext h1, show y 2 = x 2 from Fin.ext h2]
    open_payloads
    pointwise [View.readCov_fill, col3, pick3, hg3, hb.w, hb.q, hb.k, hb.a, hb.d, mul_zero, Finset.sum_const_zero, add_zero]
    rfl
  case piece1 =>
    rw [show (y 0 : Fin 4) = (2 : Fin 4) from Fin.ext (by show (y 0).val = 2; omega), show y 1 = x 1 from Fin.ext h1, show y 2 = x 2 from Fin.ext h2]
    open_payloads
    pointwise [View.readCov_fill, col2, pick2, hg2, hb.w, hb.q, hb.k, hb.a, hb.d, mul_zero, Finset.sum_const_zero, add_zero]
    rfl
  case piece2 =>
    rw [show (y 0 : Fin 4) = (1 : Fin 4) from Fin.ext (by show (y 0).val = 1; omega), show y 1 = x 1 from Fin.ext h1, show y 2 = x 2 from Fin.ext h2]
    open_payloads
    pointwise [View.readCov_fill, col1, pick1, hg1, hb.w, hb.q, hb.k, hb.a, hb.d, mul_zero, Finset.sum_const_zero, add_zero]
    rfl
  case piece3 =>
    rw [show (y 0 : Fin 4) = (0 : Fin 4) from Fin.ext (by show (y 0).val = 0; omega), show y 1 = x 1 from Fin.ext h1, show y 2 = x 2 from Fin.ext h2]
    open_payloads
    pointwise [View.readCov_fill, col0, pick0, hg0, hb.w, hb.q, hb.k, hb.a, hb.d, mul_zero, Finset.sum_const_zero, add_zero]
    rfl

set_option maxHeartbeats 4000000 in
/-- The gradient the first point carries on. -/
theorem first_next (h0 : t.val % 64 = 0) (y : S4x128x128.Idx) :
    (outsAt0 m c t.val t.isLt).2.2 y = (next A (chunk t) (st A 0) (y 0) (y 1) (y 2) : EReal) := by
  have hg0 : iblk m c 4 t (ix2 0 0) = (A.g (chunk t) 0 : EReal) := hb.g 0
  have hg1 : iblk m c 4 t (ix2 0 1) = (A.g (chunk t) 1 : EReal) := hb.g 1
  have hg2 : iblk m c 4 t (ix2 0 2) = (A.g (chunk t) 2 : EReal) := hb.g 2
  have hg3 : iblk m c 4 t (ix2 0 3) = (A.g (chunk t) 3 : EReal) := hb.g 3
  rw [outsAt0_A m c t h0]
  frame_out
  refine (canon_drop [_] y [_, _, _, _] (View.cover_of_tiled_head _ _ _ (by rfl) y)).trans ?_
  canon_tiles x h
  case piece0 =>
    rw [show (y 0 : Fin 4) = (3 : Fin 4) from Fin.ext (by show (y 0).val = 3; omega), show y 1 = x 1 from Fin.ext h1, show y 2 = x 2 from Fin.ext h2]
    open_payloads
    pointwise [View.readCov_fill, col3, pick3, hg3, hb.w, hb.q, hb.k, hb.a, hb.d, mul_zero, Finset.sum_const_zero, add_zero]
    exact next_zero (chunk t) 3 (x 1) (x 2)
  case piece1 =>
    rw [show (y 0 : Fin 4) = (2 : Fin 4) from Fin.ext (by show (y 0).val = 2; omega), show y 1 = x 1 from Fin.ext h1, show y 2 = x 2 from Fin.ext h2]
    open_payloads
    pointwise [View.readCov_fill, col2, pick2, hg2, hb.w, hb.q, hb.k, hb.a, hb.d, mul_zero, Finset.sum_const_zero, add_zero]
    exact next_zero (chunk t) 2 (x 1) (x 2)
  case piece2 =>
    rw [show (y 0 : Fin 4) = (1 : Fin 4) from Fin.ext (by show (y 0).val = 1; omega), show y 1 = x 1 from Fin.ext h1, show y 2 = x 2 from Fin.ext h2]
    open_payloads
    pointwise [View.readCov_fill, col1, pick1, hg1, hb.w, hb.q, hb.k, hb.a, hb.d, mul_zero, Finset.sum_const_zero, add_zero]
    exact next_zero (chunk t) 1 (x 1) (x 2)
  case piece3 =>
    rw [show (y 0 : Fin 4) = (0 : Fin 4) from Fin.ext (by show (y 0).val = 0; omega), show y 1 = x 1 from Fin.ext h1, show y 2 = x 2 from Fin.ext h2]
    open_payloads
    pointwise [View.readCov_fill, col0, pick0, hg0, hb.w, hb.q, hb.k, hb.a, hb.d, mul_zero, Finset.sum_const_zero, add_zero]
    exact next_zero (chunk t) 0 (x 1) (x 2)

end Cert.Scan

end
-- ==== Proof.ScanBlocks.lean ====
/-
  What the windows hand the kernel's body at each grid point, read off the arrays of the run.
-/
module

public import proofs.«01_k».proof.Proof.ScanArgs
public import proofs.«01_k».proof.Proof.ScanKernel
public import Idealize.ShloMosaic.Lib.StableHlo.RunRead

@[expose] public section

noncomputable section

namespace Cert.Scan

open Idealize.ShloMosaic Idealize.ShloMosaic.TcCoe Idealize.SL.Sem
open Cert.KernelIdeal Cert.KernelIdeal.Gen

variable (m : (ℓ : Loc nD τ sig) → Buf (Elt Ideal) ℓ) (c : Dev nD)

/-- The windows go through the chunks from the last to the first. -/
theorem idx_in : ∀ t : Fin cfg0.N, win0_0.index t (0 : Fin 2) = 63 - t.val ∧ win0_0.index t (1 : Fin 2) = 0
    ∧ win0_1.index t (0 : Fin 2) = 63 - t.val ∧ win0_1.index t (1 : Fin 2) = 0
    ∧ win0_2.index t (0 : Fin 2) = 63 - t.val ∧ win0_2.index t (1 : Fin 2) = 0
    ∧ win0_3.index t (0 : Fin 3) = 63 - t.val ∧ win0_3.index t (1 : Fin 3) = 0 ∧ win0_3.index t (2 : Fin 3) = 0
    ∧ win0_4.index t (0 : Fin 2) = 63 - t.val ∧ win0_4.index t (1 : Fin 2) = 0
    ∧ win0_5.index t (0 : Fin 2) = 63 - t.val ∧ win0_5.index t (1 : Fin 2) = 0 :=
  (by decide +kernel : ∀ t : Fin grid0.N, _)

theorem idx_out : ∀ t : Fin cfg0.N, win0_6.index t (0 : Fin 2) = 63 - t.val ∧ win0_6.index t (1 : Fin 2) = 0
    ∧ win0_7.index t (0 : Fin 3) = 63 - t.val ∧ win0_7.index t (1 : Fin 3) = 0 ∧ win0_7.index t (2 : Fin 3) = 0 :=
  (by decide +kernel : ∀ t : Fin grid0.N, _)

/-- The arguments of the scan, of the memory. -/
def args : Args := argsOf (m ((c : Thread nD τ).loc main_arg0)) (m ((c : Thread nD τ).loc main_arg1))
  (m ((c : Thread nD τ).loc main_arg2)) (m ((c : Thread nD τ).loc main_arg3)) (m ((c : Thread nD τ).loc main_arg4))
  (m ((c : Thread nD τ).loc main_arg5))

/-- The six arrays hold real numbers. -/
structure Finite : Prop where
  w : Real (S := S4096x512) (m ((c : Thread nD τ).loc main_arg0))
  q : Real (S := S4096x512) (m ((c : Thread nD τ).loc main_arg1))
  k : Real (S := S4096x512) (m ((c : Thread nD τ).loc main_arg2))
  a : Real (S := S256x64x64) (m ((c : Thread nD τ).loc main_arg3))
  g : Real (S := S64x4) (m ((c : Thread nD τ).loc main_arg4))
  d : Real (S := S4096x512) (m ((c : Thread nD τ).loc main_arg5))

variable {m c} (H : Finite m c)

include H

theorem block_w (t : Fin cfg0.N) (h : Fin 4) (r : Fin 64) (v : Fin 128) :
    iblk m c 0 t (ix2 r (col h v)) = ((args m c).w (chunk t) h r v : EReal) := by
  have e := idx_in t
  have ht := t.isLt
  refine Eq.trans ?_ (H.w.coe (ix2 (rowOf (chunk t) r) (col h v)))
  blk_ext [iblk, V, e.1, e.2.1, rowOf, chunk]

theorem block_q (t : Fin cfg0.N) (h : Fin 4) (r : Fin 64) (v : Fin 128) :
    iblk m c 1 t (ix2 r (col h v)) = ((args m c).q (chunk t) h r v : EReal) := by
  obtain ⟨_, _, e0, e1, _⟩ := idx_in t
  refine Eq.trans ?_ (H.q.coe (ix2 (rowOf (chunk t) r) (col h v)))
  blk_ext [iblk, V, e0, e1, rowOf, chunk]

theorem block_k (t : Fin cfg0.N) (h : Fin 4) (r : Fin 64) (v : Fin 128) :
    iblk m c 2 t (ix2 r (col h v)) = ((args m c).k (chunk t) h r v : EReal) := by
  obtain ⟨_, _, _, _, e0, e1, _⟩ := idx_in t
  refine Eq.trans ?_ (H.k.coe (ix2 (rowOf (chunk t) r) (col h v)))
  blk_ext [iblk, V, e0, e1, rowOf, chunk]

theorem block_a (t : Fin cfg0.N) (h : Fin 4) (i j : Fin 64) :
    iblk m c 3 t (ix3 h i j) = ((args m c).a (chunk t) h i j : EReal) := by
  obtain ⟨_, _, _, _, _, _, e0, e1, e2, _⟩ := idx_in t
  refine Eq.trans ?_ (H.a.coe (ix3 (matOf (chunk t) h) i j))
  blk_ext [iblk, V, e0, e1, e2, matOf, chunk]

theorem block_d (t : Fin cfg0.N) (h : Fin 4) (r : Fin 64) (v : Fin 128) :
    iblk m c 5 t (ix2 r (col h v)) = ((args m c).d (chunk t) h r v : EReal) := by
  obtain ⟨_, _, _, _, _, _, _, _, _, _, _, e0, e1⟩ := idx_in t
  refine Eq.trans ?_ (H.d.coe (ix2 (rowOf (chunk t) r) (col h v)))
  blk_ext [iblk, V, e0, e1, rowOf, chunk]

omit H in
/-- The table of factors that the kernel reads: each chunk's row, padded to a register's width, eight times over. -/
theorem entry_g : V m c main_v3 = shapeCast S512x128 (broadcastInDim S64x8x128 ![0, 1, 2] bcast_S64x1x128_S64x8x128_0_1_2
    (broadcastInDim S64x1x128 ![0, 2] bcast_S64x128_S64x1x128_0_2
      (pad S64x128 ![0, 0] ![0, 124] ![0, 0] (m ((c : Thread nD τ).loc main_arg4) : FVec Ideal S64x4 .f32)
        (sitofp (F := Ideal) .f32 (constantI S_ 32 0#32)) pads_S64x4_S64x128_000_01240 h_S_))) shapeCasts_S64x8x128_S512x128 := by
  show StableHlo.after ([hostOps0, hostOps0_1, hostOps0_2] : List (List (HloOp τ sig (Elt Ideal)))).flatten (fun b => m (c, b)) (Proc.tc.devRef main_v3) = _
  simp only [List.flatten_cons, List.flatten_nil, List.cons_append, List.nil_append, List.append_nil]
  after_reads_simp
  rfl

theorem block_g (t : Fin cfg0.N) (h : Fin 4) :
    iblk m c 4 t (ix2 0 (⟨h.val, by omega⟩ : Fin 128)) = ((args m c).g (chunk t) h : EReal) := by
  obtain ⟨_, _, _, _, _, _, _, _, _, e0, e1, _⟩ := idx_in t
  refine Eq.trans ?_ (H.g.coe (ix2 (chunk t) h))
  show V m c main_v3 (((cfg0.win 4).blk t).view.emb (ix2 0 (⟨h.val, by omega⟩ : Fin 128))) = _
  have e : ((cfg0.win 4).blk t).view.emb (ix2 0 (⟨h.val, by omega⟩ : Fin 128))
      = (ix2 (⟨8 * (chunk t).val, by omega⟩ : Fin 512) (⟨h.val, by omega⟩ : Fin 128) : S512x128.Idx) := by
    funext a; apply Fin.ext
    match a with
    | ⟨0, _⟩ => show win0_4.index t (0 : Fin 2) * 8 + 1 * 0 = 8 * (63 - t.val); omega
    | ⟨1, _⟩ => show win0_4.index t (1 : Fin 2) * 128 + 1 * h.val = h.val; omega
  rw [e, entry_g]
  pointwise
  rw [dif_pos]
  intro (a : Fin 2)
  match a with
  | ⟨0, _⟩ => exact ⟨Nat.zero_le _, Nat.mod_one _, by show ((chunk t).val - 0) / (0 + 1) < 64; omega⟩
  | ⟨1, _⟩ => exact ⟨Nat.zero_le _, Nat.mod_one _, by show (h.val - 0) / (0 + 1) < 4; omega⟩

theorem blocks (t : Fin cfg0.N) : Blocks m (args m c) c t where
  w := block_w H t
  q := block_q H t
  k := block_k H t
  a := block_a H t
  g := block_g H t
  d := block_d H t

end Cert.Scan

end
-- ==== Proof.ScanOut.lean ====
/-
  What a run of the kernel leaves in its two results.
-/
module

public import proofs.«01_k».proof.Proof.ScanBlocks

@[expose] public section

noncomputable section

namespace Cert.Scan

open Idealize.ShloMosaic Idealize.ShloMosaic.TcCoe Idealize.SL.Sem
open Cert.KernelIdeal Cert.KernelIdeal.Gen

variable {m : (ℓ : Loc nD τ sig) → Buf (Elt Ideal) ℓ} {c : Dev nD} (H : Finite m c)

include H

/-- The gradient carried from point `t` to the next. -/
theorem carried : ∀ (n : ℕ) (hn : n < cfg0.N) (y : S4x128x128.Idx),
    (outsAt0 m c n hn).2.2 y = (st (args m c) (n + 1) (y 0) (y 1) (y 2) : EReal)
  | 0, hn, y => first_next (blocks H ⟨0, hn⟩) rfl y
  | n + 1, hn, y => by
    have hlt : n + 1 < 64 := hn
    exact later_next (blocks H ⟨n + 1, hn⟩) (by show ¬ (n + 1) % 64 = 0; omega)
      (fun h k v => carried n (by show n < 64; omega) (ix3 h k v)) y

theorem point_du (t : Fin cfg0.N) (y : S64x512.Idx) : (outsAt0 m c t.val t.isLt).1 y
    = (du (args m c) (chunk t) (st (args m c) t) (headOf (y 1)) (y 0) (laneOf (y 1)) : EReal) := by
  have hlt : t.val < 64 := t.isLt
  by_cases h0 : t.val % 64 = 0
  · have e : t.val = 0 := by omega
    have := first_du (blocks H t) h0 y
    rw [this, e]
  · exact later_du (blocks H t) h0 (fun h k v => by
      have := carried H (t.val - 1) (by show t.val - 1 < 64; omega) (ix3 h k v)
      rw [show t.val - 1 + 1 = t.val by omega] at this
      exact this) y

theorem point_st (t : Fin cfg0.N) (y : S4x128x128.Idx) : (outsAt0 m c t.val t.isLt).2.1 y
    = (st (args m c) t (y 0) (y 1) (y 2) : EReal) := by
  have hlt : t.val < 64 := t.isLt
  by_cases h0 : t.val % 64 = 0
  · have e : t.val = 0 := by omega
    have := first_st (blocks H t) h0 y
    rw [this, e]
  · exact later_st (blocks H t) h0 (fun h k v => by
      have := carried H (t.val - 1) (by show t.val - 1 < 64; omega) (ix3 h k v)
      rw [show t.val - 1 + 1 = t.val by omega] at this
      exact this) y

/-- The first result: the gradient of the chunks' inner values. -/
theorem final_du (i r : Fin 64) (y : Fin 512) : (dats m 0 c).arrAt 6 cfg0.N (ix2 (rowOf i r) y)
    = (du (args m c) i (st (args m c) (63 - i.val)) (headOf y) r (laneOf y) : EReal) := by
  have hi := i.isLt
  let t : Fin cfg0.N := ⟨63 - i.val, by show 63 - i.val < 64; omega⟩
  obtain ⟨e0, e1, _⟩ := idx_out t
  have b := congrFun (Cert.KernelIdeal.Value.blocks6 m c t (flush0_6 t)) (ix2 r y)
  rw [Cert.KernelIdeal.Value.flushed6] at b
  have e : ((cfg0.win 6).blk t).view.emb (ix2 r y) = (ix2 (rowOf i r) y : S4096x512.Idx) := by
    funext a; apply Fin.ext
    match a with
    | ⟨0, _⟩ =>
      show win0_6.index t (0 : Fin 2) * 64 + 1 * r.val = 64 * i.val + r.val
      rw [e0]; show (63 - (63 - i.val)) * 64 + 1 * r.val = _; omega
    | ⟨1, _⟩ => show win0_6.index t (1 : Fin 2) * 512 + 1 * y.val = y.val; omega
  have b' : (dats m 0 c).arrAt 6 cfg0.N (((cfg0.win 6).blk t).view.emb (ix2 r y)) = (outsAt0 m c t.val t.isLt).1 (ix2 r y) := b
  rw [e] at b'
  have ec : chunk t.val = i := Fin.ext (by show 63 - (63 - i.val) = i.val; omega)
  rw [b', point_du H t, ec]
  rfl

/-- The second result: the gradient of the states the chunks begin from. -/
theorem final_st (i : Fin 64) (h : Fin 4) (k v : Fin 128) : (dats m 0 c).arrAt 7 cfg0.N (ix3 (matOf i h) k v)
    = (st (args m c) (63 - i.val) h k v : EReal) := by
  have hi := i.isLt
  let t : Fin cfg0.N := ⟨63 - i.val, by show 63 - i.val < 64; omega⟩
  obtain ⟨_, _, e0, e1, e2⟩ := idx_out t
  have b := congrFun (Cert.KernelIdeal.Value.blocks7 m c t (flush0_7 t)) (ix3 h k v)
  rw [Cert.KernelIdeal.Value.flushed7] at b
  have e : ((cfg0.win 7).blk t).view.emb (ix3 h k v) = (ix3 (matOf i h) k v : S256x128x128.Idx) := by
    funext a; apply Fin.ext
    match a with
    | ⟨0, _⟩ =>
      show win0_7.index t (0 : Fin 3) * 4 + 1 * h.val = 4 * i.val + h.val
      rw [e0]; show (63 - (63 - i.val)) * 4 + 1 * h.val = _; omega
    | ⟨1, _⟩ => show win0_7.index t (1 : Fin 3) * 128 + 1 * k.val = k.val; omega
    | ⟨2, _⟩ => show win0_7.index t (2 : Fin 3) * 128 + 1 * v.val = v.val; omega
  have b' : (dats m 0 c).arrAt 7 cfg0.N (((cfg0.win 7).blk t).view.emb (ix3 h k v)) = (outsAt0 m c t.val t.isLt).2.1 (ix3 h k v) := b
  rw [e] at b'
  rw [b', point_st H t]
  rfl

end Cert.Scan

end
-- ==== Proof.RefRun.lean ====
/-
  The reference's run, read as a sequence of states of its one loop: the loop's buffers taken out of the valuation, one
  trip of them, and the two results after the last trip.
-/
module

public import proofs.«01_k».proof.Proof.Gen.ReferenceIdeal.Run
public import proofs.«01_k».proof.Proof.Gen.ReferenceIdeal.Step

@[expose] public section

noncomputable section

namespace Cert.RefRun

open Idealize.ShloMosaic Idealize.ShloMosaic.TcCoe Idealize.SL.Sem Idealize.ShloMosaic.StableHlo
open Cert.ReferenceIdeal Cert.ReferenceIdeal.Gen Cert.ReferenceIdeal.Value

variable {F : FTy → Type} [FloatOps F]

/-- The loop's buffers, taken out of the valuation. -/
def pick (V : Valuation τ sig (Elt F)) : Step.State F where
  main_v24_7 := V (Proc.devRef .tc main_v24_7)
  main_v24_8 := V (Proc.devRef .tc main_v24_8)
  main_v24_9 := V (Proc.devRef .tc main_v24_9)
  main_v24_0 := V (Proc.devRef .tc main_v24_0)
  main_v24_1 := V (Proc.devRef .tc main_v24_1)
  main_v24_2 := V (Proc.devRef .tc main_v24_2)
  main_v24_3 := V (Proc.devRef .tc main_v24_3)
  main_v24_4 := V (Proc.devRef .tc main_v24_4)
  main_v24_5 := V (Proc.devRef .tc main_v24_5)

/-- The loop's counter stands at `j`. -/
def At (V : Valuation τ sig (Elt F)) (j : ℕ) : Prop :=
  V (Proc.devRef .tc main_v24_6) = constantI S_ 32 (BitVec.ofNat 32 j)

set_option maxRecDepth 8192 in
theorem carried (V : Valuation τ sig (Elt F)) (j : ℕ) (h : At V j) :
    step_main_v24_7 V = Step.b53 j (pick V) := by
  unfold At at h
  unfold step_main_v24_7 res_main_while0b_v44 res_main_while0b_v32 res_main_while0b_v31
  rw [h]; rfl

set_option maxRecDepth 8192 in
theorem stacked8 (V : Valuation τ sig (Elt F)) (j : ℕ) (h : At V j) :
    step_main_v24_8 V = Step.b59 j (pick V) := by
  unfold At at h
  unfold step_main_v24_8 res_main_while0b_v44 res_main_while0b_v32 res_main_while0b_v31
  rw [h]; rfl

set_option maxRecDepth 8192 in
theorem stacked9 (V : Valuation τ sig (Elt F)) (j : ℕ) (h : At V j) :
    step_main_v24_9 V = Step.b65 j (pick V) := by
  unfold At at h
  unfold step_main_v24_9 res_main_while0b_v31
  rw [h]; rfl

theorem counted (V : Valuation τ sig (Elt F)) (j : ℕ) (h : At V j) : At (STEP V) (j + 1) := by
  unfold At at h ⊢
  rw [STEP_main_v24_6]; unfold step_main_v24_6; rw [h]
  funext i
  show BitVec.ofNat 32 j + 1#32 = BitVec.ofNat 32 (j + 1)
  rw [BitVec.ofNat_add]

theorem pick_step (V : Valuation τ sig (Elt F)) (j : ℕ) (h : At V j) :
    pick (STEP V) = Step.step j (pick V) := by
  unfold pick
  rw [STEP_main_v24_7, STEP_main_v24_8, STEP_main_v24_9, STEP_main_v24_0, STEP_main_v24_1, STEP_main_v24_2,
    STEP_main_v24_3, STEP_main_v24_4, STEP_main_v24_5, carried V j h, stacked8 V j h, stacked9 V j h]
  rfl

variable (m : (ℓ : Loc nD τ sig) → Buf (Elt F) ℓ)

/-- The state before the first trip, of the arguments. -/
abbrev start (c : Dev nD) : Step.State F :=
  Step.init (m ((c.tc : Thread nD τ).loc main_arg0)) (m ((c.tc : Thread nD τ).loc main_arg1))
    (m ((c.tc : Thread nD τ).loc main_arg2)) (m ((c.tc : Thread nD τ).loc main_arg3))
    (m ((c.tc : Thread nD τ).loc main_arg4)) (m ((c.tc : Thread nD τ).loc main_arg5))

/-- The state before trip `j`. -/
def state (c : Dev nD) : ℕ → Step.State F
  | 0 => start m c
  | j + 1 => Step.step j (state c j)

set_option maxRecDepth 65536 in
set_option maxHeartbeats 800000 in
theorem pick_entry (c : Dev nD) : pick (entryContents preI m c) = start m c := by
  have e0 : entryContents preI m c (Proc.devRef .tc main_v24_0) = (start m c).main_v24_0 := by
    simp only [entryContents, afterL_cons, afterL_nil]; after_reads_simp; rfl
  have e1 : entryContents preI m c (Proc.devRef .tc main_v24_1) = (start m c).main_v24_1 := by
    simp only [entryContents, afterL_cons, afterL_nil]; after_reads_simp; rfl
  have e2 : entryContents preI m c (Proc.devRef .tc main_v24_2) = (start m c).main_v24_2 := by
    simp only [entryContents, afterL_cons, afterL_nil]; after_reads_simp; rfl
  have e3 : entryContents preI m c (Proc.devRef .tc main_v24_3) = (start m c).main_v24_3 := by
    simp only [entryContents, afterL_cons, afterL_nil]; after_reads_simp; rfl
  have e4 : entryContents preI m c (Proc.devRef .tc main_v24_4) = (start m c).main_v24_4 := by
    simp only [entryContents, afterL_cons, afterL_nil]; after_reads_simp; rfl
  have e5 : entryContents preI m c (Proc.devRef .tc main_v24_5) = (start m c).main_v24_5 := by
    simp only [entryContents, afterL_cons, afterL_nil]; after_reads_simp; rfl
  have e7 : entryContents preI m c (Proc.devRef .tc main_v24_7) = (start m c).main_v24_7 := by
    simp only [entryContents, afterL_cons, afterL_nil]; after_reads_simp; rfl
  have e8 : entryContents preI m c (Proc.devRef .tc main_v24_8) = (start m c).main_v24_8 := by
    simp only [entryContents, afterL_cons, afterL_nil]; after_reads_simp; rfl
  have e9 : entryContents preI m c (Proc.devRef .tc main_v24_9) = (start m c).main_v24_9 := by
    simp only [entryContents, afterL_cons, afterL_nil]; after_reads_simp; rfl
  unfold pick
  rw [e0, e1, e2, e3, e4, e5, e7, e8, e9]

set_option maxRecDepth 65536 in
set_option maxHeartbeats 800000 in
theorem at_entry (c : Dev nD) : At (entryContents preI m c) 0 := by
  unfold At
  simp only [entryContents, afterL_cons, afterL_nil]; after_reads_simp; rfl

theorem at_trip (c : Dev nD) (k : ℕ) :
    At (STEP^[k] (entryContents preI m c)) k ∧ pick (STEP^[k] (entryContents preI m c)) = state m c k := by
  induction k with
  | zero => exact ⟨at_entry m c, pick_entry m c⟩
  | succ k ih =>
    rw [Function.iterate_succ_apply']
    exact ⟨counted _ k ih.1, by rw [pick_step _ k ih.1, ih.2]; rfl⟩

theorem out28 (V : Valuation τ sig (Elt F)) : out_main_v28 V = Step.R_main_v28 (pick V) := rfl

theorem out29 (V : Valuation τ sig (Elt F)) : out_main_v29 V = Step.R_main_v29 (pick V) := rfl

/-- Every fair run of the reference ends with its two results read off the state after the sixty-fourth trip. -/
theorem run (ρ : Dev nD → PrngReg) :
    θ_run (defs (F := F)) (onTc (τ := τ) (main (F := F))) ⟨m, fun _ => 0, ρ⟩ fun r => ∀ c : Dev nD,
      r.2.mem ((c.tc : Thread nD τ).loc main_v28) = Step.R_main_v28 (state m c 64)
      ∧ r.2.mem ((c.tc : Thread nD τ).loc main_v29) = Step.R_main_v29 (state m c 64)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run defs _ _).mono (fun _ h c => ?_) (Value.run m ρ)
  have hp := (at_trip m c 64).2
  exact ⟨(h c).1.trans ((out28 _).trans (congrArg Step.R_main_v28 hp)),
    (h c).2.1.trans ((out29 _).trans (congrArg Step.R_main_v29 hp)), (h c).2.2⟩

end Cert.RefRun

end

end
-- ==== Proof.ScanRef.lean ====
/-
  The reference's loop, over the reals: the state before each trip and what the trips have stacked.
-/
module

public import proofs.«01_k».proof.Proof.RefRun
public import proofs.«01_k».proof.Proof.ScanReal
public import Idealize.ShloMosaic.Lib.Pipeline.ValueKit.Point
public import Idealize.ShloMosaic.Lib.DynamicIndex

@[expose] public section

noncomputable section

namespace Cert.Scan.Ref

open Idealize.ShloMosaic Idealize.ShloMosaic.TcCoe Idealize.SL.Sem Idealize.ShloMosaic.StableHlo
open Cert.ReferenceIdeal Cert.ReferenceIdeal.Gen Cert.ReferenceIdeal.Step

theorem word (j : Fin 64) : ((64#32 - BitVec.ofNat 32 j.val) - 1#32).toInt = ((63 - j.val : ℕ) : ℤ) := by
  revert j; decide

variable (s : State Ideal) (j : ℕ) (hj : j < 64)
include hj

theorem start3 (i : S_.Idx) : (b3 j s i).toInt = ((chunk j).val : ℤ) := word ⟨j, hj⟩

theorem slice9 (h : Fin 4) (r : Fin 64) (v : Fin 128) :
    b9 j s (ix4 0 h r v) = s.main_v24_0 (ix5 (chunk j) 0 h r v) := by
  unfold b9 b8
  rw [Host.dynamicSlice_eq_extractStridedSlice _ _ _ ![(chunk j).val, 0, 0, 0, 0] _
    (by refine ⟨rfl, fun a => ?_⟩; have := (chunk j).isLt; fin_cases a <;> simp <;> omega)
    (by intro a; fin_cases a; · exact start3 s j hj _
        all_goals rfl)]
  pointwise

theorem slice15 (h : Fin 4) :
    b15 j s (ix4 0 h 0 0) = s.main_v24_1 (ix5 (chunk j) 0 h 0 0) := by
  unfold b15 b14
  rw [Host.dynamicSlice_eq_extractStridedSlice _ _ _ ![(chunk j).val, 0, 0, 0, 0] _
    (by refine ⟨rfl, fun a => ?_⟩; have := (chunk j).isLt; fin_cases a <;> simp <;> omega)
    (by intro a; fin_cases a; · exact start3 s j hj _
        all_goals rfl)]
  pointwise

theorem slice21 (h : Fin 4) (r : Fin 64) (v : Fin 128) :
    b21 j s (ix4 0 h r v) = s.main_v24_2 (ix5 (chunk j) 0 h r v) := by
  unfold b21 b20
  rw [Host.dynamicSlice_eq_extractStridedSlice _ _ _ ![(chunk j).val, 0, 0, 0, 0] _
    (by refine ⟨rfl, fun a => ?_⟩; have := (chunk j).isLt; fin_cases a <;> simp <;> omega)
    (by intro a; fin_cases a; · exact start3 s j hj _
        all_goals rfl)]
  pointwise

theorem slice27 (h : Fin 4) (r : Fin 64) (v : Fin 128) :
    b27 j s (ix4 0 h r v) = s.main_v24_3 (ix5 (chunk j) 0 h r v) := by
  unfold b27 b26
  rw [Host.dynamicSlice_eq_extractStridedSlice _ _ _ ![(chunk j).val, 0, 0, 0, 0] _
    (by refine ⟨rfl, fun a => ?_⟩; have := (chunk j).isLt; fin_cases a <;> simp <;> omega)
    (by intro a; fin_cases a; · exact start3 s j hj _
        all_goals rfl)]
  pointwise

theorem slice33 (h : Fin 4) (r : Fin 64) (v : Fin 128) :
    b33 j s (ix4 0 h r v) = s.main_v24_4 (ix5 (chunk j) 0 h r v) := by
  unfold b33 b32
  rw [Host.dynamicSlice_eq_extractStridedSlice _ _ _ ![(chunk j).val, 0, 0, 0, 0] _
    (by refine ⟨rfl, fun a => ?_⟩; have := (chunk j).isLt; fin_cases a <;> simp <;> omega)
    (by intro a; fin_cases a; · exact start3 s j hj _
        all_goals rfl)]
  pointwise

theorem slice39 (h : Fin 4) (r v : Fin 64) :
    b39 j s (ix4 0 h r v) = s.main_v24_5 (ix5 (chunk j) 0 h r v) := by
  unfold b39 b38
  rw [Host.dynamicSlice_eq_extractStridedSlice _ _ _ ![(chunk j).val, 0, 0, 0, 0] _
    (by refine ⟨rfl, fun a => ?_⟩; have := (chunk j).isLt; fin_cases a <;> simp <;> omega)
    (by intro a; fin_cases a; · exact start3 s j hj _
        all_goals rfl)]
  pointwise

omit hj in
/-- The loop's constants hold the arguments. -/
structure Holds (A : Args) : Prop where
  d : ∀ i h r v, s.main_v24_0 (ix5 i 0 h r v) = (A.d i h r v : EReal)
  g : ∀ i h, s.main_v24_1 (ix5 i 0 h 0 0) = (A.g i h : EReal)
  k : ∀ i h r v, s.main_v24_2 (ix5 i 0 h r v) = (A.k i h r v : EReal)
  w : ∀ i h r v, s.main_v24_3 (ix5 i 0 h r v) = (A.w i h r v : EReal)
  q : ∀ i h r v, s.main_v24_4 (ix5 i 0 h r v) = (A.q i h r v : EReal)
  a : ∀ i h r v, s.main_v24_5 (ix5 i 0 h r v) = (A.a i h r v : EReal)

variable {s} {A : Args} (H : Holds s A) (S : St) (hS : ∀ h k v, s.main_v24_7 (ix4 0 h k v) = (S h k v : EReal))

include H hS

theorem b46_eq (h : Fin 4) (r : Fin 64) (v : Fin 128) : b46 j s (ix4 0 h r v) = (du A (chunk j) S h r v : EReal) := by
  unfold b46 b45 b44 b41 b40
  pointwise [slice21 s j hj, slice9 s j hj, slice39 s j hj, H.k, H.d, H.a, hS]
  rw [du, add_comm]
  simp only [EReal.coe_add, EReal.coe_mul, coe_sum, mul_comm]

theorem b53_eq (h : Fin 4) (k : Fin 128) (v : Fin 128) : b53 j s (ix4 0 h k v) = (next A (chunk j) S h k v : EReal) := by
  unfold b53 b52 b51 b50 b49 b48 b47 b43 b42
  pointwise [slice15 s j hj, slice9 s j hj, slice33 s j hj, slice27 s j hj, b46_eq j hj H S hS, H.g, H.d, H.q, H.w, hS]
  have e : next A (chunk j) S h k v = S h k v * A.g (chunk j) h + ∑ r, A.d (chunk j) h r v * A.q (chunk j) h r k
      + ∑ r, -du A (chunk j) S h r v * A.w (chunk j) h r k := by
    have e1 : ∑ r, A.d (chunk j) h r v * A.q (chunk j) h r k = ∑ r, A.q (chunk j) h r k * A.d (chunk j) h r v :=
      Finset.sum_congr rfl fun _ _ => mul_comm _ _
    have e2 : ∑ r, -du A (chunk j) S h r v * A.w (chunk j) h r k = -∑ r, A.w (chunk j) h r k * du A (chunk j) S h r v := by
      rw [← Finset.sum_neg_distrib]; exact Finset.sum_congr rfl fun _ _ => by ring
    rw [e1, e2, next]; ring
  rw [e]
  simp only [EReal.coe_add, EReal.coe_mul, EReal.coe_neg, coe_sum]

omit H hS in
/-- A trip writes its chunk's `du` into the stack and leaves the others. -/
theorem b59_eq (i : Fin 64) (h : Fin 4) (r : Fin 64) (v : Fin 128) :
    b59 j s (ix5 i 0 h r v) = if i = chunk j then b46 j s (ix4 0 h r v) else s.main_v24_8 (ix5 i 0 h r v) := by
  have hc := (chunk j).isLt
  unfold b59 b54
  rw [Host.dynamicUpdateSlice_eq_updateSlice _ _ _ _ ![(chunk j).val, 0, 0, 0, 0]
    (by intro a
        have e := start3 s j hj (Shape.Idx.first h_S_)
        fin_cases a
        · show (min (max ((b3 j s (Shape.Idx.first h_S_)).toInt) 0) ((64 - 1 : ℕ) : ℤ)).toNat = (chunk j).val
          rw [e]; omega
        all_goals rfl)
    (by refine ⟨rfl, fun a => ?_⟩; fin_cases a <;> simp <;> omega)]
  pointwise
  by_cases hi : i = chunk j
  · subst hi; simp
  · simp [hi]
    intro a b; exact absurd (le_antisymm b a) hi

omit H hS in
/-- A trip writes the state's gradient it found into the stack at its chunk and leaves the others. -/
theorem b65_eq (i : Fin 64) (h : Fin 4) (r : Fin 128) (v : Fin 128) :
    b65 j s (ix5 i 0 h r v) = if i = chunk j then s.main_v24_7 (ix4 0 h r v) else s.main_v24_9 (ix5 i 0 h r v) := by
  have hc := (chunk j).isLt
  unfold b65 b60
  rw [Host.dynamicUpdateSlice_eq_updateSlice _ _ _ _ ![(chunk j).val, 0, 0, 0, 0]
    (by intro a
        have e := start3 s j hj (Shape.Idx.first h_S_)
        fin_cases a
        · show (min (max ((b3 j s (Shape.Idx.first h_S_)).toInt) 0) ((64 - 1 : ℕ) : ℤ)).toNat = (chunk j).val
          rw [e]; omega
        all_goals rfl)
    (by refine ⟨rfl, fun a => ?_⟩; fin_cases a <;> simp <;> omega)]
  pointwise
  by_cases hi : i = chunk j
  · subst hi; simp
  · simp [hi]
    intro a b; exact absurd (le_antisymm b a) hi

end Cert.Scan.Ref

namespace Cert.Scan.Ref

open Idealize.ShloMosaic Idealize.ShloMosaic.TcCoe Idealize.SL.Sem Idealize.ShloMosaic.StableHlo
open Cert.ReferenceIdeal Cert.ReferenceIdeal.Gen Cert.ReferenceIdeal.Step

/-- The step of the reverse scan that visits chunk `i`. -/
def turn (i : Fin 64) : ℕ := 63 - i.val

theorem chunk_turn (i : Fin 64) : chunk (turn i) = i := Fin.ext (by simp [chunk, turn]; omega)
theorem turn_chunk (t : ℕ) (h : t < 64) : turn (chunk t) = t := by simp [chunk, turn]; omega

/-- What holds of the state before trip `n`. -/
structure Inv (A : Args) (n : ℕ) (s : State Ideal) : Prop where
  holds : Holds s A
  now : ∀ h k v, s.main_v24_7 (ix4 0 h k v) = (st A n h k v : EReal)
  dus : ∀ i h r v, turn i < n → s.main_v24_8 (ix5 i 0 h r v) = (du A i (st A (turn i)) h r v : EReal)
  sts : ∀ i h k v, turn i < n → s.main_v24_9 (ix5 i 0 h k v) = (st A (turn i) h k v : EReal)

theorem Inv.step {A : Args} {n : ℕ} {s : State Ideal} (I : Inv A n s) (hn : n < 64) : Inv A (n + 1) (step n s) where
  holds := ⟨I.holds.d, I.holds.g, I.holds.k, I.holds.w, I.holds.q, I.holds.a⟩
  now h k v := b53_eq n hn I.holds (st A n) I.now h k v
  dus i h r v hi := by
    rw [step_main_v24_8, b59_eq n hn]
    by_cases e : i = chunk n
    · rw [if_pos e, b46_eq n hn I.holds (st A n) I.now, e, turn_chunk n hn]
    · rw [if_neg e]
      exact I.dus i h r v (by
        rcases Nat.lt_succ_iff_lt_or_eq.mp hi with h' | h'
        · exact h'
        · exact absurd (by rw [← h', chunk_turn]) e)
  sts i h k v hi := by
    rw [step_main_v24_9, b65_eq n hn]
    by_cases e : i = chunk n
    · rw [if_pos e, I.now, e, turn_chunk n hn]
    · rw [if_neg e]
      exact I.sts i h k v (by
        rcases Nat.lt_succ_iff_lt_or_eq.mp hi with h' | h'
        · exact h'
        · exact absurd (by rw [← h', chunk_turn]) e)

theorem Inv.result28 {A : Args} {s : State Ideal} (I : Inv A 64 s) (i : Fin 64) (r : Fin 64) (c : Fin 512) :
    R_main_v28 s (ix2 (⟨64 * i.val + r.val, by omega⟩ : Fin 4096) c) = (du A i (st A (turn i)) (headOf c) r (laneOf c) : EReal) := by
  rw [← I.dus i (headOf c) r (laneOf c) (by simp [turn]; omega)]
  unfold R_main_v28
  pointwise
  congr 1

theorem Inv.result29 {A : Args} {s : State Ideal} (I : Inv A 64 s) (i : Fin 64) (h : Fin 4) (k v : Fin 128) :
    R_main_v29 s (ix3 (⟨4 * i.val + h.val, by omega⟩ : Fin 256) k v) = (st A (turn i) h k v : EReal) := by
  rw [← I.sts i h k v (by simp [turn]; omega)]
  unfold R_main_v29
  pointwise

end Cert.Scan.Ref

end
-- ==== Proof.RefOut.lean ====
/-
  What a run of the reference leaves in its two results.
-/
module

public import proofs.«01_k».proof.Proof.ScanArgs
public import proofs.«01_k».proof.Proof.ScanRef
public import proofs.«01_k».proof.Proof.RefRun

@[expose] public section

noncomputable section

namespace Cert.Scan.Ref

open Idealize.ShloMosaic Idealize.ShloMosaic.TcCoe Idealize.SL.Sem
open Cert.ReferenceIdeal Cert.ReferenceIdeal.Gen Cert.ReferenceIdeal.Step

/-- The loop's constants hold the arguments, if those are real. -/
theorem start_holds (x0 x1 x2 : FVec Ideal S4096x512 .bf16) (x3 : FVec Ideal S256x64x64 .bf16) (x4 : FVec Ideal S64x4 .f32)
    (x5 : FVec Ideal S4096x512 .f32) (h0 : Real x0) (h1 : Real x1) (h2 : Real x2) (h3 : Real x3) (h4 : Real x4) (h5 : Real x5) :
    Holds (Step.init x0 x1 x2 x3 x4 x5) (argsOf x0 x1 x2 x3 x4 x5) where
  d i h r v := by
    refine Eq.trans ?_ (h5.coe (ix2 (rowOf i r) (col h v)))
    unfold Step.init A_main_v20 A_main_v10 A_main_v9
    pointwise
    simp only [rowOf, col, mul_comm]
  g i h := by
    refine Eq.trans ?_ (h4.coe (ix2 i h))
    unfold Step.init A_main_v19 A_main_v14 A_main_v13
    pointwise
  k i h r v := by
    refine Eq.trans ?_ (h2.coe (ix2 (rowOf i r) (col h v)))
    unfold Step.init A_main_v18 A_main_v8 A_main_v7 A_main_v6
    pointwise
    simp only [rowOf, col, mul_comm]
  w i h r v := by
    refine Eq.trans ?_ (h0.coe (ix2 (rowOf i r) (col h v)))
    unfold Step.init A_main_v15 A_main_v2 A_main_v1 A_main_v0
    pointwise
    simp only [rowOf, col, mul_comm]
  q i h r v := by
    refine Eq.trans ?_ (h1.coe (ix2 (rowOf i r) (col h v)))
    unfold Step.init A_main_v17 A_main_v5 A_main_v4 A_main_v3
    pointwise
    simp only [rowOf, col, mul_comm]
  a i h r v := by
    refine Eq.trans ?_ (h3.coe (ix3 (matOf i h) r v))
    unfold Step.init A_main_v16 A_main_v12 A_main_v11
    pointwise
    simp only [matOf, mul_comm]
/-- The state before the first trip: the arguments, and a gradient of zero. -/
theorem start_inv (x0 x1 x2 : FVec Ideal S4096x512 .bf16) (x3 : FVec Ideal S256x64x64 .bf16) (x4 : FVec Ideal S64x4 .f32)
    (x5 : FVec Ideal S4096x512 .f32) (h0 : Real x0) (h1 : Real x1) (h2 : Real x2) (h3 : Real x3) (h4 : Real x4) (h5 : Real x5) :
    Inv (argsOf x0 x1 x2 x3 x4 x5) 0 (Step.init x0 x1 x2 x3 x4 x5) where
  holds := start_holds x0 x1 x2 x3 x4 x5 h0 h1 h2 h3 h4 h5
  now h k v := by
    unfold Step.init K_main_v21 K_main_cst
    pointwise
    exact EReal.coe_zero.symm
  dus i h r v hi := absurd hi (Nat.not_lt_zero _)
  sts i h k v hi := absurd hi (Nat.not_lt_zero _)

/-- The memory of a run of the reference. -/
theorem state_inv (m : (ℓ : Loc nD τ sig) → Buf (Elt Ideal) ℓ) (c : Dev nD) (A : Args) (h : Inv A 0 (RefRun.start m c)) :
    ∀ n, n ≤ 64 → Inv A n (RefRun.state m c n)
  | 0, _ => h
  | n + 1, hn => (state_inv m c A h n (by omega)).step (by omega)

end Cert.Scan.Ref

end
-- ==== Proof.ScanEqual.lean ====
/-
  The two programs' runs compared: what the precondition says, and the equality of the two pairs of results.
-/
module

public import proofs.«01_k».proof.Defs
public import proofs.«01_k».proof.Proof.Gen.Pre_finite
public import proofs.«01_k».proof.Proof.Gen.Kernel.Frame
public import proofs.«01_k».proof.Proof.ScanOut
public import proofs.«01_k».proof.Proof.RefOut
public import Idealize.ShloMosaic.Adequacy

@[expose] public section

noncomputable section

namespace Cert.Scan

open Idealize.ShloMosaic Idealize.ShloMosaic.TcCoe Idealize.SL.Sem
open Cert.KernelIdeal

/-- The precondition: every entry of the six arrays is a real number. -/
theorem finite_of_pre (m : (ℓ : Loc nD τ sig) → Buf (Elt Ideal) ℓ) (h : Cert.Pre_KernelIdeal_finite m) (c : Dev nD) :
    Finite m c where
  w i := real_of_abs_lt (congrFun (h c).1 i)
  q i := real_of_abs_lt (congrFun (h c).2.1 i)
  k i := real_of_abs_lt (congrFun (h c).2.2.1 i)
  a i := real_of_abs_lt (congrFun (h c).2.2.2.1 i)
  g i := real_of_abs_lt (congrFun (h c).2.2.2.2.1 i)
  d i := real_of_abs_lt (congrFun (h c).2.2.2.2.2 i)

variable {m : (ℓ : Loc nD τ sig) → Buf (Elt Ideal) ℓ} {c : Dev nD} (H : Finite m c) (s : ReferenceIdeal.Step.State Ideal)
  (I : Ref.Inv (args m c) 64 s)

include H I

theorem equal_du (y : S4096x512.Idx) : ReferenceIdeal.Step.R_main_v28 s y = (Gen.dats m 0 c).arrAt 6 cfg0.N y := by
  have hy : (y 0).val < 4096 := (y 0).isLt
  have e : y = ix2 (rowOf ⟨(y 0).val / 64, by omega⟩ ⟨(y 0).val % 64, by omega⟩) (y 1) := by
    funext a; apply Fin.ext
    match a with
    | ⟨0, _⟩ => show (y 0).val = 64 * ((y 0).val / 64) + (y 0).val % 64; omega
    | ⟨1, _⟩ => rfl
  rw [e]
  exact (I.result28 ⟨(y 0).val / 64, by omega⟩ ⟨(y 0).val % 64, by omega⟩ (y 1)).trans
    (final_du H ⟨(y 0).val / 64, by omega⟩ ⟨(y 0).val % 64, by omega⟩ (y 1)).symm

theorem equal_st (y : S256x128x128.Idx) : ReferenceIdeal.Step.R_main_v29 s y = (Gen.dats m 0 c).arrAt 7 cfg0.N y := by
  have hy : (y 0).val < 256 := (y 0).isLt
  have e : y = ix3 (matOf ⟨(y 0).val / 4, by omega⟩ ⟨(y 0).val % 4, by omega⟩) (y 1) (y 2) := by
    funext a; apply Fin.ext
    match a with
    | ⟨0, _⟩ => show (y 0).val = 4 * ((y 0).val / 4) + (y 0).val % 4; omega
    | ⟨1, _⟩ => rfl
    | ⟨2, _⟩ => rfl
  rw [e]
  exact (I.result29 ⟨(y 0).val / 4, by omega⟩ ⟨(y 0).val % 4, by omega⟩ (y 1) (y 2)).trans
    (final_st H ⟨(y 0).val / 4, by omega⟩ ⟨(y 0).val % 4, by omega⟩ (y 1) (y 2)).symm

end Cert.Scan

namespace Cert.Proof

open Idealize.ShloMosaic Idealize.ShloMosaic.TcCoe Idealize.SL.Sem

theorem frame_kernel : Cert.quiescent_Kernel := fun m ρ _ => Cert.Kernel.Gen.frame m ρ
theorem frame_ideal : Cert.quiescent_KernelIdeal := fun m ρ _ => Cert.KernelIdeal.Gen.frame m ρ
theorem frame_ideal_finite : Cert.quiescent_KernelIdeal_pre_finite := fun m ρ _ => Cert.KernelIdeal.Gen.frame m ρ

/-- The reference declares no semaphore, and writes none of its arguments. -/
theorem frame_reference : Cert.quiescent_ReferenceIdeal := fun m ρ _ =>
  (θ_run Cert.ReferenceIdeal.defs _ _).mono (fun r h => ⟨fun c => (h c).2.2, sem_eq_zero_of_no_sems (by decide) r.2⟩)
    (Cert.RefRun.run (F := Ideal) m ρ)
theorem frame_reference_finite : Cert.quiescent_ReferenceIdeal_pre_finite := fun m ρ _ =>
  (θ_run Cert.ReferenceIdeal.defs _ _).mono (fun r h => ⟨fun c => (h c).2.2, sem_eq_zero_of_no_sems (by decide) r.2⟩)
    (Cert.RefRun.run (F := Ideal) m ρ)

/-- From arguments that are real, the kernel's two results are the reference's. -/
theorem scan_equal : Cert.algebraic_KernelIdeal_ReferenceIdeal_pre_finite := by
  intro m ρ m' ρ' hp ha
  refine ⟨fun c => (Cert.KernelIdeal.Gen.dats m 0 c).arrAt 6 Cert.KernelIdeal.cfg0.N,
    fun c => (Cert.KernelIdeal.Gen.dats m 0 c).arrAt 7 Cert.KernelIdeal.cfg0.N, Cert.KernelIdeal.Value.run_blocks m ρ, ?_⟩
  refine (θ_run Cert.ReferenceIdeal.defs _ _).mono (fun r h c => ?_) (Cert.RefRun.run (F := Ideal) m' ρ')
  have H := Cert.Scan.finite_of_pre m hp c
  obtain ⟨a0, a1, a2, a3, a4, a5⟩ := ha c
  have I0 : Cert.Scan.Ref.Inv (Cert.Scan.args m c) 0 (Cert.RefRun.start m' c) := by
    have := Cert.Scan.Ref.start_inv _ _ _ _ _ _ H.w H.q H.k H.a H.g H.d
    unfold Cert.RefRun.start
    rw [a0, a1, a2, a3, a4, a5]
    exact this
  have I := Cert.Scan.Ref.state_inv m' c _ I0 64 le_rfl
  exact ⟨(h c).1.trans (funext (Cert.Scan.equal_du H _ I)), (h c).2.1.trans (funext (Cert.Scan.equal_st H _ I)), (h c).2.2⟩

end Cert.Proof

end
-- ==== Proof.PreFacts.lean ====
/-
  The facts that the preconditions' functions take.
-/
module

public import proofs.«01_k».proof.Pre_finite_swiglu
public import proofs.«01_k».proof.Pre_finite_dx
public import proofs.«01_k».proof.Pre_finite_proj_dx
public import proofs.«01_k».proof.Pre_finite_proj_dx_first
public import proofs.«01_k».proof.Pre_finite_loss
public import Idealize.ShloMosaic.Lib.Affine
public import Idealize.ShloMosaic.Lib.Decide

@[expose] public section

namespace Cert.PreFacts

open Idealize.ShloMosaic

instance swiglu : Cert.Pre_finite_swiglu.Facts where
  bitsLt_bf16_f32 := by decide
  bcast_S_S4096x1024 := by decide
  bcast_S_S2816x1024 := by decide
  bcast_S_S2x4096x2816 := by decide

instance dx : Cert.Pre_finite_dx.Facts where
  bitsLt_bf16_f32 := by decide
  bcast_S_S2x4096x2816 := by decide
  bcast_S_S1024x5632 := by decide
  bcast_S_S4096x1024 := by decide
  bcast_S_S1024 := by decide
  bcast_S_S1x1024 := by decide

instance proj_dx : Cert.Pre_finite_proj_dx.Facts where
  bitsLt_bf16_f32 := by decide
  bcast_S_S4096x5760 := by decide
  bcast_S_S5760x1024 := by decide
  bcast_S_S4096x1024 := by decide
  bcast_S_S1024 := by decide
  bcast_S_S1x1024 := by decide

instance proj_dx_first : Cert.Pre_finite_proj_dx_first.Facts where
  bitsLt_bf16_f32 := by decide
  bcast_S_S4096x5760 := by decide
  bcast_S_S5760x1024 := by decide
  bcast_S_S4096x1024 := by decide
  bcast_S_S1024 := by decide
  bcast_S_S1x1024 := by decide

instance loss : Cert.Pre_finite_loss.Facts where
  bcast_S_S4096x1024 := by decide
  bcast_S_S1x1024 := by decide
  bcast_S_S1024 := by decide

end Cert.PreFacts
-- ==== Proof.SwigluValue.lean ====
/-
  The two results of `kernel_swiglu`, read at an index: the two halves of the product with the first projection, and the
  gated unit of them.
-/
module

public import proofs.«01_k».proof.Proof.Gen.SwigluIdeal.Value
public import Idealize.ShloMosaic.Lib.Pipeline.ValueKit.Point
public import Idealize.ShloMosaic.Lib.Pipeline.ReadBack
public import Idealize.ShloMosaic.Lib.StableHlo.RunRead

@[expose] public section

noncomputable section

namespace Cert.SwigluValue

open Idealize.ShloMosaic Idealize.ShloMosaic.TcCoe Idealize.SL.Sem
open Cert.SwigluIdeal Cert.SwigluIdeal.Gen

variable (m : (ℓ : Loc nD τ sig) → Buf (Elt Ideal) ℓ) (c : Dev nD)

theorem idx : ∀ t : Fin cfg0.N, win0_0.index t (0 : Fin 2) = t.val / 2 ∧ win0_0.index t (1 : Fin 2) = 0
    ∧ win0_1.index t (0 : Fin 2) = t.val % 2 ∧ win0_1.index t (1 : Fin 2) = 0
    ∧ win0_2.index t (0 : Fin 2) = 2 + t.val % 2 ∧ win0_2.index t (1 : Fin 2) = 0
    ∧ win0_3.index t (0 : Fin 3) = 0 ∧ win0_3.index t (1 : Fin 3) = t.val / 2 ∧ win0_3.index t (2 : Fin 3) = t.val % 2
    ∧ win0_4.index t (0 : Fin 2) = t.val / 2 ∧ win0_4.index t (1 : Fin 2) = t.val % 2 :=
  (by decide +kernel : ∀ t : Fin grid0.N, _)

/-- The operand of the product that the kernel reads: the weight, transposed. -/
theorem entry_w : V m c main_v1 = truncf (F := Ideal) .bf16 (transpose S5632x1024 [1, 0] (m ((c : Thread nD τ).loc main_arg1) : FVec Ideal S1024x5632 .f32)
    transposes_S1024x5632_S5632x1024_1_0) bitsLt_bf16_f32 := by
  show StableHlo.after ([hostOps0] : List (List (HloOp τ sig (Elt Ideal)))).flatten (fun b => m (c, b)) (Proc.tc.devRef main_v1) = _
  simp only [List.flatten_cons, List.flatten_nil, List.cons_append, List.nil_append, List.append_nil]
  after_reads_simp

/-- The product with column `j` of the weight, at row `r`. -/
def prod (h : Vec Ideal S4096x1024 .bf16) (w : Vec Ideal S1024x5632 .f32) (r : Fin 4096) (j : Fin 5632) : EReal :=
  ∑ k : Fin 1024, h (ix2 r k) * w (ix2 k j)

/-- The argument arrays, and the blocks a point reads. -/
abbrev A0 : Vec Ideal S4096x1024 .bf16 := m ((c : Thread nD τ).loc main_arg0)
abbrev A1 : Vec Ideal S1024x5632 .f32 := m ((c : Thread nD τ).loc main_arg1)
abbrev X0 (t : Fin cfg0.N) : Vec Ideal S1024x1024 .bf16 := iblk m c 0 t
abbrev X1 (t : Fin cfg0.N) : Vec Ideal S1408x1024 .bf16 := iblk m c 1 t
abbrev X2 (t : Fin cfg0.N) : Vec Ideal S1408x1024 .bf16 := iblk m c 2 t

theorem block_h (t : Fin cfg0.N) (r k : Fin 1024) (R : Fin 4096) (hR : t.val / 2 * 1024 + r.val = R.val) :
    X0 m c t (ix2 r k) = A0 m c (ix2 R k) := by
  obtain ⟨e0, e1, _⟩ := idx t
  blk_ext [X0, A0, iblk, V, e0, e1]

theorem block_g (t : Fin cfg0.N) (j : Fin 1408) (k : Fin 1024) (J : Fin 5632) (hJ : t.val % 2 * 1408 + j.val = J.val) :
    X1 m c t (ix2 j k) = A1 m c (ix2 k J) := by
  obtain ⟨_, _, e0, e1, _⟩ := idx t
  show V m c main_v1 (((cfg0.win 1).blk t).view.emb (ix2 j k)) = _
  have e : ((cfg0.win 1).blk t).view.emb (ix2 j k) = (ix2 J k : S5632x1024.Idx) := by
    funext a; apply Fin.ext
    match a with
    | ⟨0, _⟩ => show win0_1.index t (0 : Fin 2) * 1408 + 1 * j.val = J.val; omega
    | ⟨1, _⟩ => show win0_1.index t (1 : Fin 2) * 1024 + 1 * k.val = k.val; omega
  rw [e, entry_w]
  pointwise

theorem block_u (t : Fin cfg0.N) (j : Fin 1408) (k : Fin 1024) (J : Fin 5632) (hJ : 2816 + t.val % 2 * 1408 + j.val = J.val) :
    X2 m c t (ix2 j k) = A1 m c (ix2 k J) := by
  obtain ⟨_, _, _, _, e0, e1, _⟩ := idx t
  show V m c main_v1 (((cfg0.win 2).blk t).view.emb (ix2 j k)) = _
  have e : ((cfg0.win 2).blk t).view.emb (ix2 j k) = (ix2 J k : S5632x1024.Idx) := by
    funext a; apply Fin.ext
    match a with
    | ⟨0, _⟩ => show win0_2.index t (0 : Fin 2) * 1408 + 1 * j.val = J.val; omega
    | ⟨1, _⟩ => show win0_2.index t (1 : Fin 2) * 1024 + 1 * k.val = k.val; omega
  rw [e, entry_w]
  pointwise

/-- The two halves, of the input blocks. -/
theorem out_gu (x0 : Vec Ideal S1024x1024 .bf16) (x1 x2 : Vec Ideal S1408x1024 .bf16) (b : Fin 2) (r : Fin 1024) (j : Fin 1408) :
    out0_3 x0 x1 x2 (ix3 b r j) = ∑ k : Fin 1024, x0 (ix2 r k) * (if b.val = 0 then x1 else x2) (ix2 j k) := by
  canon_tiles x h
  all_goals
    have hb : (b.val : ℕ) = ((ix3 b r j : S2x1024x1408.Idx) 0).val := rfl
    open_payloads
    pointwise
    have e1 : x 1 = r := Fin.ext h1.symm
    have e2 : x 2 = j := Fin.ext h2.symm
    rw [e1, e2]
    first
      | rw [if_pos (by omega)]
      | rw [if_neg (by omega)]

theorem out_act (x0 : Vec Ideal S1024x1024 .bf16) (x1 x2 : Vec Ideal S1408x1024 .bf16) (r : Fin 1024) (j : Fin 1408) :
    out0_4 x0 x1 x2 (ix2 r j) = (∑ k : Fin 1024, x0 (ix2 r k) * x1 (ix2 j k))
      * Ideal.div 1 (1 + Ideal.exp (0 - ∑ k : Fin 1024, x0 (ix2 r k) * x1 (ix2 j k)))
      * ∑ k : Fin 1024, x0 (ix2 r k) * x2 (ix2 j k) := by
  canon_tiles x h
  open_payloads
  pointwise
  have e0 : x 0 = r := Fin.ext h0.symm
  have e1 : x 1 = j := Fin.ext h1.symm
  rw [e0, e1]

/-- The gated unit of two numbers. -/
def unit (g u : EReal) : EReal := g * Ideal.div 1 (1 + Ideal.exp (0 - g)) * u

/-- The first result: the two halves of the product. -/
theorem final_gu (b : Fin 2) (R : Fin 4096) (J : Fin 2816) : (dats m 0 c).arrAt 3 cfg0.N (ix3 b R J)
    = prod (A0 m c) (A1 m c) R ⟨b.val * 2816 + J.val, by omega⟩ := by
  let t : Fin cfg0.N := ⟨R.val / 1024 * 2 + J.val / 1408, by show _ < 8; omega⟩
  have ht : t.val = R.val / 1024 * 2 + J.val / 1408 := rfl
  obtain ⟨_, _, _, _, _, _, e0, e1, e2, _⟩ := idx t
  let r : Fin 1024 := ⟨R.val % 1024, by omega⟩
  let j : Fin 1408 := ⟨J.val % 1408, by omega⟩
  have bl := congrFun (Cert.SwigluIdeal.Value.blocks3 m c t (flush0_3 t)) (ix3 b r j)
  rw [Cert.SwigluIdeal.Value.flushed3] at bl
  have e : ((cfg0.win 3).blk t).view.emb (ix3 b r j) = (ix3 b R J : S2x4096x2816.Idx) := by
    funext a; apply Fin.ext
    match a with
    | ⟨0, _⟩ => show win0_3.index t (0 : Fin 3) * 2 + 1 * b.val = b.val; omega
    | ⟨1, _⟩ => show win0_3.index t (1 : Fin 3) * 1024 + 1 * (R.val % 1024) = R.val; omega
    | ⟨2, _⟩ => show win0_3.index t (2 : Fin 3) * 1408 + 1 * (J.val % 1408) = J.val; omega
  have b' : (dats m 0 c).arrAt 3 cfg0.N (((cfg0.win 3).blk t).view.emb (ix3 b r j)) = out0_3 (X0 m c t) (X1 m c t) (X2 m c t) (ix3 b r j) := bl
  rw [e] at b'
  refine b'.trans ((out_gu _ _ _ b r j).trans (Finset.sum_congr rfl fun k _ => ?_))
  have hb := b.isLt
  rw [block_h m c t r k R (by show t.val / 2 * 1024 + R.val % 1024 = _; omega)]
  by_cases h : b.val = 0
  · rw [if_pos h, block_g m c t j k ⟨b.val * 2816 + J.val, by omega⟩ (by show t.val % 2 * 1408 + J.val % 1408 = b.val * 2816 + J.val; omega)]
  · rw [if_neg h, block_u m c t j k ⟨b.val * 2816 + J.val, by omega⟩ (by show 2816 + t.val % 2 * 1408 + J.val % 1408 = b.val * 2816 + J.val; omega)]

/-- The second result: the gated unit of the two halves. -/
theorem final_act (R : Fin 4096) (J : Fin 2816) : (dats m 0 c).arrAt 4 cfg0.N (ix2 R J)
    = unit (prod (A0 m c) (A1 m c) R ⟨J.val, by omega⟩)
      (prod (A0 m c) (A1 m c) R ⟨2816 + J.val, by omega⟩) := by
  let t : Fin cfg0.N := ⟨R.val / 1024 * 2 + J.val / 1408, by show _ < 8; omega⟩
  have ht : t.val = R.val / 1024 * 2 + J.val / 1408 := rfl
  obtain ⟨_, _, _, _, _, _, _, _, _, e0, e1⟩ := idx t
  let r : Fin 1024 := ⟨R.val % 1024, by omega⟩
  let j : Fin 1408 := ⟨J.val % 1408, by omega⟩
  have bl := congrFun (Cert.SwigluIdeal.Value.blocks4 m c t (flush0_4 t)) (ix2 r j)
  rw [Cert.SwigluIdeal.Value.flushed4] at bl
  have e : ((cfg0.win 4).blk t).view.emb (ix2 r j) = (ix2 R J : S4096x2816.Idx) := by
    funext a; apply Fin.ext
    match a with
    | ⟨0, _⟩ => show win0_4.index t (0 : Fin 2) * 1024 + 1 * (R.val % 1024) = R.val; omega
    | ⟨1, _⟩ => show win0_4.index t (1 : Fin 2) * 1408 + 1 * (J.val % 1408) = J.val; omega
  have b' : (dats m 0 c).arrAt 4 cfg0.N (((cfg0.win 4).blk t).view.emb (ix2 r j)) = out0_4 (X0 m c t) (X1 m c t) (X2 m c t) (ix2 r j) := bl
  rw [e] at b'
  have eg : ∑ k : Fin 1024, X0 m c t (ix2 r k) * X1 m c t (ix2 j k) = prod (A0 m c) (A1 m c) R ⟨J.val, by omega⟩ :=
    Finset.sum_congr rfl fun k _ => by
      rw [block_h m c t r k R (by show t.val / 2 * 1024 + R.val % 1024 = _; omega),
        block_g m c t j k ⟨J.val, by omega⟩ (by show t.val % 2 * 1408 + J.val % 1408 = J.val; omega)]
  have eu : ∑ k : Fin 1024, X0 m c t (ix2 r k) * X2 m c t (ix2 j k) = prod (A0 m c) (A1 m c) R ⟨2816 + J.val, by omega⟩ :=
    Finset.sum_congr rfl fun k _ => by
      rw [block_h m c t r k R (by show t.val / 2 * 1024 + R.val % 1024 = _; omega),
        block_u m c t j k ⟨2816 + J.val, by omega⟩ (by show 2816 + t.val % 2 * 1408 + J.val % 1408 = 2816 + J.val; omega)]
  rw [b', out_act, eg, eu, unit]

end Cert.SwigluValue

end
-- ==== Proof.SwigluEqual.lean ====
/-
  `kernel_swiglu` against its reference.
-/
module

public import proofs.«01_k».proof.Defs
public import proofs.«01_k».proof.Proof.Gen.Swiglu.Frame
public import proofs.«01_k».proof.Proof.Gen.SwigluRefIdeal.Run
public import proofs.«01_k».proof.Proof.SwigluValue
public import Idealize.ShloMosaic.Adequacy

@[expose] public section

noncomputable section

namespace Cert.Proof

open Idealize.ShloMosaic Idealize.ShloMosaic.TcCoe Idealize.SL.Sem

theorem frame_swiglu : Cert.quiescent_Swiglu := fun m ρ _ => Cert.Swiglu.Gen.frame m ρ
theorem frame_swiglu_ideal : Cert.quiescent_SwigluIdeal := fun m ρ _ => Cert.SwigluIdeal.Gen.frame m ρ
theorem frame_swiglu_reference : Cert.quiescent_SwigluRefIdeal := fun m ρ _ =>
  (θ_run Cert.SwigluRefIdeal.defs _ _).mono (fun r h => ⟨fun c => (h c).2.2, sem_eq_zero_of_no_sems (by decide) r.2⟩)
    (Cert.SwigluRefIdeal.Value.run (F := Ideal) m ρ)

theorem swiglu_equal : Cert.algebraic_SwigluIdeal_SwigluRefIdeal := by
  intro m ρ m' ρ' _ ha
  refine ⟨fun c => (Cert.SwigluIdeal.Gen.dats m 0 c).arrAt 3 Cert.SwigluIdeal.cfg0.N,
    fun c => (Cert.SwigluIdeal.Gen.dats m 0 c).arrAt 4 Cert.SwigluIdeal.cfg0.N, Cert.SwigluIdeal.Value.run_blocks m ρ, ?_⟩
  refine (θ_run Cert.SwigluRefIdeal.defs _ _).mono (fun r h c => ?_) (Cert.SwigluRefIdeal.Value.run (F := Ideal) m' ρ')
  obtain ⟨a0, a1⟩ := ha c
  refine ⟨(h c).1.trans ?_, (h c).2.1.trans ?_, (h c).2.2⟩ <;> clear h
  · rw [a0, a1]
    funext (y : Cert.SwigluIdeal.S2x4096x2816.Idx)
    have e : y = ix3 (y 0) (y 1) (y 2) := by
      funext a; match a with | ⟨0, _⟩ => rfl | ⟨1, _⟩ => rfl | ⟨2, _⟩ => rfl
    generalize y 0 = b at e; generalize y 1 = R at e; generalize y 2 = J at e
    rw [e]
    refine Eq.trans ?_ (Cert.SwigluValue.final_gu m c b R J).symm
    unfold Cert.SwigluValue.prod
    pointwise
    have hb : b.val < 2 := b.isLt
    have hJ : J.val < 2816 := J.isLt
    split
    · rw [show (⟨b.val * 2816 + J.val, by omega⟩ : Fin 5632) = ⟨J.val, by omega⟩ from Fin.ext (by show b.val * 2816 + J.val = J.val; omega)]
    · rw [show (⟨b.val * 2816 + J.val, by omega⟩ : Fin 5632) = ⟨2816 + J.val, by omega⟩ from Fin.ext (by show b.val * 2816 + J.val = 2816 + J.val; omega)]
  · rw [a0, a1]
    funext (y : Cert.SwigluIdeal.S4096x2816.Idx)
    have e : y = ix2 (y 0) (y 1) := by
      funext a; match a with | ⟨0, _⟩ => rfl | ⟨1, _⟩ => rfl
    generalize y 0 = R at e; generalize y 1 = J at e
    rw [e]
    refine Eq.trans ?_ (Cert.SwigluValue.final_act m c R J).symm
    unfold Cert.SwigluValue.unit Cert.SwigluValue.prod
    pointwise
    rw [zero_sub]

end Cert.Proof

end
-- ==== Proof.SwigluBwdValue.lean ====
/-
  The result of `kernel_swiglu_bwd`, read at an index: the cotangents of the gate and of the value.
-/
module

public import proofs.«01_k».proof.Proof.Gen.SwigluBwdIdeal.Value
public import Idealize.ShloMosaic.Lib.Pipeline.ValueKit.Point
public import Idealize.ShloMosaic.Lib.Pipeline.ReadBack
public import Idealize.ShloMosaic.Lib.StableHlo.RunRead

@[expose] public section

noncomputable section

namespace Cert.SwigluBwdValue

open Idealize.ShloMosaic Idealize.ShloMosaic.TcCoe Idealize.SL.Sem
open Cert.SwigluBwdIdeal Cert.SwigluBwdIdeal.Gen

variable (m : (ℓ : Loc nD τ sig) → Buf (Elt Ideal) ℓ) (c : Dev nD)

theorem idx : ∀ t : Fin cfg0.N, win0_0.index t (0 : Fin 2) = t.val / 2 ∧ win0_0.index t (1 : Fin 2) = 0
    ∧ win0_1.index t (0 : Fin 2) = t.val % 2 ∧ win0_1.index t (1 : Fin 2) = 0
    ∧ win0_2.index t (0 : Fin 3) = 0 ∧ win0_2.index t (1 : Fin 3) = t.val / 2 ∧ win0_2.index t (2 : Fin 3) = t.val % 2
    ∧ win0_3.index t (0 : Fin 3) = 0 ∧ win0_3.index t (1 : Fin 3) = t.val / 2 ∧ win0_3.index t (2 : Fin 3) = t.val % 2 :=
  (by decide +kernel : ∀ t : Fin grid0.N, _)

/-- The argument arrays, and the blocks a point reads. -/
abbrev A0 : Vec Ideal S4096x1024 .bf16 := m ((c : Thread nD τ).loc main_arg0)
abbrev A1 : Vec Ideal S2816x1024 .f32 := m ((c : Thread nD τ).loc main_arg1)
abbrev A2 : Vec Ideal S2x4096x2816 .bf16 := m ((c : Thread nD τ).loc main_arg2)
abbrev X0 (t : Fin cfg0.N) : Vec Ideal S1024x1024 .bf16 := iblk m c 0 t
abbrev X1 (t : Fin cfg0.N) : Vec Ideal S1408x1024 .bf16 := iblk m c 1 t
abbrev X2 (t : Fin cfg0.N) : Vec Ideal S2x1024x1408 .bf16 := iblk m c 2 t

/-- The operand of the product that the kernel reads: the weight. -/
theorem entry_w : V m c main_v0 = truncf (F := Ideal) .bf16 (m ((c : Thread nD τ).loc main_arg1) : FVec Ideal S2816x1024 .f32) bitsLt_bf16_f32 := by
  show StableHlo.after ([hostOps0] : List (List (HloOp τ sig (Elt Ideal)))).flatten (fun b => m (c, b)) (Proc.tc.devRef main_v0) = _
  simp only [List.flatten_cons, List.flatten_nil, List.cons_append, List.nil_append, List.append_nil]
  after_reads_simp

theorem block_d (t : Fin cfg0.N) (r k : Fin 1024) (R : Fin 4096) (hR : t.val / 2 * 1024 + r.val = R.val) :
    X0 m c t (ix2 r k) = A0 m c (ix2 R k) := by
  obtain ⟨e0, e1, _⟩ := idx t
  blk_ext [X0, A0, iblk, V, e0, e1]

theorem block_w (t : Fin cfg0.N) (j : Fin 1408) (k : Fin 1024) (J : Fin 2816) (hJ : t.val % 2 * 1408 + j.val = J.val) :
    X1 m c t (ix2 j k) = A1 m c (ix2 J k) := by
  obtain ⟨_, _, e0, e1, _⟩ := idx t
  show V m c main_v0 (((cfg0.win 1).blk t).view.emb (ix2 j k)) = _
  have e : ((cfg0.win 1).blk t).view.emb (ix2 j k) = (ix2 J k : S2816x1024.Idx) := by
    funext a; apply Fin.ext
    match a with
    | ⟨0, _⟩ => show win0_1.index t (0 : Fin 2) * 1408 + 1 * j.val = J.val; omega
    | ⟨1, _⟩ => show win0_1.index t (1 : Fin 2) * 1024 + 1 * k.val = k.val; omega
  rw [e, entry_w]
  pointwise

theorem block_g (t : Fin cfg0.N) (b : Fin 2) (r : Fin 1024) (j : Fin 1408) (R : Fin 4096) (J : Fin 2816)
    (hR : t.val / 2 * 1024 + r.val = R.val) (hJ : t.val % 2 * 1408 + j.val = J.val) :
    X2 m c t (ix3 b r j) = A2 m c (ix3 b R J) := by
  obtain ⟨_, _, _, _, e0, e1, e2, _⟩ := idx t
  blk_ext [X2, A2, iblk, V, e0, e1, e2]

/-- The logistic function. -/
def logistic (g : EReal) : EReal := Ideal.div 1 (1 + Ideal.exp (0 - g))

/-- The cotangent of the gate (`b = 0`) and of the value (`b = 1`), from the cotangent of the unit's result, the gate
    and the value. -/
def cot (b : Fin 2) (d g u : EReal) : EReal :=
  if b.val = 0 then d * u * (logistic g * (1 + g * (1 - logistic g))) else d * (g * logistic g)

theorem out_eq (x0 : Vec Ideal S1024x1024 .bf16) (x1 : Vec Ideal S1408x1024 .bf16) (x2 : Vec Ideal S2x1024x1408 .bf16) (b : Fin 2) (r : Fin 1024) (j : Fin 1408) :
    out0_3 x0 x1 x2 (ix3 b r j) = cot b (∑ k : Fin 1024, x0 (ix2 r k) * x1 (ix2 j k)) (x2 (ix3 0 r j)) (x2 (ix3 1 r j)) := by
  canon_tiles x h
  all_goals
    have hb : (b.val : ℕ) = ((ix3 b r j : S2x1024x1408.Idx) 0).val := rfl
    open_payloads
    pointwise
    have e1 : x 1 = r := Fin.ext h1.symm
    have e2 : x 2 = j := Fin.ext h2.symm
    rw [e1, e2]
    unfold cot logistic
    first
      | rw [if_pos (by omega)]
      | rw [if_neg (by omega)]

theorem final_dgu (b : Fin 2) (R : Fin 4096) (J : Fin 2816) : (dats m 0 c).arrAt 3 cfg0.N (ix3 b R J)
    = cot b (∑ k : Fin 1024, A0 m c (ix2 R k) * A1 m c (ix2 J k)) (A2 m c (ix3 0 R J)) (A2 m c (ix3 1 R J)) := by
  let t : Fin cfg0.N := ⟨R.val / 1024 * 2 + J.val / 1408, by show _ < 8; omega⟩
  have ht : t.val = R.val / 1024 * 2 + J.val / 1408 := rfl
  obtain ⟨_, _, _, _, _, _, _, e0, e1, e2⟩ := idx t
  let r : Fin 1024 := ⟨R.val % 1024, by omega⟩
  let j : Fin 1408 := ⟨J.val % 1408, by omega⟩
  have bl := congrFun (Cert.SwigluBwdIdeal.Value.blocks3 m c t (flush0_3 t)) (ix3 b r j)
  rw [Cert.SwigluBwdIdeal.Value.flushed3] at bl
  have e : ((cfg0.win 3).blk t).view.emb (ix3 b r j) = (ix3 b R J : S2x4096x2816.Idx) := by
    funext a; apply Fin.ext
    match a with
    | ⟨0, _⟩ => show win0_3.index t (0 : Fin 3) * 2 + 1 * b.val = b.val; omega
    | ⟨1, _⟩ => show win0_3.index t (1 : Fin 3) * 1024 + 1 * (R.val % 1024) = R.val; omega
    | ⟨2, _⟩ => show win0_3.index t (2 : Fin 3) * 1408 + 1 * (J.val % 1408) = J.val; omega
  have b' : (dats m 0 c).arrAt 3 cfg0.N (((cfg0.win 3).blk t).view.emb (ix3 b r j)) = out0_3 (X0 m c t) (X1 m c t) (X2 m c t) (ix3 b r j) := bl
  rw [e] at b'
  have hr : t.val / 2 * 1024 + r.val = R.val := by show t.val / 2 * 1024 + R.val % 1024 = _; omega
  have hj : t.val % 2 * 1408 + j.val = J.val := by show t.val % 2 * 1408 + J.val % 1408 = _; omega
  have es : ∑ k : Fin 1024, X0 m c t (ix2 r k) * X1 m c t (ix2 j k) = ∑ k : Fin 1024, A0 m c (ix2 R k) * A1 m c (ix2 J k) :=
    Finset.sum_congr rfl fun k _ => by rw [block_d m c t r k R hr, block_w m c t j k J hj]
  rw [b', out_eq, es, block_g m c t 0 r j R J hr hj, block_g m c t 1 r j R J hr hj]

end Cert.SwigluBwdValue

end
-- ==== Proof.SwigluBwdEqual.lean ====
/-
  `kernel_swiglu_bwd` against its reference, from arguments that are real.
-/
module

public import proofs.«01_k».proof.Defs
public import proofs.«01_k».proof.Proof.Gen.SwigluBwd.Frame
public import proofs.«01_k».proof.Proof.Gen.SwigluBwdRefIdeal.Run
public import proofs.«01_k».proof.Proof.SwigluBwdValue
public import proofs.«01_k».proof.Proof.ScanArgs
public import proofs.«01_k».proof.Proof.PreFacts
public import Idealize.ShloMosaic.Adequacy

@[expose] public section

noncomputable section

namespace Cert.SwigluBwdValue

open Idealize.ShloMosaic Idealize.ShloMosaic.TcCoe Idealize.SL.Sem

theorem logistic_real (g : ℝ) : logistic (g : EReal) = (((1 + Real.exp (-g))⁻¹ : ℝ) : EReal) := by
  rw [logistic, zero_sub]
  exact Ideal.logistic_coe g

/-- The derivative of `g · logistic g` two ways, of real numbers. -/
theorem gate_eq (d g u : ℝ) : (d : EReal) * u * logistic g + g * (d * u) * (logistic g * (1 - logistic g))
    = d * u * (logistic g * (1 + g * (1 - logistic g))) := by
  rw [logistic_real]
  generalize (1 + Real.exp (-g))⁻¹ = s
  norm_cast
  ring

end Cert.SwigluBwdValue

namespace Cert.Proof

open Idealize.ShloMosaic Idealize.ShloMosaic.TcCoe Idealize.SL.Sem

theorem frame_swiglu_bwd : Cert.quiescent_SwigluBwd := fun m ρ _ => Cert.SwigluBwd.Gen.frame m ρ
theorem frame_swiglu_bwd_ideal : Cert.quiescent_SwigluBwdIdeal := fun m ρ _ => Cert.SwigluBwdIdeal.Gen.frame m ρ
theorem frame_swiglu_bwd_ideal_finite : Cert.quiescent_SwigluBwdIdeal_pre_finite_swiglu := fun m ρ _ => Cert.SwigluBwdIdeal.Gen.frame m ρ
theorem frame_swiglu_bwd_reference : Cert.quiescent_SwigluBwdRefIdeal := fun m ρ _ =>
  (θ_run Cert.SwigluBwdRefIdeal.defs _ _).mono (fun r h => ⟨fun c => (h c).2, sem_eq_zero_of_no_sems (by decide) r.2⟩)
    (Cert.SwigluBwdRefIdeal.Value.run (F := Ideal) m ρ)
theorem frame_swiglu_bwd_reference_finite : Cert.quiescent_SwigluBwdRefIdeal_pre_finite_swiglu := fun m ρ _ =>
  (θ_run Cert.SwigluBwdRefIdeal.defs _ _).mono (fun r h => ⟨fun c => (h c).2, sem_eq_zero_of_no_sems (by decide) r.2⟩)
    (Cert.SwigluBwdRefIdeal.Value.run (F := Ideal) m ρ)

theorem swiglu_bwd_equal : Cert.algebraic_SwigluBwdIdeal_SwigluBwdRefIdeal_pre_finite_swiglu := by
  intro m ρ m' ρ' hp ha
  refine ⟨fun c => (Cert.SwigluBwdIdeal.Gen.dats m 0 c).arrAt 3 Cert.SwigluBwdIdeal.cfg0.N, Cert.SwigluBwdIdeal.Value.run_blocks m ρ, ?_⟩
  refine (θ_run Cert.SwigluBwdRefIdeal.defs _ _).mono (fun r h c => ?_) (Cert.SwigluBwdRefIdeal.Value.run (F := Ideal) m' ρ')
  obtain ⟨a0, a1, a2⟩ := ha c
  have f0 : Cert.Scan.Real (Cert.SwigluBwdValue.A0 m c) := fun i => Cert.Scan.real_of_abs_lt (congrFun (hp c).1 i)
  have f1 : Cert.Scan.Real (Cert.SwigluBwdValue.A1 m c) := fun i => Cert.Scan.real_of_abs_lt (congrFun (hp c).2.1 i)
  have f2 : Cert.Scan.Real (Cert.SwigluBwdValue.A2 m c) := fun i => Cert.Scan.real_of_abs_lt (congrFun (hp c).2.2 i)
  refine ⟨(h c).1.trans ?_, (h c).2⟩
  clear h hp
  rw [a0, a1, a2]
  clear a0 a1 a2 ha
  funext (y : Cert.SwigluBwdIdeal.S2x4096x2816.Idx)
  have e : y = ix3 (y 0) (y 1) (y 2) := by
    funext a; match a with | ⟨0, _⟩ => rfl | ⟨1, _⟩ => rfl | ⟨2, _⟩ => rfl
  generalize y 0 = b at e; generalize y 1 = R at e; generalize y 2 = J at e
  rw [e]
  refine Eq.trans ?_ (Cert.SwigluBwdValue.final_dgu m c b R J).symm
  pointwise
  have eD : ∑ k : Fin 1024, Cert.SwigluBwdValue.A0 m c (ix2 R k) * Cert.SwigluBwdValue.A1 m c (ix2 J k)
      = ((∑ k : Fin 1024, (Cert.SwigluBwdValue.A0 m c (ix2 R k)).toReal * (Cert.SwigluBwdValue.A1 m c (ix2 J k)).toReal : ℝ) : EReal) := by
    rw [Cert.Scan.coe_sum]
    exact Finset.sum_congr rfl fun k _ => by rw [EReal.coe_mul, ← f0.coe, ← f1.coe]
  have eg := f2.coe (ix3 0 R J)
  have eu := f2.coe (ix3 1 R J)
  unfold Cert.SwigluBwdValue.cot
  split
  · rw [if_pos (by omega)]
    have key := Cert.SwigluBwdValue.gate_eq
      (∑ k : Fin 1024, (Cert.SwigluBwdValue.A0 m c (ix2 R k)).toReal * (Cert.SwigluBwdValue.A1 m c (ix2 J k)).toReal)
      (Cert.SwigluBwdValue.A2 m c (ix3 0 R J)).toReal (Cert.SwigluBwdValue.A2 m c (ix3 1 R J)).toReal
    rw [← eD, ← eg, ← eu] at key
    refine Eq.trans ?_ key
    unfold Cert.SwigluBwdValue.logistic
    rw [zero_sub]
  · rw [if_neg (by omega), mul_comm]
    unfold Cert.SwigluBwdValue.logistic
    rw [zero_sub]

end Cert.Proof

end
-- ==== Proof.MergeBwdValue.lean ====
/-
  The three results of `kernel_merge_bwd`, read at an index.
-/
module

public import proofs.«01_k».proof.Proof.Gen.MergeBwdIdeal.Value
public import Idealize.ShloMosaic.Lib.Pipeline.ValueKit.Point
public import Idealize.ShloMosaic.Lib.Pipeline.ReadBack
public import Idealize.ShloMosaic.Lib.StableHlo.RunRead

@[expose] public section

noncomputable section

namespace Cert.MergeBwdValue

open Idealize.ShloMosaic Idealize.ShloMosaic.TcCoe Idealize.SL.Sem
open Cert.MergeBwdIdeal Cert.MergeBwdIdeal.Gen

variable (m : (ℓ : Loc nD τ sig) → Buf (Elt Ideal) ℓ) (c : Dev nD)

theorem idx : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0
    ∧ win0_3.index t (0 : Fin 2) = t.val
    ∧ win0_3.index t (1 : Fin 2) = 1
    ∧ win0_4.index t (0 : Fin 2) = t.val
    ∧ win0_4.index t (1 : Fin 2) = 0
    ∧ win0_5.index t (0 : Fin 2) = t.val
    ∧ win0_5.index t (1 : Fin 2) = 0
    ∧ win0_6.index t (0 : Fin 2) = t.val
    ∧ win0_6.index t (1 : Fin 2) = 0
    ∧ win0_7.index t (0 : Fin 2) = t.val
    ∧ win0_7.index t (1 : Fin 2) = 0
    ∧ win0_8.index t (0 : Fin 2) = t.val
    ∧ win0_8.index t (1 : Fin 2) = 0 :=
  (by decide +kernel : ∀ t : Fin grid0.N, _)

/-- The argument arrays. -/
abbrev A0 : Vec Ideal S4096x1024 .bf16 := m ((c : Thread nD τ).loc main_arg0)
abbrev A1 : Vec Ideal S1024x1024 .f32 := m ((c : Thread nD τ).loc main_arg1)
abbrev A2 : Vec Ideal S4096x5760 .f32 := m ((c : Thread nD τ).loc main_arg2)
abbrev A3 : Vec Ideal S4096x1024 .bf16 := m ((c : Thread nD τ).loc main_arg3)
abbrev A4 : Vec Ideal S4096x1024 .bf16 := m ((c : Thread nD τ).loc main_arg4)

/-- The blocks a point reads. -/
abbrev X0 (t : Fin cfg0.N) : Vec Ideal S512x1024 .bf16 := iblk m c 0 t
abbrev X1 (t : Fin cfg0.N) : Vec Ideal S1024x1024 .bf16 := iblk m c 1 t
abbrev X2 (t : Fin cfg0.N) : Vec Ideal S512x1024 .f32 := Gen.X0_2 m c t
abbrev X3 (t : Fin cfg0.N) : Vec Ideal S512x1024 .f32 := Gen.X0_3 m c t
abbrev X4 (t : Fin cfg0.N) : Vec Ideal S512x1024 .bf16 := iblk m c 4 t
abbrev X5 (t : Fin cfg0.N) : Vec Ideal S512x1024 .bf16 := iblk m c 5 t

/-- The weight. -/
theorem entry_v0 : V m c main_v0 = truncf (F := Ideal) .bf16 (m ((c : Thread nD τ).loc main_arg1) : FVec Ideal S1024x1024 .f32) bitsLt_bf16_f32 := by
  show StableHlo.after ([hostOps0] : List (List (HloOp τ sig (Elt Ideal)))).flatten (fun b => m (c, b)) (Proc.tc.devRef main_v0) = _
  simp only [List.flatten_cons, List.flatten_nil, List.cons_append, List.nil_append, List.append_nil]
  after_reads_simp

theorem block_0 (t : Fin cfg0.N) (a : Fin 512) (b : Fin 1024) (A : Fin 4096) (B : Fin 1024)
    (h0 : (t.val) * 512 + a.val = A.val) (h1 : b.val = B.val) : X0 m c t (ix2 a b) = A0 m c (ix2 A B) := by
  obtain ⟨e0, e1, _⟩ := idx t
  blk_ext [X0, A0, iblk, V, e0, e1]

theorem block_1 (t : Fin cfg0.N) (a : Fin 1024) (b : Fin 1024) (A : Fin 1024) (B : Fin 1024)
    (h0 : a.val = A.val) (h1 : b.val = B.val) : X1 m c t (ix2 a b) = A1 m c (ix2 A B) := by
  obtain ⟨_, _, e0, e1, _⟩ := idx t
  show V m c main_v0 (((cfg0.win 1).blk t).view.emb (ix2 a b )) = _
  have e : ((cfg0.win 1).blk t).view.emb (ix2 a b) = (ix2 A B : S1024x1024.Idx) := by
    funext x; apply Fin.ext
    match x with
    | ⟨0, _⟩ => show win0_1.index t (0 : Fin 2) * 1024 + 1 * a.val = A.val; omega
    | ⟨1, _⟩ => show win0_1.index t (1 : Fin 2) * 1024 + 1 * b.val = B.val; omega
  rw [e, entry_v0]
  pointwise

theorem block_2 (t : Fin cfg0.N) (a : Fin 512) (b : Fin 1024) (A : Fin 4096) (B : Fin 5760)
    (h0 : (t.val) * 512 + a.val = A.val) (h1 : b.val = B.val) : X2 m c t (ix2 a b) = A2 m c (ix2 A B) := by
  obtain ⟨_, _, _, _, e0, e1, _⟩ := idx t
  show (cfg0.win 2).fill (cfg0.grid.coords t) dflt0_2 (iblk m c 2 t) (ix2 a b) = _
  unfold Pipeline.Window.fill
  rw [dif_pos (moved0_2 t _)]
  refine (show _ = V m c main_arg2 (((cfg0.win 2).blk t).view.emb _) from rfl).trans ?_
  have e : ∀ y : S4096x5760.Idx, y = (ix2 A B : S4096x5760.Idx) → V m c main_arg2 y = A2 m c (ix2 A B) := by
    rintro y rfl; rfl
  apply e
  funext x; apply Fin.ext
  match x with
  | ⟨0, _⟩ => show win0_2.index t (0 : Fin 2) * 512 + 1 * a.val = A.val; omega
  | ⟨1, _⟩ => show win0_2.index t (1 : Fin 2) * 1024 + 1 * b.val = B.val; omega

theorem block_3 (t : Fin cfg0.N) (a : Fin 512) (b : Fin 1024) (A : Fin 4096) (B : Fin 5760)
    (h0 : (t.val) * 512 + a.val = A.val) (h1 : (1) * 1024 + b.val = B.val) : X3 m c t (ix2 a b) = A2 m c (ix2 A B) := by
  obtain ⟨_, _, _, _, _, _, e0, e1, _⟩ := idx t
  show (cfg0.win 3).fill (cfg0.grid.coords t) dflt0_3 (iblk m c 3 t) (ix2 a b) = _
  unfold Pipeline.Window.fill
  rw [dif_pos (moved0_3 t _)]
  refine (show _ = V m c main_arg2 (((cfg0.win 3).blk t).view.emb _) from rfl).trans ?_
  have e : ∀ y : S4096x5760.Idx, y = (ix2 A B : S4096x5760.Idx) → V m c main_arg2 y = A2 m c (ix2 A B) := by
    rintro y rfl; rfl
  apply e
  funext x; apply Fin.ext
  match x with
  | ⟨0, _⟩ => show win0_3.index t (0 : Fin 2) * 512 + 1 * a.val = A.val; omega
  | ⟨1, _⟩ => show win0_3.index t (1 : Fin 2) * 1024 + 1 * b.val = B.val; omega

theorem block_4 (t : Fin cfg0.N) (a : Fin 512) (b : Fin 1024) (A : Fin 4096) (B : Fin 1024)
    (h0 : (t.val) * 512 + a.val = A.val) (h1 : b.val = B.val) : X4 m c t (ix2 a b) = A3 m c (ix2 A B) := by
  obtain ⟨_, _, _, _, _, _, _, _, e0, e1, _⟩ := idx t
  blk_ext [X4, A3, iblk, V, e0, e1]

theorem block_5 (t : Fin cfg0.N) (a : Fin 512) (b : Fin 1024) (A : Fin 4096) (B : Fin 1024)
    (h0 : (t.val) * 512 + a.val = A.val) (h1 : b.val = B.val) : X5 m c t (ix2 a b) = A4 m c (ix2 A B) := by
  obtain ⟨_, _, _, _, _, _, _, _, _, _, e0, e1, _⟩ := idx t
  blk_ext [X5, A4, iblk, V, e0, e1]

/-- The logistic function. -/
def logistic (g : EReal) : EReal := Ideal.div 1 (1 + Ideal.exp (0 - g))

/-- The cotangent of a gate, from the cotangent of the merged row, the branch's value and the gate. -/
def gate (d p g : EReal) : EReal := d * p * logistic g * (1 - logistic g)

/-- The cotangent of the merged row: `x` against row `j` of `w`. -/
def prod {n : ℕ} (x : (⟨2, ![n, 1024]⟩ : Shape).Idx → EReal) (w : (⟨2, ![1024, 1024]⟩ : Shape).Idx → EReal) (r : Fin n) (j : Fin 1024) : EReal :=
  ∑ k : Fin 1024, x (ix2 r k) * w (ix2 j k)

theorem out_da (t : Fin cfg0.N) (r : Fin 512) (j : Fin 1024) : (outsAt0 m c t).2.1 (ix2 r j)
    = prod (X0 m c t) (X1 m c t) r j * logistic (X2 m c t (ix2 r j)) := by
  unfold outsAt0
  frame_out
  open_payloads
  pointwise [read_unread_whole]
  rfl

theorem out_db (t : Fin cfg0.N) (r : Fin 512) (j : Fin 1024) : (outsAt0 m c t).2.2 (ix2 r j)
    = prod (X0 m c t) (X1 m c t) r j * logistic (X3 m c t (ix2 r j)) := by
  unfold outsAt0
  frame_out
  open_payloads
  pointwise [read_unread_whole]
  rfl

theorem out_dg (t : Fin cfg0.N) (r : Fin 512) (j : Fin 2048) : (outsAt0 m c t).1 (ix2 r j)
    = if h : j.val < 1024 then gate (prod (X0 m c t) (X1 m c t) r ⟨j.val, h⟩) (X4 m c t (ix2 r ⟨j.val, h⟩)) (X2 m c t (ix2 r ⟨j.val, h⟩))
      else gate (prod (X0 m c t) (X1 m c t) r ⟨j.val - 1024, by omega⟩) (X5 m c t (ix2 r ⟨j.val - 1024, by omega⟩)) (X3 m c t (ix2 r ⟨j.val - 1024, by omega⟩)) := by
  unfold outsAt0
  frame_out
  have hj : (j.val : ℕ) = ((ix2 r j : S512x2048.Idx) 1).val := rfl
  canon_tiles x h
  case piece0 =>
    have hn : ¬ j.val < 1024 := by omega
    rw [dif_neg hn, show x = ix2 r ⟨j.val - 1024, by omega⟩ from by
      funext a; apply Fin.ext
      match a with
      | ⟨0, _⟩ => exact h0.symm
      | ⟨1, _⟩ => show (x 1).val = j.val - 1024; omega]
    open_payloads
    pointwise [read_unread_whole]
    rfl
  case piece1 =>
    have hn : j.val < 1024 := by omega
    rw [dif_pos hn, show x = ix2 r ⟨j.val, by omega⟩ from by
      funext a; apply Fin.ext
      match a with
      | ⟨0, _⟩ => exact h0.symm
      | ⟨1, _⟩ => show (x 1).val = j.val; omega]
    open_payloads
    pointwise [read_unread_whole]
    rfl

theorem prod_eq (t : Fin cfg0.N) (r : Fin 512) (j : Fin 1024) (R : Fin 4096) (hR : t.val * 512 + r.val = R.val) :
    prod (X0 m c t) (X1 m c t) r j = prod (A0 m c) (A1 m c) R j :=
  Finset.sum_congr rfl fun k _ => by rw [block_0 m c t r k R k hR rfl, block_1 m c t j k j k rfl rfl]

theorem final_da (A : Fin 4096) (B : Fin 1024) : (dats m 0 c).arrAt 7 cfg0.N (ix2 A B) = prod (A0 m c) (A1 m c) A B * logistic (A2 m c (ix2 A ⟨B.val, by omega⟩)) := by
  let t : Fin cfg0.N := ⟨A.val / 512, by show _ < 8; omega⟩
  have ht : t.val = A.val / 512 := rfl
  obtain ⟨_, _, _, _, _, _, _, _, _, _, _, _, _, _, e0, e1, _⟩ := idx t
  let a : Fin 512 := ⟨A.val % 512, by omega⟩
  have ha : a.val = A.val % 512 := rfl
  let b : Fin 1024 := ⟨B.val % 1024, by omega⟩
  have hb : b.val = B.val % 1024 := rfl
  have bl := congrFun (Value.blocks7 m c t (flush0_7 t)) (ix2 a b)
  rw [Value.flushed7] at bl
  have e : ((cfg0.win 7).blk t).view.emb (ix2 a b) = (ix2 A B : S4096x1024.Idx) := by
    funext x; apply Fin.ext
    match x with
    | ⟨0, _⟩ => show win0_7.index t (0 : Fin 2) * 512 + 1 * (A.val % 512) = A.val; omega
    | ⟨1, _⟩ => show win0_7.index t (1 : Fin 2) * 1024 + 1 * (B.val % 1024) = B.val; omega
  have b' : (dats m 0 c).arrAt 7 cfg0.N (((cfg0.win 7).blk t).view.emb (ix2 a b)) = (outsAt0 m c t).2.1 (ix2 a b) := bl
  rw [e] at b'
  clear e bl
  have hB : b = B := Fin.ext (by omega)
  rw [b', out_da, prod_eq m c t a b A (by omega), block_2 m c t a b A ⟨B.val, by omega⟩ (by omega) (by show b.val = B.val; omega), hB]

theorem final_db (A : Fin 4096) (B : Fin 1024) : (dats m 0 c).arrAt 8 cfg0.N (ix2 A B) = prod (A0 m c) (A1 m c) A B * logistic (A2 m c (ix2 A ⟨1024 + B.val, by omega⟩)) := by
  let t : Fin cfg0.N := ⟨A.val / 512, by show _ < 8; omega⟩
  have ht : t.val = A.val / 512 := rfl
  obtain ⟨_, _, _, _, _, _, _, _, _, _, _, _, _, _, _, _, e0, e1⟩ := idx t
  let a : Fin 512 := ⟨A.val % 512, by omega⟩
  have ha : a.val = A.val % 512 := rfl
  let b : Fin 1024 := ⟨B.val % 1024, by omega⟩
  have hb : b.val = B.val % 1024 := rfl
  have bl := congrFun (Value.blocks8 m c t (flush0_8 t)) (ix2 a b)
  rw [Value.flushed8] at bl
  have e : ((cfg0.win 8).blk t).view.emb (ix2 a b) = (ix2 A B : S4096x1024.Idx) := by
    funext x; apply Fin.ext
    match x with
    | ⟨0, _⟩ => show win0_8.index t (0 : Fin 2) * 512 + 1 * (A.val % 512) = A.val; omega
    | ⟨1, _⟩ => show win0_8.index t (1 : Fin 2) * 1024 + 1 * (B.val % 1024) = B.val; omega
  have b' : (dats m 0 c).arrAt 8 cfg0.N (((cfg0.win 8).blk t).view.emb (ix2 a b)) = (outsAt0 m c t).2.2 (ix2 a b) := bl
  rw [e] at b'
  clear e bl
  have hB : b = B := Fin.ext (by omega)
  rw [b', out_db, prod_eq m c t a b A (by omega), block_3 m c t a b A ⟨1024 + B.val, by omega⟩ (by omega) (by show 1 * 1024 + b.val = 1024 + B.val; omega), hB]

theorem final_dg (A : Fin 4096) (B : Fin 2048) : (dats m 0 c).arrAt 6 cfg0.N (ix2 A B) = if h : B.val < 1024 then gate (prod (A0 m c) (A1 m c) A ⟨B.val, h⟩) (A3 m c (ix2 A ⟨B.val, h⟩)) (A2 m c (ix2 A ⟨B.val, by omega⟩))
      else gate (prod (A0 m c) (A1 m c) A ⟨B.val - 1024, by omega⟩) (A4 m c (ix2 A ⟨B.val - 1024, by omega⟩)) (A2 m c (ix2 A ⟨B.val, by omega⟩)) := by
  let t : Fin cfg0.N := ⟨A.val / 512, by show _ < 8; omega⟩
  have ht : t.val = A.val / 512 := rfl
  obtain ⟨_, _, _, _, _, _, _, _, _, _, _, _, e0, e1, _⟩ := idx t
  let a : Fin 512 := ⟨A.val % 512, by omega⟩
  have ha : a.val = A.val % 512 := rfl
  let b : Fin 2048 := ⟨B.val % 2048, by omega⟩
  have hb : b.val = B.val % 2048 := rfl
  have bl := congrFun (Value.blocks6 m c t (flush0_6 t)) (ix2 a b)
  rw [Value.flushed6] at bl
  have e : ((cfg0.win 6).blk t).view.emb (ix2 a b) = (ix2 A B : S4096x2048.Idx) := by
    funext x; apply Fin.ext
    match x with
    | ⟨0, _⟩ => show win0_6.index t (0 : Fin 2) * 512 + 1 * (A.val % 512) = A.val; omega
    | ⟨1, _⟩ => show win0_6.index t (1 : Fin 2) * 2048 + 1 * (B.val % 2048) = B.val; omega
  have b' : (dats m 0 c).arrAt 6 cfg0.N (((cfg0.win 6).blk t).view.emb (ix2 a b)) = (outsAt0 m c t).1 (ix2 a b) := bl
  rw [e] at b'
  clear e bl
  have hB : b = B := Fin.ext (by omega)
  rw [b', out_dg, hB]
  split
  · rename_i h
    rw [prod_eq m c t a _ A (by omega), block_2 m c t a _ A ⟨B.val, by omega⟩ (by omega) rfl, block_4 m c t a _ A ⟨B.val, h⟩ (by omega) rfl]
  · rename_i h
    rw [prod_eq m c t a _ A (by omega), block_3 m c t a _ A ⟨B.val, by omega⟩ (by omega) (by show 1 * 1024 + (B.val - 1024) = B.val; omega),
      block_5 m c t a _ A ⟨B.val - 1024, by omega⟩ (by omega) rfl]

end Cert.MergeBwdValue

end
-- ==== Proof.MergeBwdEqual.lean ====
/-
  `kernel_merge_bwd` against its reference.
-/
module

public import proofs.«01_k».proof.Defs
public import proofs.«01_k».proof.Proof.Gen.MergeBwd.Frame
public import proofs.«01_k».proof.Proof.Gen.MergeBwdRefIdeal.Run
public import proofs.«01_k».proof.Proof.MergeBwdValue
public import Idealize.ShloMosaic.Adequacy

@[expose] public section

noncomputable section

namespace Cert.Proof

open Idealize.ShloMosaic Idealize.ShloMosaic.TcCoe Idealize.SL.Sem

theorem frame_merge_bwd : Cert.quiescent_MergeBwd := fun m ρ _ => Cert.MergeBwd.Gen.frame m ρ
theorem frame_merge_bwd_ideal : Cert.quiescent_MergeBwdIdeal := fun m ρ _ => Cert.MergeBwdIdeal.Gen.frame m ρ
theorem frame_merge_bwd_reference : Cert.quiescent_MergeBwdRefIdeal := fun m ρ _ =>
  (θ_run Cert.MergeBwdRefIdeal.defs _ _).mono (fun r h => ⟨fun c => (h c).2.2.2, sem_eq_zero_of_no_sems (by decide) r.2⟩)
    (Cert.MergeBwdRefIdeal.Value.run (F := Ideal) m ρ)

theorem merge_bwd_equal : Cert.algebraic_MergeBwdIdeal_MergeBwdRefIdeal := by
  intro m ρ m' ρ' _ ha
  refine ⟨fun c => (Cert.MergeBwdIdeal.Gen.dats m 0 c).arrAt 6 Cert.MergeBwdIdeal.cfg0.N,
    fun c => (Cert.MergeBwdIdeal.Gen.dats m 0 c).arrAt 7 Cert.MergeBwdIdeal.cfg0.N,
    fun c => (Cert.MergeBwdIdeal.Gen.dats m 0 c).arrAt 8 Cert.MergeBwdIdeal.cfg0.N,
    Cert.MergeBwdIdeal.Value.run_blocks m ρ, ?_⟩
  refine (θ_run Cert.MergeBwdRefIdeal.defs _ _).mono (fun r h c => ?_) (Cert.MergeBwdRefIdeal.Value.run (F := Ideal) m' ρ')
  obtain ⟨a0, a1, a2, a3, a4⟩ := ha c
  refine ⟨(h c).1.trans ?_, (h c).2.1.trans ?_, (h c).2.2.1.trans ?_, (h c).2.2.2⟩ <;> clear h
  · try rw [a0]
    try rw [a1]
    try rw [a2]
    try rw [a3]
    try rw [a4]
    clear ha a0 a1 a2 a3 a4
    funext (y : Cert.MergeBwdIdeal.S4096x2048.Idx)
    have e : y = ix2 (y 0) (y 1) := by
      funext a; match a with | ⟨0, _⟩ => rfl | ⟨1, _⟩ => rfl
    generalize y 0 = A at e; generalize y 1 = B at e
    rw [e]
    refine Eq.trans ?_ (Cert.MergeBwdValue.final_dg m c A B).symm
    unfold Cert.MergeBwdValue.gate
    unfold Cert.MergeBwdValue.prod Cert.MergeBwdValue.logistic
    pointwise
    simp only [zero_sub]
    have hB : B.val < 2048 := B.isLt
    split
    · exact (mul_assoc _ _ _).symm
    · rename_i h
      rw [show (⟨1024 + (B.val - 1024), by omega⟩ : Fin 5760) = ⟨B.val, by omega⟩ from Fin.ext (by show 1024 + (B.val - 1024) = B.val; omega)]
      exact (mul_assoc _ _ _).symm
  · try rw [a0]
    try rw [a1]
    try rw [a2]
    try rw [a3]
    try rw [a4]
    clear ha a0 a1 a2 a3 a4
    funext (y : Cert.MergeBwdIdeal.S4096x1024.Idx)
    have e : y = ix2 (y 0) (y 1) := by
      funext a; match a with | ⟨0, _⟩ => rfl | ⟨1, _⟩ => rfl
    generalize y 0 = A at e; generalize y 1 = B at e
    rw [e]
    refine Eq.trans ?_ (Cert.MergeBwdValue.final_da m c A B).symm
    unfold Cert.MergeBwdValue.prod Cert.MergeBwdValue.logistic
    pointwise
    simp only [zero_sub]
    rw [mul_comm]
  · try rw [a0]
    try rw [a1]
    try rw [a2]
    try rw [a3]
    try rw [a4]
    clear ha a0 a1 a2 a3 a4
    funext (y : Cert.MergeBwdIdeal.S4096x1024.Idx)
    have e : y = ix2 (y 0) (y 1) := by
      funext a; match a with | ⟨0, _⟩ => rfl | ⟨1, _⟩ => rfl
    generalize y 0 = A at e; generalize y 1 = B at e
    rw [e]
    refine Eq.trans ?_ (Cert.MergeBwdValue.final_db m c A B).symm
    unfold Cert.MergeBwdValue.prod Cert.MergeBwdValue.logistic
    pointwise
    simp only [zero_sub]
    rw [mul_comm]

end Cert.Proof

end
-- ==== Proof.MergeValue.lean ====
/-
  The three results of `kernel_merge`, read at an index.
-/
module

public import proofs.«01_k».proof.Proof.Gen.MergeIdeal.Value
public import Idealize.ShloMosaic.Lib.Pipeline.ValueKit.Point
public import Idealize.ShloMosaic.Lib.Pipeline.ReadBack
public import Idealize.ShloMosaic.Lib.StableHlo.RunRead

@[expose] public section

noncomputable section

namespace Cert.MergeValue

open Idealize.ShloMosaic Idealize.ShloMosaic.TcCoe Idealize.SL.Sem
open Cert.MergeIdeal Cert.MergeIdeal.Gen

variable (m : (ℓ : Loc nD τ sig) → Buf (Elt Ideal) ℓ) (c : Dev nD)

theorem idx : ∀ t : Fin cfg0.N, win0_0.index t (0 : Fin 2) = t.val
    ∧ win0_0.index t (1 : Fin 2) = 0
    ∧ win0_1.index t (0 : Fin 2) = t.val
    ∧ win0_1.index t (1 : Fin 2) = 0
    ∧ win0_2.index t (0 : Fin 2) = 0
    ∧ win0_2.index t (1 : Fin 2) = 0
    ∧ win0_3.index t (0 : Fin 2) = 0
    ∧ win0_3.index t (1 : Fin 2) = 0
    ∧ win0_4.index t (0 : Fin 2) = t.val
    ∧ win0_4.index t (1 : Fin 2) = 0
    ∧ win0_5.index t (0 : Fin 2) = t.val
    ∧ win0_5.index t (1 : Fin 2) = 1
    ∧ win0_6.index t (0 : Fin 2) = t.val
    ∧ win0_6.index t (1 : Fin 2) = 0
    ∧ win0_7.index t (0 : Fin 2) = t.val
    ∧ win0_7.index t (1 : Fin 2) = 0
    ∧ win0_8.index t (0 : Fin 2) = t.val
    ∧ win0_8.index t (1 : Fin 2) = 0 :=
  (by decide +kernel : ∀ t : Fin grid0.N, _)

/-- The argument arrays. -/
abbrev A0 : Vec Ideal S4096x512 .bf16 := m ((c : Thread nD τ).loc main_arg0)
abbrev A1 : Vec Ideal S4096x512 .bf16 := m ((c : Thread nD τ).loc main_arg1)
abbrev A2 : Vec Ideal S512x1024 .f32 := m ((c : Thread nD τ).loc main_arg2)
abbrev A3 : Vec Ideal S512x1024 .f32 := m ((c : Thread nD τ).loc main_arg3)
abbrev A4 : Vec Ideal S4096x5760 .f32 := m ((c : Thread nD τ).loc main_arg4)

/-- The blocks a point reads. -/
abbrev X0 (t : Fin cfg0.N) : Vec Ideal S512x512 .bf16 := iblk m c 0 t
abbrev X1 (t : Fin cfg0.N) : Vec Ideal S512x512 .bf16 := iblk m c 1 t
abbrev X2 (t : Fin cfg0.N) : Vec Ideal S512x1024 .bf16 := iblk m c 2 t
abbrev X3 (t : Fin cfg0.N) : Vec Ideal S512x1024 .bf16 := iblk m c 3 t
abbrev X4 (t : Fin cfg0.N) : Vec Ideal S512x1024 .f32 := Gen.X0_4 m c t
abbrev X5 (t : Fin cfg0.N) : Vec Ideal S512x1024 .f32 := Gen.X0_5 m c t

/-- A branch's weight. -/
theorem entry_v0 : V m c main_v0 = truncf (F := Ideal) .bf16 (m ((c : Thread nD τ).loc main_arg2) : FVec Ideal S512x1024 .f32) bitsLt_bf16_f32 := by
  show StableHlo.after ([hostOps0] : List (List (HloOp τ sig (Elt Ideal)))).flatten (fun b => m (c, b)) (Proc.tc.devRef main_v0) = _
  simp only [List.flatten_cons, List.flatten_nil, List.cons_append, List.nil_append, List.append_nil]
  after_reads_simp

/-- A branch's weight. -/
theorem entry_v1 : V m c main_v1 = truncf (F := Ideal) .bf16 (m ((c : Thread nD τ).loc main_arg3) : FVec Ideal S512x1024 .f32) bitsLt_bf16_f32 := by
  show StableHlo.after ([hostOps0] : List (List (HloOp τ sig (Elt Ideal)))).flatten (fun b => m (c, b)) (Proc.tc.devRef main_v1) = _
  simp only [List.flatten_cons, List.flatten_nil, List.cons_append, List.nil_append, List.append_nil]
  after_reads_simp

theorem block_0 (t : Fin cfg0.N) (a : Fin 512) (b : Fin 512) (A : Fin 4096) (B : Fin 512)
    (h0 : (t.val) * 512 + a.val = A.val) (h1 : b.val = B.val) : X0 m c t (ix2 a b) = A0 m c (ix2 A B) := by
  obtain ⟨e0, e1, _⟩ := idx t
  blk_ext [X0, A0, iblk, V, e0, e1]

theorem block_1 (t : Fin cfg0.N) (a : Fin 512) (b : Fin 512) (A : Fin 4096) (B : Fin 512)
    (h0 : (t.val) * 512 + a.val = A.val) (h1 : b.val = B.val) : X1 m c t (ix2 a b) = A1 m c (ix2 A B) := by
  obtain ⟨_, _, e0, e1, _⟩ := idx t
  blk_ext [X1, A1, iblk, V, e0, e1]

theorem block_2 (t : Fin cfg0.N) (a : Fin 512) (b : Fin 1024) (A : Fin 512) (B : Fin 1024)
    (h0 : a.val = A.val) (h1 : b.val = B.val) : X2 m c t (ix2 a b) = A2 m c (ix2 A B) := by
  obtain ⟨_, _, _, _, e0, e1, _⟩ := idx t
  show V m c main_v0 (((cfg0.win 2).blk t).view.emb (ix2 a b )) = _
  have e : ((cfg0.win 2).blk t).view.emb (ix2 a b) = (ix2 A B : S512x1024.Idx) := by
    funext x; apply Fin.ext
    match x with
    | ⟨0, _⟩ => show win0_2.index t (0 : Fin 2) * 512 + 1 * a.val = A.val; omega
    | ⟨1, _⟩ => show win0_2.index t (1 : Fin 2) * 1024 + 1 * b.val = B.val; omega
  rw [e, entry_v0]
  pointwise

theorem block_3 (t : Fin cfg0.N) (a : Fin 512) (b : Fin 1024) (A : Fin 512) (B : Fin 1024)
    (h0 : a.val = A.val) (h1 : b.val = B.val) : X3 m c t (ix2 a b) = A3 m c (ix2 A B) := by
  obtain ⟨_, _, _, _, _, _, e0, e1, _⟩ := idx t
  show V m c main_v1 (((cfg0.win 3).blk t).view.emb (ix2 a b )) = _
  have e : ((cfg0.win 3).blk t).view.emb (ix2 a b) = (ix2 A B : S512x1024.Idx) := by
    funext x; apply Fin.ext
    match x with
    | ⟨0, _⟩ => show win0_3.index t (0 : Fin 2) * 512 + 1 * a.val = A.val; omega
    | ⟨1, _⟩ => show win0_3.index t (1 : Fin 2) * 1024 + 1 * b.val = B.val; omega
  rw [e, entry_v1]
  pointwise

theorem block_4 (t : Fin cfg0.N) (a : Fin 512) (b : Fin 1024) (A : Fin 4096) (B : Fin 5760)
    (h0 : (t.val) * 512 + a.val = A.val) (h1 : b.val = B.val) : X4 m c t (ix2 a b) = A4 m c (ix2 A B) := by
  obtain ⟨_, _, _, _, _, _, _, _, e0, e1, _⟩ := idx t
  show (cfg0.win 4).fill (cfg0.grid.coords t) dflt0_4 (iblk m c 4 t) (ix2 a b) = _
  unfold Pipeline.Window.fill
  rw [dif_pos (moved0_4 t _)]
  refine (show _ = V m c main_arg4 (((cfg0.win 4).blk t).view.emb _) from rfl).trans ?_
  have e : ∀ y : S4096x5760.Idx, y = (ix2 A B : S4096x5760.Idx) → V m c main_arg4 y = A4 m c (ix2 A B) := by
    rintro y rfl; rfl
  apply e
  funext x; apply Fin.ext
  match x with
  | ⟨0, _⟩ => show win0_4.index t (0 : Fin 2) * 512 + 1 * a.val = A.val; omega
  | ⟨1, _⟩ => show win0_4.index t (1 : Fin 2) * 1024 + 1 * b.val = B.val; omega

theorem block_5 (t : Fin cfg0.N) (a : Fin 512) (b : Fin 1024) (A : Fin 4096) (B : Fin 5760)
    (h0 : (t.val) * 512 + a.val = A.val) (h1 : (1) * 1024 + b.val = B.val) : X5 m c t (ix2 a b) = A4 m c (ix2 A B) := by
  obtain ⟨_, _, _, _, _, _, _, _, _, _, e0, e1, _⟩ := idx t
  show (cfg0.win 5).fill (cfg0.grid.coords t) dflt0_5 (iblk m c 5 t) (ix2 a b) = _
  unfold Pipeline.Window.fill
  rw [dif_pos (moved0_5 t _)]
  refine (show _ = V m c main_arg4 (((cfg0.win 5).blk t).view.emb _) from rfl).trans ?_
  have e : ∀ y : S4096x5760.Idx, y = (ix2 A B : S4096x5760.Idx) → V m c main_arg4 y = A4 m c (ix2 A B) := by
    rintro y rfl; rfl
  apply e
  funext x; apply Fin.ext
  match x with
  | ⟨0, _⟩ => show win0_5.index t (0 : Fin 2) * 512 + 1 * a.val = A.val; omega
  | ⟨1, _⟩ => show win0_5.index t (1 : Fin 2) * 1024 + 1 * b.val = B.val; omega

/-- The logistic function. -/
def logistic (g : EReal) : EReal := Ideal.div 1 (1 + Ideal.exp (0 - g))

/-- A branch's row `r` against column `j` of its weight. -/
def prod {n : ℕ} (x : (⟨2, ![n, 512]⟩ : Shape).Idx → EReal) (w : (⟨2, ![512, 1024]⟩ : Shape).Idx → EReal) (r : Fin n) (j : Fin 1024) : EReal :=
  ∑ k : Fin 512, x (ix2 r k) * w (ix2 k j)

theorem out_pa (t : Fin cfg0.N) (r : Fin 512) (j : Fin 1024) : (outsAt0 m c t).1 (ix2 r j)
    = prod (X0 m c t) (X2 m c t) r j := by
  unfold outsAt0
  frame_out
  open_payloads
  pointwise [read_unread_whole]
  rfl

theorem out_pb (t : Fin cfg0.N) (r : Fin 512) (j : Fin 1024) : (outsAt0 m c t).2.1 (ix2 r j)
    = prod (X1 m c t) (X3 m c t) r j := by
  unfold outsAt0
  frame_out
  open_payloads
  pointwise [read_unread_whole]
  rfl

theorem out_o (t : Fin cfg0.N) (r : Fin 512) (j : Fin 1024) : (outsAt0 m c t).2.2 (ix2 r j)
    = logistic (X4 m c t (ix2 r j)) * prod (X0 m c t) (X2 m c t) r j + logistic (X5 m c t (ix2 r j)) * prod (X1 m c t) (X3 m c t) r j := by
  unfold outsAt0
  frame_out
  open_payloads
  pointwise [read_unread_whole]
  rfl

theorem prod_a (t : Fin cfg0.N) (r : Fin 512) (j : Fin 1024) (R : Fin 4096) (hR : t.val * 512 + r.val = R.val) :
    prod (X0 m c t) (X2 m c t) r j = prod (A0 m c) (A2 m c) R j :=
  Finset.sum_congr rfl fun k _ => by rw [block_0 m c t r k R k hR rfl, block_2 m c t k j k j rfl rfl]

theorem prod_b (t : Fin cfg0.N) (r : Fin 512) (j : Fin 1024) (R : Fin 4096) (hR : t.val * 512 + r.val = R.val) :
    prod (X1 m c t) (X3 m c t) r j = prod (A1 m c) (A3 m c) R j :=
  Finset.sum_congr rfl fun k _ => by rw [block_1 m c t r k R k hR rfl, block_3 m c t k j k j rfl rfl]

theorem final_pa (A : Fin 4096) (B : Fin 1024) : (dats m 0 c).arrAt 6 cfg0.N (ix2 A B) = prod (A0 m c) (A2 m c) A B := by
  let t : Fin cfg0.N := ⟨A.val / 512, by show _ < 8; omega⟩
  have ht : t.val = A.val / 512 := rfl
  obtain ⟨_, _, _, _, _, _, _, _, _, _, _, _, e0, e1, _⟩ := idx t
  let a : Fin 512 := ⟨A.val % 512, by omega⟩
  have ha : a.val = A.val % 512 := rfl
  let b : Fin 1024 := ⟨B.val % 1024, by omega⟩
  have hb : b.val = B.val % 1024 := rfl
  have bl := congrFun (Value.blocks6 m c t (flush0_6 t)) (ix2 a b)
  rw [Value.flushed6] at bl
  have e : ((cfg0.win 6).blk t).view.emb (ix2 a b) = (ix2 A B : S4096x1024.Idx) := by
    funext x; apply Fin.ext
    match x with
    | ⟨0, _⟩ => show win0_6.index t (0 : Fin 2) * 512 + 1 * (A.val % 512) = A.val; omega
    | ⟨1, _⟩ => show win0_6.index t (1 : Fin 2) * 1024 + 1 * (B.val % 1024) = B.val; omega
  have b' : (dats m 0 c).arrAt 6 cfg0.N (((cfg0.win 6).blk t).view.emb (ix2 a b)) = (outsAt0 m c t).1 (ix2 a b) := bl
  rw [e] at b'
  clear e bl
  have hB : b = B := Fin.ext (by omega)
  rw [b', out_pa, prod_a m c t a b A (by omega), hB]

theorem final_pb (A : Fin 4096) (B : Fin 1024) : (dats m 0 c).arrAt 7 cfg0.N (ix2 A B) = prod (A1 m c) (A3 m c) A B := by
  let t : Fin cfg0.N := ⟨A.val / 512, by show _ < 8; omega⟩
  have ht : t.val = A.val / 512 := rfl
  obtain ⟨_, _, _, _, _, _, _, _, _, _, _, _, _, _, e0, e1, _⟩ := idx t
  let a : Fin 512 := ⟨A.val % 512, by omega⟩
  have ha : a.val = A.val % 512 := rfl
  let b : Fin 1024 := ⟨B.val % 1024, by omega⟩
  have hb : b.val = B.val % 1024 := rfl
  have bl := congrFun (Value.blocks7 m c t (flush0_7 t)) (ix2 a b)
  rw [Value.flushed7] at bl
  have e : ((cfg0.win 7).blk t).view.emb (ix2 a b) = (ix2 A B : S4096x1024.Idx) := by
    funext x; apply Fin.ext
    match x with
    | ⟨0, _⟩ => show win0_7.index t (0 : Fin 2) * 512 + 1 * (A.val % 512) = A.val; omega
    | ⟨1, _⟩ => show win0_7.index t (1 : Fin 2) * 1024 + 1 * (B.val % 1024) = B.val; omega
  have b' : (dats m 0 c).arrAt 7 cfg0.N (((cfg0.win 7).blk t).view.emb (ix2 a b)) = (outsAt0 m c t).2.1 (ix2 a b) := bl
  rw [e] at b'
  clear e bl
  have hB : b = B := Fin.ext (by omega)
  rw [b', out_pb, prod_b m c t a b A (by omega), hB]

theorem final_o (A : Fin 4096) (B : Fin 1024) : (dats m 0 c).arrAt 8 cfg0.N (ix2 A B) = logistic (A4 m c (ix2 A ⟨B.val, by omega⟩)) * prod (A0 m c) (A2 m c) A B + logistic (A4 m c (ix2 A ⟨1024 + B.val, by omega⟩)) * prod (A1 m c) (A3 m c) A B := by
  let t : Fin cfg0.N := ⟨A.val / 512, by show _ < 8; omega⟩
  have ht : t.val = A.val / 512 := rfl
  obtain ⟨_, _, _, _, _, _, _, _, _, _, _, _, _, _, _, _, e0, e1⟩ := idx t
  let a : Fin 512 := ⟨A.val % 512, by omega⟩
  have ha : a.val = A.val % 512 := rfl
  let b : Fin 1024 := ⟨B.val % 1024, by omega⟩
  have hb : b.val = B.val % 1024 := rfl
  have bl := congrFun (Value.blocks8 m c t (flush0_8 t)) (ix2 a b)
  rw [Value.flushed8] at bl
  have e : ((cfg0.win 8).blk t).view.emb (ix2 a b) = (ix2 A B : S4096x1024.Idx) := by
    funext x; apply Fin.ext
    match x with
    | ⟨0, _⟩ => show win0_8.index t (0 : Fin 2) * 512 + 1 * (A.val % 512) = A.val; omega
    | ⟨1, _⟩ => show win0_8.index t (1 : Fin 2) * 1024 + 1 * (B.val % 1024) = B.val; omega
  have b' : (dats m 0 c).arrAt 8 cfg0.N (((cfg0.win 8).blk t).view.emb (ix2 a b)) = (outsAt0 m c t).2.2 (ix2 a b) := bl
  rw [e] at b'
  clear e bl
  have hB : b = B := Fin.ext (by omega)
  rw [b', out_o, prod_a m c t a b A (by omega), prod_b m c t a b A (by omega),
    block_4 m c t a b A ⟨B.val, by omega⟩ (by omega) (by show b.val = B.val; omega),
    block_5 m c t a b A ⟨1024 + B.val, by omega⟩ (by omega) (by show 1 * 1024 + b.val = 1024 + B.val; omega), hB]

end Cert.MergeValue

end
-- ==== Proof.MergeEqual.lean ====
/-
  `kernel_merge` against its reference.
-/
module

public import proofs.«01_k».proof.Defs
public import proofs.«01_k».proof.Proof.Gen.Merge.Frame
public import proofs.«01_k».proof.Proof.Gen.MergeRefIdeal.Run
public import proofs.«01_k».proof.Proof.MergeValue
public import Idealize.ShloMosaic.Adequacy

@[expose] public section

noncomputable section

namespace Cert.Proof

open Idealize.ShloMosaic Idealize.ShloMosaic.TcCoe Idealize.SL.Sem

theorem frame_merge : Cert.quiescent_Merge := fun m ρ _ => Cert.Merge.Gen.frame m ρ
theorem frame_merge_ideal : Cert.quiescent_MergeIdeal := fun m ρ _ => Cert.MergeIdeal.Gen.frame m ρ
theorem frame_merge_reference : Cert.quiescent_MergeRefIdeal := fun m ρ _ =>
  (θ_run Cert.MergeRefIdeal.defs _ _).mono (fun r h => ⟨fun c => (h c).2.2.2, sem_eq_zero_of_no_sems (by decide) r.2⟩)
    (Cert.MergeRefIdeal.Value.run (F := Ideal) m ρ)

theorem merge_equal : Cert.algebraic_MergeIdeal_MergeRefIdeal := by
  intro m ρ m' ρ' _ ha
  refine ⟨fun c => (Cert.MergeIdeal.Gen.dats m 0 c).arrAt 6 Cert.MergeIdeal.cfg0.N,
    fun c => (Cert.MergeIdeal.Gen.dats m 0 c).arrAt 7 Cert.MergeIdeal.cfg0.N,
    fun c => (Cert.MergeIdeal.Gen.dats m 0 c).arrAt 8 Cert.MergeIdeal.cfg0.N,
    Cert.MergeIdeal.Value.run_blocks m ρ, ?_⟩
  refine (θ_run Cert.MergeRefIdeal.defs _ _).mono (fun r h c => ?_) (Cert.MergeRefIdeal.Value.run (F := Ideal) m' ρ')
  obtain ⟨a0, a1, a2, a3, a4⟩ := ha c
  refine ⟨(h c).1.trans ?_, (h c).2.1.trans ?_, (h c).2.2.1.trans ?_, (h c).2.2.2⟩ <;> clear h
  · try rw [a0]
    try rw [a1]
    try rw [a2]
    try rw [a3]
    try rw [a4]
    clear ha a0 a1 a2 a3 a4
    funext (y : Cert.MergeIdeal.S4096x1024.Idx)
    have e : y = ix2 (y 0) (y 1) := by
      funext a; match a with | ⟨0, _⟩ => rfl | ⟨1, _⟩ => rfl
    generalize y 0 = A at e; generalize y 1 = B at e
    rw [e]
    refine Eq.trans ?_ (Cert.MergeValue.final_pa m c A B).symm
    unfold Cert.MergeValue.prod
    pointwise
  · try rw [a0]
    try rw [a1]
    try rw [a2]
    try rw [a3]
    try rw [a4]
    clear ha a0 a1 a2 a3 a4
    funext (y : Cert.MergeIdeal.S4096x1024.Idx)
    have e : y = ix2 (y 0) (y 1) := by
      funext a; match a with | ⟨0, _⟩ => rfl | ⟨1, _⟩ => rfl
    generalize y 0 = A at e; generalize y 1 = B at e
    rw [e]
    refine Eq.trans ?_ (Cert.MergeValue.final_pb m c A B).symm
    unfold Cert.MergeValue.prod
    pointwise
  · try rw [a0]
    try rw [a1]
    try rw [a2]
    try rw [a3]
    try rw [a4]
    clear ha a0 a1 a2 a3 a4
    funext (y : Cert.MergeIdeal.S4096x1024.Idx)
    have e : y = ix2 (y 0) (y 1) := by
      funext a; match a with | ⟨0, _⟩ => rfl | ⟨1, _⟩ => rfl
    generalize y 0 = A at e; generalize y 1 = B at e
    rw [e]
    refine Eq.trans ?_ (Cert.MergeValue.final_o m c A B).symm
    unfold Cert.MergeValue.prod Cert.MergeValue.logistic
    pointwise
    simp only [zero_sub]

end Cert.Proof

end
-- ==== Proof.FfnOutValue.lean ====
/-
  The three results of `kernel_ffn_out`, read at an index.
-/
module

public import proofs.«01_k».proof.Proof.Gen.FfnOutIdeal.Value
public import Idealize.ShloMosaic.Lib.Pipeline.ValueKit.Point
public import Idealize.ShloMosaic.Lib.Pipeline.ReadBack
public import Idealize.ShloMosaic.Lib.StableHlo.RunRead

@[expose] public section

noncomputable section

namespace Cert.FfnOutValue

open Idealize.ShloMosaic Idealize.ShloMosaic.TcCoe Idealize.SL.Sem
open Cert.FfnOutIdeal Cert.FfnOutIdeal.Gen

variable (m : (ℓ : Loc nD τ sig) → Buf (Elt Ideal) ℓ) (c : Dev nD)

theorem idx : ∀ t : Fin cfg0.N, win0_0.index t (0 : Fin 2) = t.val / 2
    ∧ win0_0.index t (1 : Fin 2) = t.val % 2
    ∧ win0_1.index t (0 : Fin 2) = t.val % 2
    ∧ win0_1.index t (1 : Fin 2) = 0
    ∧ win0_2.index t (0 : Fin 2) = t.val / 2
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 2) = t.val / 2
    ∧ win0_7.index t (1 : Fin 2) = 0
    ∧ win0_8.index t (0 : Fin 2) = t.val / 2
    ∧ win0_8.index t (1 : Fin 2) = 0
    ∧ win0_9.index t (0 : Fin 2) = t.val / 2
    ∧ win0_9.index t (1 : Fin 2) = 0 :=
  (by decide +kernel : ∀ t : Fin grid0.N, _)

/-- The argument arrays. -/
abbrev A0 : Vec Ideal S4096x2816 .bf16 := m ((c : Thread nD τ).loc main_arg0)
abbrev A1 : Vec Ideal S2816x1024 .f32 := m ((c : Thread nD τ).loc main_arg1)
abbrev A2 : Vec Ideal S4096x1024 .f32 := m ((c : Thread nD τ).loc main_arg2)
abbrev A3 : Vec Ideal S1x1024 .f32 := m ((c : Thread nD τ).loc main_arg3)
abbrev A4 : Vec Ideal S1024 .f32 := m ((c : Thread nD τ).loc main_arg4)
abbrev A5 : Vec Ideal S1x1024 .f32 := m ((c : Thread nD τ).loc main_arg5)
abbrev A6 : Vec Ideal S1x1024 .f32 := m ((c : Thread nD τ).loc main_arg6)

/-- The blocks a point reads. -/
abbrev X0 (t : Fin cfg0.N) : Vec Ideal S512x1408 .bf16 := iblk m c 0 t
abbrev X1 (t : Fin cfg0.N) : Vec Ideal S1408x1024 .bf16 := iblk m c 1 t
abbrev X2 (t : Fin cfg0.N) : Vec Ideal S512x1024 .f32 := iblk m c 2 t
abbrev X3 (t : Fin cfg0.N) : Vec Ideal S1x1024 .f32 := iblk m c 3 t
abbrev X4 (t : Fin cfg0.N) : Vec Ideal S1x1024 .f32 := iblk m c 4 t
abbrev X5 (t : Fin cfg0.N) : Vec Ideal S1x1024 .f32 := iblk m c 5 t
abbrev X6 (t : Fin cfg0.N) : Vec Ideal S1x1024 .f32 := iblk m c 6 t

/-- The weight. -/
theorem entry_v0 : V m c main_v0 = truncf (F := Ideal) .bf16 (m ((c : Thread nD τ).loc main_arg1) : FVec Ideal S2816x1024 .f32) bitsLt_bf16_f32 := by
  show StableHlo.after ([hostOps0] : List (List (HloOp τ sig (Elt Ideal)))).flatten (fun b => m (c, b)) (Proc.tc.devRef main_v0) = _
  simp only [List.flatten_cons, List.flatten_nil, List.cons_append, List.nil_append, List.append_nil]
  after_reads_simp

/-- The gain. -/
theorem entry_v1 : V m c main_v1 = shapeCast S1x1024 (m ((c : Thread nD τ).loc main_arg4) : FVec Ideal S1024 .f32) shapeCasts_S1024_S1x1024 := by
  show StableHlo.after ([hostOps0] : List (List (HloOp τ sig (Elt Ideal)))).flatten (fun b => m (c, b)) (Proc.tc.devRef main_v1) = _
  simp only [List.flatten_cons, List.flatten_nil, List.cons_append, List.nil_append, List.append_nil]
  after_reads_simp
  rfl

theorem block_0 (t : Fin cfg0.N) (a : Fin 512) (b : Fin 1408) (A : Fin 4096) (B : Fin 2816)
    (h0 : (t.val / 2) * 512 + a.val = A.val) (h1 : (t.val % 2) * 1408 + b.val = B.val) : X0 m c t (ix2 a b) = A0 m c (ix2 A B) := by
  obtain ⟨e0, e1, _⟩ := idx t
  blk_ext [X0, A0, iblk, V, e0, e1]

theorem block_1 (t : Fin cfg0.N) (a : Fin 1408) (b : Fin 1024) (A : Fin 2816) (B : Fin 1024)
    (h0 : (t.val % 2) * 1408 + a.val = A.val) (h1 : b.val = B.val) : X1 m c t (ix2 a b) = A1 m c (ix2 A B) := by
  obtain ⟨_, _, e0, e1, _⟩ := idx t
  show V m c main_v0 (((cfg0.win 1).blk t).view.emb (ix2 a b )) = _
  have e : ((cfg0.win 1).blk t).view.emb (ix2 a b) = (ix2 A B : S2816x1024.Idx) := by
    funext x; apply Fin.ext
    match x with
    | ⟨0, _⟩ => show win0_1.index t (0 : Fin 2) * 1408 + 1 * a.val = A.val; omega
    | ⟨1, _⟩ => show win0_1.index t (1 : Fin 2) * 1024 + 1 * b.val = B.val; omega
  rw [e, entry_v0]
  pointwise

theorem block_2 (t : Fin cfg0.N) (a : Fin 512) (b : Fin 1024) (A : Fin 4096) (B : Fin 1024)
    (h0 : (t.val / 2) * 512 + a.val = A.val) (h1 : b.val = B.val) : X2 m c t (ix2 a b) = A2 m c (ix2 A B) := by
  obtain ⟨_, _, _, _, e0, e1, _⟩ := idx t
  blk_ext [X2, A2, iblk, V, e0, e1]

theorem block_3 (t : Fin cfg0.N) (a : Fin 1) (b : Fin 1024) (A : Fin 1) (B : Fin 1024)
    (h0 : a.val = A.val) (h1 : b.val = B.val) : X3 m c t (ix2 a b) = A3 m c (ix2 A B) := by
  obtain ⟨_, _, _, _, _, _, e0, e1, _⟩ := idx t
  blk_ext [X3, A3, iblk, V, e0, e1]

theorem block_5 (t : Fin cfg0.N) (a : Fin 1) (b : Fin 1024) (A : Fin 1) (B : Fin 1024)
    (h0 : a.val = A.val) (h1 : b.val = B.val) : X5 m c t (ix2 a b) = A5 m c (ix2 A B) := by
  obtain ⟨_, _, _, _, _, _, _, _, _, _, e0, e1, _⟩ := idx t
  blk_ext [X5, A5, iblk, V, e0, e1]

theorem block_6 (t : Fin cfg0.N) (a : Fin 1) (b : Fin 1024) (A : Fin 1) (B : Fin 1024)
    (h0 : a.val = A.val) (h1 : b.val = B.val) : X6 m c t (ix2 a b) = A6 m c (ix2 A B) := by
  obtain ⟨_, _, _, _, _, _, _, _, _, _, _, _, e0, e1, _⟩ := idx t
  blk_ext [X6, A6, iblk, V, e0, e1]

theorem block_4 (t : Fin cfg0.N) (a : Fin 1) (b : Fin 1024) (A : Fin 1) (B : Fin 1024)
    (h0 : a.val = A.val) (h1 : b.val = B.val) : X4 m c t (ix2 a b) = A4 m c (ix1 B) := by
  obtain ⟨_, _, _, _, _, _, _, _, e0, e1, _⟩ := idx t
  show V m c main_v1 (((cfg0.win 4).blk t).view.emb (ix2 a b )) = _
  have e : ((cfg0.win 4).blk t).view.emb (ix2 a b) = (ix2 A B : S1x1024.Idx) := by
    funext x; apply Fin.ext
    match x with
    | ⟨0, _⟩ => show win0_4.index t (0 : Fin 2) * 1 + 1 * a.val = A.val; omega
    | ⟨1, _⟩ => show win0_4.index t (1 : Fin 2) * 1024 + 1 * b.val = B.val; omega
  rw [e, entry_v1]
  pointwise

/-- A row's length. -/
abbrev width : EReal := Ideal.ofBits .f32 1149239296#32

/-- What is added to the mean square. -/
abbrev eps : EReal := Ideal.ofBits .f32 897988541#32

/-- Row `r` of `a` against column `j` of `w`. -/
def prod {n l : ℕ} (a : (⟨2, ![n, l]⟩ : Shape).Idx → EReal) (w : (⟨2, ![l, 1024]⟩ : Shape).Idx → EReal) (r : Fin n) (j : Fin 1024) : EReal :=
  ∑ k : Fin l, a (ix2 r k) * w (ix2 k j)

/-- The normalised row, scaled and shifted. -/
def adaln (x : Fin 1024 → EReal) (g sc sh : EReal) (j : Fin 1024) : EReal :=
  x j * Ideal.rsqrt (Ideal.div (∑ k, x k * x k) width + eps) * g * (1 + sc) + sh

/-- A sum in two halves. -/
theorem halves (n : ℕ) (f : Fin (n + n) → EReal) :
    ∑ k, f k = (∑ k : Fin n, f ⟨k.val, by omega⟩) + ∑ k : Fin n, f ⟨n + k.val, by omega⟩ :=
  Fin.sum_univ_add f

theorem blocks7 (t : Fin cfg0.N) (h : t.val % 2 = 1) :
    ((cfg0.win 7).blk t).view.read (Elt Ideal) ((dats m 0 c).arrAt 7 cfg0.N) = (dats m 0 c).flushed 7 t := by
  have inj : ∀ t t' : Fin cfg0.N, t.val % 2 = 1 → t'.val % 2 = 1 → win0_7.index t = win0_7.index t' → t = t' := by
    intro t t' h h' e
    have g0 := congrFun e 0
    obtain ⟨_, _, _, _, _, _, _, _, _, _, _, _, _, _, e0, e1, _⟩ := idx t
    have f0 : win0_7.index t' (0 : Fin 2) = t'.val / 2 := by
      obtain ⟨_, _, _, _, _, _, _, _, _, _, _, _, _, _, e0, e1, _⟩ := idx t'
      assumption
    exact Fin.ext (by omega)
  exact (dats m 0 c).read_blk_arrAt_eq_flushed 7
    (fun t t' hf hf' hne => (cfg0.win 7).disjoint_blk fun e => hne (inj t t' ((flush0_7 t).mp hf) ((flush0_7 t').mp hf') e))
    cfg0.N t t.isLt ((flush0_7 t).mpr h)

theorem blocks8 (t : Fin cfg0.N) (h : t.val % 2 = 1) :
    ((cfg0.win 8).blk t).view.read (Elt Ideal) ((dats m 0 c).arrAt 8 cfg0.N) = (dats m 0 c).flushed 8 t := by
  have inj : ∀ t t' : Fin cfg0.N, t.val % 2 = 1 → t'.val % 2 = 1 → win0_8.index t = win0_8.index t' → t = t' := by
    intro t t' h h' e
    have g0 := congrFun e 0
    obtain ⟨_, _, _, _, _, _, _, _, _, _, _, _, _, _, _, _, e0, e1, _⟩ := idx t
    have f0 : win0_8.index t' (0 : Fin 2) = t'.val / 2 := by
      obtain ⟨_, _, _, _, _, _, _, _, _, _, _, _, _, _, _, _, e0, e1, _⟩ := idx t'
      assumption
    exact Fin.ext (by omega)
  exact (dats m 0 c).read_blk_arrAt_eq_flushed 8
    (fun t t' hf hf' hne => (cfg0.win 8).disjoint_blk fun e => hne (inj t t' ((flush0_8 t).mp hf) ((flush0_8 t').mp hf') e))
    cfg0.N t t.isLt ((flush0_8 t).mpr h)

theorem blocks9 (t : Fin cfg0.N) (h : t.val % 2 = 1) :
    ((cfg0.win 9).blk t).view.read (Elt Ideal) ((dats m 0 c).arrAt 9 cfg0.N) = (dats m 0 c).flushed 9 t := by
  have inj : ∀ t t' : Fin cfg0.N, t.val % 2 = 1 → t'.val % 2 = 1 → win0_9.index t = win0_9.index t' → t = t' := by
    intro t t' h h' e
    have g0 := congrFun e 0
    obtain ⟨_, _, _, _, _, _, _, _, _, _, _, _, _, _, _, _, _, _, e0, e1⟩ := idx t
    have f0 : win0_9.index t' (0 : Fin 2) = t'.val / 2 := by
      obtain ⟨_, _, _, _, _, _, _, _, _, _, _, _, _, _, _, _, _, _, e0, e1⟩ := idx t'
      assumption
    exact Fin.ext (by omega)
  exact (dats m 0 c).read_blk_arrAt_eq_flushed 9
    (fun t t' hf hf' hne => (cfg0.win 9).disjoint_blk fun e => hne (inj t t' ((flush0_9 t).mp hf) ((flush0_9 t').mp hf') e))
    cfg0.N t t.isLt ((flush0_9 t).mpr h)

/-- What a point adds. -/
def part (t : Fin cfg0.N) (r : Fin 512) (j : Fin 1024) : EReal := prod (X0 m c t) (X1 m c t) r j

theorem first (t : Fin cfg0.N) (h : t.val % 2 = 0) (r : Fin 512) (j : Fin 1024) : (outsAt0 m c t.val t.isLt).1 (ix2 r j) = part m c t r j := by
  rw [outsAt0_A m c t h (by omega) (by omega)]
  frame_out
  open_payloads
  pointwise [read_unread_whole]
  rfl

/-- The product a pair of points ends with. -/
def both (t t' : Fin cfg0.N) (r : Fin 512) (j : Fin 1024) : EReal := part m c t' r j + part m c t r j

/-- The row the block's residual stream ends as. -/
def xo (t t' : Fin cfg0.N) (r : Fin 512) (j : Fin 1024) : EReal := X2 m c t (ix2 r j) + X3 m c t (ix2 0 j) * both m c t t' r j

theorem out_t (t t' : Fin cfg0.N) (h : t.val % 2 = 1) (ht : t'.val + 1 = t.val) (r : Fin 512) (j : Fin 1024) :
    (outsAt0 m c t.val t.isLt).1 (ix2 r j) = both m c t t' r j := by
  unfold both
  simp only [← first m c t' (by omega)]
  rw [outsAt0_B m c t (by omega) h h]
  have e' : (outsAt0 m c (t.val - 1) (by omega)).1 = (outsAt0 m c t'.val t'.isLt).1 := by
    congr 2; omega
  rw [e']
  generalize (outsAt0 m c t'.val t'.isLt).1 = acc
  frame_out
  open_payloads
  pointwise [read_unread_whole]
  rfl

theorem out_x (t t' : Fin cfg0.N) (h : t.val % 2 = 1) (ht : t'.val + 1 = t.val) (r : Fin 512) (j : Fin 1024) :
    (outsAt0 m c t.val t.isLt).2.1 (ix2 r j) = xo m c t t' r j := by
  unfold xo both
  simp only [← first m c t' (by omega)]
  rw [outsAt0_B m c t (by omega) h h]
  have e' : (outsAt0 m c (t.val - 1) (by omega)).1 = (outsAt0 m c t'.val t'.isLt).1 := by
    congr 2; omega
  rw [e']
  generalize (outsAt0 m c t'.val t'.isLt).1 = acc
  frame_out
  open_payloads
  pointwise [read_unread_whole]
  rfl

theorem out_h (t t' : Fin cfg0.N) (h : t.val % 2 = 1) (ht : t'.val + 1 = t.val) (r : Fin 512) (j : Fin 1024) :
    (outsAt0 m c t.val t.isLt).2.2 (ix2 r j) = adaln (xo m c t t' r) (X4 m c t (ix2 0 j)) (X5 m c t (ix2 0 j)) (X6 m c t (ix2 0 j)) j := by
  unfold adaln xo both
  simp only [← first m c t' (by omega)]
  rw [outsAt0_B m c t (by omega) h h]
  have e' : (outsAt0 m c (t.val - 1) (by omega)).1 = (outsAt0 m c t'.val t'.isLt).1 := by
    congr 2; omega
  rw [e']
  generalize (outsAt0 m c t'.val t'.isLt).1 = acc
  frame_out
  open_payloads
  pointwise [read_unread_whole]
  rfl

theorem both_eq (t t' : Fin cfg0.N) (h : t.val % 2 = 1) (ht : t'.val + 1 = t.val) (r : Fin 512) (j : Fin 1024) (R : Fin 4096) (hR : (t.val / 2) * 512 + r.val = R.val) :
    both m c t t' r j = prod (A0 m c) (A1 m c) R j := by
  unfold both part prod
  refine Eq.trans ?_ (halves 1408 fun k : Fin 2816 => A0 m c (ix2 R k) * A1 m c (ix2 k j)).symm
  refine congrArg₂ (· + ·) (Finset.sum_congr rfl fun k _ => ?_) (Finset.sum_congr rfl fun k _ => ?_)
  · rw [block_0 m c t' r k R ⟨k.val, by omega⟩ (by omega) (by show _ = k.val; omega), block_1 m c t' k j ⟨k.val, by omega⟩ j (by show _ = k.val; omega) rfl]
  · rw [block_0 m c t r k R ⟨1408 + k.val, by omega⟩ (by omega) (by show _ = 1408 + k.val; omega), block_1 m c t k j ⟨1408 + k.val, by omega⟩ j (by show _ = 1408 + k.val; omega) rfl]

/-- The row the residual stream ends as. -/
def stream (R : Fin 4096) (j : Fin 1024) : EReal := A2 m c (ix2 R j) + A3 m c (ix2 0 j) * prod (A0 m c) (A1 m c) R j

theorem xo_eq (t t' : Fin cfg0.N) (h : t.val % 2 = 1) (ht : t'.val + 1 = t.val) (r : Fin 512) (j : Fin 1024) (R : Fin 4096) (hR : (t.val / 2) * 512 + r.val = R.val) :
    xo m c t t' r j = stream m c R j := by
  unfold xo stream
  rw [both_eq m c t t' h ht r j R hR, block_2 m c t r j R j hR rfl, block_3 m c t 0 j 0 j rfl rfl]

theorem final_t (A : Fin 4096) (B : Fin 1024) : (dats m 0 c).arrAt 7 cfg0.N (ix2 A B) = prod (A0 m c) (A1 m c) A B := by
  let t : Fin cfg0.N := ⟨2 * (A.val / 512) + 1, by show _ < 16; omega⟩
  have ht : t.val = 2 * (A.val / 512) + 1 := rfl
  obtain ⟨_, _, _, _, _, _, _, _, _, _, _, _, _, _, e0, e1, _⟩ := idx t
  let a : Fin 512 := ⟨A.val % 512, by omega⟩
  have ha : a.val = A.val % 512 := rfl
  let b : Fin 1024 := ⟨B.val % 1024, by omega⟩
  have hb : b.val = B.val % 1024 := rfl
  have bl := congrFun (blocks7 m c t (by omega)) (ix2 a b)
  rw [Value.flushed7] at bl
  have e : ((cfg0.win 7).blk t).view.emb (ix2 a b) = (ix2 A B : S4096x1024.Idx) := by
    funext x; apply Fin.ext
    match x with
    | ⟨0, _⟩ => show win0_7.index t (0 : Fin 2) * 512 + 1 * (A.val % 512) = A.val; omega
    | ⟨1, _⟩ => show win0_7.index t (1 : Fin 2) * 1024 + 1 * (B.val % 1024) = B.val; omega
  have b' : (dats m 0 c).arrAt 7 cfg0.N (((cfg0.win 7).blk t).view.emb (ix2 a b)) = (outsAt0 m c t.val t.isLt).1 (ix2 a b) := bl
  rw [e] at b'
  clear e bl
  have hB : b = B := Fin.ext (by omega)
  have hN : cfg0.N = 16 := N_0
  let t' : Fin cfg0.N := ⟨2 * (A.val / 512), by omega⟩
  have ht' : t'.val = 2 * (A.val / 512) := rfl
  rw [b', out_t m c t t' (by omega) (by omega), both_eq m c t t' (by omega) (by omega) a b A (by omega), hB]

theorem final_x (A : Fin 4096) (B : Fin 1024) : (dats m 0 c).arrAt 8 cfg0.N (ix2 A B) = stream m c A B := by
  let t : Fin cfg0.N := ⟨2 * (A.val / 512) + 1, by show _ < 16; omega⟩
  have ht : t.val = 2 * (A.val / 512) + 1 := rfl
  obtain ⟨_, _, _, _, _, _, _, _, _, _, _, _, _, _, _, _, e0, e1, _⟩ := idx t
  let a : Fin 512 := ⟨A.val % 512, by omega⟩
  have ha : a.val = A.val % 512 := rfl
  let b : Fin 1024 := ⟨B.val % 1024, by omega⟩
  have hb : b.val = B.val % 1024 := rfl
  have bl := congrFun (blocks8 m c t (by omega)) (ix2 a b)
  rw [Value.flushed8] at bl
  have e : ((cfg0.win 8).blk t).view.emb (ix2 a b) = (ix2 A B : S4096x1024.Idx) := by
    funext x; apply Fin.ext
    match x with
    | ⟨0, _⟩ => show win0_8.index t (0 : Fin 2) * 512 + 1 * (A.val % 512) = A.val; omega
    | ⟨1, _⟩ => show win0_8.index t (1 : Fin 2) * 1024 + 1 * (B.val % 1024) = B.val; omega
  have b' : (dats m 0 c).arrAt 8 cfg0.N (((cfg0.win 8).blk t).view.emb (ix2 a b)) = (outsAt0 m c t.val t.isLt).2.1 (ix2 a b) := bl
  rw [e] at b'
  clear e bl
  have hB : b = B := Fin.ext (by omega)
  have hN : cfg0.N = 16 := N_0
  let t' : Fin cfg0.N := ⟨2 * (A.val / 512), by omega⟩
  have ht' : t'.val = 2 * (A.val / 512) := rfl
  rw [b', out_x m c t t' (by omega) (by omega), xo_eq m c t t' (by omega) (by omega) a b A (by omega), hB]

theorem final_h (A : Fin 4096) (B : Fin 1024) : (dats m 0 c).arrAt 9 cfg0.N (ix2 A B) = adaln (stream m c A) (A4 m c (ix1 B)) (A5 m c (ix2 0 B)) (A6 m c (ix2 0 B)) B := by
  let t : Fin cfg0.N := ⟨2 * (A.val / 512) + 1, by show _ < 16; omega⟩
  have ht : t.val = 2 * (A.val / 512) + 1 := rfl
  obtain ⟨_, _, _, _, _, _, _, _, _, _, _, _, _, _, _, _, _, _, e0, e1⟩ := idx t
  let a : Fin 512 := ⟨A.val % 512, by omega⟩
  have ha : a.val = A.val % 512 := rfl
  let b : Fin 1024 := ⟨B.val % 1024, by omega⟩
  have hb : b.val = B.val % 1024 := rfl
  have bl := congrFun (blocks9 m c t (by omega)) (ix2 a b)
  rw [Value.flushed9] at bl
  have e : ((cfg0.win 9).blk t).view.emb (ix2 a b) = (ix2 A B : S4096x1024.Idx) := by
    funext x; apply Fin.ext
    match x with
    | ⟨0, _⟩ => show win0_9.index t (0 : Fin 2) * 512 + 1 * (A.val % 512) = A.val; omega
    | ⟨1, _⟩ => show win0_9.index t (1 : Fin 2) * 1024 + 1 * (B.val % 1024) = B.val; omega
  have b' : (dats m 0 c).arrAt 9 cfg0.N (((cfg0.win 9).blk t).view.emb (ix2 a b)) = (outsAt0 m c t.val t.isLt).2.2 (ix2 a b) := bl
  rw [e] at b'
  clear e bl
  have hB : b = B := Fin.ext (by omega)
  have hN : cfg0.N = 16 := N_0
  let t' : Fin cfg0.N := ⟨2 * (A.val / 512), by omega⟩
  have ht' : t'.val = 2 * (A.val / 512) := rfl
  rw [b', out_h m c t t' (by omega) (by omega), show xo m c t t' a = stream m c A from funext fun j => xo_eq m c t t' (by omega) (by omega) a j A (by omega), hB, block_4 m c t 0 B 0 B rfl rfl, block_5 m c t 0 B 0 B rfl rfl, block_6 m c t 0 B 0 B rfl rfl]

end Cert.FfnOutValue

end
-- ==== Proof.FfnOutEqual.lean ====
/-
  `kernel_ffn_out` against its reference.
-/
module

public import proofs.«01_k».proof.Defs
public import proofs.«01_k».proof.Proof.Gen.FfnOut.Frame
public import proofs.«01_k».proof.Proof.Gen.FfnOutRefIdeal.Run
public import proofs.«01_k».proof.Proof.FfnOutValue
public import Idealize.ShloMosaic.Adequacy

@[expose] public section

noncomputable section

namespace Cert.Proof

open Idealize.ShloMosaic Idealize.ShloMosaic.TcCoe Idealize.SL.Sem

theorem frame_ffn_out : Cert.quiescent_FfnOut := fun m ρ _ => Cert.FfnOut.Gen.frame m ρ
theorem frame_ffn_out_ideal : Cert.quiescent_FfnOutIdeal := fun m ρ _ => Cert.FfnOutIdeal.Gen.frame m ρ
theorem frame_ffn_out_reference : Cert.quiescent_FfnOutRefIdeal := fun m ρ _ =>
  (θ_run Cert.FfnOutRefIdeal.defs _ _).mono (fun r h => ⟨fun c => (h c).2.2.2, sem_eq_zero_of_no_sems (by decide) r.2⟩)
    (Cert.FfnOutRefIdeal.Value.run (F := Ideal) m ρ)

theorem ffn_out_equal : Cert.algebraic_FfnOutIdeal_FfnOutRefIdeal := by
  intro m ρ m' ρ' _ ha
  refine ⟨fun c => (Cert.FfnOutIdeal.Gen.dats m 0 c).arrAt 7 Cert.FfnOutIdeal.cfg0.N,
    fun c => (Cert.FfnOutIdeal.Gen.dats m 0 c).arrAt 8 Cert.FfnOutIdeal.cfg0.N,
    fun c => (Cert.FfnOutIdeal.Gen.dats m 0 c).arrAt 9 Cert.FfnOutIdeal.cfg0.N,
    Cert.FfnOutIdeal.Value.run_blocks m ρ, ?_⟩
  refine (θ_run Cert.FfnOutRefIdeal.defs _ _).mono (fun r h c => ?_) (Cert.FfnOutRefIdeal.Value.run (F := Ideal) m' ρ')
  obtain ⟨a0, a1, a2, a3, a4, a5, a6⟩ := ha c
  refine ⟨(h c).1.trans ?_, (h c).2.1.trans ?_, (h c).2.2.1.trans ?_, (h c).2.2.2⟩ <;> clear h
  · try rw [a0]
    try rw [a1]
    try rw [a2]
    try rw [a3]
    try rw [a4]
    try rw [a5]
    try rw [a6]
    clear ha a0 a1 a2 a3 a4 a5 a6
    funext (y : Cert.FfnOutIdeal.S4096x1024.Idx)
    have e : y = ix2 (y 0) (y 1) := by
      funext a; match a with | ⟨0, _⟩ => rfl | ⟨1, _⟩ => rfl
    generalize y 0 = A at e; generalize y 1 = B at e
    rw [e]
    refine Eq.trans ?_ (Cert.FfnOutValue.final_t m c A B).symm
    unfold Cert.FfnOutValue.prod
    pointwise
  · try rw [a0]
    try rw [a1]
    try rw [a2]
    try rw [a3]
    try rw [a4]
    try rw [a5]
    try rw [a6]
    clear ha a0 a1 a2 a3 a4 a5 a6
    funext (y : Cert.FfnOutIdeal.S4096x1024.Idx)
    have e : y = ix2 (y 0) (y 1) := by
      funext a; match a with | ⟨0, _⟩ => rfl | ⟨1, _⟩ => rfl
    generalize y 0 = A at e; generalize y 1 = B at e
    rw [e]
    refine Eq.trans ?_ (Cert.FfnOutValue.final_x m c A B).symm
    unfold Cert.FfnOutValue.stream Cert.FfnOutValue.prod
    pointwise
  · try rw [a0]
    try rw [a1]
    try rw [a2]
    try rw [a3]
    try rw [a4]
    try rw [a5]
    try rw [a6]
    clear ha a0 a1 a2 a3 a4 a5 a6
    funext (y : Cert.FfnOutIdeal.S4096x1024.Idx)
    have e : y = ix2 (y 0) (y 1) := by
      funext a; match a with | ⟨0, _⟩ => rfl | ⟨1, _⟩ => rfl
    generalize y 0 = A at e; generalize y 1 = B at e
    rw [e]
    refine Eq.trans ?_ (Cert.FfnOutValue.final_h m c A B).symm
    unfold Cert.FfnOutValue.adaln Cert.FfnOutValue.stream Cert.FfnOutValue.prod
    pointwise

end Cert.Proof

end
-- ==== Proof.OutValue.lean ====
/-
  The three results of `kernel_out`, read at an index.
-/
module

public import proofs.«01_k».proof.Proof.Gen.OutIdeal.Value
public import Idealize.ShloMosaic.Lib.Pipeline.ValueKit.Point
public import Idealize.ShloMosaic.Lib.Pipeline.ReadBack
public import Idealize.ShloMosaic.Lib.StableHlo.RunRead

@[expose] public section

noncomputable section

namespace Cert.OutValue

open Idealize.ShloMosaic Idealize.ShloMosaic.TcCoe Idealize.SL.Sem
open Cert.OutIdeal Cert.OutIdeal.Gen

variable (m : (ℓ : Loc nD τ sig) → Buf (Elt Ideal) ℓ) (c : Dev nD)

theorem idx : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 2) = t.val
    ∧ win0_7.index t (1 : Fin 2) = 0
    ∧ win0_8.index t (0 : Fin 2) = t.val
    ∧ win0_8.index t (1 : Fin 2) = 0
    ∧ win0_9.index t (0 : Fin 2) = t.val
    ∧ win0_9.index t (1 : Fin 2) = 0 :=
  (by decide +kernel : ∀ t : Fin grid0.N, _)

/-- The argument arrays. -/
abbrev A0 : Vec Ideal S4096x1024 .bf16 := m ((c : Thread nD τ).loc main_arg0)
abbrev A1 : Vec Ideal S1024x1024 .f32 := m ((c : Thread nD τ).loc main_arg1)
abbrev A2 : Vec Ideal S4096x1024 .f32 := m ((c : Thread nD τ).loc main_arg2)
abbrev A3 : Vec Ideal S1x1024 .f32 := m ((c : Thread nD τ).loc main_arg3)
abbrev A4 : Vec Ideal S1024 .f32 := m ((c : Thread nD τ).loc main_arg4)
abbrev A5 : Vec Ideal S1x1024 .f32 := m ((c : Thread nD τ).loc main_arg5)
abbrev A6 : Vec Ideal S1x1024 .f32 := m ((c : Thread nD τ).loc main_arg6)

/-- The blocks a point reads. -/
abbrev X0 (t : Fin cfg0.N) : Vec Ideal S512x1024 .bf16 := iblk m c 0 t
abbrev X1 (t : Fin cfg0.N) : Vec Ideal S1024x1024 .bf16 := iblk m c 1 t
abbrev X2 (t : Fin cfg0.N) : Vec Ideal S512x1024 .f32 := iblk m c 2 t
abbrev X3 (t : Fin cfg0.N) : Vec Ideal S1x1024 .f32 := iblk m c 3 t
abbrev X4 (t : Fin cfg0.N) : Vec Ideal S1x1024 .f32 := iblk m c 4 t
abbrev X5 (t : Fin cfg0.N) : Vec Ideal S1x1024 .f32 := iblk m c 5 t
abbrev X6 (t : Fin cfg0.N) : Vec Ideal S1x1024 .f32 := iblk m c 6 t

/-- The weight. -/
theorem entry_v0 : V m c main_v0 = truncf (F := Ideal) .bf16 (m ((c : Thread nD τ).loc main_arg1) : FVec Ideal S1024x1024 .f32) bitsLt_bf16_f32 := by
  show StableHlo.after ([hostOps0] : List (List (HloOp τ sig (Elt Ideal)))).flatten (fun b => m (c, b)) (Proc.tc.devRef main_v0) = _
  simp only [List.flatten_cons, List.flatten_nil, List.cons_append, List.nil_append, List.append_nil]
  after_reads_simp

/-- The gain. -/
theorem entry_v1 : V m c main_v1 = shapeCast S1x1024 (m ((c : Thread nD τ).loc main_arg4) : FVec Ideal S1024 .f32) shapeCasts_S1024_S1x1024 := by
  show StableHlo.after ([hostOps0] : List (List (HloOp τ sig (Elt Ideal)))).flatten (fun b => m (c, b)) (Proc.tc.devRef main_v1) = _
  simp only [List.flatten_cons, List.flatten_nil, List.cons_append, List.nil_append, List.append_nil]
  after_reads_simp
  rfl

theorem block_0 (t : Fin cfg0.N) (a : Fin 512) (b : Fin 1024) (A : Fin 4096) (B : Fin 1024)
    (h0 : (t.val) * 512 + a.val = A.val) (h1 : b.val = B.val) : X0 m c t (ix2 a b) = A0 m c (ix2 A B) := by
  obtain ⟨e0, e1, _⟩ := idx t
  blk_ext [X0, A0, iblk, V, e0, e1]

theorem block_1 (t : Fin cfg0.N) (a : Fin 1024) (b : Fin 1024) (A : Fin 1024) (B : Fin 1024)
    (h0 : a.val = A.val) (h1 : b.val = B.val) : X1 m c t (ix2 a b) = A1 m c (ix2 A B) := by
  obtain ⟨_, _, e0, e1, _⟩ := idx t
  show V m c main_v0 (((cfg0.win 1).blk t).view.emb (ix2 a b )) = _
  have e : ((cfg0.win 1).blk t).view.emb (ix2 a b) = (ix2 A B : S1024x1024.Idx) := by
    funext x; apply Fin.ext
    match x with
    | ⟨0, _⟩ => show win0_1.index t (0 : Fin 2) * 1024 + 1 * a.val = A.val; omega
    | ⟨1, _⟩ => show win0_1.index t (1 : Fin 2) * 1024 + 1 * b.val = B.val; omega
  rw [e, entry_v0]
  pointwise

theorem block_2 (t : Fin cfg0.N) (a : Fin 512) (b : Fin 1024) (A : Fin 4096) (B : Fin 1024)
    (h0 : (t.val) * 512 + a.val = A.val) (h1 : b.val = B.val) : X2 m c t (ix2 a b) = A2 m c (ix2 A B) := by
  obtain ⟨_, _, _, _, e0, e1, _⟩ := idx t
  blk_ext [X2, A2, iblk, V, e0, e1]

theorem block_3 (t : Fin cfg0.N) (a : Fin 1) (b : Fin 1024) (A : Fin 1) (B : Fin 1024)
    (h0 : a.val = A.val) (h1 : b.val = B.val) : X3 m c t (ix2 a b) = A3 m c (ix2 A B) := by
  obtain ⟨_, _, _, _, _, _, e0, e1, _⟩ := idx t
  blk_ext [X3, A3, iblk, V, e0, e1]

theorem block_5 (t : Fin cfg0.N) (a : Fin 1) (b : Fin 1024) (A : Fin 1) (B : Fin 1024)
    (h0 : a.val = A.val) (h1 : b.val = B.val) : X5 m c t (ix2 a b) = A5 m c (ix2 A B) := by
  obtain ⟨_, _, _, _, _, _, _, _, _, _, e0, e1, _⟩ := idx t
  blk_ext [X5, A5, iblk, V, e0, e1]

theorem block_6 (t : Fin cfg0.N) (a : Fin 1) (b : Fin 1024) (A : Fin 1) (B : Fin 1024)
    (h0 : a.val = A.val) (h1 : b.val = B.val) : X6 m c t (ix2 a b) = A6 m c (ix2 A B) := by
  obtain ⟨_, _, _, _, _, _, _, _, _, _, _, _, e0, e1, _⟩ := idx t
  blk_ext [X6, A6, iblk, V, e0, e1]

theorem block_4 (t : Fin cfg0.N) (a : Fin 1) (b : Fin 1024) (A : Fin 1) (B : Fin 1024)
    (h0 : a.val = A.val) (h1 : b.val = B.val) : X4 m c t (ix2 a b) = A4 m c (ix1 B) := by
  obtain ⟨_, _, _, _, _, _, _, _, e0, e1, _⟩ := idx t
  show V m c main_v1 (((cfg0.win 4).blk t).view.emb (ix2 a b )) = _
  have e : ((cfg0.win 4).blk t).view.emb (ix2 a b) = (ix2 A B : S1x1024.Idx) := by
    funext x; apply Fin.ext
    match x with
    | ⟨0, _⟩ => show win0_4.index t (0 : Fin 2) * 1 + 1 * a.val = A.val; omega
    | ⟨1, _⟩ => show win0_4.index t (1 : Fin 2) * 1024 + 1 * b.val = B.val; omega
  rw [e, entry_v1]
  pointwise

/-- A row's length. -/
abbrev width : EReal := Ideal.ofBits .f32 1149239296#32

/-- What is added to the mean square. -/
abbrev eps : EReal := Ideal.ofBits .f32 897988541#32

/-- Row `r` of `a` against column `j` of `w`. -/
def prod {n l : ℕ} (a : (⟨2, ![n, l]⟩ : Shape).Idx → EReal) (w : (⟨2, ![l, 1024]⟩ : Shape).Idx → EReal) (r : Fin n) (j : Fin 1024) : EReal :=
  ∑ k : Fin l, a (ix2 r k) * w (ix2 k j)

/-- The normalised row, scaled and shifted. -/
def adaln (x : Fin 1024 → EReal) (g sc sh : EReal) (j : Fin 1024) : EReal :=
  x j * Ideal.rsqrt (Ideal.div (∑ k, x k * x k) width + eps) * g * (1 + sc) + sh

/-- The row the block's residual stream ends as. -/
def xo (t : Fin cfg0.N) (r : Fin 512) (j : Fin 1024) : EReal := X2 m c t (ix2 r j) + X3 m c t (ix2 0 j) * prod (X0 m c t) (X1 m c t) r j

theorem out_t (t : Fin cfg0.N) (r : Fin 512) (j : Fin 1024) : (outsAt0 m c t).1 (ix2 r j) = prod (X0 m c t) (X1 m c t) r j := by
  unfold outsAt0
  frame_out
  open_payloads
  pointwise [read_unread_whole]
  rfl

theorem out_x (t : Fin cfg0.N) (r : Fin 512) (j : Fin 1024) : (outsAt0 m c t).2.1 (ix2 r j) = xo m c t r j := by
  unfold outsAt0
  frame_out
  open_payloads
  pointwise [read_unread_whole]
  rfl

theorem out_h (t : Fin cfg0.N) (r : Fin 512) (j : Fin 1024) : (outsAt0 m c t).2.2 (ix2 r j)
    = adaln (xo m c t r) (X4 m c t (ix2 0 j)) (X5 m c t (ix2 0 j)) (X6 m c t (ix2 0 j)) j := by
  unfold outsAt0
  frame_out
  open_payloads
  pointwise [read_unread_whole]
  rfl

theorem prod_eq (t : Fin cfg0.N) (r : Fin 512) (j : Fin 1024) (R : Fin 4096) (hR : t.val * 512 + r.val = R.val) :
    prod (X0 m c t) (X1 m c t) r j = prod (A0 m c) (A1 m c) R j :=
  Finset.sum_congr rfl fun k _ => by rw [block_0 m c t r k R k hR rfl, block_1 m c t k j k j rfl rfl]

/-- The row the residual stream ends as. -/
def stream (R : Fin 4096) (j : Fin 1024) : EReal := A2 m c (ix2 R j) + A3 m c (ix2 0 j) * prod (A0 m c) (A1 m c) R j

theorem xo_eq (t : Fin cfg0.N) (r : Fin 512) (j : Fin 1024) (R : Fin 4096) (hR : t.val * 512 + r.val = R.val) :
    xo m c t r j = stream m c R j := by
  unfold xo stream
  rw [prod_eq m c t r j R hR, block_2 m c t r j R j hR rfl, block_3 m c t 0 j 0 j rfl rfl]

theorem final_t (A : Fin 4096) (B : Fin 1024) : (dats m 0 c).arrAt 7 cfg0.N (ix2 A B) = prod (A0 m c) (A1 m c) A B := by
  let t : Fin cfg0.N := ⟨A.val / 512, by show _ < 8; omega⟩
  have ht : t.val = A.val / 512 := rfl
  obtain ⟨_, _, _, _, _, _, _, _, _, _, _, _, _, _, e0, e1, _⟩ := idx t
  let a : Fin 512 := ⟨A.val % 512, by omega⟩
  have ha : a.val = A.val % 512 := rfl
  let b : Fin 1024 := ⟨B.val % 1024, by omega⟩
  have hb : b.val = B.val % 1024 := rfl
  have bl := congrFun (Value.blocks7 m c t (flush0_7 t)) (ix2 a b)
  rw [Value.flushed7] at bl
  have e : ((cfg0.win 7).blk t).view.emb (ix2 a b) = (ix2 A B : S4096x1024.Idx) := by
    funext x; apply Fin.ext
    match x with
    | ⟨0, _⟩ => show win0_7.index t (0 : Fin 2) * 512 + 1 * (A.val % 512) = A.val; omega
    | ⟨1, _⟩ => show win0_7.index t (1 : Fin 2) * 1024 + 1 * (B.val % 1024) = B.val; omega
  have b' : (dats m 0 c).arrAt 7 cfg0.N (((cfg0.win 7).blk t).view.emb (ix2 a b)) = (outsAt0 m c t).1 (ix2 a b) := bl
  rw [e] at b'
  clear e bl
  have hB : b = B := Fin.ext (by omega)
  rw [b', out_t, prod_eq m c t a b A (by omega), hB]

theorem final_x (A : Fin 4096) (B : Fin 1024) : (dats m 0 c).arrAt 8 cfg0.N (ix2 A B) = stream m c A B := by
  let t : Fin cfg0.N := ⟨A.val / 512, by show _ < 8; omega⟩
  have ht : t.val = A.val / 512 := rfl
  obtain ⟨_, _, _, _, _, _, _, _, _, _, _, _, _, _, _, _, e0, e1, _⟩ := idx t
  let a : Fin 512 := ⟨A.val % 512, by omega⟩
  have ha : a.val = A.val % 512 := rfl
  let b : Fin 1024 := ⟨B.val % 1024, by omega⟩
  have hb : b.val = B.val % 1024 := rfl
  have bl := congrFun (Value.blocks8 m c t (flush0_8 t)) (ix2 a b)
  rw [Value.flushed8] at bl
  have e : ((cfg0.win 8).blk t).view.emb (ix2 a b) = (ix2 A B : S4096x1024.Idx) := by
    funext x; apply Fin.ext
    match x with
    | ⟨0, _⟩ => show win0_8.index t (0 : Fin 2) * 512 + 1 * (A.val % 512) = A.val; omega
    | ⟨1, _⟩ => show win0_8.index t (1 : Fin 2) * 1024 + 1 * (B.val % 1024) = B.val; omega
  have b' : (dats m 0 c).arrAt 8 cfg0.N (((cfg0.win 8).blk t).view.emb (ix2 a b)) = (outsAt0 m c t).2.1 (ix2 a b) := bl
  rw [e] at b'
  clear e bl
  have hB : b = B := Fin.ext (by omega)
  rw [b', out_x, xo_eq m c t a b A (by omega), hB]

theorem final_h (A : Fin 4096) (B : Fin 1024) : (dats m 0 c).arrAt 9 cfg0.N (ix2 A B) = adaln (stream m c A) (A4 m c (ix1 B)) (A5 m c (ix2 0 B)) (A6 m c (ix2 0 B)) B := by
  let t : Fin cfg0.N := ⟨A.val / 512, by show _ < 8; omega⟩
  have ht : t.val = A.val / 512 := rfl
  obtain ⟨_, _, _, _, _, _, _, _, _, _, _, _, _, _, _, _, _, _, e0, e1⟩ := idx t
  let a : Fin 512 := ⟨A.val % 512, by omega⟩
  have ha : a.val = A.val % 512 := rfl
  let b : Fin 1024 := ⟨B.val % 1024, by omega⟩
  have hb : b.val = B.val % 1024 := rfl
  have bl := congrFun (Value.blocks9 m c t (flush0_9 t)) (ix2 a b)
  rw [Value.flushed9] at bl
  have e : ((cfg0.win 9).blk t).view.emb (ix2 a b) = (ix2 A B : S4096x1024.Idx) := by
    funext x; apply Fin.ext
    match x with
    | ⟨0, _⟩ => show win0_9.index t (0 : Fin 2) * 512 + 1 * (A.val % 512) = A.val; omega
    | ⟨1, _⟩ => show win0_9.index t (1 : Fin 2) * 1024 + 1 * (B.val % 1024) = B.val; omega
  have b' : (dats m 0 c).arrAt 9 cfg0.N (((cfg0.win 9).blk t).view.emb (ix2 a b)) = (outsAt0 m c t).2.2 (ix2 a b) := bl
  rw [e] at b'
  clear e bl
  have hB : b = B := Fin.ext (by omega)
  rw [b', out_h, show xo m c t a = stream m c A from funext fun j => xo_eq m c t a j A (by omega), hB, block_4 m c t 0 B 0 B rfl rfl, block_5 m c t 0 B 0 B rfl rfl, block_6 m c t 0 B 0 B rfl rfl]

end Cert.OutValue

end
-- ==== Proof.OutEqual.lean ====
/-
  `kernel_out` against its reference.
-/
module

public import proofs.«01_k».proof.Defs
public import proofs.«01_k».proof.Proof.Gen.Out.Frame
public import proofs.«01_k».proof.Proof.Gen.OutRefIdeal.Run
public import proofs.«01_k».proof.Proof.OutValue
public import Idealize.ShloMosaic.Adequacy

@[expose] public section

noncomputable section

namespace Cert.Proof

open Idealize.ShloMosaic Idealize.ShloMosaic.TcCoe Idealize.SL.Sem

theorem frame_out : Cert.quiescent_Out := fun m ρ _ => Cert.Out.Gen.frame m ρ
theorem frame_out_ideal : Cert.quiescent_OutIdeal := fun m ρ _ => Cert.OutIdeal.Gen.frame m ρ
theorem frame_out_reference : Cert.quiescent_OutRefIdeal := fun m ρ _ =>
  (θ_run Cert.OutRefIdeal.defs _ _).mono (fun r h => ⟨fun c => (h c).2.2.2, sem_eq_zero_of_no_sems (by decide) r.2⟩)
    (Cert.OutRefIdeal.Value.run (F := Ideal) m ρ)

theorem out_equal : Cert.algebraic_OutIdeal_OutRefIdeal := by
  intro m ρ m' ρ' _ ha
  refine ⟨fun c => (Cert.OutIdeal.Gen.dats m 0 c).arrAt 7 Cert.OutIdeal.cfg0.N,
    fun c => (Cert.OutIdeal.Gen.dats m 0 c).arrAt 8 Cert.OutIdeal.cfg0.N,
    fun c => (Cert.OutIdeal.Gen.dats m 0 c).arrAt 9 Cert.OutIdeal.cfg0.N,
    Cert.OutIdeal.Value.run_blocks m ρ, ?_⟩
  refine (θ_run Cert.OutRefIdeal.defs _ _).mono (fun r h c => ?_) (Cert.OutRefIdeal.Value.run (F := Ideal) m' ρ')
  obtain ⟨a0, a1, a2, a3, a4, a5, a6⟩ := ha c
  refine ⟨(h c).1.trans ?_, (h c).2.1.trans ?_, (h c).2.2.1.trans ?_, (h c).2.2.2⟩ <;> clear h
  · try rw [a0]
    try rw [a1]
    try rw [a2]
    try rw [a3]
    try rw [a4]
    try rw [a5]
    try rw [a6]
    clear ha a0 a1 a2 a3 a4 a5 a6
    funext (y : Cert.OutIdeal.S4096x1024.Idx)
    have e : y = ix2 (y 0) (y 1) := by
      funext a; match a with | ⟨0, _⟩ => rfl | ⟨1, _⟩ => rfl
    generalize y 0 = A at e; generalize y 1 = B at e
    rw [e]
    refine Eq.trans ?_ (Cert.OutValue.final_t m c A B).symm
    unfold Cert.OutValue.prod
    pointwise
  · try rw [a0]
    try rw [a1]
    try rw [a2]
    try rw [a3]
    try rw [a4]
    try rw [a5]
    try rw [a6]
    clear ha a0 a1 a2 a3 a4 a5 a6
    funext (y : Cert.OutIdeal.S4096x1024.Idx)
    have e : y = ix2 (y 0) (y 1) := by
      funext a; match a with | ⟨0, _⟩ => rfl | ⟨1, _⟩ => rfl
    generalize y 0 = A at e; generalize y 1 = B at e
    rw [e]
    refine Eq.trans ?_ (Cert.OutValue.final_x m c A B).symm
    unfold Cert.OutValue.stream Cert.OutValue.prod
    pointwise
  · try rw [a0]
    try rw [a1]
    try rw [a2]
    try rw [a3]
    try rw [a4]
    try rw [a5]
    try rw [a6]
    clear ha a0 a1 a2 a3 a4 a5 a6
    funext (y : Cert.OutIdeal.S4096x1024.Idx)
    have e : y = ix2 (y 0) (y 1) := by
      funext a; match a with | ⟨0, _⟩ => rfl | ⟨1, _⟩ => rfl
    generalize y 0 = A at e; generalize y 1 = B at e
    rw [e]
    refine Eq.trans ?_ (Cert.OutValue.final_h m c A B).symm
    unfold Cert.OutValue.adaln Cert.OutValue.stream Cert.OutValue.prod
    pointwise

end Cert.Proof

end
-- ==== Proof.FfnInDwValue.lean ====
/-
  The result of `kernel_ffn_in_dw`, read at an index.
-/
module

public import proofs.«01_k».proof.Proof.Gen.FfnInDwIdeal.Value
public import Idealize.ShloMosaic.Lib.Pipeline.ValueKit.Point
public import Idealize.ShloMosaic.Lib.Pipeline.ReadBack
public import Idealize.ShloMosaic.Lib.StableHlo.RunRead

@[expose] public section

noncomputable section

namespace Cert.FfnInDwValue

open Idealize.ShloMosaic Idealize.ShloMosaic.TcCoe Idealize.SL.Sem
open Cert.FfnInDwIdeal Cert.FfnInDwIdeal.Gen

variable (m : (ℓ : Loc nD τ sig) → Buf (Elt Ideal) ℓ) (c : Dev nD)

theorem idx : ∀ t : Fin cfg0.N, win0_0.index t (0 : Fin 3) = (t.val / 2) / 2
    ∧ win0_0.index t (1 : Fin 3) = t.val % 2
    ∧ win0_0.index t (2 : Fin 3) = (t.val / 2) % 2
    ∧ win0_1.index t (0 : Fin 2) = t.val % 2
    ∧ win0_1.index t (1 : Fin 2) = 0
    ∧ win0_2.index t (0 : Fin 2) = t.val / 2
    ∧ win0_2.index t (1 : Fin 2) = 0 :=
  (by decide +kernel : ∀ t : Fin grid0.N, _)

/-- The argument arrays. -/
abbrev A0 : Vec Ideal S2x4096x2816 .bf16 := m ((c : Thread nD τ).loc main_arg0)
abbrev A1 : Vec Ideal S4096x1024 .bf16 := m ((c : Thread nD τ).loc main_arg1)

/-- The blocks a point reads. -/
abbrev X0 (t : Fin cfg0.N) : Vec Ideal S1x2048x1408 .bf16 := iblk m c 0 t
abbrev X1 (t : Fin cfg0.N) : Vec Ideal S2048x1024 .bf16 := iblk m c 1 t

theorem block_0 (t : Fin cfg0.N) (a : Fin 1) (b : Fin 2048) (d : Fin 1408) (A : Fin 2) (B : Fin 4096) (C : Fin 2816)
    (h0 : ((t.val / 2) / 2) * 1 + a.val = A.val) (h1 : (t.val % 2) * 2048 + b.val = B.val) (h2 : ((t.val / 2) % 2) * 1408 + d.val = C.val) : X0 m c t (ix3 a b d) = A0 m c (ix3 A B C) := by
  obtain ⟨e0, e1, e2, _⟩ := idx t
  blk_ext [X0, A0, iblk, V, e0, e1, e2]

theorem block_1 (t : Fin cfg0.N) (a : Fin 2048) (b : Fin 1024) (A : Fin 4096) (B : Fin 1024)
    (h0 : (t.val % 2) * 2048 + a.val = A.val) (h1 : b.val = B.val) : X1 m c t (ix2 a b) = A1 m c (ix2 A B) := by
  obtain ⟨_, _, _, e0, e1, _⟩ := idx t
  blk_ext [X1, A1, iblk, V, e0, e1]

/-- A sum in two halves. -/
theorem halves (n : ℕ) (f : Fin (n + n) → EReal) :
    ∑ k, f k = (∑ k : Fin n, f ⟨k.val, by omega⟩) + ∑ k : Fin n, f ⟨n + k.val, by omega⟩ :=
  Fin.sum_univ_add f

/-- What a point adds. -/
def part (t : Fin cfg0.N) (a : Fin 1408) (b : Fin 1024) : EReal := ∑ k : Fin 2048, X0 m c t (ix3 0 k a) * X1 m c t (ix2 k b)

theorem first (t : Fin cfg0.N) (h : t.val % 2 = 0) (a : Fin 1408) (b : Fin 1024) : (outsAt0 m c t.val t.isLt).2 (ix2 a b) = part m c t a b := by
  rw [outsAt0_A m c t h (by omega) (by omega)]
  frame_out
  open_payloads
  pointwise [read_unread_whole]
  rfl

theorem second (t t' : Fin cfg0.N) (h : t.val % 2 = 1) (ht : t'.val + 1 = t.val) (a : Fin 1408) (b : Fin 1024) :
    (outsAt0 m c t.val t.isLt).1 (ix2 a b) = part m c t' a b + part m c t a b := by
  rw [← first m c t' (by omega), outsAt0_B m c t (by omega) h h]
  have e : t'.val = t.val - 1 := by omega
  have e' : (outsAt0 m c (t.val - 1) (by omega)).2 = (outsAt0 m c t'.val t'.isLt).2 := by
    congr 2; exact e.symm
  rw [e']
  generalize (outsAt0 m c t'.val t'.isLt).2 = acc
  frame_out
  open_payloads
  pointwise [read_unread_whole]
  rfl

theorem part_0 (t : Fin cfg0.N) (a : Fin 1408) (b : Fin 1024) (A : Fin 5632) (h : t.val % 2 = 0) (hA : (t.val / 2) * 1408 + a.val = A.val) :
    part m c t a b = ∑ k : Fin 2048, A0 m c (ix3 ⟨A.val / 2816, by omega⟩ ⟨k.val, by omega⟩ ⟨A.val % 2816, by omega⟩) * A1 m c (ix2 ⟨k.val, by omega⟩ b) :=
  Finset.sum_congr rfl fun k _ => by
    have hk := k.isLt
    rw [block_0 m c t 0 k a ⟨A.val / 2816, by omega⟩ ⟨k.val, by omega⟩ ⟨A.val % 2816, by omega⟩ (by show _ * 1 + 0 = A.val / 2816; omega) (by show _ = k.val; omega) (by show _ = A.val % 2816; omega), block_1 m c t k b ⟨k.val, by omega⟩ b (by show _ = k.val; omega) rfl]

theorem part_1 (t : Fin cfg0.N) (a : Fin 1408) (b : Fin 1024) (A : Fin 5632) (h : t.val % 2 = 1) (hA : (t.val / 2) * 1408 + a.val = A.val) :
    part m c t a b = ∑ k : Fin 2048, A0 m c (ix3 ⟨A.val / 2816, by omega⟩ ⟨2048 + k.val, by omega⟩ ⟨A.val % 2816, by omega⟩) * A1 m c (ix2 ⟨2048 + k.val, by omega⟩ b) :=
  Finset.sum_congr rfl fun k _ => by
    have hk := k.isLt
    rw [block_0 m c t 0 k a ⟨A.val / 2816, by omega⟩ ⟨2048 + k.val, by omega⟩ ⟨A.val % 2816, by omega⟩ (by show _ * 1 + 0 = A.val / 2816; omega) (by show _ = 2048 + k.val; omega) (by show _ = A.val % 2816; omega), block_1 m c t k b ⟨2048 + k.val, by omega⟩ b (by show _ = 2048 + k.val; omega) rfl]

theorem final_out (A : Fin 5632) (B : Fin 1024) : (dats m 0 c).arrAt 2 cfg0.N (ix2 A B) = ∑ k : Fin 4096, A0 m c (ix3 ⟨A.val / 2816, by omega⟩ k ⟨A.val % 2816, by omega⟩) * A1 m c (ix2 k B) := by
  let t : Fin cfg0.N := ⟨2 * (A.val / 1408) + 1, by show _ < 8; omega⟩
  have ht : t.val = 2 * (A.val / 1408) + 1 := rfl
  obtain ⟨_, _, _, _, _, e0, e1⟩ := idx t
  let a : Fin 1408 := ⟨A.val % 1408, by omega⟩
  have ha : a.val = A.val % 1408 := rfl
  let b : Fin 1024 := ⟨B.val % 1024, by omega⟩
  have hb : b.val = B.val % 1024 := rfl
  have bl := congrFun (Value.flushed2_eq m c t ((flush0_2 t).mpr (by omega))).symm (ix2 a b)
  rw [← Value.final2, Value.flushed2] at bl
  have e : ((cfg0.win 2).blk t).view.emb (ix2 a b) = (ix2 A B : S5632x1024.Idx) := by
    funext x; apply Fin.ext
    match x with
    | ⟨0, _⟩ => show win0_2.index t (0 : Fin 2) * 1408 + 1 * (A.val % 1408) = A.val; omega
    | ⟨1, _⟩ => show win0_2.index t (1 : Fin 2) * 1024 + 1 * (B.val % 1024) = B.val; omega
  have b' : (dats m 0 c).arrAt 2 cfg0.N (((cfg0.win 2).blk t).view.emb (ix2 a b)) = (outsAt0 m c t.val t.isLt).1 (ix2 a b) := bl
  rw [e] at b'
  clear e bl
  have hB : b = B := Fin.ext (by omega)
  have hN : cfg0.N = 8 := N_0
  let t' : Fin cfg0.N := ⟨2 * (A.val / 1408), by omega⟩
  have ht' : t'.val = 2 * (A.val / 1408) := rfl
  rw [b', second m c t t' (by omega) (by omega), part_0 m c t' a b A (by omega) (by omega), part_1 m c t a b A (by omega) (by omega), hB]
  exact (halves 2048 fun k : Fin 4096 => A0 m c (ix3 ⟨A.val / 2816, by omega⟩ k ⟨A.val % 2816, by omega⟩) * A1 m c (ix2 k B)).symm

end Cert.FfnInDwValue

end
-- ==== Proof.FfnInDwEqual.lean ====
/-
  `kernel_ffn_in_dw` against its reference.
-/
module

public import proofs.«01_k».proof.Defs
public import proofs.«01_k».proof.Proof.Gen.FfnInDw.Frame
public import proofs.«01_k».proof.Proof.Gen.FfnInDwRefIdeal.Run
public import proofs.«01_k».proof.Proof.FfnInDwValue
public import Idealize.ShloMosaic.Adequacy

@[expose] public section

noncomputable section

namespace Cert.Proof

open Idealize.ShloMosaic Idealize.ShloMosaic.TcCoe Idealize.SL.Sem

theorem frame_ffn_in_dw : Cert.quiescent_FfnInDw := fun m ρ _ => Cert.FfnInDw.Gen.frame m ρ
theorem frame_ffn_in_dw_ideal : Cert.quiescent_FfnInDwIdeal := fun m ρ _ => Cert.FfnInDwIdeal.Gen.frame m ρ
theorem frame_ffn_in_dw_reference : Cert.quiescent_FfnInDwRefIdeal := fun m ρ _ =>
  (θ_run Cert.FfnInDwRefIdeal.defs _ _).mono (fun r h => ⟨fun c => (h c).2, sem_eq_zero_of_no_sems (by decide) r.2⟩)
    (Cert.FfnInDwRefIdeal.Value.run (F := Ideal) m ρ)

theorem ffn_in_dw_equal : Cert.algebraic_FfnInDwIdeal_FfnInDwRefIdeal := by
  intro m ρ m' ρ' _ ha
  refine ⟨fun c => (Cert.FfnInDwIdeal.Gen.dats m 0 c).arrAt 2 Cert.FfnInDwIdeal.cfg0.N,
    Cert.FfnInDwIdeal.Value.run_blocks m ρ, ?_⟩
  refine (θ_run Cert.FfnInDwRefIdeal.defs _ _).mono (fun r h c => ?_) (Cert.FfnInDwRefIdeal.Value.run (F := Ideal) m' ρ')
  obtain ⟨a0, a1⟩ := ha c
  refine ⟨(h c).1.trans ?_, (h c).2⟩ <;> clear h
  · try rw [a0]
    try rw [a1]
    clear ha a0 a1
    funext (y : Cert.FfnInDwIdeal.S5632x1024.Idx)
    have e : y = ix2 (y 0) (y 1) := by
      funext a; match a with | ⟨0, _⟩ => rfl | ⟨1, _⟩ => rfl
    generalize y 0 = A at e; generalize y 1 = B at e
    rw [e]
    refine Eq.trans ?_ (Cert.FfnInDwValue.final_out m c A B).symm
    pointwise
    have hA : A.val < 5632 := A.isLt
    refine Finset.sum_congr rfl fun k _ => congrArg (· * m (c.tc.loc Cert.FfnInDwIdeal.main_arg1) (ix2 k B)) ?_
    split
    · rename_i h
      exact congrArg₂ (fun p q => m (c.tc.loc Cert.FfnInDwIdeal.main_arg0) (ix3 p k q)) (Fin.ext (show 0 = A.val / 2816 by omega)) (Fin.ext (show A.val = A.val % 2816 by omega))
    · rename_i h
      exact congrArg₂ (fun p q => m (c.tc.loc Cert.FfnInDwIdeal.main_arg0) (ix3 p k q)) (Fin.ext (show 1 = A.val / 2816 by omega)) (Fin.ext (show A.val - 2816 = A.val % 2816 by omega))

end Cert.Proof

end
-- ==== Proof.ProjDwValue.lean ====
/-
  The result of `kernel_proj_dw`, read at an index.
-/
module

public import proofs.«01_k».proof.Proof.Gen.ProjDwIdeal.Value
public import Idealize.ShloMosaic.Lib.Pipeline.ValueKit.Point
public import Idealize.ShloMosaic.Lib.Pipeline.ReadBack
public import Idealize.ShloMosaic.Lib.StableHlo.RunRead

@[expose] public section

noncomputable section

namespace Cert.ProjDwValue

open Idealize.ShloMosaic Idealize.ShloMosaic.TcCoe Idealize.SL.Sem
open Cert.ProjDwIdeal Cert.ProjDwIdeal.Gen

variable (m : (ℓ : Loc nD τ sig) → Buf (Elt Ideal) ℓ) (c : Dev nD)

theorem idx : ∀ t : Fin cfg0.N, win0_0.index t (0 : Fin 2) = t.val % 2
    ∧ win0_0.index t (1 : Fin 2) = t.val / 2
    ∧ win0_1.index t (0 : Fin 2) = t.val % 2
    ∧ win0_1.index t (1 : Fin 2) = 0
    ∧ win0_2.index t (0 : Fin 2) = t.val / 2
    ∧ win0_2.index t (1 : Fin 2) = 0 :=
  (by decide +kernel : ∀ t : Fin grid0.N, _)

/-- The argument arrays. -/
abbrev A0 : Vec Ideal S4096x5760 .bf16 := m ((c : Thread nD τ).loc main_arg0)
abbrev A1 : Vec Ideal S4096x1024 .bf16 := m ((c : Thread nD τ).loc main_arg1)

/-- The blocks a point reads. -/
abbrev X0 (t : Fin cfg0.N) : Vec Ideal S2048x1152 .bf16 := iblk m c 0 t
abbrev X1 (t : Fin cfg0.N) : Vec Ideal S2048x1024 .bf16 := iblk m c 1 t

theorem block_0 (t : Fin cfg0.N) (a : Fin 2048) (b : Fin 1152) (A : Fin 4096) (B : Fin 5760)
    (h0 : (t.val % 2) * 2048 + a.val = A.val) (h1 : (t.val / 2) * 1152 + b.val = B.val) : X0 m c t (ix2 a b) = A0 m c (ix2 A B) := by
  obtain ⟨e0, e1, _⟩ := idx t
  blk_ext [X0, A0, iblk, V, e0, e1]

theorem block_1 (t : Fin cfg0.N) (a : Fin 2048) (b : Fin 1024) (A : Fin 4096) (B : Fin 1024)
    (h0 : (t.val % 2) * 2048 + a.val = A.val) (h1 : b.val = B.val) : X1 m c t (ix2 a b) = A1 m c (ix2 A B) := by
  obtain ⟨_, _, e0, e1, _⟩ := idx t
  blk_ext [X1, A1, iblk, V, e0, e1]

/-- A sum in two halves. -/
theorem halves (n : ℕ) (f : Fin (n + n) → EReal) :
    ∑ k, f k = (∑ k : Fin n, f ⟨k.val, by omega⟩) + ∑ k : Fin n, f ⟨n + k.val, by omega⟩ :=
  Fin.sum_univ_add f

/-- What a point adds. -/
def part (t : Fin cfg0.N) (a : Fin 1152) (b : Fin 1024) : EReal := ∑ k : Fin 2048, X0 m c t (ix2 k a) * X1 m c t (ix2 k b)

theorem first (t : Fin cfg0.N) (h : t.val % 2 = 0) (a : Fin 1152) (b : Fin 1024) : (outsAt0 m c t.val t.isLt).2 (ix2 a b) = part m c t a b := by
  rw [outsAt0_A m c t h (by omega) (by omega)]
  frame_out
  open_payloads
  pointwise [read_unread_whole]
  rfl

theorem second (t t' : Fin cfg0.N) (h : t.val % 2 = 1) (ht : t'.val + 1 = t.val) (a : Fin 1152) (b : Fin 1024) :
    (outsAt0 m c t.val t.isLt).1 (ix2 a b) = part m c t' a b + part m c t a b := by
  rw [← first m c t' (by omega), outsAt0_B m c t (by omega) h h]
  have e : t'.val = t.val - 1 := by omega
  have e' : (outsAt0 m c (t.val - 1) (by omega)).2 = (outsAt0 m c t'.val t'.isLt).2 := by
    congr 2; exact e.symm
  rw [e']
  generalize (outsAt0 m c t'.val t'.isLt).2 = acc
  frame_out
  open_payloads
  pointwise [read_unread_whole]
  rfl

theorem part_0 (t : Fin cfg0.N) (a : Fin 1152) (b : Fin 1024) (A : Fin 5760) (h : t.val % 2 = 0) (hA : (t.val / 2) * 1152 + a.val = A.val) :
    part m c t a b = ∑ k : Fin 2048, A0 m c (ix2 ⟨k.val, by omega⟩ A) * A1 m c (ix2 ⟨k.val, by omega⟩ b) :=
  Finset.sum_congr rfl fun k _ => by
    have hk := k.isLt
    rw [block_0 m c t k a ⟨k.val, by omega⟩ A (by show _ = k.val; omega) (by omega), block_1 m c t k b ⟨k.val, by omega⟩ b (by show _ = k.val; omega) rfl]

theorem part_1 (t : Fin cfg0.N) (a : Fin 1152) (b : Fin 1024) (A : Fin 5760) (h : t.val % 2 = 1) (hA : (t.val / 2) * 1152 + a.val = A.val) :
    part m c t a b = ∑ k : Fin 2048, A0 m c (ix2 ⟨2048 + k.val, by omega⟩ A) * A1 m c (ix2 ⟨2048 + k.val, by omega⟩ b) :=
  Finset.sum_congr rfl fun k _ => by
    have hk := k.isLt
    rw [block_0 m c t k a ⟨2048 + k.val, by omega⟩ A (by show _ = 2048 + k.val; omega) (by omega), block_1 m c t k b ⟨2048 + k.val, by omega⟩ b (by show _ = 2048 + k.val; omega) rfl]

theorem final_out (A : Fin 5760) (B : Fin 1024) : (dats m 0 c).arrAt 2 cfg0.N (ix2 A B) = ∑ k : Fin 4096, A0 m c (ix2 k A) * A1 m c (ix2 k B) := by
  let t : Fin cfg0.N := ⟨2 * (A.val / 1152) + 1, by show _ < 10; omega⟩
  have ht : t.val = 2 * (A.val / 1152) + 1 := rfl
  obtain ⟨_, _, _, _, e0, e1⟩ := idx t
  let a : Fin 1152 := ⟨A.val % 1152, by omega⟩
  have ha : a.val = A.val % 1152 := rfl
  let b : Fin 1024 := ⟨B.val % 1024, by omega⟩
  have hb : b.val = B.val % 1024 := rfl
  have bl := congrFun (Value.flushed2_eq m c t ((flush0_2 t).mpr (by omega))).symm (ix2 a b)
  rw [← Value.final2, Value.flushed2] at bl
  have e : ((cfg0.win 2).blk t).view.emb (ix2 a b) = (ix2 A B : S5760x1024.Idx) := by
    funext x; apply Fin.ext
    match x with
    | ⟨0, _⟩ => show win0_2.index t (0 : Fin 2) * 1152 + 1 * (A.val % 1152) = A.val; omega
    | ⟨1, _⟩ => show win0_2.index t (1 : Fin 2) * 1024 + 1 * (B.val % 1024) = B.val; omega
  have b' : (dats m 0 c).arrAt 2 cfg0.N (((cfg0.win 2).blk t).view.emb (ix2 a b)) = (outsAt0 m c t.val t.isLt).1 (ix2 a b) := bl
  rw [e] at b'
  clear e bl
  have hB : b = B := Fin.ext (by omega)
  have hN : cfg0.N = 10 := N_0
  let t' : Fin cfg0.N := ⟨2 * (A.val / 1152), by omega⟩
  have ht' : t'.val = 2 * (A.val / 1152) := rfl
  rw [b', second m c t t' (by omega) (by omega), part_0 m c t' a b A (by omega) (by omega), part_1 m c t a b A (by omega) (by omega), hB]
  exact (halves 2048 fun k : Fin 4096 => A0 m c (ix2 k A) * A1 m c (ix2 k B)).symm

end Cert.ProjDwValue

end
-- ==== Proof.ProjDwEqual.lean ====
/-
  `kernel_proj_dw` against its reference.
-/
module

public import proofs.«01_k».proof.Defs
public import proofs.«01_k».proof.Proof.Gen.ProjDw.Frame
public import proofs.«01_k».proof.Proof.Gen.ProjDwRefIdeal.Run
public import proofs.«01_k».proof.Proof.ProjDwValue
public import Idealize.ShloMosaic.Adequacy

@[expose] public section

noncomputable section

namespace Cert.Proof

open Idealize.ShloMosaic Idealize.ShloMosaic.TcCoe Idealize.SL.Sem

theorem frame_proj_dw : Cert.quiescent_ProjDw := fun m ρ _ => Cert.ProjDw.Gen.frame m ρ
theorem frame_proj_dw_ideal : Cert.quiescent_ProjDwIdeal := fun m ρ _ => Cert.ProjDwIdeal.Gen.frame m ρ
theorem frame_proj_dw_reference : Cert.quiescent_ProjDwRefIdeal := fun m ρ _ =>
  (θ_run Cert.ProjDwRefIdeal.defs _ _).mono (fun r h => ⟨fun c => (h c).2, sem_eq_zero_of_no_sems (by decide) r.2⟩)
    (Cert.ProjDwRefIdeal.Value.run (F := Ideal) m ρ)

theorem proj_dw_equal : Cert.algebraic_ProjDwIdeal_ProjDwRefIdeal := by
  intro m ρ m' ρ' _ ha
  refine ⟨fun c => (Cert.ProjDwIdeal.Gen.dats m 0 c).arrAt 2 Cert.ProjDwIdeal.cfg0.N,
    Cert.ProjDwIdeal.Value.run_blocks m ρ, ?_⟩
  refine (θ_run Cert.ProjDwRefIdeal.defs _ _).mono (fun r h c => ?_) (Cert.ProjDwRefIdeal.Value.run (F := Ideal) m' ρ')
  obtain ⟨a0, a1⟩ := ha c
  refine ⟨(h c).1.trans ?_, (h c).2⟩ <;> clear h
  · try rw [a0]
    try rw [a1]
    clear ha a0 a1
    funext (y : Cert.ProjDwIdeal.S5760x1024.Idx)
    have e : y = ix2 (y 0) (y 1) := by
      funext a; match a with | ⟨0, _⟩ => rfl | ⟨1, _⟩ => rfl
    generalize y 0 = A at e; generalize y 1 = B at e
    rw [e]
    refine Eq.trans ?_ (Cert.ProjDwValue.final_out m c A B).symm
    pointwise

end Cert.Proof

end
-- ==== Proof.FfnOutDwValue.lean ====
/-
  The result of `kernel_ffn_out_dw`, read at an index.
-/
module

public import proofs.«01_k».proof.Proof.Gen.FfnOutDwIdeal.Value
public import Idealize.ShloMosaic.Lib.Pipeline.ValueKit.Point
public import Idealize.ShloMosaic.Lib.Pipeline.ReadBack
public import Idealize.ShloMosaic.Lib.StableHlo.RunRead

@[expose] public section

noncomputable section

namespace Cert.FfnOutDwValue

open Idealize.ShloMosaic Idealize.ShloMosaic.TcCoe Idealize.SL.Sem
open Cert.FfnOutDwIdeal Cert.FfnOutDwIdeal.Gen

variable (m : (ℓ : Loc nD τ sig) → Buf (Elt Ideal) ℓ) (c : Dev nD)

theorem idx : ∀ t : Fin cfg0.N, win0_0.index t (0 : Fin 2) = t.val % 2
    ∧ win0_0.index t (1 : Fin 2) = t.val / 2
    ∧ win0_1.index t (0 : Fin 2) = t.val % 2
    ∧ win0_1.index t (1 : Fin 2) = 0
    ∧ win0_2.index t (0 : Fin 2) = t.val / 2
    ∧ win0_2.index t (1 : Fin 2) = 0 :=
  (by decide +kernel : ∀ t : Fin grid0.N, _)

/-- The argument arrays. -/
abbrev A0 : Vec Ideal S4096x2816 .bf16 := m ((c : Thread nD τ).loc main_arg0)
abbrev A1 : Vec Ideal S4096x1024 .bf16 := m ((c : Thread nD τ).loc main_arg1)

/-- The blocks a point reads. -/
abbrev X0 (t : Fin cfg0.N) : Vec Ideal S2048x1408 .bf16 := iblk m c 0 t
abbrev X1 (t : Fin cfg0.N) : Vec Ideal S2048x1024 .bf16 := iblk m c 1 t

theorem block_0 (t : Fin cfg0.N) (a : Fin 2048) (b : Fin 1408) (A : Fin 4096) (B : Fin 2816)
    (h0 : (t.val % 2) * 2048 + a.val = A.val) (h1 : (t.val / 2) * 1408 + b.val = B.val) : X0 m c t (ix2 a b) = A0 m c (ix2 A B) := by
  obtain ⟨e0, e1, _⟩ := idx t
  blk_ext [X0, A0, iblk, V, e0, e1]

theorem block_1 (t : Fin cfg0.N) (a : Fin 2048) (b : Fin 1024) (A : Fin 4096) (B : Fin 1024)
    (h0 : (t.val % 2) * 2048 + a.val = A.val) (h1 : b.val = B.val) : X1 m c t (ix2 a b) = A1 m c (ix2 A B) := by
  obtain ⟨_, _, e0, e1, _⟩ := idx t
  blk_ext [X1, A1, iblk, V, e0, e1]

/-- A sum in two halves. -/
theorem halves (n : ℕ) (f : Fin (n + n) → EReal) :
    ∑ k, f k = (∑ k : Fin n, f ⟨k.val, by omega⟩) + ∑ k : Fin n, f ⟨n + k.val, by omega⟩ :=
  Fin.sum_univ_add f

/-- What a point adds. -/
def part (t : Fin cfg0.N) (a : Fin 1408) (b : Fin 1024) : EReal := ∑ k : Fin 2048, X0 m c t (ix2 k a) * X1 m c t (ix2 k b)

theorem first (t : Fin cfg0.N) (h : t.val % 2 = 0) (a : Fin 1408) (b : Fin 1024) : (outsAt0 m c t.val t.isLt).2 (ix2 a b) = part m c t a b := by
  rw [outsAt0_A m c t h (by omega) (by omega)]
  frame_out
  open_payloads
  pointwise [read_unread_whole]
  rfl

theorem second (t t' : Fin cfg0.N) (h : t.val % 2 = 1) (ht : t'.val + 1 = t.val) (a : Fin 1408) (b : Fin 1024) :
    (outsAt0 m c t.val t.isLt).1 (ix2 a b) = part m c t' a b + part m c t a b := by
  rw [← first m c t' (by omega), outsAt0_B m c t (by omega) h h]
  have e : t'.val = t.val - 1 := by omega
  have e' : (outsAt0 m c (t.val - 1) (by omega)).2 = (outsAt0 m c t'.val t'.isLt).2 := by
    congr 2; exact e.symm
  rw [e']
  generalize (outsAt0 m c t'.val t'.isLt).2 = acc
  frame_out
  open_payloads
  pointwise [read_unread_whole]
  rfl

theorem part_0 (t : Fin cfg0.N) (a : Fin 1408) (b : Fin 1024) (A : Fin 2816) (h : t.val % 2 = 0) (hA : (t.val / 2) * 1408 + a.val = A.val) :
    part m c t a b = ∑ k : Fin 2048, A0 m c (ix2 ⟨k.val, by omega⟩ A) * A1 m c (ix2 ⟨k.val, by omega⟩ b) :=
  Finset.sum_congr rfl fun k _ => by
    have hk := k.isLt
    rw [block_0 m c t k a ⟨k.val, by omega⟩ A (by show _ = k.val; omega) (by omega), block_1 m c t k b ⟨k.val, by omega⟩ b (by show _ = k.val; omega) rfl]

theorem part_1 (t : Fin cfg0.N) (a : Fin 1408) (b : Fin 1024) (A : Fin 2816) (h : t.val % 2 = 1) (hA : (t.val / 2) * 1408 + a.val = A.val) :
    part m c t a b = ∑ k : Fin 2048, A0 m c (ix2 ⟨2048 + k.val, by omega⟩ A) * A1 m c (ix2 ⟨2048 + k.val, by omega⟩ b) :=
  Finset.sum_congr rfl fun k _ => by
    have hk := k.isLt
    rw [block_0 m c t k a ⟨2048 + k.val, by omega⟩ A (by show _ = 2048 + k.val; omega) (by omega), block_1 m c t k b ⟨2048 + k.val, by omega⟩ b (by show _ = 2048 + k.val; omega) rfl]

theorem final_out (A : Fin 2816) (B : Fin 1024) : (dats m 0 c).arrAt 2 cfg0.N (ix2 A B) = ∑ k : Fin 4096, A0 m c (ix2 k A) * A1 m c (ix2 k B) := by
  let t : Fin cfg0.N := ⟨2 * (A.val / 1408) + 1, by show _ < 4; omega⟩
  have ht : t.val = 2 * (A.val / 1408) + 1 := rfl
  obtain ⟨_, _, _, _, e0, e1⟩ := idx t
  let a : Fin 1408 := ⟨A.val % 1408, by omega⟩
  have ha : a.val = A.val % 1408 := rfl
  let b : Fin 1024 := ⟨B.val % 1024, by omega⟩
  have hb : b.val = B.val % 1024 := rfl
  have bl := congrFun (Value.flushed2_eq m c t ((flush0_2 t).mpr (by omega))).symm (ix2 a b)
  rw [← Value.final2, Value.flushed2] at bl
  have e : ((cfg0.win 2).blk t).view.emb (ix2 a b) = (ix2 A B : S2816x1024.Idx) := by
    funext x; apply Fin.ext
    match x with
    | ⟨0, _⟩ => show win0_2.index t (0 : Fin 2) * 1408 + 1 * (A.val % 1408) = A.val; omega
    | ⟨1, _⟩ => show win0_2.index t (1 : Fin 2) * 1024 + 1 * (B.val % 1024) = B.val; omega
  have b' : (dats m 0 c).arrAt 2 cfg0.N (((cfg0.win 2).blk t).view.emb (ix2 a b)) = (outsAt0 m c t.val t.isLt).1 (ix2 a b) := bl
  rw [e] at b'
  clear e bl
  have hB : b = B := Fin.ext (by omega)
  have hN : cfg0.N = 4 := N_0
  let t' : Fin cfg0.N := ⟨2 * (A.val / 1408), by omega⟩
  have ht' : t'.val = 2 * (A.val / 1408) := rfl
  rw [b', second m c t t' (by omega) (by omega), part_0 m c t' a b A (by omega) (by omega), part_1 m c t a b A (by omega) (by omega), hB]
  exact (halves 2048 fun k : Fin 4096 => A0 m c (ix2 k A) * A1 m c (ix2 k B)).symm

end Cert.FfnOutDwValue

end
-- ==== Proof.FfnOutDwEqual.lean ====
/-
  `kernel_ffn_out_dw` against its reference.
-/
module

public import proofs.«01_k».proof.Defs
public import proofs.«01_k».proof.Proof.Gen.FfnOutDw.Frame
public import proofs.«01_k».proof.Proof.Gen.FfnOutDwRefIdeal.Run
public import proofs.«01_k».proof.Proof.FfnOutDwValue
public import Idealize.ShloMosaic.Adequacy

@[expose] public section

noncomputable section

namespace Cert.Proof

open Idealize.ShloMosaic Idealize.ShloMosaic.TcCoe Idealize.SL.Sem

theorem frame_ffn_out_dw : Cert.quiescent_FfnOutDw := fun m ρ _ => Cert.FfnOutDw.Gen.frame m ρ
theorem frame_ffn_out_dw_ideal : Cert.quiescent_FfnOutDwIdeal := fun m ρ _ => Cert.FfnOutDwIdeal.Gen.frame m ρ
theorem frame_ffn_out_dw_reference : Cert.quiescent_FfnOutDwRefIdeal := fun m ρ _ =>
  (θ_run Cert.FfnOutDwRefIdeal.defs _ _).mono (fun r h => ⟨fun c => (h c).2, sem_eq_zero_of_no_sems (by decide) r.2⟩)
    (Cert.FfnOutDwRefIdeal.Value.run (F := Ideal) m ρ)

theorem ffn_out_dw_equal : Cert.algebraic_FfnOutDwIdeal_FfnOutDwRefIdeal := by
  intro m ρ m' ρ' _ ha
  refine ⟨fun c => (Cert.FfnOutDwIdeal.Gen.dats m 0 c).arrAt 2 Cert.FfnOutDwIdeal.cfg0.N,
    Cert.FfnOutDwIdeal.Value.run_blocks m ρ, ?_⟩
  refine (θ_run Cert.FfnOutDwRefIdeal.defs _ _).mono (fun r h c => ?_) (Cert.FfnOutDwRefIdeal.Value.run (F := Ideal) m' ρ')
  obtain ⟨a0, a1⟩ := ha c
  refine ⟨(h c).1.trans ?_, (h c).2⟩ <;> clear h
  · try rw [a0]
    try rw [a1]
    clear ha a0 a1
    funext (y : Cert.FfnOutDwIdeal.S2816x1024.Idx)
    have e : y = ix2 (y 0) (y 1) := by
      funext a; match a with | ⟨0, _⟩ => rfl | ⟨1, _⟩ => rfl
    generalize y 0 = A at e; generalize y 1 = B at e
    rw [e]
    refine Eq.trans ?_ (Cert.FfnOutDwValue.final_out m c A B).symm
    pointwise
    exact Finset.sum_congr rfl fun k _ => mul_comm _ _

end Cert.Proof

end
-- ==== Proof.ProjValue.lean ====
/-
  The result of `kernel_proj`, read at an index.
-/
module

public import proofs.«01_k».proof.Proof.Gen.ProjIdeal.Value
public import Idealize.ShloMosaic.Lib.Pipeline.ValueKit.Point
public import Idealize.ShloMosaic.Lib.Pipeline.ReadBack
public import Idealize.ShloMosaic.Lib.StableHlo.RunRead

@[expose] public section

noncomputable section

namespace Cert.ProjValue

open Idealize.ShloMosaic Idealize.ShloMosaic.TcCoe Idealize.SL.Sem
open Cert.ProjIdeal Cert.ProjIdeal.Gen

variable (m : (ℓ : Loc nD τ sig) → Buf (Elt Ideal) ℓ) (c : Dev nD)

theorem idx : ∀ t : Fin cfg0.N, win0_0.index t (0 : Fin 2) = t.val / 5
    ∧ win0_0.index t (1 : Fin 2) = 0
    ∧ win0_1.index t (0 : Fin 2) = t.val % 5
    ∧ win0_1.index t (1 : Fin 2) = 0
    ∧ win0_2.index t (0 : Fin 2) = t.val / 5
    ∧ win0_2.index t (1 : Fin 2) = t.val % 5 :=
  (by decide +kernel : ∀ t : Fin grid0.N, _)

/-- The argument arrays. -/
abbrev A0 : Vec Ideal S4096x1024 .bf16 := m ((c : Thread nD τ).loc main_arg0)
abbrev A1 : Vec Ideal S1024x5640 .f32 := m ((c : Thread nD τ).loc main_arg1)

/-- The blocks a point reads. -/
abbrev X0 (t : Fin cfg0.N) : Vec Ideal S2048x1024 .bf16 := iblk m c 0 t
abbrev X1 (t : Fin cfg0.N) : Vec Ideal S1152x1024 .bf16 := iblk m c 1 t

/-- The weight transposed. -/
abbrev wt : FVec Ideal S5640x1024 .bf16 :=
  truncf (F := Ideal) .bf16 (transpose S5640x1024 [1, 0] (A1 m c : FVec Ideal S1024x5640 .f32) transposes_S1024x5640_S5640x1024_1_0) bitsLt_bf16_f32

/-- The weight with its rows in the kernel's order, a tail of zeros after them. -/
abbrev mine : FVec Ideal S5760x1024 .bf16 :=
  concatenate S5760x1024 0 [⟨S2048x1024, extractStridedSlice S2048x1024 ![3592, 0] (wt m c) slices_S5640x1024_S2048x1024_3592_0⟩,
    ⟨S3584x1024, extractStridedSlice S3584x1024 ![0, 0] (wt m c) slices_S5640x1024_S3584x1024_0_0⟩,
    ⟨S8x1024, extractStridedSlice S8x1024 ![3584, 0] (wt m c) slices_S5640x1024_S8x1024_3584_0⟩,
    ⟨S120x1024, broadcastInDim S120x1024 ![] bcast_S_S120x1024 (constant (F := Ideal) S_ .bf16 0x0000#16)⟩]
    concatenates_S2048x1024_S3584x1024_S8x1024_S120x1024_S5760x1024_d0

/-- An operand that the host prepares. -/
theorem entry_v6 : V m c main_v6 = mine m c := by
  show StableHlo.after ([hostOps0] : List (List (HloOp τ sig (Elt Ideal)))).flatten (fun b => m (c, b)) (Proc.tc.devRef main_v6) = _
  simp only [List.flatten_cons, List.flatten_nil, List.cons_append, List.nil_append, List.append_nil]
  after_reads_simp
  rfl

theorem block_0 (t : Fin cfg0.N) (a : Fin 2048) (b : Fin 1024) (A : Fin 4096) (B : Fin 1024)
    (h0 : (t.val / 5) * 2048 + a.val = A.val) (h1 : b.val = B.val) : X0 m c t (ix2 a b) = A0 m c (ix2 A B) := by
  obtain ⟨e0, e1, _⟩ := idx t
  blk_ext [X0, A0, iblk, V, e0, e1]

theorem block_1 (t : Fin cfg0.N) (a : Fin 1152) (b : Fin 1024) (A : Fin 5760) (B : Fin 1024)
    (h0 : (t.val % 5) * 1152 + a.val = A.val) (h1 : b.val = B.val) : X1 m c t (ix2 a b) = mine m c (ix2 A B) := by
  obtain ⟨_, _, e0, e1, _⟩ := idx t
  show V m c main_v6 (((cfg0.win 1).blk t).view.emb (ix2 a b )) = _
  have e : ((cfg0.win 1).blk t).view.emb (ix2 a b) = (ix2 A B : S5760x1024.Idx) := by
    funext x; apply Fin.ext
    match x with
    | ⟨0, _⟩ => show win0_1.index t (0 : Fin 2) * 1152 + 1 * a.val = A.val; omega
    | ⟨1, _⟩ => show win0_1.index t (1 : Fin 2) * 1024 + 1 * b.val = B.val; omega
  rw [e, entry_v6]

/-- Row `n` of the weight in the kernel's order. -/
def row (n : Fin 5760) (k : Fin 1024) : EReal :=
  if h : n.val < 2048 then A1 m c (ix2 k ⟨3592 + n.val, by omega⟩)
  else if h : n.val < 5632 then A1 m c (ix2 k ⟨n.val - 2048, by omega⟩)
  else if h : n.val < 5640 then A1 m c (ix2 k ⟨3584 + (n.val - 5632), by omega⟩)
  else 0

theorem wt_apply (n : Fin 5640) (k : Fin 1024) : wt m c (ix2 n k) = A1 m c (ix2 k n) := by
  pointwise

theorem slice_0 (x : FVec Ideal S5640x1024 .bf16) (n : Fin 2048) (k : Fin 1024) :
    extractStridedSlice S2048x1024 ![3592, 0] x slices_S5640x1024_S2048x1024_3592_0 (ix2 n k) = x (ix2 ⟨3592 + n.val, by omega⟩ k) := by
  pointwise

theorem slice_1 (x : FVec Ideal S5640x1024 .bf16) (n : Fin 3584) (k : Fin 1024) :
    extractStridedSlice S3584x1024 ![0, 0] x slices_S5640x1024_S3584x1024_0_0 (ix2 n k) = x (ix2 ⟨n.val, by omega⟩ k) := by
  pointwise

theorem slice_2 (x : FVec Ideal S5640x1024 .bf16) (n : Fin 8) (k : Fin 1024) :
    extractStridedSlice S8x1024 ![3584, 0] x slices_S5640x1024_S8x1024_3584_0 (ix2 n k) = x (ix2 ⟨3584 + n.val, by omega⟩ k) := by
  pointwise

theorem mine_apply (n : Fin 5760) (k : Fin 1024) : mine m c (ix2 n k) = row m c n k := by
  unfold row
  have hn := n.isLt
  by_cases h0 : n.val < 2048
  · rw [dif_pos h0]
    refine (concatenate_apply_piece 0 _ _ (ix2 n k) 0 (by show 0 < 4; omega) S2048x1024 _ rfl rfl 0 rfl (ix2 ⟨n.val, h0⟩ k)
      (fun b hb => match b with | ⟨0, _⟩ => absurd rfl hb | ⟨1, _⟩ => rfl) (show 0 + (n.val) = n.val by omega)).trans ?_
    rw [slice_0, wt_apply]
  rw [dif_neg h0]
  by_cases h1 : n.val < 5632
  · rw [dif_pos h1]
    refine (concatenate_apply_piece 0 _ _ (ix2 n k) 1 (by show 1 < 4; omega) S3584x1024 _ rfl rfl 2048 rfl (ix2 ⟨n.val - 2048, by omega⟩ k)
      (fun b hb => match b with | ⟨0, _⟩ => absurd rfl hb | ⟨1, _⟩ => rfl) (show 2048 + (n.val - 2048) = n.val by omega)).trans ?_
    rw [slice_1, wt_apply]
  rw [dif_neg h1]
  by_cases h2 : n.val < 5640
  · rw [dif_pos h2]
    refine (concatenate_apply_piece 0 _ _ (ix2 n k) 2 (by show 2 < 4; omega) S8x1024 _ rfl rfl 5632 rfl (ix2 ⟨n.val - 5632, by omega⟩ k)
      (fun b hb => match b with | ⟨0, _⟩ => absurd rfl hb | ⟨1, _⟩ => rfl) (show 5632 + (n.val - 5632) = n.val by omega)).trans ?_
    rw [slice_2, wt_apply]
  rw [dif_neg h2]
  refine (concatenate_apply_piece 0 _ _ (ix2 n k) 3 (by show 3 < 4; omega) S120x1024 _ rfl rfl 5640 rfl (ix2 ⟨n.val - 5640, by omega⟩ k)
      (fun b hb => match b with | ⟨0, _⟩ => absurd rfl hb | ⟨1, _⟩ => rfl) (show 5640 + (n.val - 5640) = n.val by omega)).trans ?_
  pointwise

/-- Row `A` of `h1` against row `B` of the weight. -/
def prod (A : Fin 4096) (B : Fin 5760) : EReal := ∑ k : Fin 1024, A0 m c (ix2 A k) * row m c B k

theorem out (t : Fin cfg0.N) (r : Fin 2048) (j : Fin 1152) : out0_2 (X0 m c t) (X1 m c t) (ix2 r j)
    = ∑ k : Fin 1024, X0 m c t (ix2 r k) * X1 m c t (ix2 j k) := by
  frame_out
  open_payloads
  pointwise [read_unread_whole]

theorem prod_eq (t : Fin cfg0.N) (a : Fin 2048) (b : Fin 1152) (A : Fin 4096) (B : Fin 5760) (hA : (t.val / 5) * 2048 + a.val = A.val)
    (hB : (t.val % 5) * 1152 + b.val = B.val) : ∑ k : Fin 1024, X0 m c t (ix2 a k) * X1 m c t (ix2 b k) = prod m c A B :=
  Finset.sum_congr rfl fun k _ => by rw [block_0 m c t a k A k hA rfl, block_1 m c t b k B k hB rfl, mine_apply]

theorem final_out (A : Fin 4096) (B : Fin 5760) : (dats m 0 c).arrAt 2 cfg0.N (ix2 A B) = prod m c A B := by
  let t : Fin cfg0.N := ⟨(A.val / 2048) * 5 + B.val / 1152, by show _ < 10; omega⟩
  have ht : t.val = (A.val / 2048) * 5 + B.val / 1152 := rfl
  obtain ⟨_, _, _, _, e0, e1⟩ := idx t
  let a : Fin 2048 := ⟨A.val % 2048, by omega⟩
  have ha : a.val = A.val % 2048 := rfl
  let b : Fin 1152 := ⟨B.val % 1152, by omega⟩
  have hb : b.val = B.val % 1152 := rfl
  have bl := congrFun (Value.blocks2 m c t (flush0_2 t)) (ix2 a b)
  rw [Value.flushed2] at bl
  have e : ((cfg0.win 2).blk t).view.emb (ix2 a b) = (ix2 A B : S4096x5760.Idx) := by
    funext x; apply Fin.ext
    match x with
    | ⟨0, _⟩ => show win0_2.index t (0 : Fin 2) * 2048 + 1 * (A.val % 2048) = A.val; omega
    | ⟨1, _⟩ => show win0_2.index t (1 : Fin 2) * 1152 + 1 * (B.val % 1152) = B.val; omega
  have b' : (dats m 0 c).arrAt 2 cfg0.N (((cfg0.win 2).blk t).view.emb (ix2 a b)) = out0_2 (X0 m c t) (X1 m c t) (ix2 a b) := bl
  rw [e] at b'
  clear e bl
  exact (b'.trans (out m c t a b)).trans (prod_eq m c t a b A B (by omega) (by omega))

end Cert.ProjValue

end
-- ==== Proof.ProjEqual.lean ====
/-
  `kernel_proj` against its reference.
-/
module

public import proofs.«01_k».proof.Defs
public import proofs.«01_k».proof.Proof.Gen.Proj.Frame
public import proofs.«01_k».proof.Proof.Gen.ProjRefIdeal.Run
public import proofs.«01_k».proof.Proof.ProjValue
public import Idealize.ShloMosaic.Adequacy

@[expose] public section

noncomputable section

set_option maxRecDepth 20000

namespace Cert.ProjEqual

open Cert.ProjRefIdeal Cert.ProjRefIdeal.Facts₀ Cert.ProjRefIdeal.Facts Idealize.ShloMosaic Idealize.ShloMosaic.TcCoe Idealize.ShloMosaic.Pipeline

theorem whole (x : FVec Ideal S4096x1024 .bf16) (w : FVec Ideal S1024x5640 .f32) (A : Fin 4096) (B : Fin 5640) :
    Host.dotGeneral dot_S4096x1024_S1024x5640_S4096x5640_1_0_0_1_n_n none (extf .f32 x bitsLt_bf16_f32) w (ix2 A B) = ∑ k : Fin 1024, x (ix2 A k) * w (ix2 k B) := by
  pointwise

theorem term (x : FVec Ideal S4096x1024 .bf16) (w : FVec Ideal S1024x5640 .f32) (A : Fin 4096) (k : Fin 1024) (p q : Fin 5640) (h : p.val = q.val) :
    x (ix2 A k) * w (ix2 k p) = x (ix2 A k) * w (ix2 k q) := by
  rw [Fin.ext h]

theorem cols_0 (x : FVec Ideal S4096x5640 .f32) (A : Fin 4096) (B : Fin 1024) :
    extractStridedSlice S4096x1024 ![0, 3592] x slices_S4096x5640_S4096x1024_0_3592 (ix2 A B) = x (ix2 A ⟨3592 + B.val, by omega⟩) := by
  pointwise

theorem cols_1 (x : FVec Ideal S4096x5640 .f32) (A : Fin 4096) (B : Fin 1024) :
    extractStridedSlice S4096x1024 ![0, 4616] x slices_S4096x5640_S4096x1024_0_4616 (ix2 A B) = x (ix2 A ⟨4616 + B.val, by omega⟩) := by
  pointwise

theorem cols_2 (x : FVec Ideal S4096x5640 .f32) (A : Fin 4096) (B : Fin 512) :
    extractStridedSlice S4096x512 ![0, 0] x slices_S4096x5640_S4096x512_0_0 (ix2 A B) = x (ix2 A ⟨B.val, by omega⟩) := by
  pointwise

theorem cols_3 (x : FVec Ideal S4096x5640 .f32) (A : Fin 4096) (B : Fin 512) :
    extractStridedSlice S4096x512 ![0, 512] x slices_S4096x5640_S4096x512_0_512 (ix2 A B) = x (ix2 A ⟨512 + B.val, by omega⟩) := by
  pointwise

theorem cols_4 (x : FVec Ideal S4096x5640 .f32) (A : Fin 4096) (B : Fin 512) :
    extractStridedSlice S4096x512 ![0, 1024] x slices_S4096x5640_S4096x512_0_1024 (ix2 A B) = x (ix2 A ⟨1024 + B.val, by omega⟩) := by
  pointwise

theorem cols_5 (x : FVec Ideal S4096x5640 .f32) (A : Fin 4096) (B : Fin 1536) :
    extractStridedSlice S4096x1536 ![0, 1536] x slices_S4096x5640_S4096x1536_0_1536 (ix2 A B) = x (ix2 A ⟨1536 + B.val, by omega⟩) := by
  pointwise

theorem cols_6 (x : FVec Ideal S4096x5640 .f32) (A : Fin 4096) (B : Fin 512) :
    extractStridedSlice S4096x512 ![0, 3072] x slices_S4096x5640_S4096x512_0_3072 (ix2 A B) = x (ix2 A ⟨3072 + B.val, by omega⟩) := by
  pointwise

theorem cols_7 (x : FVec Ideal S4096x5640 .f32) (A : Fin 4096) (B : Fin 4) :
    extractStridedSlice S4096x4 ![0, 3584] x slices_S4096x5640_S4096x4_0_3584 (ix2 A B) = x (ix2 A ⟨3584 + B.val, by omega⟩) := by
  pointwise

theorem cols_8 (x : FVec Ideal S4096x5640 .f32) (A : Fin 4096) (B : Fin 4) :
    extractStridedSlice S4096x4 ![0, 3588] x slices_S4096x5640_S4096x4_0_3588 (ix2 A B) = x (ix2 A ⟨3588 + B.val, by omega⟩) := by
  pointwise

end Cert.ProjEqual

namespace Cert.Proof

open Idealize.ShloMosaic Idealize.ShloMosaic.TcCoe Idealize.SL.Sem

theorem frame_proj : Cert.quiescent_Proj := fun m ρ _ => Cert.Proj.Gen.frame m ρ
theorem frame_proj_ideal : Cert.quiescent_ProjIdeal := fun m ρ _ => Cert.ProjIdeal.Gen.frame m ρ
theorem frame_proj_reference : Cert.quiescent_ProjRefIdeal := fun m ρ _ =>
  (θ_run Cert.ProjRefIdeal.defs _ _).mono (fun r h => ⟨fun c => (h c).2, sem_eq_zero_of_no_sems (by decide) r.2⟩)
    (Cert.ProjRefIdeal.Value.run (F := Ideal) m ρ)

theorem proj_equal : Cert.algebraic_ProjIdeal_ProjRefIdeal := by
  intro m ρ m' ρ' _ ha
  refine ⟨fun c => (Cert.ProjIdeal.Gen.dats m 0 c).arrAt 2 Cert.ProjIdeal.cfg0.N,
    Cert.ProjIdeal.Value.run_blocks m ρ, ?_⟩
  refine (θ_run Cert.ProjRefIdeal.defs _ _).mono (fun r h c => ?_) (Cert.ProjRefIdeal.Value.run (F := Ideal) m' ρ')
  obtain ⟨a0, a1⟩ := ha c
  refine ⟨(h c).1.trans ?_, (h c).2⟩ <;> clear h
  · try rw [a0]
    try rw [a1]
    clear ha a0 a1
    funext (y : Cert.ProjIdeal.S4096x5760.Idx)
    have e : y = ix2 (y 0) (y 1) := by
      funext a; match a with | ⟨0, _⟩ => rfl | ⟨1, _⟩ => rfl
    generalize y 0 = A at e; generalize y 1 = B at e
    rw [e]
    refine Eq.trans ?_ (Cert.ProjValue.final_out m c A B).symm
    unfold Cert.ProjValue.prod
    have hB : B.val < 5760 := B.isLt
    by_cases h0 : B.val < 1024
    · refine (concatenate_apply_piece 1 _ _ (ix2 A B) 0 (by show 0 < 10; omega) Cert.ProjRefIdeal.S4096x1024 _ rfl rfl 0 rfl (ix2 A ⟨B.val - 0, by omega⟩)
      (fun b hb => match b with | ⟨1, _⟩ => absurd rfl hb | ⟨0, _⟩ => rfl) (show 0 + (B.val - 0) = B.val by omega)).trans ?_
      refine (Cert.ProjEqual.cols_0 _ A _).trans ?_
      refine (Cert.ProjEqual.whole _ _ A _).trans ?_
      refine Finset.sum_congr rfl fun k _ => ?_
      unfold Cert.ProjValue.row
      rw [dif_pos (show B.val < 2048 by omega)]
      all_goals exact Cert.ProjEqual.term (Cert.ProjValue.A0 m c) (Cert.ProjValue.A1 m c) A k _ _ (show 3592 + (B.val - 0) = 3592 + B.val by omega)
    by_cases h1 : B.val < 2048
    · refine (concatenate_apply_piece 1 _ _ (ix2 A B) 1 (by show 1 < 10; omega) Cert.ProjRefIdeal.S4096x1024 _ rfl rfl 1024 rfl (ix2 A ⟨B.val - 1024, by omega⟩)
      (fun b hb => match b with | ⟨1, _⟩ => absurd rfl hb | ⟨0, _⟩ => rfl) (show 1024 + (B.val - 1024) = B.val by omega)).trans ?_
      refine (Cert.ProjEqual.cols_1 _ A _).trans ?_
      refine (Cert.ProjEqual.whole _ _ A _).trans ?_
      refine Finset.sum_congr rfl fun k _ => ?_
      unfold Cert.ProjValue.row
      rw [dif_pos (show B.val < 2048 by omega)]
      all_goals exact Cert.ProjEqual.term (Cert.ProjValue.A0 m c) (Cert.ProjValue.A1 m c) A k _ _ (show 4616 + (B.val - 1024) = 3592 + B.val by omega)
    by_cases h2 : B.val < 2560
    · refine (concatenate_apply_piece 1 _ _ (ix2 A B) 2 (by show 2 < 10; omega) Cert.ProjRefIdeal.S4096x512 _ rfl rfl 2048 rfl (ix2 A ⟨B.val - 2048, by omega⟩)
      (fun b hb => match b with | ⟨1, _⟩ => absurd rfl hb | ⟨0, _⟩ => rfl) (show 2048 + (B.val - 2048) = B.val by omega)).trans ?_
      refine (Cert.ProjEqual.cols_2 _ A _).trans ?_
      refine (Cert.ProjEqual.whole _ _ A _).trans ?_
      refine Finset.sum_congr rfl fun k _ => ?_
      unfold Cert.ProjValue.row
      rw [dif_neg (show ¬ B.val < 2048 by omega), dif_pos (show B.val < 5632 by omega)]
      all_goals exact Cert.ProjEqual.term (Cert.ProjValue.A0 m c) (Cert.ProjValue.A1 m c) A k _ _ (show (B.val - 2048) = B.val - 2048 by omega)
    by_cases h3 : B.val < 3072
    · refine (concatenate_apply_piece 1 _ _ (ix2 A B) 3 (by show 3 < 10; omega) Cert.ProjRefIdeal.S4096x512 _ rfl rfl 2560 rfl (ix2 A ⟨B.val - 2560, by omega⟩)
      (fun b hb => match b with | ⟨1, _⟩ => absurd rfl hb | ⟨0, _⟩ => rfl) (show 2560 + (B.val - 2560) = B.val by omega)).trans ?_
      refine (Cert.ProjEqual.cols_3 _ A _).trans ?_
      refine (Cert.ProjEqual.whole _ _ A _).trans ?_
      refine Finset.sum_congr rfl fun k _ => ?_
      unfold Cert.ProjValue.row
      rw [dif_neg (show ¬ B.val < 2048 by omega), dif_pos (show B.val < 5632 by omega)]
      all_goals exact Cert.ProjEqual.term (Cert.ProjValue.A0 m c) (Cert.ProjValue.A1 m c) A k _ _ (show 512 + (B.val - 2560) = B.val - 2048 by omega)
    by_cases h4 : B.val < 3584
    · refine (concatenate_apply_piece 1 _ _ (ix2 A B) 4 (by show 4 < 10; omega) Cert.ProjRefIdeal.S4096x512 _ rfl rfl 3072 rfl (ix2 A ⟨B.val - 3072, by omega⟩)
      (fun b hb => match b with | ⟨1, _⟩ => absurd rfl hb | ⟨0, _⟩ => rfl) (show 3072 + (B.val - 3072) = B.val by omega)).trans ?_
      refine (Cert.ProjEqual.cols_4 _ A _).trans ?_
      refine (Cert.ProjEqual.whole _ _ A _).trans ?_
      refine Finset.sum_congr rfl fun k _ => ?_
      unfold Cert.ProjValue.row
      rw [dif_neg (show ¬ B.val < 2048 by omega), dif_pos (show B.val < 5632 by omega)]
      all_goals exact Cert.ProjEqual.term (Cert.ProjValue.A0 m c) (Cert.ProjValue.A1 m c) A k _ _ (show 1024 + (B.val - 3072) = B.val - 2048 by omega)
    by_cases h5 : B.val < 5120
    · refine (concatenate_apply_piece 1 _ _ (ix2 A B) 5 (by show 5 < 10; omega) Cert.ProjRefIdeal.S4096x1536 _ rfl rfl 3584 rfl (ix2 A ⟨B.val - 3584, by omega⟩)
      (fun b hb => match b with | ⟨1, _⟩ => absurd rfl hb | ⟨0, _⟩ => rfl) (show 3584 + (B.val - 3584) = B.val by omega)).trans ?_
      refine (Cert.ProjEqual.cols_5 _ A _).trans ?_
      refine (Cert.ProjEqual.whole _ _ A _).trans ?_
      refine Finset.sum_congr rfl fun k _ => ?_
      unfold Cert.ProjValue.row
      rw [dif_neg (show ¬ B.val < 2048 by omega), dif_pos (show B.val < 5632 by omega)]
      all_goals exact Cert.ProjEqual.term (Cert.ProjValue.A0 m c) (Cert.ProjValue.A1 m c) A k _ _ (show 1536 + (B.val - 3584) = B.val - 2048 by omega)
    by_cases h6 : B.val < 5632
    · refine (concatenate_apply_piece 1 _ _ (ix2 A B) 6 (by show 6 < 10; omega) Cert.ProjRefIdeal.S4096x512 _ rfl rfl 5120 rfl (ix2 A ⟨B.val - 5120, by omega⟩)
      (fun b hb => match b with | ⟨1, _⟩ => absurd rfl hb | ⟨0, _⟩ => rfl) (show 5120 + (B.val - 5120) = B.val by omega)).trans ?_
      refine (Cert.ProjEqual.cols_6 _ A _).trans ?_
      refine (Cert.ProjEqual.whole _ _ A _).trans ?_
      refine Finset.sum_congr rfl fun k _ => ?_
      unfold Cert.ProjValue.row
      rw [dif_neg (show ¬ B.val < 2048 by omega), dif_pos (show B.val < 5632 by omega)]
      all_goals exact Cert.ProjEqual.term (Cert.ProjValue.A0 m c) (Cert.ProjValue.A1 m c) A k _ _ (show 3072 + (B.val - 5120) = B.val - 2048 by omega)
    by_cases h7 : B.val < 5636
    · refine (concatenate_apply_piece 1 _ _ (ix2 A B) 7 (by show 7 < 10; omega) Cert.ProjRefIdeal.S4096x4 _ rfl rfl 5632 rfl (ix2 A ⟨B.val - 5632, by omega⟩)
      (fun b hb => match b with | ⟨1, _⟩ => absurd rfl hb | ⟨0, _⟩ => rfl) (show 5632 + (B.val - 5632) = B.val by omega)).trans ?_
      refine (Cert.ProjEqual.cols_7 _ A _).trans ?_
      refine (Cert.ProjEqual.whole _ _ A _).trans ?_
      refine Finset.sum_congr rfl fun k _ => ?_
      unfold Cert.ProjValue.row
      rw [dif_neg (show ¬ B.val < 2048 by omega), dif_neg (show ¬ B.val < 5632 by omega), dif_pos (show B.val < 5640 by omega)]
      all_goals exact Cert.ProjEqual.term (Cert.ProjValue.A0 m c) (Cert.ProjValue.A1 m c) A k _ _ (show 3584 + (B.val - 5632) = 3584 + (B.val - 5632) by omega)
    by_cases h8 : B.val < 5640
    · refine (concatenate_apply_piece 1 _ _ (ix2 A B) 8 (by show 8 < 10; omega) Cert.ProjRefIdeal.S4096x4 _ rfl rfl 5636 rfl (ix2 A ⟨B.val - 5636, by omega⟩)
      (fun b hb => match b with | ⟨1, _⟩ => absurd rfl hb | ⟨0, _⟩ => rfl) (show 5636 + (B.val - 5636) = B.val by omega)).trans ?_
      refine (Cert.ProjEqual.cols_8 _ A _).trans ?_
      refine (Cert.ProjEqual.whole _ _ A _).trans ?_
      refine Finset.sum_congr rfl fun k _ => ?_
      unfold Cert.ProjValue.row
      rw [dif_neg (show ¬ B.val < 2048 by omega), dif_neg (show ¬ B.val < 5632 by omega), dif_pos (show B.val < 5640 by omega)]
      all_goals exact Cert.ProjEqual.term (Cert.ProjValue.A0 m c) (Cert.ProjValue.A1 m c) A k _ _ (show 3588 + (B.val - 5636) = 3584 + (B.val - 5632) by omega)
    refine (concatenate_apply_piece 1 _ _ (ix2 A B) 9 (by show 9 < 10; omega) Cert.ProjRefIdeal.S4096x120 _ rfl rfl 5640 rfl (ix2 A ⟨B.val - 5640, by omega⟩)
      (fun b hb => match b with | ⟨1, _⟩ => absurd rfl hb | ⟨0, _⟩ => rfl) (show 5640 + (B.val - 5640) = B.val by omega)).trans ?_
    refine Eq.trans (b := (0 : EReal)) (by pointwise) ?_
    refine (Finset.sum_eq_zero fun k _ => ?_).symm
    unfold Cert.ProjValue.row
    rw [dif_neg (show ¬ B.val < 2048 by omega), dif_neg (show ¬ B.val < 5632 by omega), dif_neg (show ¬ B.val < 5640 by omega), mul_zero]

end Cert.Proof

end
-- ==== Proof.AdaBwd.lean ====
/-
  The gradient of a row's RMS norm, as the kernel writes it and as the derivative of the plain lines writes it.
-/
module

public import Idealize.ShloMosaic.PureOps.Ideal
public import Idealize.ShloMosaic.PureOps.Ideal.Laws
public import Idealize.ShloMosaic.Lib.WritesUnit
public import Idealize.ShloMosaic.Lib.Pipeline.ReadBack
public import Idealize.ShloMosaic.Lib.Pipeline.ValueKit.Point
public import proofs.«01_k».proof.Proof.ScanReal

@[expose] public section

noncomputable section

namespace Cert.AdaBwd

open Idealize.ShloMosaic

/-- A row's length, what is added to the mean square, and minus one half. -/
abbrev width : EReal := Ideal.ofBits .f32 1149239296#32
abbrev eps : EReal := Ideal.ofBits .f32 897988541#32
abbrev mhalf : EReal := Ideal.ofBits .f32 3204448256#32

theorem width_eq : width = ((1024 : ℝ) : EReal) := by
  simp [width, Ideal.ofBits, Ideal.ieee, -EReal.coe_mul]
  norm_num

theorem mhalf_eq : mhalf = ((-(1/2) : ℝ) : EReal) := by
  simp [mhalf, Ideal.ofBits, Ideal.ieee, -EReal.coe_mul, -EReal.coe_neg]
  norm_num

theorem eps_pos : ∃ e : ℝ, 0 < e ∧ eps = (e : EReal) := by
  refine ⟨8796093 / 8796093022208, by norm_num, ?_⟩
  simp [eps, Ideal.ofBits, Ideal.ieee, -EReal.coe_mul]
  norm_num

/-- A row's mean square, with what is added to it, and the root's inverse. -/
def var (x : Fin 1024 → EReal) : EReal := Ideal.div (∑ k, x k * x k) width + eps
def rinv (x : Fin 1024 → EReal) : EReal := Ideal.rsqrt (var x)

/-- The gradient of the row, as the kernel has it: `dn` is the gradient of the normalised row. -/
def kdx (x dn : Fin 1024 → EReal) (j : Fin 1024) : EReal :=
  rinv x * (dn j - x j * rinv x * Ideal.div (∑ k, dn k * (x k * rinv x)) width)

/-- The factor of the row in its gradient, as the derivative has it. -/
def fac (x dn : Fin 1024 → EReal) : EReal :=
  Ideal.div ((∑ k, x k * dn k) * (mhalf * Ideal.div (rinv x) (var x))) width

theorem div_real {y : ℝ} (h : y ≠ 0) (x : ℝ) : Ideal.div (x : EReal) (y : EReal) = ((x / y : ℝ) : EReal) := by
  rw [Ideal.div_coe h, ← EReal.coe_mul, one_div, div_eq_mul_inv]

theorem var_coe (a : Fin 1024 → ℝ) : ∃ v : ℝ, 0 < v ∧ var (fun k => (a k : EReal)) = (v : EReal) := by
  obtain ⟨e, he, h⟩ := eps_pos
  refine ⟨(∑ k, a k * a k) / 1024 + e, ?_, ?_⟩
  · have : 0 ≤ ∑ k, a k * a k := Finset.sum_nonneg fun k _ => mul_self_nonneg _
    positivity
  · unfold var
    rw [h, width_eq]
    simp only [← EReal.coe_mul, ← Cert.Scan.coe_sum]
    rw [div_real (by norm_num), ← EReal.coe_add]

theorem rsqrt_pos {v : ℝ} (h : 0 < v) : Ideal.rsqrt (v : EReal) = (((Real.sqrt v)⁻¹ : ℝ) : EReal) := by
  rw [Ideal.rsqrt_coe, if_neg (by linarith), if_neg h.ne']

theorem dx_coe (a b : Fin 1024 → ℝ) (j : Fin 1024) :
    (b j : EReal) * rinv (fun k => (a k : EReal)) + (a j : EReal) * fac (fun k => (a k : EReal)) (fun k => (b k : EReal))
      + fac (fun k => (a k : EReal)) (fun k => (b k : EReal)) * (a j : EReal)
      = kdx (fun k => (a k : EReal)) (fun k => (b k : EReal)) j := by
  obtain ⟨v, hv, h⟩ := var_coe a
  have hi : rinv (fun k => (a k : EReal)) = (((Real.sqrt v)⁻¹ : ℝ) : EReal) := by
    unfold rinv; rw [h, rsqrt_pos hv]
  unfold kdx fac
  rw [hi, h, width_eq, mhalf_eq]
  generalize hs : (Real.sqrt v)⁻¹ = s
  simp only [← EReal.coe_mul, ← Cert.Scan.coe_sum]
  rw [div_real hv.ne', div_real (by norm_num)]
  simp only [← EReal.coe_mul]
  rw [div_real (by norm_num)]
  simp only [← EReal.coe_mul, ← EReal.coe_add, ← EReal.coe_sub]
  have h2 : s / v = s * s * s := by
    have : s * s = v⁻¹ := by rw [← hs, ← mul_inv, Real.mul_self_sqrt hv.le]
    rw [this, div_eq_mul_inv]; ring
  have h3 : ∑ k, b k * (a k * s) = (∑ k, a k * b k) * s := by
    rw [Finset.sum_mul]; exact Finset.sum_congr rfl fun k _ => by ring
  rw [h2, h3]
  congr 1
  ring

/-- Both forms of the gradient of the row are the same where the row and the gradient of the normalised row are finite. -/
theorem dx_eq (x dn : Fin 1024 → EReal) (hx : ∀ k, x k ≠ ⊥ ∧ x k ≠ ⊤) (hd : ∀ k, dn k ≠ ⊥ ∧ dn k ≠ ⊤) (j : Fin 1024) (d : EReal) :
    d + dn j * rinv x + x j * fac x dn + fac x dn * x j = d + kdx x dn j := by
  have ex : x = fun k => ((x k).toReal : EReal) := funext fun k => (EReal.coe_toReal (hx k).2 (hx k).1).symm
  have ed : dn = fun k => ((dn k).toReal : EReal) := funext fun k => (EReal.coe_toReal (hd k).2 (hd k).1).symm
  rw [ex, ed, ← dx_coe]
  simp only [add_assoc]

/-- A finite sum of products of finite values is finite. -/
theorem sum_mul_fin {n : ℕ} (f g : Fin n → EReal) (hf : ∀ k, f k ≠ ⊥ ∧ f k ≠ ⊤) (hg : ∀ k, g k ≠ ⊥ ∧ g k ≠ ⊤) :
    (∑ k, f k * g k) ≠ ⊥ ∧ (∑ k, f k * g k) ≠ ⊤ := by
  have ef : f = fun k => ((f k).toReal : EReal) := funext fun k => (EReal.coe_toReal (hf k).2 (hf k).1).symm
  have eg : g = fun k => ((g k).toReal : EReal) := funext fun k => (EReal.coe_toReal (hg k).2 (hg k).1).symm
  rw [ef, eg]
  simp only [← EReal.coe_mul, ← Cert.Scan.coe_sum]
  exact ⟨EReal.coe_ne_bot _, EReal.coe_ne_top _⟩

theorem mul_fin {a b : EReal} (ha : a ≠ ⊥ ∧ a ≠ ⊤) (hb : b ≠ ⊥ ∧ b ≠ ⊤) : a * b ≠ ⊥ ∧ a * b ≠ ⊤ := by
  rw [← EReal.coe_toReal ha.2 ha.1, ← EReal.coe_toReal hb.2 hb.1, ← EReal.coe_mul]
  exact ⟨EReal.coe_ne_bot _, EReal.coe_ne_top _⟩

theorem one_add_fin {a : EReal} (ha : a ≠ ⊥ ∧ a ≠ ⊤) : 1 + a ≠ ⊥ ∧ 1 + a ≠ ⊤ := by
  rw [← EReal.coe_toReal ha.2 ha.1, ← EReal.coe_one, ← EReal.coe_add]
  exact ⟨EReal.coe_ne_bot _, EReal.coe_ne_top _⟩

/-- A sum in blocks. -/
theorem blocks (m n : ℕ) (f : Fin (m * n) → EReal) :
    ∑ k, f k = ∑ i : Fin m, ∑ j : Fin n, f ⟨i.val * n + j.val, by
      have := i.isLt; have := j.isLt; calc i.val * n + j.val < i.val * n + n := by omega
        _ = (i.val + 1) * n := by ring
        _ ≤ m * n := Nat.mul_le_mul_right n (by omega)⟩ := by
  rw [← finProdFinEquiv.sum_comp, Fintype.sum_prod_type]
  refine Finset.sum_congr rfl fun i _ => Finset.sum_congr rfl fun j _ => ?_
  congr 1
  apply Fin.ext
  show j.val + n * i.val = i.val * n + j.val
  rw [mul_comm]; omega

/-- A row of eight that the newest store wrote, and one that it did not write. -/
theorem row_hit {sig : RefSig} {κ : Kind} {sp : Space} {Val : EltTy → Type} {e : EltTy} (v : View sig κ sp (⟨2, ![8, 1024]⟩ : Shape) e)
    (f : v.ty.Contents Val) (i : ℕ) (inb : ∀ a, (![i, 0] : Fin 2 → ℕ) a + (![1, 1024] : Fin 2 → ℕ) a ≤ (⟨2, ![8, 1024]⟩ : Shape).size a)
    (w : (⟨2, ![1, 1024]⟩ : Shape).Idx → Val e) (L : List (View.Piece Val (⟨2, ![8, 1024]⟩ : Shape) e)) (ρ : Fin 8) (j : Fin 1024) (h : ρ.val = i) :
    v.read Val (v.writes Val f ((⟨Rect.unit (s := ⟨2, ![8, 1024]⟩) ![i, 0] ![1, 1024] inb, w⟩ : View.Piece Val (⟨2, ![8, 1024]⟩ : Shape) e) :: L)) (ix2 ρ j) = w (ix2 0 j) :=
  View.read_writes_cons_rows_of_mem (o := i) v f inb w L (ix2 ρ j) (ix2 0 j) rfl h rfl

theorem row_miss {sig : RefSig} {κ : Kind} {sp : Space} {Val : EltTy → Type} {e : EltTy} (v : View sig κ sp (⟨2, ![8, 1024]⟩ : Shape) e)
    (f : v.ty.Contents Val) (i : ℕ) (inb : ∀ a, (![i, 0] : Fin 2 → ℕ) a + (![1, 1024] : Fin 2 → ℕ) a ≤ (⟨2, ![8, 1024]⟩ : Shape).size a)
    (w : (⟨2, ![1, 1024]⟩ : Shape).Idx → Val e) (L : List (View.Piece Val (⟨2, ![8, 1024]⟩ : Shape) e)) (ρ : Fin 8) (j : Fin 1024) (h : ρ.val ≠ i) :
    v.read Val (v.writes Val f ((⟨Rect.unit (s := ⟨2, ![8, 1024]⟩) ![i, 0] ![1, 1024] inb, w⟩ : View.Piece Val (⟨2, ![8, 1024]⟩ : Shape) e) :: L)) (ix2 ρ j)
      = v.read Val (v.writes Val f L) (ix2 ρ j) :=
  View.read_writes_cons_rows_of_not_mem (o := i) (W := 1) v f inb w L (ix2 ρ j) rfl rfl (by show ρ.val < i ∨ i + 1 ≤ ρ.val; omega)

end Cert.AdaBwd

end
-- ==== Proof.FfnInDxValue.lean ====
/-
  The results of `kernel_ffn_in_dx`, read at an index.
-/
module

public import proofs.«01_k».proof.Proof.Gen.FfnInDxIdeal.Value
public import Idealize.ShloMosaic.Lib.Pipeline.ValueKit.Point
public import Idealize.ShloMosaic.Lib.Pipeline.ReadBack
public import Idealize.ShloMosaic.Lib.StableHlo.RunRead
public import Idealize.ShloMosaic.Lib.WritesUnit
public import proofs.«01_k».proof.Proof.AdaBwd

@[expose] public section

noncomputable section

namespace Cert.FfnInDxValue

open Idealize.ShloMosaic Idealize.ShloMosaic.TcCoe Idealize.SL.Sem
open Cert.FfnInDxIdeal Cert.FfnInDxIdeal.Gen
open Cert.AdaBwd (width eps mhalf var rinv kdx)

variable (m : (ℓ : Loc nD τ sig) → Buf (Elt Ideal) ℓ) (c : Dev nD)

theorem idx : ∀ t : Fin cfg0.N, win0_0.index t (0 : Fin 3) = (t.val % 4) / 2
    ∧ win0_0.index t (1 : Fin 3) = t.val / 4
    ∧ win0_0.index t (2 : Fin 3) = (t.val % 4) % 2
    ∧ win0_1.index t (0 : Fin 2) = t.val % 4
    ∧ win0_1.index t (1 : Fin 2) = 0
    ∧ win0_2.index t (0 : Fin 2) = t.val / 4
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_6.index t (0 : Fin 2) = t.val / 4
    ∧ win0_6.index t (1 : Fin 2) = 0
    ∧ win0_7.index t (0 : Fin 2) = t.val / 4
    ∧ win0_7.index t (1 : Fin 2) = 0
    ∧ win0_8.index t (0 : Fin 2) = 0
    ∧ win0_8.index t (1 : Fin 2) = 0
    ∧ win0_9.index t (0 : Fin 2) = t.val / 4
    ∧ win0_9.index t (1 : Fin 2) = 0
    ∧ win0_10.index t (0 : Fin 2) = t.val / 4
    ∧ win0_10.index t (1 : Fin 2) = 0
    ∧ win0_11.index t (0 : Fin 2) = 0
    ∧ win0_11.index t (1 : Fin 2) = 0 :=
  (by decide +kernel : ∀ t : Fin grid0.N, _)

/-- The argument arrays. -/
abbrev A0 : Vec Ideal S2x4096x2816 .bf16 := m ((c : Thread nD τ).loc main_arg0)
abbrev A1 : Vec Ideal S1024x5632 .f32 := m ((c : Thread nD τ).loc main_arg1)
abbrev A2 : Vec Ideal S4096x1024 .f32 := m ((c : Thread nD τ).loc main_arg2)
abbrev A3 : Vec Ideal S1024 .f32 := m ((c : Thread nD τ).loc main_arg3)
abbrev A4 : Vec Ideal S1x1024 .f32 := m ((c : Thread nD τ).loc main_arg4)
abbrev A6 : Vec Ideal S4096x1024 .f32 := m ((c : Thread nD τ).loc main_arg6)
abbrev A7 : Vec Ideal S4096x1024 .f32 := m ((c : Thread nD τ).loc main_arg7)
abbrev A8 : Vec Ideal S1x1024 .f32 := m ((c : Thread nD τ).loc main_arg8)

/-- The blocks a point reads. -/
abbrev X0 (t : Fin cfg0.N) : Vec Ideal S1x512x1408 .bf16 := iblk m c 0 t
abbrev X1 (t : Fin cfg0.N) : Vec Ideal S1408x1024 .bf16 := iblk m c 1 t
abbrev X2 (t : Fin cfg0.N) : Vec Ideal S512x1024 .f32 := iblk m c 2 t
abbrev X3 (t : Fin cfg0.N) : Vec Ideal S1x1024 .f32 := iblk m c 3 t
abbrev X4 (t : Fin cfg0.N) : Vec Ideal S1x1024 .f32 := iblk m c 4 t
abbrev X6 (t : Fin cfg0.N) : Vec Ideal S512x1024 .f32 := iblk m c 6 t
abbrev X7 (t : Fin cfg0.N) : Vec Ideal S512x1024 .f32 := iblk m c 7 t
abbrev X8 (t : Fin cfg0.N) : Vec Ideal S1x1024 .f32 := iblk m c 8 t

/-- The weight, transposed. -/
theorem entry_v1 (a : Fin 5632) (b : Fin 1024) : V m c main_v1 (ix2 a b) = A1 m c (ix2 b a) := by
  show StableHlo.after ([hostOps0] : List (List (HloOp τ sig (Elt Ideal)))).flatten (fun b => m (c, b)) (Proc.tc.devRef main_v1) _ = _
  simp only [List.flatten_cons, List.flatten_nil, List.cons_append, List.nil_append, List.append_nil]
  after_reads_simp
  pointwise

/-- The gain. -/
theorem entry_v2 (a : Fin 1) (b : Fin 1024) : V m c main_v2 (ix2 a b) = A3 m c (ix1 b) := by
  show StableHlo.after ([hostOps0] : List (List (HloOp τ sig (Elt Ideal)))).flatten (fun b => m (c, b)) (Proc.tc.devRef main_v2) _ = _
  simp only [List.flatten_cons, List.flatten_nil, List.cons_append, List.nil_append, List.append_nil]
  after_reads_simp
  pointwise

theorem block_0 (t : Fin cfg0.N) (a : Fin 1) (b : Fin 512) (d : Fin 1408) (A : Fin 2) (B : Fin 4096) (C : Fin 2816)
    (h0 : ((t.val % 4) / 2) * 1 + a.val = A.val) (h1 : (t.val / 4) * 512 + b.val = B.val) (h2 : ((t.val % 4) % 2) * 1408 + d.val = C.val) : X0 m c t (ix3 a b d) = A0 m c (ix3 A B C) := by
  obtain ⟨e0, e1, e2, _⟩ := idx t
  blk_ext [X0, A0, iblk, V, e0, e1, e2]

theorem block_1 (t : Fin cfg0.N) (a : Fin 1408) (b : Fin 1024) (A : Fin 5632) (B : Fin 1024)
    (h0 : (t.val % 4) * 1408 + a.val = A.val) (h1 : b.val = B.val) : X1 m c t (ix2 a b) = A1 m c (ix2 B A) := by
  obtain ⟨_, _, _, e0, e1, _⟩ := idx t
  show V m c main_v1 (((cfg0.win 1).blk t).view.emb (ix2 a b )) = _
  have e : ((cfg0.win 1).blk t).view.emb (ix2 a b) = (ix2 A B : S5632x1024.Idx) := by
    funext x; apply Fin.ext
    match x with
    | ⟨0, _⟩ => show win0_1.index t (0 : Fin 2) * 1408 + 1 * a.val = A.val; omega
    | ⟨1, _⟩ => show win0_1.index t (1 : Fin 2) * 1024 + 1 * b.val = B.val; omega
  rw [e, entry_v1]

theorem block_2 (t : Fin cfg0.N) (a : Fin 512) (b : Fin 1024) (A : Fin 4096) (B : Fin 1024)
    (h0 : (t.val / 4) * 512 + a.val = A.val) (h1 : b.val = B.val) : X2 m c t (ix2 a b) = A2 m c (ix2 A B) := by
  obtain ⟨_, _, _, _, _, e0, e1, _⟩ := idx t
  blk_ext [X2, A2, iblk, V, e0, e1]

theorem block_3 (t : Fin cfg0.N) (a : Fin 1) (b : Fin 1024) (A : Fin 1) (B : Fin 1024)
    (h0 : a.val = A.val) (h1 : b.val = B.val) : X3 m c t (ix2 a b) = A3 m c (ix1 B) := by
  obtain ⟨_, _, _, _, _, _, _, e0, e1, _⟩ := idx t
  show V m c main_v2 (((cfg0.win 3).blk t).view.emb (ix2 a b )) = _
  have e : ((cfg0.win 3).blk t).view.emb (ix2 a b) = (ix2 A B : S1x1024.Idx) := by
    funext x; apply Fin.ext
    match x with
    | ⟨0, _⟩ => show win0_3.index t (0 : Fin 2) * 1 + 1 * a.val = A.val; omega
    | ⟨1, _⟩ => show win0_3.index t (1 : Fin 2) * 1024 + 1 * b.val = B.val; omega
  rw [e, entry_v2]

theorem block_4 (t : Fin cfg0.N) (a : Fin 1) (b : Fin 1024) (A : Fin 1) (B : Fin 1024)
    (h0 : a.val = A.val) (h1 : b.val = B.val) : X4 m c t (ix2 a b) = A4 m c (ix2 A B) := by
  obtain ⟨_, _, _, _, _, _, _, _, _, e0, e1, _⟩ := idx t
  blk_ext [X4, A4, iblk, V, e0, e1]

theorem block_6 (t : Fin cfg0.N) (a : Fin 512) (b : Fin 1024) (A : Fin 4096) (B : Fin 1024)
    (h0 : (t.val / 4) * 512 + a.val = A.val) (h1 : b.val = B.val) : X6 m c t (ix2 a b) = A6 m c (ix2 A B) := by
  obtain ⟨_, _, _, _, _, _, _, _, _, _, _, e0, e1, _⟩ := idx t
  blk_ext [X6, A6, iblk, V, e0, e1]

theorem block_7 (t : Fin cfg0.N) (a : Fin 512) (b : Fin 1024) (A : Fin 4096) (B : Fin 1024)
    (h0 : (t.val / 4) * 512 + a.val = A.val) (h1 : b.val = B.val) : X7 m c t (ix2 a b) = A7 m c (ix2 A B) := by
  obtain ⟨_, _, _, _, _, _, _, _, _, _, _, _, _, e0, e1, _⟩ := idx t
  blk_ext [X7, A7, iblk, V, e0, e1]

theorem block_8 (t : Fin cfg0.N) (a : Fin 1) (b : Fin 1024) (A : Fin 1) (B : Fin 1024)
    (h0 : a.val = A.val) (h1 : b.val = B.val) : X8 m c t (ix2 a b) = A8 m c (ix2 A B) := by
  obtain ⟨_, _, _, _, _, _, _, _, _, _, _, _, _, _, _, e0, e1, _⟩ := idx t
  blk_ext [X8, A8, iblk, V, e0, e1]

/-- What a point adds to the product. -/
def part (t : Fin cfg0.N) (r : Fin 512) (j : Fin 1024) : EReal := ∑ k : Fin 1408, X0 m c t (ix3 0 r k) * X1 m c t (ix2 k j)

/-- The product so far. -/
abbrev acc (t : Fin cfg0.N) : Vec Ideal S512x1024 .f32 := (outsAt0 m c t.val t.isLt).2.2.2

/-- The column sums so far. -/
abbrev sums (t : Fin cfg0.N) : Vec Ideal S8x1024 .f32 := (outsAt0 m c t.val t.isLt).2.2.1

theorem acc_zero (t : Fin cfg0.N) (h : t.val % 32 = 0) (r : Fin 512) (j : Fin 1024) : acc m c t (ix2 r j) = part m c t r j := by
  unfold acc
  rw [outsAt0_A m c t h (by omega) (by omega) (by omega)]
  frame_out
  open_payloads
  pointwise [read_unread_whole]
  rfl

theorem acc_first (t : Fin cfg0.N) (h : t.val % 4 = 0) (h' : ¬t.val % 32 = 0) (r : Fin 512) (j : Fin 1024) : acc m c t (ix2 r j) = part m c t r j := by
  unfold acc
  rw [outsAt0_D m c t (by omega) (by omega) (by omega) (by omega)]
  frame_out
  open_payloads
  pointwise [read_unread_whole]
  rfl

theorem prev_2_2_2 (t t' : Fin cfg0.N) (ht : t'.val + 1 = t.val) :
    outsAt0 m c (t.val - 1) (Nat.lt_of_le_of_lt (Nat.sub_le _ _) t.isLt) = outsAt0 m c t'.val t'.isLt := by
  congr 1; omega

theorem acc_mid (t t' : Fin cfg0.N) (h : ¬t.val % 4 = 0) (h' : ¬t.val % 4 = 3) (ht : t'.val + 1 = t.val) (r : Fin 512) (j : Fin 1024) :
    acc m c t (ix2 r j) = acc m c t' (ix2 r j) + part m c t r j := by
  unfold acc
  rw [outsAt0_B m c t (by omega) (by omega) (by omega) (by omega)]
  rw [prev_2_2_2 m c t t' ht]
  generalize outsAt0 m c t'.val t'.isLt = o
  frame_out
  open_payloads
  pointwise [read_unread_whole]
  rfl

theorem acc_last (t t' : Fin cfg0.N) (h : t.val % 4 = 3) (ht : t'.val + 1 = t.val) (r : Fin 512) (j : Fin 1024) :
    acc m c t (ix2 r j) = acc m c t' (ix2 r j) + part m c t r j := by
  unfold acc
  rw [outsAt0_C m c t (by omega) (by omega) (by omega) (by omega)]
  rw [prev_2_2_2 m c t t' ht]
  generalize outsAt0 m c t'.val t'.isLt = o
  frame_out
  open_payloads
  pointwise [read_unread_whole]
  rfl

/-- The gradient of the row's normalised values, at a block's last point. -/
def dnb (t : Fin cfg0.N) (r : Fin 512) (j : Fin 1024) : EReal := acc m c t (ix2 r j) * (1 + X4 m c t (ix2 0 j)) * X3 m c t (ix2 0 j)

/-- The gradient of the row. -/
def dxb (t : Fin cfg0.N) (r : Fin 512) (j : Fin 1024) : EReal :=
  X6 m c t (ix2 r j) + kdx (fun k => X2 m c t (ix2 r k)) (dnb m c t r) j

theorem out_dx (t t' : Fin cfg0.N) (h : t.val % 4 = 3) (ht : t'.val + 1 = t.val) (r : Fin 512) (j : Fin 1024) :
    (outsAt0 m c t.val t.isLt).1 (ix2 r j) = dxb m c t r j := by
  unfold dxb kdx rinv var dnb
  simp only [acc_last m c t t' h ht]
  unfold acc part
  rw [outsAt0_C m c t (by omega) (by omega) (by omega) (by omega)]
  rw [prev_2_2_2 m c t t' ht]
  generalize outsAt0 m c t'.val t'.isLt = o
  frame_out
  open_payloads
  pointwise [read_unread_whole]

theorem out_dt (t t' : Fin cfg0.N) (h : t.val % 4 = 3) (ht : t'.val + 1 = t.val) (r : Fin 512) (j : Fin 1024) :
    (outsAt0 m c t.val t.isLt).2.1 (ix2 r j) = X8 m c t (ix2 0 j) * dxb m c t r j := by
  unfold dxb kdx rinv var dnb
  simp only [acc_last m c t t' h ht]
  unfold acc part
  rw [outsAt0_C m c t (by omega) (by omega) (by omega) (by omega)]
  rw [prev_2_2_2 m c t t' ht]
  generalize outsAt0 m c t'.val t'.isLt = o
  frame_out
  open_payloads
  pointwise [read_unread_whole]

theorem out_sum_0 (t t' : Fin cfg0.N) (h : t.val % 4 = 3) (ht : t'.val + 1 = t.val) (j : Fin 1024) :
    sums m c t (ix2 0 j) = sums m c t' (ix2 0 j) + ∑ r : Fin 512, acc m c t (ix2 r j) * (1 + X4 m c t (ix2 0 j)) * (X2 m c t (ix2 r j) * rinv (fun k => X2 m c t (ix2 r k))) := by
  unfold rinv var
  simp only [acc_last m c t t' h ht]
  unfold sums acc part
  rw [outsAt0_C m c t (by omega) (by omega) (by omega) (by omega)]
  rw [prev_2_2_2 m c t t' ht]
  generalize outsAt0 m c t'.val t'.isLt = o
  frame_out
  rw [Cert.AdaBwd.row_miss _ _ 3 _ _ _ _ _ (show (0 : ℕ) ≠ 3 by omega)]
  rw [Cert.AdaBwd.row_miss _ _ 2 _ _ _ _ _ (show (0 : ℕ) ≠ 2 by omega)]
  rw [Cert.AdaBwd.row_miss _ _ 1 _ _ _ _ _ (show (0 : ℕ) ≠ 1 by omega)]
  rw [Cert.AdaBwd.row_hit _ _ 0 _ _ _ _ _ rfl]
  open_payloads
  pointwise [read_unread_whole]
  try rfl

theorem out_sum_1 (t t' : Fin cfg0.N) (h : t.val % 4 = 3) (ht : t'.val + 1 = t.val) (j : Fin 1024) :
    sums m c t (ix2 1 j) = sums m c t' (ix2 1 j) + ∑ r : Fin 512, acc m c t (ix2 r j) * (X2 m c t (ix2 r j) * rinv (fun k => X2 m c t (ix2 r k)) * X3 m c t (ix2 0 j)) := by
  unfold rinv var
  simp only [acc_last m c t t' h ht]
  unfold sums acc part
  rw [outsAt0_C m c t (by omega) (by omega) (by omega) (by omega)]
  rw [prev_2_2_2 m c t t' ht]
  generalize outsAt0 m c t'.val t'.isLt = o
  frame_out
  rw [Cert.AdaBwd.row_miss _ _ 3 _ _ _ _ _ (show (1 : ℕ) ≠ 3 by omega)]
  rw [Cert.AdaBwd.row_miss _ _ 2 _ _ _ _ _ (show (1 : ℕ) ≠ 2 by omega)]
  rw [Cert.AdaBwd.row_hit _ _ 1 _ _ _ _ _ rfl]
  open_payloads
  pointwise [read_unread_whole]
  try rfl

theorem out_sum_2 (t t' : Fin cfg0.N) (h : t.val % 4 = 3) (ht : t'.val + 1 = t.val) (j : Fin 1024) :
    sums m c t (ix2 2 j) = sums m c t' (ix2 2 j) + ∑ r : Fin 512, acc m c t (ix2 r j) := by
  simp only [acc_last m c t t' h ht]
  unfold sums acc part
  rw [outsAt0_C m c t (by omega) (by omega) (by omega) (by omega)]
  rw [prev_2_2_2 m c t t' ht]
  generalize outsAt0 m c t'.val t'.isLt = o
  frame_out
  rw [Cert.AdaBwd.row_miss _ _ 3 _ _ _ _ _ (show (2 : ℕ) ≠ 3 by omega)]
  rw [Cert.AdaBwd.row_hit _ _ 2 _ _ _ _ _ rfl]
  open_payloads
  pointwise [read_unread_whole]
  try rfl

theorem out_sum_3 (t t' : Fin cfg0.N) (h : t.val % 4 = 3) (ht : t'.val + 1 = t.val) (j : Fin 1024) :
    sums m c t (ix2 3 j) = sums m c t' (ix2 3 j) + ∑ r : Fin 512, dxb m c t r j * X7 m c t (ix2 r j) := by
  unfold dxb kdx rinv var dnb
  simp only [acc_last m c t t' h ht]
  unfold sums acc part
  rw [outsAt0_C m c t (by omega) (by omega) (by omega) (by omega)]
  rw [prev_2_2_2 m c t t' ht]
  generalize outsAt0 m c t'.val t'.isLt = o
  frame_out
  rw [Cert.AdaBwd.row_hit _ _ 3 _ _ _ _ _ rfl]
  open_payloads
  pointwise [read_unread_whole]
  try rfl

theorem out_sum_rest (t t' : Fin cfg0.N) (h : t.val % 4 = 3) (ht : t'.val + 1 = t.val) (i : Fin 8) (hi : 4 ≤ i.val) (j : Fin 1024) :
    sums m c t (ix2 i j) = sums m c t' (ix2 i j) := by
  unfold sums
  rw [outsAt0_C m c t (by omega) (by omega) (by omega) (by omega)]
  rw [prev_2_2_2 m c t t' ht]
  generalize outsAt0 m c t'.val t'.isLt = o
  frame_out
  rw [Cert.AdaBwd.row_miss _ _ 3 _ _ _ _ _ (by omega)]
  rw [Cert.AdaBwd.row_miss _ _ 2 _ _ _ _ _ (by omega)]
  rw [Cert.AdaBwd.row_miss _ _ 1 _ _ _ _ _ (by omega)]
  rw [Cert.AdaBwd.row_miss _ _ 0 _ _ _ _ _ (by omega)]
  exact congrFun (Memref.IsWhole.read_unread _ _) _

theorem sums_zero (t : Fin cfg0.N) (h : t.val % 32 = 0) (i : Fin 8) (j : Fin 1024) : sums m c t (ix2 i j) = 0 := by
  unfold sums
  rw [outsAt0_A m c t h (by omega) (by omega) (by omega)]
  frame_out
  open_payloads
  pointwise [read_unread_whole]

theorem sums_first (t t' : Fin cfg0.N) (h : t.val % 4 = 0) (h' : ¬t.val % 32 = 0) (ht : t'.val + 1 = t.val) (i : Fin 8) (j : Fin 1024) :
    sums m c t (ix2 i j) = sums m c t' (ix2 i j) := by
  unfold sums
  rw [outsAt0_D m c t (by omega) (by omega) (by omega) (by omega)]
  rw [prev_2_2_2 m c t t' ht]
  generalize outsAt0 m c t'.val t'.isLt = o
  rfl

theorem sums_mid (t t' : Fin cfg0.N) (h : ¬t.val % 4 = 0) (h' : ¬t.val % 4 = 3) (ht : t'.val + 1 = t.val) (i : Fin 8) (j : Fin 1024) :
    sums m c t (ix2 i j) = sums m c t' (ix2 i j) := by
  unfold sums
  rw [outsAt0_B m c t (by omega) (by omega) (by omega) (by omega)]
  rw [prev_2_2_2 m c t t' ht]
  generalize outsAt0 m c t'.val t'.isLt = o
  rfl

end Cert.FfnInDxValue

end
-- ==== Proof.Total.lean ====
/-
  What a sum over the rows comes to, where the last point of each of eight blocks adds the block's rows.
-/
module

public import proofs.«01_k».proof.Proof.AdaBwd

@[expose] public section

noncomputable section

namespace Cert.AdaBwd

/-- A number's successor is a multiple exactly where the remainder is the greatest. -/
theorem dvd_succ {p : ℕ} (hp : 1 < p) (k : ℕ) : p ∣ k + 1 ↔ k % p = p - 1 := by
  have hlt := Nat.mod_lt k (by omega : p > 0)
  rw [Nat.dvd_iff_mod_eq_zero, ← Nat.mod_add_mod]
  by_cases h : k % p = p - 1
  · have e : k % p + 1 = p := by omega
    simp [h, e, show p - 1 + 1 = p by omega]
  · rw [Nat.mod_eq_of_lt (by omega)]
    omega

/-- What the points of all eight blocks add up to, where each block has `p` points and the last adds `f`, its rows. -/
theorem total (p : ℕ) {N : ℕ} (hp : 1 < p) (hN : N = p * 8) (S : Fin N → EReal) (f : Fin N → Fin 512 → EReal) (q : Fin 4096 → EReal)
    (zero : ∀ t : Fin N, t.val = 0 → S t = 0)
    (same : ∀ t t' : Fin N, ¬t.val % p = p - 1 → t'.val + 1 = t.val → S t = S t')
    (last : ∀ t t' : Fin N, t.val % p = p - 1 → t'.val + 1 = t.val → S t = S t' + ∑ r, f t r)
    (row : ∀ t : Fin N, t.val % p = p - 1 → ∀ (r : Fin 512) (R : Fin 4096), t.val / p * 512 + r.val = R.val → f t r = q R)
    (t : Fin N) (ht : t.val + 1 = N) : S t = ∑ R, q R := by
  let g : ℕ → EReal := fun b => if hb : b < 8 then ∑ r : Fin 512, q ⟨b * 512 + r.val, by omega⟩ else 0
  have key : ∀ (k : ℕ) (hk : k < N), S ⟨k, hk⟩ = ∑ b ∈ Finset.range ((k + 1) / p), g b := by
    intro k
    induction k with
    | zero =>
      intro hk
      rw [zero ⟨0, hk⟩ rfl, Nat.div_eq_of_lt (by omega)]
      rfl
    | succ k ih =>
      intro hk
      have ih := ih (by omega)
      rw [show (k + 1 + 1) / p = (k + 1) / p + if p ∣ k + 1 + 1 then 1 else 0 from Nat.succ_div ..]
      by_cases hm : (k + 1) % p = p - 1
      · have hb : (k + 1) / p < 8 := Nat.div_lt_of_lt_mul (by omega)
        rw [if_pos ((dvd_succ hp _).2 hm), Finset.sum_range_succ, ← ih, last ⟨k + 1, hk⟩ ⟨k, by omega⟩ hm rfl]
        refine congrArg (S _ + ·) ?_
        show _ = dite _ _ _
        rw [dif_pos hb]
        exact Finset.sum_congr rfl fun r _ => row ⟨k + 1, hk⟩ hm r _ rfl
      · rw [if_neg fun d => hm ((dvd_succ hp _).1 d)]
        exact (same ⟨k + 1, hk⟩ ⟨k, by omega⟩ hm rfl).trans ih
  have e := key t.val t.isLt
  rw [show (t.val + 1) / p = 8 by rw [ht, hN]; exact Nat.mul_div_cancel_left 8 (by omega)] at e
  refine e.trans ?_
  rw [Finset.sum_range]
  refine Eq.trans (Finset.sum_congr rfl fun b _ => ?_) (blocks 8 512 q).symm
  show dite _ _ _ = _
  rw [dif_pos b.isLt]

end Cert.AdaBwd

end
-- ==== Proof.FfnInDxFinal.lean ====
/-
  The results of `kernel_ffn_in_dx` from its arguments.
-/
module

public import proofs.«01_k».proof.Proof.Gen.FfnInDxIdeal.Value
public import proofs.«01_k».proof.Proof.FfnInDxValue
public import proofs.«01_k».proof.Proof.Total

@[expose] public section

noncomputable section

namespace Cert.FfnInDxValue

open Idealize.ShloMosaic Idealize.ShloMosaic.TcCoe Idealize.SL.Sem
open Cert.FfnInDxIdeal Cert.FfnInDxIdeal.Gen
open Cert.AdaBwd (width eps mhalf var rinv kdx blocks)

variable (m : (ℓ : Loc nD τ sig) → Buf (Elt Ideal) ℓ) (c : Dev nD)

/-- The two operands of the product, and the product. -/
def aT (R : Fin 4096) (k : Fin 5632) : EReal := A0 m c (ix3 ⟨k.val / 2816, by omega⟩ R ⟨k.val % 2816, by omega⟩)
def wT (k : Fin 5632) (j : Fin 1024) : EReal := A1 m c (ix2 j k)
def dh (R : Fin 4096) (j : Fin 1024) : EReal := ∑ k : Fin 5632, aT m c R k * wT m c k j

theorem part_eq (t : Fin cfg0.N) (r : Fin 512) (j : Fin 1024) (R : Fin 4096) (hR : t.val / 4 * 512 + r.val = R.val) (q : ℕ) (hq : q < 4) (h : t.val % 4 = q) :
    part m c t r j = ∑ k : Fin 1408, aT m c R ⟨q * 1408 + k.val, by omega⟩ * wT m c ⟨q * 1408 + k.val, by omega⟩ j :=
  Finset.sum_congr rfl fun k _ => by
    have hk := k.isLt
    rw [block_0 m c t 0 r k ⟨(q * 1408 + k.val) / 2816, by omega⟩ R ⟨(q * 1408 + k.val) % 2816, by omega⟩ (by show (t.val % 4) / 2 * 1 + 0 = (q * 1408 + k.val) / 2816; omega) hR (by show (t.val % 4) % 2 * 1408 + k.val = (q * 1408 + k.val) % 2816; omega), block_1 m c t k j ⟨q * 1408 + k.val, by omega⟩ j (by show _ = q * 1408 + k.val; rw [h]) rfl]
    rfl

theorem acc_start (t : Fin cfg0.N) (h : t.val % 4 = 0) (r : Fin 512) (j : Fin 1024) : acc m c t (ix2 r j) = part m c t r j := by
  by_cases h' : t.val % 32 = 0
  · exact acc_zero m c t h' r j
  · exact acc_first m c t h h' r j

theorem acc_eq (t : Fin cfg0.N) (h : t.val % 4 = 3) (r : Fin 512) (j : Fin 1024) (R : Fin 4096) (hR : t.val / 4 * 512 + r.val = R.val) :
    acc m c t (ix2 r j) = dh m c R j := by
  have hN := t.isLt
  let t0 : Fin cfg0.N := ⟨t.val - 3, by omega⟩
  have e0 : t0.val = t.val - 3 := rfl
  let t1 : Fin cfg0.N := ⟨t.val - 2, by omega⟩
  have e1 : t1.val = t.val - 2 := rfl
  let t2 : Fin cfg0.N := ⟨t.val - 1, by omega⟩
  have e2 : t2.val = t.val - 1 := rfl
  rw [acc_last m c t t2 h (by omega), acc_mid m c t2 t1 (by omega) (by omega) (by omega), acc_mid m c t1 t0 (by omega) (by omega) (by omega), acc_start m c t0 (by omega)]
  rw [part_eq m c t0 r j R (by omega) 0 (by omega) (by omega), part_eq m c t1 r j R (by omega) 1 (by omega) (by omega), part_eq m c t2 r j R (by omega) 2 (by omega) (by omega), part_eq m c t r j R hR 3 (by omega) h]
  refine Eq.trans ?_ (blocks 4 1408 (fun k : Fin 5632 => aT m c R k * wT m c k j)).symm
  rw [Fin.sum_univ_four]
  rfl

/-- The gradient of a row's normalised values, and of the row. -/
def dn (R : Fin 4096) (j : Fin 1024) : EReal := dh m c R j * (1 + A4 m c (ix2 0 j)) * A3 m c (ix1 j)
def gx (R : Fin 4096) (j : Fin 1024) : EReal := A6 m c (ix2 R j) + kdx (fun k => A2 m c (ix2 R k)) (dn m c R) j

section
variable (t : Fin cfg0.N) (h : t.val % 4 = 3) (r : Fin 512) (R : Fin 4096) (hR : t.val / 4 * 512 + r.val = R.val)
include h hR

theorem row_eq : (fun k => X2 m c t (ix2 r k)) = fun k => A2 m c (ix2 R k) :=
  funext fun k => block_2 m c t r k R k hR rfl

theorem dxb_eq (j : Fin 1024) : dxb m c t r j = gx m c R j := by
  have e : dnb m c t r = dn m c R := funext fun j => by
    unfold dnb dn
    rw [acc_eq m c t h r j R hR, block_4 m c t 0 j 0 j rfl rfl, block_3 m c t 0 j 0 j rfl rfl]
  unfold dxb gx
  rw [e, block_6 m c t r j R j hR rfl, row_eq m c t h r R hR]
end

/-- What a row adds to the column sums. -/
def add0 (j : Fin 1024) (R : Fin 4096) : EReal := dh m c R j * (1 + A4 m c (ix2 0 j)) * (A2 m c (ix2 R j) * rinv (fun k => A2 m c (ix2 R k)))
def add1 (j : Fin 1024) (R : Fin 4096) : EReal := dh m c R j * (A2 m c (ix2 R j) * rinv (fun k => A2 m c (ix2 R k)) * A3 m c (ix1 j))
def add2 (j : Fin 1024) (R : Fin 4096) : EReal := dh m c R j
def add3 (j : Fin 1024) (R : Fin 4096) : EReal := gx m c R j * A7 m c (ix2 R j)

/-- What the points of all eight blocks add up to, where each adds its rows. -/
theorem sums_total (i : Fin 8) (j : Fin 1024) (f : Fin cfg0.N → Fin 512 → EReal) (q : Fin 4096 → EReal)
    (last : ∀ t t' : Fin cfg0.N, t.val % 4 = 3 → t'.val + 1 = t.val → sums m c t (ix2 i j) = sums m c t' (ix2 i j) + ∑ r, f t r)
    (row : ∀ t : Fin cfg0.N, t.val % 4 = 3 → ∀ (r : Fin 512) (R : Fin 4096), t.val / 4 * 512 + r.val = R.val → f t r = q R)
    (t : Fin cfg0.N) (ht : t.val = 31) : sums m c t (ix2 i j) = ∑ R, q R :=
  have hN : cfg0.N = 32 := N_0
  Cert.AdaBwd.total 4 (by omega) hN (fun t => sums m c t (ix2 i j)) f q (fun t h => sums_zero m c t (by omega) i j)
    (fun t t' h ht => by
      by_cases h0 : t.val % 4 = 0
      · exact sums_first m c t t' h0 (by omega) ht i j
      · exact sums_mid m c t t' h0 h ht i j) last row t (by omega)

theorem total_0 (j : Fin 1024) (t : Fin cfg0.N) (ht : t.val = 31) : sums m c t (ix2 0 j) = ∑ R, add0 m c j R :=
  sums_total m c 0 j _ (add0 m c j) (fun t t' h h' => out_sum_0 m c t t' h h' j) (fun t h r R hR => by
    unfold add0
    rw [acc_eq m c t h r j R hR, block_4 m c t 0 j 0 j rfl rfl, block_2 m c t r j R j hR rfl, row_eq m c t h r R hR]) t ht

theorem total_1 (j : Fin 1024) (t : Fin cfg0.N) (ht : t.val = 31) : sums m c t (ix2 1 j) = ∑ R, add1 m c j R :=
  sums_total m c 1 j _ (add1 m c j) (fun t t' h h' => out_sum_1 m c t t' h h' j) (fun t h r R hR => by
    unfold add1
    rw [acc_eq m c t h r j R hR, block_3 m c t 0 j 0 j rfl rfl, block_2 m c t r j R j hR rfl, row_eq m c t h r R hR]) t ht

theorem total_2 (j : Fin 1024) (t : Fin cfg0.N) (ht : t.val = 31) : sums m c t (ix2 2 j) = ∑ R, add2 m c j R :=
  sums_total m c 2 j _ (add2 m c j) (fun t t' h h' => out_sum_2 m c t t' h h' j) (fun t h r R hR => by
    unfold add2
    rw [acc_eq m c t h r j R hR]) t ht

theorem total_3 (j : Fin 1024) (t : Fin cfg0.N) (ht : t.val = 31) : sums m c t (ix2 3 j) = ∑ R, add3 m c j R :=
  sums_total m c 3 j _ (add3 m c j) (fun t t' h h' => out_sum_3 m c t t' h h' j) (fun t h r R hR => by
    unfold add3
    rw [dxb_eq m c t h r R hR j, block_7 m c t r j R j hR rfl]) t ht

theorem total_rest (i : Fin 8) (hi : 4 ≤ i.val) (j : Fin 1024) (t : Fin cfg0.N) (ht : t.val = 31) : sums m c t (ix2 i j) = 0 := by
  rw [sums_total m c i j (fun _ _ => 0) (fun _ => 0)
    (fun t t' h h' => by rw [out_sum_rest m c t t' h h' i hi j, Finset.sum_const_zero, add_zero]) (fun _ _ _ _ _ => rfl) t ht, Finset.sum_const_zero]

/-- The rows of column sums. -/
def st (A : Fin 8) (B : Fin 1024) : EReal :=
  if A.val = 0 then ∑ R, add0 m c B R else if A.val = 1 then ∑ R, add1 m c B R else if A.val = 2 then ∑ R, add2 m c B R else if A.val = 3 then ∑ R, add3 m c B R else 0

theorem final_dx (A : Fin 4096) (B : Fin 1024) : (dats m 0 c).arrAt 9 cfg0.N (ix2 A B) = gx m c A B := by
  let t : Fin cfg0.N := ⟨4 * (A.val / 512) + 3, by show _ < 32; omega⟩
  have ht : t.val = 4 * (A.val / 512) + 3 := rfl
  obtain ⟨_, _, _, _, _, _, _, _, _, _, _, _, _, _, _, _, _, e0, e1, _⟩ := idx t
  let a : Fin 512 := ⟨A.val % 512, by omega⟩
  have ha : a.val = A.val % 512 := rfl
  let b : Fin 1024 := ⟨B.val % 1024, by omega⟩
  have hb : b.val = B.val % 1024 := rfl
  have bl := congrFun (Value.flushed9_eq m c t ((flush0_9 t).mpr (by omega))).symm (ix2 a b)
  rw [← Value.final9, Value.flushed9] at bl
  have e : ((cfg0.win 9).blk t).view.emb (ix2 a b) = (ix2 A B : S4096x1024.Idx) := by
    funext x; apply Fin.ext
    match x with
    | ⟨0, _⟩ => show win0_9.index t (0 : Fin 2) * 512 + 1 * (A.val % 512) = A.val; omega
    | ⟨1, _⟩ => show win0_9.index t (1 : Fin 2) * 1024 + 1 * (B.val % 1024) = B.val; omega
  have b' : (dats m 0 c).arrAt 9 cfg0.N (((cfg0.win 9).blk t).view.emb (ix2 a b)) = (outsAt0 m c t.val t.isLt).1 (ix2 a b) := bl
  rw [e] at b'
  clear e bl
  have hB : b = B := Fin.ext (by omega)
  have hN : cfg0.N = 32 := N_0
  let t' : Fin cfg0.N := ⟨4 * (A.val / 512) + 2, by omega⟩
  have ht' : t'.val = 4 * (A.val / 512) + 2 := rfl
  rw [b', out_dx m c t t' (by omega) (by omega), dxb_eq m c t (by omega) a A (by omega), hB]

theorem final_dt (A : Fin 4096) (B : Fin 1024) : (dats m 0 c).arrAt 10 cfg0.N (ix2 A B) = A8 m c (ix2 0 B) * gx m c A B := by
  let t : Fin cfg0.N := ⟨4 * (A.val / 512) + 3, by show _ < 32; omega⟩
  have ht : t.val = 4 * (A.val / 512) + 3 := rfl
  obtain ⟨_, _, _, _, _, _, _, _, _, _, _, _, _, _, _, _, _, _, _, e0, e1, _⟩ := idx t
  let a : Fin 512 := ⟨A.val % 512, by omega⟩
  have ha : a.val = A.val % 512 := rfl
  let b : Fin 1024 := ⟨B.val % 1024, by omega⟩
  have hb : b.val = B.val % 1024 := rfl
  have bl := congrFun (Value.flushed10_eq m c t ((flush0_10 t).mpr (by omega))).symm (ix2 a b)
  rw [← Value.final10, Value.flushed10] at bl
  have e : ((cfg0.win 10).blk t).view.emb (ix2 a b) = (ix2 A B : S4096x1024.Idx) := by
    funext x; apply Fin.ext
    match x with
    | ⟨0, _⟩ => show win0_10.index t (0 : Fin 2) * 512 + 1 * (A.val % 512) = A.val; omega
    | ⟨1, _⟩ => show win0_10.index t (1 : Fin 2) * 1024 + 1 * (B.val % 1024) = B.val; omega
  have b' : (dats m 0 c).arrAt 10 cfg0.N (((cfg0.win 10).blk t).view.emb (ix2 a b)) = (outsAt0 m c t.val t.isLt).2.1 (ix2 a b) := bl
  rw [e] at b'
  clear e bl
  have hB : b = B := Fin.ext (by omega)
  have hN : cfg0.N = 32 := N_0
  let t' : Fin cfg0.N := ⟨4 * (A.val / 512) + 2, by omega⟩
  have ht' : t'.val = 4 * (A.val / 512) + 2 := rfl
  rw [b', out_dt m c t t' (by omega) (by omega), dxb_eq m c t (by omega) a A (by omega), hB, block_8 m c t 0 B 0 B rfl rfl]

theorem final_st (A : Fin 8) (B : Fin 1024) : (dats m 0 c).arrAt 11 cfg0.N (ix2 A B) = st m c A B := by
  obtain ⟨t, ht⟩ : ∃ t : Fin cfg0.N, t.val = 31 := ⟨⟨31, by show _ < 32; omega⟩, rfl⟩
  obtain ⟨_, _, _, _, _, _, _, _, _, _, _, _, _, _, _, _, _, _, _, _, _, e0, e1⟩ := idx t
  let a : Fin 8 := ⟨A.val % 8, by omega⟩
  have ha : a.val = A.val % 8 := rfl
  let b : Fin 1024 := ⟨B.val % 1024, by omega⟩
  have hb : b.val = B.val % 1024 := rfl
  have bl := congrFun (Value.flushed11_eq m c t ((flush0_11 t).mpr (by omega))).symm (ix2 a b)
  rw [← Value.final11, Value.flushed11] at bl
  have e : ((cfg0.win 11).blk t).view.emb (ix2 a b) = (ix2 A B : S8x1024.Idx) := by
    funext x; apply Fin.ext
    match x with
    | ⟨0, _⟩ => show win0_11.index t (0 : Fin 2) * 8 + 1 * (A.val % 8) = A.val; omega
    | ⟨1, _⟩ => show win0_11.index t (1 : Fin 2) * 1024 + 1 * (B.val % 1024) = B.val; omega
  have b' : (dats m 0 c).arrAt 11 cfg0.N (((cfg0.win 11).blk t).view.emb (ix2 a b)) = sums m c t (ix2 a b) := bl
  rw [e] at b'
  clear e bl
  have hB : b = B := Fin.ext (by omega)
  have hA : a = A := Fin.ext (by omega)
  rw [b', hA, hB]
  clear b'
  unfold st
  split
  · rename_i hA'
    rw [show A = 0 from Fin.ext hA']
    exact total_0 m c B t ht
  split
  · rename_i hA'
    rw [show A = 1 from Fin.ext hA']
    exact total_1 m c B t ht
  split
  · rename_i hA'
    rw [show A = 2 from Fin.ext hA']
    exact total_2 m c B t ht
  split
  · rename_i hA'
    rw [show A = 3 from Fin.ext hA']
    exact total_3 m c B t ht
  exact total_rest m c A (by omega) B t ht

end Cert.FfnInDxValue

end
-- ==== Proof.FfnInDxRead.lean ====
/-
  The reference's results of `kernel_FfnInDx`, read at an index.
-/
module

public import proofs.«01_k».proof.Proof.Gen.FfnInDxRefIdeal.Run
public import proofs.«01_k».proof.Proof.AdaBwd

@[expose] public section

noncomputable section

namespace Cert.FfnInDxRead

open Idealize.ShloMosaic Idealize.ShloMosaic.TcCoe Idealize.SL.Sem
open Cert.FfnInDxRefIdeal Cert.FfnInDxRefIdeal.Gen
open Cert.AdaBwd (width eps mhalf var rinv fac)

variable (m : (ℓ : Loc nD τ sig) → Buf (Elt Ideal) ℓ) (c : Dev nD)

/-- The argument arrays. -/
abbrev A0 : Vec Ideal S2x4096x2816 .bf16 := m ((c.tc : Thread nD τ).loc main_arg0)
abbrev A1 : Vec Ideal S1024x5632 .f32 := m ((c.tc : Thread nD τ).loc main_arg1)
abbrev A2 : Vec Ideal S4096x1024 .f32 := m ((c.tc : Thread nD τ).loc main_arg2)
abbrev A3 : Vec Ideal S1024 .f32 := m ((c.tc : Thread nD τ).loc main_arg3)
abbrev A4 : Vec Ideal S1x1024 .f32 := m ((c.tc : Thread nD τ).loc main_arg4)
abbrev A6 : Vec Ideal S4096x1024 .f32 := m ((c.tc : Thread nD τ).loc main_arg6)
abbrev A7 : Vec Ideal S4096x1024 .f32 := m ((c.tc : Thread nD τ).loc main_arg7)
abbrev A8 : Vec Ideal S1x1024 .f32 := m ((c.tc : Thread nD τ).loc main_arg8)

/-- The product, the gradient of the normalised row, and the row's gradient. -/
def dot (X : FVec Ideal S4096x5632 .f32) (W : FVec Ideal S1024x5632 .f32) : FVec Ideal S4096x1024 .f32 :=
  Host.dotGeneral dot_S4096x5632_S1024x5632_S4096x1024_1_1_0_0_n_n none X W
def prod : FVec Ideal S4096x1024 .f32 := dot (extf .f32 (concatenate S4096x5632 1 [⟨S4096x2816, (shapeCast _ (extractStridedSlice S1x4096x2816 ![0, 0, 0] (m ((c.tc : Thread nD τ).loc main_arg0)) slices_S2x4096x2816_S1x4096x2816_0_0_0) shapeCasts_S1x4096x2816_S4096x2816)⟩, ⟨S4096x2816, (shapeCast _ (extractStridedSlice S1x4096x2816 ![1, 0, 0] (m ((c.tc : Thread nD τ).loc main_arg0)) slices_S2x4096x2816_S1x4096x2816_1_0_0) shapeCasts_S1x4096x2816_S4096x2816)⟩] concatenates_S4096x2816_S4096x2816_S4096x5632_d1) bitsLt_bf16_f32) (m ((c.tc : Thread nD τ).loc main_arg1))
def dn (R : Fin 4096) (j : Fin 1024) : EReal := prod m c (ix2 R j) * (1 + A4 m c (ix2 0 j)) * A3 m c (ix1 j)
abbrev x (R : Fin 4096) (k : Fin 1024) : EReal := A2 m c (ix2 R k)
def gx (R : Fin 4096) (j : Fin 1024) : EReal :=
  A6 m c (ix2 R j) + dn m c R j * rinv (x m c R) + x m c R j * fac (x m c R) (dn m c R) + fac (x m c R) (dn m c R) * x m c R j

theorem dot_eq (X : FVec Ideal S4096x5632 .f32) (W : FVec Ideal S1024x5632 .f32) :
    Host.dotGeneral dot_S4096x5632_S1024x5632_S4096x1024_1_1_0_0_n_n none X W = dot X W := rfl

/-- Rows, one after the other. -/
def stack (u0 u1 u2 u3 : FVec Ideal S1x1024 .f32) (u4 : FVec Ideal S4x1024 .f32) : FVec Ideal S8x1024 .f32 :=
  concatenate S8x1024 0 [⟨S1x1024, u0⟩, ⟨S1x1024, u1⟩, ⟨S1x1024, u2⟩, ⟨S1x1024, u3⟩, ⟨S4x1024, u4⟩] concatenates_S1x1024_S1x1024_S1x1024_S1x1024_S4x1024_S8x1024_d0

theorem stack_0 (u0 u1 u2 u3 : FVec Ideal S1x1024 .f32) (u4 : FVec Ideal S4x1024 .f32) (B : Fin 1024) : stack u0 u1 u2 u3 u4 (ix2 0 B) = u0 (ix2 0 B) := by
  unfold stack
  exact concatenate_apply_piece (t := S8x1024) 0 [⟨S1x1024, u0⟩, ⟨S1x1024, u1⟩, ⟨S1x1024, u2⟩, ⟨S1x1024, u3⟩, ⟨S4x1024, u4⟩] concatenates_S1x1024_S1x1024_S1x1024_S1x1024_S4x1024_S8x1024_d0 (ix2 0 B) 0 (by show 0 < 5; omega) S1x1024 _ rfl rfl 0 rfl (ix2 0 B)
    (fun b hb => match b with | ⟨0, _⟩ => absurd rfl hb | ⟨1, _⟩ => rfl) rfl

theorem stack_1 (u0 u1 u2 u3 : FVec Ideal S1x1024 .f32) (u4 : FVec Ideal S4x1024 .f32) (B : Fin 1024) : stack u0 u1 u2 u3 u4 (ix2 1 B) = u1 (ix2 0 B) := by
  unfold stack
  exact concatenate_apply_piece (t := S8x1024) 0 [⟨S1x1024, u0⟩, ⟨S1x1024, u1⟩, ⟨S1x1024, u2⟩, ⟨S1x1024, u3⟩, ⟨S4x1024, u4⟩] concatenates_S1x1024_S1x1024_S1x1024_S1x1024_S4x1024_S8x1024_d0 (ix2 1 B) 1 (by show 1 < 5; omega) S1x1024 _ rfl rfl 1 rfl (ix2 0 B)
    (fun b hb => match b with | ⟨0, _⟩ => absurd rfl hb | ⟨1, _⟩ => rfl) rfl

theorem stack_2 (u0 u1 u2 u3 : FVec Ideal S1x1024 .f32) (u4 : FVec Ideal S4x1024 .f32) (B : Fin 1024) : stack u0 u1 u2 u3 u4 (ix2 2 B) = u2 (ix2 0 B) := by
  unfold stack
  exact concatenate_apply_piece (t := S8x1024) 0 [⟨S1x1024, u0⟩, ⟨S1x1024, u1⟩, ⟨S1x1024, u2⟩, ⟨S1x1024, u3⟩, ⟨S4x1024, u4⟩] concatenates_S1x1024_S1x1024_S1x1024_S1x1024_S4x1024_S8x1024_d0 (ix2 2 B) 2 (by show 2 < 5; omega) S1x1024 _ rfl rfl 2 rfl (ix2 0 B)
    (fun b hb => match b with | ⟨0, _⟩ => absurd rfl hb | ⟨1, _⟩ => rfl) rfl

theorem stack_3 (u0 u1 u2 u3 : FVec Ideal S1x1024 .f32) (u4 : FVec Ideal S4x1024 .f32) (B : Fin 1024) : stack u0 u1 u2 u3 u4 (ix2 3 B) = u3 (ix2 0 B) := by
  unfold stack
  exact concatenate_apply_piece (t := S8x1024) 0 [⟨S1x1024, u0⟩, ⟨S1x1024, u1⟩, ⟨S1x1024, u2⟩, ⟨S1x1024, u3⟩, ⟨S4x1024, u4⟩] concatenates_S1x1024_S1x1024_S1x1024_S1x1024_S4x1024_S8x1024_d0 (ix2 3 B) 3 (by show 3 < 5; omega) S1x1024 _ rfl rfl 3 rfl (ix2 0 B)
    (fun b hb => match b with | ⟨0, _⟩ => absurd rfl hb | ⟨1, _⟩ => rfl) rfl

theorem stack_rest (u0 u1 u2 u3 : FVec Ideal S1x1024 .f32) (u4 : FVec Ideal S4x1024 .f32) (A : Fin 8) (hA : 4 ≤ A.val) (B : Fin 1024) :
    stack u0 u1 u2 u3 u4 (ix2 A B) = u4 (ix2 ⟨A.val - 4, by omega⟩ B) := by
  unfold stack
  have hA' := A.isLt
  exact concatenate_apply_piece (t := S8x1024) 0 [⟨S1x1024, u0⟩, ⟨S1x1024, u1⟩, ⟨S1x1024, u2⟩, ⟨S1x1024, u3⟩, ⟨S4x1024, u4⟩] concatenates_S1x1024_S1x1024_S1x1024_S1x1024_S4x1024_S8x1024_d0 (ix2 A B) 4 (by show 4 < 5; omega) S4x1024 _ rfl rfl 4 rfl (ix2 ⟨A.val - 4, by omega⟩ B)
    (fun b hb => match b with | ⟨0, _⟩ => absurd rfl hb | ⟨1, _⟩ => rfl) (by show 4 + (A.val - 4) = A.val; omega)

theorem dx (A : Fin 4096) (B : Fin 1024) : Value.res_main_v57 m c (ix2 A B) = gx m c A B := by
  unfold Value.res_main_v57
  unfold gx dn fac rinv var prod
  simp only [dot_eq]
  pointwise
  try simp only [Finset.univ_unique, Finset.sum_singleton]
  try rfl

theorem dt (A : Fin 4096) (B : Fin 1024) : Value.res_main_v65 m c (ix2 A B) = A8 m c (ix2 0 B) * gx m c A B := by
  unfold Value.res_main_v65
  unfold gx dn fac rinv var prod
  simp only [dot_eq]
  pointwise
  try simp only [Finset.univ_unique, Finset.sum_singleton]
  try rfl

theorem st_0 (B : Fin 1024) : Value.res_main_v68 m c (ix2 0 B) = ∑ R : Fin 4096, x m c R B * rinv (x m c R) * (prod m c (ix2 R B) * (1 + A4 m c (ix2 0 B))) := by
  unfold Value.res_main_v68
  refine (stack_0 _ _ _ _ _ B).trans ?_
  unfold rinv var prod
  simp only [dot_eq]
  pointwise
  try simp only [Finset.univ_unique, Finset.sum_singleton]
  try rfl

theorem st_1 (B : Fin 1024) : Value.res_main_v68 m c (ix2 1 B) = ∑ R : Fin 4096, x m c R B * rinv (x m c R) * A3 m c (ix1 B) * prod m c (ix2 R B) := by
  unfold Value.res_main_v68
  refine (stack_1 _ _ _ _ _ B).trans ?_
  unfold rinv var prod
  simp only [dot_eq]
  pointwise
  try simp only [Finset.univ_unique, Finset.sum_singleton]
  try rfl

theorem st_2 (B : Fin 1024) : Value.res_main_v68 m c (ix2 2 B) = ∑ R : Fin 4096, prod m c (ix2 R B) := by
  unfold Value.res_main_v68
  refine (stack_2 _ _ _ _ _ B).trans ?_
  unfold prod
  simp only [dot_eq]
  pointwise
  try simp only [Finset.univ_unique, Finset.sum_singleton]
  try rfl

theorem st_3 (B : Fin 1024) : Value.res_main_v68 m c (ix2 3 B) = ∑ R : Fin 4096, gx m c R B * A7 m c (ix2 R B) := by
  unfold Value.res_main_v68
  refine (stack_3 _ _ _ _ _ B).trans ?_
  unfold gx dn fac rinv var prod
  simp only [dot_eq]
  pointwise
  try simp only [Finset.univ_unique, Finset.sum_singleton]
  try rfl

theorem st_rest (A : Fin 8) (hA : 4 ≤ A.val) (B : Fin 1024) : Value.res_main_v68 m c (ix2 A B) = (0 : EReal) := by
  unfold Value.res_main_v68
  refine (stack_rest _ _ _ _ _ A hA B).trans ?_
  pointwise

theorem prod_apply (R : Fin 4096) (j : Fin 1024) :
    prod m c (ix2 R j) = (∑ k : Fin 2816, A0 m c (ix3 0 R k) * A1 m c (ix2 j ⟨k.val, by omega⟩)) + ∑ k : Fin 2816, A0 m c (ix3 1 R k) * A1 m c (ix2 j ⟨2816 + k.val, by omega⟩) := by
  unfold prod dot
  pointwise

end Cert.FfnInDxRead

end
-- ==== Proof.FfnInDxEqual.lean ====
/-
  `kernel_ffn_in_dx` against its reference, from arguments that are real.
-/
module

public import proofs.«01_k».proof.Defs
public import proofs.«01_k».proof.Proof.Gen.FfnInDx.Frame
public import proofs.«01_k».proof.Proof.Gen.FfnInDxRefIdeal.Run
public import proofs.«01_k».proof.Proof.FfnInDxValue
public import proofs.«01_k».proof.Proof.PreFacts
public import proofs.«01_k».proof.Proof.ScanArgs
public import proofs.«01_k».proof.Proof.FfnInDxFinal
public import proofs.«01_k».proof.Proof.FfnInDxRead
public import Idealize.ShloMosaic.Adequacy

@[expose] public section

noncomputable section

namespace Cert.FfnInDxEqual

open Idealize.ShloMosaic Idealize.ShloMosaic.TcCoe Idealize.SL.Sem

variable (m : (ℓ : Loc Cert.FfnInDxIdeal.nD Cert.FfnInDxIdeal.τ Cert.FfnInDxIdeal.sig) → Buf (Elt Ideal) ℓ) (m' : (ℓ : Loc Cert.FfnInDxRefIdeal.nD Cert.FfnInDxRefIdeal.τ Cert.FfnInDxRefIdeal.sig) → Buf (Elt Ideal) ℓ) (c : Dev Cert.FfnInDxIdeal.nD)

/-- What the two programs have in common: the arguments. -/
structure Same : Prop where
  e0 : Cert.FfnInDxRead.A0 m' c = Cert.FfnInDxValue.A0 m c
  e1 : Cert.FfnInDxRead.A1 m' c = Cert.FfnInDxValue.A1 m c
  e2 : Cert.FfnInDxRead.A2 m' c = Cert.FfnInDxValue.A2 m c
  e3 : Cert.FfnInDxRead.A3 m' c = Cert.FfnInDxValue.A3 m c
  e4 : Cert.FfnInDxRead.A4 m' c = Cert.FfnInDxValue.A4 m c
  e6 : Cert.FfnInDxRead.A6 m' c = Cert.FfnInDxValue.A6 m c
  e7 : Cert.FfnInDxRead.A7 m' c = Cert.FfnInDxValue.A7 m c
  e8 : Cert.FfnInDxRead.A8 m' c = Cert.FfnInDxValue.A8 m c

/-- The arguments that are real. -/
structure Finite : Prop where
  f0 : Cert.Scan.Real (Cert.FfnInDxValue.A0 m c)
  f1 : Cert.Scan.Real (Cert.FfnInDxValue.A1 m c)
  f2 : Cert.Scan.Real (Cert.FfnInDxValue.A2 m c)
  f3 : Cert.Scan.Real (Cert.FfnInDxValue.A3 m c)
  f4 : Cert.Scan.Real (Cert.FfnInDxValue.A4 m c)

variable {m m' c}

theorem prod_eq (e : Same m m' c) (R : Fin 4096) (j : Fin 1024) : Cert.FfnInDxRead.prod m' c (ix2 R j) = Cert.FfnInDxValue.dh m c R j := by
  rw [Cert.FfnInDxRead.prod_apply, e.e0, e.e1]
  unfold Cert.FfnInDxValue.dh
  refine Eq.trans ?_ (Cert.AdaBwd.blocks 2 2816 (fun k : Fin 5632 => Cert.FfnInDxValue.aT m c R k * Cert.FfnInDxValue.wT m c k j)).symm
  rw [Fin.sum_univ_two]
  refine congrArg₂ (· + ·) (Finset.sum_congr rfl fun k _ => ?_) (Finset.sum_congr rfl fun k _ => ?_)
  · have hk := k.isLt
    refine congrArg₂ (fun p q => Cert.FfnInDxValue.A0 m c p * Cert.FfnInDxValue.A1 m c q) (congrArg₂ (fun u v => ix3 u R v) (Fin.ext ?_) (Fin.ext ?_)) (congrArg (fun u => ix2 j u) (Fin.ext ?_))
    · show 0 = (0 * 2816 + k.val) / 2816; omega
    · show k.val = (0 * 2816 + k.val) % 2816; omega
    · show k.val = 0 * 2816 + k.val; omega
  · have hk := k.isLt
    refine congrArg₂ (fun p q => Cert.FfnInDxValue.A0 m c p * Cert.FfnInDxValue.A1 m c q) (congrArg₂ (fun u v => ix3 u R v) (Fin.ext ?_) (Fin.ext ?_)) (congrArg (fun u => ix2 j u) (Fin.ext ?_))
    · show 1 = (1 * 2816 + k.val) / 2816; omega
    · show k.val = (1 * 2816 + k.val) % 2816; omega
    · show 2816 + k.val = 1 * 2816 + k.val; omega

theorem dn_eq (e : Same m m' c) (R : Fin 4096) : Cert.FfnInDxRead.dn m' c R = Cert.FfnInDxValue.dn m c R := by
  funext j
  unfold Cert.FfnInDxRead.dn Cert.FfnInDxValue.dn
  rw [prod_eq e, e.e4, e.e3]

theorem x_eq (e : Same m m' c) (R : Fin 4096) : Cert.FfnInDxRead.x m' c R = fun k => Cert.FfnInDxValue.A2 m c (ix2 R k) := by
  funext k
  show Cert.FfnInDxRead.A2 m' c _ = _
  rw [e.e2]

theorem dh_fin (f : Finite m c) (R : Fin 4096) (j : Fin 1024) : Cert.FfnInDxValue.dh m c R j ≠ ⊥ ∧ Cert.FfnInDxValue.dh m c R j ≠ ⊤ :=
  Cert.AdaBwd.sum_mul_fin _ _ (fun _ => (f.f0 _).symm) (fun _ => (f.f1 _).symm)

theorem dn_fin (f : Finite m c) (R : Fin 4096) (j : Fin 1024) : Cert.FfnInDxValue.dn m c R j ≠ ⊥ ∧ Cert.FfnInDxValue.dn m c R j ≠ ⊤ :=
  Cert.AdaBwd.mul_fin (Cert.AdaBwd.mul_fin (dh_fin f R j) (Cert.AdaBwd.one_add_fin (f.f4 _).symm)) (f.f3 _).symm

theorem gx_eq (e : Same m m' c) (f : Finite m c) (R : Fin 4096) (j : Fin 1024) : Cert.FfnInDxRead.gx m' c R j = Cert.FfnInDxValue.gx m c R j := by
  unfold Cert.FfnInDxRead.gx Cert.FfnInDxValue.gx
  rw [dn_eq e, x_eq e, e.e6]
  exact Cert.AdaBwd.dx_eq _ _ (fun _ => (f.f2 _).symm) (dn_fin f R) j _

theorem row_0 (e : Same m m' c) (B : Fin 1024) : (∑ R : Fin 4096, Cert.FfnInDxRead.x m' c R B * Cert.AdaBwd.rinv (Cert.FfnInDxRead.x m' c R) * (Cert.FfnInDxRead.prod m' c (ix2 R B) * (1 + Cert.FfnInDxRead.A4 m' c (ix2 0 B)))) = ∑ R, Cert.FfnInDxValue.add0 m c B R :=
  Finset.sum_congr rfl fun R _ => by
    unfold Cert.FfnInDxValue.add0
    rw [prod_eq e, x_eq e, e.e4]; exact mul_comm _ _

theorem row_1 (e : Same m m' c) (B : Fin 1024) : (∑ R : Fin 4096, Cert.FfnInDxRead.x m' c R B * Cert.AdaBwd.rinv (Cert.FfnInDxRead.x m' c R) * Cert.FfnInDxRead.A3 m' c (ix1 B) * Cert.FfnInDxRead.prod m' c (ix2 R B)) = ∑ R, Cert.FfnInDxValue.add1 m c B R :=
  Finset.sum_congr rfl fun R _ => by
    unfold Cert.FfnInDxValue.add1
    rw [prod_eq e, x_eq e, e.e3]; exact mul_comm _ _

theorem row_2 (e : Same m m' c) (B : Fin 1024) : (∑ R : Fin 4096, Cert.FfnInDxRead.prod m' c (ix2 R B)) = ∑ R, Cert.FfnInDxValue.add2 m c B R :=
  Finset.sum_congr rfl fun R _ => by
    unfold Cert.FfnInDxValue.add2
    exact prod_eq e R B

theorem row_3 (e : Same m m' c) (f : Finite m c) (B : Fin 1024) : (∑ R : Fin 4096, Cert.FfnInDxRead.gx m' c R B * Cert.FfnInDxRead.A7 m' c (ix2 R B)) = ∑ R, Cert.FfnInDxValue.add3 m c B R :=
  Finset.sum_congr rfl fun R _ => by
    unfold Cert.FfnInDxValue.add3
    rw [gx_eq e f, e.e7]

theorem st_eq (e : Same m m' c) (f : Finite m c) (A : Fin 8) (B : Fin 1024) : Cert.FfnInDxRefIdeal.Value.res_main_v68 m' c (ix2 A B) = Cert.FfnInDxValue.st m c A B := by
  unfold Cert.FfnInDxValue.st
  split
  · rename_i hA'
    rw [show A = 0 from Fin.ext hA']
    exact (Cert.FfnInDxRead.st_0 m' c B).trans (Cert.FfnInDxEqual.row_0 e B)
  split
  · rename_i hA'
    rw [show A = 1 from Fin.ext hA']
    exact (Cert.FfnInDxRead.st_1 m' c B).trans (Cert.FfnInDxEqual.row_1 e B)
  split
  · rename_i hA'
    rw [show A = 2 from Fin.ext hA']
    exact (Cert.FfnInDxRead.st_2 m' c B).trans (Cert.FfnInDxEqual.row_2 e B)
  split
  · rename_i hA'
    rw [show A = 3 from Fin.ext hA']
    exact (Cert.FfnInDxRead.st_3 m' c B).trans (Cert.FfnInDxEqual.row_3 e f B)
  exact Cert.FfnInDxRead.st_rest m' c A (by omega) B

end Cert.FfnInDxEqual

namespace Cert.Proof

open Idealize.ShloMosaic Idealize.ShloMosaic.TcCoe Idealize.SL.Sem

theorem frame_ffn_in_dx : Cert.quiescent_FfnInDx := fun m ρ _ => Cert.FfnInDx.Gen.frame m ρ
theorem frame_ffn_in_dx_ideal : Cert.quiescent_FfnInDxIdeal := fun m ρ _ => Cert.FfnInDxIdeal.Gen.frame m ρ
theorem frame_ffn_in_dx_reference : Cert.quiescent_FfnInDxRefIdeal := fun m ρ _ =>
  (θ_run Cert.FfnInDxRefIdeal.defs _ _).mono (fun r h => ⟨fun c => (h c).2.2.2, sem_eq_zero_of_no_sems (by decide) r.2⟩)
    (Cert.FfnInDxRefIdeal.Value.run (F := Ideal) m ρ)
theorem frame_ffn_in_dx_ideal_finite : Cert.quiescent_FfnInDxIdeal_pre_finite_dx := fun m ρ _ => Cert.FfnInDxIdeal.Gen.frame m ρ
theorem frame_ffn_in_dx_reference_finite : Cert.quiescent_FfnInDxRefIdeal_pre_finite_dx := fun m ρ _ =>
  (θ_run Cert.FfnInDxRefIdeal.defs _ _).mono (fun r h => ⟨fun c => (h c).2.2.2, sem_eq_zero_of_no_sems (by decide) r.2⟩)
    (Cert.FfnInDxRefIdeal.Value.run (F := Ideal) m ρ)

theorem ffn_in_dx_equal : Cert.algebraic_FfnInDxIdeal_FfnInDxRefIdeal_pre_finite_dx := by
  intro m ρ m' ρ' hp ha
  refine ⟨fun c => (Cert.FfnInDxIdeal.Gen.dats m 0 c).arrAt 9 Cert.FfnInDxIdeal.cfg0.N,
    fun c => (Cert.FfnInDxIdeal.Gen.dats m 0 c).arrAt 10 Cert.FfnInDxIdeal.cfg0.N,
    fun c => (Cert.FfnInDxIdeal.Gen.dats m 0 c).arrAt 11 Cert.FfnInDxIdeal.cfg0.N,
    Cert.FfnInDxIdeal.Value.run_blocks m ρ, ?_⟩
  refine (θ_run Cert.FfnInDxRefIdeal.defs _ _).mono (fun r h c => ?_) (Cert.FfnInDxRefIdeal.Value.run (F := Ideal) m' ρ')
  obtain ⟨a0, a1, a2, a3, a4, a5, a6, a7, a8⟩ := ha c
  have sm : Cert.FfnInDxEqual.Same m m' c := ⟨a0, a1, a2, a3, a4, a6, a7, a8⟩
  have fi : Cert.FfnInDxEqual.Finite m c := ⟨fun i => Cert.Scan.real_of_abs_lt (congrFun (hp c).1 i),
    fun i => Cert.Scan.real_of_abs_lt (congrFun (hp c).2.1 i),
    fun i => Cert.Scan.real_of_abs_lt (congrFun (hp c).2.2.1 i),
    fun i => Cert.Scan.real_of_abs_lt (congrFun (hp c).2.2.2.1 i),
    fun i => Cert.Scan.real_of_abs_lt (congrFun (hp c).2.2.2.2 i)⟩
  refine ⟨(h c).1.trans ?_, (h c).2.1.trans ?_, (h c).2.2.1.trans ?_, (h c).2.2.2⟩ <;> clear h
  · clear ha a0 a1 a2 a3 a4 a5 a6 a7 a8
    funext (y : Cert.FfnInDxIdeal.S4096x1024.Idx)
    have e : y = ix2 (y 0) (y 1) := by
      funext a; match a with | ⟨0, _⟩ => rfl | ⟨1, _⟩ => rfl
    generalize y 0 = A at e; generalize y 1 = B at e
    rw [e]
    refine Eq.trans ?_ (Cert.FfnInDxValue.final_dx m c A B).symm
    exact (Cert.FfnInDxRead.dx m' c A B).trans (Cert.FfnInDxEqual.gx_eq sm fi A B)
  · clear ha a0 a1 a2 a3 a4 a5 a6 a7 a8
    funext (y : Cert.FfnInDxIdeal.S4096x1024.Idx)
    have e : y = ix2 (y 0) (y 1) := by
      funext a; match a with | ⟨0, _⟩ => rfl | ⟨1, _⟩ => rfl
    generalize y 0 = A at e; generalize y 1 = B at e
    rw [e]
    refine Eq.trans ?_ (Cert.FfnInDxValue.final_dt m c A B).symm
    refine (Cert.FfnInDxRead.dt m' c A B).trans ?_
    rw [Cert.FfnInDxEqual.gx_eq sm fi A B, sm.e8]
  · clear ha a0 a1 a2 a3 a4 a5 a6 a7 a8
    funext (y : Cert.FfnInDxIdeal.S8x1024.Idx)
    have e : y = ix2 (y 0) (y 1) := by
      funext a; match a with | ⟨0, _⟩ => rfl | ⟨1, _⟩ => rfl
    generalize y 0 = A at e; generalize y 1 = B at e
    rw [e]
    refine Eq.trans ?_ (Cert.FfnInDxValue.final_st m c A B).symm
    exact Cert.FfnInDxEqual.st_eq sm fi A B

end Cert.Proof

end
-- ==== Proof.ProjDxValue.lean ====
/-
  The results of `kernel_proj_dx`, read at an index.
-/
module

public import proofs.«01_k».proof.Proof.Gen.ProjDxIdeal.Value
public import Idealize.ShloMosaic.Lib.Pipeline.ValueKit.Point
public import Idealize.ShloMosaic.Lib.Pipeline.ReadBack
public import Idealize.ShloMosaic.Lib.StableHlo.RunRead
public import Idealize.ShloMosaic.Lib.WritesUnit
public import proofs.«01_k».proof.Proof.AdaBwd

@[expose] public section

noncomputable section

namespace Cert.ProjDxValue

open Idealize.ShloMosaic Idealize.ShloMosaic.TcCoe Idealize.SL.Sem
open Cert.ProjDxIdeal Cert.ProjDxIdeal.Gen
open Cert.AdaBwd (width eps mhalf var rinv kdx)

variable (m : (ℓ : Loc nD τ sig) → Buf (Elt Ideal) ℓ) (c : Dev nD)

theorem idx : ∀ t : Fin cfg0.N, win0_0.index t (0 : Fin 2) = t.val / 5
    ∧ win0_0.index t (1 : Fin 2) = t.val % 5
    ∧ win0_1.index t (0 : Fin 2) = t.val % 5
    ∧ win0_1.index t (1 : Fin 2) = 0
    ∧ win0_2.index t (0 : Fin 2) = t.val / 5
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_6.index t (0 : Fin 2) = t.val / 5
    ∧ win0_6.index t (1 : Fin 2) = 0
    ∧ win0_7.index t (0 : Fin 2) = t.val / 5
    ∧ win0_7.index t (1 : Fin 2) = 0
    ∧ win0_8.index t (0 : Fin 2) = 0
    ∧ win0_8.index t (1 : Fin 2) = 0
    ∧ win0_9.index t (0 : Fin 2) = t.val / 5
    ∧ win0_9.index t (1 : Fin 2) = 0
    ∧ win0_10.index t (0 : Fin 2) = t.val / 5
    ∧ win0_10.index t (1 : Fin 2) = 0
    ∧ win0_11.index t (0 : Fin 2) = 0
    ∧ win0_11.index t (1 : Fin 2) = 0 :=
  (by decide +kernel : ∀ t : Fin grid0.N, _)

/-- The argument arrays. -/
abbrev A0 : Vec Ideal S4096x5760 .bf16 := m ((c : Thread nD τ).loc main_arg0)
abbrev A1 : Vec Ideal S5760x1024 .bf16 := m ((c : Thread nD τ).loc main_arg1)
abbrev A2 : Vec Ideal S4096x1024 .f32 := m ((c : Thread nD τ).loc main_arg2)
abbrev A3 : Vec Ideal S1024 .f32 := m ((c : Thread nD τ).loc main_arg3)
abbrev A4 : Vec Ideal S1x1024 .f32 := m ((c : Thread nD τ).loc main_arg4)
abbrev A6 : Vec Ideal S4096x1024 .f32 := m ((c : Thread nD τ).loc main_arg6)
abbrev A7 : Vec Ideal S4096x1024 .f32 := m ((c : Thread nD τ).loc main_arg7)
abbrev A8 : Vec Ideal S1x1024 .f32 := m ((c : Thread nD τ).loc main_arg8)

/-- The blocks a point reads. -/
abbrev X0 (t : Fin cfg0.N) : Vec Ideal S512x1152 .bf16 := iblk m c 0 t
abbrev X1 (t : Fin cfg0.N) : Vec Ideal S1152x1024 .bf16 := iblk m c 1 t
abbrev X2 (t : Fin cfg0.N) : Vec Ideal S512x1024 .f32 := iblk m c 2 t
abbrev X3 (t : Fin cfg0.N) : Vec Ideal S1x1024 .f32 := iblk m c 3 t
abbrev X4 (t : Fin cfg0.N) : Vec Ideal S1x1024 .f32 := iblk m c 4 t
abbrev X6 (t : Fin cfg0.N) : Vec Ideal S512x1024 .f32 := iblk m c 6 t
abbrev X7 (t : Fin cfg0.N) : Vec Ideal S512x1024 .f32 := iblk m c 7 t
abbrev X8 (t : Fin cfg0.N) : Vec Ideal S1x1024 .f32 := iblk m c 8 t

/-- The gain. -/
theorem entry_v0 (a : Fin 1) (b : Fin 1024) : V m c main_v0 (ix2 a b) = A3 m c (ix1 b) := by
  show StableHlo.after ([hostOps0] : List (List (HloOp τ sig (Elt Ideal)))).flatten (fun b => m (c, b)) (Proc.tc.devRef main_v0) _ = _
  simp only [List.flatten_cons, List.flatten_nil, List.cons_append, List.nil_append, List.append_nil]
  after_reads_simp
  pointwise

theorem block_0 (t : Fin cfg0.N) (a : Fin 512) (b : Fin 1152) (A : Fin 4096) (B : Fin 5760)
    (h0 : (t.val / 5) * 512 + a.val = A.val) (h1 : (t.val % 5) * 1152 + b.val = B.val) : X0 m c t (ix2 a b) = A0 m c (ix2 A B) := by
  obtain ⟨e0, e1, _⟩ := idx t
  blk_ext [X0, A0, iblk, V, e0, e1]

theorem block_1 (t : Fin cfg0.N) (a : Fin 1152) (b : Fin 1024) (A : Fin 5760) (B : Fin 1024)
    (h0 : (t.val % 5) * 1152 + a.val = A.val) (h1 : b.val = B.val) : X1 m c t (ix2 a b) = A1 m c (ix2 A B) := by
  obtain ⟨_, _, e0, e1, _⟩ := idx t
  blk_ext [X1, A1, iblk, V, e0, e1]

theorem block_2 (t : Fin cfg0.N) (a : Fin 512) (b : Fin 1024) (A : Fin 4096) (B : Fin 1024)
    (h0 : (t.val / 5) * 512 + a.val = A.val) (h1 : b.val = B.val) : X2 m c t (ix2 a b) = A2 m c (ix2 A B) := by
  obtain ⟨_, _, _, _, e0, e1, _⟩ := idx t
  blk_ext [X2, A2, iblk, V, e0, e1]

theorem block_3 (t : Fin cfg0.N) (a : Fin 1) (b : Fin 1024) (A : Fin 1) (B : Fin 1024)
    (h0 : a.val = A.val) (h1 : b.val = B.val) : X3 m c t (ix2 a b) = A3 m c (ix1 B) := by
  obtain ⟨_, _, _, _, _, _, e0, e1, _⟩ := idx t
  show V m c main_v0 (((cfg0.win 3).blk t).view.emb (ix2 a b )) = _
  have e : ((cfg0.win 3).blk t).view.emb (ix2 a b) = (ix2 A B : S1x1024.Idx) := by
    funext x; apply Fin.ext
    match x with
    | ⟨0, _⟩ => show win0_3.index t (0 : Fin 2) * 1 + 1 * a.val = A.val; omega
    | ⟨1, _⟩ => show win0_3.index t (1 : Fin 2) * 1024 + 1 * b.val = B.val; omega
  rw [e, entry_v0]

theorem block_4 (t : Fin cfg0.N) (a : Fin 1) (b : Fin 1024) (A : Fin 1) (B : Fin 1024)
    (h0 : a.val = A.val) (h1 : b.val = B.val) : X4 m c t (ix2 a b) = A4 m c (ix2 A B) := by
  obtain ⟨_, _, _, _, _, _, _, _, e0, e1, _⟩ := idx t
  blk_ext [X4, A4, iblk, V, e0, e1]

theorem block_6 (t : Fin cfg0.N) (a : Fin 512) (b : Fin 1024) (A : Fin 4096) (B : Fin 1024)
    (h0 : (t.val / 5) * 512 + a.val = A.val) (h1 : b.val = B.val) : X6 m c t (ix2 a b) = A6 m c (ix2 A B) := by
  obtain ⟨_, _, _, _, _, _, _, _, _, _, e0, e1, _⟩ := idx t
  blk_ext [X6, A6, iblk, V, e0, e1]

theorem block_7 (t : Fin cfg0.N) (a : Fin 512) (b : Fin 1024) (A : Fin 4096) (B : Fin 1024)
    (h0 : (t.val / 5) * 512 + a.val = A.val) (h1 : b.val = B.val) : X7 m c t (ix2 a b) = A7 m c (ix2 A B) := by
  obtain ⟨_, _, _, _, _, _, _, _, _, _, _, _, e0, e1, _⟩ := idx t
  blk_ext [X7, A7, iblk, V, e0, e1]

theorem block_8 (t : Fin cfg0.N) (a : Fin 1) (b : Fin 1024) (A : Fin 1) (B : Fin 1024)
    (h0 : a.val = A.val) (h1 : b.val = B.val) : X8 m c t (ix2 a b) = A8 m c (ix2 A B) := by
  obtain ⟨_, _, _, _, _, _, _, _, _, _, _, _, _, _, e0, e1, _⟩ := idx t
  blk_ext [X8, A8, iblk, V, e0, e1]

/-- What a point adds to the product. -/
def part (t : Fin cfg0.N) (r : Fin 512) (j : Fin 1024) : EReal := ∑ k : Fin 1152, X0 m c t (ix2 r k) * X1 m c t (ix2 k j)

/-- The product so far. -/
abbrev acc (t : Fin cfg0.N) : Vec Ideal S512x1024 .f32 := (outsAt0 m c t.val t.isLt).2.2.2

/-- The column sums so far. -/
abbrev sums (t : Fin cfg0.N) : Vec Ideal S8x1024 .f32 := (outsAt0 m c t.val t.isLt).2.2.1

theorem acc_zero (t : Fin cfg0.N) (h : t.val % 40 = 0) (r : Fin 512) (j : Fin 1024) : acc m c t (ix2 r j) = part m c t r j := by
  unfold acc
  rw [outsAt0_A m c t h (by omega) (by omega) (by omega)]
  frame_out
  open_payloads
  pointwise [read_unread_whole]
  rfl

theorem acc_first (t : Fin cfg0.N) (h : t.val % 5 = 0) (h' : ¬t.val % 40 = 0) (r : Fin 512) (j : Fin 1024) : acc m c t (ix2 r j) = part m c t r j := by
  unfold acc
  rw [outsAt0_D m c t (by omega) (by omega) (by omega) (by omega)]
  frame_out
  open_payloads
  pointwise [read_unread_whole]
  rfl

theorem prev_2_2_2 (t t' : Fin cfg0.N) (ht : t'.val + 1 = t.val) :
    outsAt0 m c (t.val - 1) (Nat.lt_of_le_of_lt (Nat.sub_le _ _) t.isLt) = outsAt0 m c t'.val t'.isLt := by
  congr 1; omega

theorem acc_mid (t t' : Fin cfg0.N) (h : ¬t.val % 5 = 0) (h' : ¬t.val % 5 = 4) (ht : t'.val + 1 = t.val) (r : Fin 512) (j : Fin 1024) :
    acc m c t (ix2 r j) = acc m c t' (ix2 r j) + part m c t r j := by
  unfold acc
  rw [outsAt0_B m c t (by omega) (by omega) (by omega) (by omega)]
  rw [prev_2_2_2 m c t t' ht]
  generalize outsAt0 m c t'.val t'.isLt = o
  frame_out
  open_payloads
  pointwise [read_unread_whole]
  rfl

theorem acc_last (t t' : Fin cfg0.N) (h : t.val % 5 = 4) (ht : t'.val + 1 = t.val) (r : Fin 512) (j : Fin 1024) :
    acc m c t (ix2 r j) = acc m c t' (ix2 r j) + part m c t r j := by
  unfold acc
  rw [outsAt0_C m c t (by omega) (by omega) (by omega) (by omega)]
  rw [prev_2_2_2 m c t t' ht]
  generalize outsAt0 m c t'.val t'.isLt = o
  frame_out
  open_payloads
  pointwise [read_unread_whole]
  rfl

/-- The gradient of the row's normalised values, at a block's last point. -/
def dnb (t : Fin cfg0.N) (r : Fin 512) (j : Fin 1024) : EReal := acc m c t (ix2 r j) * (1 + X4 m c t (ix2 0 j)) * X3 m c t (ix2 0 j)

/-- The gradient of the row. -/
def dxb (t : Fin cfg0.N) (r : Fin 512) (j : Fin 1024) : EReal :=
  X6 m c t (ix2 r j) + kdx (fun k => X2 m c t (ix2 r k)) (dnb m c t r) j

theorem out_dx (t t' : Fin cfg0.N) (h : t.val % 5 = 4) (ht : t'.val + 1 = t.val) (r : Fin 512) (j : Fin 1024) :
    (outsAt0 m c t.val t.isLt).1 (ix2 r j) = dxb m c t r j := by
  unfold dxb kdx rinv var dnb
  simp only [acc_last m c t t' h ht]
  unfold acc part
  rw [outsAt0_C m c t (by omega) (by omega) (by omega) (by omega)]
  rw [prev_2_2_2 m c t t' ht]
  generalize outsAt0 m c t'.val t'.isLt = o
  frame_out
  open_payloads
  pointwise [read_unread_whole]

theorem out_dt (t t' : Fin cfg0.N) (h : t.val % 5 = 4) (ht : t'.val + 1 = t.val) (r : Fin 512) (j : Fin 1024) :
    (outsAt0 m c t.val t.isLt).2.1 (ix2 r j) = X8 m c t (ix2 0 j) * dxb m c t r j := by
  unfold dxb kdx rinv var dnb
  simp only [acc_last m c t t' h ht]
  unfold acc part
  rw [outsAt0_C m c t (by omega) (by omega) (by omega) (by omega)]
  rw [prev_2_2_2 m c t t' ht]
  generalize outsAt0 m c t'.val t'.isLt = o
  frame_out
  open_payloads
  pointwise [read_unread_whole]

theorem out_sum_0 (t t' : Fin cfg0.N) (h : t.val % 5 = 4) (ht : t'.val + 1 = t.val) (j : Fin 1024) :
    sums m c t (ix2 0 j) = sums m c t' (ix2 0 j) + ∑ r : Fin 512, acc m c t (ix2 r j) * (1 + X4 m c t (ix2 0 j)) * (X2 m c t (ix2 r j) * rinv (fun k => X2 m c t (ix2 r k))) := by
  unfold rinv var
  simp only [acc_last m c t t' h ht]
  unfold sums acc part
  rw [outsAt0_C m c t (by omega) (by omega) (by omega) (by omega)]
  rw [prev_2_2_2 m c t t' ht]
  generalize outsAt0 m c t'.val t'.isLt = o
  frame_out
  rw [Cert.AdaBwd.row_miss _ _ 3 _ _ _ _ _ (show (0 : ℕ) ≠ 3 by omega)]
  rw [Cert.AdaBwd.row_miss _ _ 2 _ _ _ _ _ (show (0 : ℕ) ≠ 2 by omega)]
  rw [Cert.AdaBwd.row_miss _ _ 1 _ _ _ _ _ (show (0 : ℕ) ≠ 1 by omega)]
  rw [Cert.AdaBwd.row_hit _ _ 0 _ _ _ _ _ rfl]
  open_payloads
  pointwise [read_unread_whole]
  try rfl

theorem out_sum_1 (t t' : Fin cfg0.N) (h : t.val % 5 = 4) (ht : t'.val + 1 = t.val) (j : Fin 1024) :
    sums m c t (ix2 1 j) = sums m c t' (ix2 1 j) + ∑ r : Fin 512, acc m c t (ix2 r j) * (X2 m c t (ix2 r j) * rinv (fun k => X2 m c t (ix2 r k)) * X3 m c t (ix2 0 j)) := by
  unfold rinv var
  simp only [acc_last m c t t' h ht]
  unfold sums acc part
  rw [outsAt0_C m c t (by omega) (by omega) (by omega) (by omega)]
  rw [prev_2_2_2 m c t t' ht]
  generalize outsAt0 m c t'.val t'.isLt = o
  frame_out
  rw [Cert.AdaBwd.row_miss _ _ 3 _ _ _ _ _ (show (1 : ℕ) ≠ 3 by omega)]
  rw [Cert.AdaBwd.row_miss _ _ 2 _ _ _ _ _ (show (1 : ℕ) ≠ 2 by omega)]
  rw [Cert.AdaBwd.row_hit _ _ 1 _ _ _ _ _ rfl]
  open_payloads
  pointwise [read_unread_whole]
  try rfl

theorem out_sum_2 (t t' : Fin cfg0.N) (h : t.val % 5 = 4) (ht : t'.val + 1 = t.val) (j : Fin 1024) :
    sums m c t (ix2 2 j) = sums m c t' (ix2 2 j) + ∑ r : Fin 512, acc m c t (ix2 r j) := by
  simp only [acc_last m c t t' h ht]
  unfold sums acc part
  rw [outsAt0_C m c t (by omega) (by omega) (by omega) (by omega)]
  rw [prev_2_2_2 m c t t' ht]
  generalize outsAt0 m c t'.val t'.isLt = o
  frame_out
  rw [Cert.AdaBwd.row_miss _ _ 3 _ _ _ _ _ (show (2 : ℕ) ≠ 3 by omega)]
  rw [Cert.AdaBwd.row_hit _ _ 2 _ _ _ _ _ rfl]
  open_payloads
  pointwise [read_unread_whole]
  try rfl

theorem out_sum_3 (t t' : Fin cfg0.N) (h : t.val % 5 = 4) (ht : t'.val + 1 = t.val) (j : Fin 1024) :
    sums m c t (ix2 3 j) = sums m c t' (ix2 3 j) + ∑ r : Fin 512, dxb m c t r j * X7 m c t (ix2 r j) := by
  unfold dxb kdx rinv var dnb
  simp only [acc_last m c t t' h ht]
  unfold sums acc part
  rw [outsAt0_C m c t (by omega) (by omega) (by omega) (by omega)]
  rw [prev_2_2_2 m c t t' ht]
  generalize outsAt0 m c t'.val t'.isLt = o
  frame_out
  rw [Cert.AdaBwd.row_hit _ _ 3 _ _ _ _ _ rfl]
  open_payloads
  pointwise [read_unread_whole]
  try rfl

theorem out_sum_rest (t t' : Fin cfg0.N) (h : t.val % 5 = 4) (ht : t'.val + 1 = t.val) (i : Fin 8) (hi : 4 ≤ i.val) (j : Fin 1024) :
    sums m c t (ix2 i j) = sums m c t' (ix2 i j) := by
  unfold sums
  rw [outsAt0_C m c t (by omega) (by omega) (by omega) (by omega)]
  rw [prev_2_2_2 m c t t' ht]
  generalize outsAt0 m c t'.val t'.isLt = o
  frame_out
  rw [Cert.AdaBwd.row_miss _ _ 3 _ _ _ _ _ (by omega)]
  rw [Cert.AdaBwd.row_miss _ _ 2 _ _ _ _ _ (by omega)]
  rw [Cert.AdaBwd.row_miss _ _ 1 _ _ _ _ _ (by omega)]
  rw [Cert.AdaBwd.row_miss _ _ 0 _ _ _ _ _ (by omega)]
  exact congrFun (Memref.IsWhole.read_unread _ _) _

theorem sums_zero (t : Fin cfg0.N) (h : t.val % 40 = 0) (i : Fin 8) (j : Fin 1024) : sums m c t (ix2 i j) = 0 := by
  unfold sums
  rw [outsAt0_A m c t h (by omega) (by omega) (by omega)]
  frame_out
  open_payloads
  pointwise [read_unread_whole]

theorem sums_first (t t' : Fin cfg0.N) (h : t.val % 5 = 0) (h' : ¬t.val % 40 = 0) (ht : t'.val + 1 = t.val) (i : Fin 8) (j : Fin 1024) :
    sums m c t (ix2 i j) = sums m c t' (ix2 i j) := by
  unfold sums
  rw [outsAt0_D m c t (by omega) (by omega) (by omega) (by omega)]
  rw [prev_2_2_2 m c t t' ht]
  generalize outsAt0 m c t'.val t'.isLt = o
  rfl

theorem sums_mid (t t' : Fin cfg0.N) (h : ¬t.val % 5 = 0) (h' : ¬t.val % 5 = 4) (ht : t'.val + 1 = t.val) (i : Fin 8) (j : Fin 1024) :
    sums m c t (ix2 i j) = sums m c t' (ix2 i j) := by
  unfold sums
  rw [outsAt0_B m c t (by omega) (by omega) (by omega) (by omega)]
  rw [prev_2_2_2 m c t t' ht]
  generalize outsAt0 m c t'.val t'.isLt = o
  rfl

end Cert.ProjDxValue

end
-- ==== Proof.ProjDxFinal.lean ====
/-
  The results of `kernel_proj_dx` from its arguments.
-/
module

public import proofs.«01_k».proof.Proof.Gen.ProjDxIdeal.Value
public import proofs.«01_k».proof.Proof.ProjDxValue
public import proofs.«01_k».proof.Proof.Total

@[expose] public section

noncomputable section

namespace Cert.ProjDxValue

open Idealize.ShloMosaic Idealize.ShloMosaic.TcCoe Idealize.SL.Sem
open Cert.ProjDxIdeal Cert.ProjDxIdeal.Gen
open Cert.AdaBwd (width eps mhalf var rinv kdx blocks)

variable (m : (ℓ : Loc nD τ sig) → Buf (Elt Ideal) ℓ) (c : Dev nD)

/-- The two operands of the product, and the product. -/
def aT (R : Fin 4096) (k : Fin 5760) : EReal := A0 m c (ix2 R k)
def wT (k : Fin 5760) (j : Fin 1024) : EReal := A1 m c (ix2 k j)
def dh (R : Fin 4096) (j : Fin 1024) : EReal := ∑ k : Fin 5760, aT m c R k * wT m c k j

theorem part_eq (t : Fin cfg0.N) (r : Fin 512) (j : Fin 1024) (R : Fin 4096) (hR : t.val / 5 * 512 + r.val = R.val) (q : ℕ) (hq : q < 5) (h : t.val % 5 = q) :
    part m c t r j = ∑ k : Fin 1152, aT m c R ⟨q * 1152 + k.val, by omega⟩ * wT m c ⟨q * 1152 + k.val, by omega⟩ j :=
  Finset.sum_congr rfl fun k _ => by
    have hk := k.isLt
    rw [block_0 m c t r k R ⟨q * 1152 + k.val, by omega⟩ hR (by show _ = q * 1152 + k.val; rw [h]), block_1 m c t k j ⟨q * 1152 + k.val, by omega⟩ j (by show _ = q * 1152 + k.val; rw [h]) rfl]
    rfl

theorem acc_start (t : Fin cfg0.N) (h : t.val % 5 = 0) (r : Fin 512) (j : Fin 1024) : acc m c t (ix2 r j) = part m c t r j := by
  by_cases h' : t.val % 40 = 0
  · exact acc_zero m c t h' r j
  · exact acc_first m c t h h' r j

theorem acc_eq (t : Fin cfg0.N) (h : t.val % 5 = 4) (r : Fin 512) (j : Fin 1024) (R : Fin 4096) (hR : t.val / 5 * 512 + r.val = R.val) :
    acc m c t (ix2 r j) = dh m c R j := by
  have hN := t.isLt
  let t0 : Fin cfg0.N := ⟨t.val - 4, by omega⟩
  have e0 : t0.val = t.val - 4 := rfl
  let t1 : Fin cfg0.N := ⟨t.val - 3, by omega⟩
  have e1 : t1.val = t.val - 3 := rfl
  let t2 : Fin cfg0.N := ⟨t.val - 2, by omega⟩
  have e2 : t2.val = t.val - 2 := rfl
  let t3 : Fin cfg0.N := ⟨t.val - 1, by omega⟩
  have e3 : t3.val = t.val - 1 := rfl
  rw [acc_last m c t t3 h (by omega), acc_mid m c t3 t2 (by omega) (by omega) (by omega), acc_mid m c t2 t1 (by omega) (by omega) (by omega), acc_mid m c t1 t0 (by omega) (by omega) (by omega), acc_start m c t0 (by omega)]
  rw [part_eq m c t0 r j R (by omega) 0 (by omega) (by omega), part_eq m c t1 r j R (by omega) 1 (by omega) (by omega), part_eq m c t2 r j R (by omega) 2 (by omega) (by omega), part_eq m c t3 r j R (by omega) 3 (by omega) (by omega), part_eq m c t r j R hR 4 (by omega) h]
  refine Eq.trans ?_ (blocks 5 1152 (fun k : Fin 5760 => aT m c R k * wT m c k j)).symm
  rw [Fin.sum_univ_five]
  rfl

/-- The gradient of a row's normalised values, and of the row. -/
def dn (R : Fin 4096) (j : Fin 1024) : EReal := dh m c R j * (1 + A4 m c (ix2 0 j)) * A3 m c (ix1 j)
def gx (R : Fin 4096) (j : Fin 1024) : EReal := A6 m c (ix2 R j) + kdx (fun k => A2 m c (ix2 R k)) (dn m c R) j

section
variable (t : Fin cfg0.N) (h : t.val % 5 = 4) (r : Fin 512) (R : Fin 4096) (hR : t.val / 5 * 512 + r.val = R.val)
include h hR

theorem row_eq : (fun k => X2 m c t (ix2 r k)) = fun k => A2 m c (ix2 R k) :=
  funext fun k => block_2 m c t r k R k hR rfl

theorem dxb_eq (j : Fin 1024) : dxb m c t r j = gx m c R j := by
  have e : dnb m c t r = dn m c R := funext fun j => by
    unfold dnb dn
    rw [acc_eq m c t h r j R hR, block_4 m c t 0 j 0 j rfl rfl, block_3 m c t 0 j 0 j rfl rfl]
  unfold dxb gx
  rw [e, block_6 m c t r j R j hR rfl, row_eq m c t h r R hR]
end

/-- What a row adds to the column sums. -/
def add0 (j : Fin 1024) (R : Fin 4096) : EReal := dh m c R j * (1 + A4 m c (ix2 0 j)) * (A2 m c (ix2 R j) * rinv (fun k => A2 m c (ix2 R k)))
def add1 (j : Fin 1024) (R : Fin 4096) : EReal := dh m c R j * (A2 m c (ix2 R j) * rinv (fun k => A2 m c (ix2 R k)) * A3 m c (ix1 j))
def add2 (j : Fin 1024) (R : Fin 4096) : EReal := dh m c R j
def add3 (j : Fin 1024) (R : Fin 4096) : EReal := gx m c R j * A7 m c (ix2 R j)

/-- What the points of all eight blocks add up to, where each adds its rows. -/
theorem sums_total (i : Fin 8) (j : Fin 1024) (f : Fin cfg0.N → Fin 512 → EReal) (q : Fin 4096 → EReal)
    (last : ∀ t t' : Fin cfg0.N, t.val % 5 = 4 → t'.val + 1 = t.val → sums m c t (ix2 i j) = sums m c t' (ix2 i j) + ∑ r, f t r)
    (row : ∀ t : Fin cfg0.N, t.val % 5 = 4 → ∀ (r : Fin 512) (R : Fin 4096), t.val / 5 * 512 + r.val = R.val → f t r = q R)
    (t : Fin cfg0.N) (ht : t.val = 39) : sums m c t (ix2 i j) = ∑ R, q R :=
  have hN : cfg0.N = 40 := N_0
  Cert.AdaBwd.total 5 (by omega) hN (fun t => sums m c t (ix2 i j)) f q (fun t h => sums_zero m c t (by omega) i j)
    (fun t t' h ht => by
      by_cases h0 : t.val % 5 = 0
      · exact sums_first m c t t' h0 (by omega) ht i j
      · exact sums_mid m c t t' h0 h ht i j) last row t (by omega)

theorem total_0 (j : Fin 1024) (t : Fin cfg0.N) (ht : t.val = 39) : sums m c t (ix2 0 j) = ∑ R, add0 m c j R :=
  sums_total m c 0 j _ (add0 m c j) (fun t t' h h' => out_sum_0 m c t t' h h' j) (fun t h r R hR => by
    unfold add0
    rw [acc_eq m c t h r j R hR, block_4 m c t 0 j 0 j rfl rfl, block_2 m c t r j R j hR rfl, row_eq m c t h r R hR]) t ht

theorem total_1 (j : Fin 1024) (t : Fin cfg0.N) (ht : t.val = 39) : sums m c t (ix2 1 j) = ∑ R, add1 m c j R :=
  sums_total m c 1 j _ (add1 m c j) (fun t t' h h' => out_sum_1 m c t t' h h' j) (fun t h r R hR => by
    unfold add1
    rw [acc_eq m c t h r j R hR, block_3 m c t 0 j 0 j rfl rfl, block_2 m c t r j R j hR rfl, row_eq m c t h r R hR]) t ht

theorem total_2 (j : Fin 1024) (t : Fin cfg0.N) (ht : t.val = 39) : sums m c t (ix2 2 j) = ∑ R, add2 m c j R :=
  sums_total m c 2 j _ (add2 m c j) (fun t t' h h' => out_sum_2 m c t t' h h' j) (fun t h r R hR => by
    unfold add2
    rw [acc_eq m c t h r j R hR]) t ht

theorem total_3 (j : Fin 1024) (t : Fin cfg0.N) (ht : t.val = 39) : sums m c t (ix2 3 j) = ∑ R, add3 m c j R :=
  sums_total m c 3 j _ (add3 m c j) (fun t t' h h' => out_sum_3 m c t t' h h' j) (fun t h r R hR => by
    unfold add3
    rw [dxb_eq m c t h r R hR j, block_7 m c t r j R j hR rfl]) t ht

theorem total_rest (i : Fin 8) (hi : 4 ≤ i.val) (j : Fin 1024) (t : Fin cfg0.N) (ht : t.val = 39) : sums m c t (ix2 i j) = 0 := by
  rw [sums_total m c i j (fun _ _ => 0) (fun _ => 0)
    (fun t t' h h' => by rw [out_sum_rest m c t t' h h' i hi j, Finset.sum_const_zero, add_zero]) (fun _ _ _ _ _ => rfl) t ht, Finset.sum_const_zero]

/-- The rows of column sums. -/
def st (A : Fin 8) (B : Fin 1024) : EReal :=
  if A.val = 0 then ∑ R, add0 m c B R else if A.val = 1 then ∑ R, add1 m c B R else if A.val = 2 then ∑ R, add2 m c B R else if A.val = 3 then ∑ R, add3 m c B R else 0

theorem final_dx (A : Fin 4096) (B : Fin 1024) : (dats m 0 c).arrAt 9 cfg0.N (ix2 A B) = gx m c A B := by
  let t : Fin cfg0.N := ⟨5 * (A.val / 512) + 4, by show _ < 40; omega⟩
  have ht : t.val = 5 * (A.val / 512) + 4 := rfl
  obtain ⟨_, _, _, _, _, _, _, _, _, _, _, _, _, _, _, _, e0, e1, _⟩ := idx t
  let a : Fin 512 := ⟨A.val % 512, by omega⟩
  have ha : a.val = A.val % 512 := rfl
  let b : Fin 1024 := ⟨B.val % 1024, by omega⟩
  have hb : b.val = B.val % 1024 := rfl
  have bl := congrFun (Value.flushed9_eq m c t ((flush0_9 t).mpr (by omega))).symm (ix2 a b)
  rw [← Value.final9, Value.flushed9] at bl
  have e : ((cfg0.win 9).blk t).view.emb (ix2 a b) = (ix2 A B : S4096x1024.Idx) := by
    funext x; apply Fin.ext
    match x with
    | ⟨0, _⟩ => show win0_9.index t (0 : Fin 2) * 512 + 1 * (A.val % 512) = A.val; omega
    | ⟨1, _⟩ => show win0_9.index t (1 : Fin 2) * 1024 + 1 * (B.val % 1024) = B.val; omega
  have b' : (dats m 0 c).arrAt 9 cfg0.N (((cfg0.win 9).blk t).view.emb (ix2 a b)) = (outsAt0 m c t.val t.isLt).1 (ix2 a b) := bl
  rw [e] at b'
  clear e bl
  have hB : b = B := Fin.ext (by omega)
  have hN : cfg0.N = 40 := N_0
  let t' : Fin cfg0.N := ⟨5 * (A.val / 512) + 3, by omega⟩
  have ht' : t'.val = 5 * (A.val / 512) + 3 := rfl
  rw [b', out_dx m c t t' (by omega) (by omega), dxb_eq m c t (by omega) a A (by omega), hB]

theorem final_dt (A : Fin 4096) (B : Fin 1024) : (dats m 0 c).arrAt 10 cfg0.N (ix2 A B) = A8 m c (ix2 0 B) * gx m c A B := by
  let t : Fin cfg0.N := ⟨5 * (A.val / 512) + 4, by show _ < 40; omega⟩
  have ht : t.val = 5 * (A.val / 512) + 4 := rfl
  obtain ⟨_, _, _, _, _, _, _, _, _, _, _, _, _, _, _, _, _, _, e0, e1, _⟩ := idx t
  let a : Fin 512 := ⟨A.val % 512, by omega⟩
  have ha : a.val = A.val % 512 := rfl
  let b : Fin 1024 := ⟨B.val % 1024, by omega⟩
  have hb : b.val = B.val % 1024 := rfl
  have bl := congrFun (Value.flushed10_eq m c t ((flush0_10 t).mpr (by omega))).symm (ix2 a b)
  rw [← Value.final10, Value.flushed10] at bl
  have e : ((cfg0.win 10).blk t).view.emb (ix2 a b) = (ix2 A B : S4096x1024.Idx) := by
    funext x; apply Fin.ext
    match x with
    | ⟨0, _⟩ => show win0_10.index t (0 : Fin 2) * 512 + 1 * (A.val % 512) = A.val; omega
    | ⟨1, _⟩ => show win0_10.index t (1 : Fin 2) * 1024 + 1 * (B.val % 1024) = B.val; omega
  have b' : (dats m 0 c).arrAt 10 cfg0.N (((cfg0.win 10).blk t).view.emb (ix2 a b)) = (outsAt0 m c t.val t.isLt).2.1 (ix2 a b) := bl
  rw [e] at b'
  clear e bl
  have hB : b = B := Fin.ext (by omega)
  have hN : cfg0.N = 40 := N_0
  let t' : Fin cfg0.N := ⟨5 * (A.val / 512) + 3, by omega⟩
  have ht' : t'.val = 5 * (A.val / 512) + 3 := rfl
  rw [b', out_dt m c t t' (by omega) (by omega), dxb_eq m c t (by omega) a A (by omega), hB, block_8 m c t 0 B 0 B rfl rfl]

theorem final_st (A : Fin 8) (B : Fin 1024) : (dats m 0 c).arrAt 11 cfg0.N (ix2 A B) = st m c A B := by
  obtain ⟨t, ht⟩ : ∃ t : Fin cfg0.N, t.val = 39 := ⟨⟨39, by show _ < 40; omega⟩, rfl⟩
  obtain ⟨_, _, _, _, _, _, _, _, _, _, _, _, _, _, _, _, _, _, _, _, e0, e1⟩ := idx t
  let a : Fin 8 := ⟨A.val % 8, by omega⟩
  have ha : a.val = A.val % 8 := rfl
  let b : Fin 1024 := ⟨B.val % 1024, by omega⟩
  have hb : b.val = B.val % 1024 := rfl
  have bl := congrFun (Value.flushed11_eq m c t ((flush0_11 t).mpr (by omega))).symm (ix2 a b)
  rw [← Value.final11, Value.flushed11] at bl
  have e : ((cfg0.win 11).blk t).view.emb (ix2 a b) = (ix2 A B : S8x1024.Idx) := by
    funext x; apply Fin.ext
    match x with
    | ⟨0, _⟩ => show win0_11.index t (0 : Fin 2) * 8 + 1 * (A.val % 8) = A.val; omega
    | ⟨1, _⟩ => show win0_11.index t (1 : Fin 2) * 1024 + 1 * (B.val % 1024) = B.val; omega
  have b' : (dats m 0 c).arrAt 11 cfg0.N (((cfg0.win 11).blk t).view.emb (ix2 a b)) = sums m c t (ix2 a b) := bl
  rw [e] at b'
  clear e bl
  have hB : b = B := Fin.ext (by omega)
  have hA : a = A := Fin.ext (by omega)
  rw [b', hA, hB]
  clear b'
  unfold st
  split
  · rename_i hA'
    rw [show A = 0 from Fin.ext hA']
    exact total_0 m c B t ht
  split
  · rename_i hA'
    rw [show A = 1 from Fin.ext hA']
    exact total_1 m c B t ht
  split
  · rename_i hA'
    rw [show A = 2 from Fin.ext hA']
    exact total_2 m c B t ht
  split
  · rename_i hA'
    rw [show A = 3 from Fin.ext hA']
    exact total_3 m c B t ht
  exact total_rest m c A (by omega) B t ht

end Cert.ProjDxValue

end
-- ==== Proof.ProjDxRead.lean ====
/-
  The reference's results of `kernel_ProjDx`, read at an index.
-/
module

public import proofs.«01_k».proof.Proof.Gen.ProjDxRefIdeal.Run
public import proofs.«01_k».proof.Proof.AdaBwd

@[expose] public section

noncomputable section

namespace Cert.ProjDxRead

open Idealize.ShloMosaic Idealize.ShloMosaic.TcCoe Idealize.SL.Sem
open Cert.ProjDxRefIdeal Cert.ProjDxRefIdeal.Gen
open Cert.AdaBwd (width eps mhalf var rinv fac)

variable (m : (ℓ : Loc nD τ sig) → Buf (Elt Ideal) ℓ) (c : Dev nD)

/-- The argument arrays. -/
abbrev A0 : Vec Ideal S4096x5760 .bf16 := m ((c.tc : Thread nD τ).loc main_arg0)
abbrev A1 : Vec Ideal S5760x1024 .bf16 := m ((c.tc : Thread nD τ).loc main_arg1)
abbrev A2 : Vec Ideal S4096x1024 .f32 := m ((c.tc : Thread nD τ).loc main_arg2)
abbrev A3 : Vec Ideal S1024 .f32 := m ((c.tc : Thread nD τ).loc main_arg3)
abbrev A4 : Vec Ideal S1x1024 .f32 := m ((c.tc : Thread nD τ).loc main_arg4)
abbrev A6 : Vec Ideal S4096x1024 .f32 := m ((c.tc : Thread nD τ).loc main_arg6)
abbrev A7 : Vec Ideal S4096x1024 .f32 := m ((c.tc : Thread nD τ).loc main_arg7)
abbrev A8 : Vec Ideal S1x1024 .f32 := m ((c.tc : Thread nD τ).loc main_arg8)

/-- The product, the gradient of the normalised row, and the row's gradient. -/
def dot (X : FVec Ideal S4096x5760 .f32) (W : FVec Ideal S1024x5760 .f32) : FVec Ideal S4096x1024 .f32 :=
  Host.dotGeneral dot_S4096x5760_S1024x5760_S4096x1024_1_1_0_0_n_n none X W
def prod : FVec Ideal S4096x1024 .f32 := dot (extf .f32 (m ((c.tc : Thread nD τ).loc main_arg0)) bitsLt_bf16_f32) (transpose S1024x5760 [1, 0] (extf .f32 (m ((c.tc : Thread nD τ).loc main_arg1)) bitsLt_bf16_f32) transposes_S5760x1024_S1024x5760_1_0)
def dn (R : Fin 4096) (j : Fin 1024) : EReal := prod m c (ix2 R j) * (1 + A4 m c (ix2 0 j)) * A3 m c (ix1 j)
abbrev x (R : Fin 4096) (k : Fin 1024) : EReal := A2 m c (ix2 R k)
def gx (R : Fin 4096) (j : Fin 1024) : EReal :=
  A6 m c (ix2 R j) + dn m c R j * rinv (x m c R) + x m c R j * fac (x m c R) (dn m c R) + fac (x m c R) (dn m c R) * x m c R j

theorem dot_eq (X : FVec Ideal S4096x5760 .f32) (W : FVec Ideal S1024x5760 .f32) :
    Host.dotGeneral dot_S4096x5760_S1024x5760_S4096x1024_1_1_0_0_n_n none X W = dot X W := rfl

/-- Rows, one after the other. -/
def stack (u0 u1 u2 u3 : FVec Ideal S1x1024 .f32) (u4 : FVec Ideal S4x1024 .f32) : FVec Ideal S8x1024 .f32 :=
  concatenate S8x1024 0 [⟨S1x1024, u0⟩, ⟨S1x1024, u1⟩, ⟨S1x1024, u2⟩, ⟨S1x1024, u3⟩, ⟨S4x1024, u4⟩] concatenates_S1x1024_S1x1024_S1x1024_S1x1024_S4x1024_S8x1024_d0

theorem stack_0 (u0 u1 u2 u3 : FVec Ideal S1x1024 .f32) (u4 : FVec Ideal S4x1024 .f32) (B : Fin 1024) : stack u0 u1 u2 u3 u4 (ix2 0 B) = u0 (ix2 0 B) := by
  unfold stack
  exact concatenate_apply_piece (t := S8x1024) 0 [⟨S1x1024, u0⟩, ⟨S1x1024, u1⟩, ⟨S1x1024, u2⟩, ⟨S1x1024, u3⟩, ⟨S4x1024, u4⟩] concatenates_S1x1024_S1x1024_S1x1024_S1x1024_S4x1024_S8x1024_d0 (ix2 0 B) 0 (by show 0 < 5; omega) S1x1024 _ rfl rfl 0 rfl (ix2 0 B)
    (fun b hb => match b with | ⟨0, _⟩ => absurd rfl hb | ⟨1, _⟩ => rfl) rfl

theorem stack_1 (u0 u1 u2 u3 : FVec Ideal S1x1024 .f32) (u4 : FVec Ideal S4x1024 .f32) (B : Fin 1024) : stack u0 u1 u2 u3 u4 (ix2 1 B) = u1 (ix2 0 B) := by
  unfold stack
  exact concatenate_apply_piece (t := S8x1024) 0 [⟨S1x1024, u0⟩, ⟨S1x1024, u1⟩, ⟨S1x1024, u2⟩, ⟨S1x1024, u3⟩, ⟨S4x1024, u4⟩] concatenates_S1x1024_S1x1024_S1x1024_S1x1024_S4x1024_S8x1024_d0 (ix2 1 B) 1 (by show 1 < 5; omega) S1x1024 _ rfl rfl 1 rfl (ix2 0 B)
    (fun b hb => match b with | ⟨0, _⟩ => absurd rfl hb | ⟨1, _⟩ => rfl) rfl

theorem stack_2 (u0 u1 u2 u3 : FVec Ideal S1x1024 .f32) (u4 : FVec Ideal S4x1024 .f32) (B : Fin 1024) : stack u0 u1 u2 u3 u4 (ix2 2 B) = u2 (ix2 0 B) := by
  unfold stack
  exact concatenate_apply_piece (t := S8x1024) 0 [⟨S1x1024, u0⟩, ⟨S1x1024, u1⟩, ⟨S1x1024, u2⟩, ⟨S1x1024, u3⟩, ⟨S4x1024, u4⟩] concatenates_S1x1024_S1x1024_S1x1024_S1x1024_S4x1024_S8x1024_d0 (ix2 2 B) 2 (by show 2 < 5; omega) S1x1024 _ rfl rfl 2 rfl (ix2 0 B)
    (fun b hb => match b with | ⟨0, _⟩ => absurd rfl hb | ⟨1, _⟩ => rfl) rfl

theorem stack_3 (u0 u1 u2 u3 : FVec Ideal S1x1024 .f32) (u4 : FVec Ideal S4x1024 .f32) (B : Fin 1024) : stack u0 u1 u2 u3 u4 (ix2 3 B) = u3 (ix2 0 B) := by
  unfold stack
  exact concatenate_apply_piece (t := S8x1024) 0 [⟨S1x1024, u0⟩, ⟨S1x1024, u1⟩, ⟨S1x1024, u2⟩, ⟨S1x1024, u3⟩, ⟨S4x1024, u4⟩] concatenates_S1x1024_S1x1024_S1x1024_S1x1024_S4x1024_S8x1024_d0 (ix2 3 B) 3 (by show 3 < 5; omega) S1x1024 _ rfl rfl 3 rfl (ix2 0 B)
    (fun b hb => match b with | ⟨0, _⟩ => absurd rfl hb | ⟨1, _⟩ => rfl) rfl

theorem stack_rest (u0 u1 u2 u3 : FVec Ideal S1x1024 .f32) (u4 : FVec Ideal S4x1024 .f32) (A : Fin 8) (hA : 4 ≤ A.val) (B : Fin 1024) :
    stack u0 u1 u2 u3 u4 (ix2 A B) = u4 (ix2 ⟨A.val - 4, by omega⟩ B) := by
  unfold stack
  have hA' := A.isLt
  exact concatenate_apply_piece (t := S8x1024) 0 [⟨S1x1024, u0⟩, ⟨S1x1024, u1⟩, ⟨S1x1024, u2⟩, ⟨S1x1024, u3⟩, ⟨S4x1024, u4⟩] concatenates_S1x1024_S1x1024_S1x1024_S1x1024_S4x1024_S8x1024_d0 (ix2 A B) 4 (by show 4 < 5; omega) S4x1024 _ rfl rfl 4 rfl (ix2 ⟨A.val - 4, by omega⟩ B)
    (fun b hb => match b with | ⟨0, _⟩ => absurd rfl hb | ⟨1, _⟩ => rfl) (by show 4 + (A.val - 4) = A.val; omega)

theorem dx (A : Fin 4096) (B : Fin 1024) : Value.res_main_v54 m c (ix2 A B) = gx m c A B := by
  unfold Value.res_main_v54
  unfold gx dn fac rinv var prod
  simp only [dot_eq]
  pointwise
  try simp only [Finset.univ_unique, Finset.sum_singleton]
  try rfl

theorem dt (A : Fin 4096) (B : Fin 1024) : Value.res_main_v62 m c (ix2 A B) = A8 m c (ix2 0 B) * gx m c A B := by
  unfold Value.res_main_v62
  unfold gx dn fac rinv var prod
  simp only [dot_eq]
  pointwise
  try simp only [Finset.univ_unique, Finset.sum_singleton]
  try rfl

theorem st_0 (B : Fin 1024) : Value.res_main_v65 m c (ix2 0 B) = ∑ R : Fin 4096, x m c R B * rinv (x m c R) * (prod m c (ix2 R B) * (1 + A4 m c (ix2 0 B))) := by
  unfold Value.res_main_v65
  refine (stack_0 _ _ _ _ _ B).trans ?_
  unfold rinv var prod
  simp only [dot_eq]
  pointwise
  try simp only [Finset.univ_unique, Finset.sum_singleton]
  try rfl

theorem st_1 (B : Fin 1024) : Value.res_main_v65 m c (ix2 1 B) = ∑ R : Fin 4096, x m c R B * rinv (x m c R) * A3 m c (ix1 B) * prod m c (ix2 R B) := by
  unfold Value.res_main_v65
  refine (stack_1 _ _ _ _ _ B).trans ?_
  unfold rinv var prod
  simp only [dot_eq]
  pointwise
  try simp only [Finset.univ_unique, Finset.sum_singleton]
  try rfl

theorem st_2 (B : Fin 1024) : Value.res_main_v65 m c (ix2 2 B) = ∑ R : Fin 4096, prod m c (ix2 R B) := by
  unfold Value.res_main_v65
  refine (stack_2 _ _ _ _ _ B).trans ?_
  unfold prod
  simp only [dot_eq]
  pointwise
  try simp only [Finset.univ_unique, Finset.sum_singleton]
  try rfl

theorem st_3 (B : Fin 1024) : Value.res_main_v65 m c (ix2 3 B) = ∑ R : Fin 4096, gx m c R B * A7 m c (ix2 R B) := by
  unfold Value.res_main_v65
  refine (stack_3 _ _ _ _ _ B).trans ?_
  unfold gx dn fac rinv var prod
  simp only [dot_eq]
  pointwise
  try simp only [Finset.univ_unique, Finset.sum_singleton]
  try rfl

theorem st_rest (A : Fin 8) (hA : 4 ≤ A.val) (B : Fin 1024) : Value.res_main_v65 m c (ix2 A B) = (0 : EReal) := by
  unfold Value.res_main_v65
  refine (stack_rest _ _ _ _ _ A hA B).trans ?_
  pointwise

theorem prod_apply (R : Fin 4096) (j : Fin 1024) :
    prod m c (ix2 R j) = ∑ k : Fin 5760, A0 m c (ix2 R k) * A1 m c (ix2 k j) := by
  unfold prod dot
  pointwise

end Cert.ProjDxRead

end
-- ==== Proof.ProjDxEqual.lean ====
/-
  `kernel_proj_dx` against its reference, from arguments that are real.
-/
module

public import proofs.«01_k».proof.Defs
public import proofs.«01_k».proof.Proof.Gen.ProjDx.Frame
public import proofs.«01_k».proof.Proof.Gen.ProjDxRefIdeal.Run
public import proofs.«01_k».proof.Proof.ProjDxValue
public import proofs.«01_k».proof.Proof.PreFacts
public import proofs.«01_k».proof.Proof.ScanArgs
public import proofs.«01_k».proof.Proof.ProjDxFinal
public import proofs.«01_k».proof.Proof.ProjDxRead
public import Idealize.ShloMosaic.Adequacy

@[expose] public section

noncomputable section

namespace Cert.ProjDxEqual

open Idealize.ShloMosaic Idealize.ShloMosaic.TcCoe Idealize.SL.Sem

variable (m : (ℓ : Loc Cert.ProjDxIdeal.nD Cert.ProjDxIdeal.τ Cert.ProjDxIdeal.sig) → Buf (Elt Ideal) ℓ) (m' : (ℓ : Loc Cert.ProjDxRefIdeal.nD Cert.ProjDxRefIdeal.τ Cert.ProjDxRefIdeal.sig) → Buf (Elt Ideal) ℓ) (c : Dev Cert.ProjDxIdeal.nD)

/-- What the two programs have in common: the arguments. -/
structure Same : Prop where
  e0 : Cert.ProjDxRead.A0 m' c = Cert.ProjDxValue.A0 m c
  e1 : Cert.ProjDxRead.A1 m' c = Cert.ProjDxValue.A1 m c
  e2 : Cert.ProjDxRead.A2 m' c = Cert.ProjDxValue.A2 m c
  e3 : Cert.ProjDxRead.A3 m' c = Cert.ProjDxValue.A3 m c
  e4 : Cert.ProjDxRead.A4 m' c = Cert.ProjDxValue.A4 m c
  e6 : Cert.ProjDxRead.A6 m' c = Cert.ProjDxValue.A6 m c
  e7 : Cert.ProjDxRead.A7 m' c = Cert.ProjDxValue.A7 m c
  e8 : Cert.ProjDxRead.A8 m' c = Cert.ProjDxValue.A8 m c

/-- The arguments that are real. -/
structure Finite : Prop where
  f0 : Cert.Scan.Real (Cert.ProjDxValue.A0 m c)
  f1 : Cert.Scan.Real (Cert.ProjDxValue.A1 m c)
  f2 : Cert.Scan.Real (Cert.ProjDxValue.A2 m c)
  f3 : Cert.Scan.Real (Cert.ProjDxValue.A3 m c)
  f4 : Cert.Scan.Real (Cert.ProjDxValue.A4 m c)

variable {m m' c}

theorem prod_eq (e : Same m m' c) (R : Fin 4096) (j : Fin 1024) : Cert.ProjDxRead.prod m' c (ix2 R j) = Cert.ProjDxValue.dh m c R j := by
  rw [Cert.ProjDxRead.prod_apply, e.e0, e.e1]
  rfl

theorem dn_eq (e : Same m m' c) (R : Fin 4096) : Cert.ProjDxRead.dn m' c R = Cert.ProjDxValue.dn m c R := by
  funext j
  unfold Cert.ProjDxRead.dn Cert.ProjDxValue.dn
  rw [prod_eq e, e.e4, e.e3]

theorem x_eq (e : Same m m' c) (R : Fin 4096) : Cert.ProjDxRead.x m' c R = fun k => Cert.ProjDxValue.A2 m c (ix2 R k) := by
  funext k
  show Cert.ProjDxRead.A2 m' c _ = _
  rw [e.e2]

theorem dh_fin (f : Finite m c) (R : Fin 4096) (j : Fin 1024) : Cert.ProjDxValue.dh m c R j ≠ ⊥ ∧ Cert.ProjDxValue.dh m c R j ≠ ⊤ :=
  Cert.AdaBwd.sum_mul_fin _ _ (fun _ => (f.f0 _).symm) (fun _ => (f.f1 _).symm)

theorem dn_fin (f : Finite m c) (R : Fin 4096) (j : Fin 1024) : Cert.ProjDxValue.dn m c R j ≠ ⊥ ∧ Cert.ProjDxValue.dn m c R j ≠ ⊤ :=
  Cert.AdaBwd.mul_fin (Cert.AdaBwd.mul_fin (dh_fin f R j) (Cert.AdaBwd.one_add_fin (f.f4 _).symm)) (f.f3 _).symm

theorem gx_eq (e : Same m m' c) (f : Finite m c) (R : Fin 4096) (j : Fin 1024) : Cert.ProjDxRead.gx m' c R j = Cert.ProjDxValue.gx m c R j := by
  unfold Cert.ProjDxRead.gx Cert.ProjDxValue.gx
  rw [dn_eq e, x_eq e, e.e6]
  exact Cert.AdaBwd.dx_eq _ _ (fun _ => (f.f2 _).symm) (dn_fin f R) j _

theorem row_0 (e : Same m m' c) (B : Fin 1024) : (∑ R : Fin 4096, Cert.ProjDxRead.x m' c R B * Cert.AdaBwd.rinv (Cert.ProjDxRead.x m' c R) * (Cert.ProjDxRead.prod m' c (ix2 R B) * (1 + Cert.ProjDxRead.A4 m' c (ix2 0 B)))) = ∑ R, Cert.ProjDxValue.add0 m c B R :=
  Finset.sum_congr rfl fun R _ => by
    unfold Cert.ProjDxValue.add0
    rw [prod_eq e, x_eq e, e.e4]; exact mul_comm _ _

theorem row_1 (e : Same m m' c) (B : Fin 1024) : (∑ R : Fin 4096, Cert.ProjDxRead.x m' c R B * Cert.AdaBwd.rinv (Cert.ProjDxRead.x m' c R) * Cert.ProjDxRead.A3 m' c (ix1 B) * Cert.ProjDxRead.prod m' c (ix2 R B)) = ∑ R, Cert.ProjDxValue.add1 m c B R :=
  Finset.sum_congr rfl fun R _ => by
    unfold Cert.ProjDxValue.add1
    rw [prod_eq e, x_eq e, e.e3]; exact mul_comm _ _

theorem row_2 (e : Same m m' c) (B : Fin 1024) : (∑ R : Fin 4096, Cert.ProjDxRead.prod m' c (ix2 R B)) = ∑ R, Cert.ProjDxValue.add2 m c B R :=
  Finset.sum_congr rfl fun R _ => by
    unfold Cert.ProjDxValue.add2
    exact prod_eq e R B

theorem row_3 (e : Same m m' c) (f : Finite m c) (B : Fin 1024) : (∑ R : Fin 4096, Cert.ProjDxRead.gx m' c R B * Cert.ProjDxRead.A7 m' c (ix2 R B)) = ∑ R, Cert.ProjDxValue.add3 m c B R :=
  Finset.sum_congr rfl fun R _ => by
    unfold Cert.ProjDxValue.add3
    rw [gx_eq e f, e.e7]

theorem st_eq (e : Same m m' c) (f : Finite m c) (A : Fin 8) (B : Fin 1024) : Cert.ProjDxRefIdeal.Value.res_main_v65 m' c (ix2 A B) = Cert.ProjDxValue.st m c A B := by
  unfold Cert.ProjDxValue.st
  split
  · rename_i hA'
    rw [show A = 0 from Fin.ext hA']
    exact (Cert.ProjDxRead.st_0 m' c B).trans (Cert.ProjDxEqual.row_0 e B)
  split
  · rename_i hA'
    rw [show A = 1 from Fin.ext hA']
    exact (Cert.ProjDxRead.st_1 m' c B).trans (Cert.ProjDxEqual.row_1 e B)
  split
  · rename_i hA'
    rw [show A = 2 from Fin.ext hA']
    exact (Cert.ProjDxRead.st_2 m' c B).trans (Cert.ProjDxEqual.row_2 e B)
  split
  · rename_i hA'
    rw [show A = 3 from Fin.ext hA']
    exact (Cert.ProjDxRead.st_3 m' c B).trans (Cert.ProjDxEqual.row_3 e f B)
  exact Cert.ProjDxRead.st_rest m' c A (by omega) B

end Cert.ProjDxEqual

namespace Cert.Proof

open Idealize.ShloMosaic Idealize.ShloMosaic.TcCoe Idealize.SL.Sem

theorem frame_proj_dx : Cert.quiescent_ProjDx := fun m ρ _ => Cert.ProjDx.Gen.frame m ρ
theorem frame_proj_dx_ideal : Cert.quiescent_ProjDxIdeal := fun m ρ _ => Cert.ProjDxIdeal.Gen.frame m ρ
theorem frame_proj_dx_reference : Cert.quiescent_ProjDxRefIdeal := fun m ρ _ =>
  (θ_run Cert.ProjDxRefIdeal.defs _ _).mono (fun r h => ⟨fun c => (h c).2.2.2, sem_eq_zero_of_no_sems (by decide) r.2⟩)
    (Cert.ProjDxRefIdeal.Value.run (F := Ideal) m ρ)
theorem frame_proj_dx_ideal_finite : Cert.quiescent_ProjDxIdeal_pre_finite_proj_dx := fun m ρ _ => Cert.ProjDxIdeal.Gen.frame m ρ
theorem frame_proj_dx_reference_finite : Cert.quiescent_ProjDxRefIdeal_pre_finite_proj_dx := fun m ρ _ =>
  (θ_run Cert.ProjDxRefIdeal.defs _ _).mono (fun r h => ⟨fun c => (h c).2.2.2, sem_eq_zero_of_no_sems (by decide) r.2⟩)
    (Cert.ProjDxRefIdeal.Value.run (F := Ideal) m ρ)

theorem proj_dx_equal : Cert.algebraic_ProjDxIdeal_ProjDxRefIdeal_pre_finite_proj_dx := by
  intro m ρ m' ρ' hp ha
  refine ⟨fun c => (Cert.ProjDxIdeal.Gen.dats m 0 c).arrAt 9 Cert.ProjDxIdeal.cfg0.N,
    fun c => (Cert.ProjDxIdeal.Gen.dats m 0 c).arrAt 10 Cert.ProjDxIdeal.cfg0.N,
    fun c => (Cert.ProjDxIdeal.Gen.dats m 0 c).arrAt 11 Cert.ProjDxIdeal.cfg0.N,
    Cert.ProjDxIdeal.Value.run_blocks m ρ, ?_⟩
  refine (θ_run Cert.ProjDxRefIdeal.defs _ _).mono (fun r h c => ?_) (Cert.ProjDxRefIdeal.Value.run (F := Ideal) m' ρ')
  obtain ⟨a0, a1, a2, a3, a4, a5, a6, a7, a8⟩ := ha c
  have sm : Cert.ProjDxEqual.Same m m' c := ⟨a0, a1, a2, a3, a4, a6, a7, a8⟩
  have fi : Cert.ProjDxEqual.Finite m c := ⟨fun i => Cert.Scan.real_of_abs_lt (congrFun (hp c).1 i),
    fun i => Cert.Scan.real_of_abs_lt (congrFun (hp c).2.1 i),
    fun i => Cert.Scan.real_of_abs_lt (congrFun (hp c).2.2.1 i),
    fun i => Cert.Scan.real_of_abs_lt (congrFun (hp c).2.2.2.1 i),
    fun i => Cert.Scan.real_of_abs_lt (congrFun (hp c).2.2.2.2 i)⟩
  refine ⟨(h c).1.trans ?_, (h c).2.1.trans ?_, (h c).2.2.1.trans ?_, (h c).2.2.2⟩ <;> clear h
  · clear ha a0 a1 a2 a3 a4 a5 a6 a7 a8
    funext (y : Cert.ProjDxIdeal.S4096x1024.Idx)
    have e : y = ix2 (y 0) (y 1) := by
      funext a; match a with | ⟨0, _⟩ => rfl | ⟨1, _⟩ => rfl
    generalize y 0 = A at e; generalize y 1 = B at e
    rw [e]
    refine Eq.trans ?_ (Cert.ProjDxValue.final_dx m c A B).symm
    exact (Cert.ProjDxRead.dx m' c A B).trans (Cert.ProjDxEqual.gx_eq sm fi A B)
  · clear ha a0 a1 a2 a3 a4 a5 a6 a7 a8
    funext (y : Cert.ProjDxIdeal.S4096x1024.Idx)
    have e : y = ix2 (y 0) (y 1) := by
      funext a; match a with | ⟨0, _⟩ => rfl | ⟨1, _⟩ => rfl
    generalize y 0 = A at e; generalize y 1 = B at e
    rw [e]
    refine Eq.trans ?_ (Cert.ProjDxValue.final_dt m c A B).symm
    refine (Cert.ProjDxRead.dt m' c A B).trans ?_
    rw [Cert.ProjDxEqual.gx_eq sm fi A B, sm.e8]
  · clear ha a0 a1 a2 a3 a4 a5 a6 a7 a8
    funext (y : Cert.ProjDxIdeal.S8x1024.Idx)
    have e : y = ix2 (y 0) (y 1) := by
      funext a; match a with | ⟨0, _⟩ => rfl | ⟨1, _⟩ => rfl
    generalize y 0 = A at e; generalize y 1 = B at e
    rw [e]
    refine Eq.trans ?_ (Cert.ProjDxValue.final_st m c A B).symm
    exact Cert.ProjDxEqual.st_eq sm fi A B

end Cert.Proof

end
-- ==== Proof.ProjDxFirstValue.lean ====
/-
  The results of `kernel_proj_dx_first`, read at an index.
-/
module

public import proofs.«01_k».proof.Proof.Gen.ProjDxFirstIdeal.Value
public import Idealize.ShloMosaic.Lib.Pipeline.ValueKit.Point
public import Idealize.ShloMosaic.Lib.Pipeline.ReadBack
public import Idealize.ShloMosaic.Lib.StableHlo.RunRead
public import Idealize.ShloMosaic.Lib.WritesUnit
public import proofs.«01_k».proof.Proof.AdaBwd

@[expose] public section

noncomputable section

namespace Cert.ProjDxFirstValue

open Idealize.ShloMosaic Idealize.ShloMosaic.TcCoe Idealize.SL.Sem
open Cert.ProjDxFirstIdeal Cert.ProjDxFirstIdeal.Gen
open Cert.AdaBwd (width eps mhalf var rinv kdx)

variable (m : (ℓ : Loc nD τ sig) → Buf (Elt Ideal) ℓ) (c : Dev nD)

theorem idx : ∀ t : Fin cfg0.N, win0_0.index t (0 : Fin 2) = t.val / 5
    ∧ win0_0.index t (1 : Fin 2) = t.val % 5
    ∧ win0_1.index t (0 : Fin 2) = t.val % 5
    ∧ win0_1.index t (1 : Fin 2) = 0
    ∧ win0_2.index t (0 : Fin 2) = t.val / 5
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_6.index t (0 : Fin 2) = t.val / 5
    ∧ win0_6.index t (1 : Fin 2) = 0
    ∧ win0_7.index t (0 : Fin 2) = t.val / 5
    ∧ win0_7.index t (1 : Fin 2) = 0
    ∧ win0_8.index t (0 : Fin 2) = 0
    ∧ win0_8.index t (1 : Fin 2) = 0 :=
  (by decide +kernel : ∀ t : Fin grid0.N, _)

/-- The argument arrays. -/
abbrev A0 : Vec Ideal S4096x5760 .bf16 := m ((c : Thread nD τ).loc main_arg0)
abbrev A1 : Vec Ideal S5760x1024 .bf16 := m ((c : Thread nD τ).loc main_arg1)
abbrev A2 : Vec Ideal S4096x1024 .f32 := m ((c : Thread nD τ).loc main_arg2)
abbrev A3 : Vec Ideal S1024 .f32 := m ((c : Thread nD τ).loc main_arg3)
abbrev A4 : Vec Ideal S1x1024 .f32 := m ((c : Thread nD τ).loc main_arg4)
abbrev A6 : Vec Ideal S4096x1024 .f32 := m ((c : Thread nD τ).loc main_arg6)

/-- The blocks a point reads. -/
abbrev X0 (t : Fin cfg0.N) : Vec Ideal S512x1152 .bf16 := iblk m c 0 t
abbrev X1 (t : Fin cfg0.N) : Vec Ideal S1152x1024 .bf16 := iblk m c 1 t
abbrev X2 (t : Fin cfg0.N) : Vec Ideal S512x1024 .f32 := iblk m c 2 t
abbrev X3 (t : Fin cfg0.N) : Vec Ideal S1x1024 .f32 := iblk m c 3 t
abbrev X4 (t : Fin cfg0.N) : Vec Ideal S1x1024 .f32 := iblk m c 4 t
abbrev X6 (t : Fin cfg0.N) : Vec Ideal S512x1024 .f32 := iblk m c 6 t

/-- The gain. -/
theorem entry_v0 (a : Fin 1) (b : Fin 1024) : V m c main_v0 (ix2 a b) = A3 m c (ix1 b) := by
  show StableHlo.after ([hostOps0] : List (List (HloOp τ sig (Elt Ideal)))).flatten (fun b => m (c, b)) (Proc.tc.devRef main_v0) _ = _
  simp only [List.flatten_cons, List.flatten_nil, List.cons_append, List.nil_append, List.append_nil]
  after_reads_simp
  pointwise

theorem block_0 (t : Fin cfg0.N) (a : Fin 512) (b : Fin 1152) (A : Fin 4096) (B : Fin 5760)
    (h0 : (t.val / 5) * 512 + a.val = A.val) (h1 : (t.val % 5) * 1152 + b.val = B.val) : X0 m c t (ix2 a b) = A0 m c (ix2 A B) := by
  obtain ⟨e0, e1, _⟩ := idx t
  blk_ext [X0, A0, iblk, V, e0, e1]

theorem block_1 (t : Fin cfg0.N) (a : Fin 1152) (b : Fin 1024) (A : Fin 5760) (B : Fin 1024)
    (h0 : (t.val % 5) * 1152 + a.val = A.val) (h1 : b.val = B.val) : X1 m c t (ix2 a b) = A1 m c (ix2 A B) := by
  obtain ⟨_, _, e0, e1, _⟩ := idx t
  blk_ext [X1, A1, iblk, V, e0, e1]

theorem block_2 (t : Fin cfg0.N) (a : Fin 512) (b : Fin 1024) (A : Fin 4096) (B : Fin 1024)
    (h0 : (t.val / 5) * 512 + a.val = A.val) (h1 : b.val = B.val) : X2 m c t (ix2 a b) = A2 m c (ix2 A B) := by
  obtain ⟨_, _, _, _, e0, e1, _⟩ := idx t
  blk_ext [X2, A2, iblk, V, e0, e1]

theorem block_3 (t : Fin cfg0.N) (a : Fin 1) (b : Fin 1024) (A : Fin 1) (B : Fin 1024)
    (h0 : a.val = A.val) (h1 : b.val = B.val) : X3 m c t (ix2 a b) = A3 m c (ix1 B) := by
  obtain ⟨_, _, _, _, _, _, e0, e1, _⟩ := idx t
  show V m c main_v0 (((cfg0.win 3).blk t).view.emb (ix2 a b )) = _
  have e : ((cfg0.win 3).blk t).view.emb (ix2 a b) = (ix2 A B : S1x1024.Idx) := by
    funext x; apply Fin.ext
    match x with
    | ⟨0, _⟩ => show win0_3.index t (0 : Fin 2) * 1 + 1 * a.val = A.val; omega
    | ⟨1, _⟩ => show win0_3.index t (1 : Fin 2) * 1024 + 1 * b.val = B.val; omega
  rw [e, entry_v0]

theorem block_4 (t : Fin cfg0.N) (a : Fin 1) (b : Fin 1024) (A : Fin 1) (B : Fin 1024)
    (h0 : a.val = A.val) (h1 : b.val = B.val) : X4 m c t (ix2 a b) = A4 m c (ix2 A B) := by
  obtain ⟨_, _, _, _, _, _, _, _, e0, e1, _⟩ := idx t
  blk_ext [X4, A4, iblk, V, e0, e1]

theorem block_6 (t : Fin cfg0.N) (a : Fin 512) (b : Fin 1024) (A : Fin 4096) (B : Fin 1024)
    (h0 : (t.val / 5) * 512 + a.val = A.val) (h1 : b.val = B.val) : X6 m c t (ix2 a b) = A6 m c (ix2 A B) := by
  obtain ⟨_, _, _, _, _, _, _, _, _, _, e0, e1, _⟩ := idx t
  blk_ext [X6, A6, iblk, V, e0, e1]

/-- What a point adds to the product. -/
def part (t : Fin cfg0.N) (r : Fin 512) (j : Fin 1024) : EReal := ∑ k : Fin 1152, X0 m c t (ix2 r k) * X1 m c t (ix2 k j)

/-- The product so far. -/
abbrev acc (t : Fin cfg0.N) : Vec Ideal S512x1024 .f32 := (outsAt0 m c t.val t.isLt).2.2

/-- The column sums so far. -/
abbrev sums (t : Fin cfg0.N) : Vec Ideal S8x1024 .f32 := (outsAt0 m c t.val t.isLt).2.1

theorem acc_zero (t : Fin cfg0.N) (h : t.val % 40 = 0) (r : Fin 512) (j : Fin 1024) : acc m c t (ix2 r j) = part m c t r j := by
  unfold acc
  rw [outsAt0_A m c t h (by omega) (by omega) (by omega)]
  frame_out
  open_payloads
  pointwise [read_unread_whole]
  rfl

theorem acc_first (t : Fin cfg0.N) (h : t.val % 5 = 0) (h' : ¬t.val % 40 = 0) (r : Fin 512) (j : Fin 1024) : acc m c t (ix2 r j) = part m c t r j := by
  unfold acc
  rw [outsAt0_D m c t (by omega) (by omega) (by omega) (by omega)]
  frame_out
  open_payloads
  pointwise [read_unread_whole]
  rfl

theorem prev_2_2 (t t' : Fin cfg0.N) (ht : t'.val + 1 = t.val) :
    outsAt0 m c (t.val - 1) (Nat.lt_of_le_of_lt (Nat.sub_le _ _) t.isLt) = outsAt0 m c t'.val t'.isLt := by
  congr 1; omega

theorem acc_mid (t t' : Fin cfg0.N) (h : ¬t.val % 5 = 0) (h' : ¬t.val % 5 = 4) (ht : t'.val + 1 = t.val) (r : Fin 512) (j : Fin 1024) :
    acc m c t (ix2 r j) = acc m c t' (ix2 r j) + part m c t r j := by
  unfold acc
  rw [outsAt0_B m c t (by omega) (by omega) (by omega) (by omega)]
  rw [prev_2_2 m c t t' ht]
  generalize outsAt0 m c t'.val t'.isLt = o
  frame_out
  open_payloads
  pointwise [read_unread_whole]
  rfl

theorem acc_last (t t' : Fin cfg0.N) (h : t.val % 5 = 4) (ht : t'.val + 1 = t.val) (r : Fin 512) (j : Fin 1024) :
    acc m c t (ix2 r j) = acc m c t' (ix2 r j) + part m c t r j := by
  unfold acc
  rw [outsAt0_C m c t (by omega) (by omega) (by omega) (by omega)]
  rw [prev_2_2 m c t t' ht]
  generalize outsAt0 m c t'.val t'.isLt = o
  frame_out
  open_payloads
  pointwise [read_unread_whole]
  rfl

/-- The gradient of the row's normalised values, at a block's last point. -/
def dnb (t : Fin cfg0.N) (r : Fin 512) (j : Fin 1024) : EReal := acc m c t (ix2 r j) * (1 + X4 m c t (ix2 0 j)) * X3 m c t (ix2 0 j)

/-- The gradient of the row. -/
def dxb (t : Fin cfg0.N) (r : Fin 512) (j : Fin 1024) : EReal :=
  X6 m c t (ix2 r j) + kdx (fun k => X2 m c t (ix2 r k)) (dnb m c t r) j

theorem out_dx (t t' : Fin cfg0.N) (h : t.val % 5 = 4) (ht : t'.val + 1 = t.val) (r : Fin 512) (j : Fin 1024) :
    (outsAt0 m c t.val t.isLt).1 (ix2 r j) = dxb m c t r j := by
  unfold dxb kdx rinv var dnb
  simp only [acc_last m c t t' h ht]
  unfold acc part
  rw [outsAt0_C m c t (by omega) (by omega) (by omega) (by omega)]
  rw [prev_2_2 m c t t' ht]
  generalize outsAt0 m c t'.val t'.isLt = o
  frame_out
  open_payloads
  pointwise [read_unread_whole]

theorem out_sum_0 (t t' : Fin cfg0.N) (h : t.val % 5 = 4) (ht : t'.val + 1 = t.val) (j : Fin 1024) :
    sums m c t (ix2 0 j) = sums m c t' (ix2 0 j) + ∑ r : Fin 512, acc m c t (ix2 r j) * (1 + X4 m c t (ix2 0 j)) * (X2 m c t (ix2 r j) * rinv (fun k => X2 m c t (ix2 r k))) := by
  unfold rinv var
  simp only [acc_last m c t t' h ht]
  unfold sums acc part
  rw [outsAt0_C m c t (by omega) (by omega) (by omega) (by omega)]
  rw [prev_2_2 m c t t' ht]
  generalize outsAt0 m c t'.val t'.isLt = o
  frame_out
  rw [Cert.AdaBwd.row_miss _ _ 2 _ _ _ _ _ (show (0 : ℕ) ≠ 2 by omega)]
  rw [Cert.AdaBwd.row_miss _ _ 1 _ _ _ _ _ (show (0 : ℕ) ≠ 1 by omega)]
  rw [Cert.AdaBwd.row_hit _ _ 0 _ _ _ _ _ rfl]
  open_payloads
  pointwise [read_unread_whole]
  try rfl

theorem out_sum_1 (t t' : Fin cfg0.N) (h : t.val % 5 = 4) (ht : t'.val + 1 = t.val) (j : Fin 1024) :
    sums m c t (ix2 1 j) = sums m c t' (ix2 1 j) + ∑ r : Fin 512, acc m c t (ix2 r j) * (X2 m c t (ix2 r j) * rinv (fun k => X2 m c t (ix2 r k)) * X3 m c t (ix2 0 j)) := by
  unfold rinv var
  simp only [acc_last m c t t' h ht]
  unfold sums acc part
  rw [outsAt0_C m c t (by omega) (by omega) (by omega) (by omega)]
  rw [prev_2_2 m c t t' ht]
  generalize outsAt0 m c t'.val t'.isLt = o
  frame_out
  rw [Cert.AdaBwd.row_miss _ _ 2 _ _ _ _ _ (show (1 : ℕ) ≠ 2 by omega)]
  rw [Cert.AdaBwd.row_hit _ _ 1 _ _ _ _ _ rfl]
  open_payloads
  pointwise [read_unread_whole]
  try rfl

theorem out_sum_2 (t t' : Fin cfg0.N) (h : t.val % 5 = 4) (ht : t'.val + 1 = t.val) (j : Fin 1024) :
    sums m c t (ix2 2 j) = sums m c t' (ix2 2 j) + ∑ r : Fin 512, acc m c t (ix2 r j) := by
  simp only [acc_last m c t t' h ht]
  unfold sums acc part
  rw [outsAt0_C m c t (by omega) (by omega) (by omega) (by omega)]
  rw [prev_2_2 m c t t' ht]
  generalize outsAt0 m c t'.val t'.isLt = o
  frame_out
  rw [Cert.AdaBwd.row_hit _ _ 2 _ _ _ _ _ rfl]
  open_payloads
  pointwise [read_unread_whole]
  try rfl

theorem out_sum_rest (t t' : Fin cfg0.N) (h : t.val % 5 = 4) (ht : t'.val + 1 = t.val) (i : Fin 8) (hi : 3 ≤ i.val) (j : Fin 1024) :
    sums m c t (ix2 i j) = sums m c t' (ix2 i j) := by
  unfold sums
  rw [outsAt0_C m c t (by omega) (by omega) (by omega) (by omega)]
  rw [prev_2_2 m c t t' ht]
  generalize outsAt0 m c t'.val t'.isLt = o
  frame_out
  rw [Cert.AdaBwd.row_miss _ _ 2 _ _ _ _ _ (by omega)]
  rw [Cert.AdaBwd.row_miss _ _ 1 _ _ _ _ _ (by omega)]
  rw [Cert.AdaBwd.row_miss _ _ 0 _ _ _ _ _ (by omega)]
  exact congrFun (Memref.IsWhole.read_unread _ _) _

theorem sums_zero (t : Fin cfg0.N) (h : t.val % 40 = 0) (i : Fin 8) (j : Fin 1024) : sums m c t (ix2 i j) = 0 := by
  unfold sums
  rw [outsAt0_A m c t h (by omega) (by omega) (by omega)]
  frame_out
  open_payloads
  pointwise [read_unread_whole]

theorem sums_first (t t' : Fin cfg0.N) (h : t.val % 5 = 0) (h' : ¬t.val % 40 = 0) (ht : t'.val + 1 = t.val) (i : Fin 8) (j : Fin 1024) :
    sums m c t (ix2 i j) = sums m c t' (ix2 i j) := by
  unfold sums
  rw [outsAt0_D m c t (by omega) (by omega) (by omega) (by omega)]
  rw [prev_2_2 m c t t' ht]
  generalize outsAt0 m c t'.val t'.isLt = o
  rfl

theorem sums_mid (t t' : Fin cfg0.N) (h : ¬t.val % 5 = 0) (h' : ¬t.val % 5 = 4) (ht : t'.val + 1 = t.val) (i : Fin 8) (j : Fin 1024) :
    sums m c t (ix2 i j) = sums m c t' (ix2 i j) := by
  unfold sums
  rw [outsAt0_B m c t (by omega) (by omega) (by omega) (by omega)]
  rw [prev_2_2 m c t t' ht]
  generalize outsAt0 m c t'.val t'.isLt = o
  rfl

end Cert.ProjDxFirstValue

end
-- ==== Proof.ProjDxFirstFinal.lean ====
/-
  The results of `kernel_proj_dx_first` from its arguments.
-/
module

public import proofs.«01_k».proof.Proof.Gen.ProjDxFirstIdeal.Value
public import proofs.«01_k».proof.Proof.ProjDxFirstValue
public import proofs.«01_k».proof.Proof.Total

@[expose] public section

noncomputable section

namespace Cert.ProjDxFirstValue

open Idealize.ShloMosaic Idealize.ShloMosaic.TcCoe Idealize.SL.Sem
open Cert.ProjDxFirstIdeal Cert.ProjDxFirstIdeal.Gen
open Cert.AdaBwd (width eps mhalf var rinv kdx blocks)

variable (m : (ℓ : Loc nD τ sig) → Buf (Elt Ideal) ℓ) (c : Dev nD)

/-- The two operands of the product, and the product. -/
def aT (R : Fin 4096) (k : Fin 5760) : EReal := A0 m c (ix2 R k)
def wT (k : Fin 5760) (j : Fin 1024) : EReal := A1 m c (ix2 k j)
def dh (R : Fin 4096) (j : Fin 1024) : EReal := ∑ k : Fin 5760, aT m c R k * wT m c k j

theorem part_eq (t : Fin cfg0.N) (r : Fin 512) (j : Fin 1024) (R : Fin 4096) (hR : t.val / 5 * 512 + r.val = R.val) (q : ℕ) (hq : q < 5) (h : t.val % 5 = q) :
    part m c t r j = ∑ k : Fin 1152, aT m c R ⟨q * 1152 + k.val, by omega⟩ * wT m c ⟨q * 1152 + k.val, by omega⟩ j :=
  Finset.sum_congr rfl fun k _ => by
    have hk := k.isLt
    rw [block_0 m c t r k R ⟨q * 1152 + k.val, by omega⟩ hR (by show _ = q * 1152 + k.val; rw [h]), block_1 m c t k j ⟨q * 1152 + k.val, by omega⟩ j (by show _ = q * 1152 + k.val; rw [h]) rfl]
    rfl

theorem acc_start (t : Fin cfg0.N) (h : t.val % 5 = 0) (r : Fin 512) (j : Fin 1024) : acc m c t (ix2 r j) = part m c t r j := by
  by_cases h' : t.val % 40 = 0
  · exact acc_zero m c t h' r j
  · exact acc_first m c t h h' r j

theorem acc_eq (t : Fin cfg0.N) (h : t.val % 5 = 4) (r : Fin 512) (j : Fin 1024) (R : Fin 4096) (hR : t.val / 5 * 512 + r.val = R.val) :
    acc m c t (ix2 r j) = dh m c R j := by
  have hN := t.isLt
  let t0 : Fin cfg0.N := ⟨t.val - 4, by omega⟩
  have e0 : t0.val = t.val - 4 := rfl
  let t1 : Fin cfg0.N := ⟨t.val - 3, by omega⟩
  have e1 : t1.val = t.val - 3 := rfl
  let t2 : Fin cfg0.N := ⟨t.val - 2, by omega⟩
  have e2 : t2.val = t.val - 2 := rfl
  let t3 : Fin cfg0.N := ⟨t.val - 1, by omega⟩
  have e3 : t3.val = t.val - 1 := rfl
  rw [acc_last m c t t3 h (by omega), acc_mid m c t3 t2 (by omega) (by omega) (by omega), acc_mid m c t2 t1 (by omega) (by omega) (by omega), acc_mid m c t1 t0 (by omega) (by omega) (by omega), acc_start m c t0 (by omega)]
  rw [part_eq m c t0 r j R (by omega) 0 (by omega) (by omega), part_eq m c t1 r j R (by omega) 1 (by omega) (by omega), part_eq m c t2 r j R (by omega) 2 (by omega) (by omega), part_eq m c t3 r j R (by omega) 3 (by omega) (by omega), part_eq m c t r j R hR 4 (by omega) h]
  refine Eq.trans ?_ (blocks 5 1152 (fun k : Fin 5760 => aT m c R k * wT m c k j)).symm
  rw [Fin.sum_univ_five]
  rfl

/-- The gradient of a row's normalised values, and of the row. -/
def dn (R : Fin 4096) (j : Fin 1024) : EReal := dh m c R j * (1 + A4 m c (ix2 0 j)) * A3 m c (ix1 j)
def gx (R : Fin 4096) (j : Fin 1024) : EReal := A6 m c (ix2 R j) + kdx (fun k => A2 m c (ix2 R k)) (dn m c R) j

section
variable (t : Fin cfg0.N) (h : t.val % 5 = 4) (r : Fin 512) (R : Fin 4096) (hR : t.val / 5 * 512 + r.val = R.val)
include h hR

theorem row_eq : (fun k => X2 m c t (ix2 r k)) = fun k => A2 m c (ix2 R k) :=
  funext fun k => block_2 m c t r k R k hR rfl

theorem dxb_eq (j : Fin 1024) : dxb m c t r j = gx m c R j := by
  have e : dnb m c t r = dn m c R := funext fun j => by
    unfold dnb dn
    rw [acc_eq m c t h r j R hR, block_4 m c t 0 j 0 j rfl rfl, block_3 m c t 0 j 0 j rfl rfl]
  unfold dxb gx
  rw [e, block_6 m c t r j R j hR rfl, row_eq m c t h r R hR]
end

/-- What a row adds to the column sums. -/
def add0 (j : Fin 1024) (R : Fin 4096) : EReal := dh m c R j * (1 + A4 m c (ix2 0 j)) * (A2 m c (ix2 R j) * rinv (fun k => A2 m c (ix2 R k)))
def add1 (j : Fin 1024) (R : Fin 4096) : EReal := dh m c R j * (A2 m c (ix2 R j) * rinv (fun k => A2 m c (ix2 R k)) * A3 m c (ix1 j))
def add2 (j : Fin 1024) (R : Fin 4096) : EReal := dh m c R j

/-- What the points of all eight blocks add up to, where each adds its rows. -/
theorem sums_total (i : Fin 8) (j : Fin 1024) (f : Fin cfg0.N → Fin 512 → EReal) (q : Fin 4096 → EReal)
    (last : ∀ t t' : Fin cfg0.N, t.val % 5 = 4 → t'.val + 1 = t.val → sums m c t (ix2 i j) = sums m c t' (ix2 i j) + ∑ r, f t r)
    (row : ∀ t : Fin cfg0.N, t.val % 5 = 4 → ∀ (r : Fin 512) (R : Fin 4096), t.val / 5 * 512 + r.val = R.val → f t r = q R)
    (t : Fin cfg0.N) (ht : t.val = 39) : sums m c t (ix2 i j) = ∑ R, q R :=
  have hN : cfg0.N = 40 := N_0
  Cert.AdaBwd.total 5 (by omega) hN (fun t => sums m c t (ix2 i j)) f q (fun t h => sums_zero m c t (by omega) i j)
    (fun t t' h ht => by
      by_cases h0 : t.val % 5 = 0
      · exact sums_first m c t t' h0 (by omega) ht i j
      · exact sums_mid m c t t' h0 h ht i j) last row t (by omega)

theorem total_0 (j : Fin 1024) (t : Fin cfg0.N) (ht : t.val = 39) : sums m c t (ix2 0 j) = ∑ R, add0 m c j R :=
  sums_total m c 0 j _ (add0 m c j) (fun t t' h h' => out_sum_0 m c t t' h h' j) (fun t h r R hR => by
    unfold add0
    rw [acc_eq m c t h r j R hR, block_4 m c t 0 j 0 j rfl rfl, block_2 m c t r j R j hR rfl, row_eq m c t h r R hR]) t ht

theorem total_1 (j : Fin 1024) (t : Fin cfg0.N) (ht : t.val = 39) : sums m c t (ix2 1 j) = ∑ R, add1 m c j R :=
  sums_total m c 1 j _ (add1 m c j) (fun t t' h h' => out_sum_1 m c t t' h h' j) (fun t h r R hR => by
    unfold add1
    rw [acc_eq m c t h r j R hR, block_3 m c t 0 j 0 j rfl rfl, block_2 m c t r j R j hR rfl, row_eq m c t h r R hR]) t ht

theorem total_2 (j : Fin 1024) (t : Fin cfg0.N) (ht : t.val = 39) : sums m c t (ix2 2 j) = ∑ R, add2 m c j R :=
  sums_total m c 2 j _ (add2 m c j) (fun t t' h h' => out_sum_2 m c t t' h h' j) (fun t h r R hR => by
    unfold add2
    rw [acc_eq m c t h r j R hR]) t ht

theorem total_rest (i : Fin 8) (hi : 3 ≤ i.val) (j : Fin 1024) (t : Fin cfg0.N) (ht : t.val = 39) : sums m c t (ix2 i j) = 0 := by
  rw [sums_total m c i j (fun _ _ => 0) (fun _ => 0)
    (fun t t' h h' => by rw [out_sum_rest m c t t' h h' i hi j, Finset.sum_const_zero, add_zero]) (fun _ _ _ _ _ => rfl) t ht, Finset.sum_const_zero]

/-- The rows of column sums. -/
def st (A : Fin 8) (B : Fin 1024) : EReal :=
  if A.val = 0 then ∑ R, add0 m c B R else if A.val = 1 then ∑ R, add1 m c B R else if A.val = 2 then ∑ R, add2 m c B R else 0

theorem final_dx (A : Fin 4096) (B : Fin 1024) : (dats m 0 c).arrAt 7 cfg0.N (ix2 A B) = gx m c A B := by
  let t : Fin cfg0.N := ⟨5 * (A.val / 512) + 4, by show _ < 40; omega⟩
  have ht : t.val = 5 * (A.val / 512) + 4 := rfl
  obtain ⟨_, _, _, _, _, _, _, _, _, _, _, _, e0, e1, _⟩ := idx t
  let a : Fin 512 := ⟨A.val % 512, by omega⟩
  have ha : a.val = A.val % 512 := rfl
  let b : Fin 1024 := ⟨B.val % 1024, by omega⟩
  have hb : b.val = B.val % 1024 := rfl
  have bl := congrFun (Value.flushed7_eq m c t ((flush0_7 t).mpr (by omega))).symm (ix2 a b)
  rw [← Value.final7, Value.flushed7] at bl
  have e : ((cfg0.win 7).blk t).view.emb (ix2 a b) = (ix2 A B : S4096x1024.Idx) := by
    funext x; apply Fin.ext
    match x with
    | ⟨0, _⟩ => show win0_7.index t (0 : Fin 2) * 512 + 1 * (A.val % 512) = A.val; omega
    | ⟨1, _⟩ => show win0_7.index t (1 : Fin 2) * 1024 + 1 * (B.val % 1024) = B.val; omega
  have b' : (dats m 0 c).arrAt 7 cfg0.N (((cfg0.win 7).blk t).view.emb (ix2 a b)) = (outsAt0 m c t.val t.isLt).1 (ix2 a b) := bl
  rw [e] at b'
  clear e bl
  have hB : b = B := Fin.ext (by omega)
  have hN : cfg0.N = 40 := N_0
  let t' : Fin cfg0.N := ⟨5 * (A.val / 512) + 3, by omega⟩
  have ht' : t'.val = 5 * (A.val / 512) + 3 := rfl
  rw [b', out_dx m c t t' (by omega) (by omega), dxb_eq m c t (by omega) a A (by omega), hB]

theorem final_st (A : Fin 8) (B : Fin 1024) : (dats m 0 c).arrAt 8 cfg0.N (ix2 A B) = st m c A B := by
  obtain ⟨t, ht⟩ : ∃ t : Fin cfg0.N, t.val = 39 := ⟨⟨39, by show _ < 40; omega⟩, rfl⟩
  obtain ⟨_, _, _, _, _, _, _, _, _, _, _, _, _, _, e0, e1⟩ := idx t
  let a : Fin 8 := ⟨A.val % 8, by omega⟩
  have ha : a.val = A.val % 8 := rfl
  let b : Fin 1024 := ⟨B.val % 1024, by omega⟩
  have hb : b.val = B.val % 1024 := rfl
  have bl := congrFun (Value.flushed8_eq m c t ((flush0_8 t).mpr (by omega))).symm (ix2 a b)
  rw [← Value.final8, Value.flushed8] at bl
  have e : ((cfg0.win 8).blk t).view.emb (ix2 a b) = (ix2 A B : S8x1024.Idx) := by
    funext x; apply Fin.ext
    match x with
    | ⟨0, _⟩ => show win0_8.index t (0 : Fin 2) * 8 + 1 * (A.val % 8) = A.val; omega
    | ⟨1, _⟩ => show win0_8.index t (1 : Fin 2) * 1024 + 1 * (B.val % 1024) = B.val; omega
  have b' : (dats m 0 c).arrAt 8 cfg0.N (((cfg0.win 8).blk t).view.emb (ix2 a b)) = sums m c t (ix2 a b) := bl
  rw [e] at b'
  clear e bl
  have hB : b = B := Fin.ext (by omega)
  have hA : a = A := Fin.ext (by omega)
  rw [b', hA, hB]
  clear b'
  unfold st
  split
  · rename_i hA'
    rw [show A = 0 from Fin.ext hA']
    exact total_0 m c B t ht
  split
  · rename_i hA'
    rw [show A = 1 from Fin.ext hA']
    exact total_1 m c B t ht
  split
  · rename_i hA'
    rw [show A = 2 from Fin.ext hA']
    exact total_2 m c B t ht
  exact total_rest m c A (by omega) B t ht

end Cert.ProjDxFirstValue

end
-- ==== Proof.ProjDxFirstRead.lean ====
/-
  The reference's results of `kernel_ProjDxFirst`, read at an index.
-/
module

public import proofs.«01_k».proof.Proof.Gen.ProjDxFirstRefIdeal.Run
public import proofs.«01_k».proof.Proof.AdaBwd

@[expose] public section

noncomputable section

namespace Cert.ProjDxFirstRead

open Idealize.ShloMosaic Idealize.ShloMosaic.TcCoe Idealize.SL.Sem
open Cert.ProjDxFirstRefIdeal Cert.ProjDxFirstRefIdeal.Gen
open Cert.AdaBwd (width eps mhalf var rinv fac)

variable (m : (ℓ : Loc nD τ sig) → Buf (Elt Ideal) ℓ) (c : Dev nD)

/-- The argument arrays. -/
abbrev A0 : Vec Ideal S4096x5760 .bf16 := m ((c.tc : Thread nD τ).loc main_arg0)
abbrev A1 : Vec Ideal S5760x1024 .bf16 := m ((c.tc : Thread nD τ).loc main_arg1)
abbrev A2 : Vec Ideal S4096x1024 .f32 := m ((c.tc : Thread nD τ).loc main_arg2)
abbrev A3 : Vec Ideal S1024 .f32 := m ((c.tc : Thread nD τ).loc main_arg3)
abbrev A4 : Vec Ideal S1x1024 .f32 := m ((c.tc : Thread nD τ).loc main_arg4)
abbrev A6 : Vec Ideal S4096x1024 .f32 := m ((c.tc : Thread nD τ).loc main_arg6)

/-- The product, the gradient of the normalised row, and the row's gradient. -/
def dot (X : FVec Ideal S4096x5760 .f32) (W : FVec Ideal S1024x5760 .f32) : FVec Ideal S4096x1024 .f32 :=
  Host.dotGeneral dot_S4096x5760_S1024x5760_S4096x1024_1_1_0_0_n_n none X W
def prod : FVec Ideal S4096x1024 .f32 := dot (extf .f32 (m ((c.tc : Thread nD τ).loc main_arg0)) bitsLt_bf16_f32) (transpose S1024x5760 [1, 0] (extf .f32 (m ((c.tc : Thread nD τ).loc main_arg1)) bitsLt_bf16_f32) transposes_S5760x1024_S1024x5760_1_0)
def dn (R : Fin 4096) (j : Fin 1024) : EReal := prod m c (ix2 R j) * (1 + A4 m c (ix2 0 j)) * A3 m c (ix1 j)
abbrev x (R : Fin 4096) (k : Fin 1024) : EReal := A2 m c (ix2 R k)
def gx (R : Fin 4096) (j : Fin 1024) : EReal :=
  A6 m c (ix2 R j) + dn m c R j * rinv (x m c R) + x m c R j * fac (x m c R) (dn m c R) + fac (x m c R) (dn m c R) * x m c R j

theorem dot_eq (X : FVec Ideal S4096x5760 .f32) (W : FVec Ideal S1024x5760 .f32) :
    Host.dotGeneral dot_S4096x5760_S1024x5760_S4096x1024_1_1_0_0_n_n none X W = dot X W := rfl

/-- Rows, one after the other. -/
def stack (u0 u1 u2 : FVec Ideal S1x1024 .f32) (u3 : FVec Ideal S5x1024 .f32) : FVec Ideal S8x1024 .f32 :=
  concatenate S8x1024 0 [⟨S1x1024, u0⟩, ⟨S1x1024, u1⟩, ⟨S1x1024, u2⟩, ⟨S5x1024, u3⟩] concatenates_S1x1024_S1x1024_S1x1024_S5x1024_S8x1024_d0

theorem stack_0 (u0 u1 u2 : FVec Ideal S1x1024 .f32) (u3 : FVec Ideal S5x1024 .f32) (B : Fin 1024) : stack u0 u1 u2 u3 (ix2 0 B) = u0 (ix2 0 B) := by
  unfold stack
  exact concatenate_apply_piece (t := S8x1024) 0 [⟨S1x1024, u0⟩, ⟨S1x1024, u1⟩, ⟨S1x1024, u2⟩, ⟨S5x1024, u3⟩] concatenates_S1x1024_S1x1024_S1x1024_S5x1024_S8x1024_d0 (ix2 0 B) 0 (by show 0 < 4; omega) S1x1024 _ rfl rfl 0 rfl (ix2 0 B)
    (fun b hb => match b with | ⟨0, _⟩ => absurd rfl hb | ⟨1, _⟩ => rfl) rfl

theorem stack_1 (u0 u1 u2 : FVec Ideal S1x1024 .f32) (u3 : FVec Ideal S5x1024 .f32) (B : Fin 1024) : stack u0 u1 u2 u3 (ix2 1 B) = u1 (ix2 0 B) := by
  unfold stack
  exact concatenate_apply_piece (t := S8x1024) 0 [⟨S1x1024, u0⟩, ⟨S1x1024, u1⟩, ⟨S1x1024, u2⟩, ⟨S5x1024, u3⟩] concatenates_S1x1024_S1x1024_S1x1024_S5x1024_S8x1024_d0 (ix2 1 B) 1 (by show 1 < 4; omega) S1x1024 _ rfl rfl 1 rfl (ix2 0 B)
    (fun b hb => match b with | ⟨0, _⟩ => absurd rfl hb | ⟨1, _⟩ => rfl) rfl

theorem stack_2 (u0 u1 u2 : FVec Ideal S1x1024 .f32) (u3 : FVec Ideal S5x1024 .f32) (B : Fin 1024) : stack u0 u1 u2 u3 (ix2 2 B) = u2 (ix2 0 B) := by
  unfold stack
  exact concatenate_apply_piece (t := S8x1024) 0 [⟨S1x1024, u0⟩, ⟨S1x1024, u1⟩, ⟨S1x1024, u2⟩, ⟨S5x1024, u3⟩] concatenates_S1x1024_S1x1024_S1x1024_S5x1024_S8x1024_d0 (ix2 2 B) 2 (by show 2 < 4; omega) S1x1024 _ rfl rfl 2 rfl (ix2 0 B)
    (fun b hb => match b with | ⟨0, _⟩ => absurd rfl hb | ⟨1, _⟩ => rfl) rfl

theorem stack_rest (u0 u1 u2 : FVec Ideal S1x1024 .f32) (u3 : FVec Ideal S5x1024 .f32) (A : Fin 8) (hA : 3 ≤ A.val) (B : Fin 1024) :
    stack u0 u1 u2 u3 (ix2 A B) = u3 (ix2 ⟨A.val - 3, by omega⟩ B) := by
  unfold stack
  have hA' := A.isLt
  exact concatenate_apply_piece (t := S8x1024) 0 [⟨S1x1024, u0⟩, ⟨S1x1024, u1⟩, ⟨S1x1024, u2⟩, ⟨S5x1024, u3⟩] concatenates_S1x1024_S1x1024_S1x1024_S5x1024_S8x1024_d0 (ix2 A B) 3 (by show 3 < 4; omega) S5x1024 _ rfl rfl 3 rfl (ix2 ⟨A.val - 3, by omega⟩ B)
    (fun b hb => match b with | ⟨0, _⟩ => absurd rfl hb | ⟨1, _⟩ => rfl) (by show 3 + (A.val - 3) = A.val; omega)

theorem dx (A : Fin 4096) (B : Fin 1024) : Value.res_main_v54 m c (ix2 A B) = gx m c A B := by
  unfold Value.res_main_v54
  unfold gx dn fac rinv var prod
  simp only [dot_eq]
  pointwise
  try simp only [Finset.univ_unique, Finset.sum_singleton]
  try rfl

/-- The rows of column sums. -/
def rows : FVec Ideal S8x1024 .f32 := (concatenate S8x1024 0 [⟨S1x1024, ((broadcastInDim S1x1024 ![1] bcast_S1024_S1x1024_1 (Host.reduceAdd (shapeCast _ (Host.reduceAdd (mulf (mulf (m ((c.tc : Thread nD τ).loc main_arg2)) (broadcastInDim S4096x1024 ![0, 1] bcast_S4096x1_S4096x1024_0_1 (Host.rsqrt (addf (Host.divf (broadcastInDim S4096x1 ![0] bcast_S4096_S4096x1_0 (Host.reduceAdd (mulf (m ((c.tc : Thread nD τ).loc main_arg2)) (m ((c.tc : Thread nD τ).loc main_arg2))) (constant (F := Ideal) S_ .f32 0x00000000#32) reducesTo_S4096x1024_S4096_d1 h_S_)) (broadcastInDim S4096x1 ![] bcast_S_S4096x1 (constant (F := Ideal) S_ .f32 0x44800000#32))) (broadcastInDim S4096x1 ![] bcast_S_S4096x1 (constant (F := Ideal) S_ .f32 0x358637BD#32)))))) (mulf (Host.dotGeneral dot_S4096x5760_S1024x5760_S4096x1024_1_1_0_0_n_n none (extf .f32 (m ((c.tc : Thread nD τ).loc main_arg0)) bitsLt_bf16_f32) (transpose S1024x5760 [1, 0] (extf .f32 (m ((c.tc : Thread nD τ).loc main_arg1)) bitsLt_bf16_f32) transposes_S5760x1024_S1024x5760_1_0)) (broadcastInDim S4096x1024 ![0, 1] bcast_S1x1024_S4096x1024_0_1 (addf (broadcastInDim S1x1024 ![] bcast_S_S1x1024 (constant (F := Ideal) S_ .f32 0x3F800000#32)) (m ((c.tc : Thread nD τ).loc main_arg4)))))) (constant (F := Ideal) S_ .f32 0x00000000#32) reducesTo_S4096x1024_S1024_d0 h_S_) shapeCasts_S1024_S1x1024) (constant (F := Ideal) S_ .f32 0x00000000#32) reducesTo_S1x1024_S1024_d0 h_S_)) : (⟨S1x1024, .f32⟩ : BufTy).Contents (Elt Ideal))⟩, ⟨S1x1024, ((shapeCast _ (Host.reduceAdd (mulf (mulf (mulf (m ((c.tc : Thread nD τ).loc main_arg2)) (broadcastInDim S4096x1024 ![0, 1] bcast_S4096x1_S4096x1024_0_1 (Host.rsqrt (addf (Host.divf (broadcastInDim S4096x1 ![0] bcast_S4096_S4096x1_0 (Host.reduceAdd (mulf (m ((c.tc : Thread nD τ).loc main_arg2)) (m ((c.tc : Thread nD τ).loc main_arg2))) (constant (F := Ideal) S_ .f32 0x00000000#32) reducesTo_S4096x1024_S4096_d1 h_S_)) (broadcastInDim S4096x1 ![] bcast_S_S4096x1 (constant (F := Ideal) S_ .f32 0x44800000#32))) (broadcastInDim S4096x1 ![] bcast_S_S4096x1 (constant (F := Ideal) S_ .f32 0x358637BD#32)))))) (broadcastInDim S4096x1024 ![0, 1] bcast_S1x1024_S4096x1024_0_1 (broadcastInDim S1x1024 ![1] bcast_S1024_S1x1024_1 (m ((c.tc : Thread nD τ).loc main_arg3))))) (Host.dotGeneral dot_S4096x5760_S1024x5760_S4096x1024_1_1_0_0_n_n none (extf .f32 (m ((c.tc : Thread nD τ).loc main_arg0)) bitsLt_bf16_f32) (transpose S1024x5760 [1, 0] (extf .f32 (m ((c.tc : Thread nD τ).loc main_arg1)) bitsLt_bf16_f32) transposes_S5760x1024_S1024x5760_1_0))) (constant (F := Ideal) S_ .f32 0x00000000#32) reducesTo_S4096x1024_S1024_d0 h_S_) shapeCasts_S1024_S1x1024) : (⟨S1x1024, .f32⟩ : BufTy).Contents (Elt Ideal))⟩, ⟨S1x1024, ((shapeCast _ (Host.reduceAdd (Host.dotGeneral dot_S4096x5760_S1024x5760_S4096x1024_1_1_0_0_n_n none (extf .f32 (m ((c.tc : Thread nD τ).loc main_arg0)) bitsLt_bf16_f32) (transpose S1024x5760 [1, 0] (extf .f32 (m ((c.tc : Thread nD τ).loc main_arg1)) bitsLt_bf16_f32) transposes_S5760x1024_S1024x5760_1_0)) (constant (F := Ideal) S_ .f32 0x00000000#32) reducesTo_S4096x1024_S1024_d0 h_S_) shapeCasts_S1024_S1x1024) : (⟨S1x1024, .f32⟩ : BufTy).Contents (Elt Ideal))⟩, ⟨S5x1024, ((broadcastInDim S5x1024 ![] bcast_S_S5x1024 (constant (F := Ideal) S_ .f32 0x00000000#32)) : (⟨S5x1024, .f32⟩ : BufTy).Contents (Elt Ideal))⟩] concatenates_S1x1024_S1x1024_S1x1024_S5x1024_S8x1024_d0 : (⟨S8x1024, .f32⟩ : BufTy).Contents (Elt Ideal))

theorem st_0 (B : Fin 1024) : rows m c (ix2 0 B) = ∑ R : Fin 4096, x m c R B * rinv (x m c R) * (prod m c (ix2 R B) * (1 + A4 m c (ix2 0 B))) := by
  unfold rows
  refine (stack_0 _ _ _ _ B).trans ?_
  unfold rinv var prod
  simp only [dot_eq]
  pointwise
  try simp only [Finset.univ_unique, Finset.sum_singleton]
  try rfl

theorem st_1 (B : Fin 1024) : rows m c (ix2 1 B) = ∑ R : Fin 4096, x m c R B * rinv (x m c R) * A3 m c (ix1 B) * prod m c (ix2 R B) := by
  unfold rows
  refine (stack_1 _ _ _ _ B).trans ?_
  unfold rinv var prod
  simp only [dot_eq]
  pointwise
  try simp only [Finset.univ_unique, Finset.sum_singleton]
  try rfl

theorem st_2 (B : Fin 1024) : rows m c (ix2 2 B) = ∑ R : Fin 4096, prod m c (ix2 R B) := by
  unfold rows
  refine (stack_2 _ _ _ _ B).trans ?_
  unfold prod
  simp only [dot_eq]
  pointwise
  try simp only [Finset.univ_unique, Finset.sum_singleton]
  try rfl

theorem st_rest (A : Fin 8) (hA : 3 ≤ A.val) (B : Fin 1024) : rows m c (ix2 A B) = (0 : EReal) := by
  unfold rows
  refine (stack_rest _ _ _ _ A hA B).trans ?_
  pointwise

theorem prod_apply (R : Fin 4096) (j : Fin 1024) :
    prod m c (ix2 R j) = ∑ k : Fin 5760, A0 m c (ix2 R k) * A1 m c (ix2 k j) := by
  unfold prod dot
  pointwise

end Cert.ProjDxFirstRead

end
-- ==== Proof.ProjDxFirstEqual.lean ====
/-
  `kernel_proj_dx_first` against its reference, from arguments that are real.
-/
module

public import proofs.«01_k».proof.Defs
public import proofs.«01_k».proof.Proof.Gen.ProjDxFirst.Frame
public import proofs.«01_k».proof.Proof.Gen.ProjDxFirstRefIdeal.Run
public import proofs.«01_k».proof.Proof.ProjDxFirstValue
public import proofs.«01_k».proof.Proof.PreFacts
public import proofs.«01_k».proof.Proof.ScanArgs
public import proofs.«01_k».proof.Proof.ProjDxFirstFinal
public import proofs.«01_k».proof.Proof.ProjDxFirstRead
public import Idealize.ShloMosaic.Adequacy

@[expose] public section

noncomputable section

namespace Cert.ProjDxFirstEqual

open Idealize.ShloMosaic Idealize.ShloMosaic.TcCoe Idealize.SL.Sem

variable (m : (ℓ : Loc Cert.ProjDxFirstIdeal.nD Cert.ProjDxFirstIdeal.τ Cert.ProjDxFirstIdeal.sig) → Buf (Elt Ideal) ℓ) (m' : (ℓ : Loc Cert.ProjDxFirstRefIdeal.nD Cert.ProjDxFirstRefIdeal.τ Cert.ProjDxFirstRefIdeal.sig) → Buf (Elt Ideal) ℓ) (c : Dev Cert.ProjDxFirstIdeal.nD)

/-- What the two programs have in common: the arguments. -/
structure Same : Prop where
  e0 : Cert.ProjDxFirstRead.A0 m' c = Cert.ProjDxFirstValue.A0 m c
  e1 : Cert.ProjDxFirstRead.A1 m' c = Cert.ProjDxFirstValue.A1 m c
  e2 : Cert.ProjDxFirstRead.A2 m' c = Cert.ProjDxFirstValue.A2 m c
  e3 : Cert.ProjDxFirstRead.A3 m' c = Cert.ProjDxFirstValue.A3 m c
  e4 : Cert.ProjDxFirstRead.A4 m' c = Cert.ProjDxFirstValue.A4 m c
  e6 : Cert.ProjDxFirstRead.A6 m' c = Cert.ProjDxFirstValue.A6 m c

/-- The arguments that are real. -/
structure Finite : Prop where
  f0 : Cert.Scan.Real (Cert.ProjDxFirstValue.A0 m c)
  f1 : Cert.Scan.Real (Cert.ProjDxFirstValue.A1 m c)
  f2 : Cert.Scan.Real (Cert.ProjDxFirstValue.A2 m c)
  f3 : Cert.Scan.Real (Cert.ProjDxFirstValue.A3 m c)
  f4 : Cert.Scan.Real (Cert.ProjDxFirstValue.A4 m c)

variable {m m' c}

theorem prod_eq (e : Same m m' c) (R : Fin 4096) (j : Fin 1024) : Cert.ProjDxFirstRead.prod m' c (ix2 R j) = Cert.ProjDxFirstValue.dh m c R j := by
  rw [Cert.ProjDxFirstRead.prod_apply, e.e0, e.e1]
  rfl

theorem dn_eq (e : Same m m' c) (R : Fin 4096) : Cert.ProjDxFirstRead.dn m' c R = Cert.ProjDxFirstValue.dn m c R := by
  funext j
  unfold Cert.ProjDxFirstRead.dn Cert.ProjDxFirstValue.dn
  rw [prod_eq e, e.e4, e.e3]

theorem x_eq (e : Same m m' c) (R : Fin 4096) : Cert.ProjDxFirstRead.x m' c R = fun k => Cert.ProjDxFirstValue.A2 m c (ix2 R k) := by
  funext k
  show Cert.ProjDxFirstRead.A2 m' c _ = _
  rw [e.e2]

theorem dh_fin (f : Finite m c) (R : Fin 4096) (j : Fin 1024) : Cert.ProjDxFirstValue.dh m c R j ≠ ⊥ ∧ Cert.ProjDxFirstValue.dh m c R j ≠ ⊤ :=
  Cert.AdaBwd.sum_mul_fin _ _ (fun _ => (f.f0 _).symm) (fun _ => (f.f1 _).symm)

theorem dn_fin (f : Finite m c) (R : Fin 4096) (j : Fin 1024) : Cert.ProjDxFirstValue.dn m c R j ≠ ⊥ ∧ Cert.ProjDxFirstValue.dn m c R j ≠ ⊤ :=
  Cert.AdaBwd.mul_fin (Cert.AdaBwd.mul_fin (dh_fin f R j) (Cert.AdaBwd.one_add_fin (f.f4 _).symm)) (f.f3 _).symm

theorem gx_eq (e : Same m m' c) (f : Finite m c) (R : Fin 4096) (j : Fin 1024) : Cert.ProjDxFirstRead.gx m' c R j = Cert.ProjDxFirstValue.gx m c R j := by
  unfold Cert.ProjDxFirstRead.gx Cert.ProjDxFirstValue.gx
  rw [dn_eq e, x_eq e, e.e6]
  exact Cert.AdaBwd.dx_eq _ _ (fun _ => (f.f2 _).symm) (dn_fin f R) j _

theorem row_0 (e : Same m m' c) (B : Fin 1024) : (∑ R : Fin 4096, Cert.ProjDxFirstRead.x m' c R B * Cert.AdaBwd.rinv (Cert.ProjDxFirstRead.x m' c R) * (Cert.ProjDxFirstRead.prod m' c (ix2 R B) * (1 + Cert.ProjDxFirstRead.A4 m' c (ix2 0 B)))) = ∑ R, Cert.ProjDxFirstValue.add0 m c B R :=
  Finset.sum_congr rfl fun R _ => by
    unfold Cert.ProjDxFirstValue.add0
    rw [prod_eq e, x_eq e, e.e4]; exact mul_comm _ _

theorem row_1 (e : Same m m' c) (B : Fin 1024) : (∑ R : Fin 4096, Cert.ProjDxFirstRead.x m' c R B * Cert.AdaBwd.rinv (Cert.ProjDxFirstRead.x m' c R) * Cert.ProjDxFirstRead.A3 m' c (ix1 B) * Cert.ProjDxFirstRead.prod m' c (ix2 R B)) = ∑ R, Cert.ProjDxFirstValue.add1 m c B R :=
  Finset.sum_congr rfl fun R _ => by
    unfold Cert.ProjDxFirstValue.add1
    rw [prod_eq e, x_eq e, e.e3]; exact mul_comm _ _

theorem row_2 (e : Same m m' c) (B : Fin 1024) : (∑ R : Fin 4096, Cert.ProjDxFirstRead.prod m' c (ix2 R B)) = ∑ R, Cert.ProjDxFirstValue.add2 m c B R :=
  Finset.sum_congr rfl fun R _ => by
    unfold Cert.ProjDxFirstValue.add2
    exact prod_eq e R B

theorem st_eq (e : Same m m' c) (f : Finite m c) (A : Fin 8) (B : Fin 1024) : Cert.ProjDxFirstRead.rows m' c (ix2 A B) = Cert.ProjDxFirstValue.st m c A B := by
  unfold Cert.ProjDxFirstValue.st
  split
  · rename_i hA'
    rw [show A = 0 from Fin.ext hA']
    exact (Cert.ProjDxFirstRead.st_0 m' c B).trans (Cert.ProjDxFirstEqual.row_0 e B)
  split
  · rename_i hA'
    rw [show A = 1 from Fin.ext hA']
    exact (Cert.ProjDxFirstRead.st_1 m' c B).trans (Cert.ProjDxFirstEqual.row_1 e B)
  split
  · rename_i hA'
    rw [show A = 2 from Fin.ext hA']
    exact (Cert.ProjDxFirstRead.st_2 m' c B).trans (Cert.ProjDxFirstEqual.row_2 e B)
  exact Cert.ProjDxFirstRead.st_rest m' c A (by omega) B

end Cert.ProjDxFirstEqual

namespace Cert.Proof

open Idealize.ShloMosaic Idealize.ShloMosaic.TcCoe Idealize.SL.Sem

theorem frame_proj_dx_first : Cert.quiescent_ProjDxFirst := fun m ρ _ => Cert.ProjDxFirst.Gen.frame m ρ
theorem frame_proj_dx_first_ideal : Cert.quiescent_ProjDxFirstIdeal := fun m ρ _ => Cert.ProjDxFirstIdeal.Gen.frame m ρ
theorem frame_proj_dx_first_reference : Cert.quiescent_ProjDxFirstRefIdeal := fun m ρ _ =>
  (θ_run Cert.ProjDxFirstRefIdeal.defs _ _).mono (fun r h => ⟨fun c => (h c).2.2, sem_eq_zero_of_no_sems (by decide) r.2⟩)
    (Cert.ProjDxFirstRefIdeal.Value.run (F := Ideal) m ρ)
theorem frame_proj_dx_first_ideal_finite : Cert.quiescent_ProjDxFirstIdeal_pre_finite_proj_dx_first := fun m ρ _ => Cert.ProjDxFirstIdeal.Gen.frame m ρ
theorem frame_proj_dx_first_reference_finite : Cert.quiescent_ProjDxFirstRefIdeal_pre_finite_proj_dx_first := fun m ρ _ =>
  (θ_run Cert.ProjDxFirstRefIdeal.defs _ _).mono (fun r h => ⟨fun c => (h c).2.2, sem_eq_zero_of_no_sems (by decide) r.2⟩)
    (Cert.ProjDxFirstRefIdeal.Value.run (F := Ideal) m ρ)

theorem proj_dx_first_equal : Cert.algebraic_ProjDxFirstIdeal_ProjDxFirstRefIdeal_pre_finite_proj_dx_first := by
  intro m ρ m' ρ' hp ha
  refine ⟨fun c => (Cert.ProjDxFirstIdeal.Gen.dats m 0 c).arrAt 7 Cert.ProjDxFirstIdeal.cfg0.N,
    fun c => (Cert.ProjDxFirstIdeal.Gen.dats m 0 c).arrAt 8 Cert.ProjDxFirstIdeal.cfg0.N,
    Cert.ProjDxFirstIdeal.Value.run_blocks m ρ, ?_⟩
  refine (θ_run Cert.ProjDxFirstRefIdeal.defs _ _).mono (fun r h c => ?_) (Cert.ProjDxFirstRefIdeal.Value.run (F := Ideal) m' ρ')
  obtain ⟨a0, a1, a2, a3, a4, a5, a6⟩ := ha c
  have sm : Cert.ProjDxFirstEqual.Same m m' c := ⟨a0, a1, a2, a3, a4, a6⟩
  have fi : Cert.ProjDxFirstEqual.Finite m c := ⟨fun i => Cert.Scan.real_of_abs_lt (congrFun (hp c).1 i),
    fun i => Cert.Scan.real_of_abs_lt (congrFun (hp c).2.1 i),
    fun i => Cert.Scan.real_of_abs_lt (congrFun (hp c).2.2.1 i),
    fun i => Cert.Scan.real_of_abs_lt (congrFun (hp c).2.2.2.1 i),
    fun i => Cert.Scan.real_of_abs_lt (congrFun (hp c).2.2.2.2 i)⟩
  refine ⟨(h c).1.trans ?_, (h c).2.1.trans ?_, (h c).2.2⟩ <;> clear h
  · clear ha a0 a1 a2 a3 a4 a5 a6
    funext (y : Cert.ProjDxFirstIdeal.S4096x1024.Idx)
    have e : y = ix2 (y 0) (y 1) := by
      funext a; match a with | ⟨0, _⟩ => rfl | ⟨1, _⟩ => rfl
    generalize y 0 = A at e; generalize y 1 = B at e
    rw [e]
    refine Eq.trans ?_ (Cert.ProjDxFirstValue.final_dx m c A B).symm
    exact (Cert.ProjDxFirstRead.dx m' c A B).trans (Cert.ProjDxFirstEqual.gx_eq sm fi A B)
  · clear ha a0 a1 a2 a3 a4 a5 a6
    funext (y : Cert.ProjDxFirstIdeal.S8x1024.Idx)
    have e : y = ix2 (y 0) (y 1) := by
      funext a; match a with | ⟨0, _⟩ => rfl | ⟨1, _⟩ => rfl
    generalize y 0 = A at e; generalize y 1 = B at e
    rw [e]
    refine Eq.trans ?_ (Cert.ProjDxFirstValue.final_st m c A B).symm
    exact Cert.ProjDxFirstEqual.st_eq sm fi A B

end Cert.Proof

end
-- ==== Proof.LossHeadReal.lean ====
/-
  The constants of the loss head, and what holds of them.
-/
module

public import proofs.«01_k».proof.Proof.AdaBwd

@[expose] public section

noncomputable section

namespace Cert.LossHead

open Idealize.ShloMosaic
open Cert.AdaBwd (width eps mhalf var rinv)

def half : EReal := Ideal.ofBits .f32 0x3F000000#32
def two : EReal := Ideal.ofBits .f32 0x40000000#32
def inv : EReal := Ideal.ofBits .f32 0x3A800000#32

theorem half_eq : half = ((1 / 2 : ℝ) : EReal) := by
  unfold half
  simp [Ideal.ofBits, Ideal.ieee, -EReal.coe_mul, -EReal.coe_neg]
  norm_num

theorem two_eq : two = ((2 : ℝ) : EReal) := by
  unfold two
  simp [Ideal.ofBits, Ideal.ieee, -EReal.coe_mul, -EReal.coe_neg]
  norm_num

theorem inv_eq : inv = ((1 / 1024 : ℝ) : EReal) := by
  unfold inv
  simp [Ideal.ofBits, Ideal.ieee, -EReal.coe_mul, -EReal.coe_neg]
  norm_num

/-- The gradient of half a mean square, as the derivative has it and as the kernel has it. -/
theorem grad_eq (e : EReal) : Ideal.div half width * (two * e) = e * inv := by
  rw [← mul_assoc, mul_comm e inv]
  congr 1
  rw [half_eq, two_eq, inv_eq, Cert.AdaBwd.width_eq, Cert.AdaBwd.div_real (by norm_num), ← EReal.coe_mul]
  norm_num

theorem add_fin {a b : EReal} (ha : a ≠ ⊥ ∧ a ≠ ⊤) (hb : b ≠ ⊥ ∧ b ≠ ⊤) : a + b ≠ ⊥ ∧ a + b ≠ ⊤ := by
  rw [← EReal.coe_toReal ha.2 ha.1, ← EReal.coe_toReal hb.2 hb.1, ← EReal.coe_add]
  exact ⟨EReal.coe_ne_bot _, EReal.coe_ne_top _⟩

theorem sub_fin {a b : EReal} (ha : a ≠ ⊥ ∧ a ≠ ⊤) (hb : b ≠ ⊥ ∧ b ≠ ⊤) : a - b ≠ ⊥ ∧ a - b ≠ ⊤ := by
  rw [← EReal.coe_toReal ha.2 ha.1, ← EReal.coe_toReal hb.2 hb.1, ← EReal.coe_sub]
  exact ⟨EReal.coe_ne_bot _, EReal.coe_ne_top _⟩

theorem inv_fin : inv ≠ ⊥ ∧ inv ≠ ⊤ := by
  rw [inv_eq]
  exact ⟨EReal.coe_ne_bot _, EReal.coe_ne_top _⟩

theorem div_fin {a : EReal} (ha : a ≠ ⊥ ∧ a ≠ ⊤) : Ideal.div a width ≠ ⊥ ∧ Ideal.div a width ≠ ⊤ := by
  rw [← EReal.coe_toReal ha.2 ha.1, Cert.AdaBwd.width_eq, Cert.AdaBwd.div_real (by norm_num)]
  exact ⟨EReal.coe_ne_bot _, EReal.coe_ne_top _⟩

theorem rinv_fin (x : Fin 1024 → EReal) (hx : ∀ k, x k ≠ ⊥ ∧ x k ≠ ⊤) : rinv x ≠ ⊥ ∧ rinv x ≠ ⊤ := by
  have ex : x = fun k => ((x k).toReal : EReal) := funext fun k => (EReal.coe_toReal (hx k).2 (hx k).1).symm
  obtain ⟨v, hv, h⟩ := Cert.AdaBwd.var_coe (fun k => (x k).toReal)
  rw [ex]
  unfold rinv
  rw [h, Cert.AdaBwd.rsqrt_pos hv]
  exact ⟨EReal.coe_ne_bot _, EReal.coe_ne_top _⟩

/-- Half of a sum, block by block. -/
theorem half_sum (f : Fin (16 * 256) → EReal) (hf : ∀ k, f k ≠ ⊥ ∧ f k ≠ ⊤) :
    half * ∑ R, f R = ∑ b : Fin 16, half * ∑ r : Fin 256, f ⟨b.val * 256 + r.val, by omega⟩ := by
  rw [Cert.AdaBwd.blocks 16 256 f]
  have ef : f = fun k => ((f k).toReal : EReal) := funext fun k => (EReal.coe_toReal (hf k).2 (hf k).1).symm
  rw [ef, half_eq]
  simp only [← EReal.coe_mul, ← Cert.Scan.coe_sum]
  rw [Finset.mul_sum]

/-- A row of eight that the newest store wrote, and one that it did not write, where the stores cover all eight. -/
theorem row_hit {Val : EltTy → Type} [∀ e, Nonempty (Val e)] {e : EltTy} (i : ℕ)
    (inb : ∀ a, (![i, 0] : Fin 2 → ℕ) a + (![1, 1024] : Fin 2 → ℕ) a ≤ (⟨2, ![8, 1024]⟩ : Shape).size a)
    (w : (⟨2, ![1, 1024]⟩ : Shape).Idx → Val e) (L : List (View.Piece Val (⟨2, ![8, 1024]⟩ : Shape) e)) (ρ : Fin 8) (j : Fin 1024) (h : ρ.val = i) :
    View.canon ((⟨Rect.unit (s := ⟨2, ![8, 1024]⟩) ![i, 0] ![1, 1024] inb, w⟩ : View.Piece Val (⟨2, ![8, 1024]⟩ : Shape) e) :: L) (ix2 ρ j) = w (ix2 0 j) := by
  have e : (ix2 ρ j : (⟨2, ![8, 1024]⟩ : Shape).Idx) = (Rect.unit (s := ⟨2, ![8, 1024]⟩) ![i, 0] ![1, 1024] inb).emb (ix2 0 j) := by
    funext x; apply Fin.ext
    match x with
    | ⟨0, _⟩ => show ρ.val = i + 1 * 0; omega
    | ⟨1, _⟩ => show j.val = 0 + 1 * j.val; omega
  rw [e]
  exact View.canon_cons_emb _ _ _ _

theorem row_miss {Val : EltTy → Type} [∀ e, Nonempty (Val e)] {e : EltTy} (i : ℕ)
    (inb : ∀ a, (![i, 0] : Fin 2 → ℕ) a + (![1, 1024] : Fin 2 → ℕ) a ≤ (⟨2, ![8, 1024]⟩ : Shape).size a)
    (w : (⟨2, ![1, 1024]⟩ : Shape).Idx → Val e) (L : List (View.Piece Val (⟨2, ![8, 1024]⟩ : Shape) e)) (ρ : Fin 8) (j : Fin 1024) (h : ρ.val ≠ i) :
    View.canon ((⟨Rect.unit (s := ⟨2, ![8, 1024]⟩) ![i, 0] ![1, 1024] inb, w⟩ : View.Piece Val (⟨2, ![8, 1024]⟩ : Shape) e) :: L) (ix2 ρ j) = View.canon L (ix2 ρ j) := by
  refine View.canon_cons_of_not_mem _ _ fun hm => ?_
  have h' : i ≤ ρ.val ∧ ρ.val < i + 1 := (Rect.mem_set_unit (inb := inb)).mp hm (0 : Fin 2)
  omega

end Cert.LossHead

end
-- ==== Proof.LossHeadValue.lean ====
/-
  The results of `kernel_loss_head`, read at an index.
-/
module

public import proofs.«01_k».proof.Proof.Gen.LossHeadIdeal.Value
public import Idealize.ShloMosaic.Lib.Pipeline.ValueKit.Point
public import Idealize.ShloMosaic.Lib.Pipeline.ReadBack
public import Idealize.ShloMosaic.Lib.StableHlo.RunRead
public import Idealize.ShloMosaic.Lib.WritesUnit
public import proofs.«01_k».proof.Proof.LossHeadReal

@[expose] public section

noncomputable section

namespace Cert.LossHeadValue

open Idealize.ShloMosaic Idealize.ShloMosaic.TcCoe Idealize.SL.Sem
open Cert.LossHeadIdeal Cert.LossHeadIdeal.Gen
open Cert.AdaBwd (width eps mhalf var rinv kdx)
open Cert.LossHead (half inv)

variable (m : (ℓ : Loc nD τ sig) → Buf (Elt Ideal) ℓ) (c : Dev nD)

theorem idx : ∀ t : Fin cfg0.N, win0_0.index t (0 : Fin 2) = t.val
    ∧ win0_0.index t (1 : Fin 2) = 0
    ∧ win0_1.index t (0 : Fin 2) = t.val
    ∧ win0_1.index t (1 : Fin 2) = 0
    ∧ win0_2.index t (0 : Fin 2) = 0
    ∧ win0_2.index t (1 : Fin 2) = 0
    ∧ win0_3.index t (0 : Fin 2) = 0
    ∧ win0_3.index t (1 : Fin 2) = 0
    ∧ win0_4.index t (0 : Fin 2) = t.val
    ∧ win0_4.index t (1 : Fin 2) = 0
    ∧ win0_5.index t (0 : Fin 2) = t.val
    ∧ win0_5.index t (1 : Fin 2) = 0
    ∧ win0_6.index t (0 : Fin 2) = t.val
    ∧ win0_6.index t (1 : Fin 2) = 0
    ∧ win0_7.index t (0 : Fin 2) = 0
    ∧ win0_7.index t (1 : Fin 2) = 0 :=
  (by decide +kernel : ∀ t : Fin grid0.N, _)

/-- The argument arrays. -/
abbrev A0 : Vec Ideal S4096x1024 .f32 := m ((c : Thread nD τ).loc main_arg0)
abbrev A1 : Vec Ideal S4096x1024 .f32 := m ((c : Thread nD τ).loc main_arg1)
abbrev A2 : Vec Ideal S1x1024 .f32 := m ((c : Thread nD τ).loc main_arg2)
abbrev A3 : Vec Ideal S1024 .f32 := m ((c : Thread nD τ).loc main_arg3)
abbrev A4 : Vec Ideal S4096x1024 .f32 := m ((c : Thread nD τ).loc main_arg4)

/-- The blocks a point reads. -/
abbrev X0 (t : Fin cfg0.N) : Vec Ideal S256x1024 .f32 := iblk m c 0 t
abbrev X1 (t : Fin cfg0.N) : Vec Ideal S256x1024 .f32 := iblk m c 1 t
abbrev X2 (t : Fin cfg0.N) : Vec Ideal S1x1024 .f32 := iblk m c 2 t
abbrev X3 (t : Fin cfg0.N) : Vec Ideal S1x1024 .f32 := iblk m c 3 t
abbrev X4 (t : Fin cfg0.N) : Vec Ideal S256x1024 .f32 := iblk m c 4 t

/-- The gain. -/
theorem entry_v0 (a : Fin 1) (b : Fin 1024) : V m c main_v0 (ix2 a b) = A3 m c (ix1 b) := by
  show StableHlo.after ([hostOps0] : List (List (HloOp τ sig (Elt Ideal)))).flatten (fun b => m (c, b)) (Proc.tc.devRef main_v0) _ = _
  simp only [List.flatten_cons, List.flatten_nil, List.cons_append, List.nil_append, List.append_nil]
  after_reads_simp
  pointwise

theorem block_0 (t : Fin cfg0.N) (a : Fin 256) (b : Fin 1024) (A : Fin 4096) (B : Fin 1024)
    (h0 : (t.val) * 256 + a.val = A.val) (h1 : b.val = B.val) : X0 m c t (ix2 a b) = A0 m c (ix2 A B) := by
  obtain ⟨e0, e1, _⟩ := idx t
  blk_ext [X0, A0, iblk, V, e0, e1]

theorem block_1 (t : Fin cfg0.N) (a : Fin 256) (b : Fin 1024) (A : Fin 4096) (B : Fin 1024)
    (h0 : (t.val) * 256 + a.val = A.val) (h1 : b.val = B.val) : X1 m c t (ix2 a b) = A1 m c (ix2 A B) := by
  obtain ⟨_, _, e0, e1, _⟩ := idx t
  blk_ext [X1, A1, iblk, V, e0, e1]

theorem block_2 (t : Fin cfg0.N) (a : Fin 1) (b : Fin 1024) (A : Fin 1) (B : Fin 1024)
    (h0 : a.val = A.val) (h1 : b.val = B.val) : X2 m c t (ix2 a b) = A2 m c (ix2 A B) := by
  obtain ⟨_, _, _, _, e0, e1, _⟩ := idx t
  blk_ext [X2, A2, iblk, V, e0, e1]

theorem block_3 (t : Fin cfg0.N) (a : Fin 1) (b : Fin 1024) (A : Fin 1) (B : Fin 1024)
    (h0 : a.val = A.val) (h1 : b.val = B.val) : X3 m c t (ix2 a b) = A3 m c (ix1 B) := by
  obtain ⟨_, _, _, _, _, _, e0, e1, _⟩ := idx t
  show V m c main_v0 (((cfg0.win 3).blk t).view.emb (ix2 a b )) = _
  have e : ((cfg0.win 3).blk t).view.emb (ix2 a b) = (ix2 A B : S1x1024.Idx) := by
    funext x; apply Fin.ext
    match x with
    | ⟨0, _⟩ => show win0_3.index t (0 : Fin 2) * 1 + 1 * a.val = A.val; omega
    | ⟨1, _⟩ => show win0_3.index t (1 : Fin 2) * 1024 + 1 * b.val = B.val; omega
  rw [e, entry_v0]

theorem block_4 (t : Fin cfg0.N) (a : Fin 256) (b : Fin 1024) (A : Fin 4096) (B : Fin 1024)
    (h0 : (t.val) * 256 + a.val = A.val) (h1 : b.val = B.val) : X4 m c t (ix2 a b) = A4 m c (ix2 A B) := by
  obtain ⟨_, _, _, _, _, _, _, _, e0, e1, _⟩ := idx t
  blk_ext [X4, A4, iblk, V, e0, e1]

/-- A block's rows: the hidden state, the error, the error's gradient, the normalised row's gradient, the row's gradient. -/
def xb (t : Fin cfg0.N) (r : Fin 256) (j : Fin 1024) : EReal := X0 m c t (ix2 r j) + X2 m c t (ix2 0 j) * X1 m c t (ix2 r j)
def eb (t : Fin cfg0.N) (r : Fin 256) (j : Fin 1024) : EReal :=
  xb m c t r j * rinv (xb m c t r) * X3 m c t (ix2 0 j) - X4 m c t (ix2 r j)
def dnb (t : Fin cfg0.N) (r : Fin 256) (j : Fin 1024) : EReal := eb m c t r j * inv * X3 m c t (ix2 0 j)
def dxb (t : Fin cfg0.N) (r : Fin 256) (j : Fin 1024) : EReal := kdx (xb m c t r) (dnb m c t r) j

/-- The column sums so far. -/
abbrev sums (t : Fin cfg0.N) : Vec Ideal S8x1024 .f32 := (outsAt0 m c t.val t.isLt).2.2

theorem prev (t t' : Fin cfg0.N) (ht : t'.val + 1 = t.val) :
    outsAt0 m c (t.val - 1) (Nat.lt_of_le_of_lt (Nat.sub_le _ _) t.isLt) = outsAt0 m c t'.val t'.isLt := by
  congr 1; omega

theorem out_dx (t : Fin cfg0.N) (r : Fin 256) (j : Fin 1024) : (outsAt0 m c t.val t.isLt).1 (ix2 r j) = dxb m c t r j := by
  unfold dxb kdx dnb eb rinv var xb
  by_cases h : t.val % 16 = 0
  · rw [outsAt0_A m c t h]
    frame_out
    open_payloads
    pointwise [read_unread_whole]
    try rfl
  · rw [outsAt0_B m c t h]
    generalize outsAt0 m c (t.val - 1) _ = o
    frame_out
    open_payloads
    pointwise [read_unread_whole]
    try rfl

theorem out_dt (t : Fin cfg0.N) (r : Fin 256) (j : Fin 1024) : (outsAt0 m c t.val t.isLt).2.1 (ix2 r j) = X2 m c t (ix2 0 j) * dxb m c t r j := by
  unfold dxb kdx dnb eb rinv var xb
  by_cases h : t.val % 16 = 0
  · rw [outsAt0_A m c t h]
    frame_out
    open_payloads
    pointwise [read_unread_whole]
    try rfl
  · rw [outsAt0_B m c t h]
    generalize outsAt0 m c (t.val - 1) _ = o
    frame_out
    open_payloads
    pointwise [read_unread_whole]
    try rfl

/-- What a point adds to row 4. -/
def pt_4 (t : Fin cfg0.N) (j : Fin 1024) : EReal := half * ∑ r : Fin 256, Ideal.div (∑ k, eb m c t r k * eb m c t r k) width

theorem first_4 (t : Fin cfg0.N) (h : t.val % 16 = 0) (j : Fin 1024) : sums m c t (ix2 4 j) = pt_4 m c t j := by
  unfold pt_4
  unfold eb rinv var xb
  unfold sums
  rw [outsAt0_A m c t h]
  frame_out
  rw [Cert.LossHead.row_miss 3 _ _ _ _ _ (show (4 : ℕ) ≠ 3 by omega)]
  rw [Cert.LossHead.row_miss 0 _ _ _ _ _ (show (4 : ℕ) ≠ 0 by omega)]
  rw [Cert.LossHead.row_hit 4 _ _ _ _ _ rfl]
  simp (disch := decide) only [↓View.readCov_skip, View.readCov_fill]
  open_payloads
  pointwise [read_unread_whole]
  try rfl

theorem next_4 (t t' : Fin cfg0.N) (h : ¬t.val % 16 = 0) (ht : t'.val + 1 = t.val) (j : Fin 1024) :
    sums m c t (ix2 4 j) = sums m c t' (ix2 4 j) + pt_4 m c t j := by
  unfold pt_4
  unfold eb rinv var xb
  unfold sums
  rw [outsAt0_B m c t h, prev m c t t' ht]
  generalize outsAt0 m c t'.val t'.isLt = o
  frame_out
  rw [Cert.AdaBwd.row_miss _ _ 3 _ _ _ _ _ (show (4 : ℕ) ≠ 3 by omega)]
  rw [Cert.AdaBwd.row_miss _ _ 0 _ _ _ _ _ (show (4 : ℕ) ≠ 0 by omega)]
  rw [Cert.AdaBwd.row_hit _ _ 4 _ _ _ _ _ rfl]
  open_payloads
  pointwise [read_unread_whole]
  try rfl

/-- What a point adds to row 0. -/
def pt_0 (t : Fin cfg0.N) (j : Fin 1024) : EReal := ∑ r : Fin 256, eb m c t r j * inv * (xb m c t r j * rinv (xb m c t r))

theorem first_0 (t : Fin cfg0.N) (h : t.val % 16 = 0) (j : Fin 1024) : sums m c t (ix2 0 j) = pt_0 m c t j := by
  unfold pt_0
  unfold eb rinv var xb
  unfold sums
  rw [outsAt0_A m c t h]
  frame_out
  rw [Cert.LossHead.row_miss 3 _ _ _ _ _ (show (0 : ℕ) ≠ 3 by omega)]
  rw [Cert.LossHead.row_hit 0 _ _ _ _ _ rfl]
  simp (disch := decide) only [↓View.readCov_skip, View.readCov_fill]
  open_payloads
  pointwise [read_unread_whole]
  try rfl

theorem next_0 (t t' : Fin cfg0.N) (h : ¬t.val % 16 = 0) (ht : t'.val + 1 = t.val) (j : Fin 1024) :
    sums m c t (ix2 0 j) = sums m c t' (ix2 0 j) + pt_0 m c t j := by
  unfold pt_0
  unfold eb rinv var xb
  unfold sums
  rw [outsAt0_B m c t h, prev m c t t' ht]
  generalize outsAt0 m c t'.val t'.isLt = o
  frame_out
  rw [Cert.AdaBwd.row_miss _ _ 3 _ _ _ _ _ (show (0 : ℕ) ≠ 3 by omega)]
  rw [Cert.AdaBwd.row_hit _ _ 0 _ _ _ _ _ rfl]
  open_payloads
  pointwise [read_unread_whole]
  try rfl

/-- What a point adds to row 3. -/
def pt_3 (t : Fin cfg0.N) (j : Fin 1024) : EReal := ∑ r : Fin 256, dxb m c t r j * X1 m c t (ix2 r j)

theorem first_3 (t : Fin cfg0.N) (h : t.val % 16 = 0) (j : Fin 1024) : sums m c t (ix2 3 j) = pt_3 m c t j := by
  unfold pt_3
  unfold dxb kdx dnb eb rinv var xb
  unfold sums
  rw [outsAt0_A m c t h]
  frame_out
  rw [Cert.LossHead.row_hit 3 _ _ _ _ _ rfl]
  simp (disch := decide) only [↓View.readCov_skip, View.readCov_fill]
  open_payloads
  pointwise [read_unread_whole]
  try rfl

theorem next_3 (t t' : Fin cfg0.N) (h : ¬t.val % 16 = 0) (ht : t'.val + 1 = t.val) (j : Fin 1024) :
    sums m c t (ix2 3 j) = sums m c t' (ix2 3 j) + pt_3 m c t j := by
  unfold pt_3
  unfold dxb kdx dnb eb rinv var xb
  unfold sums
  rw [outsAt0_B m c t h, prev m c t t' ht]
  generalize outsAt0 m c t'.val t'.isLt = o
  frame_out
  rw [Cert.AdaBwd.row_hit _ _ 3 _ _ _ _ _ rfl]
  open_payloads
  pointwise [read_unread_whole]
  try rfl

section
variable (i : Fin 8) (h0 : i.val ≠ 0) (h3 : i.val ≠ 3) (h4 : i.val ≠ 4) (j : Fin 1024)
include h0 h3 h4

theorem first_rest (t : Fin cfg0.N) (h : t.val % 16 = 0) : sums m c t (ix2 i j) = 0 := by
  unfold sums
  rw [outsAt0_A m c t h]
  frame_out
  rw [Cert.LossHead.row_miss 3 _ _ _ _ _ h3]
  rw [Cert.LossHead.row_miss 0 _ _ _ _ _ h0]
  rw [Cert.LossHead.row_miss 4 _ _ _ _ _ h4]
  refine (congrFun (View.canon_cons_unit_lit' _ _ _ (by decide)) _).trans ?_
  open_payloads
  pointwise

theorem next_rest (t t' : Fin cfg0.N) (h : ¬t.val % 16 = 0) (ht : t'.val + 1 = t.val) : sums m c t (ix2 i j) = sums m c t' (ix2 i j) := by
  unfold sums
  rw [outsAt0_B m c t h, prev m c t t' ht]
  generalize outsAt0 m c t'.val t'.isLt = o
  frame_out
  rw [Cert.AdaBwd.row_miss _ _ 3 _ _ _ _ _ h3]
  rw [Cert.AdaBwd.row_miss _ _ 0 _ _ _ _ _ h0]
  rw [Cert.AdaBwd.row_miss _ _ 4 _ _ _ _ _ h4]
  exact congrFun (Memref.IsWhole.read_unread _ _) _
end

end Cert.LossHeadValue

end
-- ==== Proof.LossHeadFinal.lean ====
/-
  The results of `kernel_loss_head` from its arguments.
-/
module

public import proofs.«01_k».proof.Proof.Gen.LossHeadIdeal.Value
public import proofs.«01_k».proof.Proof.LossHeadValue

@[expose] public section

noncomputable section

namespace Cert.LossHeadValue

open Idealize.ShloMosaic Idealize.ShloMosaic.TcCoe Idealize.SL.Sem
open Cert.LossHeadIdeal Cert.LossHeadIdeal.Gen
open Cert.AdaBwd (width eps mhalf var rinv kdx blocks)
open Cert.LossHead (half inv)

variable (m : (ℓ : Loc nD τ sig) → Buf (Elt Ideal) ℓ) (c : Dev nD)

/-- A row: the hidden state, the error, the normalised row's gradient, the row's gradient. -/
def xr (R : Fin 4096) (j : Fin 1024) : EReal := A0 m c (ix2 R j) + A2 m c (ix2 0 j) * A1 m c (ix2 R j)
def er (R : Fin 4096) (j : Fin 1024) : EReal :=
  xr m c R j * rinv (xr m c R) * A3 m c (ix1 j) - A4 m c (ix2 R j)
def dn (R : Fin 4096) (j : Fin 1024) : EReal := er m c R j * inv * A3 m c (ix1 j)
def gx (R : Fin 4096) (j : Fin 1024) : EReal := kdx (xr m c R) (dn m c R) j

section
variable (t : Fin cfg0.N) (r : Fin 256) (R : Fin 4096) (hR : t.val * 256 + r.val = R.val)
include hR

theorem xb_eq : xb m c t r = xr m c R := funext fun j => by
  unfold xb xr
  rw [block_0 m c t r j R j hR rfl, block_1 m c t r j R j hR rfl, block_2 m c t 0 j 0 j rfl rfl]

theorem eb_eq : eb m c t r = er m c R := funext fun j => by
  unfold eb er
  rw [xb_eq m c t r R hR, block_3 m c t 0 j 0 j rfl rfl, block_4 m c t r j R j hR rfl]

theorem dxb_eq (j : Fin 1024) : dxb m c t r j = gx m c R j := by
  have e : dnb m c t r = dn m c R := funext fun j => by
    unfold dnb dn
    rw [eb_eq m c t r R hR, block_3 m c t 0 j 0 j rfl rfl]
  unfold dxb gx
  rw [e, xb_eq m c t r R hR]
end

/-- What a row adds to the column sums, and to the loss. -/
def add0 (j : Fin 1024) (R : Fin 4096) : EReal := er m c R j * inv * (xr m c R j * rinv (xr m c R))
def add3 (j : Fin 1024) (R : Fin 4096) : EReal := gx m c R j * A1 m c (ix2 R j)
def add4 (R : Fin 4096) : EReal := Ideal.div (∑ k, er m c R k * er m c R k) width

section
variable (t : Fin cfg0.N) (b : Fin 16) (hb : b.val = t.val) (j : Fin 1024)
include hb

theorem pt_0_eq : pt_0 m c t j = ∑ r : Fin 256, add0 m c j ⟨b.val * 256 + r.val, by omega⟩ :=
  Finset.sum_congr rfl fun r _ => by
    unfold add0
    rw [eb_eq m c t r ⟨b.val * 256 + r.val, by omega⟩ (by rw [← hb]), xb_eq m c t r ⟨b.val * 256 + r.val, by omega⟩ (by rw [← hb])]

theorem pt_3_eq : pt_3 m c t j = ∑ r : Fin 256, add3 m c j ⟨b.val * 256 + r.val, by omega⟩ :=
  Finset.sum_congr rfl fun r _ => by
    unfold add3
    rw [dxb_eq m c t r ⟨b.val * 256 + r.val, by omega⟩ (by rw [← hb]) j, block_1 m c t r j ⟨b.val * 256 + r.val, by omega⟩ j (by rw [← hb]) rfl]

theorem pt_4_eq : pt_4 m c t j = half * ∑ r : Fin 256, add4 m c ⟨b.val * 256 + r.val, by omega⟩ := by
  refine congrArg (half * ·) (Finset.sum_congr rfl fun r _ => ?_)
  unfold add4
  rw [eb_eq m c t r ⟨b.val * 256 + r.val, by omega⟩ (by rw [← hb])]
end

/-- What the points add up to, where the first leaves its part and each other adds its own. -/
theorem sums_upto (i : Fin 8) (j : Fin 1024) (q : Fin 16 → EReal)
    (h0 : ∀ t : Fin cfg0.N, t.val % 16 = 0 → ∀ b : Fin 16, b.val = t.val → sums m c t (ix2 i j) = q b)
    (h1 : ∀ t t' : Fin cfg0.N, ¬t.val % 16 = 0 → t'.val + 1 = t.val → ∀ b : Fin 16, b.val = t.val → sums m c t (ix2 i j) = sums m c t' (ix2 i j) + q b) :
    ∀ (n : ℕ) (hn : n < 16) (t : Fin cfg0.N), t.val = n → sums m c t (ix2 i j) = ∑ b : Fin (n + 1), q ⟨b.val, by omega⟩
  | 0, _, t, ht => by
    rw [h0 t (by omega) 0 (by show 0 = t.val; omega), Fin.sum_univ_one]
    rfl
  | n + 1, hn, t, ht => by
    have hN : cfg0.N = 16 := N_0
    obtain ⟨t', ht'⟩ : ∃ t' : Fin cfg0.N, t'.val = n := ⟨⟨n, by omega⟩, rfl⟩
    rw [h1 t t' (by omega) (by omega) ⟨n + 1, hn⟩ (by show n + 1 = t.val; omega), sums_upto i j q h0 h1 n (by omega) t' ht']
    exact (Fin.sum_univ_castSucc (fun b : Fin (n + 1 + 1) => q ⟨b.val, by omega⟩)).symm

theorem total_0 (j : Fin 1024) (t : Fin cfg0.N) (ht : t.val = 15) : sums m c t (ix2 0 j) = ∑ R, add0 m c j R := by
  refine (sums_upto m c 0 j (fun b => ∑ r : Fin 256, add0 m c j ⟨b.val * 256 + r.val, by omega⟩)
    (fun t h b hb => (first_0 m c t h j).trans (pt_0_eq m c t b hb j))
    (fun t t' h ht b hb => by rw [next_0 m c t t' h ht j, pt_0_eq m c t b hb j]) 15 (by omega) t ht).trans ?_
  exact (blocks 16 256 (add0 m c j)).symm

theorem total_3 (j : Fin 1024) (t : Fin cfg0.N) (ht : t.val = 15) : sums m c t (ix2 3 j) = ∑ R, add3 m c j R := by
  refine (sums_upto m c 3 j (fun b => ∑ r : Fin 256, add3 m c j ⟨b.val * 256 + r.val, by omega⟩)
    (fun t h b hb => (first_3 m c t h j).trans (pt_3_eq m c t b hb j))
    (fun t t' h ht b hb => by rw [next_3 m c t t' h ht j, pt_3_eq m c t b hb j]) 15 (by omega) t ht).trans ?_
  exact (blocks 16 256 (add3 m c j)).symm

theorem total_4 (j : Fin 1024) (t : Fin cfg0.N) (ht : t.val = 15) :
    sums m c t (ix2 4 j) = ∑ b : Fin 16, half * ∑ r : Fin 256, add4 m c ⟨b.val * 256 + r.val, by omega⟩ :=
  sums_upto m c 4 j (fun b => half * ∑ r : Fin 256, add4 m c ⟨b.val * 256 + r.val, by omega⟩)
    (fun t h b hb => (first_4 m c t h j).trans (pt_4_eq m c t b hb j))
    (fun t t' h ht b hb => by rw [next_4 m c t t' h ht j, pt_4_eq m c t b hb j]) 15 (by omega) t ht

theorem total_rest (i : Fin 8) (h0 : i.val ≠ 0) (h3 : i.val ≠ 3) (h4 : i.val ≠ 4) (j : Fin 1024) (t : Fin cfg0.N) (ht : t.val = 15) : sums m c t (ix2 i j) = 0 := by
  rw [sums_upto m c i j (fun _ => 0) (fun t h _ _ => first_rest m c i h0 h3 h4 j t h)
    (fun t t' h ht _ _ => by rw [next_rest m c i h0 h3 h4 j t t' h ht, add_zero]) 15 (by omega) t ht, Finset.sum_const_zero]

/-- The rows of column sums, the loss among them. -/
def st (A : Fin 8) (B : Fin 1024) : EReal :=
  if A.val = 0 then ∑ R, add0 m c B R else if A.val = 3 then ∑ R, add3 m c B R
  else if A.val = 4 then ∑ b : Fin 16, half * ∑ r : Fin 256, add4 m c ⟨b.val * 256 + r.val, by omega⟩ else 0

theorem final_dx (A : Fin 4096) (B : Fin 1024) : (dats m 0 c).arrAt 5 cfg0.N (ix2 A B) = gx m c A B := by
  let t : Fin cfg0.N := ⟨A.val / 256, by show _ < 16; omega⟩
  have ht : t.val = A.val / 256 := rfl
  obtain ⟨_, _, _, _, _, _, _, _, _, _, e0, e1, _⟩ := idx t
  let a : Fin 256 := ⟨A.val % 256, by omega⟩
  have ha : a.val = A.val % 256 := rfl
  let b : Fin 1024 := ⟨B.val % 1024, by omega⟩
  have hb : b.val = B.val % 1024 := rfl
  have bl := congrFun (Value.blocks5 m c t (flush0_5 t)) (ix2 a b)
  rw [Value.flushed5] at bl
  have e : ((cfg0.win 5).blk t).view.emb (ix2 a b) = (ix2 A B : S4096x1024.Idx) := by
    funext x; apply Fin.ext
    match x with
    | ⟨0, _⟩ => show win0_5.index t (0 : Fin 2) * 256 + 1 * (A.val % 256) = A.val; omega
    | ⟨1, _⟩ => show win0_5.index t (1 : Fin 2) * 1024 + 1 * (B.val % 1024) = B.val; omega
  have b' : (dats m 0 c).arrAt 5 cfg0.N (((cfg0.win 5).blk t).view.emb (ix2 a b)) = (outsAt0 m c t.val t.isLt).1 (ix2 a b) := bl
  rw [e] at b'
  clear e bl
  have hB : b = B := Fin.ext (by omega)
  rw [b', out_dx m c t, dxb_eq m c t a A (by omega), hB]

theorem final_dt (A : Fin 4096) (B : Fin 1024) : (dats m 0 c).arrAt 6 cfg0.N (ix2 A B) = A2 m c (ix2 0 B) * gx m c A B := by
  let t : Fin cfg0.N := ⟨A.val / 256, by show _ < 16; omega⟩
  have ht : t.val = A.val / 256 := rfl
  obtain ⟨_, _, _, _, _, _, _, _, _, _, _, _, e0, e1, _⟩ := idx t
  let a : Fin 256 := ⟨A.val % 256, by omega⟩
  have ha : a.val = A.val % 256 := rfl
  let b : Fin 1024 := ⟨B.val % 1024, by omega⟩
  have hb : b.val = B.val % 1024 := rfl
  have bl := congrFun (Value.blocks6 m c t (flush0_6 t)) (ix2 a b)
  rw [Value.flushed6] at bl
  have e : ((cfg0.win 6).blk t).view.emb (ix2 a b) = (ix2 A B : S4096x1024.Idx) := by
    funext x; apply Fin.ext
    match x with
    | ⟨0, _⟩ => show win0_6.index t (0 : Fin 2) * 256 + 1 * (A.val % 256) = A.val; omega
    | ⟨1, _⟩ => show win0_6.index t (1 : Fin 2) * 1024 + 1 * (B.val % 1024) = B.val; omega
  have b' : (dats m 0 c).arrAt 6 cfg0.N (((cfg0.win 6).blk t).view.emb (ix2 a b)) = (outsAt0 m c t.val t.isLt).2.1 (ix2 a b) := bl
  rw [e] at b'
  clear e bl
  have hB : b = B := Fin.ext (by omega)
  rw [b', out_dt m c t, dxb_eq m c t a A (by omega), hB, block_2 m c t 0 B 0 B rfl rfl]

theorem final_st (A : Fin 8) (B : Fin 1024) : (dats m 0 c).arrAt 7 cfg0.N (ix2 A B) = st m c A B := by
  obtain ⟨t, ht⟩ : ∃ t : Fin cfg0.N, t.val = 15 := ⟨⟨15, by show _ < 16; omega⟩, rfl⟩
  obtain ⟨_, _, _, _, _, _, _, _, _, _, _, _, _, _, e0, e1⟩ := idx t
  let a : Fin 8 := ⟨A.val % 8, by omega⟩
  have ha : a.val = A.val % 8 := rfl
  let b : Fin 1024 := ⟨B.val % 1024, by omega⟩
  have hb : b.val = B.val % 1024 := rfl
  have dj : ∀ t t' : Fin cfg0.N, (cfg0.win 7).flush t = true → (cfg0.win 7).flush t' = true → t ≠ t' → Disjoint ((cfg0.win 7).blk t).view.set ((cfg0.win 7).blk t').view.set :=
    fun t t' h h' hne => absurd (Fin.ext (by
      have h1 := (flush0_7 t).mp h
      have h2 := (flush0_7 t').mp h'
      have hN : cfg0.N = 16 := N_0
      have h3 := t.isLt
      have h4 := t'.isLt
      omega)) hne
  have bl := congrFun ((dats m 0 c).read_blk_arrAt_eq_flushed 7 dj cfg0.N t t.isLt ((flush0_7 t).mpr (by omega))) (ix2 a b)
  rw [Value.flushed7] at bl
  have e : ((cfg0.win 7).blk t).view.emb (ix2 a b) = (ix2 A B : S8x1024.Idx) := by
    funext x; apply Fin.ext
    match x with
    | ⟨0, _⟩ => show win0_7.index t (0 : Fin 2) * 8 + 1 * (A.val % 8) = A.val; omega
    | ⟨1, _⟩ => show win0_7.index t (1 : Fin 2) * 1024 + 1 * (B.val % 1024) = B.val; omega
  have b' : (dats m 0 c).arrAt 7 cfg0.N (((cfg0.win 7).blk t).view.emb (ix2 a b)) = sums m c t (ix2 a b) := bl
  rw [e] at b'
  clear e bl
  have hB : b = B := Fin.ext (by omega)
  have hA : a = A := Fin.ext (by omega)
  rw [b', hA, hB]
  clear b'
  unfold st
  split
  · rename_i hA'
    rw [show A = 0 from Fin.ext hA']
    exact total_0 m c B t ht
  split
  · rename_i hA'
    rw [show A = 3 from Fin.ext hA']
    exact total_3 m c B t ht
  split
  · rename_i hA'
    rw [show A = 4 from Fin.ext hA']
    exact total_4 m c B t ht
  exact total_rest m c A ‹_› ‹_› ‹_› B t ht

end Cert.LossHeadValue

end
-- ==== Proof.LossHeadRead.lean ====
/-
  The reference's results of `kernel_loss_head`, read at an index.
-/
module

public import proofs.«01_k».proof.Proof.Gen.LossHeadRefIdeal.Run
public import proofs.«01_k».proof.Proof.LossHeadReal

@[expose] public section

noncomputable section

namespace Cert.LossHeadRead

open Idealize.ShloMosaic Idealize.ShloMosaic.TcCoe Idealize.SL.Sem
open Cert.LossHeadRefIdeal Cert.LossHeadRefIdeal.Gen
open Cert.AdaBwd (width eps mhalf var rinv fac)
open Cert.LossHead (half two)

/-- Rows, one after the other. -/
def stack (u0 : FVec Ideal S1x1024 .f32) (u1 : FVec Ideal S2x1024 .f32) (u2 u3 : FVec Ideal S1x1024 .f32) (u4 : FVec Ideal S3x1024 .f32) : FVec Ideal S8x1024 .f32 :=
  concatenate S8x1024 0 [⟨S1x1024, u0⟩, ⟨S2x1024, u1⟩, ⟨S1x1024, u2⟩, ⟨S1x1024, u3⟩, ⟨S3x1024, u4⟩] concatenates_S1x1024_S2x1024_S1x1024_S1x1024_S3x1024_S8x1024_d0

section
variable (u0 : FVec Ideal S1x1024 .f32) (u1 : FVec Ideal S2x1024 .f32) (u2 u3 : FVec Ideal S1x1024 .f32) (u4 : FVec Ideal S3x1024 .f32)

theorem stack_0 (A : Fin 8) (B : Fin 1024) (a : Fin 1) (h : 0 + a.val = A.val) : stack u0 u1 u2 u3 u4 (ix2 A B) = u0 (ix2 a B) := by
  unfold stack
  exact concatenate_apply_piece (t := S8x1024) 0 [⟨S1x1024, u0⟩, ⟨S2x1024, u1⟩, ⟨S1x1024, u2⟩, ⟨S1x1024, u3⟩, ⟨S3x1024, u4⟩] concatenates_S1x1024_S2x1024_S1x1024_S1x1024_S3x1024_S8x1024_d0 (ix2 A B) 0 (by show 0 < 5; omega) S1x1024 _ rfl rfl 0 rfl (ix2 a B)
    (fun b hb => match b with | ⟨0, _⟩ => absurd rfl hb | ⟨1, _⟩ => rfl) h

theorem stack_1 (A : Fin 8) (B : Fin 1024) (a : Fin 2) (h : 1 + a.val = A.val) : stack u0 u1 u2 u3 u4 (ix2 A B) = u1 (ix2 a B) := by
  unfold stack
  exact concatenate_apply_piece (t := S8x1024) 0 [⟨S1x1024, u0⟩, ⟨S2x1024, u1⟩, ⟨S1x1024, u2⟩, ⟨S1x1024, u3⟩, ⟨S3x1024, u4⟩] concatenates_S1x1024_S2x1024_S1x1024_S1x1024_S3x1024_S8x1024_d0 (ix2 A B) 1 (by show 1 < 5; omega) S2x1024 _ rfl rfl 1 rfl (ix2 a B)
    (fun b hb => match b with | ⟨0, _⟩ => absurd rfl hb | ⟨1, _⟩ => rfl) h

theorem stack_2 (A : Fin 8) (B : Fin 1024) (a : Fin 1) (h : 3 + a.val = A.val) : stack u0 u1 u2 u3 u4 (ix2 A B) = u2 (ix2 a B) := by
  unfold stack
  exact concatenate_apply_piece (t := S8x1024) 0 [⟨S1x1024, u0⟩, ⟨S2x1024, u1⟩, ⟨S1x1024, u2⟩, ⟨S1x1024, u3⟩, ⟨S3x1024, u4⟩] concatenates_S1x1024_S2x1024_S1x1024_S1x1024_S3x1024_S8x1024_d0 (ix2 A B) 2 (by show 2 < 5; omega) S1x1024 _ rfl rfl 3 rfl (ix2 a B)
    (fun b hb => match b with | ⟨0, _⟩ => absurd rfl hb | ⟨1, _⟩ => rfl) h

theorem stack_3 (A : Fin 8) (B : Fin 1024) (a : Fin 1) (h : 4 + a.val = A.val) : stack u0 u1 u2 u3 u4 (ix2 A B) = u3 (ix2 a B) := by
  unfold stack
  exact concatenate_apply_piece (t := S8x1024) 0 [⟨S1x1024, u0⟩, ⟨S2x1024, u1⟩, ⟨S1x1024, u2⟩, ⟨S1x1024, u3⟩, ⟨S3x1024, u4⟩] concatenates_S1x1024_S2x1024_S1x1024_S1x1024_S3x1024_S8x1024_d0 (ix2 A B) 3 (by show 3 < 5; omega) S1x1024 _ rfl rfl 4 rfl (ix2 a B)
    (fun b hb => match b with | ⟨0, _⟩ => absurd rfl hb | ⟨1, _⟩ => rfl) h

theorem stack_4 (A : Fin 8) (B : Fin 1024) (a : Fin 3) (h : 5 + a.val = A.val) : stack u0 u1 u2 u3 u4 (ix2 A B) = u4 (ix2 a B) := by
  unfold stack
  exact concatenate_apply_piece (t := S8x1024) 0 [⟨S1x1024, u0⟩, ⟨S2x1024, u1⟩, ⟨S1x1024, u2⟩, ⟨S1x1024, u3⟩, ⟨S3x1024, u4⟩] concatenates_S1x1024_S2x1024_S1x1024_S1x1024_S3x1024_S8x1024_d0 (ix2 A B) 4 (by show 4 < 5; omega) S3x1024 _ rfl rfl 5 rfl (ix2 a B)
    (fun b hb => match b with | ⟨0, _⟩ => absurd rfl hb | ⟨1, _⟩ => rfl) h
end

variable (m : (ℓ : Loc nD τ sig) → Buf (Elt Ideal) ℓ) (c : Dev nD)

/-- The argument arrays. -/
abbrev A0 : Vec Ideal S4096x1024 .f32 := m ((c.tc : Thread nD τ).loc main_arg0)
abbrev A1 : Vec Ideal S4096x1024 .f32 := m ((c.tc : Thread nD τ).loc main_arg1)
abbrev A2 : Vec Ideal S1x1024 .f32 := m ((c.tc : Thread nD τ).loc main_arg2)
abbrev A3 : Vec Ideal S1024 .f32 := m ((c.tc : Thread nD τ).loc main_arg3)
abbrev A4 : Vec Ideal S4096x1024 .f32 := m ((c.tc : Thread nD τ).loc main_arg4)

/-- The hidden state, the error, the error's gradient and the normalised row's gradient. -/
def xf (a t : FVec Ideal S4096x1024 .f32) (g : FVec Ideal S1x1024 .f32) : FVec Ideal S4096x1024 .f32 := addf a (mulf (broadcastInDim S4096x1024 ![0, 1] bcast_S1x1024_S4096x1024_0_1 g) t)
def ef (x t : FVec Ideal S4096x1024 .f32) (g : FVec Ideal S1024 .f32) : FVec Ideal S4096x1024 .f32 := subf (mulf (mulf x (broadcastInDim S4096x1024 ![0, 1] bcast_S4096x1_S4096x1024_0_1 (Host.rsqrt (addf (Host.divf (broadcastInDim S4096x1 ![0] bcast_S4096_S4096x1_0 (Host.reduceAdd (mulf x x) (constant (F := Ideal) S_ .f32 0x00000000#32) reducesTo_S4096x1024_S4096_d1 h_S_)) (broadcastInDim S4096x1 ![] bcast_S_S4096x1 (constant (F := Ideal) S_ .f32 0x44800000#32))) (broadcastInDim S4096x1 ![] bcast_S_S4096x1 (constant (F := Ideal) S_ .f32 0x358637BD#32)))))) (broadcastInDim S4096x1024 ![0, 1] bcast_S1x1024_S4096x1024_0_1 (broadcastInDim S1x1024 ![1] bcast_S1024_S1x1024_1 g))) t
def yf (e : FVec Ideal S4096x1024 .f32) : FVec Ideal S4096x1024 .f32 := mulf (broadcastInDim S4096x1024 ![0] bcast_S4096_S4096x1024_0 (Host.divf (broadcastInDim S4096 ![] bcast_S_S4096 (mulf (constant (F := Ideal) S_ .f32 0x3F000000#32) (constant (F := Ideal) S_ .f32 0x3F800000#32))) (broadcastInDim S4096 ![] bcast_S_S4096 (constant (F := Ideal) S_ .f32 0x44800000#32)))) (mulf (broadcastInDim S4096x1024 ![] bcast_S_S4096x1024 (constant (F := Ideal) S_ .f32 0x40000000#32)) e)
def df (y : FVec Ideal S4096x1024 .f32) (g : FVec Ideal S1024 .f32) : FVec Ideal S4096x1024 .f32 := mulf y (broadcastInDim S4096x1024 ![0, 1] bcast_S1x1024_S4096x1024_0_1 (broadcastInDim S1x1024 ![1] bcast_S1024_S1x1024_1 g))

def xv : FVec Ideal S4096x1024 .f32 := xf (A0 m c) (A1 m c) (A2 m c)
def ev : FVec Ideal S4096x1024 .f32 := ef (xv m c) (A4 m c) (A3 m c)
def yv : FVec Ideal S4096x1024 .f32 := yf (ev m c)
def dv : FVec Ideal S4096x1024 .f32 := df (yv m c) (A3 m c)

abbrev x (R : Fin 4096) (k : Fin 1024) : EReal := xv m c (ix2 R k)
abbrev e (R : Fin 4096) (k : Fin 1024) : EReal := ev m c (ix2 R k)
abbrev dn (R : Fin 4096) (k : Fin 1024) : EReal := dv m c (ix2 R k)
def gx (R : Fin 4096) (j : Fin 1024) : EReal :=
  dn m c R j * rinv (x m c R) + x m c R j * fac (x m c R) (dn m c R) + fac (x m c R) (dn m c R) * x m c R j

theorem xv_apply (R : Fin 4096) (j : Fin 1024) : xv m c (ix2 R j) = A0 m c (ix2 R j) + A2 m c (ix2 0 j) * A1 m c (ix2 R j) := by
  unfold xv xf
  pointwise

theorem ev_apply (R : Fin 4096) (j : Fin 1024) : ev m c (ix2 R j) = x m c R j * rinv (x m c R) * A3 m c (ix1 j) - A4 m c (ix2 R j) := by
  unfold ev ef rinv var
  pointwise
  try rfl

theorem yv_apply (R : Fin 4096) (j : Fin 1024) : yv m c (ix2 R j) = Ideal.div half width * (two * e m c R j) := by
  unfold yv yf half two
  pointwise
  try rfl

theorem dv_apply (R : Fin 4096) (j : Fin 1024) : dv m c (ix2 R j) = yv m c (ix2 R j) * A3 m c (ix1 j) := by
  unfold dv df
  pointwise

def gv : FVec Ideal S4096x1024 .f32 := addf (addf (mulf (dv m c) (broadcastInDim S4096x1024 ![0, 1] bcast_S4096x1_S4096x1024_0_1 (Host.rsqrt (addf (Host.divf (broadcastInDim S4096x1 ![0] bcast_S4096_S4096x1_0 (Host.reduceAdd (mulf (xv m c) (xv m c)) (constant (F := Ideal) S_ .f32 0x00000000#32) reducesTo_S4096x1024_S4096_d1 h_S_)) (broadcastInDim S4096x1 ![] bcast_S_S4096x1 (constant (F := Ideal) S_ .f32 0x44800000#32))) (broadcastInDim S4096x1 ![] bcast_S_S4096x1 (constant (F := Ideal) S_ .f32 0x358637BD#32)))))) (mulf (xv m c) (broadcastInDim S4096x1024 ![0] bcast_S4096_S4096x1024_0 (Host.reduceAdd (Host.divf (mulf (shapeCast _ (Host.reduceAdd (mulf (xv m c) (dv m c)) (constant (F := Ideal) S_ .f32 0x00000000#32) reducesTo_S4096x1024_S4096_d1 h_S_) shapeCasts_S4096_S4096x1) (mulf (broadcastInDim S4096x1 ![] bcast_S_S4096x1 (constant (F := Ideal) S_ .f32 0xBF000000#32)) (Host.divf (Host.rsqrt (addf (Host.divf (broadcastInDim S4096x1 ![0] bcast_S4096_S4096x1_0 (Host.reduceAdd (mulf (xv m c) (xv m c)) (constant (F := Ideal) S_ .f32 0x00000000#32) reducesTo_S4096x1024_S4096_d1 h_S_)) (broadcastInDim S4096x1 ![] bcast_S_S4096x1 (constant (F := Ideal) S_ .f32 0x44800000#32))) (broadcastInDim S4096x1 ![] bcast_S_S4096x1 (constant (F := Ideal) S_ .f32 0x358637BD#32)))) (addf (Host.divf (broadcastInDim S4096x1 ![0] bcast_S4096_S4096x1_0 (Host.reduceAdd (mulf (xv m c) (xv m c)) (constant (F := Ideal) S_ .f32 0x00000000#32) reducesTo_S4096x1024_S4096_d1 h_S_)) (broadcastInDim S4096x1 ![] bcast_S_S4096x1 (constant (F := Ideal) S_ .f32 0x44800000#32))) (broadcastInDim S4096x1 ![] bcast_S_S4096x1 (constant (F := Ideal) S_ .f32 0x358637BD#32)))))) (broadcastInDim S4096x1 ![] bcast_S_S4096x1 (constant (F := Ideal) S_ .f32 0x44800000#32))) (constant (F := Ideal) S_ .f32 0x00000000#32) reducesTo_S4096x1_S4096_d1 h_S_)))) (mulf (broadcastInDim S4096x1024 ![0] bcast_S4096_S4096x1024_0 (Host.reduceAdd (Host.divf (mulf (shapeCast _ (Host.reduceAdd (mulf (xv m c) (dv m c)) (constant (F := Ideal) S_ .f32 0x00000000#32) reducesTo_S4096x1024_S4096_d1 h_S_) shapeCasts_S4096_S4096x1) (mulf (broadcastInDim S4096x1 ![] bcast_S_S4096x1 (constant (F := Ideal) S_ .f32 0xBF000000#32)) (Host.divf (Host.rsqrt (addf (Host.divf (broadcastInDim S4096x1 ![0] bcast_S4096_S4096x1_0 (Host.reduceAdd (mulf (xv m c) (xv m c)) (constant (F := Ideal) S_ .f32 0x00000000#32) reducesTo_S4096x1024_S4096_d1 h_S_)) (broadcastInDim S4096x1 ![] bcast_S_S4096x1 (constant (F := Ideal) S_ .f32 0x44800000#32))) (broadcastInDim S4096x1 ![] bcast_S_S4096x1 (constant (F := Ideal) S_ .f32 0x358637BD#32)))) (addf (Host.divf (broadcastInDim S4096x1 ![0] bcast_S4096_S4096x1_0 (Host.reduceAdd (mulf (xv m c) (xv m c)) (constant (F := Ideal) S_ .f32 0x00000000#32) reducesTo_S4096x1024_S4096_d1 h_S_)) (broadcastInDim S4096x1 ![] bcast_S_S4096x1 (constant (F := Ideal) S_ .f32 0x44800000#32))) (broadcastInDim S4096x1 ![] bcast_S_S4096x1 (constant (F := Ideal) S_ .f32 0x358637BD#32)))))) (broadcastInDim S4096x1 ![] bcast_S_S4096x1 (constant (F := Ideal) S_ .f32 0x44800000#32))) (constant (F := Ideal) S_ .f32 0x00000000#32) reducesTo_S4096x1_S4096_d1 h_S_)) (xv m c))
theorem gv_eq : Value.res_main_v53 m c = gv m c := rfl
theorem dt_eq : Value.res_main_v59 m c = truncf .bf16 (mulf (broadcastInDim S4096x1024 ![0, 1] bcast_S1x1024_S4096x1024_0_1 (m ((c.tc : Thread nD τ).loc main_arg2))) (gv m c)) bitsLt_bf16_f32 := rfl

/-- The rows of column sums. -/
def rows : FVec Ideal S8x1024 .f32 := (concatenate S8x1024 0 [⟨S1x1024, ((broadcastInDim S1x1024 ![1] bcast_S1024_S1x1024_1 (Host.reduceAdd (shapeCast _ (Host.reduceAdd (mulf (mulf (xv m c) (broadcastInDim S4096x1024 ![0, 1] bcast_S4096x1_S4096x1024_0_1 (Host.rsqrt (addf (Host.divf (broadcastInDim S4096x1 ![0] bcast_S4096_S4096x1_0 (Host.reduceAdd (mulf (xv m c) (xv m c)) (constant (F := Ideal) S_ .f32 0x00000000#32) reducesTo_S4096x1024_S4096_d1 h_S_)) (broadcastInDim S4096x1 ![] bcast_S_S4096x1 (constant (F := Ideal) S_ .f32 0x44800000#32))) (broadcastInDim S4096x1 ![] bcast_S_S4096x1 (constant (F := Ideal) S_ .f32 0x358637BD#32)))))) (yv m c)) (constant (F := Ideal) S_ .f32 0x00000000#32) reducesTo_S4096x1024_S1024_d0 h_S_) shapeCasts_S1024_S1x1024) (constant (F := Ideal) S_ .f32 0x00000000#32) reducesTo_S1x1024_S1024_d0 h_S_)) : (⟨S1x1024, .f32⟩ : BufTy).Contents (Elt Ideal))⟩, ⟨S2x1024, ((broadcastInDim S2x1024 ![] bcast_S_S2x1024 (constant (F := Ideal) S_ .f32 0x00000000#32)) : (⟨S2x1024, .f32⟩ : BufTy).Contents (Elt Ideal))⟩, ⟨S1x1024, ((shapeCast _ (Host.reduceAdd (mulf (gv m c) (m ((c.tc : Thread nD τ).loc main_arg1))) (constant (F := Ideal) S_ .f32 0x00000000#32) reducesTo_S4096x1024_S1024_d0 h_S_) shapeCasts_S1024_S1x1024) : (⟨S1x1024, .f32⟩ : BufTy).Contents (Elt Ideal))⟩, ⟨S1x1024, ((broadcastInDim S1x1024 ![] bcast_S_S1x1024 (mulf (constant (F := Ideal) S_ .f32 0x3F000000#32) (Host.reduceAdd (Host.divf (Host.reduceAdd (mulf (ev m c) (ev m c)) (constant (F := Ideal) S_ .f32 0x00000000#32) reducesTo_S4096x1024_S4096_d1 h_S_) (broadcastInDim S4096 ![] bcast_S_S4096 (constant (F := Ideal) S_ .f32 0x44800000#32))) (constant (F := Ideal) S_ .f32 0x00000000#32) reducesTo_S4096_S_d0 h_S_))) : (⟨S1x1024, .f32⟩ : BufTy).Contents (Elt Ideal))⟩, ⟨S3x1024, ((broadcastInDim S3x1024 ![] bcast_S_S3x1024 (constant (F := Ideal) S_ .f32 0x00000000#32)) : (⟨S3x1024, .f32⟩ : BufTy).Contents (Elt Ideal))⟩] concatenates_S1x1024_S2x1024_S1x1024_S1x1024_S3x1024_S8x1024_d0 : (⟨S8x1024, .f32⟩ : BufTy).Contents (Elt Ideal))
theorem rows_eq : Value.res_main_v64 m c = rows m c := rfl

theorem gv_apply (R : Fin 4096) (j : Fin 1024) : gv m c (ix2 R j) = gx m c R j := by
  unfold gx fac rinv var gv
  pointwise
  try simp only [Finset.univ_unique, Finset.sum_singleton]
  try rfl

theorem dt (A : Fin 4096) (B : Fin 1024) : Value.res_main_v59 m c (ix2 A B) = A2 m c (ix2 0 B) * gx m c A B := by
  rw [dt_eq, ← gv_apply]
  pointwise

theorem st_0 (B : Fin 1024) : rows m c (ix2 0 B) = ∑ R : Fin 4096, x m c R B * rinv (x m c R) * yv m c (ix2 R B) := by
  unfold rows
  refine (stack_0 _ _ _ _ _ 0 B 0 rfl).trans ?_
  unfold rinv var
  pointwise
  try simp only [Finset.univ_unique, Finset.sum_singleton]
  try rfl

theorem st_3 (B : Fin 1024) : rows m c (ix2 3 B) = ∑ R : Fin 4096, gx m c R B * A1 m c (ix2 R B) := by
  unfold rows
  refine (stack_2 _ _ _ _ _ 3 B 0 rfl).trans ?_
  simp only [← gv_apply]
  pointwise
  try simp only [Finset.univ_unique, Finset.sum_singleton]
  try rfl

theorem st_4 (B : Fin 1024) : rows m c (ix2 4 B) = half * ∑ R : Fin 4096, Ideal.div (∑ k, e m c R k * e m c R k) width := by
  unfold rows
  refine (stack_3 _ _ _ _ _ 4 B 0 rfl).trans ?_
  unfold half
  pointwise
  try simp only [Finset.univ_unique, Finset.sum_singleton]
  try rfl

theorem st_rest_1 (A : Fin 8) (B : Fin 1024) (a : Fin 2) (h : 1 + a.val = A.val) : rows m c (ix2 A B) = (0 : EReal) := by
  unfold rows
  refine (stack_1 _ _ _ _ _ A B a h).trans ?_
  pointwise

theorem st_rest_5 (A : Fin 8) (B : Fin 1024) (a : Fin 3) (h : 5 + a.val = A.val) : rows m c (ix2 A B) = (0 : EReal) := by
  unfold rows
  refine (stack_4 _ _ _ _ _ A B a h).trans ?_
  pointwise

end Cert.LossHeadRead

end
-- ==== Proof.LossHeadEqual.lean ====
/-
  `kernel_loss_head` against its reference, from arguments that are real.
-/
module

public import proofs.«01_k».proof.Defs
public import proofs.«01_k».proof.Proof.Gen.LossHead.Frame
public import proofs.«01_k».proof.Proof.Gen.LossHeadRefIdeal.Run
public import proofs.«01_k».proof.Proof.LossHeadValue
public import proofs.«01_k».proof.Proof.PreFacts
public import proofs.«01_k».proof.Proof.ScanArgs
public import proofs.«01_k».proof.Proof.LossHeadFinal
public import proofs.«01_k».proof.Proof.LossHeadRead
public import Idealize.ShloMosaic.Adequacy

@[expose] public section

noncomputable section

namespace Cert.LossHeadEqual

open Idealize.ShloMosaic Idealize.ShloMosaic.TcCoe Idealize.SL.Sem
open Cert.LossHead (half inv)

variable (m : (ℓ : Loc Cert.LossHeadIdeal.nD Cert.LossHeadIdeal.τ Cert.LossHeadIdeal.sig) → Buf (Elt Ideal) ℓ) (m' : (ℓ : Loc Cert.LossHeadRefIdeal.nD Cert.LossHeadRefIdeal.τ Cert.LossHeadRefIdeal.sig) → Buf (Elt Ideal) ℓ) (c : Dev Cert.LossHeadIdeal.nD)

/-- What the two programs have in common: the arguments. -/
structure Same : Prop where
  e0 : Cert.LossHeadRead.A0 m' c = Cert.LossHeadValue.A0 m c
  e1 : Cert.LossHeadRead.A1 m' c = Cert.LossHeadValue.A1 m c
  e2 : Cert.LossHeadRead.A2 m' c = Cert.LossHeadValue.A2 m c
  e3 : Cert.LossHeadRead.A3 m' c = Cert.LossHeadValue.A3 m c
  e4 : Cert.LossHeadRead.A4 m' c = Cert.LossHeadValue.A4 m c

/-- The arguments are real. -/
structure Finite : Prop where
  f0 : Cert.Scan.Real (Cert.LossHeadValue.A0 m c)
  f1 : Cert.Scan.Real (Cert.LossHeadValue.A1 m c)
  f2 : Cert.Scan.Real (Cert.LossHeadValue.A2 m c)
  f3 : Cert.Scan.Real (Cert.LossHeadValue.A3 m c)
  f4 : Cert.Scan.Real (Cert.LossHeadValue.A4 m c)

variable {m m' c}

theorem x_eq (s : Same m m' c) (R : Fin 4096) : Cert.LossHeadRead.x m' c R = Cert.LossHeadValue.xr m c R := by
  funext j
  unfold Cert.LossHeadValue.xr
  rw [← s.e0, ← s.e1, ← s.e2]
  exact Cert.LossHeadRead.xv_apply m' c R j

theorem e_eq (s : Same m m' c) (R : Fin 4096) : Cert.LossHeadRead.e m' c R = Cert.LossHeadValue.er m c R := by
  funext j
  unfold Cert.LossHeadValue.er
  rw [← x_eq s, ← s.e3, ← s.e4]
  exact Cert.LossHeadRead.ev_apply m' c R j

theorem y_eq (s : Same m m' c) (R : Fin 4096) (j : Fin 1024) : Cert.LossHeadRead.yv m' c (ix2 R j) = Cert.LossHeadValue.er m c R j * inv := by
  rw [← e_eq s]
  exact (Cert.LossHeadRead.yv_apply m' c R j).trans (Cert.LossHead.grad_eq _)

theorem dn_eq (s : Same m m' c) (R : Fin 4096) : Cert.LossHeadRead.dn m' c R = Cert.LossHeadValue.dn m c R := by
  funext j
  unfold Cert.LossHeadValue.dn
  rw [← y_eq s, ← s.e3]
  exact Cert.LossHeadRead.dv_apply m' c R j

theorem x_fin (f : Finite m c) (R : Fin 4096) (j : Fin 1024) : Cert.LossHeadValue.xr m c R j ≠ ⊥ ∧ Cert.LossHeadValue.xr m c R j ≠ ⊤ :=
  Cert.LossHead.add_fin (f.f0 _).symm (Cert.AdaBwd.mul_fin (f.f2 _).symm (f.f1 _).symm)

theorem e_fin (f : Finite m c) (R : Fin 4096) (j : Fin 1024) : Cert.LossHeadValue.er m c R j ≠ ⊥ ∧ Cert.LossHeadValue.er m c R j ≠ ⊤ :=
  Cert.LossHead.sub_fin (Cert.AdaBwd.mul_fin (Cert.AdaBwd.mul_fin (x_fin f R j) (Cert.LossHead.rinv_fin _ (x_fin f R))) (f.f3 _).symm) (f.f4 _).symm

theorem dn_fin (f : Finite m c) (R : Fin 4096) (j : Fin 1024) : Cert.LossHeadValue.dn m c R j ≠ ⊥ ∧ Cert.LossHeadValue.dn m c R j ≠ ⊤ :=
  Cert.AdaBwd.mul_fin (Cert.AdaBwd.mul_fin (e_fin f R j) Cert.LossHead.inv_fin) (f.f3 _).symm

theorem gx_eq (s : Same m m' c) (f : Finite m c) (R : Fin 4096) (j : Fin 1024) : Cert.LossHeadRead.gx m' c R j = Cert.LossHeadValue.gx m c R j := by
  unfold Cert.LossHeadRead.gx Cert.LossHeadValue.gx
  rw [dn_eq s, x_eq s]
  have h := Cert.AdaBwd.dx_eq _ _ (x_fin f R) (dn_fin f R) j 0
  rwa [zero_add, zero_add] at h

theorem row_0 (s : Same m m' c) (B : Fin 1024) :
    (∑ R : Fin 4096, Cert.LossHeadRead.x m' c R B * Cert.AdaBwd.rinv (Cert.LossHeadRead.x m' c R) * Cert.LossHeadRead.yv m' c (ix2 R B)) = ∑ R, Cert.LossHeadValue.add0 m c B R :=
  Finset.sum_congr rfl fun R _ => by
    unfold Cert.LossHeadValue.add0
    rw [y_eq s, x_eq s]; exact mul_comm _ _

theorem row_3 (s : Same m m' c) (f : Finite m c) (B : Fin 1024) :
    (∑ R : Fin 4096, Cert.LossHeadRead.gx m' c R B * Cert.LossHeadRead.A1 m' c (ix2 R B)) = ∑ R, Cert.LossHeadValue.add3 m c B R :=
  Finset.sum_congr rfl fun R _ => by
    unfold Cert.LossHeadValue.add3
    rw [gx_eq s f, s.e1]

theorem row_4 (s : Same m m' c) (f : Finite m c) :
    half * (∑ R : Fin 4096, Ideal.div (∑ k, Cert.LossHeadRead.e m' c R k * Cert.LossHeadRead.e m' c R k) Cert.AdaBwd.width)
      = ∑ b : Fin 16, half * ∑ r : Fin 256, Cert.LossHeadValue.add4 m c ⟨b.val * 256 + r.val, by omega⟩ := by
  refine (congrArg (half * ·) (Finset.sum_congr rfl fun R _ => ?_)).trans (Cert.LossHead.half_sum (Cert.LossHeadValue.add4 m c) fun R =>
    Cert.LossHead.div_fin (Cert.AdaBwd.sum_mul_fin _ _ (e_fin f R) (e_fin f R)))
  unfold Cert.LossHeadValue.add4
  rw [e_eq s]

theorem st_eq (s : Same m m' c) (f : Finite m c) (A : Fin 8) (B : Fin 1024) : Cert.LossHeadRead.rows m' c (ix2 A B) = Cert.LossHeadValue.st m c A B := by
  unfold Cert.LossHeadValue.st
  split
  · rename_i hA'
    rw [show A = 0 from Fin.ext hA']
    exact (Cert.LossHeadRead.st_0 m' c B).trans (row_0 s B)
  split
  · rename_i hA'
    rw [show A = 3 from Fin.ext hA']
    exact (Cert.LossHeadRead.st_3 m' c B).trans (row_3 s f B)
  split
  · rename_i hA'
    rw [show A = 4 from Fin.ext hA']
    exact (Cert.LossHeadRead.st_4 m' c B).trans (row_4 s f)
  rename_i h0 h3 h4
  have hA := A.isLt
  by_cases h : A.val < 3
  · exact Cert.LossHeadRead.st_rest_1 m' c A B ⟨A.val - 1, by omega⟩ (by show 1 + (A.val - 1) = A.val; omega)
  · exact Cert.LossHeadRead.st_rest_5 m' c A B ⟨A.val - 5, by omega⟩ (by show 5 + (A.val - 5) = A.val; omega)

end Cert.LossHeadEqual

namespace Cert.Proof

open Idealize.ShloMosaic Idealize.ShloMosaic.TcCoe Idealize.SL.Sem

theorem frame_loss_head : Cert.quiescent_LossHead := fun m ρ _ => Cert.LossHead.Gen.frame m ρ
theorem frame_loss_head_ideal : Cert.quiescent_LossHeadIdeal := fun m ρ _ => Cert.LossHeadIdeal.Gen.frame m ρ
theorem frame_loss_head_reference : Cert.quiescent_LossHeadRefIdeal := fun m ρ _ =>
  (θ_run Cert.LossHeadRefIdeal.defs _ _).mono (fun r h => ⟨fun c => (h c).2.2.2, sem_eq_zero_of_no_sems (by decide) r.2⟩)
    (Cert.LossHeadRefIdeal.Value.run (F := Ideal) m ρ)
theorem frame_loss_head_ideal_finite : Cert.quiescent_LossHeadIdeal_pre_finite_loss := fun m ρ _ => Cert.LossHeadIdeal.Gen.frame m ρ
theorem frame_loss_head_reference_finite : Cert.quiescent_LossHeadRefIdeal_pre_finite_loss := fun m ρ _ =>
  (θ_run Cert.LossHeadRefIdeal.defs _ _).mono (fun r h => ⟨fun c => (h c).2.2.2, sem_eq_zero_of_no_sems (by decide) r.2⟩)
    (Cert.LossHeadRefIdeal.Value.run (F := Ideal) m ρ)

theorem loss_head_equal : Cert.algebraic_LossHeadIdeal_LossHeadRefIdeal_pre_finite_loss := by
  intro m ρ m' ρ' hp ha
  refine ⟨fun c => (Cert.LossHeadIdeal.Gen.dats m 0 c).arrAt 5 Cert.LossHeadIdeal.cfg0.N,
    fun c => (Cert.LossHeadIdeal.Gen.dats m 0 c).arrAt 6 Cert.LossHeadIdeal.cfg0.N,
    fun c => (Cert.LossHeadIdeal.Gen.dats m 0 c).arrAt 7 Cert.LossHeadIdeal.cfg0.N,
    Cert.LossHeadIdeal.Value.run_blocks m ρ, ?_⟩
  refine (θ_run Cert.LossHeadRefIdeal.defs _ _).mono (fun r h c => ?_) (Cert.LossHeadRefIdeal.Value.run (F := Ideal) m' ρ')
  obtain ⟨a0, a1, a2, a3, a4⟩ := ha c
  have sm : Cert.LossHeadEqual.Same m m' c := ⟨a0, a1, a2, a3, a4⟩
  have fi : Cert.LossHeadEqual.Finite m c := ⟨fun i => Cert.Scan.real_of_abs_lt (congrFun (hp c).1 i),
    fun i => Cert.Scan.real_of_abs_lt (congrFun (hp c).2.1 i),
    fun i => Cert.Scan.real_of_abs_lt (congrFun (hp c).2.2.1 i),
    fun i => Cert.Scan.real_of_abs_lt (congrFun (hp c).2.2.2.1 i),
    fun i => Cert.Scan.real_of_abs_lt (congrFun (hp c).2.2.2.2 i)⟩
  refine ⟨(h c).1.trans ?_, (h c).2.1.trans ?_, (h c).2.2.1.trans ?_, (h c).2.2.2⟩ <;> clear h
  · clear ha a0 a1 a2 a3 a4
    funext (y : Cert.LossHeadIdeal.S4096x1024.Idx)
    have e : y = ix2 (y 0) (y 1) := by
      funext a; match a with | ⟨0, _⟩ => rfl | ⟨1, _⟩ => rfl
    generalize y 0 = A at e; generalize y 1 = B at e
    rw [e]
    refine Eq.trans ?_ (Cert.LossHeadValue.final_dx m c A B).symm
    rw [Cert.LossHeadRead.gv_eq]
    exact (Cert.LossHeadRead.gv_apply m' c A B).trans (Cert.LossHeadEqual.gx_eq sm fi A B)
  · clear ha a0 a1 a2 a3 a4
    funext (y : Cert.LossHeadIdeal.S4096x1024.Idx)
    have e : y = ix2 (y 0) (y 1) := by
      funext a; match a with | ⟨0, _⟩ => rfl | ⟨1, _⟩ => rfl
    generalize y 0 = A at e; generalize y 1 = B at e
    rw [e]
    refine Eq.trans ?_ (Cert.LossHeadValue.final_dt m c A B).symm
    refine (Cert.LossHeadRead.dt m' c A B).trans ?_
    rw [Cert.LossHeadEqual.gx_eq sm fi A B, sm.e2]
  · clear ha a0 a1 a2 a3 a4
    funext (y : Cert.LossHeadIdeal.S8x1024.Idx)
    have e : y = ix2 (y 0) (y 1) := by
      funext a; match a with | ⟨0, _⟩ => rfl | ⟨1, _⟩ => rfl
    generalize y 0 = A at e; generalize y 1 = B at e
    rw [e]
    refine Eq.trans ?_ (Cert.LossHeadValue.final_st m c A B).symm
    rw [Cert.LossHeadRead.rows_eq]
    exact Cert.LossHeadEqual.st_eq sm fi A B

end Cert.Proof

end
-- ==== Proof.OutDwValue.lean ====
/-
  The result of `kernel_out_dw`, read at an index.
-/
module

public import proofs.«01_k».proof.Proof.Gen.OutDwIdeal.Value
public import Idealize.ShloMosaic.Lib.Pipeline.ValueKit.Point
public import Idealize.ShloMosaic.Lib.Pipeline.ReadBack
public import Idealize.ShloMosaic.Lib.StableHlo.RunRead

@[expose] public section

noncomputable section

namespace Cert.OutDwValue

open Idealize.ShloMosaic Idealize.ShloMosaic.TcCoe Idealize.SL.Sem
open Cert.OutDwIdeal Cert.OutDwIdeal.Gen

variable (m : (ℓ : Loc nD τ sig) → Buf (Elt Ideal) ℓ) (c : Dev nD)

theorem idx : ∀ t : Fin cfg0.N, win0_0.index t (0 : Fin 2) = t.val
    ∧ win0_0.index t (1 : Fin 2) = 0
    ∧ win0_1.index t (0 : Fin 2) = t.val
    ∧ win0_1.index t (1 : Fin 2) = 0
    ∧ win0_2.index t (0 : Fin 2) = 0
    ∧ win0_2.index t (1 : Fin 2) = 0 :=
  (by decide +kernel : ∀ t : Fin grid0.N, _)

/-- The argument arrays. -/
abbrev A0 : Vec Ideal S4096x1024 .bf16 := m ((c : Thread nD τ).loc main_arg0)
abbrev A1 : Vec Ideal S4096x1024 .bf16 := m ((c : Thread nD τ).loc main_arg1)

/-- The blocks a point reads. -/
abbrev X0 (t : Fin cfg0.N) : Vec Ideal S1024x1024 .bf16 := iblk m c 0 t
abbrev X1 (t : Fin cfg0.N) : Vec Ideal S1024x1024 .bf16 := iblk m c 1 t

theorem block_0 (t : Fin cfg0.N) (a : Fin 1024) (b : Fin 1024) (A : Fin 4096) (B : Fin 1024)
    (h0 : (t.val) * 1024 + a.val = A.val) (h1 : b.val = B.val) : X0 m c t (ix2 a b) = A0 m c (ix2 A B) := by
  obtain ⟨e0, e1, _⟩ := idx t
  blk_ext [X0, A0, iblk, V, e0, e1]

theorem block_1 (t : Fin cfg0.N) (a : Fin 1024) (b : Fin 1024) (A : Fin 4096) (B : Fin 1024)
    (h0 : (t.val) * 1024 + a.val = A.val) (h1 : b.val = B.val) : X1 m c t (ix2 a b) = A1 m c (ix2 A B) := by
  obtain ⟨_, _, e0, e1, _⟩ := idx t
  blk_ext [X1, A1, iblk, V, e0, e1]

/-- A sum in four quarters. -/
theorem quarters (n : ℕ) (f : Fin (n + n + n + n) → EReal) :
    ∑ k, f k = (∑ k : Fin n, f ⟨k.val, by omega⟩) + (∑ k : Fin n, f ⟨n + k.val, by omega⟩) + (∑ k : Fin n, f ⟨n + n + k.val, by omega⟩)
      + ∑ k : Fin n, f ⟨n + n + n + k.val, by omega⟩ := by
  rw [Fin.sum_univ_add f, Fin.sum_univ_add fun i => f (Fin.castAdd n i), Fin.sum_univ_add fun i => f (Fin.castAdd n (Fin.castAdd n i))]
  rfl

/-- What a point adds. -/
def part (t : Fin cfg0.N) (a : Fin 1024) (b : Fin 1024) : EReal := ∑ k : Fin 1024, X0 m c t (ix2 k a) * X1 m c t (ix2 k b)

theorem first (t : Fin cfg0.N) (h : t.val = 0) (a : Fin 1024) (b : Fin 1024) : (outsAt0 m c t.val t.isLt).2 (ix2 a b) = part m c t a b := by
  rw [outsAt0_A m c t (by omega) (by omega) (by omega)]
  frame_out
  open_payloads
  pointwise [read_unread_whole]
  rfl

theorem before (t t' : Fin cfg0.N) (ht : t'.val + 1 = t.val) :
    (outsAt0 m c (t.val - 1) (by have := t.isLt; omega)).2 = (outsAt0 m c t'.val t'.isLt).2 := by
  congr 2; omega

theorem next (t t' : Fin cfg0.N) (h : ¬t.val % 4 = 3) (h0 : t.val < 4) (ht : t'.val + 1 = t.val) (a : Fin 1024) (b : Fin 1024) :
    (outsAt0 m c t.val t.isLt).2 (ix2 a b) = (outsAt0 m c t'.val t'.isLt).2 (ix2 a b) + part m c t a b := by
  rw [outsAt0_B m c t (by omega) (by omega) h, before m c t t' ht]
  generalize (outsAt0 m c t'.val t'.isLt).2 = acc
  frame_out
  open_payloads
  pointwise [read_unread_whole]
  rfl

theorem last (t t' : Fin cfg0.N) (h : t.val % 4 = 3) (ht : t'.val + 1 = t.val) (a : Fin 1024) (b : Fin 1024) :
    (outsAt0 m c t.val t.isLt).1 (ix2 a b) = (outsAt0 m c t'.val t'.isLt).2 (ix2 a b) + part m c t a b := by
  rw [outsAt0_C m c t (by omega) (by omega) h, before m c t t' ht]
  generalize (outsAt0 m c t'.val t'.isLt).2 = acc
  frame_out
  open_payloads
  pointwise [read_unread_whole]
  rfl

theorem part_at (t : Fin cfg0.N) (a : Fin 1024) (b : Fin 1024) (n : ℕ) (hn : n ≤ 3072) (h : t.val * 1024 = n) :
    part m c t a b = ∑ k : Fin 1024, A0 m c (ix2 ⟨n + k.val, by omega⟩ a) * A1 m c (ix2 ⟨n + k.val, by omega⟩ b) :=
  Finset.sum_congr rfl fun k _ => by
    rw [block_0 m c t k a ⟨n + k.val, by omega⟩ a (by show _ = n + k.val; omega) rfl, block_1 m c t k b ⟨n + k.val, by omega⟩ b (by show _ = n + k.val; omega) rfl]

theorem final_out (A : Fin 1024) (B : Fin 1024) : (dats m 0 c).arrAt 2 cfg0.N (ix2 A B) = ∑ k : Fin 4096, A0 m c (ix2 k A) * A1 m c (ix2 k B) := by
  let t : Fin cfg0.N := ⟨3, by show _ < 4; omega⟩
  have ht : t.val = 3 := rfl
  obtain ⟨_, _, _, _, e0, e1⟩ := idx t
  let a : Fin 1024 := ⟨A.val % 1024, by omega⟩
  have ha : a.val = A.val % 1024 := rfl
  let b : Fin 1024 := ⟨B.val % 1024, by omega⟩
  have hb : b.val = B.val % 1024 := rfl
  have bl := congrFun (Value.flushed2_eq m c t ((flush0_2 t).mpr (by omega))).symm (ix2 a b)
  rw [← Value.final2, Value.flushed2] at bl
  have e : ((cfg0.win 2).blk t).view.emb (ix2 a b) = (ix2 A B : S1024x1024.Idx) := by
    funext x; apply Fin.ext
    match x with
    | ⟨0, _⟩ => show win0_2.index t (0 : Fin 2) * 1024 + 1 * (A.val % 1024) = A.val; omega
    | ⟨1, _⟩ => show win0_2.index t (1 : Fin 2) * 1024 + 1 * (B.val % 1024) = B.val; omega
  have b' : (dats m 0 c).arrAt 2 cfg0.N (((cfg0.win 2).blk t).view.emb (ix2 a b)) = (outsAt0 m c t.val t.isLt).1 (ix2 a b) := bl
  rw [e] at b'
  clear e bl
  have hA : a = A := Fin.ext (by omega)
  have hB : b = B := Fin.ext (by omega)
  have hN : cfg0.N = 4 := N_0
  obtain ⟨t0, h0⟩ : ∃ t : Fin cfg0.N, t.val = 0 := ⟨⟨0, by omega⟩, rfl⟩
  obtain ⟨t1, h1⟩ : ∃ t : Fin cfg0.N, t.val = 1 := ⟨⟨1, by omega⟩, rfl⟩
  obtain ⟨t2, h2⟩ : ∃ t : Fin cfg0.N, t.val = 2 := ⟨⟨2, by omega⟩, rfl⟩
  rw [b', last m c t t2 (by omega) (by omega), next m c t2 t1 (by omega) (by omega) (by omega), next m c t1 t0 (by omega) (by omega) (by omega),
    first m c t0 h0, part_at m c t0 a b 0 (by omega) (by omega), part_at m c t1 a b 1024 (by omega) (by omega),
    part_at m c t2 a b (1024 + 1024) (by omega) (by omega), part_at m c t a b (1024 + 1024 + 1024) (by omega) (by omega), hA, hB]
  refine Eq.trans ?_ (quarters 1024 fun k : Fin 4096 => A0 m c (ix2 k A) * A1 m c (ix2 k B)).symm
  refine congrArg (· + _ + _ + _) (Finset.sum_congr rfl fun k _ => ?_)
  rw [show (⟨0 + k.val, by omega⟩ : Fin 4096) = ⟨k.val, by omega⟩ from Fin.ext (Nat.zero_add _)]

end Cert.OutDwValue

end
-- ==== Proof.OutDwEqual.lean ====
/-
  `kernel_out_dw` against its reference.
-/
module

public import proofs.«01_k».proof.Defs
public import proofs.«01_k».proof.Proof.Gen.OutDw.Frame
public import proofs.«01_k».proof.Proof.Gen.OutDwRefIdeal.Run
public import proofs.«01_k».proof.Proof.OutDwValue
public import Idealize.ShloMosaic.Adequacy

@[expose] public section

noncomputable section

namespace Cert.Proof

open Idealize.ShloMosaic Idealize.ShloMosaic.TcCoe Idealize.SL.Sem

theorem frame_out_dw : Cert.quiescent_OutDw := fun m ρ _ => Cert.OutDw.Gen.frame m ρ
theorem frame_out_dw_ideal : Cert.quiescent_OutDwIdeal := fun m ρ _ => Cert.OutDwIdeal.Gen.frame m ρ
theorem frame_out_dw_reference : Cert.quiescent_OutDwRefIdeal := fun m ρ _ =>
  (θ_run Cert.OutDwRefIdeal.defs _ _).mono (fun r h => ⟨fun c => (h c).2, sem_eq_zero_of_no_sems (by decide) r.2⟩)
    (Cert.OutDwRefIdeal.Value.run (F := Ideal) m ρ)

theorem out_dw_equal : Cert.algebraic_OutDwIdeal_OutDwRefIdeal := by
  intro m ρ m' ρ' _ ha
  refine ⟨fun c => (Cert.OutDwIdeal.Gen.dats m 0 c).arrAt 2 Cert.OutDwIdeal.cfg0.N,
    Cert.OutDwIdeal.Value.run_blocks m ρ, ?_⟩
  refine (θ_run Cert.OutDwRefIdeal.defs _ _).mono (fun r h c => ?_) (Cert.OutDwRefIdeal.Value.run (F := Ideal) m' ρ')
  obtain ⟨a0, a1⟩ := ha c
  refine ⟨(h c).1.trans ?_, (h c).2⟩ <;> clear h
  · try rw [a0]
    try rw [a1]
    clear ha a0 a1
    funext (y : Cert.OutDwIdeal.S1024x1024.Idx)
    have e : y = ix2 (y 0) (y 1) := by
      funext a; match a with | ⟨0, _⟩ => rfl | ⟨1, _⟩ => rfl
    generalize y 0 = A at e; generalize y 1 = B at e
    rw [e]
    refine Eq.trans ?_ (Cert.OutDwValue.final_out m c A B).symm
    pointwise
    exact Finset.sum_congr rfl fun k _ => mul_comm _ _

end Cert.Proof

end
-- ==== Proof.BranchDwValue.lean ====
/-
  The result of `kernel_branch_dw`, read at an index.
-/
module

public import proofs.«01_k».proof.Proof.Gen.BranchDwIdeal.Value
public import Idealize.ShloMosaic.Lib.Pipeline.ValueKit.Point
public import Idealize.ShloMosaic.Lib.Pipeline.ReadBack
public import Idealize.ShloMosaic.Lib.StableHlo.RunRead

@[expose] public section

noncomputable section

namespace Cert.BranchDwValue

open Idealize.ShloMosaic Idealize.ShloMosaic.TcCoe Idealize.SL.Sem
open Cert.BranchDwIdeal Cert.BranchDwIdeal.Gen

variable (m : (ℓ : Loc nD τ sig) → Buf (Elt Ideal) ℓ) (c : Dev nD)

theorem idx : ∀ t : Fin cfg0.N, win0_0.index t (0 : Fin 2) = t.val
    ∧ win0_0.index t (1 : Fin 2) = 0
    ∧ win0_1.index t (0 : Fin 2) = t.val
    ∧ win0_1.index t (1 : Fin 2) = 0
    ∧ win0_2.index t (0 : Fin 2) = 0
    ∧ win0_2.index t (1 : Fin 2) = 0 :=
  (by decide +kernel : ∀ t : Fin grid0.N, _)

/-- The argument arrays. -/
abbrev A0 : Vec Ideal S4096x512 .bf16 := m ((c : Thread nD τ).loc main_arg0)
abbrev A1 : Vec Ideal S4096x1024 .bf16 := m ((c : Thread nD τ).loc main_arg1)

/-- The blocks a point reads. -/
abbrev X0 (t : Fin cfg0.N) : Vec Ideal S1024x512 .bf16 := iblk m c 0 t
abbrev X1 (t : Fin cfg0.N) : Vec Ideal S1024x1024 .bf16 := iblk m c 1 t

theorem block_0 (t : Fin cfg0.N) (a : Fin 1024) (b : Fin 512) (A : Fin 4096) (B : Fin 512)
    (h0 : (t.val) * 1024 + a.val = A.val) (h1 : b.val = B.val) : X0 m c t (ix2 a b) = A0 m c (ix2 A B) := by
  obtain ⟨e0, e1, _⟩ := idx t
  blk_ext [X0, A0, iblk, V, e0, e1]

theorem block_1 (t : Fin cfg0.N) (a : Fin 1024) (b : Fin 1024) (A : Fin 4096) (B : Fin 1024)
    (h0 : (t.val) * 1024 + a.val = A.val) (h1 : b.val = B.val) : X1 m c t (ix2 a b) = A1 m c (ix2 A B) := by
  obtain ⟨_, _, e0, e1, _⟩ := idx t
  blk_ext [X1, A1, iblk, V, e0, e1]

/-- A sum in four quarters. -/
theorem quarters (n : ℕ) (f : Fin (n + n + n + n) → EReal) :
    ∑ k, f k = (∑ k : Fin n, f ⟨k.val, by omega⟩) + (∑ k : Fin n, f ⟨n + k.val, by omega⟩) + (∑ k : Fin n, f ⟨n + n + k.val, by omega⟩)
      + ∑ k : Fin n, f ⟨n + n + n + k.val, by omega⟩ := by
  rw [Fin.sum_univ_add f, Fin.sum_univ_add fun i => f (Fin.castAdd n i), Fin.sum_univ_add fun i => f (Fin.castAdd n (Fin.castAdd n i))]
  rfl

/-- What a point adds. -/
def part (t : Fin cfg0.N) (a : Fin 512) (b : Fin 1024) : EReal := ∑ k : Fin 1024, X0 m c t (ix2 k a) * X1 m c t (ix2 k b)

theorem first (t : Fin cfg0.N) (h : t.val = 0) (a : Fin 512) (b : Fin 1024) : (outsAt0 m c t.val t.isLt).2 (ix2 a b) = part m c t a b := by
  rw [outsAt0_A m c t (by omega) (by omega) (by omega)]
  frame_out
  open_payloads
  pointwise [read_unread_whole]
  rfl

theorem before (t t' : Fin cfg0.N) (ht : t'.val + 1 = t.val) :
    (outsAt0 m c (t.val - 1) (by have := t.isLt; omega)).2 = (outsAt0 m c t'.val t'.isLt).2 := by
  congr 2; omega

theorem next (t t' : Fin cfg0.N) (h : ¬t.val % 4 = 3) (h0 : t.val < 4) (ht : t'.val + 1 = t.val) (a : Fin 512) (b : Fin 1024) :
    (outsAt0 m c t.val t.isLt).2 (ix2 a b) = (outsAt0 m c t'.val t'.isLt).2 (ix2 a b) + part m c t a b := by
  rw [outsAt0_B m c t (by omega) (by omega) h, before m c t t' ht]
  generalize (outsAt0 m c t'.val t'.isLt).2 = acc
  frame_out
  open_payloads
  pointwise [read_unread_whole]
  rfl

theorem last (t t' : Fin cfg0.N) (h : t.val % 4 = 3) (ht : t'.val + 1 = t.val) (a : Fin 512) (b : Fin 1024) :
    (outsAt0 m c t.val t.isLt).1 (ix2 a b) = (outsAt0 m c t'.val t'.isLt).2 (ix2 a b) + part m c t a b := by
  rw [outsAt0_C m c t (by omega) (by omega) h, before m c t t' ht]
  generalize (outsAt0 m c t'.val t'.isLt).2 = acc
  frame_out
  open_payloads
  pointwise [read_unread_whole]
  rfl

theorem part_at (t : Fin cfg0.N) (a : Fin 512) (b : Fin 1024) (n : ℕ) (hn : n ≤ 3072) (h : t.val * 1024 = n) :
    part m c t a b = ∑ k : Fin 1024, A0 m c (ix2 ⟨n + k.val, by omega⟩ a) * A1 m c (ix2 ⟨n + k.val, by omega⟩ b) :=
  Finset.sum_congr rfl fun k _ => by
    rw [block_0 m c t k a ⟨n + k.val, by omega⟩ a (by show _ = n + k.val; omega) rfl, block_1 m c t k b ⟨n + k.val, by omega⟩ b (by show _ = n + k.val; omega) rfl]

theorem final_out (A : Fin 512) (B : Fin 1024) : (dats m 0 c).arrAt 2 cfg0.N (ix2 A B) = ∑ k : Fin 4096, A0 m c (ix2 k A) * A1 m c (ix2 k B) := by
  let t : Fin cfg0.N := ⟨3, by show _ < 4; omega⟩
  have ht : t.val = 3 := rfl
  obtain ⟨_, _, _, _, e0, e1⟩ := idx t
  let a : Fin 512 := ⟨A.val % 512, by omega⟩
  have ha : a.val = A.val % 512 := rfl
  let b : Fin 1024 := ⟨B.val % 1024, by omega⟩
  have hb : b.val = B.val % 1024 := rfl
  have bl := congrFun (Value.flushed2_eq m c t ((flush0_2 t).mpr (by omega))).symm (ix2 a b)
  rw [← Value.final2, Value.flushed2] at bl
  have e : ((cfg0.win 2).blk t).view.emb (ix2 a b) = (ix2 A B : S512x1024.Idx) := by
    funext x; apply Fin.ext
    match x with
    | ⟨0, _⟩ => show win0_2.index t (0 : Fin 2) * 512 + 1 * (A.val % 512) = A.val; omega
    | ⟨1, _⟩ => show win0_2.index t (1 : Fin 2) * 1024 + 1 * (B.val % 1024) = B.val; omega
  have b' : (dats m 0 c).arrAt 2 cfg0.N (((cfg0.win 2).blk t).view.emb (ix2 a b)) = (outsAt0 m c t.val t.isLt).1 (ix2 a b) := bl
  rw [e] at b'
  clear e bl
  have hA : a = A := Fin.ext (by omega)
  have hB : b = B := Fin.ext (by omega)
  have hN : cfg0.N = 4 := N_0
  obtain ⟨t0, h0⟩ : ∃ t : Fin cfg0.N, t.val = 0 := ⟨⟨0, by omega⟩, rfl⟩
  obtain ⟨t1, h1⟩ : ∃ t : Fin cfg0.N, t.val = 1 := ⟨⟨1, by omega⟩, rfl⟩
  obtain ⟨t2, h2⟩ : ∃ t : Fin cfg0.N, t.val = 2 := ⟨⟨2, by omega⟩, rfl⟩
  rw [b', last m c t t2 (by omega) (by omega), next m c t2 t1 (by omega) (by omega) (by omega), next m c t1 t0 (by omega) (by omega) (by omega),
    first m c t0 h0, part_at m c t0 a b 0 (by omega) (by omega), part_at m c t1 a b 1024 (by omega) (by omega),
    part_at m c t2 a b (1024 + 1024) (by omega) (by omega), part_at m c t a b (1024 + 1024 + 1024) (by omega) (by omega), hA, hB]
  refine Eq.trans ?_ (quarters 1024 fun k : Fin 4096 => A0 m c (ix2 k A) * A1 m c (ix2 k B)).symm
  refine congrArg (· + _ + _ + _) (Finset.sum_congr rfl fun k _ => ?_)
  rw [show (⟨0 + k.val, by omega⟩ : Fin 4096) = ⟨k.val, by omega⟩ from Fin.ext (Nat.zero_add _)]

end Cert.BranchDwValue

end
-- ==== Proof.BranchDwEqual.lean ====
/-
  `kernel_branch_dw` against its reference.
-/
module

public import proofs.«01_k».proof.Defs
public import proofs.«01_k».proof.Proof.Gen.BranchDw.Frame
public import proofs.«01_k».proof.Proof.Gen.BranchDwRefIdeal.Run
public import proofs.«01_k».proof.Proof.BranchDwValue
public import Idealize.ShloMosaic.Adequacy

@[expose] public section

noncomputable section

namespace Cert.Proof

open Idealize.ShloMosaic Idealize.ShloMosaic.TcCoe Idealize.SL.Sem

theorem frame_branch_dw : Cert.quiescent_BranchDw := fun m ρ _ => Cert.BranchDw.Gen.frame m ρ
theorem frame_branch_dw_ideal : Cert.quiescent_BranchDwIdeal := fun m ρ _ => Cert.BranchDwIdeal.Gen.frame m ρ
theorem frame_branch_dw_reference : Cert.quiescent_BranchDwRefIdeal := fun m ρ _ =>
  (θ_run Cert.BranchDwRefIdeal.defs _ _).mono (fun r h => ⟨fun c => (h c).2, sem_eq_zero_of_no_sems (by decide) r.2⟩)
    (Cert.BranchDwRefIdeal.Value.run (F := Ideal) m ρ)

theorem branch_dw_equal : Cert.algebraic_BranchDwIdeal_BranchDwRefIdeal := by
  intro m ρ m' ρ' _ ha
  refine ⟨fun c => (Cert.BranchDwIdeal.Gen.dats m 0 c).arrAt 2 Cert.BranchDwIdeal.cfg0.N,
    Cert.BranchDwIdeal.Value.run_blocks m ρ, ?_⟩
  refine (θ_run Cert.BranchDwRefIdeal.defs _ _).mono (fun r h c => ?_) (Cert.BranchDwRefIdeal.Value.run (F := Ideal) m' ρ')
  obtain ⟨a0, a1⟩ := ha c
  refine ⟨(h c).1.trans ?_, (h c).2⟩ <;> clear h
  · try rw [a0]
    try rw [a1]
    clear ha a0 a1
    funext (y : Cert.BranchDwIdeal.S512x1024.Idx)
    have e : y = ix2 (y 0) (y 1) := by
      funext a; match a with | ⟨0, _⟩ => rfl | ⟨1, _⟩ => rfl
    generalize y 0 = A at e; generalize y 1 = B at e
    rw [e]
    refine Eq.trans ?_ (Cert.BranchDwValue.final_out m c A B).symm
    pointwise
    exact Finset.sum_congr rfl fun k _ => mul_comm _ _

end Cert.Proof

end
-- ==== Proof.BranchDxValue.lean ====
/-
  The result of `kernel_branch_dx`, read at an index.
-/
module

public import proofs.«01_k».proof.Proof.Gen.BranchDxIdeal.Value
public import Idealize.ShloMosaic.Lib.Pipeline.ValueKit.Point
public import Idealize.ShloMosaic.Lib.Pipeline.ReadBack
public import Idealize.ShloMosaic.Lib.StableHlo.RunRead

@[expose] public section

noncomputable section

namespace Cert.BranchDxValue

open Idealize.ShloMosaic Idealize.ShloMosaic.TcCoe Idealize.SL.Sem
open Cert.BranchDxIdeal Cert.BranchDxIdeal.Gen

variable (m : (ℓ : Loc nD τ sig) → Buf (Elt Ideal) ℓ) (c : Dev nD)

theorem idx : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-- The argument arrays. -/
abbrev A0 : Vec Ideal S4096x1024 .bf16 := m ((c : Thread nD τ).loc main_arg0)
abbrev A1 : Vec Ideal S512x1024 .f32 := m ((c : Thread nD τ).loc main_arg1)

/-- The blocks a point reads. -/
abbrev X0 (t : Fin cfg0.N) : Vec Ideal S1024x1024 .bf16 := iblk m c 0 t
abbrev X1 (t : Fin cfg0.N) : Vec Ideal S512x1024 .bf16 := iblk m c 1 t

/-- The weight. -/
theorem entry_v0 : V m c main_v0 = truncf (F := Ideal) .bf16 (m ((c : Thread nD τ).loc main_arg1) : FVec Ideal S512x1024 .f32) bitsLt_bf16_f32 := by
  show StableHlo.after ([hostOps0] : List (List (HloOp τ sig (Elt Ideal)))).flatten (fun b => m (c, b)) (Proc.tc.devRef main_v0) = _
  simp only [List.flatten_cons, List.flatten_nil, List.cons_append, List.nil_append, List.append_nil]
  after_reads_simp

theorem block_0 (t : Fin cfg0.N) (a : Fin 1024) (b : Fin 1024) (A : Fin 4096) (B : Fin 1024)
    (h0 : (t.val) * 1024 + a.val = A.val) (h1 : b.val = B.val) : X0 m c t (ix2 a b) = A0 m c (ix2 A B) := by
  obtain ⟨e0, e1, _⟩ := idx t
  blk_ext [X0, A0, iblk, V, e0, e1]

theorem block_1 (t : Fin cfg0.N) (a : Fin 512) (b : Fin 1024) (A : Fin 512) (B : Fin 1024)
    (h0 : a.val = A.val) (h1 : b.val = B.val) : X1 m c t (ix2 a b) = A1 m c (ix2 A B) := by
  obtain ⟨_, _, e0, e1, _⟩ := idx t
  show V m c main_v0 (((cfg0.win 1).blk t).view.emb (ix2 a b )) = _
  have e : ((cfg0.win 1).blk t).view.emb (ix2 a b) = (ix2 A B : S512x1024.Idx) := by
    funext x; apply Fin.ext
    match x with
    | ⟨0, _⟩ => show win0_1.index t (0 : Fin 2) * 512 + 1 * a.val = A.val; omega
    | ⟨1, _⟩ => show win0_1.index t (1 : Fin 2) * 1024 + 1 * b.val = B.val; omega
  rw [e, entry_v0]
  pointwise

theorem out (t : Fin cfg0.N) (a : Fin 1024) (b : Fin 512) : out0_2 (X0 m c t) (X1 m c t) (ix2 a b)
    = ∑ k : Fin 1024, X0 m c t (ix2 a k) * X1 m c t (ix2 b k) := by
  frame_out
  open_payloads
  pointwise [read_unread_whole]

theorem final_out (A : Fin 4096) (B : Fin 512) : (dats m 0 c).arrAt 2 cfg0.N (ix2 A B) = (∑ k : Fin 1024, A0 m c (ix2 A k) * A1 m c (ix2 B k) : EReal) := by
  let t : Fin cfg0.N := ⟨A.val / 1024, by show _ < 4; omega⟩
  have ht : t.val = A.val / 1024 := rfl
  obtain ⟨_, _, _, _, e0, e1⟩ := idx t
  let a : Fin 1024 := ⟨A.val % 1024, by omega⟩
  have ha : a.val = A.val % 1024 := rfl
  let b : Fin 512 := ⟨B.val % 512, by omega⟩
  have hb : b.val = B.val % 512 := rfl
  have bl := congrFun (Value.blocks2 m c t (flush0_2 t)) (ix2 a b)
  rw [Value.flushed2] at bl
  have e : ((cfg0.win 2).blk t).view.emb (ix2 a b) = (ix2 A B : S4096x512.Idx) := by
    funext x; apply Fin.ext
    match x with
    | ⟨0, _⟩ => show win0_2.index t (0 : Fin 2) * 1024 + 1 * (A.val % 1024) = A.val; omega
    | ⟨1, _⟩ => show win0_2.index t (1 : Fin 2) * 512 + 1 * (B.val % 512) = B.val; omega
  have b' : (dats m 0 c).arrAt 2 cfg0.N (((cfg0.win 2).blk t).view.emb (ix2 a b)) = out0_2 (X0 m c t) (X1 m c t) (ix2 a b) := bl
  rw [e] at b'
  clear e bl
  have q : (∑ k : Fin 1024, X0 m c t (ix2 a k) * X1 m c t (ix2 b k) : EReal) = ∑ k : Fin 1024, A0 m c (ix2 A k) * A1 m c (ix2 B k) :=
    Finset.sum_congr rfl fun k _ => by rw [block_0 m c t a k A k (by omega) rfl, block_1 m c t b k B k (by omega) rfl]
  exact (b'.trans (out m c t a b)).trans q

end Cert.BranchDxValue

end
-- ==== Proof.BranchDxEqual.lean ====
/-
  `kernel_branch_dx` against its reference.
-/
module

public import proofs.«01_k».proof.Defs
public import proofs.«01_k».proof.Proof.Gen.BranchDx.Frame
public import proofs.«01_k».proof.Proof.Gen.BranchDxRefIdeal.Run
public import proofs.«01_k».proof.Proof.BranchDxValue
public import Idealize.ShloMosaic.Adequacy

@[expose] public section

noncomputable section

namespace Cert.Proof

open Idealize.ShloMosaic Idealize.ShloMosaic.TcCoe Idealize.SL.Sem

theorem frame_branch_dx : Cert.quiescent_BranchDx := fun m ρ _ => Cert.BranchDx.Gen.frame m ρ
theorem frame_branch_dx_ideal : Cert.quiescent_BranchDxIdeal := fun m ρ _ => Cert.BranchDxIdeal.Gen.frame m ρ
theorem frame_branch_dx_reference : Cert.quiescent_BranchDxRefIdeal := fun m ρ _ =>
  (θ_run Cert.BranchDxRefIdeal.defs _ _).mono (fun r h => ⟨fun c => (h c).2, sem_eq_zero_of_no_sems (by decide) r.2⟩)
    (Cert.BranchDxRefIdeal.Value.run (F := Ideal) m ρ)

theorem branch_dx_equal : Cert.algebraic_BranchDxIdeal_BranchDxRefIdeal := by
  intro m ρ m' ρ' _ ha
  refine ⟨fun c => (Cert.BranchDxIdeal.Gen.dats m 0 c).arrAt 2 Cert.BranchDxIdeal.cfg0.N,
    Cert.BranchDxIdeal.Value.run_blocks m ρ, ?_⟩
  refine (θ_run Cert.BranchDxRefIdeal.defs _ _).mono (fun r h c => ?_) (Cert.BranchDxRefIdeal.Value.run (F := Ideal) m' ρ')
  obtain ⟨a0, a1⟩ := ha c
  refine ⟨(h c).1.trans ?_, (h c).2⟩ <;> clear h
  · try rw [a0]
    try rw [a1]
    clear ha a0 a1
    funext (y : Cert.BranchDxIdeal.S4096x512.Idx)
    have e : y = ix2 (y 0) (y 1) := by
      funext a; match a with | ⟨0, _⟩ => rfl | ⟨1, _⟩ => rfl
    generalize y 0 = A at e; generalize y 1 = B at e
    rw [e]
    refine Eq.trans ?_ (Cert.BranchDxValue.final_out m c A B).symm
    pointwise

end Cert.Proof

end
-- ==== Proof.FfnOutLastValue.lean ====
/-
  The result of `kernel_ffn_out_last`, read at an index.
-/
module

public import proofs.«01_k».proof.Proof.Gen.FfnOutLastIdeal.Value
public import Idealize.ShloMosaic.Lib.Pipeline.ValueKit.Point
public import Idealize.ShloMosaic.Lib.Pipeline.ReadBack
public import Idealize.ShloMosaic.Lib.StableHlo.RunRead

@[expose] public section

noncomputable section

namespace Cert.FfnOutLastValue

open Idealize.ShloMosaic Idealize.ShloMosaic.TcCoe Idealize.SL.Sem
open Cert.FfnOutLastIdeal Cert.FfnOutLastIdeal.Gen

variable (m : (ℓ : Loc nD τ sig) → Buf (Elt Ideal) ℓ) (c : Dev nD)

theorem idx : ∀ t : Fin cfg0.N, win0_0.index t (0 : Fin 2) = t.val / 2
    ∧ win0_0.index t (1 : Fin 2) = t.val % 2
    ∧ win0_1.index t (0 : Fin 2) = t.val % 2
    ∧ win0_1.index t (1 : Fin 2) = 0
    ∧ win0_2.index t (0 : Fin 2) = t.val / 2
    ∧ win0_2.index t (1 : Fin 2) = 0 :=
  (by decide +kernel : ∀ t : Fin grid0.N, _)

/-- The argument arrays. -/
abbrev A0 : Vec Ideal S4096x2816 .bf16 := m ((c : Thread nD τ).loc main_arg0)
abbrev A1 : Vec Ideal S2816x1024 .f32 := m ((c : Thread nD τ).loc main_arg1)

/-- The blocks a point reads. -/
abbrev X0 (t : Fin cfg0.N) : Vec Ideal S1024x1408 .bf16 := iblk m c 0 t
abbrev X1 (t : Fin cfg0.N) : Vec Ideal S1408x1024 .bf16 := iblk m c 1 t

/-- The weight. -/
theorem entry_v0 : V m c main_v0 = truncf (F := Ideal) .bf16 (m ((c : Thread nD τ).loc main_arg1) : FVec Ideal S2816x1024 .f32) bitsLt_bf16_f32 := by
  show StableHlo.after ([hostOps0] : List (List (HloOp τ sig (Elt Ideal)))).flatten (fun b => m (c, b)) (Proc.tc.devRef main_v0) = _
  simp only [List.flatten_cons, List.flatten_nil, List.cons_append, List.nil_append, List.append_nil]
  after_reads_simp

theorem block_0 (t : Fin cfg0.N) (a : Fin 1024) (b : Fin 1408) (A : Fin 4096) (B : Fin 2816)
    (h0 : (t.val / 2) * 1024 + a.val = A.val) (h1 : (t.val % 2) * 1408 + b.val = B.val) : X0 m c t (ix2 a b) = A0 m c (ix2 A B) := by
  obtain ⟨e0, e1, _⟩ := idx t
  blk_ext [X0, A0, iblk, V, e0, e1]

theorem block_1 (t : Fin cfg0.N) (a : Fin 1408) (b : Fin 1024) (A : Fin 2816) (B : Fin 1024)
    (h0 : (t.val % 2) * 1408 + a.val = A.val) (h1 : b.val = B.val) : X1 m c t (ix2 a b) = A1 m c (ix2 A B) := by
  obtain ⟨_, _, e0, e1, _⟩ := idx t
  show V m c main_v0 (((cfg0.win 1).blk t).view.emb (ix2 a b )) = _
  have e : ((cfg0.win 1).blk t).view.emb (ix2 a b) = (ix2 A B : S2816x1024.Idx) := by
    funext x; apply Fin.ext
    match x with
    | ⟨0, _⟩ => show win0_1.index t (0 : Fin 2) * 1408 + 1 * a.val = A.val; omega
    | ⟨1, _⟩ => show win0_1.index t (1 : Fin 2) * 1024 + 1 * b.val = B.val; omega
  rw [e, entry_v0]
  pointwise

/-- A sum in two halves. -/
theorem halves (n : ℕ) (f : Fin (n + n) → EReal) :
    ∑ k, f k = (∑ k : Fin n, f ⟨k.val, by omega⟩) + ∑ k : Fin n, f ⟨n + k.val, by omega⟩ :=
  Fin.sum_univ_add f

/-- What a point adds. -/
def part (t : Fin cfg0.N) (a b : Fin 1024) : EReal := ∑ k : Fin 1408, X0 m c t (ix2 a k) * X1 m c t (ix2 k b)

theorem first (t : Fin cfg0.N) (h : t.val % 2 = 0) (a b : Fin 1024) : (outsAt0 m c t.val t.isLt).2 (ix2 a b) = part m c t a b := by
  rw [outsAt0_A m c t h (by omega) (by omega)]
  frame_out
  open_payloads
  pointwise [read_unread_whole]
  rfl

theorem second (t t' : Fin cfg0.N) (h : t.val % 2 = 1) (ht : t'.val + 1 = t.val) (a b : Fin 1024) :
    (outsAt0 m c t.val t.isLt).1 (ix2 a b) = part m c t' a b + part m c t a b := by
  rw [← first m c t' (by omega), outsAt0_B m c t (by omega) h h]
  have e' : (outsAt0 m c (t.val - 1) (by omega)).2 = (outsAt0 m c t'.val t'.isLt).2 := by
    congr 2; omega
  rw [e']
  generalize (outsAt0 m c t'.val t'.isLt).2 = acc
  frame_out
  open_payloads
  pointwise [read_unread_whole]
  rfl

theorem final_out (A : Fin 4096) (B : Fin 1024) : (dats m 0 c).arrAt 2 cfg0.N (ix2 A B) = ∑ k : Fin 2816, A0 m c (ix2 A k) * A1 m c (ix2 k B) := by
  let t : Fin cfg0.N := ⟨2 * (A.val / 1024) + 1, by show _ < 8; omega⟩
  have ht : t.val = 2 * (A.val / 1024) + 1 := rfl
  obtain ⟨_, _, _, _, e0, e1⟩ := idx t
  let a : Fin 1024 := ⟨A.val % 1024, by omega⟩
  have ha : a.val = A.val % 1024 := rfl
  let b : Fin 1024 := ⟨B.val % 1024, by omega⟩
  have hb : b.val = B.val % 1024 := rfl
  have bl := congrFun (Value.flushed2_eq m c t ((flush0_2 t).mpr (by omega))).symm (ix2 a b)
  rw [← Value.final2, Value.flushed2] at bl
  have e : ((cfg0.win 2).blk t).view.emb (ix2 a b) = (ix2 A B : S4096x1024.Idx) := by
    funext x; apply Fin.ext
    match x with
    | ⟨0, _⟩ => show win0_2.index t (0 : Fin 2) * 1024 + 1 * (A.val % 1024) = A.val; omega
    | ⟨1, _⟩ => show win0_2.index t (1 : Fin 2) * 1024 + 1 * (B.val % 1024) = B.val; omega
  have b' : (dats m 0 c).arrAt 2 cfg0.N (((cfg0.win 2).blk t).view.emb (ix2 a b)) = (outsAt0 m c t.val t.isLt).1 (ix2 a b) := bl
  rw [e] at b'
  clear e bl
  have hB : b = B := Fin.ext (by omega)
  have hN : cfg0.N = 8 := N_0
  let t' : Fin cfg0.N := ⟨2 * (A.val / 1024), by omega⟩
  have ht' : t'.val = 2 * (A.val / 1024) := rfl
  rw [b', second m c t t' (by omega) (by omega), hB]
  refine Eq.trans ?_ (halves 1408 fun k : Fin 2816 => A0 m c (ix2 A k) * A1 m c (ix2 k B)).symm
  refine congrArg₂ (· + ·) (Finset.sum_congr rfl fun k _ => ?_) (Finset.sum_congr rfl fun k _ => ?_)
  · rw [block_0 m c t' a k A ⟨k.val, by omega⟩ (by omega) (by show _ = k.val; omega), block_1 m c t' k B ⟨k.val, by omega⟩ B (by show _ = k.val; omega) rfl]
  · rw [block_0 m c t a k A ⟨1408 + k.val, by omega⟩ (by omega) (by show _ = 1408 + k.val; omega), block_1 m c t k B ⟨1408 + k.val, by omega⟩ B (by show _ = 1408 + k.val; omega) rfl]

end Cert.FfnOutLastValue

end
-- ==== Proof.FfnOutLastEqual.lean ====
/-
  `kernel_ffn_out_last` against its reference.
-/
module

public import proofs.«01_k».proof.Defs
public import proofs.«01_k».proof.Proof.Gen.FfnOutLast.Frame
public import proofs.«01_k».proof.Proof.Gen.FfnOutLastRefIdeal.Run
public import proofs.«01_k».proof.Proof.FfnOutLastValue
public import Idealize.ShloMosaic.Adequacy

@[expose] public section

noncomputable section

namespace Cert.Proof

open Idealize.ShloMosaic Idealize.ShloMosaic.TcCoe Idealize.SL.Sem

theorem frame_ffn_out_last : Cert.quiescent_FfnOutLast := fun m ρ _ => Cert.FfnOutLast.Gen.frame m ρ
theorem frame_ffn_out_last_ideal : Cert.quiescent_FfnOutLastIdeal := fun m ρ _ => Cert.FfnOutLastIdeal.Gen.frame m ρ
theorem frame_ffn_out_last_reference : Cert.quiescent_FfnOutLastRefIdeal := fun m ρ _ =>
  (θ_run Cert.FfnOutLastRefIdeal.defs _ _).mono (fun r h => ⟨fun c => (h c).2, sem_eq_zero_of_no_sems (by decide) r.2⟩)
    (Cert.FfnOutLastRefIdeal.Value.run (F := Ideal) m ρ)

theorem ffn_out_last_equal : Cert.algebraic_FfnOutLastIdeal_FfnOutLastRefIdeal := by
  intro m ρ m' ρ' _ ha
  refine ⟨fun c => (Cert.FfnOutLastIdeal.Gen.dats m 0 c).arrAt 2 Cert.FfnOutLastIdeal.cfg0.N,
    Cert.FfnOutLastIdeal.Value.run_blocks m ρ, ?_⟩
  refine (θ_run Cert.FfnOutLastRefIdeal.defs _ _).mono (fun r h c => ?_) (Cert.FfnOutLastRefIdeal.Value.run (F := Ideal) m' ρ')
  obtain ⟨a0, a1⟩ := ha c
  refine ⟨(h c).1.trans ?_, (h c).2⟩ <;> clear h
  · try rw [a0]
    try rw [a1]
    clear ha a0 a1
    funext (y : Cert.FfnOutLastIdeal.S4096x1024.Idx)
    have e : y = ix2 (y 0) (y 1) := by
      funext a; match a with | ⟨0, _⟩ => rfl | ⟨1, _⟩ => rfl
    generalize y 0 = A at e; generalize y 1 = B at e
    rw [e]
    refine Eq.trans ?_ (Cert.FfnOutLastValue.final_out m c A B).symm
    pointwise

end Cert.Proof

end
-- ==== Proof.AdamScalar.lean ====
/-
  One entry of an AdamW update, and the choice of a part by its device.
-/
module

public import Idealize.ShloMosaic.Lib.Pipeline.ValueKit.Point

@[expose] public section

noncomputable section

namespace Cert.Adam

open Idealize.ShloMosaic

/-- The first moment. -/
def mean (g m : EReal) : EReal := Ideal.ofBits FTy.f32 1063675494#32 * m + Ideal.ofBits FTy.f32 1036831949#32 * g

/-- The second moment. -/
def var (g v : EReal) : EReal := Ideal.ofBits FTy.f32 1065336439#32 * v + Ideal.ofBits FTy.f32 981668463#32 * (g * g)

/-- The change of the weight. -/
def delta (w g m v : EReal) : EReal :=
  Ideal.ofBits FTy.f32 3129152111#32 *
    (Ideal.div (Ideal.div (mean g m) (Ideal.ofBits FTy.f32 1059503362#32))
        (Ideal.sqrt (Ideal.div (var g v) (Ideal.ofBits FTy.f32 1008933580#32)) + Ideal.ofBits FTy.f32 841731191#32) +
      Ideal.ofBits FTy.f32 1008981770#32 * w)

/-- The part of a device: its own when the choice is over a half. -/
def pick (s own p : EReal) : EReal := if Ideal.ofBits FTy.f32 1056964608#32 < s then own else p

/-- The sum of eight parts in order. -/
def sum8 (f : Fin 8 → EReal) : EReal := f 0 + f 1 + f 2 + f 3 + f 4 + f 5 + f 6 + f 7

theorem sum8_eq (f : Fin 8 → EReal) : sum8 f = ∑ i, f i := (Fin.sum_univ_eight f).symm

theorem half : Ideal.ofBits FTy.f32 1056964608#32 = ((1 / 2 : ℝ) : EReal) := by
  simp [Ideal.ofBits, Ideal.ieee, -EReal.coe_mul, -EReal.coe_neg]
  norm_num

theorem pick_select (k : BitVec 1) (own p : EReal) : pick (Scalar.select k 1 0) own p = Scalar.select k own p := by
  unfold pick Scalar.select
  rw [half]
  split
  · rw [if_pos]
    exact_mod_cast (by norm_num : (1 / 2 : ℝ) < 1)
  · rw [if_neg]
    intro h
    exact absurd (by exact_mod_cast h : (1 / 2 : ℝ) < 0) (by norm_num)

end Cert.Adam

end
-- ==== Proof.AdamAdaValue.lean ====
/-
  One AdamW update, read at an index.
-/
module

public import proofs.«01_k».proof.Proof.Gen.AdamAdaIdeal.Frame
public import Idealize.ShloMosaic.Lib.Pipeline.Value
public import Idealize.ShloMosaic.Lib.Pipeline.ValueKit.Point
public import Idealize.ShloMosaic.Lib.Pipeline.ReadBack
public import Idealize.ShloMosaic.Lib.StableHlo.RunRead
public import proofs.«01_k».proof.Proof.AdamScalar

@[expose] public section

noncomputable section

namespace Cert.AdamAdaValue

open Idealize.ShloMosaic Idealize.ShloMosaic.TcCoe Idealize.SL.Sem
open Idealize.ShloMosaic.Pipeline (Dat)
open Cert.AdamAdaIdeal Cert.AdamAdaIdeal.Gen

/-- The run with its final arrays named. -/
theorem run_blocks (m : (ℓ : Loc nD τ sig) → Buf (Elt Ideal) ℓ) (ρ : Dev nD → PrngReg) : θ_run defs (onTc (τ := τ) (main (F := Ideal))) ⟨m, fun _ => 0, ρ⟩ fun r => ∀ c : Dev nD,
      r.2.mem ((c : Thread nD τ).loc main_v1_0) = (dats m 0 c).arrAt 4 cfg0.N
      ∧ r.2.mem ((c : Thread nD τ).loc main_v1_1) = (dats m 0 c).arrAt 5 cfg0.N
      ∧ r.2.mem ((c : Thread nD τ).loc main_v1_2) = (dats m 0 c).arrAt 6 cfg0.N
      ∧ r.2.mem ((c : Thread nD τ).loc main_v1_3) = (dats m 0 c).arrAt 7 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1 4,
      (h c).1 5,
      (h c).1 6,
      (h c).1 7,
      ((h c).2 main_arg0 (Pipeline.mem_restRefs_of main_arg0 (by decide) (by decide))).trans (V_main_arg0 m c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c)))⟩)
    (run_main m ρ)

variable (m : (ℓ : Loc nD τ sig) → Buf (Elt Ideal) ℓ) (c : Dev nD)

theorem idx : ∀ t : Fin cfg0.N, win0_0.index t (0 : Fin 4) = 0
    ∧ win0_0.index t (1 : Fin 4) = t.val / 4
    ∧ win0_0.index t (2 : Fin 4) = t.val % 4
    ∧ win0_0.index t (3 : Fin 4) = 0
    ∧ win0_1.index t (0 : Fin 3) = t.val / 4
    ∧ win0_1.index t (1 : Fin 3) = t.val % 4
    ∧ win0_1.index t (2 : Fin 3) = 0
    ∧ win0_2.index t (0 : Fin 3) = t.val / 4
    ∧ win0_2.index t (1 : Fin 3) = t.val % 4
    ∧ win0_2.index t (2 : Fin 3) = 0
    ∧ win0_3.index t (0 : Fin 3) = t.val / 4
    ∧ win0_3.index t (1 : Fin 3) = t.val % 4
    ∧ win0_3.index t (2 : Fin 3) = 0
    ∧ win0_4.index t (0 : Fin 3) = t.val / 4
    ∧ win0_4.index t (1 : Fin 3) = t.val % 4
    ∧ win0_4.index t (2 : Fin 3) = 0
    ∧ win0_5.index t (0 : Fin 3) = t.val / 4
    ∧ win0_5.index t (1 : Fin 3) = t.val % 4
    ∧ win0_5.index t (2 : Fin 3) = 0
    ∧ win0_6.index t (0 : Fin 3) = t.val / 4
    ∧ win0_6.index t (1 : Fin 3) = t.val % 4
    ∧ win0_6.index t (2 : Fin 3) = 0
    ∧ win0_7.index t (0 : Fin 3) = t.val / 4
    ∧ win0_7.index t (1 : Fin 3) = t.val % 4
    ∧ win0_7.index t (2 : Fin 3) = 0 :=
  (by decide +kernel : ∀ t : Fin grid0.N, _)

/-- The argument arrays. -/
abbrev A0 : Vec Ideal S4x1024x768 .f32 := m ((c : Thread nD τ).loc main_arg0)
abbrev A1 : Vec Ideal S4x1024x768 .f32 := m ((c : Thread nD τ).loc main_arg1)
abbrev A2 : Vec Ideal S4x1024x768 .f32 := m ((c : Thread nD τ).loc main_arg2)
abbrev A3 : Vec Ideal S4x1024x768 .f32 := m ((c : Thread nD τ).loc main_arg3)

/-- The blocks a point reads. -/
abbrev X0 (t : Fin cfg0.N) : Vec Ideal S1x1x256x768 .f32 := iblk m c 0 t
abbrev X1 (t : Fin cfg0.N) : Vec Ideal S1x256x768 .f32 := iblk m c 1 t
abbrev X2 (t : Fin cfg0.N) : Vec Ideal S1x256x768 .f32 := iblk m c 2 t
abbrev X3 (t : Fin cfg0.N) : Vec Ideal S1x256x768 .f32 := iblk m c 3 t

/-- An operand that the host prepares. -/
theorem entry_v0 : V m c main_v0 = broadcastInDim S1x4x1024x768 ![1, 2, 3] bcast_S4x1024x768_S1x4x1024x768_1_2_3 (A0 m c) := by
  show StableHlo.after ([hostOps0] : List (List (HloOp τ sig (Elt Ideal)))).flatten (fun b => m (c, b)) (Proc.tc.devRef main_v0) = _
  simp only [List.flatten_cons, List.flatten_nil, List.cons_append, List.nil_append, List.append_nil]
  after_reads_simp

theorem block_0 (t : Fin cfg0.N) (a : Fin 1) (b : Fin 1) (d : Fin 256) (f : Fin 768) (A : Fin 1) (B : Fin 4) (C : Fin 1024) (D : Fin 768)
    (h0 : a.val = A.val) (h1 : (t.val / 4) * 1 + b.val = B.val) (h2 : (t.val % 4) * 256 + d.val = C.val) (h3 : f.val = D.val) : X0 m c t (ix4 a b d f) = A0 m c (ix3 B C D) := by
  have e0 := (idx t).1
  have e1 := (idx t).2.1
  have e2 := (idx t).2.2.1
  have e3 := (idx t).2.2.2.1
  show V m c main_v0 (((cfg0.win 0).blk t).view.emb (ix4 a b d f )) = _
  have e : ((cfg0.win 0).blk t).view.emb (ix4 a b d f) = (ix4 A B C D : S1x4x1024x768.Idx) := by
    funext x; apply Fin.ext
    match x with
    | ⟨0, _⟩ => show win0_0.index t (0 : Fin 4) * 1 + 1 * a.val = A.val; omega
    | ⟨1, _⟩ => show win0_0.index t (1 : Fin 4) * 1 + 1 * b.val = B.val; omega
    | ⟨2, _⟩ => show win0_0.index t (2 : Fin 4) * 256 + 1 * d.val = C.val; omega
    | ⟨3, _⟩ => show win0_0.index t (3 : Fin 4) * 768 + 1 * f.val = D.val; omega
  rw [e, entry_v0]
  pointwise

theorem block_1 (t : Fin cfg0.N) (a : Fin 1) (b : Fin 256) (d : Fin 768) (A : Fin 4) (B : Fin 1024) (C : Fin 768)
    (h0 : (t.val / 4) * 1 + a.val = A.val) (h1 : (t.val % 4) * 256 + b.val = B.val) (h2 : d.val = C.val) : X1 m c t (ix3 a b d) = A1 m c (ix3 A B C) := by
  have e0 := (idx t).2.2.2.2.1
  have e1 := (idx t).2.2.2.2.2.1
  have e2 := (idx t).2.2.2.2.2.2.1
  blk_ext [X1, A1, iblk, V, e0, e1, e2]

theorem block_2 (t : Fin cfg0.N) (a : Fin 1) (b : Fin 256) (d : Fin 768) (A : Fin 4) (B : Fin 1024) (C : Fin 768)
    (h0 : (t.val / 4) * 1 + a.val = A.val) (h1 : (t.val % 4) * 256 + b.val = B.val) (h2 : d.val = C.val) : X2 m c t (ix3 a b d) = A2 m c (ix3 A B C) := by
  have e0 := (idx t).2.2.2.2.2.2.2.1
  have e1 := (idx t).2.2.2.2.2.2.2.2.1
  have e2 := (idx t).2.2.2.2.2.2.2.2.2.1
  blk_ext [X2, A2, iblk, V, e0, e1, e2]

theorem block_3 (t : Fin cfg0.N) (a : Fin 1) (b : Fin 256) (d : Fin 768) (A : Fin 4) (B : Fin 1024) (C : Fin 768)
    (h0 : (t.val / 4) * 1 + a.val = A.val) (h1 : (t.val % 4) * 256 + b.val = B.val) (h2 : d.val = C.val) : X3 m c t (ix3 a b d) = A3 m c (ix3 A B C) := by
  have e0 := (idx t).2.2.2.2.2.2.2.2.2.2.1
  have e1 := (idx t).2.2.2.2.2.2.2.2.2.2.2.1
  have e2 := (idx t).2.2.2.2.2.2.2.2.2.2.2.2.1
  blk_ext [X3, A3, iblk, V, e0, e1, e2]

/-- The gradient. -/
def grad (A : Fin 4) (B : Fin 1024) (C : Fin 768) : EReal := A0 m c (ix3 A B C)

/-- The gradient of a block. -/
def gblock (t : Fin cfg0.N) (a : Fin 256) (b : Fin 768) : EReal := X0 m c t (ix4 0 0 a b)

theorem gblock_eq (t : Fin cfg0.N) (a : Fin 256) (b : Fin 768) (A : Fin 4) (B : Fin 1024) (C : Fin 768)
    (h0 : (t.val / 4) * 1 + (0 : Fin 1).val = A.val) (h1 : (t.val % 4) * 256 + a.val = B.val) (h2 : b.val = C.val) : gblock m c t a b = grad m c A B C := by
  unfold gblock grad
  exact block_0 m c t 0 0 a b 0 A B C rfl h0 h1 h2

/-- The point and the place in its block of an entry. -/
theorem place (A : Fin 4) (B : Fin 1024) (C : Fin 768) : ∃ (t : Fin cfg0.N) (a : Fin 256) (b : Fin 768),
    ((t.val / 4) * 1 + (0 : Fin 1).val = A.val) ∧ ((t.val % 4) * 256 + a.val = B.val) ∧ b.val = C.val := by
  obtain ⟨t, ht⟩ : ∃ t : Fin cfg0.N, t.val = A.val * 4 + B.val / 256 := ⟨⟨A.val * 4 + B.val / 256, by show _ < 16; omega⟩, rfl⟩
  obtain ⟨a, ha⟩ : ∃ a : Fin 256, a.val = B.val % 256 := ⟨⟨B.val % 256, by omega⟩, rfl⟩
  obtain ⟨b, hb⟩ : ∃ b : Fin 768, b.val = C.val % 768 := ⟨⟨C.val % 768, by omega⟩, rfl⟩
  exact ⟨t, a, b, by simp only [Fin.val_zero]; omega, by omega, by omega⟩

theorem out_4 (t : Fin cfg0.N) (a : Fin 256) (b : Fin 768) : out0_4 (X0 m c t) (X1 m c t) (X2 m c t) (X3 m c t) (ix3 0 a b) = gblock m c t a b := by
  frame_out
  open_payloads
  pointwise [read_unread_whole]
  try rfl

theorem final_g (A : Fin 4) (B : Fin 1024) (C : Fin 768) : (dats m 0 c).arrAt 4 cfg0.N (ix3 A B C) = grad m c A B C := by
  obtain ⟨t, a, b, h0, h1, h2⟩ := place A B C
  have e0 := (idx t).2.2.2.2.2.2.2.2.2.2.2.2.2.1
  have e1 := (idx t).2.2.2.2.2.2.2.2.2.2.2.2.2.2.1
  have e2 := (idx t).2.2.2.2.2.2.2.2.2.2.2.2.2.2.2.1
  have bl := congrFun ((dats m 0 c).read_blk_arrAt_eq_flushed 4 (Pipeline.Window.hdisj_of_index_inj (cfg0.win 4) fun t t' _ _ =>
    (by decide +kernel : ∀ t t' : Fin grid0.N, win0_4.index t = win0_4.index t' → t = t') t t') cfg0.N t t.isLt (flush0_4 t)) (ix3 0 a b)
  rw [show (dats m 0 c).flushed 4 t = (cfg0.win 4).cut (grid0.coords t) ((dats m 0 c).after 4 t) from rfl, after0_4] at bl
  have e : ((cfg0.win 4).blk t).view.emb (ix3 (0 : Fin 1) a b) = (ix3 A B C : S4x1024x768.Idx) := by
    funext x; apply Fin.ext
    match x with
    | ⟨0, _⟩ => show win0_4.index t (0 : Fin 3) * 1 + 1 * (0 : Fin 1).val = A.val; simp only [Fin.val_zero] at *; omega
    | ⟨1, _⟩ => show win0_4.index t (1 : Fin 3) * 256 + 1 * a.val = B.val; omega
    | ⟨2, _⟩ => show win0_4.index t (2 : Fin 3) * 768 + 1 * b.val = C.val; omega
  refine (congrArg ((dats m 0 c).arrAt 4 cfg0.N) e).symm.trans (bl.trans ((out_4 m c t a b).trans ?_))
  rw [gblock_eq m c t a b A B C h0 h1 h2]

theorem out_5 (t : Fin cfg0.N) (a : Fin 256) (b : Fin 768) : out0_5 (X0 m c t) (X1 m c t) (X2 m c t) (X3 m c t) (ix3 0 a b) = Adam.delta (X1 m c t (ix3 0 a b)) (gblock m c t a b) (X2 m c t (ix3 0 a b)) (X3 m c t (ix3 0 a b)) := by
  frame_out
  open_payloads
  pointwise [read_unread_whole]
  try rfl

theorem final_d (A : Fin 4) (B : Fin 1024) (C : Fin 768) : (dats m 0 c).arrAt 5 cfg0.N (ix3 A B C) = Adam.delta (A1 m c (ix3 A B C)) (grad m c A B C) (A2 m c (ix3 A B C)) (A3 m c (ix3 A B C)) := by
  obtain ⟨t, a, b, h0, h1, h2⟩ := place A B C
  have e0 := (idx t).2.2.2.2.2.2.2.2.2.2.2.2.2.2.2.2.1
  have e1 := (idx t).2.2.2.2.2.2.2.2.2.2.2.2.2.2.2.2.2.1
  have e2 := (idx t).2.2.2.2.2.2.2.2.2.2.2.2.2.2.2.2.2.2.1
  have bl := congrFun ((dats m 0 c).read_blk_arrAt_eq_flushed 5 (Pipeline.Window.hdisj_of_index_inj (cfg0.win 5) fun t t' _ _ =>
    (by decide +kernel : ∀ t t' : Fin grid0.N, win0_5.index t = win0_5.index t' → t = t') t t') cfg0.N t t.isLt (flush0_5 t)) (ix3 0 a b)
  rw [show (dats m 0 c).flushed 5 t = (cfg0.win 5).cut (grid0.coords t) ((dats m 0 c).after 5 t) from rfl, after0_5] at bl
  have e : ((cfg0.win 5).blk t).view.emb (ix3 (0 : Fin 1) a b) = (ix3 A B C : S4x1024x768.Idx) := by
    funext x; apply Fin.ext
    match x with
    | ⟨0, _⟩ => show win0_5.index t (0 : Fin 3) * 1 + 1 * (0 : Fin 1).val = A.val; simp only [Fin.val_zero] at *; omega
    | ⟨1, _⟩ => show win0_5.index t (1 : Fin 3) * 256 + 1 * a.val = B.val; omega
    | ⟨2, _⟩ => show win0_5.index t (2 : Fin 3) * 768 + 1 * b.val = C.val; omega
  refine (congrArg ((dats m 0 c).arrAt 5 cfg0.N) e).symm.trans (bl.trans ((out_5 m c t a b).trans ?_))
  rw [gblock_eq m c t a b A B C h0 h1 h2, block_1 m c t 0 a b A B C h0 h1 h2, block_2 m c t 0 a b A B C h0 h1 h2, block_3 m c t 0 a b A B C h0 h1 h2]

theorem out_6 (t : Fin cfg0.N) (a : Fin 256) (b : Fin 768) : out0_6 (X0 m c t) (X1 m c t) (X2 m c t) (X3 m c t) (ix3 0 a b) = Adam.mean (gblock m c t a b) (X2 m c t (ix3 0 a b)) := by
  frame_out
  open_payloads
  pointwise [read_unread_whole]
  try rfl

theorem final_m (A : Fin 4) (B : Fin 1024) (C : Fin 768) : (dats m 0 c).arrAt 6 cfg0.N (ix3 A B C) = Adam.mean (grad m c A B C) (A2 m c (ix3 A B C)) := by
  obtain ⟨t, a, b, h0, h1, h2⟩ := place A B C
  have e0 := (idx t).2.2.2.2.2.2.2.2.2.2.2.2.2.2.2.2.2.2.2.1
  have e1 := (idx t).2.2.2.2.2.2.2.2.2.2.2.2.2.2.2.2.2.2.2.2.1
  have e2 := (idx t).2.2.2.2.2.2.2.2.2.2.2.2.2.2.2.2.2.2.2.2.2.1
  have bl := congrFun ((dats m 0 c).read_blk_arrAt_eq_flushed 6 (Pipeline.Window.hdisj_of_index_inj (cfg0.win 6) fun t t' _ _ =>
    (by decide +kernel : ∀ t t' : Fin grid0.N, win0_6.index t = win0_6.index t' → t = t') t t') cfg0.N t t.isLt (flush0_6 t)) (ix3 0 a b)
  rw [show (dats m 0 c).flushed 6 t = (cfg0.win 6).cut (grid0.coords t) ((dats m 0 c).after 6 t) from rfl, after0_6] at bl
  have e : ((cfg0.win 6).blk t).view.emb (ix3 (0 : Fin 1) a b) = (ix3 A B C : S4x1024x768.Idx) := by
    funext x; apply Fin.ext
    match x with
    | ⟨0, _⟩ => show win0_6.index t (0 : Fin 3) * 1 + 1 * (0 : Fin 1).val = A.val; simp only [Fin.val_zero] at *; omega
    | ⟨1, _⟩ => show win0_6.index t (1 : Fin 3) * 256 + 1 * a.val = B.val; omega
    | ⟨2, _⟩ => show win0_6.index t (2 : Fin 3) * 768 + 1 * b.val = C.val; omega
  refine (congrArg ((dats m 0 c).arrAt 6 cfg0.N) e).symm.trans (bl.trans ((out_6 m c t a b).trans ?_))
  rw [gblock_eq m c t a b A B C h0 h1 h2, block_2 m c t 0 a b A B C h0 h1 h2]

theorem out_7 (t : Fin cfg0.N) (a : Fin 256) (b : Fin 768) : out0_7 (X0 m c t) (X1 m c t) (X2 m c t) (X3 m c t) (ix3 0 a b) = Adam.var (gblock m c t a b) (X3 m c t (ix3 0 a b)) := by
  frame_out
  open_payloads
  pointwise [read_unread_whole]
  try rfl

theorem final_v (A : Fin 4) (B : Fin 1024) (C : Fin 768) : (dats m 0 c).arrAt 7 cfg0.N (ix3 A B C) = Adam.var (grad m c A B C) (A3 m c (ix3 A B C)) := by
  obtain ⟨t, a, b, h0, h1, h2⟩ := place A B C
  have e0 := (idx t).2.2.2.2.2.2.2.2.2.2.2.2.2.2.2.2.2.2.2.2.2.2.1
  have e1 := (idx t).2.2.2.2.2.2.2.2.2.2.2.2.2.2.2.2.2.2.2.2.2.2.2.1
  have e2 := (idx t).2.2.2.2.2.2.2.2.2.2.2.2.2.2.2.2.2.2.2.2.2.2.2.2
  have bl := congrFun ((dats m 0 c).read_blk_arrAt_eq_flushed 7 (Pipeline.Window.hdisj_of_index_inj (cfg0.win 7) fun t t' _ _ =>
    (by decide +kernel : ∀ t t' : Fin grid0.N, win0_7.index t = win0_7.index t' → t = t') t t') cfg0.N t t.isLt (flush0_7 t)) (ix3 0 a b)
  rw [show (dats m 0 c).flushed 7 t = (cfg0.win 7).cut (grid0.coords t) ((dats m 0 c).after 7 t) from rfl, after0_7] at bl
  have e : ((cfg0.win 7).blk t).view.emb (ix3 (0 : Fin 1) a b) = (ix3 A B C : S4x1024x768.Idx) := by
    funext x; apply Fin.ext
    match x with
    | ⟨0, _⟩ => show win0_7.index t (0 : Fin 3) * 1 + 1 * (0 : Fin 1).val = A.val; simp only [Fin.val_zero] at *; omega
    | ⟨1, _⟩ => show win0_7.index t (1 : Fin 3) * 256 + 1 * a.val = B.val; omega
    | ⟨2, _⟩ => show win0_7.index t (2 : Fin 3) * 768 + 1 * b.val = C.val; omega
  refine (congrArg ((dats m 0 c).arrAt 7 cfg0.N) e).symm.trans (bl.trans ((out_7 m c t a b).trans ?_))
  rw [gblock_eq m c t a b A B C h0 h1 h2, block_3 m c t 0 a b A B C h0 h1 h2]

end Cert.AdamAdaValue

end
-- ==== Proof.AdamAdaEqual.lean ====
/-
  `kernel_adam_ada` against its reference.
-/
module

public import proofs.«01_k».proof.Defs
public import proofs.«01_k».proof.Proof.Gen.AdamAda.Frame
public import proofs.«01_k».proof.Proof.Gen.AdamAdaRefIdeal.Run
public import proofs.«01_k».proof.Proof.AdamAdaValue
public import Idealize.ShloMosaic.Adequacy

@[expose] public section

noncomputable section

namespace Cert.Proof

open Idealize.ShloMosaic Idealize.ShloMosaic.TcCoe Idealize.SL.Sem

theorem frame_adam_ada : Cert.quiescent_AdamAda := fun m ρ _ => Cert.AdamAda.Gen.frame m ρ
theorem frame_adam_ada_ideal : Cert.quiescent_AdamAdaIdeal := fun m ρ _ => Cert.AdamAdaIdeal.Gen.frame m ρ
theorem frame_adam_ada_reference : Cert.quiescent_AdamAdaRefIdeal := fun m ρ _ =>
  (θ_run Cert.AdamAdaRefIdeal.defs _ _).mono (fun r h => ⟨fun c => (h c).2.2.2.2, sem_eq_zero_of_no_sems (by decide) r.2⟩)
    (Cert.AdamAdaRefIdeal.Value.run (F := Ideal) m ρ)

theorem adam_ada_equal : Cert.algebraic_AdamAdaIdeal_AdamAdaRefIdeal := by
  intro m ρ m' ρ' _ ha
  refine ⟨fun c => (Cert.AdamAdaIdeal.Gen.dats m 0 c).arrAt 4 Cert.AdamAdaIdeal.cfg0.N,
    fun c => (Cert.AdamAdaIdeal.Gen.dats m 0 c).arrAt 5 Cert.AdamAdaIdeal.cfg0.N,
    fun c => (Cert.AdamAdaIdeal.Gen.dats m 0 c).arrAt 6 Cert.AdamAdaIdeal.cfg0.N,
    fun c => (Cert.AdamAdaIdeal.Gen.dats m 0 c).arrAt 7 Cert.AdamAdaIdeal.cfg0.N,
    Cert.AdamAdaValue.run_blocks m ρ, ?_⟩
  refine (θ_run Cert.AdamAdaRefIdeal.defs _ _).mono (fun r h c => ?_) (Cert.AdamAdaRefIdeal.Value.run (F := Ideal) m' ρ')
  obtain ⟨a0, a1, a2, a3⟩ := ha c
  refine ⟨(h c).1.trans ?_, (h c).2.1.trans ?_, (h c).2.2.1.trans ?_, (h c).2.2.2.1.trans ?_, (h c).2.2.2.2⟩ <;> clear h
  · try rw [a0]
    try rw [a1]
    try rw [a2]
    try rw [a3]
    clear ha a0 a1 a2 a3
    funext (y : Cert.AdamAdaIdeal.S4x1024x768.Idx)
    have e : y = ix3 (y 0) (y 1) (y 2) := by
      funext a; match a with | ⟨0, _⟩ => rfl | ⟨1, _⟩ => rfl | ⟨2, _⟩ => rfl
    generalize y 0 = A at e; generalize y 1 = B at e; generalize y 2 = C at e
    rw [e]
    refine Eq.trans ?_ (Cert.AdamAdaValue.final_g m c A B C).symm
    unfold Cert.AdamAdaValue.grad
    pointwise
    try rfl
  · try rw [a0]
    try rw [a1]
    try rw [a2]
    try rw [a3]
    clear ha a0 a1 a2 a3
    funext (y : Cert.AdamAdaIdeal.S4x1024x768.Idx)
    have e : y = ix3 (y 0) (y 1) (y 2) := by
      funext a; match a with | ⟨0, _⟩ => rfl | ⟨1, _⟩ => rfl | ⟨2, _⟩ => rfl
    generalize y 0 = A at e; generalize y 1 = B at e; generalize y 2 = C at e
    rw [e]
    refine Eq.trans ?_ (Cert.AdamAdaValue.final_d m c A B C).symm
    unfold Adam.delta Adam.mean Adam.var Cert.AdamAdaValue.grad
    pointwise
    try rfl
  · try rw [a0]
    try rw [a1]
    try rw [a2]
    try rw [a3]
    clear ha a0 a1 a2 a3
    funext (y : Cert.AdamAdaIdeal.S4x1024x768.Idx)
    have e : y = ix3 (y 0) (y 1) (y 2) := by
      funext a; match a with | ⟨0, _⟩ => rfl | ⟨1, _⟩ => rfl | ⟨2, _⟩ => rfl
    generalize y 0 = A at e; generalize y 1 = B at e; generalize y 2 = C at e
    rw [e]
    refine Eq.trans ?_ (Cert.AdamAdaValue.final_m m c A B C).symm
    unfold Adam.mean Cert.AdamAdaValue.grad
    pointwise
    try rfl
  · try rw [a0]
    try rw [a1]
    try rw [a2]
    try rw [a3]
    clear ha a0 a1 a2 a3
    funext (y : Cert.AdamAdaIdeal.S4x1024x768.Idx)
    have e : y = ix3 (y 0) (y 1) (y 2) := by
      funext a; match a with | ⟨0, _⟩ => rfl | ⟨1, _⟩ => rfl | ⟨2, _⟩ => rfl
    generalize y 0 = A at e; generalize y 1 = B at e; generalize y 2 = C at e
    rw [e]
    refine Eq.trans ?_ (Cert.AdamAdaValue.final_v m c A B C).symm
    unfold Adam.var Cert.AdamAdaValue.grad
    pointwise
    try rfl

end Cert.Proof

end
-- ==== Proof.AdamSmallValue.lean ====
/-
  One AdamW update, read at an index.
-/
module

public import proofs.«01_k».proof.Proof.Gen.AdamSmallIdeal.Frame
public import Idealize.ShloMosaic.Lib.Pipeline.Value
public import Idealize.ShloMosaic.Lib.Pipeline.ValueKit.Point
public import Idealize.ShloMosaic.Lib.Pipeline.ReadBack
public import Idealize.ShloMosaic.Lib.StableHlo.RunRead
public import proofs.«01_k».proof.Proof.AdamScalar

@[expose] public section

noncomputable section

namespace Cert.AdamSmallValue

open Idealize.ShloMosaic Idealize.ShloMosaic.TcCoe Idealize.SL.Sem
open Idealize.ShloMosaic.Pipeline (Dat)
open Cert.AdamSmallIdeal Cert.AdamSmallIdeal.Gen

/-- The run with its final arrays named. -/
theorem run_blocks (m : (ℓ : Loc nD τ sig) → Buf (Elt Ideal) ℓ) (ρ : Dev nD → PrngReg) : θ_run defs (onTc (τ := τ) (main (F := Ideal))) ⟨m, fun _ => 0, ρ⟩ fun r => ∀ c : Dev nD,
      r.2.mem ((c : Thread nD τ).loc main_v4_0) = (dats m 0 c).arrAt 4 cfg0.N
      ∧ r.2.mem ((c : Thread nD τ).loc main_v4_1) = (dats m 0 c).arrAt 5 cfg0.N
      ∧ r.2.mem ((c : Thread nD τ).loc main_v4_2) = (dats m 0 c).arrAt 6 cfg0.N
      ∧ r.2.mem ((c : Thread nD τ).loc main_v4_3) = (dats m 0 c).arrAt 7 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1 4,
      (h c).1 5,
      (h c).1 6,
      (h c).1 7,
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩)
    (run_main m ρ)

variable (m : (ℓ : Loc nD τ sig) → Buf (Elt Ideal) ℓ) (c : Dev nD)

theorem idx : ∀ t : Fin cfg0.N, win0_0.index t (0 : Fin 4) = 0
    ∧ win0_0.index t (1 : Fin 4) = 0
    ∧ win0_0.index t (2 : Fin 4) = t.val % 2
    ∧ win0_0.index t (3 : Fin 4) = 0
    ∧ win0_1.index t (0 : Fin 3) = 0
    ∧ win0_1.index t (1 : Fin 3) = t.val % 2
    ∧ win0_1.index t (2 : Fin 3) = 0
    ∧ win0_2.index t (0 : Fin 3) = 0
    ∧ win0_2.index t (1 : Fin 3) = t.val % 2
    ∧ win0_2.index t (2 : Fin 3) = 0
    ∧ win0_3.index t (0 : Fin 3) = 0
    ∧ win0_3.index t (1 : Fin 3) = t.val % 2
    ∧ win0_3.index t (2 : Fin 3) = 0
    ∧ win0_4.index t (0 : Fin 3) = 0
    ∧ win0_4.index t (1 : Fin 3) = t.val % 2
    ∧ win0_4.index t (2 : Fin 3) = 0
    ∧ win0_5.index t (0 : Fin 3) = 0
    ∧ win0_5.index t (1 : Fin 3) = t.val % 2
    ∧ win0_5.index t (2 : Fin 3) = 0
    ∧ win0_6.index t (0 : Fin 3) = 0
    ∧ win0_6.index t (1 : Fin 3) = t.val % 2
    ∧ win0_6.index t (2 : Fin 3) = 0
    ∧ win0_7.index t (0 : Fin 3) = 0
    ∧ win0_7.index t (1 : Fin 3) = t.val % 2
    ∧ win0_7.index t (2 : Fin 3) = 0 :=
  (by decide +kernel : ∀ t : Fin grid0.N, _)

/-- The argument arrays. -/
abbrev A0 : Vec Ideal S8x336x128 .f32 := m ((c : Thread nD τ).loc main_arg0)
abbrev A1 : Vec Ideal S336x128 .f32 := m ((c : Thread nD τ).loc main_arg1)
abbrev A2 : Vec Ideal S336x128 .f32 := m ((c : Thread nD τ).loc main_arg2)
abbrev A3 : Vec Ideal S336x128 .f32 := m ((c : Thread nD τ).loc main_arg3)

/-- The blocks a point reads. -/
abbrev X0 (t : Fin cfg0.N) : Vec Ideal S8x1x168x128 .f32 := iblk m c 0 t
abbrev X1 (t : Fin cfg0.N) : Vec Ideal S1x168x128 .f32 := iblk m c 1 t
abbrev X2 (t : Fin cfg0.N) : Vec Ideal S1x168x128 .f32 := iblk m c 2 t
abbrev X3 (t : Fin cfg0.N) : Vec Ideal S1x168x128 .f32 := iblk m c 3 t

/-- An operand that the host prepares. -/
theorem entry_v0 : V m c main_v0 = broadcastInDim S8x1x336x128 ![0, 2, 3] bcast_S8x336x128_S8x1x336x128_0_2_3 (A0 m c) := by
  show StableHlo.after ([hostOps0] : List (List (HloOp τ sig (Elt Ideal)))).flatten (fun b => m (c, b)) (Proc.tc.devRef main_v0) = _
  simp only [List.flatten_cons, List.flatten_nil, List.cons_append, List.nil_append, List.append_nil]
  after_reads_simp

theorem block_0 (t : Fin cfg0.N) (a : Fin 8) (b : Fin 1) (d : Fin 168) (f : Fin 128) (A : Fin 8) (B : Fin 1) (C : Fin 336) (D : Fin 128)
    (h0 : a.val = A.val) (h1 : b.val = B.val) (h2 : (t.val % 2) * 168 + d.val = C.val) (h3 : f.val = D.val) : X0 m c t (ix4 a b d f) = A0 m c (ix3 A C D) := by
  have e0 := (idx t).1
  have e1 := (idx t).2.1
  have e2 := (idx t).2.2.1
  have e3 := (idx t).2.2.2.1
  show V m c main_v0 (((cfg0.win 0).blk t).view.emb (ix4 a b d f )) = _
  have e : ((cfg0.win 0).blk t).view.emb (ix4 a b d f) = (ix4 A B C D : S8x1x336x128.Idx) := by
    funext x; apply Fin.ext
    match x with
    | ⟨0, _⟩ => show win0_0.index t (0 : Fin 4) * 8 + 1 * a.val = A.val; omega
    | ⟨1, _⟩ => show win0_0.index t (1 : Fin 4) * 1 + 1 * b.val = B.val; omega
    | ⟨2, _⟩ => show win0_0.index t (2 : Fin 4) * 168 + 1 * d.val = C.val; omega
    | ⟨3, _⟩ => show win0_0.index t (3 : Fin 4) * 128 + 1 * f.val = D.val; omega
  rw [e, entry_v0]
  pointwise

/-- An operand that the host prepares. -/
theorem entry_v1 : V m c main_v1 = broadcastInDim S1x336x128 ![1, 2] bcast_S336x128_S1x336x128_1_2 (A1 m c) := by
  show StableHlo.after ([hostOps0] : List (List (HloOp τ sig (Elt Ideal)))).flatten (fun b => m (c, b)) (Proc.tc.devRef main_v1) = _
  simp only [List.flatten_cons, List.flatten_nil, List.cons_append, List.nil_append, List.append_nil]
  after_reads_simp

theorem block_1 (t : Fin cfg0.N) (a : Fin 1) (b : Fin 168) (d : Fin 128) (A : Fin 1) (B : Fin 336) (C : Fin 128)
    (h0 : a.val = A.val) (h1 : (t.val % 2) * 168 + b.val = B.val) (h2 : d.val = C.val) : X1 m c t (ix3 a b d) = A1 m c (ix2 B C) := by
  have e0 := (idx t).2.2.2.2.1
  have e1 := (idx t).2.2.2.2.2.1
  have e2 := (idx t).2.2.2.2.2.2.1
  show V m c main_v1 (((cfg0.win 1).blk t).view.emb (ix3 a b d )) = _
  have e : ((cfg0.win 1).blk t).view.emb (ix3 a b d) = (ix3 A B C : S1x336x128.Idx) := by
    funext x; apply Fin.ext
    match x with
    | ⟨0, _⟩ => show win0_1.index t (0 : Fin 3) * 1 + 1 * a.val = A.val; omega
    | ⟨1, _⟩ => show win0_1.index t (1 : Fin 3) * 168 + 1 * b.val = B.val; omega
    | ⟨2, _⟩ => show win0_1.index t (2 : Fin 3) * 128 + 1 * d.val = C.val; omega
  rw [e, entry_v1]
  pointwise

/-- An operand that the host prepares. -/
theorem entry_v2 : V m c main_v2 = broadcastInDim S1x336x128 ![1, 2] bcast_S336x128_S1x336x128_1_2 (A2 m c) := by
  show StableHlo.after ([hostOps0] : List (List (HloOp τ sig (Elt Ideal)))).flatten (fun b => m (c, b)) (Proc.tc.devRef main_v2) = _
  simp only [List.flatten_cons, List.flatten_nil, List.cons_append, List.nil_append, List.append_nil]
  after_reads_simp

theorem block_2 (t : Fin cfg0.N) (a : Fin 1) (b : Fin 168) (d : Fin 128) (A : Fin 1) (B : Fin 336) (C : Fin 128)
    (h0 : a.val = A.val) (h1 : (t.val % 2) * 168 + b.val = B.val) (h2 : d.val = C.val) : X2 m c t (ix3 a b d) = A2 m c (ix2 B C) := by
  have e0 := (idx t).2.2.2.2.2.2.2.1
  have e1 := (idx t).2.2.2.2.2.2.2.2.1
  have e2 := (idx t).2.2.2.2.2.2.2.2.2.1
  show V m c main_v2 (((cfg0.win 2).blk t).view.emb (ix3 a b d )) = _
  have e : ((cfg0.win 2).blk t).view.emb (ix3 a b d) = (ix3 A B C : S1x336x128.Idx) := by
    funext x; apply Fin.ext
    match x with
    | ⟨0, _⟩ => show win0_2.index t (0 : Fin 3) * 1 + 1 * a.val = A.val; omega
    | ⟨1, _⟩ => show win0_2.index t (1 : Fin 3) * 168 + 1 * b.val = B.val; omega
    | ⟨2, _⟩ => show win0_2.index t (2 : Fin 3) * 128 + 1 * d.val = C.val; omega
  rw [e, entry_v2]
  pointwise

/-- An operand that the host prepares. -/
theorem entry_v3 : V m c main_v3 = broadcastInDim S1x336x128 ![1, 2] bcast_S336x128_S1x336x128_1_2 (A3 m c) := by
  show StableHlo.after ([hostOps0] : List (List (HloOp τ sig (Elt Ideal)))).flatten (fun b => m (c, b)) (Proc.tc.devRef main_v3) = _
  simp only [List.flatten_cons, List.flatten_nil, List.cons_append, List.nil_append, List.append_nil]
  after_reads_simp

theorem block_3 (t : Fin cfg0.N) (a : Fin 1) (b : Fin 168) (d : Fin 128) (A : Fin 1) (B : Fin 336) (C : Fin 128)
    (h0 : a.val = A.val) (h1 : (t.val % 2) * 168 + b.val = B.val) (h2 : d.val = C.val) : X3 m c t (ix3 a b d) = A3 m c (ix2 B C) := by
  have e0 := (idx t).2.2.2.2.2.2.2.2.2.2.1
  have e1 := (idx t).2.2.2.2.2.2.2.2.2.2.2.1
  have e2 := (idx t).2.2.2.2.2.2.2.2.2.2.2.2.1
  show V m c main_v3 (((cfg0.win 3).blk t).view.emb (ix3 a b d )) = _
  have e : ((cfg0.win 3).blk t).view.emb (ix3 a b d) = (ix3 A B C : S1x336x128.Idx) := by
    funext x; apply Fin.ext
    match x with
    | ⟨0, _⟩ => show win0_3.index t (0 : Fin 3) * 1 + 1 * a.val = A.val; omega
    | ⟨1, _⟩ => show win0_3.index t (1 : Fin 3) * 168 + 1 * b.val = B.val; omega
    | ⟨2, _⟩ => show win0_3.index t (2 : Fin 3) * 128 + 1 * d.val = C.val; omega
  rw [e, entry_v3]
  pointwise

/-- The gradient. -/
def grad (A : Fin 1) (B : Fin 336) (C : Fin 128) : EReal := Adam.sum8 fun q => A0 m c (ix3 q B C)

/-- The gradient of a block. -/
def gblock (t : Fin cfg0.N) (a : Fin 168) (b : Fin 128) : EReal := Adam.sum8 fun q => X0 m c t (ix4 q 0 a b)

theorem gblock_eq (t : Fin cfg0.N) (a : Fin 168) (b : Fin 128) (A : Fin 1) (B : Fin 336) (C : Fin 128)
    (h0 : (0 : Fin 1).val = A.val) (h1 : (t.val % 2) * 168 + a.val = B.val) (h2 : b.val = C.val) : gblock m c t a b = grad m c A B C := by
  unfold gblock grad
  refine congrArg Adam.sum8 (funext fun q => ?_)
  exact block_0 m c t q 0 a b q A B C (by simp) h0 h1 h2

/-- The point and the place in its block of an entry. -/
theorem place (A : Fin 1) (B : Fin 336) (C : Fin 128) : ∃ (t : Fin cfg0.N) (a : Fin 168) (b : Fin 128),
    ((0 : Fin 1).val = A.val) ∧ ((t.val % 2) * 168 + a.val = B.val) ∧ b.val = C.val := by
  obtain ⟨t, ht⟩ : ∃ t : Fin cfg0.N, t.val = B.val / 168 := ⟨⟨B.val / 168, by show _ < 2; omega⟩, rfl⟩
  obtain ⟨a, ha⟩ : ∃ a : Fin 168, a.val = B.val % 168 := ⟨⟨B.val % 168, by omega⟩, rfl⟩
  obtain ⟨b, hb⟩ : ∃ b : Fin 128, b.val = C.val % 128 := ⟨⟨C.val % 128, by omega⟩, rfl⟩
  exact ⟨t, a, b, by simp only [Fin.val_zero]; omega, by omega, by omega⟩

theorem out_4 (t : Fin cfg0.N) (a : Fin 168) (b : Fin 128) : out0_4 (X0 m c t) (X1 m c t) (X2 m c t) (X3 m c t) (ix3 0 a b) = gblock m c t a b := by
  frame_out
  open_payloads
  pointwise [read_unread_whole]
  try rfl

theorem final_g (A : Fin 1) (B : Fin 336) (C : Fin 128) : (dats m 0 c).arrAt 4 cfg0.N (ix3 A B C) = grad m c A B C := by
  obtain ⟨t, a, b, h0, h1, h2⟩ := place A B C
  have e0 := (idx t).2.2.2.2.2.2.2.2.2.2.2.2.2.1
  have e1 := (idx t).2.2.2.2.2.2.2.2.2.2.2.2.2.2.1
  have e2 := (idx t).2.2.2.2.2.2.2.2.2.2.2.2.2.2.2.1
  have bl := congrFun ((dats m 0 c).read_blk_arrAt_eq_flushed 4 (Pipeline.Window.hdisj_of_index_inj (cfg0.win 4) fun t t' _ _ =>
    (by decide +kernel : ∀ t t' : Fin grid0.N, win0_4.index t = win0_4.index t' → t = t') t t') cfg0.N t t.isLt (flush0_4 t)) (ix3 0 a b)
  rw [show (dats m 0 c).flushed 4 t = (cfg0.win 4).cut (grid0.coords t) ((dats m 0 c).after 4 t) from rfl, after0_4] at bl
  have e : ((cfg0.win 4).blk t).view.emb (ix3 (0 : Fin 1) a b) = (ix3 A B C : S1x336x128.Idx) := by
    funext x; apply Fin.ext
    match x with
    | ⟨0, _⟩ => show win0_4.index t (0 : Fin 3) * 1 + 1 * (0 : Fin 1).val = A.val; simp only [Fin.val_zero] at *; omega
    | ⟨1, _⟩ => show win0_4.index t (1 : Fin 3) * 168 + 1 * a.val = B.val; omega
    | ⟨2, _⟩ => show win0_4.index t (2 : Fin 3) * 128 + 1 * b.val = C.val; omega
  refine (congrArg ((dats m 0 c).arrAt 4 cfg0.N) e).symm.trans (bl.trans ((out_4 m c t a b).trans ?_))
  rw [gblock_eq m c t a b A B C h0 h1 h2]

theorem out_5 (t : Fin cfg0.N) (a : Fin 168) (b : Fin 128) : out0_5 (X0 m c t) (X1 m c t) (X2 m c t) (X3 m c t) (ix3 0 a b) = Adam.delta (X1 m c t (ix3 0 a b)) (gblock m c t a b) (X2 m c t (ix3 0 a b)) (X3 m c t (ix3 0 a b)) := by
  frame_out
  open_payloads
  pointwise [read_unread_whole]
  try rfl

theorem final_d (A : Fin 1) (B : Fin 336) (C : Fin 128) : (dats m 0 c).arrAt 5 cfg0.N (ix3 A B C) = Adam.delta (A1 m c (ix2 B C)) (grad m c A B C) (A2 m c (ix2 B C)) (A3 m c (ix2 B C)) := by
  obtain ⟨t, a, b, h0, h1, h2⟩ := place A B C
  have e0 := (idx t).2.2.2.2.2.2.2.2.2.2.2.2.2.2.2.2.1
  have e1 := (idx t).2.2.2.2.2.2.2.2.2.2.2.2.2.2.2.2.2.1
  have e2 := (idx t).2.2.2.2.2.2.2.2.2.2.2.2.2.2.2.2.2.2.1
  have bl := congrFun ((dats m 0 c).read_blk_arrAt_eq_flushed 5 (Pipeline.Window.hdisj_of_index_inj (cfg0.win 5) fun t t' _ _ =>
    (by decide +kernel : ∀ t t' : Fin grid0.N, win0_5.index t = win0_5.index t' → t = t') t t') cfg0.N t t.isLt (flush0_5 t)) (ix3 0 a b)
  rw [show (dats m 0 c).flushed 5 t = (cfg0.win 5).cut (grid0.coords t) ((dats m 0 c).after 5 t) from rfl, after0_5] at bl
  have e : ((cfg0.win 5).blk t).view.emb (ix3 (0 : Fin 1) a b) = (ix3 A B C : S1x336x128.Idx) := by
    funext x; apply Fin.ext
    match x with
    | ⟨0, _⟩ => show win0_5.index t (0 : Fin 3) * 1 + 1 * (0 : Fin 1).val = A.val; simp only [Fin.val_zero] at *; omega
    | ⟨1, _⟩ => show win0_5.index t (1 : Fin 3) * 168 + 1 * a.val = B.val; omega
    | ⟨2, _⟩ => show win0_5.index t (2 : Fin 3) * 128 + 1 * b.val = C.val; omega
  refine (congrArg ((dats m 0 c).arrAt 5 cfg0.N) e).symm.trans (bl.trans ((out_5 m c t a b).trans ?_))
  rw [gblock_eq m c t a b A B C h0 h1 h2, block_1 m c t 0 a b A B C h0 h1 h2, block_2 m c t 0 a b A B C h0 h1 h2, block_3 m c t 0 a b A B C h0 h1 h2]

theorem out_6 (t : Fin cfg0.N) (a : Fin 168) (b : Fin 128) : out0_6 (X0 m c t) (X1 m c t) (X2 m c t) (X3 m c t) (ix3 0 a b) = Adam.mean (gblock m c t a b) (X2 m c t (ix3 0 a b)) := by
  frame_out
  open_payloads
  pointwise [read_unread_whole]
  try rfl

theorem final_m (A : Fin 1) (B : Fin 336) (C : Fin 128) : (dats m 0 c).arrAt 6 cfg0.N (ix3 A B C) = Adam.mean (grad m c A B C) (A2 m c (ix2 B C)) := by
  obtain ⟨t, a, b, h0, h1, h2⟩ := place A B C
  have e0 := (idx t).2.2.2.2.2.2.2.2.2.2.2.2.2.2.2.2.2.2.2.1
  have e1 := (idx t).2.2.2.2.2.2.2.2.2.2.2.2.2.2.2.2.2.2.2.2.1
  have e2 := (idx t).2.2.2.2.2.2.2.2.2.2.2.2.2.2.2.2.2.2.2.2.2.1
  have bl := congrFun ((dats m 0 c).read_blk_arrAt_eq_flushed 6 (Pipeline.Window.hdisj_of_index_inj (cfg0.win 6) fun t t' _ _ =>
    (by decide +kernel : ∀ t t' : Fin grid0.N, win0_6.index t = win0_6.index t' → t = t') t t') cfg0.N t t.isLt (flush0_6 t)) (ix3 0 a b)
  rw [show (dats m 0 c).flushed 6 t = (cfg0.win 6).cut (grid0.coords t) ((dats m 0 c).after 6 t) from rfl, after0_6] at bl
  have e : ((cfg0.win 6).blk t).view.emb (ix3 (0 : Fin 1) a b) = (ix3 A B C : S1x336x128.Idx) := by
    funext x; apply Fin.ext
    match x with
    | ⟨0, _⟩ => show win0_6.index t (0 : Fin 3) * 1 + 1 * (0 : Fin 1).val = A.val; simp only [Fin.val_zero] at *; omega
    | ⟨1, _⟩ => show win0_6.index t (1 : Fin 3) * 168 + 1 * a.val = B.val; omega
    | ⟨2, _⟩ => show win0_6.index t (2 : Fin 3) * 128 + 1 * b.val = C.val; omega
  refine (congrArg ((dats m 0 c).arrAt 6 cfg0.N) e).symm.trans (bl.trans ((out_6 m c t a b).trans ?_))
  rw [gblock_eq m c t a b A B C h0 h1 h2, block_2 m c t 0 a b A B C h0 h1 h2]

theorem out_7 (t : Fin cfg0.N) (a : Fin 168) (b : Fin 128) : out0_7 (X0 m c t) (X1 m c t) (X2 m c t) (X3 m c t) (ix3 0 a b) = Adam.var (gblock m c t a b) (X3 m c t (ix3 0 a b)) := by
  frame_out
  open_payloads
  pointwise [read_unread_whole]
  try rfl

theorem final_v (A : Fin 1) (B : Fin 336) (C : Fin 128) : (dats m 0 c).arrAt 7 cfg0.N (ix3 A B C) = Adam.var (grad m c A B C) (A3 m c (ix2 B C)) := by
  obtain ⟨t, a, b, h0, h1, h2⟩ := place A B C
  have e0 := (idx t).2.2.2.2.2.2.2.2.2.2.2.2.2.2.2.2.2.2.2.2.2.2.1
  have e1 := (idx t).2.2.2.2.2.2.2.2.2.2.2.2.2.2.2.2.2.2.2.2.2.2.2.1
  have e2 := (idx t).2.2.2.2.2.2.2.2.2.2.2.2.2.2.2.2.2.2.2.2.2.2.2.2
  have bl := congrFun ((dats m 0 c).read_blk_arrAt_eq_flushed 7 (Pipeline.Window.hdisj_of_index_inj (cfg0.win 7) fun t t' _ _ =>
    (by decide +kernel : ∀ t t' : Fin grid0.N, win0_7.index t = win0_7.index t' → t = t') t t') cfg0.N t t.isLt (flush0_7 t)) (ix3 0 a b)
  rw [show (dats m 0 c).flushed 7 t = (cfg0.win 7).cut (grid0.coords t) ((dats m 0 c).after 7 t) from rfl, after0_7] at bl
  have e : ((cfg0.win 7).blk t).view.emb (ix3 (0 : Fin 1) a b) = (ix3 A B C : S1x336x128.Idx) := by
    funext x; apply Fin.ext
    match x with
    | ⟨0, _⟩ => show win0_7.index t (0 : Fin 3) * 1 + 1 * (0 : Fin 1).val = A.val; simp only [Fin.val_zero] at *; omega
    | ⟨1, _⟩ => show win0_7.index t (1 : Fin 3) * 168 + 1 * a.val = B.val; omega
    | ⟨2, _⟩ => show win0_7.index t (2 : Fin 3) * 128 + 1 * b.val = C.val; omega
  refine (congrArg ((dats m 0 c).arrAt 7 cfg0.N) e).symm.trans (bl.trans ((out_7 m c t a b).trans ?_))
  rw [gblock_eq m c t a b A B C h0 h1 h2, block_3 m c t 0 a b A B C h0 h1 h2]

end Cert.AdamSmallValue

end
-- ==== Proof.AdamSmallEqual.lean ====
/-
  `kernel_adam_small` against its reference.
-/
module

public import proofs.«01_k».proof.Defs
public import proofs.«01_k».proof.Proof.Gen.AdamSmall.Frame
public import proofs.«01_k».proof.Proof.Gen.AdamSmallRefIdeal.Run
public import proofs.«01_k».proof.Proof.AdamSmallValue
public import Idealize.ShloMosaic.Adequacy

@[expose] public section

noncomputable section

namespace Cert.Proof

open Idealize.ShloMosaic Idealize.ShloMosaic.TcCoe Idealize.SL.Sem

theorem frame_adam_small : Cert.quiescent_AdamSmall := fun m ρ _ => Cert.AdamSmall.Gen.frame m ρ
theorem frame_adam_small_ideal : Cert.quiescent_AdamSmallIdeal := fun m ρ _ => Cert.AdamSmallIdeal.Gen.frame m ρ
theorem frame_adam_small_reference : Cert.quiescent_AdamSmallRefIdeal := fun m ρ _ =>
  (θ_run Cert.AdamSmallRefIdeal.defs _ _).mono (fun r h => ⟨fun c => (h c).2.2.2.2, sem_eq_zero_of_no_sems (by decide) r.2⟩)
    (Cert.AdamSmallRefIdeal.Value.run (F := Ideal) m ρ)

theorem adam_small_equal : Cert.algebraic_AdamSmallIdeal_AdamSmallRefIdeal := by
  intro m ρ m' ρ' _ ha
  refine ⟨fun c => (Cert.AdamSmallIdeal.Gen.dats m 0 c).arrAt 4 Cert.AdamSmallIdeal.cfg0.N,
    fun c => (Cert.AdamSmallIdeal.Gen.dats m 0 c).arrAt 5 Cert.AdamSmallIdeal.cfg0.N,
    fun c => (Cert.AdamSmallIdeal.Gen.dats m 0 c).arrAt 6 Cert.AdamSmallIdeal.cfg0.N,
    fun c => (Cert.AdamSmallIdeal.Gen.dats m 0 c).arrAt 7 Cert.AdamSmallIdeal.cfg0.N,
    Cert.AdamSmallValue.run_blocks m ρ, ?_⟩
  refine (θ_run Cert.AdamSmallRefIdeal.defs _ _).mono (fun r h c => ?_) (Cert.AdamSmallRefIdeal.Value.run (F := Ideal) m' ρ')
  obtain ⟨a0, a1, a2, a3⟩ := ha c
  refine ⟨(h c).1.trans ?_, (h c).2.1.trans ?_, (h c).2.2.1.trans ?_, (h c).2.2.2.1.trans ?_, (h c).2.2.2.2⟩ <;> clear h
  · try rw [a0]
    try rw [a1]
    try rw [a2]
    try rw [a3]
    clear ha a0 a1 a2 a3
    funext (y : Cert.AdamSmallIdeal.S1x336x128.Idx)
    have e : y = ix3 (y 0) (y 1) (y 2) := by
      funext a; match a with | ⟨0, _⟩ => rfl | ⟨1, _⟩ => rfl | ⟨2, _⟩ => rfl
    generalize y 0 = A at e; generalize y 1 = B at e; generalize y 2 = C at e
    rw [e]
    refine Eq.trans ?_ (Cert.AdamSmallValue.final_g m c A B C).symm
    unfold Cert.AdamSmallValue.grad
    simp only [Adam.sum8_eq]
    pointwise
    try rfl
  · try rw [a0]
    try rw [a1]
    try rw [a2]
    try rw [a3]
    clear ha a0 a1 a2 a3
    funext (y : Cert.AdamSmallIdeal.S1x336x128.Idx)
    have e : y = ix3 (y 0) (y 1) (y 2) := by
      funext a; match a with | ⟨0, _⟩ => rfl | ⟨1, _⟩ => rfl | ⟨2, _⟩ => rfl
    generalize y 0 = A at e; generalize y 1 = B at e; generalize y 2 = C at e
    rw [e]
    refine Eq.trans ?_ (Cert.AdamSmallValue.final_d m c A B C).symm
    unfold Adam.delta Adam.mean Adam.var Cert.AdamSmallValue.grad
    simp only [Adam.sum8_eq]
    pointwise
    try rfl
  · try rw [a0]
    try rw [a1]
    try rw [a2]
    try rw [a3]
    clear ha a0 a1 a2 a3
    funext (y : Cert.AdamSmallIdeal.S1x336x128.Idx)
    have e : y = ix3 (y 0) (y 1) (y 2) := by
      funext a; match a with | ⟨0, _⟩ => rfl | ⟨1, _⟩ => rfl | ⟨2, _⟩ => rfl
    generalize y 0 = A at e; generalize y 1 = B at e; generalize y 2 = C at e
    rw [e]
    refine Eq.trans ?_ (Cert.AdamSmallValue.final_m m c A B C).symm
    unfold Adam.mean Cert.AdamSmallValue.grad
    simp only [Adam.sum8_eq]
    pointwise
    try rfl
  · try rw [a0]
    try rw [a1]
    try rw [a2]
    try rw [a3]
    clear ha a0 a1 a2 a3
    funext (y : Cert.AdamSmallIdeal.S1x336x128.Idx)
    have e : y = ix3 (y 0) (y 1) (y 2) := by
      funext a; match a with | ⟨0, _⟩ => rfl | ⟨1, _⟩ => rfl | ⟨2, _⟩ => rfl
    generalize y 0 = A at e; generalize y 1 = B at e; generalize y 2 = C at e
    rw [e]
    refine Eq.trans ?_ (Cert.AdamSmallValue.final_v m c A B C).symm
    unfold Adam.var Cert.AdamSmallValue.grad
    simp only [Adam.sum8_eq]
    pointwise
    try rfl

end Cert.Proof

end
-- ==== Proof.AdamInValue.lean ====
/-
  One AdamW update, read at an index.
-/
module

public import proofs.«01_k».proof.Proof.Gen.AdamInIdeal.Frame
public import Idealize.ShloMosaic.Lib.Pipeline.Value
public import Idealize.ShloMosaic.Lib.Pipeline.ValueKit.Point
public import Idealize.ShloMosaic.Lib.Pipeline.ReadBack
public import Idealize.ShloMosaic.Lib.StableHlo.RunRead
public import proofs.«01_k».proof.Proof.AdamScalar

@[expose] public section

noncomputable section

namespace Cert.AdamInValue

open Idealize.ShloMosaic Idealize.ShloMosaic.TcCoe Idealize.SL.Sem
open Idealize.ShloMosaic.Pipeline (Dat)
open Cert.AdamInIdeal Cert.AdamInIdeal.Gen

/-- The run with its final arrays named. -/
theorem run_blocks (m : (ℓ : Loc nD τ sig) → Buf (Elt Ideal) ℓ) (ρ : Dev nD → PrngReg) : θ_run defs (onTc (τ := τ) (main (F := Ideal))) ⟨m, fun _ => 0, ρ⟩ fun r => ∀ c : Dev nD,
      r.2.mem ((c : Thread nD τ).loc main_v11_0) = (dats m 0 c).arrAt 6 cfg0.N
      ∧ r.2.mem ((c : Thread nD τ).loc main_v11_1) = (dats m 0 c).arrAt 7 cfg0.N
      ∧ r.2.mem ((c : Thread nD τ).loc main_v11_2) = (dats m 0 c).arrAt 8 cfg0.N
      ∧ r.2.mem ((c : Thread nD τ).loc main_v11_3) = (dats m 0 c).arrAt 9 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1 6,
      (h c).1 7,
      (h c).1 8,
      (h c).1 9,
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).1 4).trans (((dats m 0 c).arrAt_in 4 rfl _).trans ((A_eq m c 4).trans (V_main_arg4 m c))),
      ((h c).2 main_arg5 (Pipeline.mem_restRefs_of main_arg5 (by decide) (by decide))).trans (V_main_arg5 m c)⟩)
    (run_main m ρ)

variable (m : (ℓ : Loc nD τ sig) → Buf (Elt Ideal) ℓ) (c : Dev nD)

theorem idx : ∀ t : Fin cfg0.N, win0_0.index t (0 : Fin 4) = 0
    ∧ win0_0.index t (1 : Fin 4) = t.val / 4
    ∧ win0_0.index t (2 : Fin 4) = 0
    ∧ win0_0.index t (3 : Fin 4) = t.val % 4
    ∧ win0_1.index t (0 : Fin 3) = t.val / 4
    ∧ win0_1.index t (1 : Fin 3) = 0
    ∧ win0_1.index t (2 : Fin 3) = t.val % 4
    ∧ win0_2.index t (0 : Fin 3) = t.val / 4
    ∧ win0_2.index t (1 : Fin 3) = 0
    ∧ win0_2.index t (2 : Fin 3) = t.val % 4
    ∧ win0_3.index t (0 : Fin 3) = t.val / 4
    ∧ win0_3.index t (1 : Fin 3) = 0
    ∧ win0_3.index t (2 : Fin 3) = t.val % 4
    ∧ win0_4.index t (0 : Fin 3) = t.val / 4
    ∧ win0_4.index t (1 : Fin 3) = 0
    ∧ win0_4.index t (2 : Fin 3) = t.val % 4
    ∧ win0_5.index t (0 : Fin 2) = 0
    ∧ win0_5.index t (1 : Fin 2) = 0
    ∧ win0_6.index t (0 : Fin 3) = t.val / 4
    ∧ win0_6.index t (1 : Fin 3) = 0
    ∧ win0_6.index t (2 : Fin 3) = t.val % 4
    ∧ win0_7.index t (0 : Fin 3) = t.val / 4
    ∧ win0_7.index t (1 : Fin 3) = 0
    ∧ win0_7.index t (2 : Fin 3) = t.val % 4
    ∧ win0_8.index t (0 : Fin 3) = t.val / 4
    ∧ win0_8.index t (1 : Fin 3) = 0
    ∧ win0_8.index t (2 : Fin 3) = t.val % 4
    ∧ win0_9.index t (0 : Fin 3) = t.val / 4
    ∧ win0_9.index t (1 : Fin 3) = 0
    ∧ win0_9.index t (2 : Fin 3) = t.val % 4 :=
  (by decide +kernel : ∀ t : Fin grid0.N, _)

/-- The argument arrays. -/
abbrev A0 : Vec Ideal S8x4x705x1024 .bf16 := m ((c : Thread nD τ).loc main_arg0)
abbrev A1 : Vec Ideal S4x1024x705 .f32 := m ((c : Thread nD τ).loc main_arg1)
abbrev A2 : Vec Ideal S4x1024x705 .f32 := m ((c : Thread nD τ).loc main_arg2)
abbrev A3 : Vec Ideal S4x1024x705 .f32 := m ((c : Thread nD τ).loc main_arg3)
abbrev A4 : Vec Ideal S4x705x1024 .bf16 := m ((c : Thread nD τ).loc main_arg4)
abbrev A5 : Vec Ideal S1 .i32 := m ((c : Thread nD τ).loc main_arg5)

/-- The blocks a point reads. -/
abbrev X0 (t : Fin cfg0.N) : Vec Ideal S8x1x705x256 .bf16 := iblk m c 0 t
abbrev X1 (t : Fin cfg0.N) : Vec Ideal S1x705x256 .f32 := iblk m c 1 t
abbrev X2 (t : Fin cfg0.N) : Vec Ideal S1x705x256 .f32 := iblk m c 2 t
abbrev X3 (t : Fin cfg0.N) : Vec Ideal S1x705x256 .f32 := iblk m c 3 t
abbrev X4 (t : Fin cfg0.N) : Vec Ideal S1x705x256 .bf16 := iblk m c 4 t
abbrev X5 (t : Fin cfg0.N) : Vec Ideal S8x128 .f32 := iblk m c 5 t

theorem block_0 (t : Fin cfg0.N) (a : Fin 8) (b : Fin 1) (d : Fin 705) (f : Fin 256) (A : Fin 8) (B : Fin 4) (C : Fin 705) (D : Fin 1024)
    (h0 : a.val = A.val) (h1 : (t.val / 4) * 1 + b.val = B.val) (h2 : d.val = C.val) (h3 : (t.val % 4) * 256 + f.val = D.val) : X0 m c t (ix4 a b d f) = A0 m c (ix4 A B C D) := by
  have e0 := (idx t).1
  have e1 := (idx t).2.1
  have e2 := (idx t).2.2.1
  have e3 := (idx t).2.2.2.1
  blk_ext [X0, A0, iblk, V, e0, e1, e2, e3]

/-- An operand that the host prepares. -/
theorem entry_v0 : V m c main_v0 = transpose S4x705x1024 [0, 2, 1] (A1 m c : FVec Ideal S4x1024x705 .f32) transposes_S4x1024x705_S4x705x1024_0_2_1 := by
  show StableHlo.after ([hostOps0, hostOps0_1, hostOps0_2] : List (List (HloOp τ sig (Elt Ideal)))).flatten (fun b => m (c, b)) (Proc.tc.devRef main_v0) = _
  simp only [List.flatten_cons, List.flatten_nil, List.cons_append, List.nil_append, List.append_nil]
  after_reads_simp

theorem block_1 (t : Fin cfg0.N) (a : Fin 1) (b : Fin 705) (d : Fin 256) (A : Fin 4) (B : Fin 705) (C : Fin 1024)
    (h0 : (t.val / 4) * 1 + a.val = A.val) (h1 : b.val = B.val) (h2 : (t.val % 4) * 256 + d.val = C.val) : X1 m c t (ix3 a b d) = A1 m c (ix3 A C B) := by
  have e0 := (idx t).2.2.2.2.1
  have e1 := (idx t).2.2.2.2.2.1
  have e2 := (idx t).2.2.2.2.2.2.1
  show V m c main_v0 (((cfg0.win 1).blk t).view.emb (ix3 a b d )) = _
  have e : ((cfg0.win 1).blk t).view.emb (ix3 a b d) = (ix3 A B C : S4x705x1024.Idx) := by
    funext x; apply Fin.ext
    match x with
    | ⟨0, _⟩ => show win0_1.index t (0 : Fin 3) * 1 + 1 * a.val = A.val; omega
    | ⟨1, _⟩ => show win0_1.index t (1 : Fin 3) * 705 + 1 * b.val = B.val; omega
    | ⟨2, _⟩ => show win0_1.index t (2 : Fin 3) * 256 + 1 * d.val = C.val; omega
  rw [e, entry_v0]
  pointwise

/-- An operand that the host prepares. -/
theorem entry_v1 : V m c main_v1 = transpose S4x705x1024 [0, 2, 1] (A2 m c : FVec Ideal S4x1024x705 .f32) transposes_S4x1024x705_S4x705x1024_0_2_1 := by
  show StableHlo.after ([hostOps0, hostOps0_1, hostOps0_2] : List (List (HloOp τ sig (Elt Ideal)))).flatten (fun b => m (c, b)) (Proc.tc.devRef main_v1) = _
  simp only [List.flatten_cons, List.flatten_nil, List.cons_append, List.nil_append, List.append_nil]
  after_reads_simp

theorem block_2 (t : Fin cfg0.N) (a : Fin 1) (b : Fin 705) (d : Fin 256) (A : Fin 4) (B : Fin 705) (C : Fin 1024)
    (h0 : (t.val / 4) * 1 + a.val = A.val) (h1 : b.val = B.val) (h2 : (t.val % 4) * 256 + d.val = C.val) : X2 m c t (ix3 a b d) = A2 m c (ix3 A C B) := by
  have e0 := (idx t).2.2.2.2.2.2.2.1
  have e1 := (idx t).2.2.2.2.2.2.2.2.1
  have e2 := (idx t).2.2.2.2.2.2.2.2.2.1
  show V m c main_v1 (((cfg0.win 2).blk t).view.emb (ix3 a b d )) = _
  have e : ((cfg0.win 2).blk t).view.emb (ix3 a b d) = (ix3 A B C : S4x705x1024.Idx) := by
    funext x; apply Fin.ext
    match x with
    | ⟨0, _⟩ => show win0_2.index t (0 : Fin 3) * 1 + 1 * a.val = A.val; omega
    | ⟨1, _⟩ => show win0_2.index t (1 : Fin 3) * 705 + 1 * b.val = B.val; omega
    | ⟨2, _⟩ => show win0_2.index t (2 : Fin 3) * 256 + 1 * d.val = C.val; omega
  rw [e, entry_v1]
  pointwise

/-- An operand that the host prepares. -/
theorem entry_v2 : V m c main_v2 = transpose S4x705x1024 [0, 2, 1] (A3 m c : FVec Ideal S4x1024x705 .f32) transposes_S4x1024x705_S4x705x1024_0_2_1 := by
  show StableHlo.after ([hostOps0, hostOps0_1, hostOps0_2] : List (List (HloOp τ sig (Elt Ideal)))).flatten (fun b => m (c, b)) (Proc.tc.devRef main_v2) = _
  simp only [List.flatten_cons, List.flatten_nil, List.cons_append, List.nil_append, List.append_nil]
  after_reads_simp

theorem block_3 (t : Fin cfg0.N) (a : Fin 1) (b : Fin 705) (d : Fin 256) (A : Fin 4) (B : Fin 705) (C : Fin 1024)
    (h0 : (t.val / 4) * 1 + a.val = A.val) (h1 : b.val = B.val) (h2 : (t.val % 4) * 256 + d.val = C.val) : X3 m c t (ix3 a b d) = A3 m c (ix3 A C B) := by
  have e0 := (idx t).2.2.2.2.2.2.2.2.2.2.1
  have e1 := (idx t).2.2.2.2.2.2.2.2.2.2.2.1
  have e2 := (idx t).2.2.2.2.2.2.2.2.2.2.2.2.1
  show V m c main_v2 (((cfg0.win 3).blk t).view.emb (ix3 a b d )) = _
  have e : ((cfg0.win 3).blk t).view.emb (ix3 a b d) = (ix3 A B C : S4x705x1024.Idx) := by
    funext x; apply Fin.ext
    match x with
    | ⟨0, _⟩ => show win0_3.index t (0 : Fin 3) * 1 + 1 * a.val = A.val; omega
    | ⟨1, _⟩ => show win0_3.index t (1 : Fin 3) * 705 + 1 * b.val = B.val; omega
    | ⟨2, _⟩ => show win0_3.index t (2 : Fin 3) * 256 + 1 * d.val = C.val; omega
  rw [e, entry_v2]
  pointwise

theorem block_4 (t : Fin cfg0.N) (a : Fin 1) (b : Fin 705) (d : Fin 256) (A : Fin 4) (B : Fin 705) (C : Fin 1024)
    (h0 : (t.val / 4) * 1 + a.val = A.val) (h1 : b.val = B.val) (h2 : (t.val % 4) * 256 + d.val = C.val) : X4 m c t (ix3 a b d) = A4 m c (ix3 A B C) := by
  have e0 := (idx t).2.2.2.2.2.2.2.2.2.2.2.2.2.1
  have e1 := (idx t).2.2.2.2.2.2.2.2.2.2.2.2.2.2.1
  have e2 := (idx t).2.2.2.2.2.2.2.2.2.2.2.2.2.2.2.1
  blk_ext [X4, A4, iblk, V, e0, e1, e2]

/-- An operand that the host prepares. -/
theorem entry_v10 : V m c main_v10 = (broadcastInDim S8x128 ![0, 1] bcast_S8x1_S8x128_0_1 (select (shapeCast S8x1 (cmpi .eq (iotaInDim S8x1x1 32 0 : Vec Ideal S8x1x1 .i32) (broadcastInDim S8x1x1 ![0, 1, 2] bcast_S1x1x1_S8x1x1_0_1_2 (broadcastInDim S1x1x1 ![2] bcast_S1_S1x1x1_2 (A5 m c)))) shapeCasts_S8x1x1_S8x1)
      (broadcastInDim S8x1 ![] bcast_S_S8x1 (constant (F := Ideal) S_ .f32 0x3F800000#32)) (broadcastInDim S8x1 ![] bcast_S_S8x1 (constant (F := Ideal) S_ .f32 0x00000000#32))) : FVec Ideal S8x128 .f32) := by
  show StableHlo.after ([hostOps0, hostOps0_1, hostOps0_2] : List (List (HloOp τ sig (Elt Ideal)))).flatten (fun b => m (c, b)) (Proc.tc.devRef main_v10) = _
  simp only [List.flatten_cons, List.flatten_nil, List.cons_append, List.nil_append, List.append_nil]
  after_reads_simp
  try rfl

/-- Whether part `q` is this device's: the choice at row `q`. -/
def chosen (q : Fin 8) : EReal := Scalar.select (IntOp.cmpi CmpIPredicate.eq (BitVec.ofNat 32 q.val) (A5 m c (ix1 0))) 1 0

theorem block_5 (t : Fin cfg0.N) (a : Fin 8) (b : Fin 128) (A : Fin 8) (B : Fin 128)
    (h0 : a.val = A.val) (h1 : b.val = B.val) : X5 m c t (ix2 a b) = chosen m c A := by
  have e0 := (idx t).2.2.2.2.2.2.2.2.2.2.2.2.2.2.2.2.1
  have e1 := (idx t).2.2.2.2.2.2.2.2.2.2.2.2.2.2.2.2.2.1
  show V m c main_v10 (((cfg0.win 5).blk t).view.emb (ix2 a b )) = _
  have e : ((cfg0.win 5).blk t).view.emb (ix2 a b) = (ix2 A B : S8x128.Idx) := by
    funext x; apply Fin.ext
    match x with
    | ⟨0, _⟩ => show win0_5.index t (0 : Fin 2) * 8 + 1 * a.val = A.val; omega
    | ⟨1, _⟩ => show win0_5.index t (1 : Fin 2) * 128 + 1 * b.val = B.val; omega
  rw [e, entry_v10]
  unfold chosen
  pointwise
  try rfl

/-- The gradient. -/
def grad (A : Fin 4) (B : Fin 705) (C : Fin 1024) : EReal := Adam.sum8 fun q => Adam.pick (chosen m c q) (A4 m c (ix3 A B C)) (A0 m c (ix4 q A B C))

/-- The gradient of a block. -/
def gblock (t : Fin cfg0.N) (a : Fin 705) (b : Fin 256) : EReal := Adam.sum8 fun q => Adam.pick (X5 m c t (ix2 q 0)) (X4 m c t (ix3 0 a b)) (X0 m c t (ix4 q 0 a b))

theorem gblock_eq (t : Fin cfg0.N) (a : Fin 705) (b : Fin 256) (A : Fin 4) (B : Fin 705) (C : Fin 1024)
    (h0 : (t.val / 4) * 1 + (0 : Fin 1).val = A.val) (h1 : a.val = B.val) (h2 : (t.val % 4) * 256 + b.val = C.val) : gblock m c t a b = grad m c A B C := by
  unfold gblock grad
  refine congrArg Adam.sum8 (funext fun q => ?_)
  rw [block_0 m c t q 0 a b q A B C (by simp) h0 h1 h2, block_4 m c t 0 a b A B C h0 h1 h2,
    block_5 m c t q 0 q 0 (by simp) (by simp)]

/-- The point and the place in its block of an entry. -/
theorem place (A : Fin 4) (B : Fin 705) (C : Fin 1024) : ∃ (t : Fin cfg0.N) (a : Fin 705) (b : Fin 256),
    ((t.val / 4) * 1 + (0 : Fin 1).val = A.val) ∧ (a.val = B.val) ∧ (t.val % 4) * 256 + b.val = C.val := by
  obtain ⟨t, ht⟩ : ∃ t : Fin cfg0.N, t.val = A.val * 4 + C.val / 256 := ⟨⟨A.val * 4 + C.val / 256, by show _ < 16; omega⟩, rfl⟩
  obtain ⟨a, ha⟩ : ∃ a : Fin 705, a.val = B.val % 705 := ⟨⟨B.val % 705, by omega⟩, rfl⟩
  obtain ⟨b, hb⟩ : ∃ b : Fin 256, b.val = C.val % 256 := ⟨⟨C.val % 256, by omega⟩, rfl⟩
  exact ⟨t, a, b, by simp only [Fin.val_zero]; omega, by omega, by omega⟩

theorem out_6 (t : Fin cfg0.N) (a : Fin 705) (b : Fin 256) : out0_6 (X0 m c t) (X1 m c t) (X2 m c t) (X3 m c t) (X4 m c t) (X5 m c t) (ix3 0 a b) = gblock m c t a b := by
  frame_out
  open_payloads
  pointwise [read_unread_whole]
  try rfl

theorem final_g (A : Fin 4) (B : Fin 705) (C : Fin 1024) : (dats m 0 c).arrAt 6 cfg0.N (ix3 A B C) = grad m c A B C := by
  obtain ⟨t, a, b, h0, h1, h2⟩ := place A B C
  have e0 := (idx t).2.2.2.2.2.2.2.2.2.2.2.2.2.2.2.2.2.2.1
  have e1 := (idx t).2.2.2.2.2.2.2.2.2.2.2.2.2.2.2.2.2.2.2.1
  have e2 := (idx t).2.2.2.2.2.2.2.2.2.2.2.2.2.2.2.2.2.2.2.2.1
  have bl := congrFun ((dats m 0 c).read_blk_arrAt_eq_flushed 6 (Pipeline.Window.hdisj_of_index_inj (cfg0.win 6) fun t t' _ _ =>
    (by decide +kernel : ∀ t t' : Fin grid0.N, win0_6.index t = win0_6.index t' → t = t') t t') cfg0.N t t.isLt (flush0_6 t)) (ix3 0 a b)
  rw [show (dats m 0 c).flushed 6 t = (cfg0.win 6).cut (grid0.coords t) ((dats m 0 c).after 6 t) from rfl, after0_6] at bl
  have e : ((cfg0.win 6).blk t).view.emb (ix3 (0 : Fin 1) a b) = (ix3 A B C : S4x705x1024.Idx) := by
    funext x; apply Fin.ext
    match x with
    | ⟨0, _⟩ => show win0_6.index t (0 : Fin 3) * 1 + 1 * (0 : Fin 1).val = A.val; simp only [Fin.val_zero] at *; omega
    | ⟨1, _⟩ => show win0_6.index t (1 : Fin 3) * 705 + 1 * a.val = B.val; omega
    | ⟨2, _⟩ => show win0_6.index t (2 : Fin 3) * 256 + 1 * b.val = C.val; omega
  refine (congrArg ((dats m 0 c).arrAt 6 cfg0.N) e).symm.trans (bl.trans ((out_6 m c t a b).trans ?_))
  rw [gblock_eq m c t a b A B C h0 h1 h2]

theorem out_7 (t : Fin cfg0.N) (a : Fin 705) (b : Fin 256) : out0_7 (X0 m c t) (X1 m c t) (X2 m c t) (X3 m c t) (X4 m c t) (X5 m c t) (ix3 0 a b) = Adam.delta (X1 m c t (ix3 0 a b)) (gblock m c t a b) (X2 m c t (ix3 0 a b)) (X3 m c t (ix3 0 a b)) := by
  frame_out
  open_payloads
  pointwise [read_unread_whole]
  try rfl

theorem final_d (A : Fin 4) (B : Fin 705) (C : Fin 1024) : (dats m 0 c).arrAt 7 cfg0.N (ix3 A B C) = Adam.delta (A1 m c (ix3 A C B)) (grad m c A B C) (A2 m c (ix3 A C B)) (A3 m c (ix3 A C B)) := by
  obtain ⟨t, a, b, h0, h1, h2⟩ := place A B C
  have e0 := (idx t).2.2.2.2.2.2.2.2.2.2.2.2.2.2.2.2.2.2.2.2.2.1
  have e1 := (idx t).2.2.2.2.2.2.2.2.2.2.2.2.2.2.2.2.2.2.2.2.2.2.1
  have e2 := (idx t).2.2.2.2.2.2.2.2.2.2.2.2.2.2.2.2.2.2.2.2.2.2.2.1
  have bl := congrFun ((dats m 0 c).read_blk_arrAt_eq_flushed 7 (Pipeline.Window.hdisj_of_index_inj (cfg0.win 7) fun t t' _ _ =>
    (by decide +kernel : ∀ t t' : Fin grid0.N, win0_7.index t = win0_7.index t' → t = t') t t') cfg0.N t t.isLt (flush0_7 t)) (ix3 0 a b)
  rw [show (dats m 0 c).flushed 7 t = (cfg0.win 7).cut (grid0.coords t) ((dats m 0 c).after 7 t) from rfl, after0_7] at bl
  have e : ((cfg0.win 7).blk t).view.emb (ix3 (0 : Fin 1) a b) = (ix3 A B C : S4x705x1024.Idx) := by
    funext x; apply Fin.ext
    match x with
    | ⟨0, _⟩ => show win0_7.index t (0 : Fin 3) * 1 + 1 * (0 : Fin 1).val = A.val; simp only [Fin.val_zero] at *; omega
    | ⟨1, _⟩ => show win0_7.index t (1 : Fin 3) * 705 + 1 * a.val = B.val; omega
    | ⟨2, _⟩ => show win0_7.index t (2 : Fin 3) * 256 + 1 * b.val = C.val; omega
  refine (congrArg ((dats m 0 c).arrAt 7 cfg0.N) e).symm.trans (bl.trans ((out_7 m c t a b).trans ?_))
  rw [gblock_eq m c t a b A B C h0 h1 h2, block_1 m c t 0 a b A B C h0 h1 h2, block_2 m c t 0 a b A B C h0 h1 h2, block_3 m c t 0 a b A B C h0 h1 h2]

theorem out_8 (t : Fin cfg0.N) (a : Fin 705) (b : Fin 256) : out0_8 (X0 m c t) (X1 m c t) (X2 m c t) (X3 m c t) (X4 m c t) (X5 m c t) (ix3 0 a b) = Adam.mean (gblock m c t a b) (X2 m c t (ix3 0 a b)) := by
  frame_out
  open_payloads
  pointwise [read_unread_whole]
  try rfl

theorem final_m (A : Fin 4) (B : Fin 705) (C : Fin 1024) : (dats m 0 c).arrAt 8 cfg0.N (ix3 A B C) = Adam.mean (grad m c A B C) (A2 m c (ix3 A C B)) := by
  obtain ⟨t, a, b, h0, h1, h2⟩ := place A B C
  have e0 := (idx t).2.2.2.2.2.2.2.2.2.2.2.2.2.2.2.2.2.2.2.2.2.2.2.2.1
  have e1 := (idx t).2.2.2.2.2.2.2.2.2.2.2.2.2.2.2.2.2.2.2.2.2.2.2.2.2.1
  have e2 := (idx t).2.2.2.2.2.2.2.2.2.2.2.2.2.2.2.2.2.2.2.2.2.2.2.2.2.2.1
  have bl := congrFun ((dats m 0 c).read_blk_arrAt_eq_flushed 8 (Pipeline.Window.hdisj_of_index_inj (cfg0.win 8) fun t t' _ _ =>
    (by decide +kernel : ∀ t t' : Fin grid0.N, win0_8.index t = win0_8.index t' → t = t') t t') cfg0.N t t.isLt (flush0_8 t)) (ix3 0 a b)
  rw [show (dats m 0 c).flushed 8 t = (cfg0.win 8).cut (grid0.coords t) ((dats m 0 c).after 8 t) from rfl, after0_8] at bl
  have e : ((cfg0.win 8).blk t).view.emb (ix3 (0 : Fin 1) a b) = (ix3 A B C : S4x705x1024.Idx) := by
    funext x; apply Fin.ext
    match x with
    | ⟨0, _⟩ => show win0_8.index t (0 : Fin 3) * 1 + 1 * (0 : Fin 1).val = A.val; simp only [Fin.val_zero] at *; omega
    | ⟨1, _⟩ => show win0_8.index t (1 : Fin 3) * 705 + 1 * a.val = B.val; omega
    | ⟨2, _⟩ => show win0_8.index t (2 : Fin 3) * 256 + 1 * b.val = C.val; omega
  refine (congrArg ((dats m 0 c).arrAt 8 cfg0.N) e).symm.trans (bl.trans ((out_8 m c t a b).trans ?_))
  rw [gblock_eq m c t a b A B C h0 h1 h2, block_2 m c t 0 a b A B C h0 h1 h2]

theorem out_9 (t : Fin cfg0.N) (a : Fin 705) (b : Fin 256) : out0_9 (X0 m c t) (X1 m c t) (X2 m c t) (X3 m c t) (X4 m c t) (X5 m c t) (ix3 0 a b) = Adam.var (gblock m c t a b) (X3 m c t (ix3 0 a b)) := by
  frame_out
  open_payloads
  pointwise [read_unread_whole]
  try rfl

theorem final_v (A : Fin 4) (B : Fin 705) (C : Fin 1024) : (dats m 0 c).arrAt 9 cfg0.N (ix3 A B C) = Adam.var (grad m c A B C) (A3 m c (ix3 A C B)) := by
  obtain ⟨t, a, b, h0, h1, h2⟩ := place A B C
  have e0 := (idx t).2.2.2.2.2.2.2.2.2.2.2.2.2.2.2.2.2.2.2.2.2.2.2.2.2.2.2.1
  have e1 := (idx t).2.2.2.2.2.2.2.2.2.2.2.2.2.2.2.2.2.2.2.2.2.2.2.2.2.2.2.2.1
  have e2 := (idx t).2.2.2.2.2.2.2.2.2.2.2.2.2.2.2.2.2.2.2.2.2.2.2.2.2.2.2.2.2
  have bl := congrFun ((dats m 0 c).read_blk_arrAt_eq_flushed 9 (Pipeline.Window.hdisj_of_index_inj (cfg0.win 9) fun t t' _ _ =>
    (by decide +kernel : ∀ t t' : Fin grid0.N, win0_9.index t = win0_9.index t' → t = t') t t') cfg0.N t t.isLt (flush0_9 t)) (ix3 0 a b)
  rw [show (dats m 0 c).flushed 9 t = (cfg0.win 9).cut (grid0.coords t) ((dats m 0 c).after 9 t) from rfl, after0_9] at bl
  have e : ((cfg0.win 9).blk t).view.emb (ix3 (0 : Fin 1) a b) = (ix3 A B C : S4x705x1024.Idx) := by
    funext x; apply Fin.ext
    match x with
    | ⟨0, _⟩ => show win0_9.index t (0 : Fin 3) * 1 + 1 * (0 : Fin 1).val = A.val; simp only [Fin.val_zero] at *; omega
    | ⟨1, _⟩ => show win0_9.index t (1 : Fin 3) * 705 + 1 * a.val = B.val; omega
    | ⟨2, _⟩ => show win0_9.index t (2 : Fin 3) * 256 + 1 * b.val = C.val; omega
  refine (congrArg ((dats m 0 c).arrAt 9 cfg0.N) e).symm.trans (bl.trans ((out_9 m c t a b).trans ?_))
  rw [gblock_eq m c t a b A B C h0 h1 h2, block_3 m c t 0 a b A B C h0 h1 h2]

end Cert.AdamInValue

end
-- ==== Proof.AdamInEqual.lean ====
/-
  `kernel_adam_in` against its reference.
-/
module

public import proofs.«01_k».proof.Defs
public import proofs.«01_k».proof.Proof.Gen.AdamIn.Frame
public import proofs.«01_k».proof.Proof.Gen.AdamInRefIdeal.Run
public import proofs.«01_k».proof.Proof.AdamInValue
public import Idealize.ShloMosaic.Adequacy

@[expose] public section

noncomputable section

namespace Cert.Proof

open Idealize.ShloMosaic Idealize.ShloMosaic.TcCoe Idealize.SL.Sem

theorem frame_adam_in : Cert.quiescent_AdamIn := fun m ρ _ => Cert.AdamIn.Gen.frame m ρ
theorem frame_adam_in_ideal : Cert.quiescent_AdamInIdeal := fun m ρ _ => Cert.AdamInIdeal.Gen.frame m ρ
theorem frame_adam_in_reference : Cert.quiescent_AdamInRefIdeal := fun m ρ _ =>
  (θ_run Cert.AdamInRefIdeal.defs _ _).mono (fun r h => ⟨fun c => (h c).2.2.2.2, sem_eq_zero_of_no_sems (by decide) r.2⟩)
    (Cert.AdamInRefIdeal.Value.run (F := Ideal) m ρ)

theorem adam_in_equal : Cert.algebraic_AdamInIdeal_AdamInRefIdeal := by
  intro m ρ m' ρ' _ ha
  refine ⟨fun c => (Cert.AdamInIdeal.Gen.dats m 0 c).arrAt 6 Cert.AdamInIdeal.cfg0.N,
    fun c => (Cert.AdamInIdeal.Gen.dats m 0 c).arrAt 7 Cert.AdamInIdeal.cfg0.N,
    fun c => (Cert.AdamInIdeal.Gen.dats m 0 c).arrAt 8 Cert.AdamInIdeal.cfg0.N,
    fun c => (Cert.AdamInIdeal.Gen.dats m 0 c).arrAt 9 Cert.AdamInIdeal.cfg0.N,
    Cert.AdamInValue.run_blocks m ρ, ?_⟩
  refine (θ_run Cert.AdamInRefIdeal.defs _ _).mono (fun r h c => ?_) (Cert.AdamInRefIdeal.Value.run (F := Ideal) m' ρ')
  obtain ⟨a0, a1, a2, a3, a4, a5⟩ := ha c
  refine ⟨(h c).1.trans ?_, (h c).2.1.trans ?_, (h c).2.2.1.trans ?_, (h c).2.2.2.1.trans ?_, (h c).2.2.2.2⟩ <;> clear h
  · try rw [a0]
    try rw [a1]
    try rw [a2]
    try rw [a3]
    try rw [a4]
    try rw [a5]
    clear ha a0 a1 a2 a3 a4 a5
    funext (y : Cert.AdamInIdeal.S4x705x1024.Idx)
    have e : y = ix3 (y 0) (y 1) (y 2) := by
      funext a; match a with | ⟨0, _⟩ => rfl | ⟨1, _⟩ => rfl | ⟨2, _⟩ => rfl
    generalize y 0 = A at e; generalize y 1 = B at e; generalize y 2 = C at e
    rw [e]
    refine Eq.trans ?_ (Cert.AdamInValue.final_g m c A B C).symm
    unfold Cert.AdamInValue.grad
    simp only [Adam.sum8_eq]
    simp only [Cert.AdamInValue.chosen, Adam.pick_select]
    pointwise
    try rfl
  · try rw [a0]
    try rw [a1]
    try rw [a2]
    try rw [a3]
    try rw [a4]
    try rw [a5]
    clear ha a0 a1 a2 a3 a4 a5
    funext (y : Cert.AdamInIdeal.S4x705x1024.Idx)
    have e : y = ix3 (y 0) (y 1) (y 2) := by
      funext a; match a with | ⟨0, _⟩ => rfl | ⟨1, _⟩ => rfl | ⟨2, _⟩ => rfl
    generalize y 0 = A at e; generalize y 1 = B at e; generalize y 2 = C at e
    rw [e]
    refine Eq.trans ?_ (Cert.AdamInValue.final_d m c A B C).symm
    unfold Adam.delta Adam.mean Adam.var Cert.AdamInValue.grad
    simp only [Adam.sum8_eq]
    simp only [Cert.AdamInValue.chosen, Adam.pick_select]
    pointwise
    try rfl
  · try rw [a0]
    try rw [a1]
    try rw [a2]
    try rw [a3]
    try rw [a4]
    try rw [a5]
    clear ha a0 a1 a2 a3 a4 a5
    funext (y : Cert.AdamInIdeal.S4x705x1024.Idx)
    have e : y = ix3 (y 0) (y 1) (y 2) := by
      funext a; match a with | ⟨0, _⟩ => rfl | ⟨1, _⟩ => rfl | ⟨2, _⟩ => rfl
    generalize y 0 = A at e; generalize y 1 = B at e; generalize y 2 = C at e
    rw [e]
    refine Eq.trans ?_ (Cert.AdamInValue.final_m m c A B C).symm
    unfold Adam.mean Cert.AdamInValue.grad
    simp only [Adam.sum8_eq]
    simp only [Cert.AdamInValue.chosen, Adam.pick_select]
    pointwise
    try rfl
  · try rw [a0]
    try rw [a1]
    try rw [a2]
    try rw [a3]
    try rw [a4]
    try rw [a5]
    clear ha a0 a1 a2 a3 a4 a5
    funext (y : Cert.AdamInIdeal.S4x705x1024.Idx)
    have e : y = ix3 (y 0) (y 1) (y 2) := by
      funext a; match a with | ⟨0, _⟩ => rfl | ⟨1, _⟩ => rfl | ⟨2, _⟩ => rfl
    generalize y 0 = A at e; generalize y 1 = B at e; generalize y 2 = C at e
    rw [e]
    refine Eq.trans ?_ (Cert.AdamInValue.final_v m c A B C).symm
    unfold Adam.var Cert.AdamInValue.grad
    simp only [Adam.sum8_eq]
    simp only [Cert.AdamInValue.chosen, Adam.pick_select]
    pointwise
    try rfl

end Cert.Proof

end
-- ==== Proof.AdamFfnInValue.lean ====
/-
  One AdamW update, read at an index.
-/
module

public import proofs.«01_k».proof.Proof.Gen.AdamFfnInIdeal.Frame
public import Idealize.ShloMosaic.Lib.Pipeline.Value
public import Idealize.ShloMosaic.Lib.Pipeline.ValueKit.Point
public import Idealize.ShloMosaic.Lib.Pipeline.ReadBack
public import Idealize.ShloMosaic.Lib.StableHlo.RunRead
public import proofs.«01_k».proof.Proof.AdamScalar

@[expose] public section

noncomputable section

namespace Cert.AdamFfnInValue

open Idealize.ShloMosaic Idealize.ShloMosaic.TcCoe Idealize.SL.Sem
open Idealize.ShloMosaic.Pipeline (Dat)
open Cert.AdamFfnInIdeal Cert.AdamFfnInIdeal.Gen

/-- The run with its final arrays named. -/
theorem run_blocks (m : (ℓ : Loc nD τ sig) → Buf (Elt Ideal) ℓ) (ρ : Dev nD → PrngReg) : θ_run defs (onTc (τ := τ) (main (F := Ideal))) ⟨m, fun _ => 0, ρ⟩ fun r => ∀ c : Dev nD,
      r.2.mem ((c : Thread nD τ).loc main_v11_0) = (dats m 0 c).arrAt 6 cfg0.N
      ∧ r.2.mem ((c : Thread nD τ).loc main_v11_1) = (dats m 0 c).arrAt 7 cfg0.N
      ∧ r.2.mem ((c : Thread nD τ).loc main_v11_2) = (dats m 0 c).arrAt 8 cfg0.N
      ∧ r.2.mem ((c : Thread nD τ).loc main_v11_3) = (dats m 0 c).arrAt 9 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1 6,
      (h c).1 7,
      (h c).1 8,
      (h c).1 9,
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).1 4).trans (((dats m 0 c).arrAt_in 4 rfl _).trans ((A_eq m c 4).trans (V_main_arg4 m c))),
      ((h c).2 main_arg5 (Pipeline.mem_restRefs_of main_arg5 (by decide) (by decide))).trans (V_main_arg5 m c)⟩)
    (run_main m ρ)

variable (m : (ℓ : Loc nD τ sig) → Buf (Elt Ideal) ℓ) (c : Dev nD)

theorem idx : ∀ t : Fin cfg0.N, win0_0.index t (0 : Fin 4) = 0
    ∧ win0_0.index t (1 : Fin 4) = t.val / 4
    ∧ win0_0.index t (2 : Fin 4) = t.val % 4
    ∧ win0_0.index t (3 : Fin 4) = 0
    ∧ win0_1.index t (0 : Fin 3) = t.val / 4
    ∧ win0_1.index t (1 : Fin 3) = t.val % 4
    ∧ win0_1.index t (2 : Fin 3) = 0
    ∧ win0_2.index t (0 : Fin 3) = t.val / 4
    ∧ win0_2.index t (1 : Fin 3) = t.val % 4
    ∧ win0_2.index t (2 : Fin 3) = 0
    ∧ win0_3.index t (0 : Fin 3) = t.val / 4
    ∧ win0_3.index t (1 : Fin 3) = t.val % 4
    ∧ win0_3.index t (2 : Fin 3) = 0
    ∧ win0_4.index t (0 : Fin 3) = t.val / 4
    ∧ win0_4.index t (1 : Fin 3) = t.val % 4
    ∧ win0_4.index t (2 : Fin 3) = 0
    ∧ win0_5.index t (0 : Fin 2) = 0
    ∧ win0_5.index t (1 : Fin 2) = 0
    ∧ win0_6.index t (0 : Fin 3) = t.val / 4
    ∧ win0_6.index t (1 : Fin 3) = t.val % 4
    ∧ win0_6.index t (2 : Fin 3) = 0
    ∧ win0_7.index t (0 : Fin 3) = t.val / 4
    ∧ win0_7.index t (1 : Fin 3) = t.val % 4
    ∧ win0_7.index t (2 : Fin 3) = 0
    ∧ win0_8.index t (0 : Fin 3) = t.val / 4
    ∧ win0_8.index t (1 : Fin 3) = t.val % 4
    ∧ win0_8.index t (2 : Fin 3) = 0
    ∧ win0_9.index t (0 : Fin 3) = t.val / 4
    ∧ win0_9.index t (1 : Fin 3) = t.val % 4
    ∧ win0_9.index t (2 : Fin 3) = 0 :=
  (by decide +kernel : ∀ t : Fin grid0.N, _)

/-- The argument arrays. -/
abbrev A0 : Vec Ideal S8x4x704x1024 .bf16 := m ((c : Thread nD τ).loc main_arg0)
abbrev A1 : Vec Ideal S4x1024x704 .f32 := m ((c : Thread nD τ).loc main_arg1)
abbrev A2 : Vec Ideal S4x1024x704 .f32 := m ((c : Thread nD τ).loc main_arg2)
abbrev A3 : Vec Ideal S4x1024x704 .f32 := m ((c : Thread nD τ).loc main_arg3)
abbrev A4 : Vec Ideal S4x704x1024 .bf16 := m ((c : Thread nD τ).loc main_arg4)
abbrev A5 : Vec Ideal S1 .i32 := m ((c : Thread nD τ).loc main_arg5)

/-- The blocks a point reads. -/
abbrev X0 (t : Fin cfg0.N) : Vec Ideal S8x1x176x1024 .bf16 := iblk m c 0 t
abbrev X1 (t : Fin cfg0.N) : Vec Ideal S1x176x1024 .f32 := iblk m c 1 t
abbrev X2 (t : Fin cfg0.N) : Vec Ideal S1x176x1024 .f32 := iblk m c 2 t
abbrev X3 (t : Fin cfg0.N) : Vec Ideal S1x176x1024 .f32 := iblk m c 3 t
abbrev X4 (t : Fin cfg0.N) : Vec Ideal S1x176x1024 .bf16 := iblk m c 4 t
abbrev X5 (t : Fin cfg0.N) : Vec Ideal S8x128 .f32 := iblk m c 5 t

theorem block_0 (t : Fin cfg0.N) (a : Fin 8) (b : Fin 1) (d : Fin 176) (f : Fin 1024) (A : Fin 8) (B : Fin 4) (C : Fin 704) (D : Fin 1024)
    (h0 : a.val = A.val) (h1 : (t.val / 4) * 1 + b.val = B.val) (h2 : (t.val % 4) * 176 + d.val = C.val) (h3 : f.val = D.val) : X0 m c t (ix4 a b d f) = A0 m c (ix4 A B C D) := by
  have e0 := (idx t).1
  have e1 := (idx t).2.1
  have e2 := (idx t).2.2.1
  have e3 := (idx t).2.2.2.1
  blk_ext [X0, A0, iblk, V, e0, e1, e2, e3]

/-- An operand that the host prepares. -/
theorem entry_v0 : V m c main_v0 = transpose S4x704x1024 [0, 2, 1] (A1 m c : FVec Ideal S4x1024x704 .f32) transposes_S4x1024x704_S4x704x1024_0_2_1 := by
  show StableHlo.after ([hostOps0, hostOps0_1, hostOps0_2] : List (List (HloOp τ sig (Elt Ideal)))).flatten (fun b => m (c, b)) (Proc.tc.devRef main_v0) = _
  simp only [List.flatten_cons, List.flatten_nil, List.cons_append, List.nil_append, List.append_nil]
  after_reads_simp

theorem block_1 (t : Fin cfg0.N) (a : Fin 1) (b : Fin 176) (d : Fin 1024) (A : Fin 4) (B : Fin 704) (C : Fin 1024)
    (h0 : (t.val / 4) * 1 + a.val = A.val) (h1 : (t.val % 4) * 176 + b.val = B.val) (h2 : d.val = C.val) : X1 m c t (ix3 a b d) = A1 m c (ix3 A C B) := by
  have e0 := (idx t).2.2.2.2.1
  have e1 := (idx t).2.2.2.2.2.1
  have e2 := (idx t).2.2.2.2.2.2.1
  show V m c main_v0 (((cfg0.win 1).blk t).view.emb (ix3 a b d )) = _
  have e : ((cfg0.win 1).blk t).view.emb (ix3 a b d) = (ix3 A B C : S4x704x1024.Idx) := by
    funext x; apply Fin.ext
    match x with
    | ⟨0, _⟩ => show win0_1.index t (0 : Fin 3) * 1 + 1 * a.val = A.val; omega
    | ⟨1, _⟩ => show win0_1.index t (1 : Fin 3) * 176 + 1 * b.val = B.val; omega
    | ⟨2, _⟩ => show win0_1.index t (2 : Fin 3) * 1024 + 1 * d.val = C.val; omega
  rw [e, entry_v0]
  pointwise

/-- An operand that the host prepares. -/
theorem entry_v1 : V m c main_v1 = transpose S4x704x1024 [0, 2, 1] (A2 m c : FVec Ideal S4x1024x704 .f32) transposes_S4x1024x704_S4x704x1024_0_2_1 := by
  show StableHlo.after ([hostOps0, hostOps0_1, hostOps0_2] : List (List (HloOp τ sig (Elt Ideal)))).flatten (fun b => m (c, b)) (Proc.tc.devRef main_v1) = _
  simp only [List.flatten_cons, List.flatten_nil, List.cons_append, List.nil_append, List.append_nil]
  after_reads_simp

theorem block_2 (t : Fin cfg0.N) (a : Fin 1) (b : Fin 176) (d : Fin 1024) (A : Fin 4) (B : Fin 704) (C : Fin 1024)
    (h0 : (t.val / 4) * 1 + a.val = A.val) (h1 : (t.val % 4) * 176 + b.val = B.val) (h2 : d.val = C.val) : X2 m c t (ix3 a b d) = A2 m c (ix3 A C B) := by
  have e0 := (idx t).2.2.2.2.2.2.2.1
  have e1 := (idx t).2.2.2.2.2.2.2.2.1
  have e2 := (idx t).2.2.2.2.2.2.2.2.2.1
  show V m c main_v1 (((cfg0.win 2).blk t).view.emb (ix3 a b d )) = _
  have e : ((cfg0.win 2).blk t).view.emb (ix3 a b d) = (ix3 A B C : S4x704x1024.Idx) := by
    funext x; apply Fin.ext
    match x with
    | ⟨0, _⟩ => show win0_2.index t (0 : Fin 3) * 1 + 1 * a.val = A.val; omega
    | ⟨1, _⟩ => show win0_2.index t (1 : Fin 3) * 176 + 1 * b.val = B.val; omega
    | ⟨2, _⟩ => show win0_2.index t (2 : Fin 3) * 1024 + 1 * d.val = C.val; omega
  rw [e, entry_v1]
  pointwise

/-- An operand that the host prepares. -/
theorem entry_v2 : V m c main_v2 = transpose S4x704x1024 [0, 2, 1] (A3 m c : FVec Ideal S4x1024x704 .f32) transposes_S4x1024x704_S4x704x1024_0_2_1 := by
  show StableHlo.after ([hostOps0, hostOps0_1, hostOps0_2] : List (List (HloOp τ sig (Elt Ideal)))).flatten (fun b => m (c, b)) (Proc.tc.devRef main_v2) = _
  simp only [List.flatten_cons, List.flatten_nil, List.cons_append, List.nil_append, List.append_nil]
  after_reads_simp

theorem block_3 (t : Fin cfg0.N) (a : Fin 1) (b : Fin 176) (d : Fin 1024) (A : Fin 4) (B : Fin 704) (C : Fin 1024)
    (h0 : (t.val / 4) * 1 + a.val = A.val) (h1 : (t.val % 4) * 176 + b.val = B.val) (h2 : d.val = C.val) : X3 m c t (ix3 a b d) = A3 m c (ix3 A C B) := by
  have e0 := (idx t).2.2.2.2.2.2.2.2.2.2.1
  have e1 := (idx t).2.2.2.2.2.2.2.2.2.2.2.1
  have e2 := (idx t).2.2.2.2.2.2.2.2.2.2.2.2.1
  show V m c main_v2 (((cfg0.win 3).blk t).view.emb (ix3 a b d )) = _
  have e : ((cfg0.win 3).blk t).view.emb (ix3 a b d) = (ix3 A B C : S4x704x1024.Idx) := by
    funext x; apply Fin.ext
    match x with
    | ⟨0, _⟩ => show win0_3.index t (0 : Fin 3) * 1 + 1 * a.val = A.val; omega
    | ⟨1, _⟩ => show win0_3.index t (1 : Fin 3) * 176 + 1 * b.val = B.val; omega
    | ⟨2, _⟩ => show win0_3.index t (2 : Fin 3) * 1024 + 1 * d.val = C.val; omega
  rw [e, entry_v2]
  pointwise

theorem block_4 (t : Fin cfg0.N) (a : Fin 1) (b : Fin 176) (d : Fin 1024) (A : Fin 4) (B : Fin 704) (C : Fin 1024)
    (h0 : (t.val / 4) * 1 + a.val = A.val) (h1 : (t.val % 4) * 176 + b.val = B.val) (h2 : d.val = C.val) : X4 m c t (ix3 a b d) = A4 m c (ix3 A B C) := by
  have e0 := (idx t).2.2.2.2.2.2.2.2.2.2.2.2.2.1
  have e1 := (idx t).2.2.2.2.2.2.2.2.2.2.2.2.2.2.1
  have e2 := (idx t).2.2.2.2.2.2.2.2.2.2.2.2.2.2.2.1
  blk_ext [X4, A4, iblk, V, e0, e1, e2]

/-- An operand that the host prepares. -/
theorem entry_v10 : V m c main_v10 = (broadcastInDim S8x128 ![0, 1] bcast_S8x1_S8x128_0_1 (select (shapeCast S8x1 (cmpi .eq (iotaInDim S8x1x1 32 0 : Vec Ideal S8x1x1 .i32) (broadcastInDim S8x1x1 ![0, 1, 2] bcast_S1x1x1_S8x1x1_0_1_2 (broadcastInDim S1x1x1 ![2] bcast_S1_S1x1x1_2 (A5 m c)))) shapeCasts_S8x1x1_S8x1)
      (broadcastInDim S8x1 ![] bcast_S_S8x1 (constant (F := Ideal) S_ .f32 0x3F800000#32)) (broadcastInDim S8x1 ![] bcast_S_S8x1 (constant (F := Ideal) S_ .f32 0x00000000#32))) : FVec Ideal S8x128 .f32) := by
  show StableHlo.after ([hostOps0, hostOps0_1, hostOps0_2] : List (List (HloOp τ sig (Elt Ideal)))).flatten (fun b => m (c, b)) (Proc.tc.devRef main_v10) = _
  simp only [List.flatten_cons, List.flatten_nil, List.cons_append, List.nil_append, List.append_nil]
  after_reads_simp
  try rfl

/-- Whether part `q` is this device's: the choice at row `q`. -/
def chosen (q : Fin 8) : EReal := Scalar.select (IntOp.cmpi CmpIPredicate.eq (BitVec.ofNat 32 q.val) (A5 m c (ix1 0))) 1 0

theorem block_5 (t : Fin cfg0.N) (a : Fin 8) (b : Fin 128) (A : Fin 8) (B : Fin 128)
    (h0 : a.val = A.val) (h1 : b.val = B.val) : X5 m c t (ix2 a b) = chosen m c A := by
  have e0 := (idx t).2.2.2.2.2.2.2.2.2.2.2.2.2.2.2.2.1
  have e1 := (idx t).2.2.2.2.2.2.2.2.2.2.2.2.2.2.2.2.2.1
  show V m c main_v10 (((cfg0.win 5).blk t).view.emb (ix2 a b )) = _
  have e : ((cfg0.win 5).blk t).view.emb (ix2 a b) = (ix2 A B : S8x128.Idx) := by
    funext x; apply Fin.ext
    match x with
    | ⟨0, _⟩ => show win0_5.index t (0 : Fin 2) * 8 + 1 * a.val = A.val; omega
    | ⟨1, _⟩ => show win0_5.index t (1 : Fin 2) * 128 + 1 * b.val = B.val; omega
  rw [e, entry_v10]
  unfold chosen
  pointwise
  try rfl

/-- The gradient. -/
def grad (A : Fin 4) (B : Fin 704) (C : Fin 1024) : EReal := Adam.sum8 fun q => Adam.pick (chosen m c q) (A4 m c (ix3 A B C)) (A0 m c (ix4 q A B C))

/-- The gradient of a block. -/
def gblock (t : Fin cfg0.N) (a : Fin 176) (b : Fin 1024) : EReal := Adam.sum8 fun q => Adam.pick (X5 m c t (ix2 q 0)) (X4 m c t (ix3 0 a b)) (X0 m c t (ix4 q 0 a b))

theorem gblock_eq (t : Fin cfg0.N) (a : Fin 176) (b : Fin 1024) (A : Fin 4) (B : Fin 704) (C : Fin 1024)
    (h0 : (t.val / 4) * 1 + (0 : Fin 1).val = A.val) (h1 : (t.val % 4) * 176 + a.val = B.val) (h2 : b.val = C.val) : gblock m c t a b = grad m c A B C := by
  unfold gblock grad
  refine congrArg Adam.sum8 (funext fun q => ?_)
  rw [block_0 m c t q 0 a b q A B C (by simp) h0 h1 h2, block_4 m c t 0 a b A B C h0 h1 h2,
    block_5 m c t q 0 q 0 (by simp) (by simp)]

/-- The point and the place in its block of an entry. -/
theorem place (A : Fin 4) (B : Fin 704) (C : Fin 1024) : ∃ (t : Fin cfg0.N) (a : Fin 176) (b : Fin 1024),
    ((t.val / 4) * 1 + (0 : Fin 1).val = A.val) ∧ ((t.val % 4) * 176 + a.val = B.val) ∧ b.val = C.val := by
  obtain ⟨t, ht⟩ : ∃ t : Fin cfg0.N, t.val = A.val * 4 + B.val / 176 := ⟨⟨A.val * 4 + B.val / 176, by show _ < 16; omega⟩, rfl⟩
  obtain ⟨a, ha⟩ : ∃ a : Fin 176, a.val = B.val % 176 := ⟨⟨B.val % 176, by omega⟩, rfl⟩
  obtain ⟨b, hb⟩ : ∃ b : Fin 1024, b.val = C.val % 1024 := ⟨⟨C.val % 1024, by omega⟩, rfl⟩
  exact ⟨t, a, b, by simp only [Fin.val_zero]; omega, by omega, by omega⟩

theorem out_6 (t : Fin cfg0.N) (a : Fin 176) (b : Fin 1024) : out0_6 (X0 m c t) (X1 m c t) (X2 m c t) (X3 m c t) (X4 m c t) (X5 m c t) (ix3 0 a b) = gblock m c t a b := by
  frame_out
  open_payloads
  pointwise [read_unread_whole]
  try rfl

theorem final_g (A : Fin 4) (B : Fin 704) (C : Fin 1024) : (dats m 0 c).arrAt 6 cfg0.N (ix3 A B C) = grad m c A B C := by
  obtain ⟨t, a, b, h0, h1, h2⟩ := place A B C
  have e0 := (idx t).2.2.2.2.2.2.2.2.2.2.2.2.2.2.2.2.2.2.1
  have e1 := (idx t).2.2.2.2.2.2.2.2.2.2.2.2.2.2.2.2.2.2.2.1
  have e2 := (idx t).2.2.2.2.2.2.2.2.2.2.2.2.2.2.2.2.2.2.2.2.1
  have bl := congrFun ((dats m 0 c).read_blk_arrAt_eq_flushed 6 (Pipeline.Window.hdisj_of_index_inj (cfg0.win 6) fun t t' _ _ =>
    (by decide +kernel : ∀ t t' : Fin grid0.N, win0_6.index t = win0_6.index t' → t = t') t t') cfg0.N t t.isLt (flush0_6 t)) (ix3 0 a b)
  rw [show (dats m 0 c).flushed 6 t = (cfg0.win 6).cut (grid0.coords t) ((dats m 0 c).after 6 t) from rfl, after0_6] at bl
  have e : ((cfg0.win 6).blk t).view.emb (ix3 (0 : Fin 1) a b) = (ix3 A B C : S4x704x1024.Idx) := by
    funext x; apply Fin.ext
    match x with
    | ⟨0, _⟩ => show win0_6.index t (0 : Fin 3) * 1 + 1 * (0 : Fin 1).val = A.val; simp only [Fin.val_zero] at *; omega
    | ⟨1, _⟩ => show win0_6.index t (1 : Fin 3) * 176 + 1 * a.val = B.val; omega
    | ⟨2, _⟩ => show win0_6.index t (2 : Fin 3) * 1024 + 1 * b.val = C.val; omega
  refine (congrArg ((dats m 0 c).arrAt 6 cfg0.N) e).symm.trans (bl.trans ((out_6 m c t a b).trans ?_))
  rw [gblock_eq m c t a b A B C h0 h1 h2]

theorem out_7 (t : Fin cfg0.N) (a : Fin 176) (b : Fin 1024) : out0_7 (X0 m c t) (X1 m c t) (X2 m c t) (X3 m c t) (X4 m c t) (X5 m c t) (ix3 0 a b) = Adam.delta (X1 m c t (ix3 0 a b)) (gblock m c t a b) (X2 m c t (ix3 0 a b)) (X3 m c t (ix3 0 a b)) := by
  frame_out
  open_payloads
  pointwise [read_unread_whole]
  try rfl

theorem final_d (A : Fin 4) (B : Fin 704) (C : Fin 1024) : (dats m 0 c).arrAt 7 cfg0.N (ix3 A B C) = Adam.delta (A1 m c (ix3 A C B)) (grad m c A B C) (A2 m c (ix3 A C B)) (A3 m c (ix3 A C B)) := by
  obtain ⟨t, a, b, h0, h1, h2⟩ := place A B C
  have e0 := (idx t).2.2.2.2.2.2.2.2.2.2.2.2.2.2.2.2.2.2.2.2.2.1
  have e1 := (idx t).2.2.2.2.2.2.2.2.2.2.2.2.2.2.2.2.2.2.2.2.2.2.1
  have e2 := (idx t).2.2.2.2.2.2.2.2.2.2.2.2.2.2.2.2.2.2.2.2.2.2.2.1
  have bl := congrFun ((dats m 0 c).read_blk_arrAt_eq_flushed 7 (Pipeline.Window.hdisj_of_index_inj (cfg0.win 7) fun t t' _ _ =>
    (by decide +kernel : ∀ t t' : Fin grid0.N, win0_7.index t = win0_7.index t' → t = t') t t') cfg0.N t t.isLt (flush0_7 t)) (ix3 0 a b)
  rw [show (dats m 0 c).flushed 7 t = (cfg0.win 7).cut (grid0.coords t) ((dats m 0 c).after 7 t) from rfl, after0_7] at bl
  have e : ((cfg0.win 7).blk t).view.emb (ix3 (0 : Fin 1) a b) = (ix3 A B C : S4x704x1024.Idx) := by
    funext x; apply Fin.ext
    match x with
    | ⟨0, _⟩ => show win0_7.index t (0 : Fin 3) * 1 + 1 * (0 : Fin 1).val = A.val; simp only [Fin.val_zero] at *; omega
    | ⟨1, _⟩ => show win0_7.index t (1 : Fin 3) * 176 + 1 * a.val = B.val; omega
    | ⟨2, _⟩ => show win0_7.index t (2 : Fin 3) * 1024 + 1 * b.val = C.val; omega
  refine (congrArg ((dats m 0 c).arrAt 7 cfg0.N) e).symm.trans (bl.trans ((out_7 m c t a b).trans ?_))
  rw [gblock_eq m c t a b A B C h0 h1 h2, block_1 m c t 0 a b A B C h0 h1 h2, block_2 m c t 0 a b A B C h0 h1 h2, block_3 m c t 0 a b A B C h0 h1 h2]

theorem out_8 (t : Fin cfg0.N) (a : Fin 176) (b : Fin 1024) : out0_8 (X0 m c t) (X1 m c t) (X2 m c t) (X3 m c t) (X4 m c t) (X5 m c t) (ix3 0 a b) = Adam.mean (gblock m c t a b) (X2 m c t (ix3 0 a b)) := by
  frame_out
  open_payloads
  pointwise [read_unread_whole]
  try rfl

theorem final_m (A : Fin 4) (B : Fin 704) (C : Fin 1024) : (dats m 0 c).arrAt 8 cfg0.N (ix3 A B C) = Adam.mean (grad m c A B C) (A2 m c (ix3 A C B)) := by
  obtain ⟨t, a, b, h0, h1, h2⟩ := place A B C
  have e0 := (idx t).2.2.2.2.2.2.2.2.2.2.2.2.2.2.2.2.2.2.2.2.2.2.2.2.1
  have e1 := (idx t).2.2.2.2.2.2.2.2.2.2.2.2.2.2.2.2.2.2.2.2.2.2.2.2.2.1
  have e2 := (idx t).2.2.2.2.2.2.2.2.2.2.2.2.2.2.2.2.2.2.2.2.2.2.2.2.2.2.1
  have bl := congrFun ((dats m 0 c).read_blk_arrAt_eq_flushed 8 (Pipeline.Window.hdisj_of_index_inj (cfg0.win 8) fun t t' _ _ =>
    (by decide +kernel : ∀ t t' : Fin grid0.N, win0_8.index t = win0_8.index t' → t = t') t t') cfg0.N t t.isLt (flush0_8 t)) (ix3 0 a b)
  rw [show (dats m 0 c).flushed 8 t = (cfg0.win 8).cut (grid0.coords t) ((dats m 0 c).after 8 t) from rfl, after0_8] at bl
  have e : ((cfg0.win 8).blk t).view.emb (ix3 (0 : Fin 1) a b) = (ix3 A B C : S4x704x1024.Idx) := by
    funext x; apply Fin.ext
    match x with
    | ⟨0, _⟩ => show win0_8.index t (0 : Fin 3) * 1 + 1 * (0 : Fin 1).val = A.val; simp only [Fin.val_zero] at *; omega
    | ⟨1, _⟩ => show win0_8.index t (1 : Fin 3) * 176 + 1 * a.val = B.val; omega
    | ⟨2, _⟩ => show win0_8.index t (2 : Fin 3) * 1024 + 1 * b.val = C.val; omega
  refine (congrArg ((dats m 0 c).arrAt 8 cfg0.N) e).symm.trans (bl.trans ((out_8 m c t a b).trans ?_))
  rw [gblock_eq m c t a b A B C h0 h1 h2, block_2 m c t 0 a b A B C h0 h1 h2]

theorem out_9 (t : Fin cfg0.N) (a : Fin 176) (b : Fin 1024) : out0_9 (X0 m c t) (X1 m c t) (X2 m c t) (X3 m c t) (X4 m c t) (X5 m c t) (ix3 0 a b) = Adam.var (gblock m c t a b) (X3 m c t (ix3 0 a b)) := by
  frame_out
  open_payloads
  pointwise [read_unread_whole]
  try rfl

theorem final_v (A : Fin 4) (B : Fin 704) (C : Fin 1024) : (dats m 0 c).arrAt 9 cfg0.N (ix3 A B C) = Adam.var (grad m c A B C) (A3 m c (ix3 A C B)) := by
  obtain ⟨t, a, b, h0, h1, h2⟩ := place A B C
  have e0 := (idx t).2.2.2.2.2.2.2.2.2.2.2.2.2.2.2.2.2.2.2.2.2.2.2.2.2.2.2.1
  have e1 := (idx t).2.2.2.2.2.2.2.2.2.2.2.2.2.2.2.2.2.2.2.2.2.2.2.2.2.2.2.2.1
  have e2 := (idx t).2.2.2.2.2.2.2.2.2.2.2.2.2.2.2.2.2.2.2.2.2.2.2.2.2.2.2.2.2
  have bl := congrFun ((dats m 0 c).read_blk_arrAt_eq_flushed 9 (Pipeline.Window.hdisj_of_index_inj (cfg0.win 9) fun t t' _ _ =>
    (by decide +kernel : ∀ t t' : Fin grid0.N, win0_9.index t = win0_9.index t' → t = t') t t') cfg0.N t t.isLt (flush0_9 t)) (ix3 0 a b)
  rw [show (dats m 0 c).flushed 9 t = (cfg0.win 9).cut (grid0.coords t) ((dats m 0 c).after 9 t) from rfl, after0_9] at bl
  have e : ((cfg0.win 9).blk t).view.emb (ix3 (0 : Fin 1) a b) = (ix3 A B C : S4x704x1024.Idx) := by
    funext x; apply Fin.ext
    match x with
    | ⟨0, _⟩ => show win0_9.index t (0 : Fin 3) * 1 + 1 * (0 : Fin 1).val = A.val; simp only [Fin.val_zero] at *; omega
    | ⟨1, _⟩ => show win0_9.index t (1 : Fin 3) * 176 + 1 * a.val = B.val; omega
    | ⟨2, _⟩ => show win0_9.index t (2 : Fin 3) * 1024 + 1 * b.val = C.val; omega
  refine (congrArg ((dats m 0 c).arrAt 9 cfg0.N) e).symm.trans (bl.trans ((out_9 m c t a b).trans ?_))
  rw [gblock_eq m c t a b A B C h0 h1 h2, block_3 m c t 0 a b A B C h0 h1 h2]

end Cert.AdamFfnInValue

end
-- ==== Proof.AdamFfnInEqual.lean ====
/-
  `kernel_adam_ffn_in` against its reference.
-/
module

public import proofs.«01_k».proof.Defs
public import proofs.«01_k».proof.Proof.Gen.AdamFfnIn.Frame
public import proofs.«01_k».proof.Proof.Gen.AdamFfnInRefIdeal.Run
public import proofs.«01_k».proof.Proof.AdamFfnInValue
public import Idealize.ShloMosaic.Adequacy

@[expose] public section

noncomputable section

namespace Cert.Proof

open Idealize.ShloMosaic Idealize.ShloMosaic.TcCoe Idealize.SL.Sem

theorem frame_adam_ffn_in : Cert.quiescent_AdamFfnIn := fun m ρ _ => Cert.AdamFfnIn.Gen.frame m ρ
theorem frame_adam_ffn_in_ideal : Cert.quiescent_AdamFfnInIdeal := fun m ρ _ => Cert.AdamFfnInIdeal.Gen.frame m ρ
theorem frame_adam_ffn_in_reference : Cert.quiescent_AdamFfnInRefIdeal := fun m ρ _ =>
  (θ_run Cert.AdamFfnInRefIdeal.defs _ _).mono (fun r h => ⟨fun c => (h c).2.2.2.2, sem_eq_zero_of_no_sems (by decide) r.2⟩)
    (Cert.AdamFfnInRefIdeal.Value.run (F := Ideal) m ρ)

theorem adam_ffn_in_equal : Cert.algebraic_AdamFfnInIdeal_AdamFfnInRefIdeal := by
  intro m ρ m' ρ' _ ha
  refine ⟨fun c => (Cert.AdamFfnInIdeal.Gen.dats m 0 c).arrAt 6 Cert.AdamFfnInIdeal.cfg0.N,
    fun c => (Cert.AdamFfnInIdeal.Gen.dats m 0 c).arrAt 7 Cert.AdamFfnInIdeal.cfg0.N,
    fun c => (Cert.AdamFfnInIdeal.Gen.dats m 0 c).arrAt 8 Cert.AdamFfnInIdeal.cfg0.N,
    fun c => (Cert.AdamFfnInIdeal.Gen.dats m 0 c).arrAt 9 Cert.AdamFfnInIdeal.cfg0.N,
    Cert.AdamFfnInValue.run_blocks m ρ, ?_⟩
  refine (θ_run Cert.AdamFfnInRefIdeal.defs _ _).mono (fun r h c => ?_) (Cert.AdamFfnInRefIdeal.Value.run (F := Ideal) m' ρ')
  obtain ⟨a0, a1, a2, a3, a4, a5⟩ := ha c
  refine ⟨(h c).1.trans ?_, (h c).2.1.trans ?_, (h c).2.2.1.trans ?_, (h c).2.2.2.1.trans ?_, (h c).2.2.2.2⟩ <;> clear h
  · try rw [a0]
    try rw [a1]
    try rw [a2]
    try rw [a3]
    try rw [a4]
    try rw [a5]
    clear ha a0 a1 a2 a3 a4 a5
    funext (y : Cert.AdamFfnInIdeal.S4x704x1024.Idx)
    have e : y = ix3 (y 0) (y 1) (y 2) := by
      funext a; match a with | ⟨0, _⟩ => rfl | ⟨1, _⟩ => rfl | ⟨2, _⟩ => rfl
    generalize y 0 = A at e; generalize y 1 = B at e; generalize y 2 = C at e
    rw [e]
    refine Eq.trans ?_ (Cert.AdamFfnInValue.final_g m c A B C).symm
    unfold Cert.AdamFfnInValue.grad
    simp only [Adam.sum8_eq]
    simp only [Cert.AdamFfnInValue.chosen, Adam.pick_select]
    pointwise
    try rfl
  · try rw [a0]
    try rw [a1]
    try rw [a2]
    try rw [a3]
    try rw [a4]
    try rw [a5]
    clear ha a0 a1 a2 a3 a4 a5
    funext (y : Cert.AdamFfnInIdeal.S4x704x1024.Idx)
    have e : y = ix3 (y 0) (y 1) (y 2) := by
      funext a; match a with | ⟨0, _⟩ => rfl | ⟨1, _⟩ => rfl | ⟨2, _⟩ => rfl
    generalize y 0 = A at e; generalize y 1 = B at e; generalize y 2 = C at e
    rw [e]
    refine Eq.trans ?_ (Cert.AdamFfnInValue.final_d m c A B C).symm
    unfold Adam.delta Adam.mean Adam.var Cert.AdamFfnInValue.grad
    simp only [Adam.sum8_eq]
    simp only [Cert.AdamFfnInValue.chosen, Adam.pick_select]
    pointwise
    try rfl
  · try rw [a0]
    try rw [a1]
    try rw [a2]
    try rw [a3]
    try rw [a4]
    try rw [a5]
    clear ha a0 a1 a2 a3 a4 a5
    funext (y : Cert.AdamFfnInIdeal.S4x704x1024.Idx)
    have e : y = ix3 (y 0) (y 1) (y 2) := by
      funext a; match a with | ⟨0, _⟩ => rfl | ⟨1, _⟩ => rfl | ⟨2, _⟩ => rfl
    generalize y 0 = A at e; generalize y 1 = B at e; generalize y 2 = C at e
    rw [e]
    refine Eq.trans ?_ (Cert.AdamFfnInValue.final_m m c A B C).symm
    unfold Adam.mean Cert.AdamFfnInValue.grad
    simp only [Adam.sum8_eq]
    simp only [Cert.AdamFfnInValue.chosen, Adam.pick_select]
    pointwise
    try rfl
  · try rw [a0]
    try rw [a1]
    try rw [a2]
    try rw [a3]
    try rw [a4]
    try rw [a5]
    clear ha a0 a1 a2 a3 a4 a5
    funext (y : Cert.AdamFfnInIdeal.S4x704x1024.Idx)
    have e : y = ix3 (y 0) (y 1) (y 2) := by
      funext a; match a with | ⟨0, _⟩ => rfl | ⟨1, _⟩ => rfl | ⟨2, _⟩ => rfl
    generalize y 0 = A at e; generalize y 1 = B at e; generalize y 2 = C at e
    rw [e]
    refine Eq.trans ?_ (Cert.AdamFfnInValue.final_v m c A B C).symm
    unfold Adam.var Cert.AdamFfnInValue.grad
    simp only [Adam.sum8_eq]
    simp only [Cert.AdamFfnInValue.chosen, Adam.pick_select]
    pointwise
    try rfl

end Cert.Proof

end
-- ==== Proof.AdamFfnOutValue.lean ====
/-
  One AdamW update, read at an index.
-/
module

public import proofs.«01_k».proof.Proof.Gen.AdamFfnOutIdeal.Frame
public import Idealize.ShloMosaic.Lib.Pipeline.Value
public import Idealize.ShloMosaic.Lib.Pipeline.ValueKit.Point
public import Idealize.ShloMosaic.Lib.Pipeline.ReadBack
public import Idealize.ShloMosaic.Lib.StableHlo.RunRead
public import proofs.«01_k».proof.Proof.AdamScalar

@[expose] public section

noncomputable section

namespace Cert.AdamFfnOutValue

open Idealize.ShloMosaic Idealize.ShloMosaic.TcCoe Idealize.SL.Sem
open Idealize.ShloMosaic.Pipeline (Dat)
open Cert.AdamFfnOutIdeal Cert.AdamFfnOutIdeal.Gen

/-- The run with its final arrays named. -/
theorem run_blocks (m : (ℓ : Loc nD τ sig) → Buf (Elt Ideal) ℓ) (ρ : Dev nD → PrngReg) : θ_run defs (onTc (τ := τ) (main (F := Ideal))) ⟨m, fun _ => 0, ρ⟩ fun r => ∀ c : Dev nD,
      r.2.mem ((c : Thread nD τ).loc main_v8_0) = (dats m 0 c).arrAt 6 cfg0.N
      ∧ r.2.mem ((c : Thread nD τ).loc main_v8_1) = (dats m 0 c).arrAt 7 cfg0.N
      ∧ r.2.mem ((c : Thread nD τ).loc main_v8_2) = (dats m 0 c).arrAt 8 cfg0.N
      ∧ r.2.mem ((c : Thread nD τ).loc main_v8_3) = (dats m 0 c).arrAt 9 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1 6,
      (h c).1 7,
      (h c).1 8,
      (h c).1 9,
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).2 main_arg5 (Pipeline.mem_restRefs_of main_arg5 (by decide) (by decide))).trans (V_main_arg5 m c)⟩)
    (run_main m ρ)

variable (m : (ℓ : Loc nD τ sig) → Buf (Elt Ideal) ℓ) (c : Dev nD)

theorem idx : ∀ t : Fin cfg0.N, win0_0.index t (0 : Fin 4) = 0
    ∧ win0_0.index t (1 : Fin 4) = t.val / 2
    ∧ win0_0.index t (2 : Fin 4) = t.val % 2
    ∧ win0_0.index t (3 : Fin 4) = 0
    ∧ win0_1.index t (0 : Fin 3) = t.val / 2
    ∧ win0_1.index t (1 : Fin 3) = t.val % 2
    ∧ win0_1.index t (2 : Fin 3) = 0
    ∧ win0_2.index t (0 : Fin 3) = t.val / 2
    ∧ win0_2.index t (1 : Fin 3) = t.val % 2
    ∧ win0_2.index t (2 : Fin 3) = 0
    ∧ win0_3.index t (0 : Fin 3) = t.val / 2
    ∧ win0_3.index t (1 : Fin 3) = t.val % 2
    ∧ win0_3.index t (2 : Fin 3) = 0
    ∧ win0_4.index t (0 : Fin 3) = t.val / 2
    ∧ win0_4.index t (1 : Fin 3) = t.val % 2
    ∧ win0_4.index t (2 : Fin 3) = 0
    ∧ win0_5.index t (0 : Fin 2) = 0
    ∧ win0_5.index t (1 : Fin 2) = 0
    ∧ win0_6.index t (0 : Fin 3) = t.val / 2
    ∧ win0_6.index t (1 : Fin 3) = t.val % 2
    ∧ win0_6.index t (2 : Fin 3) = 0
    ∧ win0_7.index t (0 : Fin 3) = t.val / 2
    ∧ win0_7.index t (1 : Fin 3) = t.val % 2
    ∧ win0_7.index t (2 : Fin 3) = 0
    ∧ win0_8.index t (0 : Fin 3) = t.val / 2
    ∧ win0_8.index t (1 : Fin 3) = t.val % 2
    ∧ win0_8.index t (2 : Fin 3) = 0
    ∧ win0_9.index t (0 : Fin 3) = t.val / 2
    ∧ win0_9.index t (1 : Fin 3) = t.val % 2
    ∧ win0_9.index t (2 : Fin 3) = 0 :=
  (by decide +kernel : ∀ t : Fin grid0.N, _)

/-- The argument arrays. -/
abbrev A0 : Vec Ideal S8x4x352x1024 .bf16 := m ((c : Thread nD τ).loc main_arg0)
abbrev A1 : Vec Ideal S4x352x1024 .f32 := m ((c : Thread nD τ).loc main_arg1)
abbrev A2 : Vec Ideal S4x352x1024 .f32 := m ((c : Thread nD τ).loc main_arg2)
abbrev A3 : Vec Ideal S4x352x1024 .f32 := m ((c : Thread nD τ).loc main_arg3)
abbrev A4 : Vec Ideal S4x352x1024 .bf16 := m ((c : Thread nD τ).loc main_arg4)
abbrev A5 : Vec Ideal S1 .i32 := m ((c : Thread nD τ).loc main_arg5)

/-- The blocks a point reads. -/
abbrev X0 (t : Fin cfg0.N) : Vec Ideal S8x1x176x1024 .bf16 := iblk m c 0 t
abbrev X1 (t : Fin cfg0.N) : Vec Ideal S1x176x1024 .f32 := iblk m c 1 t
abbrev X2 (t : Fin cfg0.N) : Vec Ideal S1x176x1024 .f32 := iblk m c 2 t
abbrev X3 (t : Fin cfg0.N) : Vec Ideal S1x176x1024 .f32 := iblk m c 3 t
abbrev X4 (t : Fin cfg0.N) : Vec Ideal S1x176x1024 .bf16 := iblk m c 4 t
abbrev X5 (t : Fin cfg0.N) : Vec Ideal S8x128 .f32 := iblk m c 5 t

theorem block_0 (t : Fin cfg0.N) (a : Fin 8) (b : Fin 1) (d : Fin 176) (f : Fin 1024) (A : Fin 8) (B : Fin 4) (C : Fin 352) (D : Fin 1024)
    (h0 : a.val = A.val) (h1 : (t.val / 2) * 1 + b.val = B.val) (h2 : (t.val % 2) * 176 + d.val = C.val) (h3 : f.val = D.val) : X0 m c t (ix4 a b d f) = A0 m c (ix4 A B C D) := by
  have e0 := (idx t).1
  have e1 := (idx t).2.1
  have e2 := (idx t).2.2.1
  have e3 := (idx t).2.2.2.1
  blk_ext [X0, A0, iblk, V, e0, e1, e2, e3]

theorem block_1 (t : Fin cfg0.N) (a : Fin 1) (b : Fin 176) (d : Fin 1024) (A : Fin 4) (B : Fin 352) (C : Fin 1024)
    (h0 : (t.val / 2) * 1 + a.val = A.val) (h1 : (t.val % 2) * 176 + b.val = B.val) (h2 : d.val = C.val) : X1 m c t (ix3 a b d) = A1 m c (ix3 A B C) := by
  have e0 := (idx t).2.2.2.2.1
  have e1 := (idx t).2.2.2.2.2.1
  have e2 := (idx t).2.2.2.2.2.2.1
  blk_ext [X1, A1, iblk, V, e0, e1, e2]

theorem block_2 (t : Fin cfg0.N) (a : Fin 1) (b : Fin 176) (d : Fin 1024) (A : Fin 4) (B : Fin 352) (C : Fin 1024)
    (h0 : (t.val / 2) * 1 + a.val = A.val) (h1 : (t.val % 2) * 176 + b.val = B.val) (h2 : d.val = C.val) : X2 m c t (ix3 a b d) = A2 m c (ix3 A B C) := by
  have e0 := (idx t).2.2.2.2.2.2.2.1
  have e1 := (idx t).2.2.2.2.2.2.2.2.1
  have e2 := (idx t).2.2.2.2.2.2.2.2.2.1
  blk_ext [X2, A2, iblk, V, e0, e1, e2]

theorem block_3 (t : Fin cfg0.N) (a : Fin 1) (b : Fin 176) (d : Fin 1024) (A : Fin 4) (B : Fin 352) (C : Fin 1024)
    (h0 : (t.val / 2) * 1 + a.val = A.val) (h1 : (t.val % 2) * 176 + b.val = B.val) (h2 : d.val = C.val) : X3 m c t (ix3 a b d) = A3 m c (ix3 A B C) := by
  have e0 := (idx t).2.2.2.2.2.2.2.2.2.2.1
  have e1 := (idx t).2.2.2.2.2.2.2.2.2.2.2.1
  have e2 := (idx t).2.2.2.2.2.2.2.2.2.2.2.2.1
  blk_ext [X3, A3, iblk, V, e0, e1, e2]

theorem block_4 (t : Fin cfg0.N) (a : Fin 1) (b : Fin 176) (d : Fin 1024) (A : Fin 4) (B : Fin 352) (C : Fin 1024)
    (h0 : (t.val / 2) * 1 + a.val = A.val) (h1 : (t.val % 2) * 176 + b.val = B.val) (h2 : d.val = C.val) : X4 m c t (ix3 a b d) = A4 m c (ix3 A B C) := by
  have e0 := (idx t).2.2.2.2.2.2.2.2.2.2.2.2.2.1
  have e1 := (idx t).2.2.2.2.2.2.2.2.2.2.2.2.2.2.1
  have e2 := (idx t).2.2.2.2.2.2.2.2.2.2.2.2.2.2.2.1
  blk_ext [X4, A4, iblk, V, e0, e1, e2]

/-- An operand that the host prepares. -/
theorem entry_v7 : V m c main_v7 = (broadcastInDim S8x128 ![0, 1] bcast_S8x1_S8x128_0_1 (select (shapeCast S8x1 (cmpi .eq (iotaInDim S8x1x1 32 0 : Vec Ideal S8x1x1 .i32) (broadcastInDim S8x1x1 ![0, 1, 2] bcast_S1x1x1_S8x1x1_0_1_2 (broadcastInDim S1x1x1 ![2] bcast_S1_S1x1x1_2 (A5 m c)))) shapeCasts_S8x1x1_S8x1)
      (broadcastInDim S8x1 ![] bcast_S_S8x1 (constant (F := Ideal) S_ .f32 0x3F800000#32)) (broadcastInDim S8x1 ![] bcast_S_S8x1 (constant (F := Ideal) S_ .f32 0x00000000#32))) : FVec Ideal S8x128 .f32) := by
  show StableHlo.after ([hostOps0, hostOps0_1, hostOps0_2] : List (List (HloOp τ sig (Elt Ideal)))).flatten (fun b => m (c, b)) (Proc.tc.devRef main_v7) = _
  simp only [List.flatten_cons, List.flatten_nil, List.cons_append, List.nil_append, List.append_nil]
  after_reads_simp
  try rfl

/-- Whether part `q` is this device's: the choice at row `q`. -/
def chosen (q : Fin 8) : EReal := Scalar.select (IntOp.cmpi CmpIPredicate.eq (BitVec.ofNat 32 q.val) (A5 m c (ix1 0))) 1 0

theorem block_5 (t : Fin cfg0.N) (a : Fin 8) (b : Fin 128) (A : Fin 8) (B : Fin 128)
    (h0 : a.val = A.val) (h1 : b.val = B.val) : X5 m c t (ix2 a b) = chosen m c A := by
  have e0 := (idx t).2.2.2.2.2.2.2.2.2.2.2.2.2.2.2.2.1
  have e1 := (idx t).2.2.2.2.2.2.2.2.2.2.2.2.2.2.2.2.2.1
  show V m c main_v7 (((cfg0.win 5).blk t).view.emb (ix2 a b )) = _
  have e : ((cfg0.win 5).blk t).view.emb (ix2 a b) = (ix2 A B : S8x128.Idx) := by
    funext x; apply Fin.ext
    match x with
    | ⟨0, _⟩ => show win0_5.index t (0 : Fin 2) * 8 + 1 * a.val = A.val; omega
    | ⟨1, _⟩ => show win0_5.index t (1 : Fin 2) * 128 + 1 * b.val = B.val; omega
  rw [e, entry_v7]
  unfold chosen
  pointwise
  try rfl

/-- The gradient. -/
def grad (A : Fin 4) (B : Fin 352) (C : Fin 1024) : EReal := Adam.sum8 fun q => Adam.pick (chosen m c q) (A4 m c (ix3 A B C)) (A0 m c (ix4 q A B C))

/-- The gradient of a block. -/
def gblock (t : Fin cfg0.N) (a : Fin 176) (b : Fin 1024) : EReal := Adam.sum8 fun q => Adam.pick (X5 m c t (ix2 q 0)) (X4 m c t (ix3 0 a b)) (X0 m c t (ix4 q 0 a b))

theorem gblock_eq (t : Fin cfg0.N) (a : Fin 176) (b : Fin 1024) (A : Fin 4) (B : Fin 352) (C : Fin 1024)
    (h0 : (t.val / 2) * 1 + (0 : Fin 1).val = A.val) (h1 : (t.val % 2) * 176 + a.val = B.val) (h2 : b.val = C.val) : gblock m c t a b = grad m c A B C := by
  unfold gblock grad
  refine congrArg Adam.sum8 (funext fun q => ?_)
  rw [block_0 m c t q 0 a b q A B C (by simp) h0 h1 h2, block_4 m c t 0 a b A B C h0 h1 h2,
    block_5 m c t q 0 q 0 (by simp) (by simp)]

/-- The point and the place in its block of an entry. -/
theorem place (A : Fin 4) (B : Fin 352) (C : Fin 1024) : ∃ (t : Fin cfg0.N) (a : Fin 176) (b : Fin 1024),
    ((t.val / 2) * 1 + (0 : Fin 1).val = A.val) ∧ ((t.val % 2) * 176 + a.val = B.val) ∧ b.val = C.val := by
  obtain ⟨t, ht⟩ : ∃ t : Fin cfg0.N, t.val = A.val * 2 + B.val / 176 := ⟨⟨A.val * 2 + B.val / 176, by show _ < 8; omega⟩, rfl⟩
  obtain ⟨a, ha⟩ : ∃ a : Fin 176, a.val = B.val % 176 := ⟨⟨B.val % 176, by omega⟩, rfl⟩
  obtain ⟨b, hb⟩ : ∃ b : Fin 1024, b.val = C.val % 1024 := ⟨⟨C.val % 1024, by omega⟩, rfl⟩
  exact ⟨t, a, b, by simp only [Fin.val_zero]; omega, by omega, by omega⟩

theorem out_6 (t : Fin cfg0.N) (a : Fin 176) (b : Fin 1024) : out0_6 (X0 m c t) (X1 m c t) (X2 m c t) (X3 m c t) (X4 m c t) (X5 m c t) (ix3 0 a b) = gblock m c t a b := by
  frame_out
  open_payloads
  pointwise [read_unread_whole]
  try rfl

theorem final_g (A : Fin 4) (B : Fin 352) (C : Fin 1024) : (dats m 0 c).arrAt 6 cfg0.N (ix3 A B C) = grad m c A B C := by
  obtain ⟨t, a, b, h0, h1, h2⟩ := place A B C
  have e0 := (idx t).2.2.2.2.2.2.2.2.2.2.2.2.2.2.2.2.2.2.1
  have e1 := (idx t).2.2.2.2.2.2.2.2.2.2.2.2.2.2.2.2.2.2.2.1
  have e2 := (idx t).2.2.2.2.2.2.2.2.2.2.2.2.2.2.2.2.2.2.2.2.1
  have bl := congrFun ((dats m 0 c).read_blk_arrAt_eq_flushed 6 (Pipeline.Window.hdisj_of_index_inj (cfg0.win 6) fun t t' _ _ =>
    (by decide +kernel : ∀ t t' : Fin grid0.N, win0_6.index t = win0_6.index t' → t = t') t t') cfg0.N t t.isLt (flush0_6 t)) (ix3 0 a b)
  rw [show (dats m 0 c).flushed 6 t = (cfg0.win 6).cut (grid0.coords t) ((dats m 0 c).after 6 t) from rfl, after0_6] at bl
  have e : ((cfg0.win 6).blk t).view.emb (ix3 (0 : Fin 1) a b) = (ix3 A B C : S4x352x1024.Idx) := by
    funext x; apply Fin.ext
    match x with
    | ⟨0, _⟩ => show win0_6.index t (0 : Fin 3) * 1 + 1 * (0 : Fin 1).val = A.val; simp only [Fin.val_zero] at *; omega
    | ⟨1, _⟩ => show win0_6.index t (1 : Fin 3) * 176 + 1 * a.val = B.val; omega
    | ⟨2, _⟩ => show win0_6.index t (2 : Fin 3) * 1024 + 1 * b.val = C.val; omega
  refine (congrArg ((dats m 0 c).arrAt 6 cfg0.N) e).symm.trans (bl.trans ((out_6 m c t a b).trans ?_))
  rw [gblock_eq m c t a b A B C h0 h1 h2]

theorem out_7 (t : Fin cfg0.N) (a : Fin 176) (b : Fin 1024) : out0_7 (X0 m c t) (X1 m c t) (X2 m c t) (X3 m c t) (X4 m c t) (X5 m c t) (ix3 0 a b) = Adam.delta (X1 m c t (ix3 0 a b)) (gblock m c t a b) (X2 m c t (ix3 0 a b)) (X3 m c t (ix3 0 a b)) := by
  frame_out
  open_payloads
  pointwise [read_unread_whole]
  try rfl

theorem final_d (A : Fin 4) (B : Fin 352) (C : Fin 1024) : (dats m 0 c).arrAt 7 cfg0.N (ix3 A B C) = Adam.delta (A1 m c (ix3 A B C)) (grad m c A B C) (A2 m c (ix3 A B C)) (A3 m c (ix3 A B C)) := by
  obtain ⟨t, a, b, h0, h1, h2⟩ := place A B C
  have e0 := (idx t).2.2.2.2.2.2.2.2.2.2.2.2.2.2.2.2.2.2.2.2.2.1
  have e1 := (idx t).2.2.2.2.2.2.2.2.2.2.2.2.2.2.2.2.2.2.2.2.2.2.1
  have e2 := (idx t).2.2.2.2.2.2.2.2.2.2.2.2.2.2.2.2.2.2.2.2.2.2.2.1
  have bl := congrFun ((dats m 0 c).read_blk_arrAt_eq_flushed 7 (Pipeline.Window.hdisj_of_index_inj (cfg0.win 7) fun t t' _ _ =>
    (by decide +kernel : ∀ t t' : Fin grid0.N, win0_7.index t = win0_7.index t' → t = t') t t') cfg0.N t t.isLt (flush0_7 t)) (ix3 0 a b)
  rw [show (dats m 0 c).flushed 7 t = (cfg0.win 7).cut (grid0.coords t) ((dats m 0 c).after 7 t) from rfl, after0_7] at bl
  have e : ((cfg0.win 7).blk t).view.emb (ix3 (0 : Fin 1) a b) = (ix3 A B C : S4x352x1024.Idx) := by
    funext x; apply Fin.ext
    match x with
    | ⟨0, _⟩ => show win0_7.index t (0 : Fin 3) * 1 + 1 * (0 : Fin 1).val = A.val; simp only [Fin.val_zero] at *; omega
    | ⟨1, _⟩ => show win0_7.index t (1 : Fin 3) * 176 + 1 * a.val = B.val; omega
    | ⟨2, _⟩ => show win0_7.index t (2 : Fin 3) * 1024 + 1 * b.val = C.val; omega
  refine (congrArg ((dats m 0 c).arrAt 7 cfg0.N) e).symm.trans (bl.trans ((out_7 m c t a b).trans ?_))
  rw [gblock_eq m c t a b A B C h0 h1 h2, block_1 m c t 0 a b A B C h0 h1 h2, block_2 m c t 0 a b A B C h0 h1 h2, block_3 m c t 0 a b A B C h0 h1 h2]

theorem out_8 (t : Fin cfg0.N) (a : Fin 176) (b : Fin 1024) : out0_8 (X0 m c t) (X1 m c t) (X2 m c t) (X3 m c t) (X4 m c t) (X5 m c t) (ix3 0 a b) = Adam.mean (gblock m c t a b) (X2 m c t (ix3 0 a b)) := by
  frame_out
  open_payloads
  pointwise [read_unread_whole]
  try rfl

theorem final_m (A : Fin 4) (B : Fin 352) (C : Fin 1024) : (dats m 0 c).arrAt 8 cfg0.N (ix3 A B C) = Adam.mean (grad m c A B C) (A2 m c (ix3 A B C)) := by
  obtain ⟨t, a, b, h0, h1, h2⟩ := place A B C
  have e0 := (idx t).2.2.2.2.2.2.2.2.2.2.2.2.2.2.2.2.2.2.2.2.2.2.2.2.1
  have e1 := (idx t).2.2.2.2.2.2.2.2.2.2.2.2.2.2.2.2.2.2.2.2.2.2.2.2.2.1
  have e2 := (idx t).2.2.2.2.2.2.2.2.2.2.2.2.2.2.2.2.2.2.2.2.2.2.2.2.2.2.1
  have bl := congrFun ((dats m 0 c).read_blk_arrAt_eq_flushed 8 (Pipeline.Window.hdisj_of_index_inj (cfg0.win 8) fun t t' _ _ =>
    (by decide +kernel : ∀ t t' : Fin grid0.N, win0_8.index t = win0_8.index t' → t = t') t t') cfg0.N t t.isLt (flush0_8 t)) (ix3 0 a b)
  rw [show (dats m 0 c).flushed 8 t = (cfg0.win 8).cut (grid0.coords t) ((dats m 0 c).after 8 t) from rfl, after0_8] at bl
  have e : ((cfg0.win 8).blk t).view.emb (ix3 (0 : Fin 1) a b) = (ix3 A B C : S4x352x1024.Idx) := by
    funext x; apply Fin.ext
    match x with
    | ⟨0, _⟩ => show win0_8.index t (0 : Fin 3) * 1 + 1 * (0 : Fin 1).val = A.val; simp only [Fin.val_zero] at *; omega
    | ⟨1, _⟩ => show win0_8.index t (1 : Fin 3) * 176 + 1 * a.val = B.val; omega
    | ⟨2, _⟩ => show win0_8.index t (2 : Fin 3) * 1024 + 1 * b.val = C.val; omega
  refine (congrArg ((dats m 0 c).arrAt 8 cfg0.N) e).symm.trans (bl.trans ((out_8 m c t a b).trans ?_))
  rw [gblock_eq m c t a b A B C h0 h1 h2, block_2 m c t 0 a b A B C h0 h1 h2]

theorem out_9 (t : Fin cfg0.N) (a : Fin 176) (b : Fin 1024) : out0_9 (X0 m c t) (X1 m c t) (X2 m c t) (X3 m c t) (X4 m c t) (X5 m c t) (ix3 0 a b) = Adam.var (gblock m c t a b) (X3 m c t (ix3 0 a b)) := by
  frame_out
  open_payloads
  pointwise [read_unread_whole]
  try rfl

theorem final_v (A : Fin 4) (B : Fin 352) (C : Fin 1024) : (dats m 0 c).arrAt 9 cfg0.N (ix3 A B C) = Adam.var (grad m c A B C) (A3 m c (ix3 A B C)) := by
  obtain ⟨t, a, b, h0, h1, h2⟩ := place A B C
  have e0 := (idx t).2.2.2.2.2.2.2.2.2.2.2.2.2.2.2.2.2.2.2.2.2.2.2.2.2.2.2.1
  have e1 := (idx t).2.2.2.2.2.2.2.2.2.2.2.2.2.2.2.2.2.2.2.2.2.2.2.2.2.2.2.2.1
  have e2 := (idx t).2.2.2.2.2.2.2.2.2.2.2.2.2.2.2.2.2.2.2.2.2.2.2.2.2.2.2.2.2
  have bl := congrFun ((dats m 0 c).read_blk_arrAt_eq_flushed 9 (Pipeline.Window.hdisj_of_index_inj (cfg0.win 9) fun t t' _ _ =>
    (by decide +kernel : ∀ t t' : Fin grid0.N, win0_9.index t = win0_9.index t' → t = t') t t') cfg0.N t t.isLt (flush0_9 t)) (ix3 0 a b)
  rw [show (dats m 0 c).flushed 9 t = (cfg0.win 9).cut (grid0.coords t) ((dats m 0 c).after 9 t) from rfl, after0_9] at bl
  have e : ((cfg0.win 9).blk t).view.emb (ix3 (0 : Fin 1) a b) = (ix3 A B C : S4x352x1024.Idx) := by
    funext x; apply Fin.ext
    match x with
    | ⟨0, _⟩ => show win0_9.index t (0 : Fin 3) * 1 + 1 * (0 : Fin 1).val = A.val; simp only [Fin.val_zero] at *; omega
    | ⟨1, _⟩ => show win0_9.index t (1 : Fin 3) * 176 + 1 * a.val = B.val; omega
    | ⟨2, _⟩ => show win0_9.index t (2 : Fin 3) * 1024 + 1 * b.val = C.val; omega
  refine (congrArg ((dats m 0 c).arrAt 9 cfg0.N) e).symm.trans (bl.trans ((out_9 m c t a b).trans ?_))
  rw [gblock_eq m c t a b A B C h0 h1 h2, block_3 m c t 0 a b A B C h0 h1 h2]

end Cert.AdamFfnOutValue

end
-- ==== Proof.AdamFfnOutEqual.lean ====
/-
  `kernel_adam_ffn_out` against its reference.
-/
module

public import proofs.«01_k».proof.Defs
public import proofs.«01_k».proof.Proof.Gen.AdamFfnOut.Frame
public import proofs.«01_k».proof.Proof.Gen.AdamFfnOutRefIdeal.Run
public import proofs.«01_k».proof.Proof.AdamFfnOutValue
public import Idealize.ShloMosaic.Adequacy

@[expose] public section

noncomputable section

namespace Cert.Proof

open Idealize.ShloMosaic Idealize.ShloMosaic.TcCoe Idealize.SL.Sem

theorem frame_adam_ffn_out : Cert.quiescent_AdamFfnOut := fun m ρ _ => Cert.AdamFfnOut.Gen.frame m ρ
theorem frame_adam_ffn_out_ideal : Cert.quiescent_AdamFfnOutIdeal := fun m ρ _ => Cert.AdamFfnOutIdeal.Gen.frame m ρ
theorem frame_adam_ffn_out_reference : Cert.quiescent_AdamFfnOutRefIdeal := fun m ρ _ =>
  (θ_run Cert.AdamFfnOutRefIdeal.defs _ _).mono (fun r h => ⟨fun c => (h c).2.2.2.2, sem_eq_zero_of_no_sems (by decide) r.2⟩)
    (Cert.AdamFfnOutRefIdeal.Value.run (F := Ideal) m ρ)

theorem adam_ffn_out_equal : Cert.algebraic_AdamFfnOutIdeal_AdamFfnOutRefIdeal := by
  intro m ρ m' ρ' _ ha
  refine ⟨fun c => (Cert.AdamFfnOutIdeal.Gen.dats m 0 c).arrAt 6 Cert.AdamFfnOutIdeal.cfg0.N,
    fun c => (Cert.AdamFfnOutIdeal.Gen.dats m 0 c).arrAt 7 Cert.AdamFfnOutIdeal.cfg0.N,
    fun c => (Cert.AdamFfnOutIdeal.Gen.dats m 0 c).arrAt 8 Cert.AdamFfnOutIdeal.cfg0.N,
    fun c => (Cert.AdamFfnOutIdeal.Gen.dats m 0 c).arrAt 9 Cert.AdamFfnOutIdeal.cfg0.N,
    Cert.AdamFfnOutValue.run_blocks m ρ, ?_⟩
  refine (θ_run Cert.AdamFfnOutRefIdeal.defs _ _).mono (fun r h c => ?_) (Cert.AdamFfnOutRefIdeal.Value.run (F := Ideal) m' ρ')
  obtain ⟨a0, a1, a2, a3, a4, a5⟩ := ha c
  refine ⟨(h c).1.trans ?_, (h c).2.1.trans ?_, (h c).2.2.1.trans ?_, (h c).2.2.2.1.trans ?_, (h c).2.2.2.2⟩ <;> clear h
  · try rw [a0]
    try rw [a1]
    try rw [a2]
    try rw [a3]
    try rw [a4]
    try rw [a5]
    clear ha a0 a1 a2 a3 a4 a5
    funext (y : Cert.AdamFfnOutIdeal.S4x352x1024.Idx)
    have e : y = ix3 (y 0) (y 1) (y 2) := by
      funext a; match a with | ⟨0, _⟩ => rfl | ⟨1, _⟩ => rfl | ⟨2, _⟩ => rfl
    generalize y 0 = A at e; generalize y 1 = B at e; generalize y 2 = C at e
    rw [e]
    refine Eq.trans ?_ (Cert.AdamFfnOutValue.final_g m c A B C).symm
    unfold Cert.AdamFfnOutValue.grad
    simp only [Adam.sum8_eq]
    simp only [Cert.AdamFfnOutValue.chosen, Adam.pick_select]
    pointwise
    try rfl
  · try rw [a0]
    try rw [a1]
    try rw [a2]
    try rw [a3]
    try rw [a4]
    try rw [a5]
    clear ha a0 a1 a2 a3 a4 a5
    funext (y : Cert.AdamFfnOutIdeal.S4x352x1024.Idx)
    have e : y = ix3 (y 0) (y 1) (y 2) := by
      funext a; match a with | ⟨0, _⟩ => rfl | ⟨1, _⟩ => rfl | ⟨2, _⟩ => rfl
    generalize y 0 = A at e; generalize y 1 = B at e; generalize y 2 = C at e
    rw [e]
    refine Eq.trans ?_ (Cert.AdamFfnOutValue.final_d m c A B C).symm
    unfold Adam.delta Adam.mean Adam.var Cert.AdamFfnOutValue.grad
    simp only [Adam.sum8_eq]
    simp only [Cert.AdamFfnOutValue.chosen, Adam.pick_select]
    pointwise
    try rfl
  · try rw [a0]
    try rw [a1]
    try rw [a2]
    try rw [a3]
    try rw [a4]
    try rw [a5]
    clear ha a0 a1 a2 a3 a4 a5
    funext (y : Cert.AdamFfnOutIdeal.S4x352x1024.Idx)
    have e : y = ix3 (y 0) (y 1) (y 2) := by
      funext a; match a with | ⟨0, _⟩ => rfl | ⟨1, _⟩ => rfl | ⟨2, _⟩ => rfl
    generalize y 0 = A at e; generalize y 1 = B at e; generalize y 2 = C at e
    rw [e]
    refine Eq.trans ?_ (Cert.AdamFfnOutValue.final_m m c A B C).symm
    unfold Adam.mean Cert.AdamFfnOutValue.grad
    simp only [Adam.sum8_eq]
    simp only [Cert.AdamFfnOutValue.chosen, Adam.pick_select]
    pointwise
    try rfl
  · try rw [a0]
    try rw [a1]
    try rw [a2]
    try rw [a3]
    try rw [a4]
    try rw [a5]
    clear ha a0 a1 a2 a3 a4 a5
    funext (y : Cert.AdamFfnOutIdeal.S4x352x1024.Idx)
    have e : y = ix3 (y 0) (y 1) (y 2) := by
      funext a; match a with | ⟨0, _⟩ => rfl | ⟨1, _⟩ => rfl | ⟨2, _⟩ => rfl
    generalize y 0 = A at e; generalize y 1 = B at e; generalize y 2 = C at e
    rw [e]
    refine Eq.trans ?_ (Cert.AdamFfnOutValue.final_v m c A B C).symm
    unfold Adam.var Cert.AdamFfnOutValue.grad
    simp only [Adam.sum8_eq]
    simp only [Cert.AdamFfnOutValue.chosen, Adam.pick_select]
    pointwise
    try rfl

end Cert.Proof

end
-- ==== Proof.AdamOutValue.lean ====
/-
  One AdamW update, read at an index.
-/
module

public import proofs.«01_k».proof.Proof.Gen.AdamOutIdeal.Frame
public import Idealize.ShloMosaic.Lib.Pipeline.Value
public import Idealize.ShloMosaic.Lib.Pipeline.ValueKit.Point
public import Idealize.ShloMosaic.Lib.Pipeline.ReadBack
public import Idealize.ShloMosaic.Lib.StableHlo.RunRead
public import proofs.«01_k».proof.Proof.AdamScalar

@[expose] public section

noncomputable section

namespace Cert.AdamOutValue

open Idealize.ShloMosaic Idealize.ShloMosaic.TcCoe Idealize.SL.Sem
open Idealize.ShloMosaic.Pipeline (Dat)
open Cert.AdamOutIdeal Cert.AdamOutIdeal.Gen

/-- The run with its final arrays named. -/
theorem run_blocks (m : (ℓ : Loc nD τ sig) → Buf (Elt Ideal) ℓ) (ρ : Dev nD → PrngReg) : θ_run defs (onTc (τ := τ) (main (F := Ideal))) ⟨m, fun _ => 0, ρ⟩ fun r => ∀ c : Dev nD,
      r.2.mem ((c : Thread nD τ).loc main_v8_0) = (dats m 0 c).arrAt 6 cfg0.N
      ∧ r.2.mem ((c : Thread nD τ).loc main_v8_1) = (dats m 0 c).arrAt 7 cfg0.N
      ∧ r.2.mem ((c : Thread nD τ).loc main_v8_2) = (dats m 0 c).arrAt 8 cfg0.N
      ∧ r.2.mem ((c : Thread nD τ).loc main_v8_3) = (dats m 0 c).arrAt 9 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1 6,
      (h c).1 7,
      (h c).1 8,
      (h c).1 9,
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).2 main_arg5 (Pipeline.mem_restRefs_of main_arg5 (by decide) (by decide))).trans (V_main_arg5 m c)⟩)
    (run_main m ρ)

variable (m : (ℓ : Loc nD τ sig) → Buf (Elt Ideal) ℓ) (c : Dev nD)

theorem idx : ∀ t : Fin cfg0.N, win0_0.index t (0 : Fin 4) = 0
    ∧ win0_0.index t (1 : Fin 4) = t.val
    ∧ win0_0.index t (2 : Fin 4) = 0
    ∧ win0_0.index t (3 : Fin 4) = 0
    ∧ win0_1.index t (0 : Fin 3) = t.val
    ∧ win0_1.index t (1 : Fin 3) = 0
    ∧ win0_1.index t (2 : Fin 3) = 0
    ∧ win0_2.index t (0 : Fin 3) = t.val
    ∧ win0_2.index t (1 : Fin 3) = 0
    ∧ win0_2.index t (2 : Fin 3) = 0
    ∧ win0_3.index t (0 : Fin 3) = t.val
    ∧ win0_3.index t (1 : Fin 3) = 0
    ∧ win0_3.index t (2 : Fin 3) = 0
    ∧ win0_4.index t (0 : Fin 3) = t.val
    ∧ win0_4.index t (1 : Fin 3) = 0
    ∧ win0_4.index t (2 : Fin 3) = 0
    ∧ win0_5.index t (0 : Fin 2) = 0
    ∧ win0_5.index t (1 : Fin 2) = 0
    ∧ win0_6.index t (0 : Fin 3) = t.val
    ∧ win0_6.index t (1 : Fin 3) = 0
    ∧ win0_6.index t (2 : Fin 3) = 0
    ∧ win0_7.index t (0 : Fin 3) = t.val
    ∧ win0_7.index t (1 : Fin 3) = 0
    ∧ win0_7.index t (2 : Fin 3) = 0
    ∧ win0_8.index t (0 : Fin 3) = t.val
    ∧ win0_8.index t (1 : Fin 3) = 0
    ∧ win0_8.index t (2 : Fin 3) = 0
    ∧ win0_9.index t (0 : Fin 3) = t.val
    ∧ win0_9.index t (1 : Fin 3) = 0
    ∧ win0_9.index t (2 : Fin 3) = 0 :=
  (by decide +kernel : ∀ t : Fin grid0.N, _)

/-- The argument arrays. -/
abbrev A0 : Vec Ideal S8x4x128x1024 .bf16 := m ((c : Thread nD τ).loc main_arg0)
abbrev A1 : Vec Ideal S4x128x1024 .f32 := m ((c : Thread nD τ).loc main_arg1)
abbrev A2 : Vec Ideal S4x128x1024 .f32 := m ((c : Thread nD τ).loc main_arg2)
abbrev A3 : Vec Ideal S4x128x1024 .f32 := m ((c : Thread nD τ).loc main_arg3)
abbrev A4 : Vec Ideal S4x128x1024 .bf16 := m ((c : Thread nD τ).loc main_arg4)
abbrev A5 : Vec Ideal S1 .i32 := m ((c : Thread nD τ).loc main_arg5)

/-- The blocks a point reads. -/
abbrev X0 (t : Fin cfg0.N) : Vec Ideal S8x1x128x1024 .bf16 := iblk m c 0 t
abbrev X1 (t : Fin cfg0.N) : Vec Ideal S1x128x1024 .f32 := iblk m c 1 t
abbrev X2 (t : Fin cfg0.N) : Vec Ideal S1x128x1024 .f32 := iblk m c 2 t
abbrev X3 (t : Fin cfg0.N) : Vec Ideal S1x128x1024 .f32 := iblk m c 3 t
abbrev X4 (t : Fin cfg0.N) : Vec Ideal S1x128x1024 .bf16 := iblk m c 4 t
abbrev X5 (t : Fin cfg0.N) : Vec Ideal S8x128 .f32 := iblk m c 5 t

theorem block_0 (t : Fin cfg0.N) (a : Fin 8) (b : Fin 1) (d : Fin 128) (f : Fin 1024) (A : Fin 8) (B : Fin 4) (C : Fin 128) (D : Fin 1024)
    (h0 : a.val = A.val) (h1 : (t.val) * 1 + b.val = B.val) (h2 : d.val = C.val) (h3 : f.val = D.val) : X0 m c t (ix4 a b d f) = A0 m c (ix4 A B C D) := by
  have e0 := (idx t).1
  have e1 := (idx t).2.1
  have e2 := (idx t).2.2.1
  have e3 := (idx t).2.2.2.1
  blk_ext [X0, A0, iblk, V, e0, e1, e2, e3]

theorem block_1 (t : Fin cfg0.N) (a : Fin 1) (b : Fin 128) (d : Fin 1024) (A : Fin 4) (B : Fin 128) (C : Fin 1024)
    (h0 : (t.val) * 1 + a.val = A.val) (h1 : b.val = B.val) (h2 : d.val = C.val) : X1 m c t (ix3 a b d) = A1 m c (ix3 A B C) := by
  have e0 := (idx t).2.2.2.2.1
  have e1 := (idx t).2.2.2.2.2.1
  have e2 := (idx t).2.2.2.2.2.2.1
  blk_ext [X1, A1, iblk, V, e0, e1, e2]

theorem block_2 (t : Fin cfg0.N) (a : Fin 1) (b : Fin 128) (d : Fin 1024) (A : Fin 4) (B : Fin 128) (C : Fin 1024)
    (h0 : (t.val) * 1 + a.val = A.val) (h1 : b.val = B.val) (h2 : d.val = C.val) : X2 m c t (ix3 a b d) = A2 m c (ix3 A B C) := by
  have e0 := (idx t).2.2.2.2.2.2.2.1
  have e1 := (idx t).2.2.2.2.2.2.2.2.1
  have e2 := (idx t).2.2.2.2.2.2.2.2.2.1
  blk_ext [X2, A2, iblk, V, e0, e1, e2]

theorem block_3 (t : Fin cfg0.N) (a : Fin 1) (b : Fin 128) (d : Fin 1024) (A : Fin 4) (B : Fin 128) (C : Fin 1024)
    (h0 : (t.val) * 1 + a.val = A.val) (h1 : b.val = B.val) (h2 : d.val = C.val) : X3 m c t (ix3 a b d) = A3 m c (ix3 A B C) := by
  have e0 := (idx t).2.2.2.2.2.2.2.2.2.2.1
  have e1 := (idx t).2.2.2.2.2.2.2.2.2.2.2.1
  have e2 := (idx t).2.2.2.2.2.2.2.2.2.2.2.2.1
  blk_ext [X3, A3, iblk, V, e0, e1, e2]

theorem block_4 (t : Fin cfg0.N) (a : Fin 1) (b : Fin 128) (d : Fin 1024) (A : Fin 4) (B : Fin 128) (C : Fin 1024)
    (h0 : (t.val) * 1 + a.val = A.val) (h1 : b.val = B.val) (h2 : d.val = C.val) : X4 m c t (ix3 a b d) = A4 m c (ix3 A B C) := by
  have e0 := (idx t).2.2.2.2.2.2.2.2.2.2.2.2.2.1
  have e1 := (idx t).2.2.2.2.2.2.2.2.2.2.2.2.2.2.1
  have e2 := (idx t).2.2.2.2.2.2.2.2.2.2.2.2.2.2.2.1
  blk_ext [X4, A4, iblk, V, e0, e1, e2]

/-- An operand that the host prepares. -/
theorem entry_v7 : V m c main_v7 = (broadcastInDim S8x128 ![0, 1] bcast_S8x1_S8x128_0_1 (select (shapeCast S8x1 (cmpi .eq (iotaInDim S8x1x1 32 0 : Vec Ideal S8x1x1 .i32) (broadcastInDim S8x1x1 ![0, 1, 2] bcast_S1x1x1_S8x1x1_0_1_2 (broadcastInDim S1x1x1 ![2] bcast_S1_S1x1x1_2 (A5 m c)))) shapeCasts_S8x1x1_S8x1)
      (broadcastInDim S8x1 ![] bcast_S_S8x1 (constant (F := Ideal) S_ .f32 0x3F800000#32)) (broadcastInDim S8x1 ![] bcast_S_S8x1 (constant (F := Ideal) S_ .f32 0x00000000#32))) : FVec Ideal S8x128 .f32) := by
  show StableHlo.after ([hostOps0, hostOps0_1, hostOps0_2] : List (List (HloOp τ sig (Elt Ideal)))).flatten (fun b => m (c, b)) (Proc.tc.devRef main_v7) = _
  simp only [List.flatten_cons, List.flatten_nil, List.cons_append, List.nil_append, List.append_nil]
  after_reads_simp
  try rfl

/-- Whether part `q` is this device's: the choice at row `q`. -/
def chosen (q : Fin 8) : EReal := Scalar.select (IntOp.cmpi CmpIPredicate.eq (BitVec.ofNat 32 q.val) (A5 m c (ix1 0))) 1 0

theorem block_5 (t : Fin cfg0.N) (a : Fin 8) (b : Fin 128) (A : Fin 8) (B : Fin 128)
    (h0 : a.val = A.val) (h1 : b.val = B.val) : X5 m c t (ix2 a b) = chosen m c A := by
  have e0 := (idx t).2.2.2.2.2.2.2.2.2.2.2.2.2.2.2.2.1
  have e1 := (idx t).2.2.2.2.2.2.2.2.2.2.2.2.2.2.2.2.2.1
  show V m c main_v7 (((cfg0.win 5).blk t).view.emb (ix2 a b )) = _
  have e : ((cfg0.win 5).blk t).view.emb (ix2 a b) = (ix2 A B : S8x128.Idx) := by
    funext x; apply Fin.ext
    match x with
    | ⟨0, _⟩ => show win0_5.index t (0 : Fin 2) * 8 + 1 * a.val = A.val; omega
    | ⟨1, _⟩ => show win0_5.index t (1 : Fin 2) * 128 + 1 * b.val = B.val; omega
  rw [e, entry_v7]
  unfold chosen
  pointwise
  try rfl

/-- The gradient. -/
def grad (A : Fin 4) (B : Fin 128) (C : Fin 1024) : EReal := Adam.sum8 fun q => Adam.pick (chosen m c q) (A4 m c (ix3 A B C)) (A0 m c (ix4 q A B C))

/-- The gradient of a block. -/
def gblock (t : Fin cfg0.N) (a : Fin 128) (b : Fin 1024) : EReal := Adam.sum8 fun q => Adam.pick (X5 m c t (ix2 q 0)) (X4 m c t (ix3 0 a b)) (X0 m c t (ix4 q 0 a b))

theorem gblock_eq (t : Fin cfg0.N) (a : Fin 128) (b : Fin 1024) (A : Fin 4) (B : Fin 128) (C : Fin 1024)
    (h0 : (t.val) * 1 + (0 : Fin 1).val = A.val) (h1 : a.val = B.val) (h2 : b.val = C.val) : gblock m c t a b = grad m c A B C := by
  unfold gblock grad
  refine congrArg Adam.sum8 (funext fun q => ?_)
  rw [block_0 m c t q 0 a b q A B C (by simp) h0 h1 h2, block_4 m c t 0 a b A B C h0 h1 h2,
    block_5 m c t q 0 q 0 (by simp) (by simp)]

/-- The point and the place in its block of an entry. -/
theorem place (A : Fin 4) (B : Fin 128) (C : Fin 1024) : ∃ (t : Fin cfg0.N) (a : Fin 128) (b : Fin 1024),
    ((t.val) * 1 + (0 : Fin 1).val = A.val) ∧ (a.val = B.val) ∧ b.val = C.val := by
  obtain ⟨t, ht⟩ : ∃ t : Fin cfg0.N, t.val = A.val := ⟨⟨A.val, by show _ < 4; omega⟩, rfl⟩
  obtain ⟨a, ha⟩ : ∃ a : Fin 128, a.val = B.val % 128 := ⟨⟨B.val % 128, by omega⟩, rfl⟩
  obtain ⟨b, hb⟩ : ∃ b : Fin 1024, b.val = C.val % 1024 := ⟨⟨C.val % 1024, by omega⟩, rfl⟩
  exact ⟨t, a, b, by simp only [Fin.val_zero]; omega, by omega, by omega⟩

theorem out_6 (t : Fin cfg0.N) (a : Fin 128) (b : Fin 1024) : out0_6 (X0 m c t) (X1 m c t) (X2 m c t) (X3 m c t) (X4 m c t) (X5 m c t) (ix3 0 a b) = gblock m c t a b := by
  frame_out
  open_payloads
  pointwise [read_unread_whole]
  try rfl

theorem final_g (A : Fin 4) (B : Fin 128) (C : Fin 1024) : (dats m 0 c).arrAt 6 cfg0.N (ix3 A B C) = grad m c A B C := by
  obtain ⟨t, a, b, h0, h1, h2⟩ := place A B C
  have e0 := (idx t).2.2.2.2.2.2.2.2.2.2.2.2.2.2.2.2.2.2.1
  have e1 := (idx t).2.2.2.2.2.2.2.2.2.2.2.2.2.2.2.2.2.2.2.1
  have e2 := (idx t).2.2.2.2.2.2.2.2.2.2.2.2.2.2.2.2.2.2.2.2.1
  have bl := congrFun ((dats m 0 c).read_blk_arrAt_eq_flushed 6 (Pipeline.Window.hdisj_of_index_inj (cfg0.win 6) fun t t' _ _ =>
    (by decide +kernel : ∀ t t' : Fin grid0.N, win0_6.index t = win0_6.index t' → t = t') t t') cfg0.N t t.isLt (flush0_6 t)) (ix3 0 a b)
  rw [show (dats m 0 c).flushed 6 t = (cfg0.win 6).cut (grid0.coords t) ((dats m 0 c).after 6 t) from rfl, after0_6] at bl
  have e : ((cfg0.win 6).blk t).view.emb (ix3 (0 : Fin 1) a b) = (ix3 A B C : S4x128x1024.Idx) := by
    funext x; apply Fin.ext
    match x with
    | ⟨0, _⟩ => show win0_6.index t (0 : Fin 3) * 1 + 1 * (0 : Fin 1).val = A.val; simp only [Fin.val_zero] at *; omega
    | ⟨1, _⟩ => show win0_6.index t (1 : Fin 3) * 128 + 1 * a.val = B.val; omega
    | ⟨2, _⟩ => show win0_6.index t (2 : Fin 3) * 1024 + 1 * b.val = C.val; omega
  refine (congrArg ((dats m 0 c).arrAt 6 cfg0.N) e).symm.trans (bl.trans ((out_6 m c t a b).trans ?_))
  rw [gblock_eq m c t a b A B C h0 h1 h2]

theorem out_7 (t : Fin cfg0.N) (a : Fin 128) (b : Fin 1024) : out0_7 (X0 m c t) (X1 m c t) (X2 m c t) (X3 m c t) (X4 m c t) (X5 m c t) (ix3 0 a b) = Adam.delta (X1 m c t (ix3 0 a b)) (gblock m c t a b) (X2 m c t (ix3 0 a b)) (X3 m c t (ix3 0 a b)) := by
  frame_out
  open_payloads
  pointwise [read_unread_whole]
  try rfl

theorem final_d (A : Fin 4) (B : Fin 128) (C : Fin 1024) : (dats m 0 c).arrAt 7 cfg0.N (ix3 A B C) = Adam.delta (A1 m c (ix3 A B C)) (grad m c A B C) (A2 m c (ix3 A B C)) (A3 m c (ix3 A B C)) := by
  obtain ⟨t, a, b, h0, h1, h2⟩ := place A B C
  have e0 := (idx t).2.2.2.2.2.2.2.2.2.2.2.2.2.2.2.2.2.2.2.2.2.1
  have e1 := (idx t).2.2.2.2.2.2.2.2.2.2.2.2.2.2.2.2.2.2.2.2.2.2.1
  have e2 := (idx t).2.2.2.2.2.2.2.2.2.2.2.2.2.2.2.2.2.2.2.2.2.2.2.1
  have bl := congrFun ((dats m 0 c).read_blk_arrAt_eq_flushed 7 (Pipeline.Window.hdisj_of_index_inj (cfg0.win 7) fun t t' _ _ =>
    (by decide +kernel : ∀ t t' : Fin grid0.N, win0_7.index t = win0_7.index t' → t = t') t t') cfg0.N t t.isLt (flush0_7 t)) (ix3 0 a b)
  rw [show (dats m 0 c).flushed 7 t = (cfg0.win 7).cut (grid0.coords t) ((dats m 0 c).after 7 t) from rfl, after0_7] at bl
  have e : ((cfg0.win 7).blk t).view.emb (ix3 (0 : Fin 1) a b) = (ix3 A B C : S4x128x1024.Idx) := by
    funext x; apply Fin.ext
    match x with
    | ⟨0, _⟩ => show win0_7.index t (0 : Fin 3) * 1 + 1 * (0 : Fin 1).val = A.val; simp only [Fin.val_zero] at *; omega
    | ⟨1, _⟩ => show win0_7.index t (1 : Fin 3) * 128 + 1 * a.val = B.val; omega
    | ⟨2, _⟩ => show win0_7.index t (2 : Fin 3) * 1024 + 1 * b.val = C.val; omega
  refine (congrArg ((dats m 0 c).arrAt 7 cfg0.N) e).symm.trans (bl.trans ((out_7 m c t a b).trans ?_))
  rw [gblock_eq m c t a b A B C h0 h1 h2, block_1 m c t 0 a b A B C h0 h1 h2, block_2 m c t 0 a b A B C h0 h1 h2, block_3 m c t 0 a b A B C h0 h1 h2]

theorem out_8 (t : Fin cfg0.N) (a : Fin 128) (b : Fin 1024) : out0_8 (X0 m c t) (X1 m c t) (X2 m c t) (X3 m c t) (X4 m c t) (X5 m c t) (ix3 0 a b) = Adam.mean (gblock m c t a b) (X2 m c t (ix3 0 a b)) := by
  frame_out
  open_payloads
  pointwise [read_unread_whole]
  try rfl

theorem final_m (A : Fin 4) (B : Fin 128) (C : Fin 1024) : (dats m 0 c).arrAt 8 cfg0.N (ix3 A B C) = Adam.mean (grad m c A B C) (A2 m c (ix3 A B C)) := by
  obtain ⟨t, a, b, h0, h1, h2⟩ := place A B C
  have e0 := (idx t).2.2.2.2.2.2.2.2.2.2.2.2.2.2.2.2.2.2.2.2.2.2.2.2.1
  have e1 := (idx t).2.2.2.2.2.2.2.2.2.2.2.2.2.2.2.2.2.2.2.2.2.2.2.2.2.1
  have e2 := (idx t).2.2.2.2.2.2.2.2.2.2.2.2.2.2.2.2.2.2.2.2.2.2.2.2.2.2.1
  have bl := congrFun ((dats m 0 c).read_blk_arrAt_eq_flushed 8 (Pipeline.Window.hdisj_of_index_inj (cfg0.win 8) fun t t' _ _ =>
    (by decide +kernel : ∀ t t' : Fin grid0.N, win0_8.index t = win0_8.index t' → t = t') t t') cfg0.N t t.isLt (flush0_8 t)) (ix3 0 a b)
  rw [show (dats m 0 c).flushed 8 t = (cfg0.win 8).cut (grid0.coords t) ((dats m 0 c).after 8 t) from rfl, after0_8] at bl
  have e : ((cfg0.win 8).blk t).view.emb (ix3 (0 : Fin 1) a b) = (ix3 A B C : S4x128x1024.Idx) := by
    funext x; apply Fin.ext
    match x with
    | ⟨0, _⟩ => show win0_8.index t (0 : Fin 3) * 1 + 1 * (0 : Fin 1).val = A.val; simp only [Fin.val_zero] at *; omega
    | ⟨1, _⟩ => show win0_8.index t (1 : Fin 3) * 128 + 1 * a.val = B.val; omega
    | ⟨2, _⟩ => show win0_8.index t (2 : Fin 3) * 1024 + 1 * b.val = C.val; omega
  refine (congrArg ((dats m 0 c).arrAt 8 cfg0.N) e).symm.trans (bl.trans ((out_8 m c t a b).trans ?_))
  rw [gblock_eq m c t a b A B C h0 h1 h2, block_2 m c t 0 a b A B C h0 h1 h2]

theorem out_9 (t : Fin cfg0.N) (a : Fin 128) (b : Fin 1024) : out0_9 (X0 m c t) (X1 m c t) (X2 m c t) (X3 m c t) (X4 m c t) (X5 m c t) (ix3 0 a b) = Adam.var (gblock m c t a b) (X3 m c t (ix3 0 a b)) := by
  frame_out
  open_payloads
  pointwise [read_unread_whole]
  try rfl

theorem final_v (A : Fin 4) (B : Fin 128) (C : Fin 1024) : (dats m 0 c).arrAt 9 cfg0.N (ix3 A B C) = Adam.var (grad m c A B C) (A3 m c (ix3 A B C)) := by
  obtain ⟨t, a, b, h0, h1, h2⟩ := place A B C
  have e0 := (idx t).2.2.2.2.2.2.2.2.2.2.2.2.2.2.2.2.2.2.2.2.2.2.2.2.2.2.2.1
  have e1 := (idx t).2.2.2.2.2.2.2.2.2.2.2.2.2.2.2.2.2.2.2.2.2.2.2.2.2.2.2.2.1
  have e2 := (idx t).2.2.2.2.2.2.2.2.2.2.2.2.2.2.2.2.2.2.2.2.2.2.2.2.2.2.2.2.2
  have bl := congrFun ((dats m 0 c).read_blk_arrAt_eq_flushed 9 (Pipeline.Window.hdisj_of_index_inj (cfg0.win 9) fun t t' _ _ =>
    (by decide +kernel : ∀ t t' : Fin grid0.N, win0_9.index t = win0_9.index t' → t = t') t t') cfg0.N t t.isLt (flush0_9 t)) (ix3 0 a b)
  rw [show (dats m 0 c).flushed 9 t = (cfg0.win 9).cut (grid0.coords t) ((dats m 0 c).after 9 t) from rfl, after0_9] at bl
  have e : ((cfg0.win 9).blk t).view.emb (ix3 (0 : Fin 1) a b) = (ix3 A B C : S4x128x1024.Idx) := by
    funext x; apply Fin.ext
    match x with
    | ⟨0, _⟩ => show win0_9.index t (0 : Fin 3) * 1 + 1 * (0 : Fin 1).val = A.val; simp only [Fin.val_zero] at *; omega
    | ⟨1, _⟩ => show win0_9.index t (1 : Fin 3) * 128 + 1 * a.val = B.val; omega
    | ⟨2, _⟩ => show win0_9.index t (2 : Fin 3) * 1024 + 1 * b.val = C.val; omega
  refine (congrArg ((dats m 0 c).arrAt 9 cfg0.N) e).symm.trans (bl.trans ((out_9 m c t a b).trans ?_))
  rw [gblock_eq m c t a b A B C h0 h1 h2, block_3 m c t 0 a b A B C h0 h1 h2]

end Cert.AdamOutValue

end
-- ==== Proof.AdamOutEqual.lean ====
/-
  `kernel_adam_out` against its reference.
-/
module

public import proofs.«01_k».proof.Defs
public import proofs.«01_k».proof.Proof.Gen.AdamOut.Frame
public import proofs.«01_k».proof.Proof.Gen.AdamOutRefIdeal.Run
public import proofs.«01_k».proof.Proof.AdamOutValue
public import Idealize.ShloMosaic.Adequacy

@[expose] public section

noncomputable section

namespace Cert.Proof

open Idealize.ShloMosaic Idealize.ShloMosaic.TcCoe Idealize.SL.Sem

theorem frame_adam_out : Cert.quiescent_AdamOut := fun m ρ _ => Cert.AdamOut.Gen.frame m ρ
theorem frame_adam_out_ideal : Cert.quiescent_AdamOutIdeal := fun m ρ _ => Cert.AdamOutIdeal.Gen.frame m ρ
theorem frame_adam_out_reference : Cert.quiescent_AdamOutRefIdeal := fun m ρ _ =>
  (θ_run Cert.AdamOutRefIdeal.defs _ _).mono (fun r h => ⟨fun c => (h c).2.2.2.2, sem_eq_zero_of_no_sems (by decide) r.2⟩)
    (Cert.AdamOutRefIdeal.Value.run (F := Ideal) m ρ)

theorem adam_out_equal : Cert.algebraic_AdamOutIdeal_AdamOutRefIdeal := by
  intro m ρ m' ρ' _ ha
  refine ⟨fun c => (Cert.AdamOutIdeal.Gen.dats m 0 c).arrAt 6 Cert.AdamOutIdeal.cfg0.N,
    fun c => (Cert.AdamOutIdeal.Gen.dats m 0 c).arrAt 7 Cert.AdamOutIdeal.cfg0.N,
    fun c => (Cert.AdamOutIdeal.Gen.dats m 0 c).arrAt 8 Cert.AdamOutIdeal.cfg0.N,
    fun c => (Cert.AdamOutIdeal.Gen.dats m 0 c).arrAt 9 Cert.AdamOutIdeal.cfg0.N,
    Cert.AdamOutValue.run_blocks m ρ, ?_⟩
  refine (θ_run Cert.AdamOutRefIdeal.defs _ _).mono (fun r h c => ?_) (Cert.AdamOutRefIdeal.Value.run (F := Ideal) m' ρ')
  obtain ⟨a0, a1, a2, a3, a4, a5⟩ := ha c
  refine ⟨(h c).1.trans ?_, (h c).2.1.trans ?_, (h c).2.2.1.trans ?_, (h c).2.2.2.1.trans ?_, (h c).2.2.2.2⟩ <;> clear h
  · try rw [a0]
    try rw [a1]
    try rw [a2]
    try rw [a3]
    try rw [a4]
    try rw [a5]
    clear ha a0 a1 a2 a3 a4 a5
    funext (y : Cert.AdamOutIdeal.S4x128x1024.Idx)
    have e : y = ix3 (y 0) (y 1) (y 2) := by
      funext a; match a with | ⟨0, _⟩ => rfl | ⟨1, _⟩ => rfl | ⟨2, _⟩ => rfl
    generalize y 0 = A at e; generalize y 1 = B at e; generalize y 2 = C at e
    rw [e]
    refine Eq.trans ?_ (Cert.AdamOutValue.final_g m c A B C).symm
    unfold Cert.AdamOutValue.grad
    simp only [Adam.sum8_eq]
    simp only [Cert.AdamOutValue.chosen, Adam.pick_select]
    pointwise
    try rfl
  · try rw [a0]
    try rw [a1]
    try rw [a2]
    try rw [a3]
    try rw [a4]
    try rw [a5]
    clear ha a0 a1 a2 a3 a4 a5
    funext (y : Cert.AdamOutIdeal.S4x128x1024.Idx)
    have e : y = ix3 (y 0) (y 1) (y 2) := by
      funext a; match a with | ⟨0, _⟩ => rfl | ⟨1, _⟩ => rfl | ⟨2, _⟩ => rfl
    generalize y 0 = A at e; generalize y 1 = B at e; generalize y 2 = C at e
    rw [e]
    refine Eq.trans ?_ (Cert.AdamOutValue.final_d m c A B C).symm
    unfold Adam.delta Adam.mean Adam.var Cert.AdamOutValue.grad
    simp only [Adam.sum8_eq]
    simp only [Cert.AdamOutValue.chosen, Adam.pick_select]
    pointwise
    try rfl
  · try rw [a0]
    try rw [a1]
    try rw [a2]
    try rw [a3]
    try rw [a4]
    try rw [a5]
    clear ha a0 a1 a2 a3 a4 a5
    funext (y : Cert.AdamOutIdeal.S4x128x1024.Idx)
    have e : y = ix3 (y 0) (y 1) (y 2) := by
      funext a; match a with | ⟨0, _⟩ => rfl | ⟨1, _⟩ => rfl | ⟨2, _⟩ => rfl
    generalize y 0 = A at e; generalize y 1 = B at e; generalize y 2 = C at e
    rw [e]
    refine Eq.trans ?_ (Cert.AdamOutValue.final_m m c A B C).symm
    unfold Adam.mean Cert.AdamOutValue.grad
    simp only [Adam.sum8_eq]
    simp only [Cert.AdamOutValue.chosen, Adam.pick_select]
    pointwise
    try rfl
  · try rw [a0]
    try rw [a1]
    try rw [a2]
    try rw [a3]
    try rw [a4]
    try rw [a5]
    clear ha a0 a1 a2 a3 a4 a5
    funext (y : Cert.AdamOutIdeal.S4x128x1024.Idx)
    have e : y = ix3 (y 0) (y 1) (y 2) := by
      funext a; match a with | ⟨0, _⟩ => rfl | ⟨1, _⟩ => rfl | ⟨2, _⟩ => rfl
    generalize y 0 = A at e; generalize y 1 = B at e; generalize y 2 = C at e
    rw [e]
    refine Eq.trans ?_ (Cert.AdamOutValue.final_v m c A B C).symm
    unfold Adam.var Cert.AdamOutValue.grad
    simp only [Adam.sum8_eq]
    simp only [Cert.AdamOutValue.chosen, Adam.pick_select]
    pointwise
    try rfl

end Cert.Proof

end
-- ==== Proof.AdamBranchValue.lean ====
/-
  One AdamW update, read at an index.
-/
module

public import proofs.«01_k».proof.Proof.Gen.AdamBranchIdeal.Frame
public import Idealize.ShloMosaic.Lib.Pipeline.Value
public import Idealize.ShloMosaic.Lib.Pipeline.ValueKit.Point
public import Idealize.ShloMosaic.Lib.Pipeline.ReadBack
public import Idealize.ShloMosaic.Lib.StableHlo.RunRead
public import proofs.«01_k».proof.Proof.AdamScalar

@[expose] public section

noncomputable section

namespace Cert.AdamBranchValue

open Idealize.ShloMosaic Idealize.ShloMosaic.TcCoe Idealize.SL.Sem
open Idealize.ShloMosaic.Pipeline (Dat)
open Cert.AdamBranchIdeal Cert.AdamBranchIdeal.Gen

/-- The run with its final arrays named. -/
theorem run_blocks (m : (ℓ : Loc nD τ sig) → Buf (Elt Ideal) ℓ) (ρ : Dev nD → PrngReg) : θ_run defs (onTc (τ := τ) (main (F := Ideal))) ⟨m, fun _ => 0, ρ⟩ fun r => ∀ c : Dev nD,
      r.2.mem ((c : Thread nD τ).loc main_v8_0) = (dats m 0 c).arrAt 6 cfg0.N
      ∧ r.2.mem ((c : Thread nD τ).loc main_v8_1) = (dats m 0 c).arrAt 7 cfg0.N
      ∧ r.2.mem ((c : Thread nD τ).loc main_v8_2) = (dats m 0 c).arrAt 8 cfg0.N
      ∧ r.2.mem ((c : Thread nD τ).loc main_v8_3) = (dats m 0 c).arrAt 9 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1 6,
      (h c).1 7,
      (h c).1 8,
      (h c).1 9,
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).2 main_arg5 (Pipeline.mem_restRefs_of main_arg5 (by decide) (by decide))).trans (V_main_arg5 m c)⟩)
    (run_main m ρ)

variable (m : (ℓ : Loc nD τ sig) → Buf (Elt Ideal) ℓ) (c : Dev nD)

theorem idx : ∀ t : Fin cfg0.N, win0_0.index t (0 : Fin 4) = 0
    ∧ win0_0.index t (1 : Fin 4) = t.val / 2
    ∧ win0_0.index t (2 : Fin 4) = t.val % 2
    ∧ win0_0.index t (3 : Fin 4) = 0
    ∧ win0_1.index t (0 : Fin 3) = t.val / 2
    ∧ win0_1.index t (1 : Fin 3) = t.val % 2
    ∧ win0_1.index t (2 : Fin 3) = 0
    ∧ win0_2.index t (0 : Fin 3) = t.val / 2
    ∧ win0_2.index t (1 : Fin 3) = t.val % 2
    ∧ win0_2.index t (2 : Fin 3) = 0
    ∧ win0_3.index t (0 : Fin 3) = t.val / 2
    ∧ win0_3.index t (1 : Fin 3) = t.val % 2
    ∧ win0_3.index t (2 : Fin 3) = 0
    ∧ win0_4.index t (0 : Fin 3) = t.val / 2
    ∧ win0_4.index t (1 : Fin 3) = t.val % 2
    ∧ win0_4.index t (2 : Fin 3) = 0
    ∧ win0_5.index t (0 : Fin 2) = 0
    ∧ win0_5.index t (1 : Fin 2) = 0
    ∧ win0_6.index t (0 : Fin 3) = t.val / 2
    ∧ win0_6.index t (1 : Fin 3) = t.val % 2
    ∧ win0_6.index t (2 : Fin 3) = 0
    ∧ win0_7.index t (0 : Fin 3) = t.val / 2
    ∧ win0_7.index t (1 : Fin 3) = t.val % 2
    ∧ win0_7.index t (2 : Fin 3) = 0
    ∧ win0_8.index t (0 : Fin 3) = t.val / 2
    ∧ win0_8.index t (1 : Fin 3) = t.val % 2
    ∧ win0_8.index t (2 : Fin 3) = 0
    ∧ win0_9.index t (0 : Fin 3) = t.val / 2
    ∧ win0_9.index t (1 : Fin 3) = t.val % 2
    ∧ win0_9.index t (2 : Fin 3) = 0 :=
  (by decide +kernel : ∀ t : Fin grid0.N, _)

/-- The argument arrays. -/
abbrev A0 : Vec Ideal S8x4x512x128 .bf16 := m ((c : Thread nD τ).loc main_arg0)
abbrev A1 : Vec Ideal S4x512x128 .f32 := m ((c : Thread nD τ).loc main_arg1)
abbrev A2 : Vec Ideal S4x512x128 .f32 := m ((c : Thread nD τ).loc main_arg2)
abbrev A3 : Vec Ideal S4x512x128 .f32 := m ((c : Thread nD τ).loc main_arg3)
abbrev A4 : Vec Ideal S4x512x128 .bf16 := m ((c : Thread nD τ).loc main_arg4)
abbrev A5 : Vec Ideal S1 .i32 := m ((c : Thread nD τ).loc main_arg5)

/-- The blocks a point reads. -/
abbrev X0 (t : Fin cfg0.N) : Vec Ideal S8x1x256x128 .bf16 := iblk m c 0 t
abbrev X1 (t : Fin cfg0.N) : Vec Ideal S1x256x128 .f32 := iblk m c 1 t
abbrev X2 (t : Fin cfg0.N) : Vec Ideal S1x256x128 .f32 := iblk m c 2 t
abbrev X3 (t : Fin cfg0.N) : Vec Ideal S1x256x128 .f32 := iblk m c 3 t
abbrev X4 (t : Fin cfg0.N) : Vec Ideal S1x256x128 .bf16 := iblk m c 4 t
abbrev X5 (t : Fin cfg0.N) : Vec Ideal S8x128 .f32 := iblk m c 5 t

theorem block_0 (t : Fin cfg0.N) (a : Fin 8) (b : Fin 1) (d : Fin 256) (f : Fin 128) (A : Fin 8) (B : Fin 4) (C : Fin 512) (D : Fin 128)
    (h0 : a.val = A.val) (h1 : (t.val / 2) * 1 + b.val = B.val) (h2 : (t.val % 2) * 256 + d.val = C.val) (h3 : f.val = D.val) : X0 m c t (ix4 a b d f) = A0 m c (ix4 A B C D) := by
  have e0 := (idx t).1
  have e1 := (idx t).2.1
  have e2 := (idx t).2.2.1
  have e3 := (idx t).2.2.2.1
  blk_ext [X0, A0, iblk, V, e0, e1, e2, e3]

theorem block_1 (t : Fin cfg0.N) (a : Fin 1) (b : Fin 256) (d : Fin 128) (A : Fin 4) (B : Fin 512) (C : Fin 128)
    (h0 : (t.val / 2) * 1 + a.val = A.val) (h1 : (t.val % 2) * 256 + b.val = B.val) (h2 : d.val = C.val) : X1 m c t (ix3 a b d) = A1 m c (ix3 A B C) := by
  have e0 := (idx t).2.2.2.2.1
  have e1 := (idx t).2.2.2.2.2.1
  have e2 := (idx t).2.2.2.2.2.2.1
  blk_ext [X1, A1, iblk, V, e0, e1, e2]

theorem block_2 (t : Fin cfg0.N) (a : Fin 1) (b : Fin 256) (d : Fin 128) (A : Fin 4) (B : Fin 512) (C : Fin 128)
    (h0 : (t.val / 2) * 1 + a.val = A.val) (h1 : (t.val % 2) * 256 + b.val = B.val) (h2 : d.val = C.val) : X2 m c t (ix3 a b d) = A2 m c (ix3 A B C) := by
  have e0 := (idx t).2.2.2.2.2.2.2.1
  have e1 := (idx t).2.2.2.2.2.2.2.2.1
  have e2 := (idx t).2.2.2.2.2.2.2.2.2.1
  blk_ext [X2, A2, iblk, V, e0, e1, e2]

theorem block_3 (t : Fin cfg0.N) (a : Fin 1) (b : Fin 256) (d : Fin 128) (A : Fin 4) (B : Fin 512) (C : Fin 128)
    (h0 : (t.val / 2) * 1 + a.val = A.val) (h1 : (t.val % 2) * 256 + b.val = B.val) (h2 : d.val = C.val) : X3 m c t (ix3 a b d) = A3 m c (ix3 A B C) := by
  have e0 := (idx t).2.2.2.2.2.2.2.2.2.2.1
  have e1 := (idx t).2.2.2.2.2.2.2.2.2.2.2.1
  have e2 := (idx t).2.2.2.2.2.2.2.2.2.2.2.2.1
  blk_ext [X3, A3, iblk, V, e0, e1, e2]

theorem block_4 (t : Fin cfg0.N) (a : Fin 1) (b : Fin 256) (d : Fin 128) (A : Fin 4) (B : Fin 512) (C : Fin 128)
    (h0 : (t.val / 2) * 1 + a.val = A.val) (h1 : (t.val % 2) * 256 + b.val = B.val) (h2 : d.val = C.val) : X4 m c t (ix3 a b d) = A4 m c (ix3 A B C) := by
  have e0 := (idx t).2.2.2.2.2.2.2.2.2.2.2.2.2.1
  have e1 := (idx t).2.2.2.2.2.2.2.2.2.2.2.2.2.2.1
  have e2 := (idx t).2.2.2.2.2.2.2.2.2.2.2.2.2.2.2.1
  blk_ext [X4, A4, iblk, V, e0, e1, e2]

/-- An operand that the host prepares. -/
theorem entry_v7 : V m c main_v7 = (broadcastInDim S8x128 ![0, 1] bcast_S8x1_S8x128_0_1 (select (shapeCast S8x1 (cmpi .eq (iotaInDim S8x1x1 32 0 : Vec Ideal S8x1x1 .i32) (broadcastInDim S8x1x1 ![0, 1, 2] bcast_S1x1x1_S8x1x1_0_1_2 (broadcastInDim S1x1x1 ![2] bcast_S1_S1x1x1_2 (A5 m c)))) shapeCasts_S8x1x1_S8x1)
      (broadcastInDim S8x1 ![] bcast_S_S8x1 (constant (F := Ideal) S_ .f32 0x3F800000#32)) (broadcastInDim S8x1 ![] bcast_S_S8x1 (constant (F := Ideal) S_ .f32 0x00000000#32))) : FVec Ideal S8x128 .f32) := by
  show StableHlo.after ([hostOps0, hostOps0_1, hostOps0_2] : List (List (HloOp τ sig (Elt Ideal)))).flatten (fun b => m (c, b)) (Proc.tc.devRef main_v7) = _
  simp only [List.flatten_cons, List.flatten_nil, List.cons_append, List.nil_append, List.append_nil]
  after_reads_simp
  try rfl

/-- Whether part `q` is this device's: the choice at row `q`. -/
def chosen (q : Fin 8) : EReal := Scalar.select (IntOp.cmpi CmpIPredicate.eq (BitVec.ofNat 32 q.val) (A5 m c (ix1 0))) 1 0

theorem block_5 (t : Fin cfg0.N) (a : Fin 8) (b : Fin 128) (A : Fin 8) (B : Fin 128)
    (h0 : a.val = A.val) (h1 : b.val = B.val) : X5 m c t (ix2 a b) = chosen m c A := by
  have e0 := (idx t).2.2.2.2.2.2.2.2.2.2.2.2.2.2.2.2.1
  have e1 := (idx t).2.2.2.2.2.2.2.2.2.2.2.2.2.2.2.2.2.1
  show V m c main_v7 (((cfg0.win 5).blk t).view.emb (ix2 a b )) = _
  have e : ((cfg0.win 5).blk t).view.emb (ix2 a b) = (ix2 A B : S8x128.Idx) := by
    funext x; apply Fin.ext
    match x with
    | ⟨0, _⟩ => show win0_5.index t (0 : Fin 2) * 8 + 1 * a.val = A.val; omega
    | ⟨1, _⟩ => show win0_5.index t (1 : Fin 2) * 128 + 1 * b.val = B.val; omega
  rw [e, entry_v7]
  unfold chosen
  pointwise
  try rfl

/-- The gradient. -/
def grad (A : Fin 4) (B : Fin 512) (C : Fin 128) : EReal := Adam.sum8 fun q => Adam.pick (chosen m c q) (A4 m c (ix3 A B C)) (A0 m c (ix4 q A B C))

/-- The gradient of a block. -/
def gblock (t : Fin cfg0.N) (a : Fin 256) (b : Fin 128) : EReal := Adam.sum8 fun q => Adam.pick (X5 m c t (ix2 q 0)) (X4 m c t (ix3 0 a b)) (X0 m c t (ix4 q 0 a b))

theorem gblock_eq (t : Fin cfg0.N) (a : Fin 256) (b : Fin 128) (A : Fin 4) (B : Fin 512) (C : Fin 128)
    (h0 : (t.val / 2) * 1 + (0 : Fin 1).val = A.val) (h1 : (t.val % 2) * 256 + a.val = B.val) (h2 : b.val = C.val) : gblock m c t a b = grad m c A B C := by
  unfold gblock grad
  refine congrArg Adam.sum8 (funext fun q => ?_)
  rw [block_0 m c t q 0 a b q A B C (by simp) h0 h1 h2, block_4 m c t 0 a b A B C h0 h1 h2,
    block_5 m c t q 0 q 0 (by simp) (by simp)]

/-- The point and the place in its block of an entry. -/
theorem place (A : Fin 4) (B : Fin 512) (C : Fin 128) : ∃ (t : Fin cfg0.N) (a : Fin 256) (b : Fin 128),
    ((t.val / 2) * 1 + (0 : Fin 1).val = A.val) ∧ ((t.val % 2) * 256 + a.val = B.val) ∧ b.val = C.val := by
  obtain ⟨t, ht⟩ : ∃ t : Fin cfg0.N, t.val = A.val * 2 + B.val / 256 := ⟨⟨A.val * 2 + B.val / 256, by show _ < 8; omega⟩, rfl⟩
  obtain ⟨a, ha⟩ : ∃ a : Fin 256, a.val = B.val % 256 := ⟨⟨B.val % 256, by omega⟩, rfl⟩
  obtain ⟨b, hb⟩ : ∃ b : Fin 128, b.val = C.val % 128 := ⟨⟨C.val % 128, by omega⟩, rfl⟩
  exact ⟨t, a, b, by simp only [Fin.val_zero]; omega, by omega, by omega⟩

theorem out_6 (t : Fin cfg0.N) (a : Fin 256) (b : Fin 128) : out0_6 (X0 m c t) (X1 m c t) (X2 m c t) (X3 m c t) (X4 m c t) (X5 m c t) (ix3 0 a b) = gblock m c t a b := by
  frame_out
  open_payloads
  pointwise [read_unread_whole]
  try rfl

theorem final_g (A : Fin 4) (B : Fin 512) (C : Fin 128) : (dats m 0 c).arrAt 6 cfg0.N (ix3 A B C) = grad m c A B C := by
  obtain ⟨t, a, b, h0, h1, h2⟩ := place A B C
  have e0 := (idx t).2.2.2.2.2.2.2.2.2.2.2.2.2.2.2.2.2.2.1
  have e1 := (idx t).2.2.2.2.2.2.2.2.2.2.2.2.2.2.2.2.2.2.2.1
  have e2 := (idx t).2.2.2.2.2.2.2.2.2.2.2.2.2.2.2.2.2.2.2.2.1
  have bl := congrFun ((dats m 0 c).read_blk_arrAt_eq_flushed 6 (Pipeline.Window.hdisj_of_index_inj (cfg0.win 6) fun t t' _ _ =>
    (by decide +kernel : ∀ t t' : Fin grid0.N, win0_6.index t = win0_6.index t' → t = t') t t') cfg0.N t t.isLt (flush0_6 t)) (ix3 0 a b)
  rw [show (dats m 0 c).flushed 6 t = (cfg0.win 6).cut (grid0.coords t) ((dats m 0 c).after 6 t) from rfl, after0_6] at bl
  have e : ((cfg0.win 6).blk t).view.emb (ix3 (0 : Fin 1) a b) = (ix3 A B C : S4x512x128.Idx) := by
    funext x; apply Fin.ext
    match x with
    | ⟨0, _⟩ => show win0_6.index t (0 : Fin 3) * 1 + 1 * (0 : Fin 1).val = A.val; simp only [Fin.val_zero] at *; omega
    | ⟨1, _⟩ => show win0_6.index t (1 : Fin 3) * 256 + 1 * a.val = B.val; omega
    | ⟨2, _⟩ => show win0_6.index t (2 : Fin 3) * 128 + 1 * b.val = C.val; omega
  refine (congrArg ((dats m 0 c).arrAt 6 cfg0.N) e).symm.trans (bl.trans ((out_6 m c t a b).trans ?_))
  rw [gblock_eq m c t a b A B C h0 h1 h2]

theorem out_7 (t : Fin cfg0.N) (a : Fin 256) (b : Fin 128) : out0_7 (X0 m c t) (X1 m c t) (X2 m c t) (X3 m c t) (X4 m c t) (X5 m c t) (ix3 0 a b) = Adam.delta (X1 m c t (ix3 0 a b)) (gblock m c t a b) (X2 m c t (ix3 0 a b)) (X3 m c t (ix3 0 a b)) := by
  frame_out
  open_payloads
  pointwise [read_unread_whole]
  try rfl

theorem final_d (A : Fin 4) (B : Fin 512) (C : Fin 128) : (dats m 0 c).arrAt 7 cfg0.N (ix3 A B C) = Adam.delta (A1 m c (ix3 A B C)) (grad m c A B C) (A2 m c (ix3 A B C)) (A3 m c (ix3 A B C)) := by
  obtain ⟨t, a, b, h0, h1, h2⟩ := place A B C
  have e0 := (idx t).2.2.2.2.2.2.2.2.2.2.2.2.2.2.2.2.2.2.2.2.2.1
  have e1 := (idx t).2.2.2.2.2.2.2.2.2.2.2.2.2.2.2.2.2.2.2.2.2.2.1
  have e2 := (idx t).2.2.2.2.2.2.2.2.2.2.2.2.2.2.2.2.2.2.2.2.2.2.2.1
  have bl := congrFun ((dats m 0 c).read_blk_arrAt_eq_flushed 7 (Pipeline.Window.hdisj_of_index_inj (cfg0.win 7) fun t t' _ _ =>
    (by decide +kernel : ∀ t t' : Fin grid0.N, win0_7.index t = win0_7.index t' → t = t') t t') cfg0.N t t.isLt (flush0_7 t)) (ix3 0 a b)
  rw [show (dats m 0 c).flushed 7 t = (cfg0.win 7).cut (grid0.coords t) ((dats m 0 c).after 7 t) from rfl, after0_7] at bl
  have e : ((cfg0.win 7).blk t).view.emb (ix3 (0 : Fin 1) a b) = (ix3 A B C : S4x512x128.Idx) := by
    funext x; apply Fin.ext
    match x with
    | ⟨0, _⟩ => show win0_7.index t (0 : Fin 3) * 1 + 1 * (0 : Fin 1).val = A.val; simp only [Fin.val_zero] at *; omega
    | ⟨1, _⟩ => show win0_7.index t (1 : Fin 3) * 256 + 1 * a.val = B.val; omega
    | ⟨2, _⟩ => show win0_7.index t (2 : Fin 3) * 128 + 1 * b.val = C.val; omega
  refine (congrArg ((dats m 0 c).arrAt 7 cfg0.N) e).symm.trans (bl.trans ((out_7 m c t a b).trans ?_))
  rw [gblock_eq m c t a b A B C h0 h1 h2, block_1 m c t 0 a b A B C h0 h1 h2, block_2 m c t 0 a b A B C h0 h1 h2, block_3 m c t 0 a b A B C h0 h1 h2]

theorem out_8 (t : Fin cfg0.N) (a : Fin 256) (b : Fin 128) : out0_8 (X0 m c t) (X1 m c t) (X2 m c t) (X3 m c t) (X4 m c t) (X5 m c t) (ix3 0 a b) = Adam.mean (gblock m c t a b) (X2 m c t (ix3 0 a b)) := by
  frame_out
  open_payloads
  pointwise [read_unread_whole]
  try rfl

theorem final_m (A : Fin 4) (B : Fin 512) (C : Fin 128) : (dats m 0 c).arrAt 8 cfg0.N (ix3 A B C) = Adam.mean (grad m c A B C) (A2 m c (ix3 A B C)) := by
  obtain ⟨t, a, b, h0, h1, h2⟩ := place A B C
  have e0 := (idx t).2.2.2.2.2.2.2.2.2.2.2.2.2.2.2.2.2.2.2.2.2.2.2.2.1
  have e1 := (idx t).2.2.2.2.2.2.2.2.2.2.2.2.2.2.2.2.2.2.2.2.2.2.2.2.2.1
  have e2 := (idx t).2.2.2.2.2.2.2.2.2.2.2.2.2.2.2.2.2.2.2.2.2.2.2.2.2.2.1
  have bl := congrFun ((dats m 0 c).read_blk_arrAt_eq_flushed 8 (Pipeline.Window.hdisj_of_index_inj (cfg0.win 8) fun t t' _ _ =>
    (by decide +kernel : ∀ t t' : Fin grid0.N, win0_8.index t = win0_8.index t' → t = t') t t') cfg0.N t t.isLt (flush0_8 t)) (ix3 0 a b)
  rw [show (dats m 0 c).flushed 8 t = (cfg0.win 8).cut (grid0.coords t) ((dats m 0 c).after 8 t) from rfl, after0_8] at bl
  have e : ((cfg0.win 8).blk t).view.emb (ix3 (0 : Fin 1) a b) = (ix3 A B C : S4x512x128.Idx) := by
    funext x; apply Fin.ext
    match x with
    | ⟨0, _⟩ => show win0_8.index t (0 : Fin 3) * 1 + 1 * (0 : Fin 1).val = A.val; simp only [Fin.val_zero] at *; omega
    | ⟨1, _⟩ => show win0_8.index t (1 : Fin 3) * 256 + 1 * a.val = B.val; omega
    | ⟨2, _⟩ => show win0_8.index t (2 : Fin 3) * 128 + 1 * b.val = C.val; omega
  refine (congrArg ((dats m 0 c).arrAt 8 cfg0.N) e).symm.trans (bl.trans ((out_8 m c t a b).trans ?_))
  rw [gblock_eq m c t a b A B C h0 h1 h2, block_2 m c t 0 a b A B C h0 h1 h2]

theorem out_9 (t : Fin cfg0.N) (a : Fin 256) (b : Fin 128) : out0_9 (X0 m c t) (X1 m c t) (X2 m c t) (X3 m c t) (X4 m c t) (X5 m c t) (ix3 0 a b) = Adam.var (gblock m c t a b) (X3 m c t (ix3 0 a b)) := by
  frame_out
  open_payloads
  pointwise [read_unread_whole]
  try rfl

theorem final_v (A : Fin 4) (B : Fin 512) (C : Fin 128) : (dats m 0 c).arrAt 9 cfg0.N (ix3 A B C) = Adam.var (grad m c A B C) (A3 m c (ix3 A B C)) := by
  obtain ⟨t, a, b, h0, h1, h2⟩ := place A B C
  have e0 := (idx t).2.2.2.2.2.2.2.2.2.2.2.2.2.2.2.2.2.2.2.2.2.2.2.2.2.2.2.1
  have e1 := (idx t).2.2.2.2.2.2.2.2.2.2.2.2.2.2.2.2.2.2.2.2.2.2.2.2.2.2.2.2.1
  have e2 := (idx t).2.2.2.2.2.2.2.2.2.2.2.2.2.2.2.2.2.2.2.2.2.2.2.2.2.2.2.2.2
  have bl := congrFun ((dats m 0 c).read_blk_arrAt_eq_flushed 9 (Pipeline.Window.hdisj_of_index_inj (cfg0.win 9) fun t t' _ _ =>
    (by decide +kernel : ∀ t t' : Fin grid0.N, win0_9.index t = win0_9.index t' → t = t') t t') cfg0.N t t.isLt (flush0_9 t)) (ix3 0 a b)
  rw [show (dats m 0 c).flushed 9 t = (cfg0.win 9).cut (grid0.coords t) ((dats m 0 c).after 9 t) from rfl, after0_9] at bl
  have e : ((cfg0.win 9).blk t).view.emb (ix3 (0 : Fin 1) a b) = (ix3 A B C : S4x512x128.Idx) := by
    funext x; apply Fin.ext
    match x with
    | ⟨0, _⟩ => show win0_9.index t (0 : Fin 3) * 1 + 1 * (0 : Fin 1).val = A.val; simp only [Fin.val_zero] at *; omega
    | ⟨1, _⟩ => show win0_9.index t (1 : Fin 3) * 256 + 1 * a.val = B.val; omega
    | ⟨2, _⟩ => show win0_9.index t (2 : Fin 3) * 128 + 1 * b.val = C.val; omega
  refine (congrArg ((dats m 0 c).arrAt 9 cfg0.N) e).symm.trans (bl.trans ((out_9 m c t a b).trans ?_))
  rw [gblock_eq m c t a b A B C h0 h1 h2, block_3 m c t 0 a b A B C h0 h1 h2]

end Cert.AdamBranchValue

end
-- ==== Proof.AdamBranchEqual.lean ====
/-
  `kernel_adam_branch` against its reference.
-/
module

public import proofs.«01_k».proof.Defs
public import proofs.«01_k».proof.Proof.Gen.AdamBranch.Frame
public import proofs.«01_k».proof.Proof.Gen.AdamBranchRefIdeal.Run
public import proofs.«01_k».proof.Proof.AdamBranchValue
public import Idealize.ShloMosaic.Adequacy

@[expose] public section

noncomputable section

namespace Cert.Proof

open Idealize.ShloMosaic Idealize.ShloMosaic.TcCoe Idealize.SL.Sem

theorem frame_adam_branch : Cert.quiescent_AdamBranch := fun m ρ _ => Cert.AdamBranch.Gen.frame m ρ
theorem frame_adam_branch_ideal : Cert.quiescent_AdamBranchIdeal := fun m ρ _ => Cert.AdamBranchIdeal.Gen.frame m ρ
theorem frame_adam_branch_reference : Cert.quiescent_AdamBranchRefIdeal := fun m ρ _ =>
  (θ_run Cert.AdamBranchRefIdeal.defs _ _).mono (fun r h => ⟨fun c => (h c).2.2.2.2, sem_eq_zero_of_no_sems (by decide) r.2⟩)
    (Cert.AdamBranchRefIdeal.Value.run (F := Ideal) m ρ)

theorem adam_branch_equal : Cert.algebraic_AdamBranchIdeal_AdamBranchRefIdeal := by
  intro m ρ m' ρ' _ ha
  refine ⟨fun c => (Cert.AdamBranchIdeal.Gen.dats m 0 c).arrAt 6 Cert.AdamBranchIdeal.cfg0.N,
    fun c => (Cert.AdamBranchIdeal.Gen.dats m 0 c).arrAt 7 Cert.AdamBranchIdeal.cfg0.N,
    fun c => (Cert.AdamBranchIdeal.Gen.dats m 0 c).arrAt 8 Cert.AdamBranchIdeal.cfg0.N,
    fun c => (Cert.AdamBranchIdeal.Gen.dats m 0 c).arrAt 9 Cert.AdamBranchIdeal.cfg0.N,
    Cert.AdamBranchValue.run_blocks m ρ, ?_⟩
  refine (θ_run Cert.AdamBranchRefIdeal.defs _ _).mono (fun r h c => ?_) (Cert.AdamBranchRefIdeal.Value.run (F := Ideal) m' ρ')
  obtain ⟨a0, a1, a2, a3, a4, a5⟩ := ha c
  refine ⟨(h c).1.trans ?_, (h c).2.1.trans ?_, (h c).2.2.1.trans ?_, (h c).2.2.2.1.trans ?_, (h c).2.2.2.2⟩ <;> clear h
  · try rw [a0]
    try rw [a1]
    try rw [a2]
    try rw [a3]
    try rw [a4]
    try rw [a5]
    clear ha a0 a1 a2 a3 a4 a5
    funext (y : Cert.AdamBranchIdeal.S4x512x128.Idx)
    have e : y = ix3 (y 0) (y 1) (y 2) := by
      funext a; match a with | ⟨0, _⟩ => rfl | ⟨1, _⟩ => rfl | ⟨2, _⟩ => rfl
    generalize y 0 = A at e; generalize y 1 = B at e; generalize y 2 = C at e
    rw [e]
    refine Eq.trans ?_ (Cert.AdamBranchValue.final_g m c A B C).symm
    unfold Cert.AdamBranchValue.grad
    simp only [Adam.sum8_eq]
    simp only [Cert.AdamBranchValue.chosen, Adam.pick_select]
    pointwise
    try rfl
  · try rw [a0]
    try rw [a1]
    try rw [a2]
    try rw [a3]
    try rw [a4]
    try rw [a5]
    clear ha a0 a1 a2 a3 a4 a5
    funext (y : Cert.AdamBranchIdeal.S4x512x128.Idx)
    have e : y = ix3 (y 0) (y 1) (y 2) := by
      funext a; match a with | ⟨0, _⟩ => rfl | ⟨1, _⟩ => rfl | ⟨2, _⟩ => rfl
    generalize y 0 = A at e; generalize y 1 = B at e; generalize y 2 = C at e
    rw [e]
    refine Eq.trans ?_ (Cert.AdamBranchValue.final_d m c A B C).symm
    unfold Adam.delta Adam.mean Adam.var Cert.AdamBranchValue.grad
    simp only [Adam.sum8_eq]
    simp only [Cert.AdamBranchValue.chosen, Adam.pick_select]
    pointwise
    try rfl
  · try rw [a0]
    try rw [a1]
    try rw [a2]
    try rw [a3]
    try rw [a4]
    try rw [a5]
    clear ha a0 a1 a2 a3 a4 a5
    funext (y : Cert.AdamBranchIdeal.S4x512x128.Idx)
    have e : y = ix3 (y 0) (y 1) (y 2) := by
      funext a; match a with | ⟨0, _⟩ => rfl | ⟨1, _⟩ => rfl | ⟨2, _⟩ => rfl
    generalize y 0 = A at e; generalize y 1 = B at e; generalize y 2 = C at e
    rw [e]
    refine Eq.trans ?_ (Cert.AdamBranchValue.final_m m c A B C).symm
    unfold Adam.mean Cert.AdamBranchValue.grad
    simp only [Adam.sum8_eq]
    simp only [Cert.AdamBranchValue.chosen, Adam.pick_select]
    pointwise
    try rfl
  · try rw [a0]
    try rw [a1]
    try rw [a2]
    try rw [a3]
    try rw [a4]
    try rw [a5]
    clear ha a0 a1 a2 a3 a4 a5
    funext (y : Cert.AdamBranchIdeal.S4x512x128.Idx)
    have e : y = ix3 (y 0) (y 1) (y 2) := by
      funext a; match a with | ⟨0, _⟩ => rfl | ⟨1, _⟩ => rfl | ⟨2, _⟩ => rfl
    generalize y 0 = A at e; generalize y 1 = B at e; generalize y 2 = C at e
    rw [e]
    refine Eq.trans ?_ (Cert.AdamBranchValue.final_v m c A B C).symm
    unfold Adam.var Cert.AdamBranchValue.grad
    simp only [Adam.sum8_eq]
    simp only [Cert.AdamBranchValue.chosen, Adam.pick_select]
    pointwise
    try rfl

end Cert.Proof

end
-- ==== Proof.AdamConvValue.lean ====
/-
  One AdamW update, read at an index.
-/
module

public import proofs.«01_k».proof.Proof.Gen.AdamConvIdeal.Frame
public import Idealize.ShloMosaic.Lib.Pipeline.Value
public import Idealize.ShloMosaic.Lib.Pipeline.ValueKit.Point
public import Idealize.ShloMosaic.Lib.Pipeline.ReadBack
public import Idealize.ShloMosaic.Lib.StableHlo.RunRead
public import proofs.«01_k».proof.Proof.AdamScalar

@[expose] public section

noncomputable section

namespace Cert.AdamConvValue

open Idealize.ShloMosaic Idealize.ShloMosaic.TcCoe Idealize.SL.Sem
open Idealize.ShloMosaic.Pipeline (Dat)
open Cert.AdamConvIdeal Cert.AdamConvIdeal.Gen

/-- The run with its final arrays named. -/
theorem run_blocks (m : (ℓ : Loc nD τ sig) → Buf (Elt Ideal) ℓ) (ρ : Dev nD → PrngReg) : θ_run defs (onTc (τ := τ) (main (F := Ideal))) ⟨m, fun _ => 0, ρ⟩ fun r => ∀ c : Dev nD,
      r.2.mem ((c : Thread nD τ).loc main_v8_0) = (dats m 0 c).arrAt 6 cfg0.N
      ∧ r.2.mem ((c : Thread nD τ).loc main_v8_1) = (dats m 0 c).arrAt 7 cfg0.N
      ∧ r.2.mem ((c : Thread nD τ).loc main_v8_2) = (dats m 0 c).arrAt 8 cfg0.N
      ∧ r.2.mem ((c : Thread nD τ).loc main_v8_3) = (dats m 0 c).arrAt 9 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1 6,
      (h c).1 7,
      (h c).1 8,
      (h c).1 9,
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).2 main_arg5 (Pipeline.mem_restRefs_of main_arg5 (by decide) (by decide))).trans (V_main_arg5 m c)⟩)
    (run_main m ρ)

variable (m : (ℓ : Loc nD τ sig) → Buf (Elt Ideal) ℓ) (c : Dev nD)

theorem idx : ∀ t : Fin cfg0.N, win0_0.index t (0 : Fin 4) = 0
    ∧ win0_0.index t (1 : Fin 4) = t.val
    ∧ win0_0.index t (2 : Fin 4) = 0
    ∧ win0_0.index t (3 : Fin 4) = 0
    ∧ win0_1.index t (0 : Fin 3) = t.val
    ∧ win0_1.index t (1 : Fin 3) = 0
    ∧ win0_1.index t (2 : Fin 3) = 0
    ∧ win0_2.index t (0 : Fin 3) = t.val
    ∧ win0_2.index t (1 : Fin 3) = 0
    ∧ win0_2.index t (2 : Fin 3) = 0
    ∧ win0_3.index t (0 : Fin 3) = t.val
    ∧ win0_3.index t (1 : Fin 3) = 0
    ∧ win0_3.index t (2 : Fin 3) = 0
    ∧ win0_4.index t (0 : Fin 3) = t.val
    ∧ win0_4.index t (1 : Fin 3) = 0
    ∧ win0_4.index t (2 : Fin 3) = 0
    ∧ win0_5.index t (0 : Fin 2) = 0
    ∧ win0_5.index t (1 : Fin 2) = 0
    ∧ win0_6.index t (0 : Fin 3) = t.val
    ∧ win0_6.index t (1 : Fin 3) = 0
    ∧ win0_6.index t (2 : Fin 3) = 0
    ∧ win0_7.index t (0 : Fin 3) = t.val
    ∧ win0_7.index t (1 : Fin 3) = 0
    ∧ win0_7.index t (2 : Fin 3) = 0
    ∧ win0_8.index t (0 : Fin 3) = t.val
    ∧ win0_8.index t (1 : Fin 3) = 0
    ∧ win0_8.index t (2 : Fin 3) = 0
    ∧ win0_9.index t (0 : Fin 3) = t.val
    ∧ win0_9.index t (1 : Fin 3) = 0
    ∧ win0_9.index t (2 : Fin 3) = 0 :=
  (by decide +kernel : ∀ t : Fin grid0.N, _)

/-- The argument arrays. -/
abbrev A0 : Vec Ideal S8x4x4x192 .f32 := m ((c : Thread nD τ).loc main_arg0)
abbrev A1 : Vec Ideal S4x4x192 .f32 := m ((c : Thread nD τ).loc main_arg1)
abbrev A2 : Vec Ideal S4x4x192 .f32 := m ((c : Thread nD τ).loc main_arg2)
abbrev A3 : Vec Ideal S4x4x192 .f32 := m ((c : Thread nD τ).loc main_arg3)
abbrev A4 : Vec Ideal S4x4x192 .f32 := m ((c : Thread nD τ).loc main_arg4)
abbrev A5 : Vec Ideal S1 .i32 := m ((c : Thread nD τ).loc main_arg5)

/-- The blocks a point reads. -/
abbrev X0 (t : Fin cfg0.N) : Vec Ideal S8x1x4x192 .f32 := iblk m c 0 t
abbrev X1 (t : Fin cfg0.N) : Vec Ideal S1x4x192 .f32 := iblk m c 1 t
abbrev X2 (t : Fin cfg0.N) : Vec Ideal S1x4x192 .f32 := iblk m c 2 t
abbrev X3 (t : Fin cfg0.N) : Vec Ideal S1x4x192 .f32 := iblk m c 3 t
abbrev X4 (t : Fin cfg0.N) : Vec Ideal S1x4x192 .f32 := iblk m c 4 t
abbrev X5 (t : Fin cfg0.N) : Vec Ideal S8x128 .f32 := iblk m c 5 t

theorem block_0 (t : Fin cfg0.N) (a : Fin 8) (b : Fin 1) (d : Fin 4) (f : Fin 192) (A : Fin 8) (B : Fin 4) (C : Fin 4) (D : Fin 192)
    (h0 : a.val = A.val) (h1 : (t.val) * 1 + b.val = B.val) (h2 : d.val = C.val) (h3 : f.val = D.val) : X0 m c t (ix4 a b d f) = A0 m c (ix4 A B C D) := by
  have e0 := (idx t).1
  have e1 := (idx t).2.1
  have e2 := (idx t).2.2.1
  have e3 := (idx t).2.2.2.1
  blk_ext [X0, A0, iblk, V, e0, e1, e2, e3]

theorem block_1 (t : Fin cfg0.N) (a : Fin 1) (b : Fin 4) (d : Fin 192) (A : Fin 4) (B : Fin 4) (C : Fin 192)
    (h0 : (t.val) * 1 + a.val = A.val) (h1 : b.val = B.val) (h2 : d.val = C.val) : X1 m c t (ix3 a b d) = A1 m c (ix3 A B C) := by
  have e0 := (idx t).2.2.2.2.1
  have e1 := (idx t).2.2.2.2.2.1
  have e2 := (idx t).2.2.2.2.2.2.1
  blk_ext [X1, A1, iblk, V, e0, e1, e2]

theorem block_2 (t : Fin cfg0.N) (a : Fin 1) (b : Fin 4) (d : Fin 192) (A : Fin 4) (B : Fin 4) (C : Fin 192)
    (h0 : (t.val) * 1 + a.val = A.val) (h1 : b.val = B.val) (h2 : d.val = C.val) : X2 m c t (ix3 a b d) = A2 m c (ix3 A B C) := by
  have e0 := (idx t).2.2.2.2.2.2.2.1
  have e1 := (idx t).2.2.2.2.2.2.2.2.1
  have e2 := (idx t).2.2.2.2.2.2.2.2.2.1
  blk_ext [X2, A2, iblk, V, e0, e1, e2]

theorem block_3 (t : Fin cfg0.N) (a : Fin 1) (b : Fin 4) (d : Fin 192) (A : Fin 4) (B : Fin 4) (C : Fin 192)
    (h0 : (t.val) * 1 + a.val = A.val) (h1 : b.val = B.val) (h2 : d.val = C.val) : X3 m c t (ix3 a b d) = A3 m c (ix3 A B C) := by
  have e0 := (idx t).2.2.2.2.2.2.2.2.2.2.1
  have e1 := (idx t).2.2.2.2.2.2.2.2.2.2.2.1
  have e2 := (idx t).2.2.2.2.2.2.2.2.2.2.2.2.1
  blk_ext [X3, A3, iblk, V, e0, e1, e2]

theorem block_4 (t : Fin cfg0.N) (a : Fin 1) (b : Fin 4) (d : Fin 192) (A : Fin 4) (B : Fin 4) (C : Fin 192)
    (h0 : (t.val) * 1 + a.val = A.val) (h1 : b.val = B.val) (h2 : d.val = C.val) : X4 m c t (ix3 a b d) = A4 m c (ix3 A B C) := by
  have e0 := (idx t).2.2.2.2.2.2.2.2.2.2.2.2.2.1
  have e1 := (idx t).2.2.2.2.2.2.2.2.2.2.2.2.2.2.1
  have e2 := (idx t).2.2.2.2.2.2.2.2.2.2.2.2.2.2.2.1
  blk_ext [X4, A4, iblk, V, e0, e1, e2]

/-- An operand that the host prepares. -/
theorem entry_v7 : V m c main_v7 = (broadcastInDim S8x128 ![0, 1] bcast_S8x1_S8x128_0_1 (select (shapeCast S8x1 (cmpi .eq (iotaInDim S8x1x1 32 0 : Vec Ideal S8x1x1 .i32) (broadcastInDim S8x1x1 ![0, 1, 2] bcast_S1x1x1_S8x1x1_0_1_2 (broadcastInDim S1x1x1 ![2] bcast_S1_S1x1x1_2 (A5 m c)))) shapeCasts_S8x1x1_S8x1)
      (broadcastInDim S8x1 ![] bcast_S_S8x1 (constant (F := Ideal) S_ .f32 0x3F800000#32)) (broadcastInDim S8x1 ![] bcast_S_S8x1 (constant (F := Ideal) S_ .f32 0x00000000#32))) : FVec Ideal S8x128 .f32) := by
  show StableHlo.after ([hostOps0, hostOps0_1, hostOps0_2] : List (List (HloOp τ sig (Elt Ideal)))).flatten (fun b => m (c, b)) (Proc.tc.devRef main_v7) = _
  simp only [List.flatten_cons, List.flatten_nil, List.cons_append, List.nil_append, List.append_nil]
  after_reads_simp
  try rfl

/-- Whether part `q` is this device's: the choice at row `q`. -/
def chosen (q : Fin 8) : EReal := Scalar.select (IntOp.cmpi CmpIPredicate.eq (BitVec.ofNat 32 q.val) (A5 m c (ix1 0))) 1 0

theorem block_5 (t : Fin cfg0.N) (a : Fin 8) (b : Fin 128) (A : Fin 8) (B : Fin 128)
    (h0 : a.val = A.val) (h1 : b.val = B.val) : X5 m c t (ix2 a b) = chosen m c A := by
  have e0 := (idx t).2.2.2.2.2.2.2.2.2.2.2.2.2.2.2.2.1
  have e1 := (idx t).2.2.2.2.2.2.2.2.2.2.2.2.2.2.2.2.2.1
  show V m c main_v7 (((cfg0.win 5).blk t).view.emb (ix2 a b )) = _
  have e : ((cfg0.win 5).blk t).view.emb (ix2 a b) = (ix2 A B : S8x128.Idx) := by
    funext x; apply Fin.ext
    match x with
    | ⟨0, _⟩ => show win0_5.index t (0 : Fin 2) * 8 + 1 * a.val = A.val; omega
    | ⟨1, _⟩ => show win0_5.index t (1 : Fin 2) * 128 + 1 * b.val = B.val; omega
  rw [e, entry_v7]
  unfold chosen
  pointwise
  try rfl

/-- The gradient. -/
def grad (A : Fin 4) (B : Fin 4) (C : Fin 192) : EReal := Adam.sum8 fun q => Adam.pick (chosen m c q) (A4 m c (ix3 A B C)) (A0 m c (ix4 q A B C))

/-- The gradient of a block. -/
def gblock (t : Fin cfg0.N) (a : Fin 4) (b : Fin 192) : EReal := Adam.sum8 fun q => Adam.pick (X5 m c t (ix2 q 0)) (X4 m c t (ix3 0 a b)) (X0 m c t (ix4 q 0 a b))

theorem gblock_eq (t : Fin cfg0.N) (a : Fin 4) (b : Fin 192) (A : Fin 4) (B : Fin 4) (C : Fin 192)
    (h0 : (t.val) * 1 + (0 : Fin 1).val = A.val) (h1 : a.val = B.val) (h2 : b.val = C.val) : gblock m c t a b = grad m c A B C := by
  unfold gblock grad
  refine congrArg Adam.sum8 (funext fun q => ?_)
  rw [block_0 m c t q 0 a b q A B C (by simp) h0 h1 h2, block_4 m c t 0 a b A B C h0 h1 h2,
    block_5 m c t q 0 q 0 (by simp) (by simp)]

/-- The point and the place in its block of an entry. -/
theorem place (A : Fin 4) (B : Fin 4) (C : Fin 192) : ∃ (t : Fin cfg0.N) (a : Fin 4) (b : Fin 192),
    ((t.val) * 1 + (0 : Fin 1).val = A.val) ∧ (a.val = B.val) ∧ b.val = C.val := by
  obtain ⟨t, ht⟩ : ∃ t : Fin cfg0.N, t.val = A.val := ⟨⟨A.val, by show _ < 4; omega⟩, rfl⟩
  obtain ⟨a, ha⟩ : ∃ a : Fin 4, a.val = B.val % 4 := ⟨⟨B.val % 4, by omega⟩, rfl⟩
  obtain ⟨b, hb⟩ : ∃ b : Fin 192, b.val = C.val % 192 := ⟨⟨C.val % 192, by omega⟩, rfl⟩
  exact ⟨t, a, b, by simp only [Fin.val_zero]; omega, by omega, by omega⟩

theorem out_6 (t : Fin cfg0.N) (a : Fin 4) (b : Fin 192) : out0_6 (X0 m c t) (X1 m c t) (X2 m c t) (X3 m c t) (X4 m c t) (X5 m c t) (ix3 0 a b) = gblock m c t a b := by
  frame_out
  open_payloads
  pointwise [read_unread_whole]
  try rfl

theorem final_g (A : Fin 4) (B : Fin 4) (C : Fin 192) : (dats m 0 c).arrAt 6 cfg0.N (ix3 A B C) = grad m c A B C := by
  obtain ⟨t, a, b, h0, h1, h2⟩ := place A B C
  have e0 := (idx t).2.2.2.2.2.2.2.2.2.2.2.2.2.2.2.2.2.2.1
  have e1 := (idx t).2.2.2.2.2.2.2.2.2.2.2.2.2.2.2.2.2.2.2.1
  have e2 := (idx t).2.2.2.2.2.2.2.2.2.2.2.2.2.2.2.2.2.2.2.2.1
  have bl := congrFun ((dats m 0 c).read_blk_arrAt_eq_flushed 6 (Pipeline.Window.hdisj_of_index_inj (cfg0.win 6) fun t t' _ _ =>
    (by decide +kernel : ∀ t t' : Fin grid0.N, win0_6.index t = win0_6.index t' → t = t') t t') cfg0.N t t.isLt (flush0_6 t)) (ix3 0 a b)
  rw [show (dats m 0 c).flushed 6 t = (cfg0.win 6).cut (grid0.coords t) ((dats m 0 c).after 6 t) from rfl, after0_6] at bl
  have e : ((cfg0.win 6).blk t).view.emb (ix3 (0 : Fin 1) a b) = (ix3 A B C : S4x4x192.Idx) := by
    funext x; apply Fin.ext
    match x with
    | ⟨0, _⟩ => show win0_6.index t (0 : Fin 3) * 1 + 1 * (0 : Fin 1).val = A.val; simp only [Fin.val_zero] at *; omega
    | ⟨1, _⟩ => show win0_6.index t (1 : Fin 3) * 4 + 1 * a.val = B.val; omega
    | ⟨2, _⟩ => show win0_6.index t (2 : Fin 3) * 192 + 1 * b.val = C.val; omega
  refine (congrArg ((dats m 0 c).arrAt 6 cfg0.N) e).symm.trans (bl.trans ((out_6 m c t a b).trans ?_))
  rw [gblock_eq m c t a b A B C h0 h1 h2]

theorem out_7 (t : Fin cfg0.N) (a : Fin 4) (b : Fin 192) : out0_7 (X0 m c t) (X1 m c t) (X2 m c t) (X3 m c t) (X4 m c t) (X5 m c t) (ix3 0 a b) = Adam.delta (X1 m c t (ix3 0 a b)) (gblock m c t a b) (X2 m c t (ix3 0 a b)) (X3 m c t (ix3 0 a b)) := by
  frame_out
  open_payloads
  pointwise [read_unread_whole]
  try rfl

theorem final_d (A : Fin 4) (B : Fin 4) (C : Fin 192) : (dats m 0 c).arrAt 7 cfg0.N (ix3 A B C) = Adam.delta (A1 m c (ix3 A B C)) (grad m c A B C) (A2 m c (ix3 A B C)) (A3 m c (ix3 A B C)) := by
  obtain ⟨t, a, b, h0, h1, h2⟩ := place A B C
  have e0 := (idx t).2.2.2.2.2.2.2.2.2.2.2.2.2.2.2.2.2.2.2.2.2.1
  have e1 := (idx t).2.2.2.2.2.2.2.2.2.2.2.2.2.2.2.2.2.2.2.2.2.2.1
  have e2 := (idx t).2.2.2.2.2.2.2.2.2.2.2.2.2.2.2.2.2.2.2.2.2.2.2.1
  have bl := congrFun ((dats m 0 c).read_blk_arrAt_eq_flushed 7 (Pipeline.Window.hdisj_of_index_inj (cfg0.win 7) fun t t' _ _ =>
    (by decide +kernel : ∀ t t' : Fin grid0.N, win0_7.index t = win0_7.index t' → t = t') t t') cfg0.N t t.isLt (flush0_7 t)) (ix3 0 a b)
  rw [show (dats m 0 c).flushed 7 t = (cfg0.win 7).cut (grid0.coords t) ((dats m 0 c).after 7 t) from rfl, after0_7] at bl
  have e : ((cfg0.win 7).blk t).view.emb (ix3 (0 : Fin 1) a b) = (ix3 A B C : S4x4x192.Idx) := by
    funext x; apply Fin.ext
    match x with
    | ⟨0, _⟩ => show win0_7.index t (0 : Fin 3) * 1 + 1 * (0 : Fin 1).val = A.val; simp only [Fin.val_zero] at *; omega
    | ⟨1, _⟩ => show win0_7.index t (1 : Fin 3) * 4 + 1 * a.val = B.val; omega
    | ⟨2, _⟩ => show win0_7.index t (2 : Fin 3) * 192 + 1 * b.val = C.val; omega
  refine (congrArg ((dats m 0 c).arrAt 7 cfg0.N) e).symm.trans (bl.trans ((out_7 m c t a b).trans ?_))
  rw [gblock_eq m c t a b A B C h0 h1 h2, block_1 m c t 0 a b A B C h0 h1 h2, block_2 m c t 0 a b A B C h0 h1 h2, block_3 m c t 0 a b A B C h0 h1 h2]

theorem out_8 (t : Fin cfg0.N) (a : Fin 4) (b : Fin 192) : out0_8 (X0 m c t) (X1 m c t) (X2 m c t) (X3 m c t) (X4 m c t) (X5 m c t) (ix3 0 a b) = Adam.mean (gblock m c t a b) (X2 m c t (ix3 0 a b)) := by
  frame_out
  open_payloads
  pointwise [read_unread_whole]
  try rfl

theorem final_m (A : Fin 4) (B : Fin 4) (C : Fin 192) : (dats m 0 c).arrAt 8 cfg0.N (ix3 A B C) = Adam.mean (grad m c A B C) (A2 m c (ix3 A B C)) := by
  obtain ⟨t, a, b, h0, h1, h2⟩ := place A B C
  have e0 := (idx t).2.2.2.2.2.2.2.2.2.2.2.2.2.2.2.2.2.2.2.2.2.2.2.2.1
  have e1 := (idx t).2.2.2.2.2.2.2.2.2.2.2.2.2.2.2.2.2.2.2.2.2.2.2.2.2.1
  have e2 := (idx t).2.2.2.2.2.2.2.2.2.2.2.2.2.2.2.2.2.2.2.2.2.2.2.2.2.2.1
  have bl := congrFun ((dats m 0 c).read_blk_arrAt_eq_flushed 8 (Pipeline.Window.hdisj_of_index_inj (cfg0.win 8) fun t t' _ _ =>
    (by decide +kernel : ∀ t t' : Fin grid0.N, win0_8.index t = win0_8.index t' → t = t') t t') cfg0.N t t.isLt (flush0_8 t)) (ix3 0 a b)
  rw [show (dats m 0 c).flushed 8 t = (cfg0.win 8).cut (grid0.coords t) ((dats m 0 c).after 8 t) from rfl, after0_8] at bl
  have e : ((cfg0.win 8).blk t).view.emb (ix3 (0 : Fin 1) a b) = (ix3 A B C : S4x4x192.Idx) := by
    funext x; apply Fin.ext
    match x with
    | ⟨0, _⟩ => show win0_8.index t (0 : Fin 3) * 1 + 1 * (0 : Fin 1).val = A.val; simp only [Fin.val_zero] at *; omega
    | ⟨1, _⟩ => show win0_8.index t (1 : Fin 3) * 4 + 1 * a.val = B.val; omega
    | ⟨2, _⟩ => show win0_8.index t (2 : Fin 3) * 192 + 1 * b.val = C.val; omega
  refine (congrArg ((dats m 0 c).arrAt 8 cfg0.N) e).symm.trans (bl.trans ((out_8 m c t a b).trans ?_))
  rw [gblock_eq m c t a b A B C h0 h1 h2, block_2 m c t 0 a b A B C h0 h1 h2]

theorem out_9 (t : Fin cfg0.N) (a : Fin 4) (b : Fin 192) : out0_9 (X0 m c t) (X1 m c t) (X2 m c t) (X3 m c t) (X4 m c t) (X5 m c t) (ix3 0 a b) = Adam.var (gblock m c t a b) (X3 m c t (ix3 0 a b)) := by
  frame_out
  open_payloads
  pointwise [read_unread_whole]
  try rfl

theorem final_v (A : Fin 4) (B : Fin 4) (C : Fin 192) : (dats m 0 c).arrAt 9 cfg0.N (ix3 A B C) = Adam.var (grad m c A B C) (A3 m c (ix3 A B C)) := by
  obtain ⟨t, a, b, h0, h1, h2⟩ := place A B C
  have e0 := (idx t).2.2.2.2.2.2.2.2.2.2.2.2.2.2.2.2.2.2.2.2.2.2.2.2.2.2.2.1
  have e1 := (idx t).2.2.2.2.2.2.2.2.2.2.2.2.2.2.2.2.2.2.2.2.2.2.2.2.2.2.2.2.1
  have e2 := (idx t).2.2.2.2.2.2.2.2.2.2.2.2.2.2.2.2.2.2.2.2.2.2.2.2.2.2.2.2.2
  have bl := congrFun ((dats m 0 c).read_blk_arrAt_eq_flushed 9 (Pipeline.Window.hdisj_of_index_inj (cfg0.win 9) fun t t' _ _ =>
    (by decide +kernel : ∀ t t' : Fin grid0.N, win0_9.index t = win0_9.index t' → t = t') t t') cfg0.N t t.isLt (flush0_9 t)) (ix3 0 a b)
  rw [show (dats m 0 c).flushed 9 t = (cfg0.win 9).cut (grid0.coords t) ((dats m 0 c).after 9 t) from rfl, after0_9] at bl
  have e : ((cfg0.win 9).blk t).view.emb (ix3 (0 : Fin 1) a b) = (ix3 A B C : S4x4x192.Idx) := by
    funext x; apply Fin.ext
    match x with
    | ⟨0, _⟩ => show win0_9.index t (0 : Fin 3) * 1 + 1 * (0 : Fin 1).val = A.val; simp only [Fin.val_zero] at *; omega
    | ⟨1, _⟩ => show win0_9.index t (1 : Fin 3) * 4 + 1 * a.val = B.val; omega
    | ⟨2, _⟩ => show win0_9.index t (2 : Fin 3) * 192 + 1 * b.val = C.val; omega
  refine (congrArg ((dats m 0 c).arrAt 9 cfg0.N) e).symm.trans (bl.trans ((out_9 m c t a b).trans ?_))
  rw [gblock_eq m c t a b A B C h0 h1 h2, block_3 m c t 0 a b A B C h0 h1 h2]

end Cert.AdamConvValue

end
-- ==== Proof.AdamConvEqual.lean ====
/-
  `kernel_adam_conv` against its reference.
-/
module

public import proofs.«01_k».proof.Defs
public import proofs.«01_k».proof.Proof.Gen.AdamConv.Frame
public import proofs.«01_k».proof.Proof.Gen.AdamConvRefIdeal.Run
public import proofs.«01_k».proof.Proof.AdamConvValue
public import Idealize.ShloMosaic.Adequacy

@[expose] public section

noncomputable section

namespace Cert.Proof

open Idealize.ShloMosaic Idealize.ShloMosaic.TcCoe Idealize.SL.Sem

theorem frame_adam_conv : Cert.quiescent_AdamConv := fun m ρ _ => Cert.AdamConv.Gen.frame m ρ
theorem frame_adam_conv_ideal : Cert.quiescent_AdamConvIdeal := fun m ρ _ => Cert.AdamConvIdeal.Gen.frame m ρ
theorem frame_adam_conv_reference : Cert.quiescent_AdamConvRefIdeal := fun m ρ _ =>
  (θ_run Cert.AdamConvRefIdeal.defs _ _).mono (fun r h => ⟨fun c => (h c).2.2.2.2, sem_eq_zero_of_no_sems (by decide) r.2⟩)
    (Cert.AdamConvRefIdeal.Value.run (F := Ideal) m ρ)

theorem adam_conv_equal : Cert.algebraic_AdamConvIdeal_AdamConvRefIdeal := by
  intro m ρ m' ρ' _ ha
  refine ⟨fun c => (Cert.AdamConvIdeal.Gen.dats m 0 c).arrAt 6 Cert.AdamConvIdeal.cfg0.N,
    fun c => (Cert.AdamConvIdeal.Gen.dats m 0 c).arrAt 7 Cert.AdamConvIdeal.cfg0.N,
    fun c => (Cert.AdamConvIdeal.Gen.dats m 0 c).arrAt 8 Cert.AdamConvIdeal.cfg0.N,
    fun c => (Cert.AdamConvIdeal.Gen.dats m 0 c).arrAt 9 Cert.AdamConvIdeal.cfg0.N,
    Cert.AdamConvValue.run_blocks m ρ, ?_⟩
  refine (θ_run Cert.AdamConvRefIdeal.defs _ _).mono (fun r h c => ?_) (Cert.AdamConvRefIdeal.Value.run (F := Ideal) m' ρ')
  obtain ⟨a0, a1, a2, a3, a4, a5⟩ := ha c
  refine ⟨(h c).1.trans ?_, (h c).2.1.trans ?_, (h c).2.2.1.trans ?_, (h c).2.2.2.1.trans ?_, (h c).2.2.2.2⟩ <;> clear h
  · try rw [a0]
    try rw [a1]
    try rw [a2]
    try rw [a3]
    try rw [a4]
    try rw [a5]
    clear ha a0 a1 a2 a3 a4 a5
    funext (y : Cert.AdamConvIdeal.S4x4x192.Idx)
    have e : y = ix3 (y 0) (y 1) (y 2) := by
      funext a; match a with | ⟨0, _⟩ => rfl | ⟨1, _⟩ => rfl | ⟨2, _⟩ => rfl
    generalize y 0 = A at e; generalize y 1 = B at e; generalize y 2 = C at e
    rw [e]
    refine Eq.trans ?_ (Cert.AdamConvValue.final_g m c A B C).symm
    unfold Cert.AdamConvValue.grad
    simp only [Adam.sum8_eq]
    simp only [Cert.AdamConvValue.chosen, Adam.pick_select]
    pointwise
    try rfl
  · try rw [a0]
    try rw [a1]
    try rw [a2]
    try rw [a3]
    try rw [a4]
    try rw [a5]
    clear ha a0 a1 a2 a3 a4 a5
    funext (y : Cert.AdamConvIdeal.S4x4x192.Idx)
    have e : y = ix3 (y 0) (y 1) (y 2) := by
      funext a; match a with | ⟨0, _⟩ => rfl | ⟨1, _⟩ => rfl | ⟨2, _⟩ => rfl
    generalize y 0 = A at e; generalize y 1 = B at e; generalize y 2 = C at e
    rw [e]
    refine Eq.trans ?_ (Cert.AdamConvValue.final_d m c A B C).symm
    unfold Adam.delta Adam.mean Adam.var Cert.AdamConvValue.grad
    simp only [Adam.sum8_eq]
    simp only [Cert.AdamConvValue.chosen, Adam.pick_select]
    pointwise
    try rfl
  · try rw [a0]
    try rw [a1]
    try rw [a2]
    try rw [a3]
    try rw [a4]
    try rw [a5]
    clear ha a0 a1 a2 a3 a4 a5
    funext (y : Cert.AdamConvIdeal.S4x4x192.Idx)
    have e : y = ix3 (y 0) (y 1) (y 2) := by
      funext a; match a with | ⟨0, _⟩ => rfl | ⟨1, _⟩ => rfl | ⟨2, _⟩ => rfl
    generalize y 0 = A at e; generalize y 1 = B at e; generalize y 2 = C at e
    rw [e]
    refine Eq.trans ?_ (Cert.AdamConvValue.final_m m c A B C).symm
    unfold Adam.mean Cert.AdamConvValue.grad
    simp only [Adam.sum8_eq]
    simp only [Cert.AdamConvValue.chosen, Adam.pick_select]
    pointwise
    try rfl
  · try rw [a0]
    try rw [a1]
    try rw [a2]
    try rw [a3]
    try rw [a4]
    try rw [a5]
    clear ha a0 a1 a2 a3 a4 a5
    funext (y : Cert.AdamConvIdeal.S4x4x192.Idx)
    have e : y = ix3 (y 0) (y 1) (y 2) := by
      funext a; match a with | ⟨0, _⟩ => rfl | ⟨1, _⟩ => rfl | ⟨2, _⟩ => rfl
    generalize y 0 = A at e; generalize y 1 = B at e; generalize y 2 = C at e
    rw [e]
    refine Eq.trans ?_ (Cert.AdamConvValue.final_v m c A B C).symm
    unfold Adam.var Cert.AdamConvValue.grad
    simp only [Adam.sum8_eq]
    simp only [Cert.AdamConvValue.chosen, Adam.pick_select]
    pointwise
    try rfl

end Cert.Proof

end
-- ==== Proof.AdaDwValue.lean ====
/-
  The result of `kernel_ada_dw`, read at an index.
-/
module

public import proofs.«01_k».proof.Proof.Gen.AdaDwIdeal.Value
public import Idealize.ShloMosaic.Lib.Pipeline.ValueKit.Point
public import Idealize.ShloMosaic.Lib.Pipeline.ReadBack
public import Idealize.ShloMosaic.Lib.StableHlo.RunRead

@[expose] public section

noncomputable section

namespace Cert.AdaDwValue

open Idealize.ShloMosaic Idealize.ShloMosaic.TcCoe Idealize.SL.Sem
open Cert.AdaDwIdeal Cert.AdaDwIdeal.Gen

variable (m : (ℓ : Loc nD τ sig) → Buf (Elt Ideal) ℓ) (c : Dev nD)

theorem idx : ∀ t : Fin cfg0.N, win0_0.index t (0 : Fin 2) = 0
    ∧ win0_0.index t (1 : Fin 2) = 0
    ∧ win0_1.index t (0 : Fin 2) = 0
    ∧ win0_1.index t (1 : Fin 2) = 0
    ∧ win0_2.index t (0 : Fin 2) = 0
    ∧ win0_2.index t (1 : Fin 2) = 0 :=
  (by decide +kernel : ∀ t : Fin grid0.N, _)

/-- The argument arrays. -/
abbrev A0 : Vec Ideal S16x1024 .f32 := m ((c : Thread nD τ).loc main_arg0)
abbrev A1 : Vec Ideal S16x768 .f32 := m ((c : Thread nD τ).loc main_arg1)

/-- The blocks a point reads. -/
abbrev X0 (t : Fin cfg0.N) : Vec Ideal S16x1024 .f32 := iblk m c 0 t
abbrev X1 (t : Fin cfg0.N) : Vec Ideal S16x768 .f32 := iblk m c 1 t

theorem block_0 (t : Fin cfg0.N) (a : Fin 16) (b : Fin 1024) (A : Fin 16) (B : Fin 1024)
    (h0 : a.val = A.val) (h1 : b.val = B.val) : X0 m c t (ix2 a b) = A0 m c (ix2 A B) := by
  obtain ⟨e0, e1, _⟩ := idx t
  blk_ext [X0, A0, iblk, V, e0, e1]

theorem block_1 (t : Fin cfg0.N) (a : Fin 16) (b : Fin 768) (A : Fin 16) (B : Fin 768)
    (h0 : a.val = A.val) (h1 : b.val = B.val) : X1 m c t (ix2 a b) = A1 m c (ix2 A B) := by
  obtain ⟨_, _, e0, e1, _⟩ := idx t
  blk_ext [X1, A1, iblk, V, e0, e1]

theorem out (t : Fin cfg0.N) (a : Fin 1024) (b : Fin 768) : out0_2 (X0 m c t) (X1 m c t) (ix2 a b)
    = ∑ k : Fin 16, X0 m c t (ix2 k a) * X1 m c t (ix2 k b) := by
  frame_out
  open_payloads
  pointwise [read_unread_whole]

theorem final_out (A : Fin 1024) (B : Fin 768) : (dats m 0 c).arrAt 2 cfg0.N (ix2 A B) = (∑ k : Fin 16, A0 m c (ix2 k A) * A1 m c (ix2 k B) : EReal) := by
  let t : Fin cfg0.N := ⟨0, by show _ < 1; omega⟩
  have ht : t.val = 0 := rfl
  obtain ⟨_, _, _, _, e0, e1⟩ := idx t
  let a : Fin 1024 := ⟨A.val % 1024, by omega⟩
  have ha : a.val = A.val % 1024 := rfl
  let b : Fin 768 := ⟨B.val % 768, by omega⟩
  have hb : b.val = B.val % 768 := rfl
  have bl := congrFun (Value.blocks2 m c t (flush0_2 t)) (ix2 a b)
  rw [Value.flushed2] at bl
  have e : ((cfg0.win 2).blk t).view.emb (ix2 a b) = (ix2 A B : S1024x768.Idx) := by
    funext x; apply Fin.ext
    match x with
    | ⟨0, _⟩ => show win0_2.index t (0 : Fin 2) * 1024 + 1 * (A.val % 1024) = A.val; omega
    | ⟨1, _⟩ => show win0_2.index t (1 : Fin 2) * 768 + 1 * (B.val % 768) = B.val; omega
  have b' : (dats m 0 c).arrAt 2 cfg0.N (((cfg0.win 2).blk t).view.emb (ix2 a b)) = out0_2 (X0 m c t) (X1 m c t) (ix2 a b) := bl
  rw [e] at b'
  clear e bl
  have q : (∑ k : Fin 16, X0 m c t (ix2 k a) * X1 m c t (ix2 k b) : EReal) = ∑ k : Fin 16, A0 m c (ix2 k A) * A1 m c (ix2 k B) :=
    Finset.sum_congr rfl fun k _ => by rw [block_0 m c t k a k A rfl (by omega), block_1 m c t k b k B rfl (by omega)]
  exact (b'.trans (out m c t a b)).trans q

end Cert.AdaDwValue

end
-- ==== Proof.AdaDwEqual.lean ====
/-
  `kernel_ada_dw` against its reference.
-/
module

public import proofs.«01_k».proof.Defs
public import proofs.«01_k».proof.Proof.Gen.AdaDw.Frame
public import proofs.«01_k».proof.Proof.Gen.AdaDwRefIdeal.Run
public import proofs.«01_k».proof.Proof.AdaDwValue
public import Idealize.ShloMosaic.Adequacy

@[expose] public section

noncomputable section

namespace Cert.Proof

open Idealize.ShloMosaic Idealize.ShloMosaic.TcCoe Idealize.SL.Sem

theorem frame_ada_dw : Cert.quiescent_AdaDw := fun m ρ _ => Cert.AdaDw.Gen.frame m ρ
theorem frame_ada_dw_ideal : Cert.quiescent_AdaDwIdeal := fun m ρ _ => Cert.AdaDwIdeal.Gen.frame m ρ
theorem frame_ada_dw_reference : Cert.quiescent_AdaDwRefIdeal := fun m ρ _ =>
  (θ_run Cert.AdaDwRefIdeal.defs _ _).mono (fun r h => ⟨fun c => (h c).2, sem_eq_zero_of_no_sems (by decide) r.2⟩)
    (Cert.AdaDwRefIdeal.Value.run (F := Ideal) m ρ)

theorem ada_dw_equal : Cert.algebraic_AdaDwIdeal_AdaDwRefIdeal := by
  intro m ρ m' ρ' _ ha
  refine ⟨fun c => (Cert.AdaDwIdeal.Gen.dats m 0 c).arrAt 2 Cert.AdaDwIdeal.cfg0.N,
    Cert.AdaDwIdeal.Value.run_blocks m ρ, ?_⟩
  refine (θ_run Cert.AdaDwRefIdeal.defs _ _).mono (fun r h c => ?_) (Cert.AdaDwRefIdeal.Value.run (F := Ideal) m' ρ')
  obtain ⟨a0, a1⟩ := ha c
  refine ⟨(h c).1.trans ?_, (h c).2⟩ <;> clear h
  · try rw [a0]
    try rw [a1]
    clear ha a0 a1
    funext (y : Cert.AdaDwIdeal.S1024x768.Idx)
    have e : y = ix2 (y 0) (y 1) := by
      funext a; match a with | ⟨0, _⟩ => rfl | ⟨1, _⟩ => rfl
    generalize y 0 = A at e; generalize y 1 = B at e
    rw [e]
    refine Eq.trans ?_ (Cert.AdaDwValue.final_out m c A B).symm
    pointwise
    exact Finset.sum_congr rfl fun k _ => mul_comm _ _

end Cert.Proof

end
-- ==== Proof.lean ====
module

public import proofs.«01_k».proof.Defs
public import proofs.«01_k».proof.Proof.Gen.Kernel
public import proofs.«01_k».proof.Proof.Gen.Kernel.Frame
public import proofs.«01_k».proof.Proof.Gen.KernelIdeal.Value
public import proofs.«01_k».proof.Proof.Gen.ReferenceIdeal.Run
public import proofs.«01_k».proof.Proof.Gen.Pre_finite
public import proofs.«01_k».proof.Proof.Gen.Swiglu.Frame
public import proofs.«01_k».proof.Proof.Gen.SwigluIdeal.Value
public import proofs.«01_k».proof.Proof.Gen.SwigluRefIdeal.Run
public import proofs.«01_k».proof.Proof.Gen.SwigluBwd.Frame
public import proofs.«01_k».proof.Proof.Gen.SwigluBwdIdeal.Value
public import proofs.«01_k».proof.Proof.Gen.SwigluBwdRefIdeal.Run
public import proofs.«01_k».proof.Proof.Gen.MergeBwd.Frame
public import proofs.«01_k».proof.Proof.Gen.MergeBwdIdeal.Value
public import proofs.«01_k».proof.Proof.Gen.MergeBwdRefIdeal.Run
public import proofs.«01_k».proof.Proof.Gen.Merge.Frame
public import proofs.«01_k».proof.Proof.Gen.MergeIdeal.Value
public import proofs.«01_k».proof.Proof.Gen.MergeRefIdeal.Run
public import proofs.«01_k».proof.Proof.Gen.FfnOut.Frame
public import proofs.«01_k».proof.Proof.Gen.FfnOutIdeal.Value
public import proofs.«01_k».proof.Proof.Gen.FfnOutRefIdeal.Run
public import proofs.«01_k».proof.Proof.Gen.Out.Frame
public import proofs.«01_k».proof.Proof.Gen.OutIdeal.Value
public import proofs.«01_k».proof.Proof.Gen.OutRefIdeal.Run
public import proofs.«01_k».proof.Proof.Gen.FfnInDw.Frame
public import proofs.«01_k».proof.Proof.Gen.FfnInDwIdeal.Value
public import proofs.«01_k».proof.Proof.Gen.FfnInDwRefIdeal.Run
public import proofs.«01_k».proof.Proof.Gen.ProjDw.Frame
public import proofs.«01_k».proof.Proof.Gen.ProjDwIdeal.Value
public import proofs.«01_k».proof.Proof.Gen.ProjDwRefIdeal.Run
public import proofs.«01_k».proof.Proof.Gen.FfnOutDw.Frame
public import proofs.«01_k».proof.Proof.Gen.FfnOutDwIdeal.Value
public import proofs.«01_k».proof.Proof.Gen.FfnOutDwRefIdeal.Run
public import proofs.«01_k».proof.Proof.Gen.Proj.Frame
public import proofs.«01_k».proof.Proof.Gen.ProjIdeal.Value
public import proofs.«01_k».proof.Proof.Gen.ProjRefIdeal.Run
public import proofs.«01_k».proof.Proof.Gen.FfnInDx.Frame
public import proofs.«01_k».proof.Proof.Gen.FfnInDxIdeal.Value
public import proofs.«01_k».proof.Proof.Gen.FfnInDxRefIdeal.Run
public import proofs.«01_k».proof.Proof.Gen.ProjDx.Frame
public import proofs.«01_k».proof.Proof.Gen.ProjDxIdeal.Value
public import proofs.«01_k».proof.Proof.Gen.ProjDxRefIdeal.Run
public import proofs.«01_k».proof.Proof.Gen.ProjDxFirst.Frame
public import proofs.«01_k».proof.Proof.Gen.ProjDxFirstIdeal.Value
public import proofs.«01_k».proof.Proof.Gen.ProjDxFirstRefIdeal.Run
public import proofs.«01_k».proof.Proof.Gen.LossHead.Frame
public import proofs.«01_k».proof.Proof.Gen.LossHeadIdeal.Value
public import proofs.«01_k».proof.Proof.Gen.LossHeadRefIdeal.Run
public import proofs.«01_k».proof.Proof.Gen.OutDw.Frame
public import proofs.«01_k».proof.Proof.Gen.OutDwIdeal.Value
public import proofs.«01_k».proof.Proof.Gen.OutDwRefIdeal.Run
public import proofs.«01_k».proof.Proof.Gen.BranchDw.Frame
public import proofs.«01_k».proof.Proof.Gen.BranchDwIdeal.Value
public import proofs.«01_k».proof.Proof.Gen.BranchDwRefIdeal.Run
public import proofs.«01_k».proof.Proof.Gen.BranchDx.Frame
public import proofs.«01_k».proof.Proof.Gen.BranchDxIdeal.Value
public import proofs.«01_k».proof.Proof.Gen.BranchDxRefIdeal.Run
public import proofs.«01_k».proof.Proof.Gen.FfnOutLast.Frame
public import proofs.«01_k».proof.Proof.Gen.FfnOutLastIdeal.Value
public import proofs.«01_k».proof.Proof.Gen.FfnOutLastRefIdeal.Run
public import proofs.«01_k».proof.Proof.Gen.AdamAda.Frame
public import proofs.«01_k».proof.Proof.Gen.AdamAdaIdeal.Frame
public import proofs.«01_k».proof.Proof.Gen.AdamAdaRefIdeal.Run
public import proofs.«01_k».proof.Proof.Gen.AdamSmall.Frame
public import proofs.«01_k».proof.Proof.Gen.AdamSmallIdeal.Frame
public import proofs.«01_k».proof.Proof.Gen.AdamSmallRefIdeal.Run
public import proofs.«01_k».proof.Proof.Gen.AdamIn.Frame
public import proofs.«01_k».proof.Proof.Gen.AdamInIdeal.Frame
public import proofs.«01_k».proof.Proof.Gen.AdamInRefIdeal.Run
public import proofs.«01_k».proof.Proof.Gen.AdamFfnIn.Frame
public import proofs.«01_k».proof.Proof.Gen.AdamFfnInIdeal.Frame
public import proofs.«01_k».proof.Proof.Gen.AdamFfnInRefIdeal.Run
public import proofs.«01_k».proof.Proof.Gen.AdamFfnOut.Frame
public import proofs.«01_k».proof.Proof.Gen.AdamFfnOutIdeal.Frame
public import proofs.«01_k».proof.Proof.Gen.AdamFfnOutRefIdeal.Run
public import proofs.«01_k».proof.Proof.Gen.AdamOut.Frame
public import proofs.«01_k».proof.Proof.Gen.AdamOutIdeal.Frame
public import proofs.«01_k».proof.Proof.Gen.AdamOutRefIdeal.Run
public import proofs.«01_k».proof.Proof.Gen.AdamBranch.Frame
public import proofs.«01_k».proof.Proof.Gen.AdamBranchIdeal.Frame
public import proofs.«01_k».proof.Proof.Gen.AdamBranchRefIdeal.Run
public import proofs.«01_k».proof.Proof.Gen.AdamConv.Frame
public import proofs.«01_k».proof.Proof.Gen.AdamConvIdeal.Frame
public import proofs.«01_k».proof.Proof.Gen.AdamConvRefIdeal.Run
public import proofs.«01_k».proof.Proof.Gen.AdaDw.Frame
public import proofs.«01_k».proof.Proof.Gen.AdaDwIdeal.Value
public import proofs.«01_k».proof.Proof.Gen.AdaDwRefIdeal.Run
public import proofs.«01_k».proof.Proof.ScanEqual
public import proofs.«01_k».proof.Proof.PreFacts
public import proofs.«01_k».proof.Proof.SwigluEqual
public import proofs.«01_k».proof.Proof.SwigluBwdEqual
public import proofs.«01_k».proof.Proof.MergeBwdEqual
public import proofs.«01_k».proof.Proof.MergeEqual
public import proofs.«01_k».proof.Proof.FfnOutEqual
public import proofs.«01_k».proof.Proof.OutEqual
public import proofs.«01_k».proof.Proof.FfnInDwEqual
public import proofs.«01_k».proof.Proof.ProjDwEqual
public import proofs.«01_k».proof.Proof.FfnOutDwEqual
public import proofs.«01_k».proof.Proof.ProjEqual
public import proofs.«01_k».proof.Proof.FfnInDxEqual
public import proofs.«01_k».proof.Proof.ProjDxEqual
public import proofs.«01_k».proof.Proof.ProjDxFirstEqual
public import proofs.«01_k».proof.Proof.LossHeadEqual
public import proofs.«01_k».proof.Proof.OutDwEqual
public import proofs.«01_k».proof.Proof.BranchDwEqual
public import proofs.«01_k».proof.Proof.BranchDxEqual
public import proofs.«01_k».proof.Proof.FfnOutLastEqual
public import proofs.«01_k».proof.Proof.AdamAdaEqual
public import proofs.«01_k».proof.Proof.AdamSmallEqual
public import proofs.«01_k».proof.Proof.AdamInEqual
public import proofs.«01_k».proof.Proof.AdamFfnInEqual
public import proofs.«01_k».proof.Proof.AdamFfnOutEqual
public import proofs.«01_k».proof.Proof.AdamOutEqual
public import proofs.«01_k».proof.Proof.AdamBranchEqual
public import proofs.«01_k».proof.Proof.AdamConvEqual
public import proofs.«01_k».proof.Proof.AdaDwEqual
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Swiglu.Gen.facts,
  Cert.SwigluIdeal.Gen.facts, Cert.SwigluRefIdeal.Gen.facts, Cert.SwigluBwd.Gen.facts, Cert.SwigluBwdIdeal.Gen.facts,
  Cert.SwigluBwdRefIdeal.Gen.facts, Cert.MergeBwd.Gen.facts, Cert.MergeBwdIdeal.Gen.facts, Cert.MergeBwdRefIdeal.Gen.facts,
  Cert.Merge.Gen.facts, Cert.MergeIdeal.Gen.facts, Cert.MergeRefIdeal.Gen.facts, Cert.FfnOut.Gen.facts, Cert.FfnOutIdeal.Gen.facts,
  Cert.FfnOutRefIdeal.Gen.facts, Cert.Out.Gen.facts, Cert.OutIdeal.Gen.facts, Cert.OutRefIdeal.Gen.facts, Cert.FfnInDw.Gen.facts,
  Cert.FfnInDwIdeal.Gen.facts, Cert.FfnInDwRefIdeal.Gen.facts, Cert.ProjDw.Gen.facts, Cert.ProjDwIdeal.Gen.facts,
  Cert.ProjDwRefIdeal.Gen.facts, Cert.FfnOutDw.Gen.facts, Cert.FfnOutDwIdeal.Gen.facts, Cert.FfnOutDwRefIdeal.Gen.facts,
  Cert.Proj.Gen.facts, Cert.ProjIdeal.Gen.facts, Cert.ProjRefIdeal.Gen.facts, Cert.FfnInDx.Gen.facts, Cert.FfnInDxIdeal.Gen.facts,
  Cert.FfnInDxRefIdeal.Gen.facts, Cert.ProjDx.Gen.facts, Cert.ProjDxIdeal.Gen.facts, Cert.ProjDxRefIdeal.Gen.facts,
  Cert.ProjDxFirst.Gen.facts, Cert.ProjDxFirstIdeal.Gen.facts, Cert.ProjDxFirstRefIdeal.Gen.facts, Cert.LossHead.Gen.facts,
  Cert.LossHeadIdeal.Gen.facts, Cert.LossHeadRefIdeal.Gen.facts, Cert.OutDw.Gen.facts, Cert.OutDwIdeal.Gen.facts,
  Cert.OutDwRefIdeal.Gen.facts, Cert.BranchDw.Gen.facts, Cert.BranchDwIdeal.Gen.facts, Cert.BranchDwRefIdeal.Gen.facts,
  Cert.BranchDx.Gen.facts, Cert.BranchDxIdeal.Gen.facts, Cert.BranchDxRefIdeal.Gen.facts, Cert.FfnOutLast.Gen.facts,
  Cert.FfnOutLastIdeal.Gen.facts, Cert.FfnOutLastRefIdeal.Gen.facts, Cert.AdamAda.Gen.facts, Cert.AdamAdaIdeal.Gen.facts,
  Cert.AdamAdaRefIdeal.Gen.facts, Cert.AdamSmall.Gen.facts, Cert.AdamSmallIdeal.Gen.facts, Cert.AdamSmallRefIdeal.Gen.facts,
  Cert.AdamIn.Gen.facts, Cert.AdamInIdeal.Gen.facts, Cert.AdamInRefIdeal.Gen.facts, Cert.AdamFfnIn.Gen.facts,
  Cert.AdamFfnInIdeal.Gen.facts, Cert.AdamFfnInRefIdeal.Gen.facts, Cert.AdamFfnOut.Gen.facts, Cert.AdamFfnOutIdeal.Gen.facts,
  Cert.AdamFfnOutRefIdeal.Gen.facts, Cert.AdamOut.Gen.facts, Cert.AdamOutIdeal.Gen.facts, Cert.AdamOutRefIdeal.Gen.facts,
  Cert.AdamBranch.Gen.facts, Cert.AdamBranchIdeal.Gen.facts, Cert.AdamBranchRefIdeal.Gen.facts, Cert.AdamConv.Gen.facts,
  Cert.AdamConvIdeal.Gen.facts, Cert.AdamConvRefIdeal.Gen.facts, Cert.AdaDw.Gen.facts, Cert.AdaDwIdeal.Gen.facts,
  Cert.AdaDwRefIdeal.Gen.facts, Cert.Pre_finite.Gen.facts, Cert.PreFacts.swiglu, Cert.PreFacts.dx, Cert.PreFacts.proj_dx,
  Cert.PreFacts.proj_dx_first, Cert.PreFacts.loss, frame_kernel, frame_ideal, frame_ideal_finite, frame_reference,
  frame_reference_finite, frame_swiglu, frame_swiglu_ideal, frame_swiglu_reference, frame_swiglu_bwd, frame_swiglu_bwd_ideal,
  frame_swiglu_bwd_ideal_finite, frame_swiglu_bwd_reference, frame_swiglu_bwd_reference_finite, frame_merge_bwd,
  frame_merge_bwd_ideal, frame_merge_bwd_reference, frame_merge, frame_merge_ideal, frame_merge_reference, frame_ffn_out,
  frame_ffn_out_ideal, frame_ffn_out_reference, frame_out, frame_out_ideal, frame_out_reference, frame_ffn_in_dw,
  frame_ffn_in_dw_ideal, frame_ffn_in_dw_reference, frame_proj_dw, frame_proj_dw_ideal, frame_proj_dw_reference, frame_ffn_out_dw,
  frame_ffn_out_dw_ideal, frame_ffn_out_dw_reference, frame_proj, frame_proj_ideal, frame_proj_reference, frame_ffn_in_dx,
  frame_ffn_in_dx_ideal, frame_ffn_in_dx_ideal_finite, frame_ffn_in_dx_reference, frame_ffn_in_dx_reference_finite, frame_proj_dx,
  frame_proj_dx_ideal, frame_proj_dx_ideal_finite, frame_proj_dx_reference, frame_proj_dx_reference_finite, frame_proj_dx_first,
  frame_proj_dx_first_ideal, frame_proj_dx_first_ideal_finite, frame_proj_dx_first_reference, frame_proj_dx_first_reference_finite,
  frame_loss_head, frame_loss_head_ideal, frame_loss_head_ideal_finite, frame_loss_head_reference, frame_loss_head_reference_finite,
  frame_out_dw, frame_out_dw_ideal, frame_out_dw_reference, frame_branch_dw, frame_branch_dw_ideal, frame_branch_dw_reference,
  frame_branch_dx, frame_branch_dx_ideal, frame_branch_dx_reference, frame_ffn_out_last, frame_ffn_out_last_ideal,
  frame_ffn_out_last_reference, frame_adam_ada, frame_adam_ada_ideal, frame_adam_ada_reference, frame_adam_small,
  frame_adam_small_ideal, frame_adam_small_reference, frame_adam_in, frame_adam_in_ideal, frame_adam_in_reference, frame_adam_ffn_in,
  frame_adam_ffn_in_ideal, frame_adam_ffn_in_reference, frame_adam_ffn_out, frame_adam_ffn_out_ideal, frame_adam_ffn_out_reference,
  frame_adam_out, frame_adam_out_ideal, frame_adam_out_reference, frame_adam_branch, frame_adam_branch_ideal,
  frame_adam_branch_reference, frame_adam_conv, frame_adam_conv_ideal, frame_adam_conv_reference, frame_ada_dw, frame_ada_dw_ideal,
  frame_ada_dw_reference, trivial, scan_equal, trivial, swiglu_equal, trivial, swiglu_bwd_equal, trivial, merge_bwd_equal, trivial,
  merge_equal, trivial, ffn_out_equal, trivial, out_equal, trivial, ffn_in_dw_equal, trivial, proj_dw_equal, trivial,
  ffn_out_dw_equal, trivial, proj_equal, trivial, ffn_in_dx_equal, trivial, proj_dx_equal, trivial, proj_dx_first_equal, trivial,
  loss_head_equal, trivial, out_dw_equal, trivial, branch_dw_equal, trivial, branch_dx_equal, trivial, ffn_out_last_equal, trivial,
  adam_ada_equal, trivial, adam_small_equal, trivial, adam_in_equal, trivial, adam_ffn_in_equal, trivial, adam_ffn_out_equal,
  trivial, adam_out_equal, trivial, adam_branch_equal, trivial, adam_conv_equal, trivial, ada_dw_equal⟩

end Cert.Proof

end
